-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.2 = (fun _ => 1#1)

def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_flash_finite [hPre_flash_finite : Cert.Pre_flash_finite.Facts] (m : (ℓ : Loc Cert.FlashIdeal.nD Cert.FlashIdeal.τ Cert.FlashIdeal.sig) → Buf (Elt Ideal) ℓ) : Prop :=
  ∀ c : Dev Cert.FlashIdeal.nD,
    (Cert.Pre_flash_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).1 = (fun _ => 1#1)
    ∧ (Cert.Pre_flash_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).2.1 = (fun _ => 1#1)
    ∧ (Cert.Pre_flash_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).2.2.1 = (fun _ => 1#1)
    ∧ (Cert.Pre_flash_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).2.2.2 = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_flash_finite [hPre_flash_finite : Cert.Pre_flash_finite.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_flash_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).1 = (fun _ => 1#1)
    ∧ (Cert.Pre_flash_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).2.1 = (fun _ => 1#1)
    ∧ (Cert.Pre_flash_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).2.2.1 = (fun _ => 1#1)
    ∧ (Cert.Pre_flash_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).2.2.2 = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_prep_finite [hPre_prep_finite : Cert.Pre_prep_finite.Facts] (m : (ℓ : Loc Cert.PrepIdeal.nD Cert.PrepIdeal.τ Cert.PrepIdeal.sig) → Buf (Elt Ideal) ℓ) : Prop :=
  ∀ c : Dev Cert.PrepIdeal.nD,
    (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5))).1 = (fun _ => 1#1)
    ∧ (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5))).2.1 = (fun _ => 1#1)
    ∧ (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5))).2.2.1 = (fun _ => 1#1)
    ∧ (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5))).2.2.2.1 = (fun _ => 1#1)
    ∧ (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5))).2.2.2.2 = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_prep_finite [hPre_prep_finite : Cert.Pre_prep_finite.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5))).1 = (fun _ => 1#1)
    ∧ (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5))).2.1 = (fun _ => 1#1)
    ∧ (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5))).2.2.1 = (fun _ => 1#1)
    ∧ (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5))).2.2.2.1 = (fun _ => 1#1)
    ∧ (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5))).2.2.2.2 = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_down_finite [hPre_down_finite : Cert.Pre_down_finite.Facts] (m : (ℓ : Loc Cert.DownIdeal.nD Cert.DownIdeal.τ Cert.DownIdeal.sig) → Buf (Elt Ideal) ℓ) : Prop :=
  ∀ c : Dev Cert.DownIdeal.nD,
    (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).1 = (fun _ => 1#1)
    ∧ (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.1 = (fun _ => 1#1)
    ∧ (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.2.1 = (fun _ => 1#1)
    ∧ (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.2.2 = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_down_finite [hPre_down_finite : Cert.Pre_down_finite.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).1 = (fun _ => 1#1)
    ∧ (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).2.1 = (fun _ => 1#1)
    ∧ (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).2.2.1 = (fun _ => 1#1)
    ∧ (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).2.2.2 = (fun _ => 1#1)

def Pre_Pointwise (m : (ℓ : Loc Cert.Pointwise.nD Cert.Pointwise.τ Cert.Pointwise.sig) → Buf (Elt Bits) ℓ) : Prop :=
  True

def Pre_PointwiseIdeal (m : (ℓ : Loc Cert.PointwiseIdeal.nD Cert.PointwiseIdeal.τ Cert.PointwiseIdeal.sig) → Buf (Elt Ideal) ℓ) : Prop :=
  True

def Pre_PointwiseIdeal_pointwise_finite [hPre_pointwise_finite : Cert.Pre_pointwise_finite.Facts] (m : (ℓ : Loc Cert.PointwiseIdeal.nD Cert.PointwiseIdeal.τ Cert.PointwiseIdeal.sig) → Buf (Elt Ideal) ℓ) : Prop :=
  ∀ c : Dev Cert.PointwiseIdeal.nD,
    (Cert.Pre_pointwise_finite.fn (F := Ideal) (m ((c.tc : Thread Cert.PointwiseIdeal.nD Cert.PointwiseIdeal.τ).loc Cert.PointwiseIdeal.main_arg0)) (m ((c.tc : Thread Cert.PointwiseIdeal.nD Cert.PointwiseIdeal.τ).loc Cert.PointwiseIdeal.main_arg1)) (m ((c.tc : Thread Cert.PointwiseIdeal.nD Cert.PointwiseIdeal.τ).loc Cert.PointwiseIdeal.main_arg2)) (m ((c.tc : Thread Cert.PointwiseIdeal.nD Cert.PointwiseIdeal.τ).loc Cert.PointwiseIdeal.main_arg3)) (m ((c.tc : Thread Cert.PointwiseIdeal.nD Cert.PointwiseIdeal.τ).loc Cert.PointwiseIdeal.main_arg4)) (m ((c.tc : Thread Cert.PointwiseIdeal.nD Cert.PointwiseIdeal.τ).loc Cert.PointwiseIdeal.main_arg5))).1 = (fun _ => 1#1)
    ∧ (Cert.Pre_pointwise_finite.fn (F := Ideal) (m ((c.tc : Thread Cert.PointwiseIdeal.nD Cert.PointwiseIdeal.τ).loc Cert.PointwiseIdeal.main_arg0)) (m ((c.tc : Thread Cert.PointwiseIdeal.nD Cert.PointwiseIdeal.τ).loc Cert.PointwiseIdeal.main_arg1)) (m ((c.tc : Thread Cert.PointwiseIdeal.nD Cert.PointwiseIdeal.τ).loc Cert.PointwiseIdeal.main_arg2)) (m ((c.tc : Thread Cert.PointwiseIdeal.nD Cert.PointwiseIdeal.τ).loc Cert.PointwiseIdeal.main_arg3)) (m ((c.tc : Thread Cert.PointwiseIdeal.nD Cert.PointwiseIdeal.τ).loc Cert.PointwiseIdeal.main_arg4)) (m ((c.tc : Thread Cert.PointwiseIdeal.nD Cert.PointwiseIdeal.τ).loc Cert.PointwiseIdeal.main_arg5))).2.1 = (fun _ => 1#1)
    ∧ (Cert.Pre_pointwise_finite.fn (F := Ideal) (m ((c.tc : Thread Cert.PointwiseIdeal.nD Cert.PointwiseIdeal.τ).loc Cert.PointwiseIdeal.main_arg0)) (m ((c.tc : Thread Cert.PointwiseIdeal.nD Cert.PointwiseIdeal.τ).loc Cert.PointwiseIdeal.main_arg1)) (m ((c.tc : Thread Cert.PointwiseIdeal.nD Cert.PointwiseIdeal.τ).loc Cert.PointwiseIdeal.main_arg2)) (m ((c.tc : Thread Cert.PointwiseIdeal.nD Cert.PointwiseIdeal.τ).loc Cert.PointwiseIdeal.main_arg3)) (m ((c.tc : Thread Cert.PointwiseIdeal.nD Cert.PointwiseIdeal.τ).loc Cert.PointwiseIdeal.main_arg4)) (m ((c.tc : Thread Cert.PointwiseIdeal.nD Cert.PointwiseIdeal.τ).loc Cert.PointwiseIdeal.main_arg5))).2.2.1 = (fun _ => 1#1)
    ∧ (Cert.Pre_pointwise_finite.fn (F := Ideal) (m ((c.tc : Thread Cert.PointwiseIdeal.nD Cert.PointwiseIdeal.τ).loc Cert.PointwiseIdeal.main_arg0)) (m ((c.tc : Thread Cert.PointwiseIdeal.nD Cert.PointwiseIdeal.τ).loc Cert.PointwiseIdeal.main_arg1)) (m ((c.tc : Thread Cert.PointwiseIdeal.nD Cert.PointwiseIdeal.τ).loc Cert.PointwiseIdeal.main_arg2)) (m ((c.tc : Thread Cert.PointwiseIdeal.nD Cert.PointwiseIdeal.τ).loc Cert.PointwiseIdeal.main_arg3)) (m ((c.tc : Thread Cert.PointwiseIdeal.nD Cert.PointwiseIdeal.τ).loc Cert.PointwiseIdeal.main_arg4)) (m ((c.tc : Thread Cert.PointwiseIdeal.nD Cert.PointwiseIdeal.τ).loc Cert.PointwiseIdeal.main_arg5))).2.2.2.1 = (fun _ => 1#1)
    ∧ (Cert.Pre_pointwise_finite.fn (F := Ideal) (m ((c.tc : Thread Cert.PointwiseIdeal.nD Cert.PointwiseIdeal.τ).loc Cert.PointwiseIdeal.main_arg0)) (m ((c.tc : Thread Cert.PointwiseIdeal.nD Cert.PointwiseIdeal.τ).loc Cert.PointwiseIdeal.main_arg1)) (m ((c.tc : Thread Cert.PointwiseIdeal.nD Cert.PointwiseIdeal.τ).loc Cert.PointwiseIdeal.main_arg2)) (m ((c.tc : Thread Cert.PointwiseIdeal.nD Cert.PointwiseIdeal.τ).loc Cert.PointwiseIdeal.main_arg3)) (m ((c.tc : Thread Cert.PointwiseIdeal.nD Cert.PointwiseIdeal.τ).loc Cert.PointwiseIdeal.main_arg4)) (m ((c.tc : Thread Cert.PointwiseIdeal.nD Cert.PointwiseIdeal.τ).loc Cert.PointwiseIdeal.main_arg5))).2.2.2.2 = (fun _ => 1#1)

def Pre_PointwiseRefIdeal (m : (ℓ : Loc Cert.PointwiseRefIdeal.nD Cert.PointwiseRefIdeal.τ Cert.PointwiseRefIdeal.sig) → Buf (Elt Ideal) ℓ) : Prop :=
  True

def Pre_PointwiseRefIdeal_pointwise_finite [hPre_pointwise_finite : Cert.Pre_pointwise_finite.Facts] (m : (ℓ : Loc Cert.PointwiseRefIdeal.nD Cert.PointwiseRefIdeal.τ Cert.PointwiseRefIdeal.sig) → Buf (Elt Ideal) ℓ) : Prop :=
  ∀ c : Dev Cert.PointwiseRefIdeal.nD,
    (Cert.Pre_pointwise_finite.fn (F := Ideal) (m ((c.tc : Thread Cert.PointwiseRefIdeal.nD Cert.PointwiseRefIdeal.τ).loc Cert.PointwiseRefIdeal.main_arg0)) (m ((c.tc : Thread Cert.PointwiseRefIdeal.nD Cert.PointwiseRefIdeal.τ).loc Cert.PointwiseRefIdeal.main_arg1)) (m ((c.tc : Thread Cert.PointwiseRefIdeal.nD Cert.PointwiseRefIdeal.τ).loc Cert.PointwiseRefIdeal.main_arg2)) (m ((c.tc : Thread Cert.PointwiseRefIdeal.nD Cert.PointwiseRefIdeal.τ).loc Cert.PointwiseRefIdeal.main_arg3)) (m ((c.tc : Thread Cert.PointwiseRefIdeal.nD Cert.PointwiseRefIdeal.τ).loc Cert.PointwiseRefIdeal.main_arg4)) (m ((c.tc : Thread Cert.PointwiseRefIdeal.nD Cert.PointwiseRefIdeal.τ).loc Cert.PointwiseRefIdeal.main_arg5))).1 = (fun _ => 1#1)
    ∧ (Cert.Pre_pointwise_finite.fn (F := Ideal) (m ((c.tc : Thread Cert.PointwiseRefIdeal.nD Cert.PointwiseRefIdeal.τ).loc Cert.PointwiseRefIdeal.main_arg0)) (m ((c.tc : Thread Cert.PointwiseRefIdeal.nD Cert.PointwiseRefIdeal.τ).loc Cert.PointwiseRefIdeal.main_arg1)) (m ((c.tc : Thread Cert.PointwiseRefIdeal.nD Cert.PointwiseRefIdeal.τ).loc Cert.PointwiseRefIdeal.main_arg2)) (m ((c.tc : Thread Cert.PointwiseRefIdeal.nD Cert.PointwiseRefIdeal.τ).loc Cert.PointwiseRefIdeal.main_arg3)) (m ((c.tc : Thread Cert.PointwiseRefIdeal.nD Cert.PointwiseRefIdeal.τ).loc Cert.PointwiseRefIdeal.main_arg4)) (m ((c.tc : Thread Cert.PointwiseRefIdeal.nD Cert.PointwiseRefIdeal.τ).loc Cert.PointwiseRefIdeal.main_arg5))).2.1 = (fun _ => 1#1)
    ∧ (Cert.Pre_pointwise_finite.fn (F := Ideal) (m ((c.tc : Thread Cert.PointwiseRefIdeal.nD Cert.PointwiseRefIdeal.τ).loc Cert.PointwiseRefIdeal.main_arg0)) (m ((c.tc : Thread Cert.PointwiseRefIdeal.nD Cert.PointwiseRefIdeal.τ).loc Cert.PointwiseRefIdeal.main_arg1)) (m ((c.tc : Thread Cert.PointwiseRefIdeal.nD Cert.PointwiseRefIdeal.τ).loc Cert.PointwiseRefIdeal.main_arg2)) (m ((c.tc : Thread Cert.PointwiseRefIdeal.nD Cert.PointwiseRefIdeal.τ).loc Cert.PointwiseRefIdeal.main_arg3)) (m ((c.tc : Thread Cert.PointwiseRefIdeal.nD Cert.PointwiseRefIdeal.τ).loc Cert.PointwiseRefIdeal.main_arg4)) (m ((c.tc : Thread Cert.PointwiseRefIdeal.nD Cert.PointwiseRefIdeal.τ).loc Cert.PointwiseRefIdeal.main_arg5))).2.2.1 = (fun _ => 1#1)
    ∧ (Cert.Pre_pointwise_finite.fn (F := Ideal) (m ((c.tc : Thread Cert.PointwiseRefIdeal.nD Cert.PointwiseRefIdeal.τ).loc Cert.PointwiseRefIdeal.main_arg0)) (m ((c.tc : Thread Cert.PointwiseRefIdeal.nD Cert.PointwiseRefIdeal.τ).loc Cert.PointwiseRefIdeal.main_arg1)) (m ((c.tc : Thread Cert.PointwiseRefIdeal.nD Cert.PointwiseRefIdeal.τ).loc Cert.PointwiseRefIdeal.main_arg2)) (m ((c.tc : Thread Cert.PointwiseRefIdeal.nD Cert.PointwiseRefIdeal.τ).loc Cert.PointwiseRefIdeal.main_arg3)) (m ((c.tc : Thread Cert.PointwiseRefIdeal.nD Cert.PointwiseRefIdeal.τ).loc Cert.PointwiseRefIdeal.main_arg4)) (m ((c.tc : Thread Cert.PointwiseRefIdeal.nD Cert.PointwiseRefIdeal.τ).loc Cert.PointwiseRefIdeal.main_arg5))).2.2.2.1 = (fun _ => 1#1)
    ∧ (Cert.Pre_pointwise_finite.fn (F := Ideal) (m ((c.tc : Thread Cert.PointwiseRefIdeal.nD Cert.PointwiseRefIdeal.τ).loc Cert.PointwiseRefIdeal.main_arg0)) (m ((c.tc : Thread Cert.PointwiseRefIdeal.nD Cert.PointwiseRefIdeal.τ).loc Cert.PointwiseRefIdeal.main_arg1)) (m ((c.tc : Thread Cert.PointwiseRefIdeal.nD Cert.PointwiseRefIdeal.τ).loc Cert.PointwiseRefIdeal.main_arg2)) (m ((c.tc : Thread Cert.PointwiseRefIdeal.nD Cert.PointwiseRefIdeal.τ).loc Cert.PointwiseRefIdeal.main_arg3)) (m ((c.tc : Thread Cert.PointwiseRefIdeal.nD Cert.PointwiseRefIdeal.τ).loc Cert.PointwiseRefIdeal.main_arg4)) (m ((c.tc : Thread Cert.PointwiseRefIdeal.nD Cert.PointwiseRefIdeal.τ).loc Cert.PointwiseRefIdeal.main_arg5))).2.2.2.2 = (fun _ => 1#1)

def Pre_ConvNorm (m : (ℓ : Loc Cert.ConvNorm.nD Cert.ConvNorm.τ Cert.ConvNorm.sig) → Buf (Elt Bits) ℓ) : Prop :=
  True

def Pre_ConvNormIdeal (m : (ℓ : Loc Cert.ConvNormIdeal.nD Cert.ConvNormIdeal.τ Cert.ConvNormIdeal.sig) → Buf (Elt Ideal) ℓ) : Prop :=
  True

def Pre_ConvNormIdeal_convnorm_finite [hPre_convnorm_finite : Cert.Pre_convnorm_finite.Facts] (m : (ℓ : Loc Cert.ConvNormIdeal.nD Cert.ConvNormIdeal.τ Cert.ConvNormIdeal.sig) → Buf (Elt Ideal) ℓ) : Prop :=
  ∀ c : Dev Cert.ConvNormIdeal.nD,
    (Cert.Pre_convnorm_finite.fn (F := Ideal) (m ((c.tc : Thread Cert.ConvNormIdeal.nD Cert.ConvNormIdeal.τ).loc Cert.ConvNormIdeal.main_arg0)) (m ((c.tc : Thread Cert.ConvNormIdeal.nD Cert.ConvNormIdeal.τ).loc Cert.ConvNormIdeal.main_arg1)) (m ((c.tc : Thread Cert.ConvNormIdeal.nD Cert.ConvNormIdeal.τ).loc Cert.ConvNormIdeal.main_arg2)) (m ((c.tc : Thread Cert.ConvNormIdeal.nD Cert.ConvNormIdeal.τ).loc Cert.ConvNormIdeal.main_arg3))).1 = (fun _ => 1#1)
    ∧ (Cert.Pre_convnorm_finite.fn (F := Ideal) (m ((c.tc : Thread Cert.ConvNormIdeal.nD Cert.ConvNormIdeal.τ).loc Cert.ConvNormIdeal.main_arg0)) (m ((c.tc : Thread Cert.ConvNormIdeal.nD Cert.ConvNormIdeal.τ).loc Cert.ConvNormIdeal.main_arg1)) (m ((c.tc : Thread Cert.ConvNormIdeal.nD Cert.ConvNormIdeal.τ).loc Cert.ConvNormIdeal.main_arg2)) (m ((c.tc : Thread Cert.ConvNormIdeal.nD Cert.ConvNormIdeal.τ).loc Cert.ConvNormIdeal.main_arg3))).2.1 = (fun _ => 1#1)
    ∧ (Cert.Pre_convnorm_finite.fn (F := Ideal) (m ((c.tc : Thread Cert.ConvNormIdeal.nD Cert.ConvNormIdeal.τ).loc Cert.ConvNormIdeal.main_arg0)) (m ((c.tc : Thread Cert.ConvNormIdeal.nD Cert.ConvNormIdeal.τ).loc Cert.ConvNormIdeal.main_arg1)) (m ((c.tc : Thread Cert.ConvNormIdeal.nD Cert.ConvNormIdeal.τ).loc Cert.ConvNormIdeal.main_arg2)) (m ((c.tc : Thread Cert.ConvNormIdeal.nD Cert.ConvNormIdeal.τ).loc Cert.ConvNormIdeal.main_arg3))).2.2.1 = (fun _ => 1#1)
    ∧ (Cert.Pre_convnorm_finite.fn (F := Ideal) (m ((c.tc : Thread Cert.ConvNormIdeal.nD Cert.ConvNormIdeal.τ).loc Cert.ConvNormIdeal.main_arg0)) (m ((c.tc : Thread Cert.ConvNormIdeal.nD Cert.ConvNormIdeal.τ).loc Cert.ConvNormIdeal.main_arg1)) (m ((c.tc : Thread Cert.ConvNormIdeal.nD Cert.ConvNormIdeal.τ).loc Cert.ConvNormIdeal.main_arg2)) (m ((c.tc : Thread Cert.ConvNormIdeal.nD Cert.ConvNormIdeal.τ).loc Cert.ConvNormIdeal.main_arg3))).2.2.2 = (fun _ => 1#1)

def Pre_ConvNormRefIdeal (m : (ℓ : Loc Cert.ConvNormRefIdeal.nD Cert.ConvNormRefIdeal.τ Cert.ConvNormRefIdeal.sig) → Buf (Elt Ideal) ℓ) : Prop :=
  True

def Pre_ConvNormRefIdeal_convnorm_finite [hPre_convnorm_finite : Cert.Pre_convnorm_finite.Facts] (m : (ℓ : Loc Cert.ConvNormRefIdeal.nD Cert.ConvNormRefIdeal.τ Cert.ConvNormRefIdeal.sig) → Buf (Elt Ideal) ℓ) : Prop :=
  ∀ c : Dev Cert.ConvNormRefIdeal.nD,
    (Cert.Pre_convnorm_finite.fn (F := Ideal) (m ((c.tc : Thread Cert.ConvNormRefIdeal.nD Cert.ConvNormRefIdeal.τ).loc Cert.ConvNormRefIdeal.main_arg0)) (m ((c.tc : Thread Cert.ConvNormRefIdeal.nD Cert.ConvNormRefIdeal.τ).loc Cert.ConvNormRefIdeal.main_arg1)) (m ((c.tc : Thread Cert.ConvNormRefIdeal.nD Cert.ConvNormRefIdeal.τ).loc Cert.ConvNormRefIdeal.main_arg2)) (m ((c.tc : Thread Cert.ConvNormRefIdeal.nD Cert.ConvNormRefIdeal.τ).loc Cert.ConvNormRefIdeal.main_arg3))).1 = (fun _ => 1#1)
    ∧ (Cert.Pre_convnorm_finite.fn (F := Ideal) (m ((c.tc : Thread Cert.ConvNormRefIdeal.nD Cert.ConvNormRefIdeal.τ).loc Cert.ConvNormRefIdeal.main_arg0)) (m ((c.tc : Thread Cert.ConvNormRefIdeal.nD Cert.ConvNormRefIdeal.τ).loc Cert.ConvNormRefIdeal.main_arg1)) (m ((c.tc : Thread Cert.ConvNormRefIdeal.nD Cert.ConvNormRefIdeal.τ).loc Cert.ConvNormRefIdeal.main_arg2)) (m ((c.tc : Thread Cert.ConvNormRefIdeal.nD Cert.ConvNormRefIdeal.τ).loc Cert.ConvNormRefIdeal.main_arg3))).2.1 = (fun _ => 1#1)
    ∧ (Cert.Pre_convnorm_finite.fn (F := Ideal) (m ((c.tc : Thread Cert.ConvNormRefIdeal.nD Cert.ConvNormRefIdeal.τ).loc Cert.ConvNormRefIdeal.main_arg0)) (m ((c.tc : Thread Cert.ConvNormRefIdeal.nD Cert.ConvNormRefIdeal.τ).loc Cert.ConvNormRefIdeal.main_arg1)) (m ((c.tc : Thread Cert.ConvNormRefIdeal.nD Cert.ConvNormRefIdeal.τ).loc Cert.ConvNormRefIdeal.main_arg2)) (m ((c.tc : Thread Cert.ConvNormRefIdeal.nD Cert.ConvNormRefIdeal.τ).loc Cert.ConvNormRefIdeal.main_arg3))).2.2.1 = (fun _ => 1#1)
    ∧ (Cert.Pre_convnorm_finite.fn (F := Ideal) (m ((c.tc : Thread Cert.ConvNormRefIdeal.nD Cert.ConvNormRefIdeal.τ).loc Cert.ConvNormRefIdeal.main_arg0)) (m ((c.tc : Thread Cert.ConvNormRefIdeal.nD Cert.ConvNormRefIdeal.τ).loc Cert.ConvNormRefIdeal.main_arg1)) (m ((c.tc : Thread Cert.ConvNormRefIdeal.nD Cert.ConvNormRefIdeal.τ).loc Cert.ConvNormRefIdeal.main_arg2)) (m ((c.tc : Thread Cert.ConvNormRefIdeal.nD Cert.ConvNormRefIdeal.τ).loc Cert.ConvNormRefIdeal.main_arg3))).2.2.2 = (fun _ => 1#1)

def Pre_ConvDw (m : (ℓ : Loc Cert.ConvDw.nD Cert.ConvDw.τ Cert.ConvDw.sig) → Buf (Elt Bits) ℓ) : Prop :=
  True

def Pre_ConvDwIdeal (m : (ℓ : Loc Cert.ConvDwIdeal.nD Cert.ConvDwIdeal.τ Cert.ConvDwIdeal.sig) → Buf (Elt Ideal) ℓ) : Prop :=
  True

def Pre_ConvDwRefIdeal (m : (ℓ : Loc Cert.ConvDwRefIdeal.nD Cert.ConvDwRefIdeal.τ Cert.ConvDwRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Delta (m : (ℓ : Loc Cert.Delta.nD Cert.Delta.τ Cert.Delta.sig) → Buf (Elt Bits) ℓ) : Prop :=
  True

def Pre_DeltaIdeal (m : (ℓ : Loc Cert.DeltaIdeal.nD Cert.DeltaIdeal.τ Cert.DeltaIdeal.sig) → Buf (Elt Ideal) ℓ) : Prop :=
  True

def Pre_DeltaRefIdeal (m : (ℓ : Loc Cert.DeltaRefIdeal.nD Cert.DeltaRefIdeal.τ Cert.DeltaRefIdeal.sig) → Buf (Elt Ideal) ℓ) : Prop :=
  True

def Pre_FlashFwd (m : (ℓ : Loc Cert.FlashFwd.nD Cert.FlashFwd.τ Cert.FlashFwd.sig) → Buf (Elt Bits) ℓ) : Prop :=
  True

def Pre_FlashFwdIdeal (m : (ℓ : Loc Cert.FlashFwdIdeal.nD Cert.FlashFwdIdeal.τ Cert.FlashFwdIdeal.sig) → Buf (Elt Ideal) ℓ) : Prop :=
  True

def Pre_FlashFwdIdeal_flashfwd_finite [hPre_flashfwd_finite : Cert.Pre_flashfwd_finite.Facts] (m : (ℓ : Loc Cert.FlashFwdIdeal.nD Cert.FlashFwdIdeal.τ Cert.FlashFwdIdeal.sig) → Buf (Elt Ideal) ℓ) : Prop :=
  ∀ c : Dev Cert.FlashFwdIdeal.nD,
    (Cert.Pre_flashfwd_finite.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2))).1 = (fun _ => 1#1)
    ∧ (Cert.Pre_flashfwd_finite.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2))).2.1 = (fun _ => 1#1)
    ∧ (Cert.Pre_flashfwd_finite.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2))).2.2 = (fun _ => 1#1)

def Pre_FlashFwdRefIdeal (m : (ℓ : Loc Cert.FlashFwdRefIdeal.nD Cert.FlashFwdRefIdeal.τ Cert.FlashFwdRefIdeal.sig) → Buf (Elt Ideal) ℓ) : Prop :=
  True

def Pre_FlashFwdRefIdeal_flashfwd_finite [hPre_flashfwd_finite : Cert.Pre_flashfwd_finite.Facts] (m : (ℓ : Loc Cert.FlashFwdRefIdeal.nD Cert.FlashFwdRefIdeal.τ Cert.FlashFwdRefIdeal.sig) → Buf (Elt Ideal) ℓ) : Prop :=
  ∀ c : Dev Cert.FlashFwdRefIdeal.nD,
    (Cert.Pre_flashfwd_finite.fn (F := Ideal) (m ((c.tc : Thread Cert.FlashFwdRefIdeal.nD Cert.FlashFwdRefIdeal.τ).loc Cert.FlashFwdRefIdeal.main_arg0)) (m ((c.tc : Thread Cert.FlashFwdRefIdeal.nD Cert.FlashFwdRefIdeal.τ).loc Cert.FlashFwdRefIdeal.main_arg1)) (m ((c.tc : Thread Cert.FlashFwdRefIdeal.nD Cert.FlashFwdRefIdeal.τ).loc Cert.FlashFwdRefIdeal.main_arg2))).1 = (fun _ => 1#1)
    ∧ (Cert.Pre_flashfwd_finite.fn (F := Ideal) (m ((c.tc : Thread Cert.FlashFwdRefIdeal.nD Cert.FlashFwdRefIdeal.τ).loc Cert.FlashFwdRefIdeal.main_arg0)) (m ((c.tc : Thread Cert.FlashFwdRefIdeal.nD Cert.FlashFwdRefIdeal.τ).loc Cert.FlashFwdRefIdeal.main_arg1)) (m ((c.tc : Thread Cert.FlashFwdRefIdeal.nD Cert.FlashFwdRefIdeal.τ).loc Cert.FlashFwdRefIdeal.main_arg2))).2.1 = (fun _ => 1#1)
    ∧ (Cert.Pre_flashfwd_finite.fn (F := Ideal) (m ((c.tc : Thread Cert.FlashFwdRefIdeal.nD Cert.FlashFwdRefIdeal.τ).loc Cert.FlashFwdRefIdeal.main_arg0)) (m ((c.tc : Thread Cert.FlashFwdRefIdeal.nD Cert.FlashFwdRefIdeal.τ).loc Cert.FlashFwdRefIdeal.main_arg1)) (m ((c.tc : Thread Cert.FlashFwdRefIdeal.nD Cert.FlashFwdRefIdeal.τ).loc Cert.FlashFwdRefIdeal.main_arg2))).2.2 = (fun _ => 1#1)

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_PrepFwd (m : (ℓ : Loc Cert.PrepFwd.nD Cert.PrepFwd.τ Cert.PrepFwd.sig) → Buf (Elt Bits) ℓ) : Prop :=
  True

def Pre_PrepFwdIdeal (m : (ℓ : Loc Cert.PrepFwdIdeal.nD Cert.PrepFwdIdeal.τ Cert.PrepFwdIdeal.sig) → Buf (Elt Ideal) ℓ) : Prop :=
  True

def Pre_PrepFwdRefIdeal (m : (ℓ : Loc Cert.PrepFwdRefIdeal.nD Cert.PrepFwdRefIdeal.τ Cert.PrepFwdRefIdeal.sig) → Buf (Elt Ideal) ℓ) : Prop :=
  True

def Pre_QkvFwd (m : (ℓ : Loc Cert.QkvFwd.nD Cert.QkvFwd.τ Cert.QkvFwd.sig) → Buf (Elt Bits) ℓ) : Prop :=
  True

def Pre_QkvFwdIdeal (m : (ℓ : Loc Cert.QkvFwdIdeal.nD Cert.QkvFwdIdeal.τ Cert.QkvFwdIdeal.sig) → Buf (Elt Ideal) ℓ) : Prop :=
  True

def Pre_QkvFwdRefIdeal (m : (ℓ : Loc Cert.QkvFwdRefIdeal.nD Cert.QkvFwdRefIdeal.τ Cert.QkvFwdRefIdeal.sig) → Buf (Elt Ideal) ℓ) : Prop :=
  True

def Pre_Product (m : (ℓ : Loc Cert.Product.nD Cert.Product.τ Cert.Product.sig) → Buf (Elt Bits) ℓ) : Prop :=
  True

def Pre_ProductIdeal (m : (ℓ : Loc Cert.ProductIdeal.nD Cert.ProductIdeal.τ Cert.ProductIdeal.sig) → Buf (Elt Ideal) ℓ) : Prop :=
  True

def Pre_ProductRefIdeal (m : (ℓ : Loc Cert.ProductRefIdeal.nD Cert.ProductRefIdeal.τ Cert.ProductRefIdeal.sig) → Buf (Elt Ideal) ℓ) : Prop :=
  True

def Pre_WeightGrad (m : (ℓ : Loc Cert.WeightGrad.nD Cert.WeightGrad.τ Cert.WeightGrad.sig) → Buf (Elt Bits) ℓ) : Prop :=
  True

def Pre_WeightGradIdeal (m : (ℓ : Loc Cert.WeightGradIdeal.nD Cert.WeightGradIdeal.τ Cert.WeightGradIdeal.sig) → Buf (Elt Ideal) ℓ) : Prop :=
  True

def Pre_WeightGradRefIdeal (m : (ℓ : Loc Cert.WeightGradRefIdeal.nD Cert.WeightGradRefIdeal.τ Cert.WeightGradRefIdeal.sig) → Buf (Elt Ideal) ℓ) : Prop :=
  True

def Pre_SumDevices (m : (ℓ : Loc Cert.SumDevices.nD Cert.SumDevices.τ Cert.SumDevices.sig) → Buf (Elt Bits) ℓ) : Prop :=
  True

def Pre_SumDevicesIdeal (m : (ℓ : Loc Cert.SumDevicesIdeal.nD Cert.SumDevicesIdeal.τ Cert.SumDevicesIdeal.sig) → Buf (Elt Ideal) ℓ) : Prop :=
  True

def Pre_SumDevicesRefIdeal (m : (ℓ : Loc Cert.SumDevicesRefIdeal.nD Cert.SumDevicesRefIdeal.τ Cert.SumDevicesRefIdeal.sig) → Buf (Elt Ideal) ℓ) : Prop :=
  True

def Pre_SumSlots (m : (ℓ : Loc Cert.SumSlots.nD Cert.SumSlots.τ Cert.SumSlots.sig) → Buf (Elt Bits) ℓ) : Prop :=
  True

def Pre_SumSlotsIdeal (m : (ℓ : Loc Cert.SumSlotsIdeal.nD Cert.SumSlotsIdeal.τ Cert.SumSlotsIdeal.sig) → Buf (Elt Ideal) ℓ) : Prop :=
  True

def Pre_SumSlotsRefIdeal (m : (ℓ : Loc Cert.SumSlotsRefIdeal.nD Cert.SumSlotsRefIdeal.τ Cert.SumSlotsRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2)
      ∧ r.2.mem ((c.tc : Thread Cert.Flash.nD Cert.Flash.τ).loc Cert.Flash.main_arg3) = m ((c.tc : Thread Cert.Flash.nD Cert.Flash.τ).loc Cert.Flash.main_arg3))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashIdeal_pre_flash_finite [hFlashIdeal : Cert.FlashIdeal.Facts] [hPre_flash_finite : Cert.Pre_flash_finite.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_flash_finite m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_FlashRefIdeal_pre_flash_finite [hFlashRefIdeal : Cert.FlashRefIdeal.Facts] [hPre_flash_finite : Cert.Pre_flash_finite.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_flash_finite m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ r.2.sem = fun _ => 0)

def quiescent_PrepIdeal_pre_prep_finite [hPrepIdeal : Cert.PrepIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_prep_finite m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5))
      ∧ r.2.sem = fun _ => 0)

def quiescent_PrepRefIdeal_pre_prep_finite [hPrepRefIdeal : Cert.PrepRefIdeal.Facts] [hPre_prep_finite : Cert.Pre_prep_finite.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_prep_finite m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownIdeal_pre_down_finite [hDownIdeal : Cert.DownIdeal.Facts] [hPre_down_finite : Cert.Pre_down_finite.Facts] : Prop :=
  ∀ (m : (ℓ : Loc Cert.DownIdeal.nD Cert.DownIdeal.τ Cert.DownIdeal.sig) → Buf (Elt Ideal) ℓ) (g : Dev Cert.DownIdeal.nD → PrngReg), Pre_DownIdeal_down_finite m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_DownRefIdeal_pre_down_finite [hDownRefIdeal : Cert.DownRefIdeal.Facts] [hPre_down_finite : Cert.Pre_down_finite.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_down_finite m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Pointwise [hPointwise : Cert.Pointwise.Facts] : Prop :=
  ∀ (m : (ℓ : Loc Cert.Pointwise.nD Cert.Pointwise.τ Cert.Pointwise.sig) → Buf (Elt Bits) ℓ) (g : Dev Cert.Pointwise.nD → PrngReg), Pre_Pointwise m →
    θ_run (Cert.Pointwise.defs (F := Bits)) (onTc (τ := Cert.Pointwise.τ) (Cert.Pointwise.main (F := Bits))) ⟨m, fun _ => 0, g⟩ (fun r => (∀ c : Dev Cert.Pointwise.nD,
      r.2.mem ((c.tc : Thread Cert.Pointwise.nD Cert.Pointwise.τ).loc Cert.Pointwise.main_arg0) = m ((c.tc : Thread Cert.Pointwise.nD Cert.Pointwise.τ).loc Cert.Pointwise.main_arg0)
      ∧ r.2.mem ((c.tc : Thread Cert.Pointwise.nD Cert.Pointwise.τ).loc Cert.Pointwise.main_arg1) = m ((c.tc : Thread Cert.Pointwise.nD Cert.Pointwise.τ).loc Cert.Pointwise.main_arg1)
      ∧ r.2.mem ((c.tc : Thread Cert.Pointwise.nD Cert.Pointwise.τ).loc Cert.Pointwise.main_arg2) = m ((c.tc : Thread Cert.Pointwise.nD Cert.Pointwise.τ).loc Cert.Pointwise.main_arg2)
      ∧ r.2.mem ((c.tc : Thread Cert.Pointwise.nD Cert.Pointwise.τ).loc Cert.Pointwise.main_arg3) = m ((c.tc : Thread Cert.Pointwise.nD Cert.Pointwise.τ).loc Cert.Pointwise.main_arg3)
      ∧ r.2.mem ((c.tc : Thread Cert.Pointwise.nD Cert.Pointwise.τ).loc Cert.Pointwise.main_arg4) = m ((c.tc : Thread Cert.Pointwise.nD Cert.Pointwise.τ).loc Cert.Pointwise.main_arg4)
      ∧ r.2.mem ((c.tc : Thread Cert.Pointwise.nD Cert.Pointwise.τ).loc Cert.Pointwise.main_arg5) = m ((c.tc : Thread Cert.Pointwise.nD Cert.Pointwise.τ).loc Cert.Pointwise.main_arg5))
      ∧ r.2.sem = fun _ => 0)

def quiescent_PointwiseIdeal [hPointwiseIdeal : Cert.PointwiseIdeal.Facts] : Prop :=
  ∀ (m : (ℓ : Loc Cert.PointwiseIdeal.nD Cert.PointwiseIdeal.τ Cert.PointwiseIdeal.sig) → Buf (Elt Ideal) ℓ) (g : Dev Cert.PointwiseIdeal.nD → PrngReg), Pre_PointwiseIdeal m →
    θ_run (Cert.PointwiseIdeal.defs (F := Ideal)) (onTc (τ := Cert.PointwiseIdeal.τ) (Cert.PointwiseIdeal.main (F := Ideal))) ⟨m, fun _ => 0, g⟩ (fun r => (∀ c : Dev Cert.PointwiseIdeal.nD,
      r.2.mem ((c.tc : Thread Cert.PointwiseIdeal.nD Cert.PointwiseIdeal.τ).loc Cert.PointwiseIdeal.main_arg0) = m ((c.tc : Thread Cert.PointwiseIdeal.nD Cert.PointwiseIdeal.τ).loc Cert.PointwiseIdeal.main_arg0)
      ∧ r.2.mem ((c.tc : Thread Cert.PointwiseIdeal.nD Cert.PointwiseIdeal.τ).loc Cert.PointwiseIdeal.main_arg1) = m ((c.tc : Thread Cert.PointwiseIdeal.nD Cert.PointwiseIdeal.τ).loc Cert.PointwiseIdeal.main_arg1)
      ∧ r.2.mem ((c.tc : Thread Cert.PointwiseIdeal.nD Cert.PointwiseIdeal.τ).loc Cert.PointwiseIdeal.main_arg2) = m ((c.tc : Thread Cert.PointwiseIdeal.nD Cert.PointwiseIdeal.τ).loc Cert.PointwiseIdeal.main_arg2)
      ∧ r.2.mem ((c.tc : Thread Cert.PointwiseIdeal.nD Cert.PointwiseIdeal.τ).loc Cert.PointwiseIdeal.main_arg3) = m ((c.tc : Thread Cert.PointwiseIdeal.nD Cert.PointwiseIdeal.τ).loc Cert.PointwiseIdeal.main_arg3)
      ∧ r.2.mem ((c.tc : Thread Cert.PointwiseIdeal.nD Cert.PointwiseIdeal.τ).loc Cert.PointwiseIdeal.main_arg4) = m ((c.tc : Thread Cert.PointwiseIdeal.nD Cert.PointwiseIdeal.τ).loc Cert.PointwiseIdeal.main_arg4)
      ∧ r.2.mem ((c.tc : Thread Cert.PointwiseIdeal.nD Cert.PointwiseIdeal.τ).loc Cert.PointwiseIdeal.main_arg5) = m ((c.tc : Thread Cert.PointwiseIdeal.nD Cert.PointwiseIdeal.τ).loc Cert.PointwiseIdeal.main_arg5))
      ∧ r.2.sem = fun _ => 0)

def quiescent_PointwiseIdeal_pre_pointwise_finite [hPointwiseIdeal : Cert.PointwiseIdeal.Facts] [hPre_pointwise_finite : Cert.Pre_pointwise_finite.Facts] : Prop :=
  ∀ (m : (ℓ : Loc Cert.PointwiseIdeal.nD Cert.PointwiseIdeal.τ Cert.PointwiseIdeal.sig) → Buf (Elt Ideal) ℓ) (g : Dev Cert.PointwiseIdeal.nD → PrngReg), Pre_PointwiseIdeal_pointwise_finite m →
    θ_run (Cert.PointwiseIdeal.defs (F := Ideal)) (onTc (τ := Cert.PointwiseIdeal.τ) (Cert.PointwiseIdeal.main (F := Ideal))) ⟨m, fun _ => 0, g⟩ (fun r => (∀ c : Dev Cert.PointwiseIdeal.nD,
      r.2.mem ((c.tc : Thread Cert.PointwiseIdeal.nD Cert.PointwiseIdeal.τ).loc Cert.PointwiseIdeal.main_arg0) = m ((c.tc : Thread Cert.PointwiseIdeal.nD Cert.PointwiseIdeal.τ).loc Cert.PointwiseIdeal.main_arg0)
      ∧ r.2.mem ((c.tc : Thread Cert.PointwiseIdeal.nD Cert.PointwiseIdeal.τ).loc Cert.PointwiseIdeal.main_arg1) = m ((c.tc : Thread Cert.PointwiseIdeal.nD Cert.PointwiseIdeal.τ).loc Cert.PointwiseIdeal.main_arg1)
      ∧ r.2.mem ((c.tc : Thread Cert.PointwiseIdeal.nD Cert.PointwiseIdeal.τ).loc Cert.PointwiseIdeal.main_arg2) = m ((c.tc : Thread Cert.PointwiseIdeal.nD Cert.PointwiseIdeal.τ).loc Cert.PointwiseIdeal.main_arg2)
      ∧ r.2.mem ((c.tc : Thread Cert.PointwiseIdeal.nD Cert.PointwiseIdeal.τ).loc Cert.PointwiseIdeal.main_arg3) = m ((c.tc : Thread Cert.PointwiseIdeal.nD Cert.PointwiseIdeal.τ).loc Cert.PointwiseIdeal.main_arg3)
      ∧ r.2.mem ((c.tc : Thread Cert.PointwiseIdeal.nD Cert.PointwiseIdeal.τ).loc Cert.PointwiseIdeal.main_arg4) = m ((c.tc : Thread Cert.PointwiseIdeal.nD Cert.PointwiseIdeal.τ).loc Cert.PointwiseIdeal.main_arg4)
      ∧ r.2.mem ((c.tc : Thread Cert.PointwiseIdeal.nD Cert.PointwiseIdeal.τ).loc Cert.PointwiseIdeal.main_arg5) = m ((c.tc : Thread Cert.PointwiseIdeal.nD Cert.PointwiseIdeal.τ).loc Cert.PointwiseIdeal.main_arg5))
      ∧ r.2.sem = fun _ => 0)

def quiescent_PointwiseRefIdeal [hPointwiseRefIdeal : Cert.PointwiseRefIdeal.Facts] : Prop :=
  ∀ (m : (ℓ : Loc Cert.PointwiseRefIdeal.nD Cert.PointwiseRefIdeal.τ Cert.PointwiseRefIdeal.sig) → Buf (Elt Ideal) ℓ) (g : Dev Cert.PointwiseRefIdeal.nD → PrngReg), Pre_PointwiseRefIdeal m →
    θ_run (Cert.PointwiseRefIdeal.defs (F := Ideal)) (onTc (τ := Cert.PointwiseRefIdeal.τ) (Cert.PointwiseRefIdeal.main (F := Ideal))) ⟨m, fun _ => 0, g⟩ (fun r => (∀ c : Dev Cert.PointwiseRefIdeal.nD,
      r.2.mem ((c.tc : Thread Cert.PointwiseRefIdeal.nD Cert.PointwiseRefIdeal.τ).loc Cert.PointwiseRefIdeal.main_arg0) = m ((c.tc : Thread Cert.PointwiseRefIdeal.nD Cert.PointwiseRefIdeal.τ).loc Cert.PointwiseRefIdeal.main_arg0)
      ∧ r.2.mem ((c.tc : Thread Cert.PointwiseRefIdeal.nD Cert.PointwiseRefIdeal.τ).loc Cert.PointwiseRefIdeal.main_arg1) = m ((c.tc : Thread Cert.PointwiseRefIdeal.nD Cert.PointwiseRefIdeal.τ).loc Cert.PointwiseRefIdeal.main_arg1)
      ∧ r.2.mem ((c.tc : Thread Cert.PointwiseRefIdeal.nD Cert.PointwiseRefIdeal.τ).loc Cert.PointwiseRefIdeal.main_arg2) = m ((c.tc : Thread Cert.PointwiseRefIdeal.nD Cert.PointwiseRefIdeal.τ).loc Cert.PointwiseRefIdeal.main_arg2)
      ∧ r.2.mem ((c.tc : Thread Cert.PointwiseRefIdeal.nD Cert.PointwiseRefIdeal.τ).loc Cert.PointwiseRefIdeal.main_arg3) = m ((c.tc : Thread Cert.PointwiseRefIdeal.nD Cert.PointwiseRefIdeal.τ).loc Cert.PointwiseRefIdeal.main_arg3)
      ∧ r.2.mem ((c.tc : Thread Cert.PointwiseRefIdeal.nD Cert.PointwiseRefIdeal.τ).loc Cert.PointwiseRefIdeal.main_arg4) = m ((c.tc : Thread Cert.PointwiseRefIdeal.nD Cert.PointwiseRefIdeal.τ).loc Cert.PointwiseRefIdeal.main_arg4)
      ∧ r.2.mem ((c.tc : Thread Cert.PointwiseRefIdeal.nD Cert.PointwiseRefIdeal.τ).loc Cert.PointwiseRefIdeal.main_arg5) = m ((c.tc : Thread Cert.PointwiseRefIdeal.nD Cert.PointwiseRefIdeal.τ).loc Cert.PointwiseRefIdeal.main_arg5))
      ∧ r.2.sem = fun _ => 0)

def quiescent_PointwiseRefIdeal_pre_pointwise_finite [hPointwiseRefIdeal : Cert.PointwiseRefIdeal.Facts] [hPre_pointwise_finite : Cert.Pre_pointwise_finite.Facts] : Prop :=
  ∀ (m : (ℓ : Loc Cert.PointwiseRefIdeal.nD Cert.PointwiseRefIdeal.τ Cert.PointwiseRefIdeal.sig) → Buf (Elt Ideal) ℓ) (g : Dev Cert.PointwiseRefIdeal.nD → PrngReg), Pre_PointwiseRefIdeal_pointwise_finite m →
    θ_run (Cert.PointwiseRefIdeal.defs (F := Ideal)) (onTc (τ := Cert.PointwiseRefIdeal.τ) (Cert.PointwiseRefIdeal.main (F := Ideal))) ⟨m, fun _ => 0, g⟩ (fun r => (∀ c : Dev Cert.PointwiseRefIdeal.nD,
      r.2.mem ((c.tc : Thread Cert.PointwiseRefIdeal.nD Cert.PointwiseRefIdeal.τ).loc Cert.PointwiseRefIdeal.main_arg0) = m ((c.tc : Thread Cert.PointwiseRefIdeal.nD Cert.PointwiseRefIdeal.τ).loc Cert.PointwiseRefIdeal.main_arg0)
      ∧ r.2.mem ((c.tc : Thread Cert.PointwiseRefIdeal.nD Cert.PointwiseRefIdeal.τ).loc Cert.PointwiseRefIdeal.main_arg1) = m ((c.tc : Thread Cert.PointwiseRefIdeal.nD Cert.PointwiseRefIdeal.τ).loc Cert.PointwiseRefIdeal.main_arg1)
      ∧ r.2.mem ((c.tc : Thread Cert.PointwiseRefIdeal.nD Cert.PointwiseRefIdeal.τ).loc Cert.PointwiseRefIdeal.main_arg2) = m ((c.tc : Thread Cert.PointwiseRefIdeal.nD Cert.PointwiseRefIdeal.τ).loc Cert.PointwiseRefIdeal.main_arg2)
      ∧ r.2.mem ((c.tc : Thread Cert.PointwiseRefIdeal.nD Cert.PointwiseRefIdeal.τ).loc Cert.PointwiseRefIdeal.main_arg3) = m ((c.tc : Thread Cert.PointwiseRefIdeal.nD Cert.PointwiseRefIdeal.τ).loc Cert.PointwiseRefIdeal.main_arg3)
      ∧ r.2.mem ((c.tc : Thread Cert.PointwiseRefIdeal.nD Cert.PointwiseRefIdeal.τ).loc Cert.PointwiseRefIdeal.main_arg4) = m ((c.tc : Thread Cert.PointwiseRefIdeal.nD Cert.PointwiseRefIdeal.τ).loc Cert.PointwiseRefIdeal.main_arg4)
      ∧ r.2.mem ((c.tc : Thread Cert.PointwiseRefIdeal.nD Cert.PointwiseRefIdeal.τ).loc Cert.PointwiseRefIdeal.main_arg5) = m ((c.tc : Thread Cert.PointwiseRefIdeal.nD Cert.PointwiseRefIdeal.τ).loc Cert.PointwiseRefIdeal.main_arg5))
      ∧ r.2.sem = fun _ => 0)

def quiescent_ConvNorm [hConvNorm : Cert.ConvNorm.Facts] : Prop :=
  ∀ (m : (ℓ : Loc Cert.ConvNorm.nD Cert.ConvNorm.τ Cert.ConvNorm.sig) → Buf (Elt Bits) ℓ) (g : Dev Cert.ConvNorm.nD → PrngReg), Pre_ConvNorm m →
    θ_run (Cert.ConvNorm.defs (F := Bits)) (onTc (τ := Cert.ConvNorm.τ) (Cert.ConvNorm.main (F := Bits))) ⟨m, fun _ => 0, g⟩ (fun r => (∀ c : Dev Cert.ConvNorm.nD,
      r.2.mem ((c.tc : Thread Cert.ConvNorm.nD Cert.ConvNorm.τ).loc Cert.ConvNorm.main_arg0) = m ((c.tc : Thread Cert.ConvNorm.nD Cert.ConvNorm.τ).loc Cert.ConvNorm.main_arg0)
      ∧ r.2.mem ((c.tc : Thread Cert.ConvNorm.nD Cert.ConvNorm.τ).loc Cert.ConvNorm.main_arg1) = m ((c.tc : Thread Cert.ConvNorm.nD Cert.ConvNorm.τ).loc Cert.ConvNorm.main_arg1)
      ∧ r.2.mem ((c.tc : Thread Cert.ConvNorm.nD Cert.ConvNorm.τ).loc Cert.ConvNorm.main_arg2) = m ((c.tc : Thread Cert.ConvNorm.nD Cert.ConvNorm.τ).loc Cert.ConvNorm.main_arg2)
      ∧ r.2.mem ((c.tc : Thread Cert.ConvNorm.nD Cert.ConvNorm.τ).loc Cert.ConvNorm.main_arg3) = m ((c.tc : Thread Cert.ConvNorm.nD Cert.ConvNorm.τ).loc Cert.ConvNorm.main_arg3))
      ∧ r.2.sem = fun _ => 0)

def quiescent_ConvNormIdeal [hConvNormIdeal : Cert.ConvNormIdeal.Facts] : Prop :=
  ∀ (m : (ℓ : Loc Cert.ConvNormIdeal.nD Cert.ConvNormIdeal.τ Cert.ConvNormIdeal.sig) → Buf (Elt Ideal) ℓ) (g : Dev Cert.ConvNormIdeal.nD → PrngReg), Pre_ConvNormIdeal m →
    θ_run (Cert.ConvNormIdeal.defs (F := Ideal)) (onTc (τ := Cert.ConvNormIdeal.τ) (Cert.ConvNormIdeal.main (F := Ideal))) ⟨m, fun _ => 0, g⟩ (fun r => (∀ c : Dev Cert.ConvNormIdeal.nD,
      r.2.mem ((c.tc : Thread Cert.ConvNormIdeal.nD Cert.ConvNormIdeal.τ).loc Cert.ConvNormIdeal.main_arg0) = m ((c.tc : Thread Cert.ConvNormIdeal.nD Cert.ConvNormIdeal.τ).loc Cert.ConvNormIdeal.main_arg0)
      ∧ r.2.mem ((c.tc : Thread Cert.ConvNormIdeal.nD Cert.ConvNormIdeal.τ).loc Cert.ConvNormIdeal.main_arg1) = m ((c.tc : Thread Cert.ConvNormIdeal.nD Cert.ConvNormIdeal.τ).loc Cert.ConvNormIdeal.main_arg1)
      ∧ r.2.mem ((c.tc : Thread Cert.ConvNormIdeal.nD Cert.ConvNormIdeal.τ).loc Cert.ConvNormIdeal.main_arg2) = m ((c.tc : Thread Cert.ConvNormIdeal.nD Cert.ConvNormIdeal.τ).loc Cert.ConvNormIdeal.main_arg2)
      ∧ r.2.mem ((c.tc : Thread Cert.ConvNormIdeal.nD Cert.ConvNormIdeal.τ).loc Cert.ConvNormIdeal.main_arg3) = m ((c.tc : Thread Cert.ConvNormIdeal.nD Cert.ConvNormIdeal.τ).loc Cert.ConvNormIdeal.main_arg3))
      ∧ r.2.sem = fun _ => 0)

def quiescent_ConvNormIdeal_pre_convnorm_finite [hConvNormIdeal : Cert.ConvNormIdeal.Facts] [hPre_convnorm_finite : Cert.Pre_convnorm_finite.Facts] : Prop :=
  ∀ (m : (ℓ : Loc Cert.ConvNormIdeal.nD Cert.ConvNormIdeal.τ Cert.ConvNormIdeal.sig) → Buf (Elt Ideal) ℓ) (g : Dev Cert.ConvNormIdeal.nD → PrngReg), Pre_ConvNormIdeal_convnorm_finite m →
    θ_run (Cert.ConvNormIdeal.defs (F := Ideal)) (onTc (τ := Cert.ConvNormIdeal.τ) (Cert.ConvNormIdeal.main (F := Ideal))) ⟨m, fun _ => 0, g⟩ (fun r => (∀ c : Dev Cert.ConvNormIdeal.nD,
      r.2.mem ((c.tc : Thread Cert.ConvNormIdeal.nD Cert.ConvNormIdeal.τ).loc Cert.ConvNormIdeal.main_arg0) = m ((c.tc : Thread Cert.ConvNormIdeal.nD Cert.ConvNormIdeal.τ).loc Cert.ConvNormIdeal.main_arg0)
      ∧ r.2.mem ((c.tc : Thread Cert.ConvNormIdeal.nD Cert.ConvNormIdeal.τ).loc Cert.ConvNormIdeal.main_arg1) = m ((c.tc : Thread Cert.ConvNormIdeal.nD Cert.ConvNormIdeal.τ).loc Cert.ConvNormIdeal.main_arg1)
      ∧ r.2.mem ((c.tc : Thread Cert.ConvNormIdeal.nD Cert.ConvNormIdeal.τ).loc Cert.ConvNormIdeal.main_arg2) = m ((c.tc : Thread Cert.ConvNormIdeal.nD Cert.ConvNormIdeal.τ).loc Cert.ConvNormIdeal.main_arg2)
      ∧ r.2.mem ((c.tc : Thread Cert.ConvNormIdeal.nD Cert.ConvNormIdeal.τ).loc Cert.ConvNormIdeal.main_arg3) = m ((c.tc : Thread Cert.ConvNormIdeal.nD Cert.ConvNormIdeal.τ).loc Cert.ConvNormIdeal.main_arg3))
      ∧ r.2.sem = fun _ => 0)

def quiescent_ConvNormRefIdeal [hConvNormRefIdeal : Cert.ConvNormRefIdeal.Facts] : Prop :=
  ∀ (m : (ℓ : Loc Cert.ConvNormRefIdeal.nD Cert.ConvNormRefIdeal.τ Cert.ConvNormRefIdeal.sig) → Buf (Elt Ideal) ℓ) (g : Dev Cert.ConvNormRefIdeal.nD → PrngReg), Pre_ConvNormRefIdeal m →
    θ_run (Cert.ConvNormRefIdeal.defs (F := Ideal)) (onTc (τ := Cert.ConvNormRefIdeal.τ) (Cert.ConvNormRefIdeal.main (F := Ideal))) ⟨m, fun _ => 0, g⟩ (fun r => (∀ c : Dev Cert.ConvNormRefIdeal.nD,
      r.2.mem ((c.tc : Thread Cert.ConvNormRefIdeal.nD Cert.ConvNormRefIdeal.τ).loc Cert.ConvNormRefIdeal.main_arg0) = m ((c.tc : Thread Cert.ConvNormRefIdeal.nD Cert.ConvNormRefIdeal.τ).loc Cert.ConvNormRefIdeal.main_arg0)
      ∧ r.2.mem ((c.tc : Thread Cert.ConvNormRefIdeal.nD Cert.ConvNormRefIdeal.τ).loc Cert.ConvNormRefIdeal.main_arg1) = m ((c.tc : Thread Cert.ConvNormRefIdeal.nD Cert.ConvNormRefIdeal.τ).loc Cert.ConvNormRefIdeal.main_arg1)
      ∧ r.2.mem ((c.tc : Thread Cert.ConvNormRefIdeal.nD Cert.ConvNormRefIdeal.τ).loc Cert.ConvNormRefIdeal.main_arg2) = m ((c.tc : Thread Cert.ConvNormRefIdeal.nD Cert.ConvNormRefIdeal.τ).loc Cert.ConvNormRefIdeal.main_arg2)
      ∧ r.2.mem ((c.tc : Thread Cert.ConvNormRefIdeal.nD Cert.ConvNormRefIdeal.τ).loc Cert.ConvNormRefIdeal.main_arg3) = m ((c.tc : Thread Cert.ConvNormRefIdeal.nD Cert.ConvNormRefIdeal.τ).loc Cert.ConvNormRefIdeal.main_arg3))
      ∧ r.2.sem = fun _ => 0)

def quiescent_ConvNormRefIdeal_pre_convnorm_finite [hConvNormRefIdeal : Cert.ConvNormRefIdeal.Facts] [hPre_convnorm_finite : Cert.Pre_convnorm_finite.Facts] : Prop :=
  ∀ (m : (ℓ : Loc Cert.ConvNormRefIdeal.nD Cert.ConvNormRefIdeal.τ Cert.ConvNormRefIdeal.sig) → Buf (Elt Ideal) ℓ) (g : Dev Cert.ConvNormRefIdeal.nD → PrngReg), Pre_ConvNormRefIdeal_convnorm_finite m →
    θ_run (Cert.ConvNormRefIdeal.defs (F := Ideal)) (onTc (τ := Cert.ConvNormRefIdeal.τ) (Cert.ConvNormRefIdeal.main (F := Ideal))) ⟨m, fun _ => 0, g⟩ (fun r => (∀ c : Dev Cert.ConvNormRefIdeal.nD,
      r.2.mem ((c.tc : Thread Cert.ConvNormRefIdeal.nD Cert.ConvNormRefIdeal.τ).loc Cert.ConvNormRefIdeal.main_arg0) = m ((c.tc : Thread Cert.ConvNormRefIdeal.nD Cert.ConvNormRefIdeal.τ).loc Cert.ConvNormRefIdeal.main_arg0)
      ∧ r.2.mem ((c.tc : Thread Cert.ConvNormRefIdeal.nD Cert.ConvNormRefIdeal.τ).loc Cert.ConvNormRefIdeal.main_arg1) = m ((c.tc : Thread Cert.ConvNormRefIdeal.nD Cert.ConvNormRefIdeal.τ).loc Cert.ConvNormRefIdeal.main_arg1)
      ∧ r.2.mem ((c.tc : Thread Cert.ConvNormRefIdeal.nD Cert.ConvNormRefIdeal.τ).loc Cert.ConvNormRefIdeal.main_arg2) = m ((c.tc : Thread Cert.ConvNormRefIdeal.nD Cert.ConvNormRefIdeal.τ).loc Cert.ConvNormRefIdeal.main_arg2)
      ∧ r.2.mem ((c.tc : Thread Cert.ConvNormRefIdeal.nD Cert.ConvNormRefIdeal.τ).loc Cert.ConvNormRefIdeal.main_arg3) = m ((c.tc : Thread Cert.ConvNormRefIdeal.nD Cert.ConvNormRefIdeal.τ).loc Cert.ConvNormRefIdeal.main_arg3))
      ∧ r.2.sem = fun _ => 0)

def quiescent_ConvDw [hConvDw : Cert.ConvDw.Facts] : Prop :=
  ∀ (m : (ℓ : Loc Cert.ConvDw.nD Cert.ConvDw.τ Cert.ConvDw.sig) → Buf (Elt Bits) ℓ) (g : Dev Cert.ConvDw.nD → PrngReg), Pre_ConvDw m →
    θ_run (Cert.ConvDw.defs (F := Bits)) (onTc (τ := Cert.ConvDw.τ) (Cert.ConvDw.main (F := Bits))) ⟨m, fun _ => 0, g⟩ (fun r => (∀ c : Dev Cert.ConvDw.nD,
      r.2.mem ((c.tc : Thread Cert.ConvDw.nD Cert.ConvDw.τ).loc Cert.ConvDw.main_arg0) = m ((c.tc : Thread Cert.ConvDw.nD Cert.ConvDw.τ).loc Cert.ConvDw.main_arg0)
      ∧ r.2.mem ((c.tc : Thread Cert.ConvDw.nD Cert.ConvDw.τ).loc Cert.ConvDw.main_arg1) = m ((c.tc : Thread Cert.ConvDw.nD Cert.ConvDw.τ).loc Cert.ConvDw.main_arg1)
      ∧ r.2.mem ((c.tc : Thread Cert.ConvDw.nD Cert.ConvDw.τ).loc Cert.ConvDw.main_arg2) = m ((c.tc : Thread Cert.ConvDw.nD Cert.ConvDw.τ).loc Cert.ConvDw.main_arg2)
      ∧ r.2.mem ((c.tc : Thread Cert.ConvDw.nD Cert.ConvDw.τ).loc Cert.ConvDw.main_arg3) = m ((c.tc : Thread Cert.ConvDw.nD Cert.ConvDw.τ).loc Cert.ConvDw.main_arg3))
      ∧ r.2.sem = fun _ => 0)

def quiescent_ConvDwIdeal [hConvDwIdeal : Cert.ConvDwIdeal.Facts] : Prop :=
  ∀ (m : (ℓ : Loc Cert.ConvDwIdeal.nD Cert.ConvDwIdeal.τ Cert.ConvDwIdeal.sig) → Buf (Elt Ideal) ℓ) (g : Dev Cert.ConvDwIdeal.nD → PrngReg), Pre_ConvDwIdeal m →
    θ_run (Cert.ConvDwIdeal.defs (F := Ideal)) (onTc (τ := Cert.ConvDwIdeal.τ) (Cert.ConvDwIdeal.main (F := Ideal))) ⟨m, fun _ => 0, g⟩ (fun r => (∀ c : Dev Cert.ConvDwIdeal.nD,
      r.2.mem ((c.tc : Thread Cert.ConvDwIdeal.nD Cert.ConvDwIdeal.τ).loc Cert.ConvDwIdeal.main_arg0) = m ((c.tc : Thread Cert.ConvDwIdeal.nD Cert.ConvDwIdeal.τ).loc Cert.ConvDwIdeal.main_arg0)
      ∧ r.2.mem ((c.tc : Thread Cert.ConvDwIdeal.nD Cert.ConvDwIdeal.τ).loc Cert.ConvDwIdeal.main_arg1) = m ((c.tc : Thread Cert.ConvDwIdeal.nD Cert.ConvDwIdeal.τ).loc Cert.ConvDwIdeal.main_arg1)
      ∧ r.2.mem ((c.tc : Thread Cert.ConvDwIdeal.nD Cert.ConvDwIdeal.τ).loc Cert.ConvDwIdeal.main_arg2) = m ((c.tc : Thread Cert.ConvDwIdeal.nD Cert.ConvDwIdeal.τ).loc Cert.ConvDwIdeal.main_arg2)
      ∧ r.2.mem ((c.tc : Thread Cert.ConvDwIdeal.nD Cert.ConvDwIdeal.τ).loc Cert.ConvDwIdeal.main_arg3) = m ((c.tc : Thread Cert.ConvDwIdeal.nD Cert.ConvDwIdeal.τ).loc Cert.ConvDwIdeal.main_arg3))
      ∧ r.2.sem = fun _ => 0)

def quiescent_ConvDwRefIdeal [hConvDwRefIdeal : Cert.ConvDwRefIdeal.Facts] : Prop :=
  ∀ (m : (ℓ : Loc Cert.ConvDwRefIdeal.nD Cert.ConvDwRefIdeal.τ Cert.ConvDwRefIdeal.sig) → Buf (Elt Ideal) ℓ) (g : Dev Cert.ConvDwRefIdeal.nD → PrngReg), Pre_ConvDwRefIdeal m →
    θ_run (Cert.ConvDwRefIdeal.defs (F := Ideal)) (onTc (τ := Cert.ConvDwRefIdeal.τ) (Cert.ConvDwRefIdeal.main (F := Ideal))) ⟨m, fun _ => 0, g⟩ (fun r => (∀ c : Dev Cert.ConvDwRefIdeal.nD,
      r.2.mem ((c.tc : Thread Cert.ConvDwRefIdeal.nD Cert.ConvDwRefIdeal.τ).loc Cert.ConvDwRefIdeal.main_arg0) = m ((c.tc : Thread Cert.ConvDwRefIdeal.nD Cert.ConvDwRefIdeal.τ).loc Cert.ConvDwRefIdeal.main_arg0)
      ∧ r.2.mem ((c.tc : Thread Cert.ConvDwRefIdeal.nD Cert.ConvDwRefIdeal.τ).loc Cert.ConvDwRefIdeal.main_arg1) = m ((c.tc : Thread Cert.ConvDwRefIdeal.nD Cert.ConvDwRefIdeal.τ).loc Cert.ConvDwRefIdeal.main_arg1)
      ∧ r.2.mem ((c.tc : Thread Cert.ConvDwRefIdeal.nD Cert.ConvDwRefIdeal.τ).loc Cert.ConvDwRefIdeal.main_arg2) = m ((c.tc : Thread Cert.ConvDwRefIdeal.nD Cert.ConvDwRefIdeal.τ).loc Cert.ConvDwRefIdeal.main_arg2)
      ∧ r.2.mem ((c.tc : Thread Cert.ConvDwRefIdeal.nD Cert.ConvDwRefIdeal.τ).loc Cert.ConvDwRefIdeal.main_arg3) = m ((c.tc : Thread Cert.ConvDwRefIdeal.nD Cert.ConvDwRefIdeal.τ).loc Cert.ConvDwRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5))
      ∧ r.2.sem = fun _ => 0)

def quiescent_Delta [hDelta : Cert.Delta.Facts] : Prop :=
  ∀ (m : (ℓ : Loc Cert.Delta.nD Cert.Delta.τ Cert.Delta.sig) → Buf (Elt Bits) ℓ) (g : Dev Cert.Delta.nD → PrngReg), Pre_Delta m →
    θ_run (Cert.Delta.defs (F := Bits)) (onTc (τ := Cert.Delta.τ) (Cert.Delta.main (F := Bits))) ⟨m, fun _ => 0, g⟩ (fun r => (∀ c : Dev Cert.Delta.nD,
      r.2.mem ((c.tc : Thread Cert.Delta.nD Cert.Delta.τ).loc Cert.Delta.main_arg0) = m ((c.tc : Thread Cert.Delta.nD Cert.Delta.τ).loc Cert.Delta.main_arg0)
      ∧ r.2.mem ((c.tc : Thread Cert.Delta.nD Cert.Delta.τ).loc Cert.Delta.main_arg1) = m ((c.tc : Thread Cert.Delta.nD Cert.Delta.τ).loc Cert.Delta.main_arg1))
      ∧ r.2.sem = fun _ => 0)

def quiescent_DeltaIdeal [hDeltaIdeal : Cert.DeltaIdeal.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1))
      ∧ r.2.sem = fun _ => 0)

def quiescent_DeltaRefIdeal [hDeltaRefIdeal : Cert.DeltaRefIdeal.Facts] : Prop :=
  ∀ (m : (ℓ : Loc Cert.DeltaRefIdeal.nD Cert.DeltaRefIdeal.τ Cert.DeltaRefIdeal.sig) → Buf (Elt Ideal) ℓ) (g : Dev Cert.DeltaRefIdeal.nD → PrngReg), Pre_DeltaRefIdeal m →
    θ_run (Cert.DeltaRefIdeal.defs (F := Ideal)) (onTc (τ := Cert.DeltaRefIdeal.τ) (Cert.DeltaRefIdeal.main (F := Ideal))) ⟨m, fun _ => 0, g⟩ (fun r => (∀ c : Dev Cert.DeltaRefIdeal.nD,
      r.2.mem ((c.tc : Thread Cert.DeltaRefIdeal.nD Cert.DeltaRefIdeal.τ).loc Cert.DeltaRefIdeal.main_arg0) = m ((c.tc : Thread Cert.DeltaRefIdeal.nD Cert.DeltaRefIdeal.τ).loc Cert.DeltaRefIdeal.main_arg0)
      ∧ r.2.mem ((c.tc : Thread Cert.DeltaRefIdeal.nD Cert.DeltaRefIdeal.τ).loc Cert.DeltaRefIdeal.main_arg1) = m ((c.tc : Thread Cert.DeltaRefIdeal.nD Cert.DeltaRefIdeal.τ).loc Cert.DeltaRefIdeal.main_arg1))
      ∧ r.2.sem = fun _ => 0)

def quiescent_FlashFwd [hFlashFwd : Cert.FlashFwd.Facts] : Prop :=
  ∀ (m : (ℓ : Loc Cert.FlashFwd.nD Cert.FlashFwd.τ Cert.FlashFwd.sig) → Buf (Elt Bits) ℓ) (g : Dev Cert.FlashFwd.nD → PrngReg), Pre_FlashFwd m →
    θ_run (Cert.FlashFwd.defs (F := Bits)) (onTc (τ := Cert.FlashFwd.τ) (Cert.FlashFwd.main (F := Bits))) ⟨m, fun _ => 0, g⟩ (fun r => (∀ c : Dev Cert.FlashFwd.nD,
      r.2.mem ((c.tc : Thread Cert.FlashFwd.nD Cert.FlashFwd.τ).loc Cert.FlashFwd.main_arg0) = m ((c.tc : Thread Cert.FlashFwd.nD Cert.FlashFwd.τ).loc Cert.FlashFwd.main_arg0)
      ∧ r.2.mem ((c.tc : Thread Cert.FlashFwd.nD Cert.FlashFwd.τ).loc Cert.FlashFwd.main_arg1) = m ((c.tc : Thread Cert.FlashFwd.nD Cert.FlashFwd.τ).loc Cert.FlashFwd.main_arg1)
      ∧ r.2.mem ((c.tc : Thread Cert.FlashFwd.nD Cert.FlashFwd.τ).loc Cert.FlashFwd.main_arg2) = m ((c.tc : Thread Cert.FlashFwd.nD Cert.FlashFwd.τ).loc Cert.FlashFwd.main_arg2))
      ∧ r.2.sem = fun _ => 0)

def quiescent_FlashFwdIdeal [hFlashFwdIdeal : Cert.FlashFwdIdeal.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ r.2.sem = fun _ => 0)

def quiescent_FlashFwdIdeal_pre_flashfwd_finite [hFlashFwdIdeal : Cert.FlashFwdIdeal.Facts] [hPre_flashfwd_finite : Cert.Pre_flashfwd_finite.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal_flashfwd_finite m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ r.2.sem = fun _ => 0)

def quiescent_FlashFwdRefIdeal [hFlashFwdRefIdeal : Cert.FlashFwdRefIdeal.Facts] : Prop :=
  ∀ (m : (ℓ : Loc Cert.FlashFwdRefIdeal.nD Cert.FlashFwdRefIdeal.τ Cert.FlashFwdRefIdeal.sig) → Buf (Elt Ideal) ℓ) (g : Dev Cert.FlashFwdRefIdeal.nD → PrngReg), Pre_FlashFwdRefIdeal m →
    θ_run (Cert.FlashFwdRefIdeal.defs (F := Ideal)) (onTc (τ := Cert.FlashFwdRefIdeal.τ) (Cert.FlashFwdRefIdeal.main (F := Ideal))) ⟨m, fun _ => 0, g⟩ (fun r => (∀ c : Dev Cert.FlashFwdRefIdeal.nD,
      r.2.mem ((c.tc : Thread Cert.FlashFwdRefIdeal.nD Cert.FlashFwdRefIdeal.τ).loc Cert.FlashFwdRefIdeal.main_arg0) = m ((c.tc : Thread Cert.FlashFwdRefIdeal.nD Cert.FlashFwdRefIdeal.τ).loc Cert.FlashFwdRefIdeal.main_arg0)
      ∧ r.2.mem ((c.tc : Thread Cert.FlashFwdRefIdeal.nD Cert.FlashFwdRefIdeal.τ).loc Cert.FlashFwdRefIdeal.main_arg1) = m ((c.tc : Thread Cert.FlashFwdRefIdeal.nD Cert.FlashFwdRefIdeal.τ).loc Cert.FlashFwdRefIdeal.main_arg1)
      ∧ r.2.mem ((c.tc : Thread Cert.FlashFwdRefIdeal.nD Cert.FlashFwdRefIdeal.τ).loc Cert.FlashFwdRefIdeal.main_arg2) = m ((c.tc : Thread Cert.FlashFwdRefIdeal.nD Cert.FlashFwdRefIdeal.τ).loc Cert.FlashFwdRefIdeal.main_arg2))
      ∧ r.2.sem = fun _ => 0)

def quiescent_FlashFwdRefIdeal_pre_flashfwd_finite [hFlashFwdRefIdeal : Cert.FlashFwdRefIdeal.Facts] [hPre_flashfwd_finite : Cert.Pre_flashfwd_finite.Facts] : Prop :=
  ∀ (m : (ℓ : Loc Cert.FlashFwdRefIdeal.nD Cert.FlashFwdRefIdeal.τ Cert.FlashFwdRefIdeal.sig) → Buf (Elt Ideal) ℓ) (g : Dev Cert.FlashFwdRefIdeal.nD → PrngReg), Pre_FlashFwdRefIdeal_flashfwd_finite m →
    θ_run (Cert.FlashFwdRefIdeal.defs (F := Ideal)) (onTc (τ := Cert.FlashFwdRefIdeal.τ) (Cert.FlashFwdRefIdeal.main (F := Ideal))) ⟨m, fun _ => 0, g⟩ (fun r => (∀ c : Dev Cert.FlashFwdRefIdeal.nD,
      r.2.mem ((c.tc : Thread Cert.FlashFwdRefIdeal.nD Cert.FlashFwdRefIdeal.τ).loc Cert.FlashFwdRefIdeal.main_arg0) = m ((c.tc : Thread Cert.FlashFwdRefIdeal.nD Cert.FlashFwdRefIdeal.τ).loc Cert.FlashFwdRefIdeal.main_arg0)
      ∧ r.2.mem ((c.tc : Thread Cert.FlashFwdRefIdeal.nD Cert.FlashFwdRefIdeal.τ).loc Cert.FlashFwdRefIdeal.main_arg1) = m ((c.tc : Thread Cert.FlashFwdRefIdeal.nD Cert.FlashFwdRefIdeal.τ).loc Cert.FlashFwdRefIdeal.main_arg1)
      ∧ r.2.mem ((c.tc : Thread Cert.FlashFwdRefIdeal.nD Cert.FlashFwdRefIdeal.τ).loc Cert.FlashFwdRefIdeal.main_arg2) = m ((c.tc : Thread Cert.FlashFwdRefIdeal.nD Cert.FlashFwdRefIdeal.τ).loc Cert.FlashFwdRefIdeal.main_arg2))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_PrepFwd [hPrepFwd : Cert.PrepFwd.Facts] : Prop :=
  ∀ (m : (ℓ : Loc Cert.PrepFwd.nD Cert.PrepFwd.τ Cert.PrepFwd.sig) → Buf (Elt Bits) ℓ) (g : Dev Cert.PrepFwd.nD → PrngReg), Pre_PrepFwd m →
    θ_run (Cert.PrepFwd.defs (F := Bits)) (onTc (τ := Cert.PrepFwd.τ) (Cert.PrepFwd.main (F := Bits))) ⟨m, fun _ => 0, g⟩ (fun r => (∀ c : Dev Cert.PrepFwd.nD,
      r.2.mem ((c.tc : Thread Cert.PrepFwd.nD Cert.PrepFwd.τ).loc Cert.PrepFwd.main_arg0) = m ((c.tc : Thread Cert.PrepFwd.nD Cert.PrepFwd.τ).loc Cert.PrepFwd.main_arg0)
      ∧ r.2.mem ((c.tc : Thread Cert.PrepFwd.nD Cert.PrepFwd.τ).loc Cert.PrepFwd.main_arg1) = m ((c.tc : Thread Cert.PrepFwd.nD Cert.PrepFwd.τ).loc Cert.PrepFwd.main_arg1)
      ∧ r.2.mem ((c.tc : Thread Cert.PrepFwd.nD Cert.PrepFwd.τ).loc Cert.PrepFwd.main_arg2) = m ((c.tc : Thread Cert.PrepFwd.nD Cert.PrepFwd.τ).loc Cert.PrepFwd.main_arg2)
      ∧ r.2.mem ((c.tc : Thread Cert.PrepFwd.nD Cert.PrepFwd.τ).loc Cert.PrepFwd.main_arg3) = m ((c.tc : Thread Cert.PrepFwd.nD Cert.PrepFwd.τ).loc Cert.PrepFwd.main_arg3))
      ∧ r.2.sem = fun _ => 0)

def quiescent_PrepFwdIdeal [hPrepFwdIdeal : Cert.PrepFwdIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg), Pre_PrepFwdIdeal m →
    θ_run (Cert.PrepFwdIdeal.defs (F := Ideal)) (onTc (τ := Cert.PrepFwdIdeal.τ) (Cert.PrepFwdIdeal.main (F := Ideal))) ⟨m, fun _ => 0, g⟩ (fun r => (∀ c : Dev Cert.PrepFwdIdeal.nD,
      r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
      ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
      ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
      ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3))
      ∧ r.2.sem = fun _ => 0)

def quiescent_PrepFwdRefIdeal [hPrepFwdRefIdeal : Cert.PrepFwdRefIdeal.Facts] : Prop :=
  ∀ (m : (ℓ : Loc Cert.PrepFwdRefIdeal.nD Cert.PrepFwdRefIdeal.τ Cert.PrepFwdRefIdeal.sig) → Buf (Elt Ideal) ℓ) (g : Dev Cert.PrepFwdRefIdeal.nD → PrngReg), Pre_PrepFwdRefIdeal m →
    θ_run (Cert.PrepFwdRefIdeal.defs (F := Ideal)) (onTc (τ := Cert.PrepFwdRefIdeal.τ) (Cert.PrepFwdRefIdeal.main (F := Ideal))) ⟨m, fun _ => 0, g⟩ (fun r => (∀ c : Dev Cert.PrepFwdRefIdeal.nD,
      r.2.mem ((c.tc : Thread Cert.PrepFwdRefIdeal.nD Cert.PrepFwdRefIdeal.τ).loc Cert.PrepFwdRefIdeal.main_arg0) = m ((c.tc : Thread Cert.PrepFwdRefIdeal.nD Cert.PrepFwdRefIdeal.τ).loc Cert.PrepFwdRefIdeal.main_arg0)
      ∧ r.2.mem ((c.tc : Thread Cert.PrepFwdRefIdeal.nD Cert.PrepFwdRefIdeal.τ).loc Cert.PrepFwdRefIdeal.main_arg1) = m ((c.tc : Thread Cert.PrepFwdRefIdeal.nD Cert.PrepFwdRefIdeal.τ).loc Cert.PrepFwdRefIdeal.main_arg1)
      ∧ r.2.mem ((c.tc : Thread Cert.PrepFwdRefIdeal.nD Cert.PrepFwdRefIdeal.τ).loc Cert.PrepFwdRefIdeal.main_arg2) = m ((c.tc : Thread Cert.PrepFwdRefIdeal.nD Cert.PrepFwdRefIdeal.τ).loc Cert.PrepFwdRefIdeal.main_arg2)
      ∧ r.2.mem ((c.tc : Thread Cert.PrepFwdRefIdeal.nD Cert.PrepFwdRefIdeal.τ).loc Cert.PrepFwdRefIdeal.main_arg3) = m ((c.tc : Thread Cert.PrepFwdRefIdeal.nD Cert.PrepFwdRefIdeal.τ).loc Cert.PrepFwdRefIdeal.main_arg3))
      ∧ r.2.sem = fun _ => 0)

def quiescent_QkvFwd [hQkvFwd : Cert.QkvFwd.Facts] : Prop :=
  ∀ (m : (ℓ : Loc Cert.QkvFwd.nD Cert.QkvFwd.τ Cert.QkvFwd.sig) → Buf (Elt Bits) ℓ) (g : Dev Cert.QkvFwd.nD → PrngReg), Pre_QkvFwd m →
    θ_run (Cert.QkvFwd.defs (F := Bits)) (onTc (τ := Cert.QkvFwd.τ) (Cert.QkvFwd.main (F := Bits))) ⟨m, fun _ => 0, g⟩ (fun r => (∀ c : Dev Cert.QkvFwd.nD,
      r.2.mem ((c.tc : Thread Cert.QkvFwd.nD Cert.QkvFwd.τ).loc Cert.QkvFwd.main_arg0) = m ((c.tc : Thread Cert.QkvFwd.nD Cert.QkvFwd.τ).loc Cert.QkvFwd.main_arg0)
      ∧ r.2.mem ((c.tc : Thread Cert.QkvFwd.nD Cert.QkvFwd.τ).loc Cert.QkvFwd.main_arg1) = m ((c.tc : Thread Cert.QkvFwd.nD Cert.QkvFwd.τ).loc Cert.QkvFwd.main_arg1)
      ∧ r.2.mem ((c.tc : Thread Cert.QkvFwd.nD Cert.QkvFwd.τ).loc Cert.QkvFwd.main_arg2) = m ((c.tc : Thread Cert.QkvFwd.nD Cert.QkvFwd.τ).loc Cert.QkvFwd.main_arg2)
      ∧ r.2.mem ((c.tc : Thread Cert.QkvFwd.nD Cert.QkvFwd.τ).loc Cert.QkvFwd.main_arg3) = m ((c.tc : Thread Cert.QkvFwd.nD Cert.QkvFwd.τ).loc Cert.QkvFwd.main_arg3)
      ∧ r.2.mem ((c.tc : Thread Cert.QkvFwd.nD Cert.QkvFwd.τ).loc Cert.QkvFwd.main_arg4) = m ((c.tc : Thread Cert.QkvFwd.nD Cert.QkvFwd.τ).loc Cert.QkvFwd.main_arg4)
      ∧ r.2.mem ((c.tc : Thread Cert.QkvFwd.nD Cert.QkvFwd.τ).loc Cert.QkvFwd.main_arg5) = m ((c.tc : Thread Cert.QkvFwd.nD Cert.QkvFwd.τ).loc Cert.QkvFwd.main_arg5))
      ∧ r.2.sem = fun _ => 0)

def quiescent_QkvFwdIdeal [hQkvFwdIdeal : Cert.QkvFwdIdeal.Facts] : Prop :=
  ∀ (m : (ℓ : Loc Cert.QkvFwdIdeal.nD Cert.QkvFwdIdeal.τ Cert.QkvFwdIdeal.sig) → Buf (Elt Ideal) ℓ) (g : Dev Cert.QkvFwdIdeal.nD → PrngReg), Pre_QkvFwdIdeal m →
    θ_run (Cert.QkvFwdIdeal.defs (F := Ideal)) (onTc (τ := Cert.QkvFwdIdeal.τ) (Cert.QkvFwdIdeal.main (F := Ideal))) ⟨m, fun _ => 0, g⟩ (fun r => (∀ c : Dev Cert.QkvFwdIdeal.nD,
      r.2.mem ((c.tc : Thread Cert.QkvFwdIdeal.nD Cert.QkvFwdIdeal.τ).loc Cert.QkvFwdIdeal.main_arg0) = m ((c.tc : Thread Cert.QkvFwdIdeal.nD Cert.QkvFwdIdeal.τ).loc Cert.QkvFwdIdeal.main_arg0)
      ∧ r.2.mem ((c.tc : Thread Cert.QkvFwdIdeal.nD Cert.QkvFwdIdeal.τ).loc Cert.QkvFwdIdeal.main_arg1) = m ((c.tc : Thread Cert.QkvFwdIdeal.nD Cert.QkvFwdIdeal.τ).loc Cert.QkvFwdIdeal.main_arg1)
      ∧ r.2.mem ((c.tc : Thread Cert.QkvFwdIdeal.nD Cert.QkvFwdIdeal.τ).loc Cert.QkvFwdIdeal.main_arg2) = m ((c.tc : Thread Cert.QkvFwdIdeal.nD Cert.QkvFwdIdeal.τ).loc Cert.QkvFwdIdeal.main_arg2)
      ∧ r.2.mem ((c.tc : Thread Cert.QkvFwdIdeal.nD Cert.QkvFwdIdeal.τ).loc Cert.QkvFwdIdeal.main_arg3) = m ((c.tc : Thread Cert.QkvFwdIdeal.nD Cert.QkvFwdIdeal.τ).loc Cert.QkvFwdIdeal.main_arg3)
      ∧ r.2.mem ((c.tc : Thread Cert.QkvFwdIdeal.nD Cert.QkvFwdIdeal.τ).loc Cert.QkvFwdIdeal.main_arg4) = m ((c.tc : Thread Cert.QkvFwdIdeal.nD Cert.QkvFwdIdeal.τ).loc Cert.QkvFwdIdeal.main_arg4)
      ∧ r.2.mem ((c.tc : Thread Cert.QkvFwdIdeal.nD Cert.QkvFwdIdeal.τ).loc Cert.QkvFwdIdeal.main_arg5) = m ((c.tc : Thread Cert.QkvFwdIdeal.nD Cert.QkvFwdIdeal.τ).loc Cert.QkvFwdIdeal.main_arg5))
      ∧ r.2.sem = fun _ => 0)

def quiescent_QkvFwdRefIdeal [hQkvFwdRefIdeal : Cert.QkvFwdRefIdeal.Facts] : Prop :=
  ∀ (m : (ℓ : Loc Cert.QkvFwdRefIdeal.nD Cert.QkvFwdRefIdeal.τ Cert.QkvFwdRefIdeal.sig) → Buf (Elt Ideal) ℓ) (g : Dev Cert.QkvFwdRefIdeal.nD → PrngReg), Pre_QkvFwdRefIdeal m →
    θ_run (Cert.QkvFwdRefIdeal.defs (F := Ideal)) (onTc (τ := Cert.QkvFwdRefIdeal.τ) (Cert.QkvFwdRefIdeal.main (F := Ideal))) ⟨m, fun _ => 0, g⟩ (fun r => (∀ c : Dev Cert.QkvFwdRefIdeal.nD,
      r.2.mem ((c.tc : Thread Cert.QkvFwdRefIdeal.nD Cert.QkvFwdRefIdeal.τ).loc Cert.QkvFwdRefIdeal.main_arg0) = m ((c.tc : Thread Cert.QkvFwdRefIdeal.nD Cert.QkvFwdRefIdeal.τ).loc Cert.QkvFwdRefIdeal.main_arg0)
      ∧ r.2.mem ((c.tc : Thread Cert.QkvFwdRefIdeal.nD Cert.QkvFwdRefIdeal.τ).loc Cert.QkvFwdRefIdeal.main_arg1) = m ((c.tc : Thread Cert.QkvFwdRefIdeal.nD Cert.QkvFwdRefIdeal.τ).loc Cert.QkvFwdRefIdeal.main_arg1)
      ∧ r.2.mem ((c.tc : Thread Cert.QkvFwdRefIdeal.nD Cert.QkvFwdRefIdeal.τ).loc Cert.QkvFwdRefIdeal.main_arg2) = m ((c.tc : Thread Cert.QkvFwdRefIdeal.nD Cert.QkvFwdRefIdeal.τ).loc Cert.QkvFwdRefIdeal.main_arg2)
      ∧ r.2.mem ((c.tc : Thread Cert.QkvFwdRefIdeal.nD Cert.QkvFwdRefIdeal.τ).loc Cert.QkvFwdRefIdeal.main_arg3) = m ((c.tc : Thread Cert.QkvFwdRefIdeal.nD Cert.QkvFwdRefIdeal.τ).loc Cert.QkvFwdRefIdeal.main_arg3)
      ∧ r.2.mem ((c.tc : Thread Cert.QkvFwdRefIdeal.nD Cert.QkvFwdRefIdeal.τ).loc Cert.QkvFwdRefIdeal.main_arg4) = m ((c.tc : Thread Cert.QkvFwdRefIdeal.nD Cert.QkvFwdRefIdeal.τ).loc Cert.QkvFwdRefIdeal.main_arg4)
      ∧ r.2.mem ((c.tc : Thread Cert.QkvFwdRefIdeal.nD Cert.QkvFwdRefIdeal.τ).loc Cert.QkvFwdRefIdeal.main_arg5) = m ((c.tc : Thread Cert.QkvFwdRefIdeal.nD Cert.QkvFwdRefIdeal.τ).loc Cert.QkvFwdRefIdeal.main_arg5))
      ∧ r.2.sem = fun _ => 0)

def quiescent_Product [hProduct : Cert.Product.Facts] : Prop :=
  ∀ (m : (ℓ : Loc Cert.Product.nD Cert.Product.τ Cert.Product.sig) → Buf (Elt Bits) ℓ) (g : Dev Cert.Product.nD → PrngReg), Pre_Product m →
    θ_run (Cert.Product.defs (F := Bits)) (onTc (τ := Cert.Product.τ) (Cert.Product.main (F := Bits))) ⟨m, fun _ => 0, g⟩ (fun r => (∀ c : Dev Cert.Product.nD,
      r.2.mem ((c.tc : Thread Cert.Product.nD Cert.Product.τ).loc Cert.Product.main_arg0) = m ((c.tc : Thread Cert.Product.nD Cert.Product.τ).loc Cert.Product.main_arg0)
      ∧ r.2.mem ((c.tc : Thread Cert.Product.nD Cert.Product.τ).loc Cert.Product.main_arg1) = m ((c.tc : Thread Cert.Product.nD Cert.Product.τ).loc Cert.Product.main_arg1)
      ∧ r.2.mem ((c.tc : Thread Cert.Product.nD Cert.Product.τ).loc Cert.Product.main_arg2) = m ((c.tc : Thread Cert.Product.nD Cert.Product.τ).loc Cert.Product.main_arg2))
      ∧ r.2.sem = fun _ => 0)

def quiescent_ProductIdeal [hProductIdeal : Cert.ProductIdeal.Facts] : Prop :=
  ∀ (m : (ℓ : Loc Cert.ProductIdeal.nD Cert.ProductIdeal.τ Cert.ProductIdeal.sig) → Buf (Elt Ideal) ℓ) (g : Dev Cert.ProductIdeal.nD → PrngReg), Pre_ProductIdeal m →
    θ_run (Cert.ProductIdeal.defs (F := Ideal)) (onTc (τ := Cert.ProductIdeal.τ) (Cert.ProductIdeal.main (F := Ideal))) ⟨m, fun _ => 0, g⟩ (fun r => (∀ c : Dev Cert.ProductIdeal.nD,
      r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
      ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1)
      ∧ r.2.mem ((c.tc : Thread Cert.ProductIdeal.nD Cert.ProductIdeal.τ).loc Cert.ProductIdeal.main_arg2) = m ((c.tc : Thread Cert.ProductIdeal.nD Cert.ProductIdeal.τ).loc Cert.ProductIdeal.main_arg2))
      ∧ r.2.sem = fun _ => 0)

def quiescent_ProductRefIdeal [hProductRefIdeal : Cert.ProductRefIdeal.Facts] : Prop :=
  ∀ (m : (ℓ : Loc Cert.ProductRefIdeal.nD Cert.ProductRefIdeal.τ Cert.ProductRefIdeal.sig) → Buf (Elt Ideal) ℓ) (g : Dev Cert.ProductRefIdeal.nD → PrngReg), Pre_ProductRefIdeal m →
    θ_run (Cert.ProductRefIdeal.defs (F := Ideal)) (onTc (τ := Cert.ProductRefIdeal.τ) (Cert.ProductRefIdeal.main (F := Ideal))) ⟨m, fun _ => 0, g⟩ (fun r => (∀ c : Dev Cert.ProductRefIdeal.nD,
      r.2.mem ((c.tc : Thread Cert.ProductRefIdeal.nD Cert.ProductRefIdeal.τ).loc Cert.ProductRefIdeal.main_arg0) = m ((c.tc : Thread Cert.ProductRefIdeal.nD Cert.ProductRefIdeal.τ).loc Cert.ProductRefIdeal.main_arg0)
      ∧ r.2.mem ((c.tc : Thread Cert.ProductRefIdeal.nD Cert.ProductRefIdeal.τ).loc Cert.ProductRefIdeal.main_arg1) = m ((c.tc : Thread Cert.ProductRefIdeal.nD Cert.ProductRefIdeal.τ).loc Cert.ProductRefIdeal.main_arg1)
      ∧ r.2.mem ((c.tc : Thread Cert.ProductRefIdeal.nD Cert.ProductRefIdeal.τ).loc Cert.ProductRefIdeal.main_arg2) = m ((c.tc : Thread Cert.ProductRefIdeal.nD Cert.ProductRefIdeal.τ).loc Cert.ProductRefIdeal.main_arg2))
      ∧ r.2.sem = fun _ => 0)

def quiescent_WeightGrad [hWeightGrad : Cert.WeightGrad.Facts] : Prop :=
  ∀ (m : (ℓ : Loc Cert.WeightGrad.nD Cert.WeightGrad.τ Cert.WeightGrad.sig) → Buf (Elt Bits) ℓ) (g : Dev Cert.WeightGrad.nD → PrngReg), Pre_WeightGrad m →
    θ_run (Cert.WeightGrad.defs (F := Bits)) (onTc (τ := Cert.WeightGrad.τ) (Cert.WeightGrad.main (F := Bits))) ⟨m, fun _ => 0, g⟩ (fun r => (∀ c : Dev Cert.WeightGrad.nD,
      r.2.mem ((c.tc : Thread Cert.WeightGrad.nD Cert.WeightGrad.τ).loc Cert.WeightGrad.main_arg0) = m ((c.tc : Thread Cert.WeightGrad.nD Cert.WeightGrad.τ).loc Cert.WeightGrad.main_arg0)
      ∧ r.2.mem ((c.tc : Thread Cert.WeightGrad.nD Cert.WeightGrad.τ).loc Cert.WeightGrad.main_arg1) = m ((c.tc : Thread Cert.WeightGrad.nD Cert.WeightGrad.τ).loc Cert.WeightGrad.main_arg1))
      ∧ r.2.sem = fun _ => 0)

def quiescent_WeightGradIdeal [hWeightGradIdeal : Cert.WeightGradIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg), Pre_WeightGradIdeal m →
    θ_run (Cert.WeightGradIdeal.defs (F := Ideal)) (onTc (τ := Cert.WeightGradIdeal.τ) (Cert.WeightGradIdeal.main (F := Ideal))) ⟨m, fun _ => 0, g⟩ (fun r => (∀ c : Dev Cert.WeightGradIdeal.nD,
      r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
      ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ r.2.sem = fun _ => 0)

def quiescent_WeightGradRefIdeal [hWeightGradRefIdeal : Cert.WeightGradRefIdeal.Facts] : Prop :=
  ∀ (m : (ℓ : Loc Cert.WeightGradRefIdeal.nD Cert.WeightGradRefIdeal.τ Cert.WeightGradRefIdeal.sig) → Buf (Elt Ideal) ℓ) (g : Dev Cert.WeightGradRefIdeal.nD → PrngReg), Pre_WeightGradRefIdeal m →
    θ_run (Cert.WeightGradRefIdeal.defs (F := Ideal)) (onTc (τ := Cert.WeightGradRefIdeal.τ) (Cert.WeightGradRefIdeal.main (F := Ideal))) ⟨m, fun _ => 0, g⟩ (fun r => (∀ c : Dev Cert.WeightGradRefIdeal.nD,
      r.2.mem ((c.tc : Thread Cert.WeightGradRefIdeal.nD Cert.WeightGradRefIdeal.τ).loc Cert.WeightGradRefIdeal.main_arg0) = m ((c.tc : Thread Cert.WeightGradRefIdeal.nD Cert.WeightGradRefIdeal.τ).loc Cert.WeightGradRefIdeal.main_arg0)
      ∧ r.2.mem ((c.tc : Thread Cert.WeightGradRefIdeal.nD Cert.WeightGradRefIdeal.τ).loc Cert.WeightGradRefIdeal.main_arg1) = m ((c.tc : Thread Cert.WeightGradRefIdeal.nD Cert.WeightGradRefIdeal.τ).loc Cert.WeightGradRefIdeal.main_arg1))
      ∧ r.2.sem = fun _ => 0)

def quiescent_SumDevices [hSumDevices : Cert.SumDevices.Facts] : Prop :=
  ∀ (m : (ℓ : Loc Cert.SumDevices.nD Cert.SumDevices.τ Cert.SumDevices.sig) → Buf (Elt Bits) ℓ) (g : Dev Cert.SumDevices.nD → PrngReg), Pre_SumDevices m →
    θ_run (Cert.SumDevices.defs (F := Bits)) (onTc (τ := Cert.SumDevices.τ) (Cert.SumDevices.main (F := Bits))) ⟨m, fun _ => 0, g⟩ (fun r => (∀ c : Dev Cert.SumDevices.nD,
      r.2.mem ((c.tc : Thread Cert.SumDevices.nD Cert.SumDevices.τ).loc Cert.SumDevices.main_arg0) = m ((c.tc : Thread Cert.SumDevices.nD Cert.SumDevices.τ).loc Cert.SumDevices.main_arg0))
      ∧ r.2.sem = fun _ => 0)

def quiescent_SumDevicesIdeal [hSumDevicesIdeal : Cert.SumDevicesIdeal.Facts] : Prop :=
  ∀ (m : (ℓ : Loc Cert.SumDevicesIdeal.nD Cert.SumDevicesIdeal.τ Cert.SumDevicesIdeal.sig) → Buf (Elt Ideal) ℓ) (g : Dev Cert.SumDevicesIdeal.nD → PrngReg), Pre_SumDevicesIdeal m →
    θ_run (Cert.SumDevicesIdeal.defs (F := Ideal)) (onTc (τ := Cert.SumDevicesIdeal.τ) (Cert.SumDevicesIdeal.main (F := Ideal))) ⟨m, fun _ => 0, g⟩ (fun r => (∀ c : Dev Cert.SumDevicesIdeal.nD,
      r.2.mem ((c.tc : Thread Cert.SumDevicesIdeal.nD Cert.SumDevicesIdeal.τ).loc Cert.SumDevicesIdeal.main_arg0) = m ((c.tc : Thread Cert.SumDevicesIdeal.nD Cert.SumDevicesIdeal.τ).loc Cert.SumDevicesIdeal.main_arg0))
      ∧ r.2.sem = fun _ => 0)

def quiescent_SumDevicesRefIdeal [hSumDevicesRefIdeal : Cert.SumDevicesRefIdeal.Facts] : Prop :=
  ∀ (m : (ℓ : Loc Cert.SumDevicesRefIdeal.nD Cert.SumDevicesRefIdeal.τ Cert.SumDevicesRefIdeal.sig) → Buf (Elt Ideal) ℓ) (g : Dev Cert.SumDevicesRefIdeal.nD → PrngReg), Pre_SumDevicesRefIdeal m →
    θ_run (Cert.SumDevicesRefIdeal.defs (F := Ideal)) (onTc (τ := Cert.SumDevicesRefIdeal.τ) (Cert.SumDevicesRefIdeal.main (F := Ideal))) ⟨m, fun _ => 0, g⟩ (fun r => (∀ c : Dev Cert.SumDevicesRefIdeal.nD,
      r.2.mem ((c.tc : Thread Cert.SumDevicesRefIdeal.nD Cert.SumDevicesRefIdeal.τ).loc Cert.SumDevicesRefIdeal.main_arg0) = m ((c.tc : Thread Cert.SumDevicesRefIdeal.nD Cert.SumDevicesRefIdeal.τ).loc Cert.SumDevicesRefIdeal.main_arg0))
      ∧ r.2.sem = fun _ => 0)

def quiescent_SumSlots [hSumSlots : Cert.SumSlots.Facts] : Prop :=
  ∀ (m : (ℓ : Loc Cert.SumSlots.nD Cert.SumSlots.τ Cert.SumSlots.sig) → Buf (Elt Bits) ℓ) (g : Dev Cert.SumSlots.nD → PrngReg), Pre_SumSlots m →
    θ_run (Cert.SumSlots.defs (F := Bits)) (onTc (τ := Cert.SumSlots.τ) (Cert.SumSlots.main (F := Bits))) ⟨m, fun _ => 0, g⟩ (fun r => (∀ c : Dev Cert.SumSlots.nD,
      r.2.mem ((c.tc : Thread Cert.SumSlots.nD Cert.SumSlots.τ).loc Cert.SumSlots.main_arg0) = m ((c.tc : Thread Cert.SumSlots.nD Cert.SumSlots.τ).loc Cert.SumSlots.main_arg0))
      ∧ r.2.sem = fun _ => 0)

def quiescent_SumSlotsIdeal [hSumSlotsIdeal : Cert.SumSlotsIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg), Pre_SumSlotsIdeal m →
    θ_run (Cert.SumSlotsIdeal.defs (F := Ideal)) (onTc (τ := Cert.SumSlotsIdeal.τ) (Cert.SumSlotsIdeal.main (F := Ideal))) ⟨m, fun _ => 0, g⟩ (fun r => (∀ c : Dev Cert.SumSlotsIdeal.nD,
      r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ r.2.sem = fun _ => 0)

def quiescent_SumSlotsRefIdeal [hSumSlotsRefIdeal : Cert.SumSlotsRefIdeal.Facts] : Prop :=
  ∀ (m : (ℓ : Loc Cert.SumSlotsRefIdeal.nD Cert.SumSlotsRefIdeal.τ Cert.SumSlotsRefIdeal.sig) → Buf (Elt Ideal) ℓ) (g : Dev Cert.SumSlotsRefIdeal.nD → PrngReg), Pre_SumSlotsRefIdeal m →
    θ_run (Cert.SumSlotsRefIdeal.defs (F := Ideal)) (onTc (τ := Cert.SumSlotsRefIdeal.τ) (Cert.SumSlotsRefIdeal.main (F := Ideal))) ⟨m, fun _ => 0, g⟩ (fun r => (∀ c : Dev Cert.SumSlotsRefIdeal.nD,
      r.2.mem ((c.tc : Thread Cert.SumSlotsRefIdeal.nD Cert.SumSlotsRefIdeal.τ).loc Cert.SumSlotsRefIdeal.main_arg0) = m ((c.tc : Thread Cert.SumSlotsRefIdeal.nD Cert.SumSlotsRefIdeal.τ).loc Cert.SumSlotsRefIdeal.main_arg0))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3)
      ∧ r.2.mem ((c.tc : Thread Cert.Adamw.nD Cert.Adamw.τ).loc Cert.Adamw.main_arg4) = m ((c.tc : Thread Cert.Adamw.nD Cert.Adamw.τ).loc Cert.Adamw.main_arg4))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
      ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3)
      ∧ r.2.mem ((c.tc : Thread Cert.AdamwRefIdeal.nD Cert.AdamwRefIdeal.τ).loc Cert.AdamwRefIdeal.main_arg4) = m ((c.tc : Thread Cert.AdamwRefIdeal.nD Cert.AdamwRefIdeal.τ).loc Cert.AdamwRefIdeal.main_arg4))
      ∧ r.2.sem = fun _ => 0)

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Flash_FlashIdeal : Prop :=
  True

def algebraic_FlashIdeal_FlashRefIdeal_pre_flash_finite [hFlashIdeal : Cert.FlashIdeal.Facts] [hFlashRefIdeal : Cert.FlashRefIdeal.Facts] [hPre_flash_finite : Cert.Pre_flash_finite.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_flash_finite m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)
      ∧ m' ((c.tc : Thread Cert.FlashRefIdeal.nD Cert.FlashRefIdeal.τ).loc Cert.FlashRefIdeal.main_arg3) = m ((c.tc : Thread Cert.FlashIdeal.nD Cert.FlashIdeal.τ).loc Cert.FlashIdeal.main_arg3)) →
    ∃ (v0 : (c : Dev Cert.FlashIdeal.nD) → Buf (Elt Ideal) ((c.tc : Thread Cert.FlashIdeal.nD Cert.FlashIdeal.τ).loc Cert.FlashIdeal.main_v37_0)) (v1 : (c : Dev Cert.FlashIdeal.nD) → Buf (Elt Ideal) ((c.tc : Thread Cert.FlashIdeal.nD Cert.FlashIdeal.τ).loc Cert.FlashIdeal.main_v37_1)) (v2 : (c : Dev Cert.FlashIdeal.nD) → Buf (Elt Ideal) ((c.tc : Thread Cert.FlashIdeal.nD Cert.FlashIdeal.τ).loc Cert.FlashIdeal.main_v37_2)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v37_0) = v0 c
          ∧ r.2.mem ((c.tc : Thread Cert.FlashIdeal.nD Cert.FlashIdeal.τ).loc Cert.FlashIdeal.main_v37_1) = v1 c
          ∧ r.2.mem ((c.tc : Thread Cert.FlashIdeal.nD Cert.FlashIdeal.τ).loc Cert.FlashIdeal.main_v37_2) = v2 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
          ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v62) = v0 c
          ∧ r.2.mem ((c.tc : Thread Cert.FlashRefIdeal.nD Cert.FlashRefIdeal.τ).loc Cert.FlashRefIdeal.main_v64) = v1 c
          ∧ r.2.mem ((c.tc : Thread Cert.FlashRefIdeal.nD Cert.FlashRefIdeal.τ).loc Cert.FlashRefIdeal.main_v65) = v2 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2)
          ∧ r.2.mem ((c.tc : Thread Cert.FlashRefIdeal.nD Cert.FlashRefIdeal.τ).loc Cert.FlashRefIdeal.main_arg3) = m' ((c.tc : Thread Cert.FlashRefIdeal.nD Cert.FlashRefIdeal.τ).loc Cert.FlashRefIdeal.main_arg3))

def preserves_Prep_PrepIdeal : Prop :=
  True

def algebraic_PrepIdeal_PrepRefIdeal_pre_prep_finite [hPrepIdeal : Cert.PrepIdeal.Facts] [hPrepRefIdeal : Cert.PrepRefIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_prep_finite m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)) →
    ∃ (v0 : (c : Dev Cert.PrepIdeal.nD) → Buf (Elt Ideal) ((c.tc : Thread Cert.PrepIdeal.nD Cert.PrepIdeal.τ).loc Cert.PrepIdeal.main_v4_0)) (v1 : (c : Dev Cert.PrepIdeal.nD) → Buf (Elt Ideal) ((c.tc : Thread Cert.PrepIdeal.nD Cert.PrepIdeal.τ).loc Cert.PrepIdeal.main_v4_1)) (v2 : (c : Dev Cert.PrepIdeal.nD) → Buf (Elt Ideal) ((c.tc : Thread Cert.PrepIdeal.nD Cert.PrepIdeal.τ).loc Cert.PrepIdeal.main_v4_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v4_0) = v0 c
          ∧ r.2.mem ((c.tc : Thread Cert.PrepIdeal.nD Cert.PrepIdeal.τ).loc Cert.PrepIdeal.main_v4_1) = v1 c
          ∧ r.2.mem ((c.tc : Thread Cert.PrepIdeal.nD Cert.PrepIdeal.τ).loc Cert.PrepIdeal.main_v4_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v81) = v0 c
          ∧ r.2.mem ((c.tc : Thread Cert.PrepRefIdeal.nD Cert.PrepRefIdeal.τ).loc Cert.PrepRefIdeal.main_v82) = v1 c
          ∧ r.2.mem ((c.tc : Thread Cert.PrepRefIdeal.nD Cert.PrepRefIdeal.τ).loc Cert.PrepRefIdeal.main_v83) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5))

def preserves_Down_DownIdeal : Prop :=
  True

def algebraic_DownIdeal_DownRefIdeal_pre_down_finite [hDownIdeal : Cert.DownIdeal.Facts] [hDownRefIdeal : Cert.DownRefIdeal.Facts] [hPre_down_finite : Cert.Pre_down_finite.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_down_finite m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v4_0)) (v1 : (c : Dev Cert.DownIdeal.nD) → Buf (Elt Ideal) ((c.tc : Thread Cert.DownIdeal.nD Cert.DownIdeal.τ).loc Cert.DownIdeal.main_v4_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4_0) = v0 c
          ∧ r.2.mem ((c.tc : Thread Cert.DownIdeal.nD Cert.DownIdeal.τ).loc Cert.DownIdeal.main_v4_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v40) = v0 c
          ∧ r.2.mem ((c.tc : Thread Cert.DownRefIdeal.nD Cert.DownRefIdeal.τ).loc Cert.DownRefIdeal.main_v41) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Pointwise_PointwiseIdeal : Prop :=
  True

def algebraic_PointwiseIdeal_PointwiseRefIdeal_pre_pointwise_finite [hPointwiseIdeal : Cert.PointwiseIdeal.Facts] [hPointwiseRefIdeal : Cert.PointwiseRefIdeal.Facts] [hPre_pointwise_finite : Cert.Pre_pointwise_finite.Facts] : Prop :=
  ∀ (m : (ℓ : Loc Cert.PointwiseIdeal.nD Cert.PointwiseIdeal.τ Cert.PointwiseIdeal.sig) → Buf (Elt Ideal) ℓ) (g : Dev Cert.PointwiseIdeal.nD → PrngReg)
    (m' : (ℓ : Loc Cert.PointwiseRefIdeal.nD Cert.PointwiseRefIdeal.τ Cert.PointwiseRefIdeal.sig) → Buf (Elt Ideal) ℓ) (g' : Dev Cert.PointwiseRefIdeal.nD → PrngReg), Pre_PointwiseIdeal_pointwise_finite m →
    (∀ c : Dev Cert.PointwiseIdeal.nD,
      m' ((c.tc : Thread Cert.PointwiseRefIdeal.nD Cert.PointwiseRefIdeal.τ).loc Cert.PointwiseRefIdeal.main_arg0) = m ((c.tc : Thread Cert.PointwiseIdeal.nD Cert.PointwiseIdeal.τ).loc Cert.PointwiseIdeal.main_arg0)
      ∧ m' ((c.tc : Thread Cert.PointwiseRefIdeal.nD Cert.PointwiseRefIdeal.τ).loc Cert.PointwiseRefIdeal.main_arg1) = m ((c.tc : Thread Cert.PointwiseIdeal.nD Cert.PointwiseIdeal.τ).loc Cert.PointwiseIdeal.main_arg1)
      ∧ m' ((c.tc : Thread Cert.PointwiseRefIdeal.nD Cert.PointwiseRefIdeal.τ).loc Cert.PointwiseRefIdeal.main_arg2) = m ((c.tc : Thread Cert.PointwiseIdeal.nD Cert.PointwiseIdeal.τ).loc Cert.PointwiseIdeal.main_arg2)
      ∧ m' ((c.tc : Thread Cert.PointwiseRefIdeal.nD Cert.PointwiseRefIdeal.τ).loc Cert.PointwiseRefIdeal.main_arg3) = m ((c.tc : Thread Cert.PointwiseIdeal.nD Cert.PointwiseIdeal.τ).loc Cert.PointwiseIdeal.main_arg3)
      ∧ m' ((c.tc : Thread Cert.PointwiseRefIdeal.nD Cert.PointwiseRefIdeal.τ).loc Cert.PointwiseRefIdeal.main_arg4) = m ((c.tc : Thread Cert.PointwiseIdeal.nD Cert.PointwiseIdeal.τ).loc Cert.PointwiseIdeal.main_arg4)
      ∧ m' ((c.tc : Thread Cert.PointwiseRefIdeal.nD Cert.PointwiseRefIdeal.τ).loc Cert.PointwiseRefIdeal.main_arg5) = m ((c.tc : Thread Cert.PointwiseIdeal.nD Cert.PointwiseIdeal.τ).loc Cert.PointwiseIdeal.main_arg5)) →
    ∃ (v0 : (c : Dev Cert.PointwiseIdeal.nD) → Buf (Elt Ideal) ((c.tc : Thread Cert.PointwiseIdeal.nD Cert.PointwiseIdeal.τ).loc Cert.PointwiseIdeal.main_v4_0)) (v1 : (c : Dev Cert.PointwiseIdeal.nD) → Buf (Elt Ideal) ((c.tc : Thread Cert.PointwiseIdeal.nD Cert.PointwiseIdeal.τ).loc Cert.PointwiseIdeal.main_v4_1)),
      θ_run (Cert.PointwiseIdeal.defs (F := Ideal)) (onTc (τ := Cert.PointwiseIdeal.τ) (Cert.PointwiseIdeal.main (F := Ideal))) ⟨m, fun _ => 0, g⟩ (fun r => ∀ c : Dev Cert.PointwiseIdeal.nD,
          r.2.mem ((c.tc : Thread Cert.PointwiseIdeal.nD Cert.PointwiseIdeal.τ).loc Cert.PointwiseIdeal.main_v4_0) = v0 c
          ∧ r.2.mem ((c.tc : Thread Cert.PointwiseIdeal.nD Cert.PointwiseIdeal.τ).loc Cert.PointwiseIdeal.main_v4_1) = v1 c
          ∧ r.2.mem ((c.tc : Thread Cert.PointwiseIdeal.nD Cert.PointwiseIdeal.τ).loc Cert.PointwiseIdeal.main_arg0) = m ((c.tc : Thread Cert.PointwiseIdeal.nD Cert.PointwiseIdeal.τ).loc Cert.PointwiseIdeal.main_arg0)
          ∧ r.2.mem ((c.tc : Thread Cert.PointwiseIdeal.nD Cert.PointwiseIdeal.τ).loc Cert.PointwiseIdeal.main_arg1) = m ((c.tc : Thread Cert.PointwiseIdeal.nD Cert.PointwiseIdeal.τ).loc Cert.PointwiseIdeal.main_arg1)
          ∧ r.2.mem ((c.tc : Thread Cert.PointwiseIdeal.nD Cert.PointwiseIdeal.τ).loc Cert.PointwiseIdeal.main_arg2) = m ((c.tc : Thread Cert.PointwiseIdeal.nD Cert.PointwiseIdeal.τ).loc Cert.PointwiseIdeal.main_arg2)
          ∧ r.2.mem ((c.tc : Thread Cert.PointwiseIdeal.nD Cert.PointwiseIdeal.τ).loc Cert.PointwiseIdeal.main_arg3) = m ((c.tc : Thread Cert.PointwiseIdeal.nD Cert.PointwiseIdeal.τ).loc Cert.PointwiseIdeal.main_arg3)
          ∧ r.2.mem ((c.tc : Thread Cert.PointwiseIdeal.nD Cert.PointwiseIdeal.τ).loc Cert.PointwiseIdeal.main_arg4) = m ((c.tc : Thread Cert.PointwiseIdeal.nD Cert.PointwiseIdeal.τ).loc Cert.PointwiseIdeal.main_arg4)
          ∧ r.2.mem ((c.tc : Thread Cert.PointwiseIdeal.nD Cert.PointwiseIdeal.τ).loc Cert.PointwiseIdeal.main_arg5) = m ((c.tc : Thread Cert.PointwiseIdeal.nD Cert.PointwiseIdeal.τ).loc Cert.PointwiseIdeal.main_arg5))
      ∧ θ_run (Cert.PointwiseRefIdeal.defs (F := Ideal)) (onTc (τ := Cert.PointwiseRefIdeal.τ) (Cert.PointwiseRefIdeal.main (F := Ideal))) ⟨m', fun _ => 0, g'⟩ (fun r => ∀ c : Dev Cert.PointwiseRefIdeal.nD,
          r.2.mem ((c.tc : Thread Cert.PointwiseRefIdeal.nD Cert.PointwiseRefIdeal.τ).loc Cert.PointwiseRefIdeal.main_v44) = v0 c
          ∧ r.2.mem ((c.tc : Thread Cert.PointwiseRefIdeal.nD Cert.PointwiseRefIdeal.τ).loc Cert.PointwiseRefIdeal.main_v45) = v1 c
          ∧ r.2.mem ((c.tc : Thread Cert.PointwiseRefIdeal.nD Cert.PointwiseRefIdeal.τ).loc Cert.PointwiseRefIdeal.main_arg0) = m' ((c.tc : Thread Cert.PointwiseRefIdeal.nD Cert.PointwiseRefIdeal.τ).loc Cert.PointwiseRefIdeal.main_arg0)
          ∧ r.2.mem ((c.tc : Thread Cert.PointwiseRefIdeal.nD Cert.PointwiseRefIdeal.τ).loc Cert.PointwiseRefIdeal.main_arg1) = m' ((c.tc : Thread Cert.PointwiseRefIdeal.nD Cert.PointwiseRefIdeal.τ).loc Cert.PointwiseRefIdeal.main_arg1)
          ∧ r.2.mem ((c.tc : Thread Cert.PointwiseRefIdeal.nD Cert.PointwiseRefIdeal.τ).loc Cert.PointwiseRefIdeal.main_arg2) = m' ((c.tc : Thread Cert.PointwiseRefIdeal.nD Cert.PointwiseRefIdeal.τ).loc Cert.PointwiseRefIdeal.main_arg2)
          ∧ r.2.mem ((c.tc : Thread Cert.PointwiseRefIdeal.nD Cert.PointwiseRefIdeal.τ).loc Cert.PointwiseRefIdeal.main_arg3) = m' ((c.tc : Thread Cert.PointwiseRefIdeal.nD Cert.PointwiseRefIdeal.τ).loc Cert.PointwiseRefIdeal.main_arg3)
          ∧ r.2.mem ((c.tc : Thread Cert.PointwiseRefIdeal.nD Cert.PointwiseRefIdeal.τ).loc Cert.PointwiseRefIdeal.main_arg4) = m' ((c.tc : Thread Cert.PointwiseRefIdeal.nD Cert.PointwiseRefIdeal.τ).loc Cert.PointwiseRefIdeal.main_arg4)
          ∧ r.2.mem ((c.tc : Thread Cert.PointwiseRefIdeal.nD Cert.PointwiseRefIdeal.τ).loc Cert.PointwiseRefIdeal.main_arg5) = m' ((c.tc : Thread Cert.PointwiseRefIdeal.nD Cert.PointwiseRefIdeal.τ).loc Cert.PointwiseRefIdeal.main_arg5))

def preserves_ConvNorm_ConvNormIdeal : Prop :=
  True

def algebraic_ConvNormIdeal_ConvNormRefIdeal_pre_convnorm_finite [hConvNormIdeal : Cert.ConvNormIdeal.Facts] [hConvNormRefIdeal : Cert.ConvNormRefIdeal.Facts] [hPre_convnorm_finite : Cert.Pre_convnorm_finite.Facts] : Prop :=
  ∀ (m : (ℓ : Loc Cert.ConvNormIdeal.nD Cert.ConvNormIdeal.τ Cert.ConvNormIdeal.sig) → Buf (Elt Ideal) ℓ) (g : Dev Cert.ConvNormIdeal.nD → PrngReg)
    (m' : (ℓ : Loc Cert.ConvNormRefIdeal.nD Cert.ConvNormRefIdeal.τ Cert.ConvNormRefIdeal.sig) → Buf (Elt Ideal) ℓ) (g' : Dev Cert.ConvNormRefIdeal.nD → PrngReg), Pre_ConvNormIdeal_convnorm_finite m →
    (∀ c : Dev Cert.ConvNormIdeal.nD,
      m' ((c.tc : Thread Cert.ConvNormRefIdeal.nD Cert.ConvNormRefIdeal.τ).loc Cert.ConvNormRefIdeal.main_arg0) = m ((c.tc : Thread Cert.ConvNormIdeal.nD Cert.ConvNormIdeal.τ).loc Cert.ConvNormIdeal.main_arg0)
      ∧ m' ((c.tc : Thread Cert.ConvNormRefIdeal.nD Cert.ConvNormRefIdeal.τ).loc Cert.ConvNormRefIdeal.main_arg1) = m ((c.tc : Thread Cert.ConvNormIdeal.nD Cert.ConvNormIdeal.τ).loc Cert.ConvNormIdeal.main_arg1)
      ∧ m' ((c.tc : Thread Cert.ConvNormRefIdeal.nD Cert.ConvNormRefIdeal.τ).loc Cert.ConvNormRefIdeal.main_arg2) = m ((c.tc : Thread Cert.ConvNormIdeal.nD Cert.ConvNormIdeal.τ).loc Cert.ConvNormIdeal.main_arg2)
      ∧ m' ((c.tc : Thread Cert.ConvNormRefIdeal.nD Cert.ConvNormRefIdeal.τ).loc Cert.ConvNormRefIdeal.main_arg3) = m ((c.tc : Thread Cert.ConvNormIdeal.nD Cert.ConvNormIdeal.τ).loc Cert.ConvNormIdeal.main_arg3)) →
    ∃ (v0 : (c : Dev Cert.ConvNormIdeal.nD) → Buf (Elt Ideal) ((c.tc : Thread Cert.ConvNormIdeal.nD Cert.ConvNormIdeal.τ).loc Cert.ConvNormIdeal.main_v2_0)) (v1 : (c : Dev Cert.ConvNormIdeal.nD) → Buf (Elt Ideal) ((c.tc : Thread Cert.ConvNormIdeal.nD Cert.ConvNormIdeal.τ).loc Cert.ConvNormIdeal.main_v2_1)),
      θ_run (Cert.ConvNormIdeal.defs (F := Ideal)) (onTc (τ := Cert.ConvNormIdeal.τ) (Cert.ConvNormIdeal.main (F := Ideal))) ⟨m, fun _ => 0, g⟩ (fun r => ∀ c : Dev Cert.ConvNormIdeal.nD,
          r.2.mem ((c.tc : Thread Cert.ConvNormIdeal.nD Cert.ConvNormIdeal.τ).loc Cert.ConvNormIdeal.main_v2_0) = v0 c
          ∧ r.2.mem ((c.tc : Thread Cert.ConvNormIdeal.nD Cert.ConvNormIdeal.τ).loc Cert.ConvNormIdeal.main_v2_1) = v1 c
          ∧ r.2.mem ((c.tc : Thread Cert.ConvNormIdeal.nD Cert.ConvNormIdeal.τ).loc Cert.ConvNormIdeal.main_arg0) = m ((c.tc : Thread Cert.ConvNormIdeal.nD Cert.ConvNormIdeal.τ).loc Cert.ConvNormIdeal.main_arg0)
          ∧ r.2.mem ((c.tc : Thread Cert.ConvNormIdeal.nD Cert.ConvNormIdeal.τ).loc Cert.ConvNormIdeal.main_arg1) = m ((c.tc : Thread Cert.ConvNormIdeal.nD Cert.ConvNormIdeal.τ).loc Cert.ConvNormIdeal.main_arg1)
          ∧ r.2.mem ((c.tc : Thread Cert.ConvNormIdeal.nD Cert.ConvNormIdeal.τ).loc Cert.ConvNormIdeal.main_arg2) = m ((c.tc : Thread Cert.ConvNormIdeal.nD Cert.ConvNormIdeal.τ).loc Cert.ConvNormIdeal.main_arg2)
          ∧ r.2.mem ((c.tc : Thread Cert.ConvNormIdeal.nD Cert.ConvNormIdeal.τ).loc Cert.ConvNormIdeal.main_arg3) = m ((c.tc : Thread Cert.ConvNormIdeal.nD Cert.ConvNormIdeal.τ).loc Cert.ConvNormIdeal.main_arg3))
      ∧ θ_run (Cert.ConvNormRefIdeal.defs (F := Ideal)) (onTc (τ := Cert.ConvNormRefIdeal.τ) (Cert.ConvNormRefIdeal.main (F := Ideal))) ⟨m', fun _ => 0, g'⟩ (fun r => ∀ c : Dev Cert.ConvNormRefIdeal.nD,
          r.2.mem ((c.tc : Thread Cert.ConvNormRefIdeal.nD Cert.ConvNormRefIdeal.τ).loc Cert.ConvNormRefIdeal.main_v40) = v0 c
          ∧ r.2.mem ((c.tc : Thread Cert.ConvNormRefIdeal.nD Cert.ConvNormRefIdeal.τ).loc Cert.ConvNormRefIdeal.main_v41) = v1 c
          ∧ r.2.mem ((c.tc : Thread Cert.ConvNormRefIdeal.nD Cert.ConvNormRefIdeal.τ).loc Cert.ConvNormRefIdeal.main_arg0) = m' ((c.tc : Thread Cert.ConvNormRefIdeal.nD Cert.ConvNormRefIdeal.τ).loc Cert.ConvNormRefIdeal.main_arg0)
          ∧ r.2.mem ((c.tc : Thread Cert.ConvNormRefIdeal.nD Cert.ConvNormRefIdeal.τ).loc Cert.ConvNormRefIdeal.main_arg1) = m' ((c.tc : Thread Cert.ConvNormRefIdeal.nD Cert.ConvNormRefIdeal.τ).loc Cert.ConvNormRefIdeal.main_arg1)
          ∧ r.2.mem ((c.tc : Thread Cert.ConvNormRefIdeal.nD Cert.ConvNormRefIdeal.τ).loc Cert.ConvNormRefIdeal.main_arg2) = m' ((c.tc : Thread Cert.ConvNormRefIdeal.nD Cert.ConvNormRefIdeal.τ).loc Cert.ConvNormRefIdeal.main_arg2)
          ∧ r.2.mem ((c.tc : Thread Cert.ConvNormRefIdeal.nD Cert.ConvNormRefIdeal.τ).loc Cert.ConvNormRefIdeal.main_arg3) = m' ((c.tc : Thread Cert.ConvNormRefIdeal.nD Cert.ConvNormRefIdeal.τ).loc Cert.ConvNormRefIdeal.main_arg3))

def preserves_ConvDw_ConvDwIdeal : Prop :=
  True

def preserves_Ffn_FfnIdeal : Prop :=
  True

def preserves_Qkv_QkvIdeal : Prop :=
  True

def preserves_Delta_DeltaIdeal : Prop :=
  True

def algebraic_DeltaIdeal_DeltaRefIdeal [hDeltaIdeal : Cert.DeltaIdeal.Facts] [hDeltaRefIdeal : Cert.DeltaRefIdeal.Facts] : Prop :=
  ∀ (m : (ℓ : Loc Cert.DeltaIdeal.nD Cert.DeltaIdeal.τ Cert.DeltaIdeal.sig) → Buf (Elt Ideal) ℓ) (g : Dev Cert.DeltaIdeal.nD → PrngReg)
    (m' : (ℓ : Loc Cert.DeltaRefIdeal.nD Cert.DeltaRefIdeal.τ Cert.DeltaRefIdeal.sig) → Buf (Elt Ideal) ℓ) (g' : Dev Cert.DeltaRefIdeal.nD → PrngReg), Pre_DeltaIdeal m →
    (∀ c : Dev Cert.DeltaIdeal.nD,
      m' ((c.tc : Thread Cert.DeltaRefIdeal.nD Cert.DeltaRefIdeal.τ).loc Cert.DeltaRefIdeal.main_arg0) = m ((c.tc : Thread Cert.DeltaIdeal.nD Cert.DeltaIdeal.τ).loc Cert.DeltaIdeal.main_arg0)
      ∧ m' ((c.tc : Thread Cert.DeltaRefIdeal.nD Cert.DeltaRefIdeal.τ).loc Cert.DeltaRefIdeal.main_arg1) = m ((c.tc : Thread Cert.DeltaIdeal.nD Cert.DeltaIdeal.τ).loc Cert.DeltaIdeal.main_arg1)) →
    ∃ (v0 : (c : Dev Cert.DeltaIdeal.nD) → Buf (Elt Ideal) ((c.tc : Thread Cert.DeltaIdeal.nD Cert.DeltaIdeal.τ).loc Cert.DeltaIdeal.main_v0)),
      θ_run (Cert.DeltaIdeal.defs (F := Ideal)) (onTc (τ := Cert.DeltaIdeal.τ) (Cert.DeltaIdeal.main (F := Ideal))) ⟨m, fun _ => 0, g⟩ (fun r => ∀ c : Dev Cert.DeltaIdeal.nD,
          r.2.mem ((c.tc : Thread Cert.DeltaIdeal.nD Cert.DeltaIdeal.τ).loc Cert.DeltaIdeal.main_v0) = v0 c
          ∧ r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
          ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1))
      ∧ θ_run (Cert.DeltaRefIdeal.defs (F := Ideal)) (onTc (τ := Cert.DeltaRefIdeal.τ) (Cert.DeltaRefIdeal.main (F := Ideal))) ⟨m', fun _ => 0, g'⟩ (fun r => ∀ c : Dev Cert.DeltaRefIdeal.nD,
          r.2.mem ((c.tc : Thread Cert.DeltaRefIdeal.nD Cert.DeltaRefIdeal.τ).loc Cert.DeltaRefIdeal.main_v7) = v0 c
          ∧ r.2.mem ((c.tc : Thread Cert.DeltaRefIdeal.nD Cert.DeltaRefIdeal.τ).loc Cert.DeltaRefIdeal.main_arg0) = m' ((c.tc : Thread Cert.DeltaRefIdeal.nD Cert.DeltaRefIdeal.τ).loc Cert.DeltaRefIdeal.main_arg0)
          ∧ r.2.mem ((c.tc : Thread Cert.DeltaRefIdeal.nD Cert.DeltaRefIdeal.τ).loc Cert.DeltaRefIdeal.main_arg1) = m' ((c.tc : Thread Cert.DeltaRefIdeal.nD Cert.DeltaRefIdeal.τ).loc Cert.DeltaRefIdeal.main_arg1))

def preserves_FlashFwd_FlashFwdIdeal : Prop :=
  IdealRules.named_const.Statement Cert.FlashFwdIdeal.κ "mask" .f32 0xF149F2CA#32 ⊥

def algebraic_FlashFwdIdeal_FlashFwdRefIdeal_pre_flashfwd_finite [hFlashFwdIdeal : Cert.FlashFwdIdeal.Facts] [hFlashFwdRefIdeal : Cert.FlashFwdRefIdeal.Facts] [hPre_flashfwd_finite : Cert.Pre_flashfwd_finite.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg)
    (m' : (ℓ : Loc Cert.FlashFwdRefIdeal.nD Cert.FlashFwdRefIdeal.τ Cert.FlashFwdRefIdeal.sig) → Buf (Elt Ideal) ℓ) (g' : Dev Cert.FlashFwdRefIdeal.nD → PrngReg), Pre_FlashFwdIdeal_flashfwd_finite m →
    (∀ c : Dev Cert.FlashFwdIdeal.nD,
      m' ((c.tc : Thread Cert.FlashFwdRefIdeal.nD Cert.FlashFwdRefIdeal.τ).loc Cert.FlashFwdRefIdeal.main_arg0) = m ((c.tc : Thread Cert.FlashFwdIdeal.nD Cert.FlashFwdIdeal.τ).loc Cert.FlashFwdIdeal.main_arg0)
      ∧ m' ((c.tc : Thread Cert.FlashFwdRefIdeal.nD Cert.FlashFwdRefIdeal.τ).loc Cert.FlashFwdRefIdeal.main_arg1) = m ((c.tc : Thread Cert.FlashFwdIdeal.nD Cert.FlashFwdIdeal.τ).loc Cert.FlashFwdIdeal.main_arg1)
      ∧ m' ((c.tc : Thread Cert.FlashFwdRefIdeal.nD Cert.FlashFwdRefIdeal.τ).loc Cert.FlashFwdRefIdeal.main_arg2) = m ((c.tc : Thread Cert.FlashFwdIdeal.nD Cert.FlashFwdIdeal.τ).loc Cert.FlashFwdIdeal.main_arg2)) →
    ∃ (v0 : (c : Dev Cert.FlashFwdIdeal.nD) → Buf (Elt Ideal) ((c.tc : Thread Cert.FlashFwdIdeal.nD Cert.FlashFwdIdeal.τ).loc Cert.FlashFwdIdeal.main_v2_0)) (v1 : (c : Dev Cert.FlashFwdIdeal.nD) → Buf (Elt Ideal) ((c.tc : Thread Cert.FlashFwdIdeal.nD Cert.FlashFwdIdeal.τ).loc Cert.FlashFwdIdeal.main_v2_1)),
      θ_run (Cert.FlashFwdIdeal.defs (F := Ideal)) (onTc (τ := Cert.FlashFwdIdeal.τ) (Cert.FlashFwdIdeal.main (F := Ideal))) ⟨m, fun _ => 0, g⟩ (fun r => ∀ c : Dev Cert.FlashFwdIdeal.nD,
          r.2.mem ((c.tc : Thread Cert.FlashFwdIdeal.nD Cert.FlashFwdIdeal.τ).loc Cert.FlashFwdIdeal.main_v2_0) = v0 c
          ∧ r.2.mem ((c.tc : Thread Cert.FlashFwdIdeal.nD Cert.FlashFwdIdeal.τ).loc Cert.FlashFwdIdeal.main_v2_1) = v1 c
          ∧ r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
          ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
          ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ θ_run (Cert.FlashFwdRefIdeal.defs (F := Ideal)) (onTc (τ := Cert.FlashFwdRefIdeal.τ) (Cert.FlashFwdRefIdeal.main (F := Ideal))) ⟨m', fun _ => 0, g'⟩ (fun r => ∀ c : Dev Cert.FlashFwdRefIdeal.nD,
          r.2.mem ((c.tc : Thread Cert.FlashFwdRefIdeal.nD Cert.FlashFwdRefIdeal.τ).loc Cert.FlashFwdRefIdeal.main_v35) = v0 c
          ∧ r.2.mem ((c.tc : Thread Cert.FlashFwdRefIdeal.nD Cert.FlashFwdRefIdeal.τ).loc Cert.FlashFwdRefIdeal.main_v37) = v1 c
          ∧ r.2.mem ((c.tc : Thread Cert.FlashFwdRefIdeal.nD Cert.FlashFwdRefIdeal.τ).loc Cert.FlashFwdRefIdeal.main_arg0) = m' ((c.tc : Thread Cert.FlashFwdRefIdeal.nD Cert.FlashFwdRefIdeal.τ).loc Cert.FlashFwdRefIdeal.main_arg0)
          ∧ r.2.mem ((c.tc : Thread Cert.FlashFwdRefIdeal.nD Cert.FlashFwdRefIdeal.τ).loc Cert.FlashFwdRefIdeal.main_arg1) = m' ((c.tc : Thread Cert.FlashFwdRefIdeal.nD Cert.FlashFwdRefIdeal.τ).loc Cert.FlashFwdRefIdeal.main_arg1)
          ∧ r.2.mem ((c.tc : Thread Cert.FlashFwdRefIdeal.nD Cert.FlashFwdRefIdeal.τ).loc Cert.FlashFwdRefIdeal.main_arg2) = m' ((c.tc : Thread Cert.FlashFwdRefIdeal.nD Cert.FlashFwdRefIdeal.τ).loc Cert.FlashFwdRefIdeal.main_arg2))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v2)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v2) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)) →
    ∃ (v0 : (c : Dev Cert.GluFwdIdeal.nD) → Buf (Elt Ideal) ((c.tc : Thread Cert.GluFwdIdeal.nD Cert.GluFwdIdeal.τ).loc Cert.GluFwdIdeal.main_v2_0)) (v1 : (c : Dev Cert.GluFwdIdeal.nD) → Buf (Elt Ideal) ((c.tc : Thread Cert.GluFwdIdeal.nD Cert.GluFwdIdeal.τ).loc Cert.GluFwdIdeal.main_v2_1)) (v2 : (c : Dev Cert.GluFwdIdeal.nD) → Buf (Elt Ideal) ((c.tc : Thread Cert.GluFwdIdeal.nD Cert.GluFwdIdeal.τ).loc Cert.GluFwdIdeal.main_v2_2)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v2_0) = v0 c
          ∧ r.2.mem ((c.tc : Thread Cert.GluFwdIdeal.nD Cert.GluFwdIdeal.τ).loc Cert.GluFwdIdeal.main_v2_1) = v1 c
          ∧ r.2.mem ((c.tc : Thread Cert.GluFwdIdeal.nD Cert.GluFwdIdeal.τ).loc Cert.GluFwdIdeal.main_v2_2) = v2 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v12) = v0 c
          ∧ r.2.mem ((c.tc : Thread Cert.GluFwdRefIdeal.nD Cert.GluFwdRefIdeal.τ).loc Cert.GluFwdRefIdeal.main_v13) = v1 c
          ∧ r.2.mem ((c.tc : Thread Cert.GluFwdRefIdeal.nD Cert.GluFwdRefIdeal.τ).loc Cert.GluFwdRefIdeal.main_v14) = v2 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v4_0)) (v1 : (c : Dev Cert.FfnFwdIdeal.nD) → Buf (Elt Ideal) ((c.tc : Thread Cert.FfnFwdIdeal.nD Cert.FfnFwdIdeal.τ).loc Cert.FfnFwdIdeal.main_v4_1)) (v2 : (c : Dev Cert.FfnFwdIdeal.nD) → Buf (Elt Ideal) ((c.tc : Thread Cert.FfnFwdIdeal.nD Cert.FfnFwdIdeal.τ).loc Cert.FfnFwdIdeal.main_v4_2)) (v3 : (c : Dev Cert.FfnFwdIdeal.nD) → Buf (Elt Ideal) ((c.tc : Thread Cert.FfnFwdIdeal.nD Cert.FfnFwdIdeal.τ).loc Cert.FfnFwdIdeal.main_v4_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v4_0) = v0 c
          ∧ r.2.mem ((c.tc : Thread Cert.FfnFwdIdeal.nD Cert.FfnFwdIdeal.τ).loc Cert.FfnFwdIdeal.main_v4_1) = v1 c
          ∧ r.2.mem ((c.tc : Thread Cert.FfnFwdIdeal.nD Cert.FfnFwdIdeal.τ).loc Cert.FfnFwdIdeal.main_v4_2) = v2 c
          ∧ r.2.mem ((c.tc : Thread Cert.FfnFwdIdeal.nD Cert.FfnFwdIdeal.τ).loc Cert.FfnFwdIdeal.main_v4_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v38) = v0 c
          ∧ r.2.mem ((c.tc : Thread Cert.FfnFwdRefIdeal.nD Cert.FfnFwdRefIdeal.τ).loc Cert.FfnFwdRefIdeal.main_v39) = v1 c
          ∧ r.2.mem ((c.tc : Thread Cert.FfnFwdRefIdeal.nD Cert.FfnFwdRefIdeal.τ).loc Cert.FfnFwdRefIdeal.main_v40) = v2 c
          ∧ r.2.mem ((c.tc : Thread Cert.FfnFwdRefIdeal.nD Cert.FfnFwdRefIdeal.τ).loc Cert.FfnFwdRefIdeal.main_v41) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_PrepFwd_PrepFwdIdeal : Prop :=
  True

def algebraic_PrepFwdIdeal_PrepFwdRefIdeal [hPrepFwdIdeal : Cert.PrepFwdIdeal.Facts] [hPrepFwdRefIdeal : Cert.PrepFwdRefIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg)
    (m' : (ℓ : Loc Cert.PrepFwdRefIdeal.nD Cert.PrepFwdRefIdeal.τ Cert.PrepFwdRefIdeal.sig) → Buf (Elt Ideal) ℓ) (g' : Dev Cert.PrepFwdRefIdeal.nD → PrngReg), Pre_PrepFwdIdeal m →
    (∀ c : Dev Cert.PrepFwdIdeal.nD,
      m' ((c.tc : Thread Cert.PrepFwdRefIdeal.nD Cert.PrepFwdRefIdeal.τ).loc Cert.PrepFwdRefIdeal.main_arg0) = m ((c.tc : Thread Cert.PrepFwdIdeal.nD Cert.PrepFwdIdeal.τ).loc Cert.PrepFwdIdeal.main_arg0)
      ∧ m' ((c.tc : Thread Cert.PrepFwdRefIdeal.nD Cert.PrepFwdRefIdeal.τ).loc Cert.PrepFwdRefIdeal.main_arg1) = m ((c.tc : Thread Cert.PrepFwdIdeal.nD Cert.PrepFwdIdeal.τ).loc Cert.PrepFwdIdeal.main_arg1)
      ∧ m' ((c.tc : Thread Cert.PrepFwdRefIdeal.nD Cert.PrepFwdRefIdeal.τ).loc Cert.PrepFwdRefIdeal.main_arg2) = m ((c.tc : Thread Cert.PrepFwdIdeal.nD Cert.PrepFwdIdeal.τ).loc Cert.PrepFwdIdeal.main_arg2)
      ∧ m' ((c.tc : Thread Cert.PrepFwdRefIdeal.nD Cert.PrepFwdRefIdeal.τ).loc Cert.PrepFwdRefIdeal.main_arg3) = m ((c.tc : Thread Cert.PrepFwdIdeal.nD Cert.PrepFwdIdeal.τ).loc Cert.PrepFwdIdeal.main_arg3)) →
    ∃ (v0 : (c : Dev Cert.PrepFwdIdeal.nD) → Buf (Elt Ideal) ((c.tc : Thread Cert.PrepFwdIdeal.nD Cert.PrepFwdIdeal.τ).loc Cert.PrepFwdIdeal.main_v22_0)) (v1 : (c : Dev Cert.PrepFwdIdeal.nD) → Buf (Elt Ideal) ((c.tc : Thread Cert.PrepFwdIdeal.nD Cert.PrepFwdIdeal.τ).loc Cert.PrepFwdIdeal.main_v22_1)) (v2 : (c : Dev Cert.PrepFwdIdeal.nD) → Buf (Elt Ideal) ((c.tc : Thread Cert.PrepFwdIdeal.nD Cert.PrepFwdIdeal.τ).loc Cert.PrepFwdIdeal.main_v22_2)),
      θ_run (Cert.PrepFwdIdeal.defs (F := Ideal)) (onTc (τ := Cert.PrepFwdIdeal.τ) (Cert.PrepFwdIdeal.main (F := Ideal))) ⟨m, fun _ => 0, g⟩ (fun r => ∀ c : Dev Cert.PrepFwdIdeal.nD,
          r.2.mem ((c.tc : Thread Cert.PrepFwdIdeal.nD Cert.PrepFwdIdeal.τ).loc Cert.PrepFwdIdeal.main_v22_0) = v0 c
          ∧ r.2.mem ((c.tc : Thread Cert.PrepFwdIdeal.nD Cert.PrepFwdIdeal.τ).loc Cert.PrepFwdIdeal.main_v22_1) = v1 c
          ∧ r.2.mem ((c.tc : Thread Cert.PrepFwdIdeal.nD Cert.PrepFwdIdeal.τ).loc Cert.PrepFwdIdeal.main_v22_2) = v2 c
          ∧ r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
          ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
          ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
          ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3))
      ∧ θ_run (Cert.PrepFwdRefIdeal.defs (F := Ideal)) (onTc (τ := Cert.PrepFwdRefIdeal.τ) (Cert.PrepFwdRefIdeal.main (F := Ideal))) ⟨m', fun _ => 0, g'⟩ (fun r => ∀ c : Dev Cert.PrepFwdRefIdeal.nD,
          r.2.mem ((c.tc : Thread Cert.PrepFwdRefIdeal.nD Cert.PrepFwdRefIdeal.τ).loc Cert.PrepFwdRefIdeal.main_v54) = v0 c
          ∧ r.2.mem ((c.tc : Thread Cert.PrepFwdRefIdeal.nD Cert.PrepFwdRefIdeal.τ).loc Cert.PrepFwdRefIdeal.main_v55) = v1 c
          ∧ r.2.mem ((c.tc : Thread Cert.PrepFwdRefIdeal.nD Cert.PrepFwdRefIdeal.τ).loc Cert.PrepFwdRefIdeal.main_v56) = v2 c
          ∧ r.2.mem ((c.tc : Thread Cert.PrepFwdRefIdeal.nD Cert.PrepFwdRefIdeal.τ).loc Cert.PrepFwdRefIdeal.main_arg0) = m' ((c.tc : Thread Cert.PrepFwdRefIdeal.nD Cert.PrepFwdRefIdeal.τ).loc Cert.PrepFwdRefIdeal.main_arg0)
          ∧ r.2.mem ((c.tc : Thread Cert.PrepFwdRefIdeal.nD Cert.PrepFwdRefIdeal.τ).loc Cert.PrepFwdRefIdeal.main_arg1) = m' ((c.tc : Thread Cert.PrepFwdRefIdeal.nD Cert.PrepFwdRefIdeal.τ).loc Cert.PrepFwdRefIdeal.main_arg1)
          ∧ r.2.mem ((c.tc : Thread Cert.PrepFwdRefIdeal.nD Cert.PrepFwdRefIdeal.τ).loc Cert.PrepFwdRefIdeal.main_arg2) = m' ((c.tc : Thread Cert.PrepFwdRefIdeal.nD Cert.PrepFwdRefIdeal.τ).loc Cert.PrepFwdRefIdeal.main_arg2)
          ∧ r.2.mem ((c.tc : Thread Cert.PrepFwdRefIdeal.nD Cert.PrepFwdRefIdeal.τ).loc Cert.PrepFwdRefIdeal.main_arg3) = m' ((c.tc : Thread Cert.PrepFwdRefIdeal.nD Cert.PrepFwdRefIdeal.τ).loc Cert.PrepFwdRefIdeal.main_arg3))

def preserves_QkvFwd_QkvFwdIdeal : Prop :=
  True

def algebraic_QkvFwdIdeal_QkvFwdRefIdeal [hQkvFwdIdeal : Cert.QkvFwdIdeal.Facts] [hQkvFwdRefIdeal : Cert.QkvFwdRefIdeal.Facts] : Prop :=
  ∀ (m : (ℓ : Loc Cert.QkvFwdIdeal.nD Cert.QkvFwdIdeal.τ Cert.QkvFwdIdeal.sig) → Buf (Elt Ideal) ℓ) (g : Dev Cert.QkvFwdIdeal.nD → PrngReg)
    (m' : (ℓ : Loc Cert.QkvFwdRefIdeal.nD Cert.QkvFwdRefIdeal.τ Cert.QkvFwdRefIdeal.sig) → Buf (Elt Ideal) ℓ) (g' : Dev Cert.QkvFwdRefIdeal.nD → PrngReg), Pre_QkvFwdIdeal m →
    (∀ c : Dev Cert.QkvFwdIdeal.nD,
      m' ((c.tc : Thread Cert.QkvFwdRefIdeal.nD Cert.QkvFwdRefIdeal.τ).loc Cert.QkvFwdRefIdeal.main_arg0) = m ((c.tc : Thread Cert.QkvFwdIdeal.nD Cert.QkvFwdIdeal.τ).loc Cert.QkvFwdIdeal.main_arg0)
      ∧ m' ((c.tc : Thread Cert.QkvFwdRefIdeal.nD Cert.QkvFwdRefIdeal.τ).loc Cert.QkvFwdRefIdeal.main_arg1) = m ((c.tc : Thread Cert.QkvFwdIdeal.nD Cert.QkvFwdIdeal.τ).loc Cert.QkvFwdIdeal.main_arg1)
      ∧ m' ((c.tc : Thread Cert.QkvFwdRefIdeal.nD Cert.QkvFwdRefIdeal.τ).loc Cert.QkvFwdRefIdeal.main_arg2) = m ((c.tc : Thread Cert.QkvFwdIdeal.nD Cert.QkvFwdIdeal.τ).loc Cert.QkvFwdIdeal.main_arg2)
      ∧ m' ((c.tc : Thread Cert.QkvFwdRefIdeal.nD Cert.QkvFwdRefIdeal.τ).loc Cert.QkvFwdRefIdeal.main_arg3) = m ((c.tc : Thread Cert.QkvFwdIdeal.nD Cert.QkvFwdIdeal.τ).loc Cert.QkvFwdIdeal.main_arg3)
      ∧ m' ((c.tc : Thread Cert.QkvFwdRefIdeal.nD Cert.QkvFwdRefIdeal.τ).loc Cert.QkvFwdRefIdeal.main_arg4) = m ((c.tc : Thread Cert.QkvFwdIdeal.nD Cert.QkvFwdIdeal.τ).loc Cert.QkvFwdIdeal.main_arg4)
      ∧ m' ((c.tc : Thread Cert.QkvFwdRefIdeal.nD Cert.QkvFwdRefIdeal.τ).loc Cert.QkvFwdRefIdeal.main_arg5) = m ((c.tc : Thread Cert.QkvFwdIdeal.nD Cert.QkvFwdIdeal.τ).loc Cert.QkvFwdIdeal.main_arg5)) →
    ∃ (v0 : (c : Dev Cert.QkvFwdIdeal.nD) → Buf (Elt Ideal) ((c.tc : Thread Cert.QkvFwdIdeal.nD Cert.QkvFwdIdeal.τ).loc Cert.QkvFwdIdeal.main_v23_0)) (v1 : (c : Dev Cert.QkvFwdIdeal.nD) → Buf (Elt Ideal) ((c.tc : Thread Cert.QkvFwdIdeal.nD Cert.QkvFwdIdeal.τ).loc Cert.QkvFwdIdeal.main_v23_1)) (v2 : (c : Dev Cert.QkvFwdIdeal.nD) → Buf (Elt Ideal) ((c.tc : Thread Cert.QkvFwdIdeal.nD Cert.QkvFwdIdeal.τ).loc Cert.QkvFwdIdeal.main_v23_2)),
      θ_run (Cert.QkvFwdIdeal.defs (F := Ideal)) (onTc (τ := Cert.QkvFwdIdeal.τ) (Cert.QkvFwdIdeal.main (F := Ideal))) ⟨m, fun _ => 0, g⟩ (fun r => ∀ c : Dev Cert.QkvFwdIdeal.nD,
          r.2.mem ((c.tc : Thread Cert.QkvFwdIdeal.nD Cert.QkvFwdIdeal.τ).loc Cert.QkvFwdIdeal.main_v23_0) = v0 c
          ∧ r.2.mem ((c.tc : Thread Cert.QkvFwdIdeal.nD Cert.QkvFwdIdeal.τ).loc Cert.QkvFwdIdeal.main_v23_1) = v1 c
          ∧ r.2.mem ((c.tc : Thread Cert.QkvFwdIdeal.nD Cert.QkvFwdIdeal.τ).loc Cert.QkvFwdIdeal.main_v23_2) = v2 c
          ∧ r.2.mem ((c.tc : Thread Cert.QkvFwdIdeal.nD Cert.QkvFwdIdeal.τ).loc Cert.QkvFwdIdeal.main_arg0) = m ((c.tc : Thread Cert.QkvFwdIdeal.nD Cert.QkvFwdIdeal.τ).loc Cert.QkvFwdIdeal.main_arg0)
          ∧ r.2.mem ((c.tc : Thread Cert.QkvFwdIdeal.nD Cert.QkvFwdIdeal.τ).loc Cert.QkvFwdIdeal.main_arg1) = m ((c.tc : Thread Cert.QkvFwdIdeal.nD Cert.QkvFwdIdeal.τ).loc Cert.QkvFwdIdeal.main_arg1)
          ∧ r.2.mem ((c.tc : Thread Cert.QkvFwdIdeal.nD Cert.QkvFwdIdeal.τ).loc Cert.QkvFwdIdeal.main_arg2) = m ((c.tc : Thread Cert.QkvFwdIdeal.nD Cert.QkvFwdIdeal.τ).loc Cert.QkvFwdIdeal.main_arg2)
          ∧ r.2.mem ((c.tc : Thread Cert.QkvFwdIdeal.nD Cert.QkvFwdIdeal.τ).loc Cert.QkvFwdIdeal.main_arg3) = m ((c.tc : Thread Cert.QkvFwdIdeal.nD Cert.QkvFwdIdeal.τ).loc Cert.QkvFwdIdeal.main_arg3)
          ∧ r.2.mem ((c.tc : Thread Cert.QkvFwdIdeal.nD Cert.QkvFwdIdeal.τ).loc Cert.QkvFwdIdeal.main_arg4) = m ((c.tc : Thread Cert.QkvFwdIdeal.nD Cert.QkvFwdIdeal.τ).loc Cert.QkvFwdIdeal.main_arg4)
          ∧ r.2.mem ((c.tc : Thread Cert.QkvFwdIdeal.nD Cert.QkvFwdIdeal.τ).loc Cert.QkvFwdIdeal.main_arg5) = m ((c.tc : Thread Cert.QkvFwdIdeal.nD Cert.QkvFwdIdeal.τ).loc Cert.QkvFwdIdeal.main_arg5))
      ∧ θ_run (Cert.QkvFwdRefIdeal.defs (F := Ideal)) (onTc (τ := Cert.QkvFwdRefIdeal.τ) (Cert.QkvFwdRefIdeal.main (F := Ideal))) ⟨m', fun _ => 0, g'⟩ (fun r => ∀ c : Dev Cert.QkvFwdRefIdeal.nD,
          r.2.mem ((c.tc : Thread Cert.QkvFwdRefIdeal.nD Cert.QkvFwdRefIdeal.τ).loc Cert.QkvFwdRefIdeal.main_v52) = v0 c
          ∧ r.2.mem ((c.tc : Thread Cert.QkvFwdRefIdeal.nD Cert.QkvFwdRefIdeal.τ).loc Cert.QkvFwdRefIdeal.main_v53) = v1 c
          ∧ r.2.mem ((c.tc : Thread Cert.QkvFwdRefIdeal.nD Cert.QkvFwdRefIdeal.τ).loc Cert.QkvFwdRefIdeal.main_v54) = v2 c
          ∧ r.2.mem ((c.tc : Thread Cert.QkvFwdRefIdeal.nD Cert.QkvFwdRefIdeal.τ).loc Cert.QkvFwdRefIdeal.main_arg0) = m' ((c.tc : Thread Cert.QkvFwdRefIdeal.nD Cert.QkvFwdRefIdeal.τ).loc Cert.QkvFwdRefIdeal.main_arg0)
          ∧ r.2.mem ((c.tc : Thread Cert.QkvFwdRefIdeal.nD Cert.QkvFwdRefIdeal.τ).loc Cert.QkvFwdRefIdeal.main_arg1) = m' ((c.tc : Thread Cert.QkvFwdRefIdeal.nD Cert.QkvFwdRefIdeal.τ).loc Cert.QkvFwdRefIdeal.main_arg1)
          ∧ r.2.mem ((c.tc : Thread Cert.QkvFwdRefIdeal.nD Cert.QkvFwdRefIdeal.τ).loc Cert.QkvFwdRefIdeal.main_arg2) = m' ((c.tc : Thread Cert.QkvFwdRefIdeal.nD Cert.QkvFwdRefIdeal.τ).loc Cert.QkvFwdRefIdeal.main_arg2)
          ∧ r.2.mem ((c.tc : Thread Cert.QkvFwdRefIdeal.nD Cert.QkvFwdRefIdeal.τ).loc Cert.QkvFwdRefIdeal.main_arg3) = m' ((c.tc : Thread Cert.QkvFwdRefIdeal.nD Cert.QkvFwdRefIdeal.τ).loc Cert.QkvFwdRefIdeal.main_arg3)
          ∧ r.2.mem ((c.tc : Thread Cert.QkvFwdRefIdeal.nD Cert.QkvFwdRefIdeal.τ).loc Cert.QkvFwdRefIdeal.main_arg4) = m' ((c.tc : Thread Cert.QkvFwdRefIdeal.nD Cert.QkvFwdRefIdeal.τ).loc Cert.QkvFwdRefIdeal.main_arg4)
          ∧ r.2.mem ((c.tc : Thread Cert.QkvFwdRefIdeal.nD Cert.QkvFwdRefIdeal.τ).loc Cert.QkvFwdRefIdeal.main_arg5) = m' ((c.tc : Thread Cert.QkvFwdRefIdeal.nD Cert.QkvFwdRefIdeal.τ).loc Cert.QkvFwdRefIdeal.main_arg5))

def preserves_Product_ProductIdeal : Prop :=
  True

def algebraic_ProductIdeal_ProductRefIdeal [hProductIdeal : Cert.ProductIdeal.Facts] [hProductRefIdeal : Cert.ProductRefIdeal.Facts] : Prop :=
  ∀ (m : (ℓ : Loc Cert.ProductIdeal.nD Cert.ProductIdeal.τ Cert.ProductIdeal.sig) → Buf (Elt Ideal) ℓ) (g : Dev Cert.ProductIdeal.nD → PrngReg)
    (m' : (ℓ : Loc Cert.ProductRefIdeal.nD Cert.ProductRefIdeal.τ Cert.ProductRefIdeal.sig) → Buf (Elt Ideal) ℓ) (g' : Dev Cert.ProductRefIdeal.nD → PrngReg), Pre_ProductIdeal m →
    (∀ c : Dev Cert.ProductIdeal.nD,
      m' ((c.tc : Thread Cert.ProductRefIdeal.nD Cert.ProductRefIdeal.τ).loc Cert.ProductRefIdeal.main_arg0) = m ((c.tc : Thread Cert.ProductIdeal.nD Cert.ProductIdeal.τ).loc Cert.ProductIdeal.main_arg0)
      ∧ m' ((c.tc : Thread Cert.ProductRefIdeal.nD Cert.ProductRefIdeal.τ).loc Cert.ProductRefIdeal.main_arg1) = m ((c.tc : Thread Cert.ProductIdeal.nD Cert.ProductIdeal.τ).loc Cert.ProductIdeal.main_arg1)
      ∧ m' ((c.tc : Thread Cert.ProductRefIdeal.nD Cert.ProductRefIdeal.τ).loc Cert.ProductRefIdeal.main_arg2) = m ((c.tc : Thread Cert.ProductIdeal.nD Cert.ProductIdeal.τ).loc Cert.ProductIdeal.main_arg2)) →
    ∃ (v0 : (c : Dev Cert.ProductIdeal.nD) → Buf (Elt Ideal) ((c.tc : Thread Cert.ProductIdeal.nD Cert.ProductIdeal.τ).loc Cert.ProductIdeal.main_v0)),
      θ_run (Cert.ProductIdeal.defs (F := Ideal)) (onTc (τ := Cert.ProductIdeal.τ) (Cert.ProductIdeal.main (F := Ideal))) ⟨m, fun _ => 0, g⟩ (fun r => ∀ c : Dev Cert.ProductIdeal.nD,
          r.2.mem ((c.tc : Thread Cert.ProductIdeal.nD Cert.ProductIdeal.τ).loc Cert.ProductIdeal.main_v0) = v0 c
          ∧ r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
          ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1)
          ∧ r.2.mem ((c.tc : Thread Cert.ProductIdeal.nD Cert.ProductIdeal.τ).loc Cert.ProductIdeal.main_arg2) = m ((c.tc : Thread Cert.ProductIdeal.nD Cert.ProductIdeal.τ).loc Cert.ProductIdeal.main_arg2))
      ∧ θ_run (Cert.ProductRefIdeal.defs (F := Ideal)) (onTc (τ := Cert.ProductRefIdeal.τ) (Cert.ProductRefIdeal.main (F := Ideal))) ⟨m', fun _ => 0, g'⟩ (fun r => ∀ c : Dev Cert.ProductRefIdeal.nD,
          r.2.mem ((c.tc : Thread Cert.ProductRefIdeal.nD Cert.ProductRefIdeal.τ).loc Cert.ProductRefIdeal.main_v3) = v0 c
          ∧ r.2.mem ((c.tc : Thread Cert.ProductRefIdeal.nD Cert.ProductRefIdeal.τ).loc Cert.ProductRefIdeal.main_arg0) = m' ((c.tc : Thread Cert.ProductRefIdeal.nD Cert.ProductRefIdeal.τ).loc Cert.ProductRefIdeal.main_arg0)
          ∧ r.2.mem ((c.tc : Thread Cert.ProductRefIdeal.nD Cert.ProductRefIdeal.τ).loc Cert.ProductRefIdeal.main_arg1) = m' ((c.tc : Thread Cert.ProductRefIdeal.nD Cert.ProductRefIdeal.τ).loc Cert.ProductRefIdeal.main_arg1)
          ∧ r.2.mem ((c.tc : Thread Cert.ProductRefIdeal.nD Cert.ProductRefIdeal.τ).loc Cert.ProductRefIdeal.main_arg2) = m' ((c.tc : Thread Cert.ProductRefIdeal.nD Cert.ProductRefIdeal.τ).loc Cert.ProductRefIdeal.main_arg2))

def preserves_WeightGrad_WeightGradIdeal : Prop :=
  True

def algebraic_WeightGradIdeal_WeightGradRefIdeal [hWeightGradIdeal : Cert.WeightGradIdeal.Facts] [hWeightGradRefIdeal : Cert.WeightGradRefIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg)
    (m' : (ℓ : Loc Cert.WeightGradRefIdeal.nD Cert.WeightGradRefIdeal.τ Cert.WeightGradRefIdeal.sig) → Buf (Elt Ideal) ℓ) (g' : Dev Cert.WeightGradRefIdeal.nD → PrngReg), Pre_WeightGradIdeal m →
    (∀ c : Dev Cert.WeightGradIdeal.nD,
      m' ((c.tc : Thread Cert.WeightGradRefIdeal.nD Cert.WeightGradRefIdeal.τ).loc Cert.WeightGradRefIdeal.main_arg0) = m ((c.tc : Thread Cert.WeightGradIdeal.nD Cert.WeightGradIdeal.τ).loc Cert.WeightGradIdeal.main_arg0)
      ∧ m' ((c.tc : Thread Cert.WeightGradRefIdeal.nD Cert.WeightGradRefIdeal.τ).loc Cert.WeightGradRefIdeal.main_arg1) = m ((c.tc : Thread Cert.WeightGradIdeal.nD Cert.WeightGradIdeal.τ).loc Cert.WeightGradIdeal.main_arg1)) →
    ∃ (v0 : (c : Dev Cert.WeightGradIdeal.nD) → Buf (Elt Ideal) ((c.tc : Thread Cert.WeightGradIdeal.nD Cert.WeightGradIdeal.τ).loc Cert.WeightGradIdeal.main_v0)),
      θ_run (Cert.WeightGradIdeal.defs (F := Ideal)) (onTc (τ := Cert.WeightGradIdeal.τ) (Cert.WeightGradIdeal.main (F := Ideal))) ⟨m, fun _ => 0, g⟩ (fun r => ∀ c : Dev Cert.WeightGradIdeal.nD,
          r.2.mem ((c.tc : Thread Cert.WeightGradIdeal.nD Cert.WeightGradIdeal.τ).loc Cert.WeightGradIdeal.main_v0) = v0 c
          ∧ r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
          ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ θ_run (Cert.WeightGradRefIdeal.defs (F := Ideal)) (onTc (τ := Cert.WeightGradRefIdeal.τ) (Cert.WeightGradRefIdeal.main (F := Ideal))) ⟨m', fun _ => 0, g'⟩ (fun r => ∀ c : Dev Cert.WeightGradRefIdeal.nD,
          r.2.mem ((c.tc : Thread Cert.WeightGradRefIdeal.nD Cert.WeightGradRefIdeal.τ).loc Cert.WeightGradRefIdeal.main_v4) = v0 c
          ∧ r.2.mem ((c.tc : Thread Cert.WeightGradRefIdeal.nD Cert.WeightGradRefIdeal.τ).loc Cert.WeightGradRefIdeal.main_arg0) = m' ((c.tc : Thread Cert.WeightGradRefIdeal.nD Cert.WeightGradRefIdeal.τ).loc Cert.WeightGradRefIdeal.main_arg0)
          ∧ r.2.mem ((c.tc : Thread Cert.WeightGradRefIdeal.nD Cert.WeightGradRefIdeal.τ).loc Cert.WeightGradRefIdeal.main_arg1) = m' ((c.tc : Thread Cert.WeightGradRefIdeal.nD Cert.WeightGradRefIdeal.τ).loc Cert.WeightGradRefIdeal.main_arg1))

def preserves_SumDevices_SumDevicesIdeal : Prop :=
  True

def algebraic_SumDevicesIdeal_SumDevicesRefIdeal [hSumDevicesIdeal : Cert.SumDevicesIdeal.Facts] [hSumDevicesRefIdeal : Cert.SumDevicesRefIdeal.Facts] : Prop :=
  ∀ (m : (ℓ : Loc Cert.SumDevicesIdeal.nD Cert.SumDevicesIdeal.τ Cert.SumDevicesIdeal.sig) → Buf (Elt Ideal) ℓ) (g : Dev Cert.SumDevicesIdeal.nD → PrngReg)
    (m' : (ℓ : Loc Cert.SumDevicesRefIdeal.nD Cert.SumDevicesRefIdeal.τ Cert.SumDevicesRefIdeal.sig) → Buf (Elt Ideal) ℓ) (g' : Dev Cert.SumDevicesRefIdeal.nD → PrngReg), Pre_SumDevicesIdeal m →
    (∀ c : Dev Cert.SumDevicesIdeal.nD,
      m' ((c.tc : Thread Cert.SumDevicesRefIdeal.nD Cert.SumDevicesRefIdeal.τ).loc Cert.SumDevicesRefIdeal.main_arg0) = m ((c.tc : Thread Cert.SumDevicesIdeal.nD Cert.SumDevicesIdeal.τ).loc Cert.SumDevicesIdeal.main_arg0)) →
    ∃ (v0 : (c : Dev Cert.SumDevicesIdeal.nD) → Buf (Elt Ideal) ((c.tc : Thread Cert.SumDevicesIdeal.nD Cert.SumDevicesIdeal.τ).loc Cert.SumDevicesIdeal.main_v0)),
      θ_run (Cert.SumDevicesIdeal.defs (F := Ideal)) (onTc (τ := Cert.SumDevicesIdeal.τ) (Cert.SumDevicesIdeal.main (F := Ideal))) ⟨m, fun _ => 0, g⟩ (fun r => ∀ c : Dev Cert.SumDevicesIdeal.nD,
          r.2.mem ((c.tc : Thread Cert.SumDevicesIdeal.nD Cert.SumDevicesIdeal.τ).loc Cert.SumDevicesIdeal.main_v0) = v0 c
          ∧ r.2.mem ((c.tc : Thread Cert.SumDevicesIdeal.nD Cert.SumDevicesIdeal.τ).loc Cert.SumDevicesIdeal.main_arg0) = m ((c.tc : Thread Cert.SumDevicesIdeal.nD Cert.SumDevicesIdeal.τ).loc Cert.SumDevicesIdeal.main_arg0))
      ∧ θ_run (Cert.SumDevicesRefIdeal.defs (F := Ideal)) (onTc (τ := Cert.SumDevicesRefIdeal.τ) (Cert.SumDevicesRefIdeal.main (F := Ideal))) ⟨m', fun _ => 0, g'⟩ (fun r => ∀ c : Dev Cert.SumDevicesRefIdeal.nD,
          r.2.mem ((c.tc : Thread Cert.SumDevicesRefIdeal.nD Cert.SumDevicesRefIdeal.τ).loc Cert.SumDevicesRefIdeal.main_v0) = v0 c
          ∧ r.2.mem ((c.tc : Thread Cert.SumDevicesRefIdeal.nD Cert.SumDevicesRefIdeal.τ).loc Cert.SumDevicesRefIdeal.main_arg0) = m' ((c.tc : Thread Cert.SumDevicesRefIdeal.nD Cert.SumDevicesRefIdeal.τ).loc Cert.SumDevicesRefIdeal.main_arg0))

def preserves_SumSlots_SumSlotsIdeal : Prop :=
  True

def algebraic_SumSlotsIdeal_SumSlotsRefIdeal [hSumSlotsIdeal : Cert.SumSlotsIdeal.Facts] [hSumSlotsRefIdeal : Cert.SumSlotsRefIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg)
    (m' : (ℓ : Loc Cert.SumSlotsRefIdeal.nD Cert.SumSlotsRefIdeal.τ Cert.SumSlotsRefIdeal.sig) → Buf (Elt Ideal) ℓ) (g' : Dev Cert.SumSlotsRefIdeal.nD → PrngReg), Pre_SumSlotsIdeal m →
    (∀ c : Dev Cert.SumSlotsIdeal.nD,
      m' ((c.tc : Thread Cert.SumSlotsRefIdeal.nD Cert.SumSlotsRefIdeal.τ).loc Cert.SumSlotsRefIdeal.main_arg0) = m ((c.tc : Thread Cert.SumSlotsIdeal.nD Cert.SumSlotsIdeal.τ).loc Cert.SumSlotsIdeal.main_arg0)) →
    ∃ (v0 : (c : Dev Cert.SumSlotsIdeal.nD) → Buf (Elt Ideal) ((c.tc : Thread Cert.SumSlotsIdeal.nD Cert.SumSlotsIdeal.τ).loc Cert.SumSlotsIdeal.main_v0)),
      θ_run (Cert.SumSlotsIdeal.defs (F := Ideal)) (onTc (τ := Cert.SumSlotsIdeal.τ) (Cert.SumSlotsIdeal.main (F := Ideal))) ⟨m, fun _ => 0, g⟩ (fun r => ∀ c : Dev Cert.SumSlotsIdeal.nD,
          r.2.mem ((c.tc : Thread Cert.SumSlotsIdeal.nD Cert.SumSlotsIdeal.τ).loc Cert.SumSlotsIdeal.main_v0) = v0 c
          ∧ r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ θ_run (Cert.SumSlotsRefIdeal.defs (F := Ideal)) (onTc (τ := Cert.SumSlotsRefIdeal.τ) (Cert.SumSlotsRefIdeal.main (F := Ideal))) ⟨m', fun _ => 0, g'⟩ (fun r => ∀ c : Dev Cert.SumSlotsRefIdeal.nD,
          r.2.mem ((c.tc : Thread Cert.SumSlotsRefIdeal.nD Cert.SumSlotsRefIdeal.τ).loc Cert.SumSlotsRefIdeal.main_v2) = v0 c
          ∧ r.2.mem ((c.tc : Thread Cert.SumSlotsRefIdeal.nD Cert.SumSlotsRefIdeal.τ).loc Cert.SumSlotsRefIdeal.main_arg0) = m' ((c.tc : Thread Cert.SumSlotsRefIdeal.nD Cert.SumSlotsRefIdeal.τ).loc Cert.SumSlotsRefIdeal.main_arg0))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)
      ∧ m' ((c.tc : Thread Cert.AdamwRefIdeal.nD Cert.AdamwRefIdeal.τ).loc Cert.AdamwRefIdeal.main_arg4) = m ((c.tc : Thread Cert.AdamwIdeal.nD Cert.AdamwIdeal.τ).loc Cert.AdamwIdeal.main_arg4)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
          ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v2) = v0 c
          ∧ r.2.mem ((c.tc : Thread Cert.AdamwRefIdeal.nD Cert.AdamwRefIdeal.τ).loc Cert.AdamwRefIdeal.main_v26) = v1 c
          ∧ r.2.mem ((c.tc : Thread Cert.AdamwRefIdeal.nD Cert.AdamwRefIdeal.τ).loc Cert.AdamwRefIdeal.main_v7) = v2 c
          ∧ r.2.mem ((c.tc : Thread Cert.AdamwRefIdeal.nD Cert.AdamwRefIdeal.τ).loc Cert.AdamwRefIdeal.main_v13) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3)
          ∧ r.2.mem ((c.tc : Thread Cert.AdamwRefIdeal.nD Cert.AdamwRefIdeal.τ).loc Cert.AdamwRefIdeal.main_arg4) = m' ((c.tc : Thread Cert.AdamwRefIdeal.nD Cert.AdamwRefIdeal.τ).loc Cert.AdamwRefIdeal.main_arg4))

def Claim : Prop :=
  ∃ (hLoss : Cert.Loss.Facts) (hLossIdeal : Cert.LossIdeal.Facts) (hLossRefIdeal : Cert.LossRefIdeal.Facts) (hFlash : Cert.Flash.Facts) (hFlashIdeal : Cert.FlashIdeal.Facts) (hFlashRefIdeal : Cert.FlashRefIdeal.Facts) (hPrep : Cert.Prep.Facts) (hPrepIdeal : Cert.PrepIdeal.Facts) (hPrepRefIdeal : Cert.PrepRefIdeal.Facts) (hDown : Cert.Down.Facts) (hDownIdeal : Cert.DownIdeal.Facts) (hDownRefIdeal : Cert.DownRefIdeal.Facts) (hPointwise : Cert.Pointwise.Facts) (hPointwiseIdeal : Cert.PointwiseIdeal.Facts) (hPointwiseRefIdeal : Cert.PointwiseRefIdeal.Facts) (hConvNorm : Cert.ConvNorm.Facts) (hConvNormIdeal : Cert.ConvNormIdeal.Facts) (hConvNormRefIdeal : Cert.ConvNormRefIdeal.Facts) (hConvDw : Cert.ConvDw.Facts) (hConvDwIdeal : Cert.ConvDwIdeal.Facts) (hConvDwRefIdeal : Cert.ConvDwRefIdeal.Facts) (hFfn : Cert.Ffn.Facts) (hFfnIdeal : Cert.FfnIdeal.Facts) (hFfnRefIdeal : Cert.FfnRefIdeal.Facts) (hQkv : Cert.Qkv.Facts) (hQkvIdeal : Cert.QkvIdeal.Facts) (hQkvRefIdeal : Cert.QkvRefIdeal.Facts) (hDelta : Cert.Delta.Facts) (hDeltaIdeal : Cert.DeltaIdeal.Facts) (hDeltaRefIdeal : Cert.DeltaRefIdeal.Facts) (hFlashFwd : Cert.FlashFwd.Facts) (hFlashFwdIdeal : Cert.FlashFwdIdeal.Facts) (hFlashFwdRefIdeal : Cert.FlashFwdRefIdeal.Facts) (hNormFwd : Cert.NormFwd.Facts) (hNormFwdIdeal : Cert.NormFwdIdeal.Facts) (hNormFwdRefIdeal : Cert.NormFwdRefIdeal.Facts) (hGluFwd : Cert.GluFwd.Facts) (hGluFwdIdeal : Cert.GluFwdIdeal.Facts) (hGluFwdRefIdeal : Cert.GluFwdRefIdeal.Facts) (hFfnFwd : Cert.FfnFwd.Facts) (hFfnFwdIdeal : Cert.FfnFwdIdeal.Facts) (hFfnFwdRefIdeal : Cert.FfnFwdRefIdeal.Facts) (hPrepFwd : Cert.PrepFwd.Facts) (hPrepFwdIdeal : Cert.PrepFwdIdeal.Facts) (hPrepFwdRefIdeal : Cert.PrepFwdRefIdeal.Facts) (hQkvFwd : Cert.QkvFwd.Facts) (hQkvFwdIdeal : Cert.QkvFwdIdeal.Facts) (hQkvFwdRefIdeal : Cert.QkvFwdRefIdeal.Facts) (hProduct : Cert.Product.Facts) (hProductIdeal : Cert.ProductIdeal.Facts) (hProductRefIdeal : Cert.ProductRefIdeal.Facts) (hWeightGrad : Cert.WeightGrad.Facts) (hWeightGradIdeal : Cert.WeightGradIdeal.Facts) (hWeightGradRefIdeal : Cert.WeightGradRefIdeal.Facts) (hSumDevices : Cert.SumDevices.Facts) (hSumDevicesIdeal : Cert.SumDevicesIdeal.Facts) (hSumDevicesRefIdeal : Cert.SumDevicesRefIdeal.Facts) (hSumSlots : Cert.SumSlots.Facts) (hSumSlotsIdeal : Cert.SumSlotsIdeal.Facts) (hSumSlotsRefIdeal : Cert.SumSlotsRefIdeal.Facts) (hAdamw : Cert.Adamw.Facts) (hAdamwIdeal : Cert.AdamwIdeal.Facts) (hAdamwRefIdeal : Cert.AdamwRefIdeal.Facts) (hPre_loss_finite : Cert.Pre_loss_finite.Facts) (hPre_flash_finite : Cert.Pre_flash_finite.Facts) (hPre_prep_finite : Cert.Pre_prep_finite.Facts) (hPre_down_finite : Cert.Pre_down_finite.Facts) (hPre_pointwise_finite : Cert.Pre_pointwise_finite.Facts) (hPre_convnorm_finite : Cert.Pre_convnorm_finite.Facts) (hPre_flashfwd_finite : Cert.Pre_flashfwd_finite.Facts),
    quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Flash (hFlash := hFlash)
    ∧ quiescent_FlashIdeal (hFlashIdeal := hFlashIdeal)
    ∧ quiescent_FlashIdeal_pre_flash_finite (hFlashIdeal := hFlashIdeal) (hPre_flash_finite := hPre_flash_finite)
    ∧ quiescent_FlashRefIdeal (hFlashRefIdeal := hFlashRefIdeal)
    ∧ quiescent_FlashRefIdeal_pre_flash_finite (hFlashRefIdeal := hFlashRefIdeal) (hPre_flash_finite := hPre_flash_finite)
    ∧ quiescent_Prep (hPrep := hPrep)
    ∧ quiescent_PrepIdeal (hPrepIdeal := hPrepIdeal)
    ∧ quiescent_PrepIdeal_pre_prep_finite (hPrepIdeal := hPrepIdeal) (hPre_prep_finite := hPre_prep_finite)
    ∧ quiescent_PrepRefIdeal (hPrepRefIdeal := hPrepRefIdeal)
    ∧ quiescent_PrepRefIdeal_pre_prep_finite (hPrepRefIdeal := hPrepRefIdeal) (hPre_prep_finite := hPre_prep_finite)
    ∧ quiescent_Down (hDown := hDown)
    ∧ quiescent_DownIdeal (hDownIdeal := hDownIdeal)
    ∧ quiescent_DownIdeal_pre_down_finite (hDownIdeal := hDownIdeal) (hPre_down_finite := hPre_down_finite)
    ∧ quiescent_DownRefIdeal (hDownRefIdeal := hDownRefIdeal)
    ∧ quiescent_DownRefIdeal_pre_down_finite (hDownRefIdeal := hDownRefIdeal) (hPre_down_finite := hPre_down_finite)
    ∧ quiescent_Pointwise (hPointwise := hPointwise)
    ∧ quiescent_PointwiseIdeal (hPointwiseIdeal := hPointwiseIdeal)
    ∧ quiescent_PointwiseIdeal_pre_pointwise_finite (hPointwiseIdeal := hPointwiseIdeal) (hPre_pointwise_finite := hPre_pointwise_finite)
    ∧ quiescent_PointwiseRefIdeal (hPointwiseRefIdeal := hPointwiseRefIdeal)
    ∧ quiescent_PointwiseRefIdeal_pre_pointwise_finite (hPointwiseRefIdeal := hPointwiseRefIdeal) (hPre_pointwise_finite := hPre_pointwise_finite)
    ∧ quiescent_ConvNorm (hConvNorm := hConvNorm)
    ∧ quiescent_ConvNormIdeal (hConvNormIdeal := hConvNormIdeal)
    ∧ quiescent_ConvNormIdeal_pre_convnorm_finite (hConvNormIdeal := hConvNormIdeal) (hPre_convnorm_finite := hPre_convnorm_finite)
    ∧ quiescent_ConvNormRefIdeal (hConvNormRefIdeal := hConvNormRefIdeal)
    ∧ quiescent_ConvNormRefIdeal_pre_convnorm_finite (hConvNormRefIdeal := hConvNormRefIdeal) (hPre_convnorm_finite := hPre_convnorm_finite)
    ∧ quiescent_ConvDw (hConvDw := hConvDw)
    ∧ quiescent_ConvDwIdeal (hConvDwIdeal := hConvDwIdeal)
    ∧ quiescent_ConvDwRefIdeal (hConvDwRefIdeal := hConvDwRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Delta (hDelta := hDelta)
    ∧ quiescent_DeltaIdeal (hDeltaIdeal := hDeltaIdeal)
    ∧ quiescent_DeltaRefIdeal (hDeltaRefIdeal := hDeltaRefIdeal)
    ∧ quiescent_FlashFwd (hFlashFwd := hFlashFwd)
    ∧ quiescent_FlashFwdIdeal (hFlashFwdIdeal := hFlashFwdIdeal)
    ∧ quiescent_FlashFwdIdeal_pre_flashfwd_finite (hFlashFwdIdeal := hFlashFwdIdeal) (hPre_flashfwd_finite := hPre_flashfwd_finite)
    ∧ quiescent_FlashFwdRefIdeal (hFlashFwdRefIdeal := hFlashFwdRefIdeal)
    ∧ quiescent_FlashFwdRefIdeal_pre_flashfwd_finite (hFlashFwdRefIdeal := hFlashFwdRefIdeal) (hPre_flashfwd_finite := hPre_flashfwd_finite)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_PrepFwd (hPrepFwd := hPrepFwd)
    ∧ quiescent_PrepFwdIdeal (hPrepFwdIdeal := hPrepFwdIdeal)
    ∧ quiescent_PrepFwdRefIdeal (hPrepFwdRefIdeal := hPrepFwdRefIdeal)
    ∧ quiescent_QkvFwd (hQkvFwd := hQkvFwd)
    ∧ quiescent_QkvFwdIdeal (hQkvFwdIdeal := hQkvFwdIdeal)
    ∧ quiescent_QkvFwdRefIdeal (hQkvFwdRefIdeal := hQkvFwdRefIdeal)
    ∧ quiescent_Product (hProduct := hProduct)
    ∧ quiescent_ProductIdeal (hProductIdeal := hProductIdeal)
    ∧ quiescent_ProductRefIdeal (hProductRefIdeal := hProductRefIdeal)
    ∧ quiescent_WeightGrad (hWeightGrad := hWeightGrad)
    ∧ quiescent_WeightGradIdeal (hWeightGradIdeal := hWeightGradIdeal)
    ∧ quiescent_WeightGradRefIdeal (hWeightGradRefIdeal := hWeightGradRefIdeal)
    ∧ quiescent_SumDevices (hSumDevices := hSumDevices)
    ∧ quiescent_SumDevicesIdeal (hSumDevicesIdeal := hSumDevicesIdeal)
    ∧ quiescent_SumDevicesRefIdeal (hSumDevicesRefIdeal := hSumDevicesRefIdeal)
    ∧ quiescent_SumSlots (hSumSlots := hSumSlots)
    ∧ quiescent_SumSlotsIdeal (hSumSlotsIdeal := hSumSlotsIdeal)
    ∧ quiescent_SumSlotsRefIdeal (hSumSlotsRefIdeal := hSumSlotsRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Flash_FlashIdeal
    ∧ algebraic_FlashIdeal_FlashRefIdeal_pre_flash_finite (hFlashIdeal := hFlashIdeal) (hFlashRefIdeal := hFlashRefIdeal) (hPre_flash_finite := hPre_flash_finite)
    ∧ preserves_Prep_PrepIdeal
    ∧ algebraic_PrepIdeal_PrepRefIdeal_pre_prep_finite (hPrepIdeal := hPrepIdeal) (hPrepRefIdeal := hPrepRefIdeal) (hPre_prep_finite := hPre_prep_finite)
    ∧ preserves_Down_DownIdeal
    ∧ algebraic_DownIdeal_DownRefIdeal_pre_down_finite (hDownIdeal := hDownIdeal) (hDownRefIdeal := hDownRefIdeal) (hPre_down_finite := hPre_down_finite)
    ∧ preserves_Pointwise_PointwiseIdeal
    ∧ algebraic_PointwiseIdeal_PointwiseRefIdeal_pre_pointwise_finite (hPointwiseIdeal := hPointwiseIdeal) (hPointwiseRefIdeal := hPointwiseRefIdeal) (hPre_pointwise_finite := hPre_pointwise_finite)
    ∧ preserves_ConvNorm_ConvNormIdeal
    ∧ algebraic_ConvNormIdeal_ConvNormRefIdeal_pre_convnorm_finite (hConvNormIdeal := hConvNormIdeal) (hConvNormRefIdeal := hConvNormRefIdeal) (hPre_convnorm_finite := hPre_convnorm_finite)
    ∧ preserves_ConvDw_ConvDwIdeal
    ∧ preserves_Ffn_FfnIdeal
    ∧ preserves_Qkv_QkvIdeal
    ∧ preserves_Delta_DeltaIdeal
    ∧ algebraic_DeltaIdeal_DeltaRefIdeal (hDeltaIdeal := hDeltaIdeal) (hDeltaRefIdeal := hDeltaRefIdeal)
    ∧ preserves_FlashFwd_FlashFwdIdeal
    ∧ algebraic_FlashFwdIdeal_FlashFwdRefIdeal_pre_flashfwd_finite (hFlashFwdIdeal := hFlashFwdIdeal) (hFlashFwdRefIdeal := hFlashFwdRefIdeal) (hPre_flashfwd_finite := hPre_flashfwd_finite)
    ∧ preserves_NormFwd_NormFwdIdeal
    ∧ algebraic_NormFwdIdeal_NormFwdRefIdeal (hNormFwdIdeal := hNormFwdIdeal) (hNormFwdRefIdeal := hNormFwdRefIdeal)
    ∧ preserves_GluFwd_GluFwdIdeal
    ∧ algebraic_GluFwdIdeal_GluFwdRefIdeal (hGluFwdIdeal := hGluFwdIdeal) (hGluFwdRefIdeal := hGluFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_PrepFwd_PrepFwdIdeal
    ∧ algebraic_PrepFwdIdeal_PrepFwdRefIdeal (hPrepFwdIdeal := hPrepFwdIdeal) (hPrepFwdRefIdeal := hPrepFwdRefIdeal)
    ∧ preserves_QkvFwd_QkvFwdIdeal
    ∧ algebraic_QkvFwdIdeal_QkvFwdRefIdeal (hQkvFwdIdeal := hQkvFwdIdeal) (hQkvFwdRefIdeal := hQkvFwdRefIdeal)
    ∧ preserves_Product_ProductIdeal
    ∧ algebraic_ProductIdeal_ProductRefIdeal (hProductIdeal := hProductIdeal) (hProductRefIdeal := hProductRefIdeal)
    ∧ preserves_WeightGrad_WeightGradIdeal
    ∧ algebraic_WeightGradIdeal_WeightGradRefIdeal (hWeightGradIdeal := hWeightGradIdeal) (hWeightGradRefIdeal := hWeightGradRefIdeal)
    ∧ preserves_SumDevices_SumDevicesIdeal
    ∧ algebraic_SumDevicesIdeal_SumDevicesRefIdeal (hSumDevicesIdeal := hSumDevicesIdeal) (hSumDevicesRefIdeal := hSumDevicesRefIdeal)
    ∧ preserves_SumSlots_SumSlotsIdeal
    ∧ algebraic_SumSlotsIdeal_SumSlotsRefIdeal (hSumSlotsIdeal := hSumSlotsIdeal) (hSumSlotsRefIdeal := hSumSlotsRefIdeal)
    ∧ preserves_Adamw_AdamwIdeal
    ∧ algebraic_AdamwIdeal_AdamwRefIdeal (hAdamwIdeal := hAdamwIdeal) (hAdamwRefIdeal := hAdamwRefIdeal)
-- ==== Pre_convnorm_finite.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bitsLt_bf16_f32 : FTy.bits .bf16 < FTy.bits .f32
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S8192x1024 .f32) (main_arg2 : FVec F S1024 .f32) (main_arg3 : FVec F S1024x1024 .bf16) : IVec S8192x1024 1 × IVec S8192x1024 1 × IVec S1024 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x1024 .f32 := (extf .f32 · bitsLt_bf16_f32) main_arg3
  let main_v10 : FVec F S1024x1024 .f32 := Host.absf main_v9
  let main_cst_2 : FVec F S_ .f32 := constant S_ .f32 0x7F800000#32
  let main_v11 : FVec F S1024x1024 .f32 := broadcastInDim S1024x1024 ![] bcast_S_S1024x1024 main_cst_2
  let main_v12 : IVec S1024x1024 1 := cmpf .olt main_v10 main_v11
  (main_v2, main_v5, main_v8, main_v12)
-- ==== Pre_down_finite.lean ====
abbrev S8192x1024 : Shape := ⟨2, ![8192, 1024]⟩
abbrev S1024 : Shape := ⟨1, ![1024]⟩
abbrev S1024x832 : Shape := ⟨2, ![1024, 832]⟩
abbrev S8192x832 : Shape := ⟨2, ![8192, 832]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bitsLt_bf16_f32 : FTy.bits .bf16 < FTy.bits .f32
  bcast_S_S1024x832 : S_.BroadcastsInDim S1024x832 (![] : Fin 0 → Fin S1024x832.rank)
  bcast_S_S8192x832 : S_.BroadcastsInDim S8192x832 (![] : Fin 0 → Fin S8192x832.rank)

variable [Facts]

def fn {F : FTy → Type} [FloatOps F] (main_arg0 : FVec F S8192x1024 .f32) (main_arg1 : FVec F S1024 .f32) (main_arg2 : FVec F S1024x832 .bf16) (main_arg3 : FVec F S8192x1024 .f32) (main_arg4 : FVec F S8192x832 .bf16) : IVec S8192x1024 1 × IVec S1024 1 × IVec S1024x832 1 × IVec S8192x832 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x832 .f32 := (extf .f32 · bitsLt_bf16_f32) main_arg2
  let main_v7 : FVec F S1024x832 .f32 := Host.absf main_v6
  let main_cst_1 : FVec F S_ .f32 := constant S_ .f32 0x7F800000#32
  let main_v8 : FVec F S1024x832 .f32 := broadcastInDim S1024x832 ![] bcast_S_S1024x832 main_cst_1
  let main_v9 : IVec S1024x832 1 := cmpf .olt main_v7 main_v8
  let main_v10 : FVec F S8192x832 .f32 := (extf .f32 · bitsLt_bf16_f32) main_arg4
  let main_v11 : FVec F S8192x832 .f32 := Host.absf main_v10
  let main_cst_2 : FVec F S_ .f32 := constant S_ .f32 0x7F800000#32
  let main_v12 : FVec F S8192x832 .f32 := broadcastInDim S8192x832 ![] bcast_S_S8192x832 main_cst_2
  let main_v13 : IVec S8192x832 1 := cmpf .olt main_v11 main_v12
  (main_v2, main_v5, main_v9, main_v13)
-- ==== Pre_flash_finite.lean ====
abbrev S8x8192x192 : Shape := ⟨3, ![8, 8192, 192]⟩
abbrev S8x8192x128 : Shape := ⟨3, ![8, 8192, 128]⟩
abbrev S_ : Shape := ⟨0, ![]⟩

class Facts : Prop where
  bitsLt_bf16_f32 : FTy.bits .bf16 < FTy.bits .f32
  bcast_S_S8x8192x192 : S_.BroadcastsInDim S8x8192x192 (![] : Fin 0 → Fin S8x8192x192.rank)
  bcast_S_S8x8192x128 : S_.BroadcastsInDim S8x8192x128 (![] : Fin 0 → Fin S8x8192x128.rank)

variable [Facts]

def fn {F : FTy → Type} [FloatOps F] (main_arg0 : FVec F S8x8192x192 .bf16) (main_arg1 : FVec F S8x8192x192 .bf16) (main_arg2 : FVec F S8x8192x128 .bf16) (main_arg3 : FVec F S8x8192x128 .bf16) : IVec S8x8192x192 1 × IVec S8x8192x192 1 × IVec S8x8192x128 1 × IVec S8x8192x128 1 :=
  let main_v0 : FVec F S8x8192x192 .f32 := (extf .f32 · bitsLt_bf16_f32) main_arg0
  let main_v1 : FVec F S8x8192x192 .f32 := Host.absf main_v0
  let main_cst : FVec F S_ .f32 := constant S_ .f32 0x7F800000#32
  let main_v2 : FVec F S8x8192x192 .f32 := broadcastInDim S8x8192x192 ![] bcast_S_S8x8192x192 main_cst
  let main_v3 : IVec S8x8192x192 1 := cmpf .olt main_v1 main_v2
  let main_v4 : FVec F S8x8192x192 .f32 := (extf .f32 · bitsLt_bf16_f32) main_arg1
  let main_v5 : FVec F S8x8192x192 .f32 := Host.absf main_v4
  let main_cst_0 : FVec F S_ .f32 := constant S_ .f32 0x7F800000#32
  let main_v6 : FVec F S8x8192x192 .f32 := broadcastInDim S8x8192x192 ![] bcast_S_S8x8192x192 main_cst_0
  let main_v7 : IVec S8x8192x192 1 := cmpf .olt main_v5 main_v6
  let main_v8 : FVec F S8x8192x128 .f32 := (extf .f32 · bitsLt_bf16_f32) main_arg2
  let main_v9 : FVec F S8x8192x128 .f32 := Host.absf main_v8
  let main_cst_1 : FVec F S_ .f32 := constant S_ .f32 0x7F800000#32
  let main_v10 : FVec F S8x8192x128 .f32 := broadcastInDim S8x8192x128 ![] bcast_S_S8x8192x128 main_cst_1
  let main_v11 : IVec S8x8192x128 1 := cmpf .olt main_v9 main_v10
  let main_v12 : FVec F S8x8192x128 .f32 := (extf .f32 · bitsLt_bf16_f32) main_arg3
  let main_v13 : FVec F S8x8192x128 .f32 := Host.absf main_v12
  let main_cst_2 : FVec F S_ .f32 := constant S_ .f32 0x7F800000#32
  let main_v14 : FVec F S8x8192x128 .f32 := broadcastInDim S8x8192x128 ![] bcast_S_S8x8192x128 main_cst_2
  let main_v15 : IVec S8x8192x128 1 := cmpf .olt main_v13 main_v14
  (main_v3, main_v7, main_v11, main_v15)
-- ==== Pre_flashfwd_finite.lean ====
abbrev S8x8192x192 : Shape := ⟨3, ![8, 8192, 192]⟩
abbrev S8x8192x128 : Shape := ⟨3, ![8, 8192, 128]⟩
abbrev S_ : Shape := ⟨0, ![]⟩

class Facts : Prop where
  bitsLt_bf16_f32 : FTy.bits .bf16 < FTy.bits .f32
  bcast_S_S8x8192x192 : S_.BroadcastsInDim S8x8192x192 (![] : Fin 0 → Fin S8x8192x192.rank)
  bcast_S_S8x8192x128 : S_.BroadcastsInDim S8x8192x128 (![] : Fin 0 → Fin S8x8192x128.rank)

variable [Facts]

def fn {F : FTy → Type} [FloatOps F] (main_arg0 : FVec F S8x8192x192 .bf16) (main_arg1 : FVec F S8x8192x192 .bf16) (main_arg2 : FVec F S8x8192x128 .bf16) : IVec S8x8192x192 1 × IVec S8x8192x192 1 × IVec S8x8192x128 1 :=
  let main_v0 : FVec F S8x8192x192 .f32 := (extf .f32 · bitsLt_bf16_f32) main_arg0
  let main_v1 : FVec F S8x8192x192 .f32 := Host.absf main_v0
  let main_cst : FVec F S_ .f32 := constant S_ .f32 0x7F800000#32
  let main_v2 : FVec F S8x8192x192 .f32 := broadcastInDim S8x8192x192 ![] bcast_S_S8x8192x192 main_cst
  let main_v3 : IVec S8x8192x192 1 := cmpf .olt main_v1 main_v2
  let main_v4 : FVec F S8x8192x192 .f32 := (extf .f32 · bitsLt_bf16_f32) main_arg1
  let main_v5 : FVec F S8x8192x192 .f32 := Host.absf main_v4
  let main_cst_0 : FVec F S_ .f32 := constant S_ .f32 0x7F800000#32
  let main_v6 : FVec F S8x8192x192 .f32 := broadcastInDim S8x8192x192 ![] bcast_S_S8x8192x192 main_cst_0
  let main_v7 : IVec S8x8192x192 1 := cmpf .olt main_v5 main_v6
  let main_v8 : FVec F S8x8192x128 .f32 := (extf .f32 · bitsLt_bf16_f32) main_arg2
  let main_v9 : FVec F S8x8192x128 .f32 := Host.absf main_v8
  let main_cst_1 : FVec F S_ .f32 := constant S_ .f32 0x7F800000#32
  let main_v10 : FVec F S8x8192x128 .f32 := broadcastInDim S8x8192x128 ![] bcast_S_S8x8192x128 main_cst_1
  let main_v11 : IVec S8x8192x128 1 := cmpf .olt main_v9 main_v10
  (main_v3, main_v7, main_v11)
-- ==== Pre_loss_finite.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S8192x1024 .f32) (main_arg2 : FVec F S1024 .f32) : IVec S8192x1024 1 × IVec S8192x1024 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Pre_pointwise_finite.lean ====
abbrev S8192x1024 : Shape := ⟨2, ![8192, 1024]⟩
abbrev S1024 : Shape := ⟨1, ![1024]⟩
abbrev S1024x2048 : Shape := ⟨2, ![1024, 2048]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bitsLt_bf16_f32 : FTy.bits .bf16 < FTy.bits .f32
  bcast_S_S1024x2048 : S_.BroadcastsInDim S1024x2048 (![] : Fin 0 → Fin S1024x2048.rank)

variable [Facts]

def fn {F : FTy → Type} [FloatOps F] (main_arg0 : FVec F S8192x1024 .f32) (main_arg1 : FVec F S1024 .f32) (main_arg2 : FVec F S1024x2048 .bf16) (main_arg3 : FVec F S8192x1024 .f32) (main_arg4 : FVec F S8192x1024 .bf16) (main_arg5 : FVec F S8192x1024 .bf16) : IVec S8192x1024 1 × IVec S1024 1 × IVec S1024x2048 1 × IVec S8192x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2048 .f32 := (extf .f32 · bitsLt_bf16_f32) main_arg2
  let main_v7 : FVec F S1024x2048 .f32 := Host.absf main_v6
  let main_cst_1 : FVec F S_ .f32 := constant S_ .f32 0x7F800000#32
  let main_v8 : FVec F S1024x2048 .f32 := broadcastInDim S1024x2048 ![] bcast_S_S1024x2048 main_cst_1
  let main_v9 : IVec S1024x2048 1 := cmpf .olt main_v7 main_v8
  let main_v10 : FVec F S8192x1024 .f32 := (extf .f32 · bitsLt_bf16_f32) main_arg4
  let main_v11 : FVec F S8192x1024 .f32 := Host.absf main_v10
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_v14 : FVec F S8192x1024 .f32 := (extf .f32 · bitsLt_bf16_f32) main_arg5
  let main_v15 : FVec F S8192x1024 .f32 := Host.absf main_v14
  let main_cst_3 : FVec F S_ .f32 := constant S_ .f32 0x7F800000#32
  let main_v16 : FVec F S8192x1024 .f32 := broadcastInDim S8192x1024 ![] bcast_S_S8192x1024 main_cst_3
  let main_v17 : IVec S8192x1024 1 := cmpf .olt main_v15 main_v16
  (main_v2, main_v5, main_v9, main_v13, main_v17)
-- ==== Pre_prep_finite.lean ====
abbrev S8192x832 : Shape := ⟨2, ![8192, 832]⟩
abbrev S8192x512 : Shape := ⟨2, ![8192, 512]⟩
abbrev S8192x256 : Shape := ⟨2, ![8192, 256]⟩
abbrev S8192x64 : Shape := ⟨2, ![8192, 64]⟩
abbrev S512 : Shape := ⟨1, ![512]⟩
abbrev S256 : Shape := ⟨1, ![256]⟩
abbrev S_ : Shape := ⟨0, ![]⟩

class Facts : Prop where
  bcast_S_S8192x832 : S_.BroadcastsInDim S8192x832 (![] : Fin 0 → Fin S8192x832.rank)
  bcast_S_S8192x512 : S_.BroadcastsInDim S8192x512 (![] : Fin 0 → Fin S8192x512.rank)
  bcast_S_S8192x256 : S_.BroadcastsInDim S8192x256 (![] : Fin 0 → Fin S8192x256.rank)
  bcast_S_S512 : S_.BroadcastsInDim S512 (![] : Fin 0 → Fin S512.rank)
  bcast_S_S256 : S_.BroadcastsInDim S256 (![] : Fin 0 → Fin S256.rank)

variable [Facts]

def fn {F : FTy → Type} [FloatOps F] (main_arg0 : FVec F S8192x832 .f32) (main_arg1 : FVec F S8192x512 .f32) (main_arg2 : FVec F S8192x256 .f32) (main_arg3 : FVec F S8192x64 .f32) (main_arg4 : FVec F S512 .f32) (main_arg5 : FVec F S256 .f32) : IVec S8192x832 1 × IVec S8192x512 1 × IVec S8192x256 1 × IVec S512 1 × IVec S256 1 :=
  let main_v0 : FVec F S8192x832 .f32 := Host.absf main_arg0
  let main_cst : FVec F S_ .f32 := constant S_ .f32 0x7F800000#32
  let main_v1 : FVec F S8192x832 .f32 := broadcastInDim S8192x832 ![] bcast_S_S8192x832 main_cst
  let main_v2 : IVec S8192x832 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x256 .f32 := Host.absf main_arg2
  let main_cst_1 : FVec F S_ .f32 := constant S_ .f32 0x7F800000#32
  let main_v7 : FVec F S8192x256 .f32 := broadcastInDim S8192x256 ![] bcast_S_S8192x256 main_cst_1
  let main_v8 : IVec S8192x256 1 := cmpf .olt main_v6 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S256 .f32 := Host.absf main_arg5
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  (main_v2, main_v5, main_v8, main_v11, main_v14)
-- ==== Loss.lean ====
abbrev S8192x1024 : Shape := ⟨2, ![8192, 1024]⟩
abbrev S1024 : Shape := ⟨1, ![1024]⟩
abbrev S1x1024 : Shape := ⟨2, ![1, 1024]⟩
abbrev S8x1024 : Shape := ⟨2, ![8, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S8192x1024, .f32⟩
  | .hbm, ⟨5, _⟩ => ⟨S8x1024, .f32⟩
  | .hbm, ⟨6, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8x1024, .f32⟩
  | .hbm, ⟨72, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Flash.lean ====
abbrev S8x8192x192 : Shape := ⟨3, ![8, 8192, 192]⟩
abbrev S8x8192x128 : Shape := ⟨3, ![8, 8192, 128]⟩
abbrev S8x8192x8192 : Shape := ⟨3, ![8, 8192, 8192]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8192x8x128 : Shape := ⟨3, ![8192, 8, 128]⟩
abbrev S8192x1024 : Shape := ⟨2, ![8192, 1024]⟩
abbrev S8x8192x256 : Shape := ⟨3, ![8, 8192, 256]⟩
abbrev S8x16x1x512 : Shape := ⟨4, ![8, 16, 1, 512]⟩
abbrev S8x16x8x512 : Shape := ⟨4, ![8, 16, 8, 512]⟩
abbrev S1x8192x256 : Shape := ⟨3, ![1, 8192, 256]⟩
abbrev S1x512x256 : Shape := ⟨3, ![1, 512, 256]⟩
abbrev S1x512x128 : Shape := ⟨3, ![1, 512, 128]⟩
abbrev S8192x128 : Shape := ⟨2, ![8192, 128]⟩
abbrev S1x16x8x512 : Shape := ⟨4, ![1, 16, 8, 512]⟩
abbrev S8192x256 : Shape := ⟨2, ![8192, 256]⟩
abbrev S512x256 : Shape := ⟨2, ![512, 256]⟩
abbrev S128x512 : Shape := ⟨2, ![128, 512]⟩
abbrev S512x128 : Shape := ⟨2, ![512, 128]⟩
abbrev S512x512 : Shape := ⟨2, ![512, 512]⟩
abbrev S1x1x8x512 : Shape := ⟨4, ![1, 1, 8, 512]⟩
abbrev S8x512 : Shape := ⟨2, ![8, 512]⟩
abbrev S1x512 : Shape := ⟨2, ![1, 512]⟩

abbrev nBuf : Space → Nat
  | .hbm => 72
  | .vmem => 21
  | .smem => 0
  | _ => 0

abbrev bufTy : (tb : Table) → Fin (tcTables nBuf tb) → BufTy
  | .hbm, ⟨0, _⟩ => ⟨S8x8192x192, .bf16⟩
  | .hbm, ⟨1, _⟩ => ⟨S8x8192x192, .bf16⟩
  | .hbm, ⟨2, _⟩ => ⟨S8x8192x128, .bf16⟩
  | .hbm, ⟨3, _⟩ => ⟨S8x8192x128, .bf16⟩
  | .hbm, ⟨4, _⟩ => ⟨S8x8192x192, .f32⟩
  | .hbm, ⟨5, _⟩ => ⟨S8x8192x192, .f32⟩
  | .hbm, ⟨6, _⟩ => ⟨S8x8192x8192, .f32⟩
  | .hbm, ⟨7, _⟩ => ⟨S8192, .i32⟩
  | .hbm, ⟨8, _⟩ => ⟨S_, .i32⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S1x8192, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S1x8192x8192, .i1⟩
  | .hbm, ⟨32, _⟩ => ⟨S_, .f32⟩
  | .hbm, ⟨33, _⟩ => ⟨S_, .f32⟩
  | .hbm, ⟨34, _⟩ => ⟨S8x8192x8192, .i1⟩
  | .hbm, ⟨35, _⟩ => ⟨S8x8192x8192, .f32⟩
  | .hbm, ⟨36, _⟩ => ⟨S8x8192x8192, .f32⟩
  | .hbm, ⟨37, _⟩ => ⟨S_, .f32⟩
  | .hbm, ⟨38, _⟩ => ⟨S8x8192, .f32⟩
  | .hbm, ⟨39, _⟩ => ⟨S8x8192x1, .f32⟩
  | .hbm, ⟨40, _⟩ => ⟨S8x8192x8192, .f32⟩
  | .hbm, ⟨41, _⟩ => ⟨S8x8192x8192, .f32⟩
  | .hbm, ⟨42, _⟩ => ⟨S8x8192x8192, .f32⟩
  | .hbm, ⟨43, _⟩ => ⟨S_, .f32⟩
  | .hbm, ⟨44, _⟩ => ⟨S8x8192, .f32⟩
  | .hbm, ⟨45, _⟩ => ⟨S8x8192x1, .f32⟩
  | .hbm, ⟨46, _⟩ => ⟨S8x8192x1, .f32⟩
  | .hbm, ⟨47, _⟩ => ⟨S8x8192x1, .f32⟩
  | .hbm, ⟨48, _⟩ => ⟨S8x8192, .f32⟩
  | .hbm, ⟨49, _⟩ => ⟨S8x8192x8192, .f32⟩
  | .hbm, ⟨50, _⟩ => ⟨S8x8192x8192, .f32⟩
  | .hbm, ⟨51, _⟩ => ⟨S8x8192x128, .f32⟩
  | .hbm, ⟨52, _⟩ => ⟨S8x8192x128, .f32⟩
  | .hbm, ⟨53, _⟩ => ⟨S8x8192x128, .f32⟩
  | .hbm, ⟨54, _⟩ => ⟨S8x8192x128, .f32⟩
  | .hbm, ⟨55, _⟩ => ⟨S_, .f32⟩
  | .hbm, ⟨56, _⟩ => ⟨S8x8192, .f32⟩
  | .hbm, ⟨57, _⟩ => ⟨S8192x8x128, .bf16⟩
  | .hbm, ⟨58, _⟩ => ⟨S8192x1024, .bf16⟩
  | .hbm, ⟨59, _⟩ => ⟨S_, .i32⟩
  | .hbm, ⟨60, _⟩ => ⟨S_, .bf16⟩
  | .hbm, ⟨61, _⟩ => ⟨S8x8192x256, .bf16⟩
  | .hbm, ⟨62, _⟩ => ⟨S_, .i32⟩
  | .hbm, ⟨63, _⟩ => ⟨S_, .bf16⟩
  | .hbm, ⟨64, _⟩ => ⟨S8x8192x256, .bf16⟩
  | .hbm, ⟨65, _⟩ => ⟨S8x16x1x512, .f32⟩
  | .hbm, ⟨66, _⟩ => ⟨S8x16x8x512, .f32⟩
  | .hbm, ⟨67, _⟩ => ⟨S8x16x1x512, .f32⟩
  | .hbm, ⟨68, _⟩ => ⟨S8x16x8x512, .f32⟩
  | .hbm, ⟨69, _⟩ => ⟨S8x8192x256, .bf16⟩
  | .hbm, ⟨70, _⟩ => ⟨S8x8192x256, .bf16⟩
  | .hbm, ⟨71, _⟩ => ⟨S8x8192x128, .bf16⟩
  | .local _ .vmem, ⟨0, _⟩ => ⟨S1x8192x256, .bf16⟩
  | .local _ .vmem, ⟨1, _⟩ => ⟨S1x8192x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x128, .bf16⟩
  | .local _ .vmem, ⟨5, _⟩ => ⟨S1x512x128, .bf16⟩
  | .local _ .vmem, ⟨6, _⟩ => ⟨S8192x128, .bf16⟩
  | .local _ .vmem, ⟨7, _⟩ => ⟨S8192x128, .bf16⟩
  | .local _ .vmem, ⟨8, _⟩ => ⟨S1x16x8x512, .f32⟩
  | .local _ .vmem, ⟨9, _⟩ => ⟨S1x16x8x512, .f32⟩
  | .local _ .vmem, ⟨10, _⟩ => ⟨S1x16x8x512, .f32⟩
  | .local _ .vmem, ⟨11, _⟩ => ⟨S1x16x8x512, .f32⟩
  | .local _ .vmem, ⟨12, _⟩ => ⟨S1x8192x256, .bf16⟩
  | .local _ .vmem, ⟨13, _⟩ => ⟨S1x8192x256, .bf16⟩
  | .local _ .vmem, ⟨14, _⟩ => ⟨S1x512x256, .bf16⟩
  | .local _ .vmem, ⟨15, _⟩ => ⟨S1x512x256, .bf16⟩
  | .local _ .vmem, ⟨16, _⟩ => ⟨S1x512x128, .bf16⟩
  | .local _ .vmem, ⟨17, _⟩ => ⟨S1x512x128, .bf16⟩
  | .local _ .vmem, ⟨18, _⟩ => ⟨S8192x256, .f32⟩
  | .local _ .vmem, ⟨19, _⟩ => ⟨S512x256, .f32⟩
  | .local _ .vmem, ⟨20, _⟩ => ⟨S128x512, .f32⟩
  | _, _ => ⟨S8x8192x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v11 : Ref sig .tc := ⟨.hbm, 36, rfl⟩
abbrev main_cst_0 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_1 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_2 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_3 : Ref sig .tc := ⟨.hbm, 59, rfl⟩
abbrev main_call2_v0 : Ref sig .tc := ⟨.hbm, 60, rfl⟩
abbrev main_v31 : Ref sig .tc := ⟨.hbm, 61, rfl⟩
abbrev main_c_4 : Ref sig .tc := ⟨.hbm, 62, rfl⟩
abbrev main_call3_v0 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37_0 : Ref sig .tc := ⟨.hbm, 69, rfl⟩
abbrev main_v37_1 : Ref sig .tc := ⟨.hbm, 70, rfl⟩
abbrev main_v37_2 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v15 : BitVec 32 := Scalar.muli arg1 c512_i32
  v15
def k0_off1 (i : grid0.Coords) : Fin 3 → Nat :=
  let c0_11 : Index := 0#32
  let arg1 : BitVec 32 := BitVec.ofNat 32 (i 1).val
  let c512_i32 : BitVec 32 := 512#32
  let v15 : BitVec 32 := Scalar.muli arg1 c512_i32
  let v16 : BitVec 32 := v15
  let v17 : Index := Scalar.indexCast v16
  let c0_12 : Index := 0#32
  ![0, v17.toNat, 0]
def k0_off2 (i : grid0.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v20 : Index := Scalar.indexCast v16
  let c0_13 : Index := 0#32
  ![v20.toNat, 0]
def k0_off3 (i : grid0.Coords) : Fin 4 → Nat :=
  let c0_15 : Index := 0#32
  let arg1 : BitVec 32 := BitVec.ofNat 32 (i 1).val
  let v24 : Index := Scalar.indexCast arg1
  let c0_16 : Index := 0#32
  let c0_17 : Index := 0#32
  ![0, v24.toNat, 0, 0]
def k0_off4 (i : grid0.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v106 : Index := Scalar.indexCast v16
  let c0_45 : Index := 0#32
  ![v106.toNat, 0]
@[reducible] def k0_t1_loop (i : grid0.Coords) : Scf.Loop 32 :=
  let c0_i32_55 : BitVec 32 := 0#32
  let c15_i32 : BitVec 32 := 15#32
  let arg1 : BitVec 32 := BitVec.ofNat 32 (i 1).val
  let v114 : BitVec 32 := Scalar.subi c15_i32 arg1
  let c0_i32_48 : BitVec 32 := 0#32
  let v116 : BitVec 1 := Scalar.cmpi .sgt v114 c0_i32_48
  let v117 : BitVec 32 := Scalar.extui v116
  let c0_i32_49 : BitVec 32 := 0#32
  let v118 : BitVec 1 := Scalar.cmpi .slt v114 c0_i32_49
  let v119 : BitVec 32 := Scalar.extui v118
  let v120 : BitVec 32 := Scalar.subi v117 v119
  let c2_i32 : BitVec 32 := 2#32
  let c0_i32_50 : BitVec 32 := 0#32
  let v121 : BitVec 1 := Scalar.cmpi .sgt c2_i32 c0_i32_50
  let v122 : BitVec 32 := Scalar.extui v121
  let c0_i32_51 : BitVec 32 := 0#32
  let v123 : BitVec 1 := Scalar.cmpi .slt c2_i32 c0_i32_51
  let v124 : BitVec 32 := Scalar.extui v123
  let v125 : BitVec 32 := Scalar.subi v122 v124
  let v126 : BitVec 1 := Scalar.cmpi .ne v120 v125
  let v127 : BitVec 32 := Scalar.remsi v114 c2_i32
  let c0_i32_52 : BitVec 32 := 0#32
  let v128 : BitVec 1 := Scalar.cmpi .ne v127 c0_i32_52
  let v129 : BitVec 1 := Scalar.andi v126 v128
  let v115 : BitVec 32 := Scalar.divsi v114 c2_i32
  let c1_i32_53 : BitVec 32 := 1#32
  let v130 : BitVec 32 := Scalar.subi v115 c1_i32_53
  let v131 : BitVec 32 := Scalar.select v129 v130 v115
  let v132 : BitVec 32 := Scalar.subi v131 c0_i32_55
  let c1_i32_56 : BitVec 32 := 1#32
  let v134 : BitVec 32 := Scalar.divsi v132 c1_i32_56
  let v135 : BitVec 32 := Scalar.muli v134 c1_i32_56
  let v136 : BitVec 32 := Scalar.addi c0_i32_55 v135
  let c1_i32_57 : BitVec 32 := 1#32
  ⟨c0_i32_55, v136, c1_i32_57⟩
def k0_mult2 (i : grid0.Coords) (k0_t1 : Fin (k0_t1_loop i).trips) : BitVec 32 :=
  let arg1 : BitVec 32 := BitVec.ofNat 32 (i 1).val
  let c1_i32_79 : BitVec 32 := 1#32
  let v164 : BitVec 32 := Scalar.addi arg1 c1_i32_79
  let c2_i32_80 : BitVec 32 := 2#32
  let c0_i32_55 : BitVec 32 := 0#32
  let c1_i32_57 : BitVec 32 := 1#32
  let arg14 : BitVec 32 := Scf.iv c0_i32_55 c1_i32_57 k0_t1
  let v165 : BitVec 32 := Scalar.muli c2_i32_80 arg14
  let v166 : BitVec 32 := Scalar.addi v164 v165
  let c512_i32_81 : BitVec 32 := 512#32
  let v167 : BitVec 32 := Scalar.muli v166 c512_i32_81
  v167
def k0_off5 (i : grid0.Coords) (k0_t1 : Fin (k0_t1_loop i).trips) (c1_i32_79 : BitVec 32) : Fin 3 → Nat :=
  let c0_82 : Index := 0#32
  let arg1 : BitVec 32 := BitVec.ofNat 32 (i 1).val
  let v164 : BitVec 32 := Scalar.addi arg1 c1_i32_79
  let c2_i32_80 : BitVec 32 := 2#32
  let c0_i32_55 : BitVec 32 := 0#32
  let c1_i32_57 : BitVec 32 := 1#32
  let arg14 : BitVec 32 := Scf.iv c0_i32_55 c1_i32_57 k0_t1
  let v165 : BitVec 32 := Scalar.muli c2_i32_80 arg14
  let v166 : BitVec 32 := Scalar.addi v164 v165
  let c512_i32_81 : BitVec 32 := 512#32
  let v167 : BitVec 32 := Scalar.muli v166 c512_i32_81
  let v168 : BitVec 32 := v167
  let v169 : Index := Scalar.indexCast v168
  let c0_83 : Index := 0#32
  ![0, v169.toNat, 0]
def k0_off6 (i : grid0.Coords) (k0_t1 : Fin (k0_t1_loop i).trips) (c1_i32_79 : BitVec 32) : Fin 2 → Nat :=
  let arg1 : BitVec 32 := BitVec.ofNat 32 (i 1).val
  let v164 : BitVec 32 := Scalar.addi arg1 c1_i32_79
  let c2_i32_80 : BitVec 32 := 2#32
  let c0_i32_55 : BitVec 32 := 0#32
  let c1_i32_57 : BitVec 32 := 1#32
  let arg14 : BitVec 32 := Scf.iv c0_i32_55 c1_i32_57 k0_t1
  let v165 : BitVec 32 := Scalar.muli c2_i32_80 arg14
  let v166 : BitVec 32 := Scalar.addi v164 v165
  let c512_i32_81 : BitVec 32 := 512#32
  let v167 : BitVec 32 := Scalar.muli v166 c512_i32_81
  let v168 : BitVec 32 := v167
  let v172 : Index := Scalar.indexCast v168
  let c0_84 : Index := 0#32
  ![v172.toNat, 0]
def k0_off7 (i : grid0.Coords) (k0_t1 : Fin (k0_t1_loop i).trips) (c1_i32_79 : BitVec 32) : Fin 4 → Nat :=
  let c0_86 : Index := 0#32
  let arg1 : BitVec 32 := BitVec.ofNat 32 (i 1).val
  let v164 : BitVec 32 := Scalar.addi arg1 c1_i32_79
  let c2_i32_80 : BitVec 32 := 2#32
  let c0_i32_55 : BitVec 32 := 0#32
  let c1_i32_57 : BitVec 32 := 1#32
  let arg14 : BitVec 32 := Scf.iv c0_i32_55 c1_i32_57 k0_t1
  let v165 : BitVec 32 := Scalar.muli c2_i32_80 arg14
  let v166 : BitVec 32 := Scalar.addi v164 v165
  let v176 : Index := Scalar.indexCast v166
  let c0_87 : Index := 0#32
  let c0_88 : Index := 0#32
  ![0, v176.toNat, 0, 0]
def k0_off8 (i : grid0.Coords) (k0_t1 : Fin (k0_t1_loop i).trips) (c1_i32_79 : BitVec 32) : Fin 2 → Nat :=
  let arg1 : BitVec 32 := BitVec.ofNat 32 (i 1).val
  let v164 : BitVec 32 := Scalar.addi arg1 c1_i32_79
  let c2_i32_80 : BitVec 32 := 2#32
  let c0_i32_55 : BitVec 32 := 0#32
  let c1_i32_57 : BitVec 32 := 1#32
  let arg14 : BitVec 32 := Scf.iv c0_i32_55 c1_i32_57 k0_t1
  let v165 : BitVec 32 := Scalar.muli c2_i32_80 arg14
  let v166 : BitVec 32 := Scalar.addi v164 v165
  let c512_i32_81 : BitVec 32 := 512#32
  let v167 : BitVec 32 := Scalar.muli v166 c512_i32_81
  let v168 : BitVec 32 := v167
  let v205 : Index := Scalar.indexCast v168
  let c0_103 : Index := 0#32
  ![v205.toNat, 0]
def k0_mult3 (i : grid0.Coords) (k0_t1 : Fin (k0_t1_loop i).trips) : BitVec 32 :=
  let arg1 : BitVec 32 := BitVec.ofNat 32 (i 1).val
  let c2_i32_106 : BitVec 32 := 2#32
  let v213 : BitVec 32 := Scalar.addi arg1 c2_i32_106
  let c2_i32_107 : BitVec 32 := 2#32
  let c0_i32_55 : BitVec 32 := 0#32
  let c1_i32_57 : BitVec 32 := 1#32
  let arg14 : BitVec 32 := Scf.iv c0_i32_55 c1_i32_57 k0_t1
  let v214 : BitVec 32 := Scalar.muli c2_i32_107 arg14
  let v215 : BitVec 32 := Scalar.addi v213 v214
  let c512_i32_108 : BitVec 32 := 512#32
  let v216 : BitVec 32 := Scalar.muli v215 c512_i32_108
  v216
@[reducible] def k0_t2_loop (i : grid0.Coords) : Scf.Loop 32 :=
  let c0_i32_55 : BitVec 32 := 0#32
  let c15_i32 : BitVec 32 := 15#32
  let arg1 : BitVec 32 := BitVec.ofNat 32 (i 1).val
  let v114 : BitVec 32 := Scalar.subi c15_i32 arg1
  let c0_i32_48 : BitVec 32 := 0#32
  let v116 : BitVec 1 := Scalar.cmpi .sgt v114 c0_i32_48
  let v117 : BitVec 32 := Scalar.extui v116
  let c0_i32_49 : BitVec 32 := 0#32
  let v118 : BitVec 1 := Scalar.cmpi .slt v114 c0_i32_49
  let v119 : BitVec 32 := Scalar.extui v118
  let v120 : BitVec 32 := Scalar.subi v117 v119
  let c2_i32 : BitVec 32 := 2#32
  let c0_i32_50 : BitVec 32 := 0#32
  let v121 : BitVec 1 := Scalar.cmpi .sgt c2_i32 c0_i32_50
  let v122 : BitVec 32 := Scalar.extui v121
  let c0_i32_51 : BitVec 32 := 0#32
  let v123 : BitVec 1 := Scalar.cmpi .slt c2_i32 c0_i32_51
  let v124 : BitVec 32 := Scalar.extui v123
  let v125 : BitVec 32 := Scalar.subi v122 v124
  let v126 : BitVec 1 := Scalar.cmpi .ne v120 v125
  let v127 : BitVec 32 := Scalar.remsi v114 c2_i32
  let c0_i32_52 : BitVec 32 := 0#32
  let v128 : BitVec 1 := Scalar.cmpi .ne v127 c0_i32_52
  let v129 : BitVec 1 := Scalar.andi v126 v128
  let v115 : BitVec 32 := Scalar.divsi v114 c2_i32
  let c1_i32_53 : BitVec 32 := 1#32
  let v130 : BitVec 32 := Scalar.subi v115 c1_i32_53
  let v131 : BitVec 32 := Scalar.select v129 v130 v115
  let v132 : BitVec 32 := Scalar.subi v131 c0_i32_55
  let c1_i32_56 : BitVec 32 := 1#32
  let v134 : BitVec 32 := Scalar.divsi v132 c1_i32_56
  let v135 : BitVec 32 := Scalar.muli v134 c1_i32_56
  let v136 : BitVec 32 := Scalar.addi c0_i32_55 v135
  let v133 : BitVec 32 := Scalar.addi c0_i32_55 v132
  let c1_i32_58 : BitVec 32 := 1#32
  ⟨v136, v133, c1_i32_58⟩
def k0_mult4 (i : grid0.Coords) (k0_t2 : Fin (k0_t2_loop i).trips) : BitVec 32 :=
  let arg1 : BitVec 32 := BitVec.ofNat 32 (i 1).val
  let c1_i32_79 : BitVec 32 := 1#32
  let v164 : BitVec 32 := Scalar.addi arg1 c1_i32_79
  let c2_i32_80 : BitVec 32 := 2#32
  let c0_i32_55 : BitVec 32 := 0#32
  let c15_i32 : BitVec 32 := 15#32
  let v114 : BitVec 32 := Scalar.subi c15_i32 arg1
  let c0_i32_48 : BitVec 32 := 0#32
  let v116 : BitVec 1 := Scalar.cmpi .sgt v114 c0_i32_48
  let v117 : BitVec 32 := Scalar.extui v116
  let c0_i32_49 : BitVec 32 := 0#32
  let v118 : BitVec 1 := Scalar.cmpi .slt v114 c0_i32_49
  let v119 : BitVec 32 := Scalar.extui v118
  let v120 : BitVec 32 := Scalar.subi v117 v119
  let c2_i32 : BitVec 32 := 2#32
  let c0_i32_50 : BitVec 32 := 0#32
  let v121 : BitVec 1 := Scalar.cmpi .sgt c2_i32 c0_i32_50
  let v122 : BitVec 32 := Scalar.extui v121
  let c0_i32_51 : BitVec 32 := 0#32
  let v123 : BitVec 1 := Scalar.cmpi .slt c2_i32 c0_i32_51
  let v124 : BitVec 32 := Scalar.extui v123
  let v125 : BitVec 32 := Scalar.subi v122 v124
  let v126 : BitVec 1 := Scalar.cmpi .ne v120 v125
  let v127 : BitVec 32 := Scalar.remsi v114 c2_i32
  let c0_i32_52 : BitVec 32 := 0#32
  let v128 : BitVec 1 := Scalar.cmpi .ne v127 c0_i32_52
  let v129 : BitVec 1 := Scalar.andi v126 v128
  let v115 : BitVec 32 := Scalar.divsi v114 c2_i32
  let c1_i32_53 : BitVec 32 := 1#32
  let v130 : BitVec 32 := Scalar.subi v115 c1_i32_53
  let v131 : BitVec 32 := Scalar.select v129 v130 v115
  let v132 : BitVec 32 := Scalar.subi v131 c0_i32_55
  let c1_i32_56 : BitVec 32 := 1#32
  let v134 : BitVec 32 := Scalar.divsi v132 c1_i32_56
  let v135 : BitVec 32 := Scalar.muli v134 c1_i32_56
  let v136 : BitVec 32 := Scalar.addi c0_i32_55 v135
  let c1_i32_58 : BitVec 32 := 1#32
  let arg14 : BitVec 32 := Scf.iv v136 c1_i32_58 k0_t2
  let v165 : BitVec 32 := Scalar.muli c2_i32_80 arg14
  let v166 : BitVec 32 := Scalar.addi v164 v165
  let c512_i32_81 : BitVec 32 := 512#32
  let v167 : BitVec 32 := Scalar.muli v166 c512_i32_81
  v167
def k0_off9 (i : grid0.Coords) (k0_t2 : Fin (k0_t2_loop i).trips) (c1_i32_79 : BitVec 32) : Fin 3 → Nat :=
  let c0_82 : Index := 0#32
  let arg1 : BitVec 32 := BitVec.ofNat 32 (i 1).val
  let v164 : BitVec 32 := Scalar.addi arg1 c1_i32_79
  let c2_i32_80 : BitVec 32 := 2#32
  let c0_i32_55 : BitVec 32 := 0#32
  let c15_i32 : BitVec 32 := 15#32
  let v114 : BitVec 32 := Scalar.subi c15_i32 arg1
  let c0_i32_48 : BitVec 32 := 0#32
  let v116 : BitVec 1 := Scalar.cmpi .sgt v114 c0_i32_48
  let v117 : BitVec 32 := Scalar.extui v116
  let c0_i32_49 : BitVec 32 := 0#32
  let v118 : BitVec 1 := Scalar.cmpi .slt v114 c0_i32_49
  let v119 : BitVec 32 := Scalar.extui v118
  let v120 : BitVec 32 := Scalar.subi v117 v119
  let c2_i32 : BitVec 32 := 2#32
  let c0_i32_50 : BitVec 32 := 0#32
  let v121 : BitVec 1 := Scalar.cmpi .sgt c2_i32 c0_i32_50
  let v122 : BitVec 32 := Scalar.extui v121
  let c0_i32_51 : BitVec 32 := 0#32
  let v123 : BitVec 1 := Scalar.cmpi .slt c2_i32 c0_i32_51
  let v124 : BitVec 32 := Scalar.extui v123
  let v125 : BitVec 32 := Scalar.subi v122 v124
  let v126 : BitVec 1 := Scalar.cmpi .ne v120 v125
  let v127 : BitVec 32 := Scalar.remsi v114 c2_i32
  let c0_i32_52 : BitVec 32 := 0#32
  let v128 : BitVec 1 := Scalar.cmpi .ne v127 c0_i32_52
  let v129 : BitVec 1 := Scalar.andi v126 v128
  let v115 : BitVec 32 := Scalar.divsi v114 c2_i32
  let c1_i32_53 : BitVec 32 := 1#32
  let v130 : BitVec 32 := Scalar.subi v115 c1_i32_53
  let v131 : BitVec 32 := Scalar.select v129 v130 v115
  let v132 : BitVec 32 := Scalar.subi v131 c0_i32_55
  let c1_i32_56 : BitVec 32 := 1#32
  let v134 : BitVec 32 := Scalar.divsi v132 c1_i32_56
  let v135 : BitVec 32 := Scalar.muli v134 c1_i32_56
  let v136 : BitVec 32 := Scalar.addi c0_i32_55 v135
  let c1_i32_58 : BitVec 32 := 1#32
  let arg14 : BitVec 32 := Scf.iv v136 c1_i32_58 k0_t2
  let v165 : BitVec 32 := Scalar.muli c2_i32_80 arg14
  let v166 : BitVec 32 := Scalar.addi v164 v165
  let c512_i32_81 : BitVec 32 := 512#32
  let v167 : BitVec 32 := Scalar.muli v166 c512_i32_81
  let v168 : BitVec 32 := v167
  let v169 : Index := Scalar.indexCast v168
  let c0_83 : Index := 0#32
  ![0, v169.toNat, 0]
def k0_off10 (i : grid0.Coords) (k0_t2 : Fin (k0_t2_loop i).trips) (c1_i32_79 : BitVec 32) : Fin 2 → Nat :=
  let arg1 : BitVec 32 := BitVec.ofNat 32 (i 1).val
  let v164 : BitVec 32 := Scalar.addi arg1 c1_i32_79
  let c2_i32_80 : BitVec 32 := 2#32
  let c0_i32_55 : BitVec 32 := 0#32
  let c15_i32 : BitVec 32 := 15#32
  let v114 : BitVec 32 := Scalar.subi c15_i32 arg1
  let c0_i32_48 : BitVec 32 := 0#32
  let v116 : BitVec 1 := Scalar.cmpi .sgt v114 c0_i32_48
  let v117 : BitVec 32 := Scalar.extui v116
  let c0_i32_49 : BitVec 32 := 0#32
  let v118 : BitVec 1 := Scalar.cmpi .slt v114 c0_i32_49
  let v119 : BitVec 32 := Scalar.extui v118
  let v120 : BitVec 32 := Scalar.subi v117 v119
  let c2_i32 : BitVec 32 := 2#32
  let c0_i32_50 : BitVec 32 := 0#32
  let v121 : BitVec 1 := Scalar.cmpi .sgt c2_i32 c0_i32_50
  let v122 : BitVec 32 := Scalar.extui v121
  let c0_i32_51 : BitVec 32 := 0#32
  let v123 : BitVec 1 := Scalar.cmpi .slt c2_i32 c0_i32_51
  let v124 : BitVec 32 := Scalar.extui v123
  let v125 : BitVec 32 := Scalar.subi v122 v124
  let v126 : BitVec 1 := Scalar.cmpi .ne v120 v125
  let v127 : BitVec 32 := Scalar.remsi v114 c2_i32
  let c0_i32_52 : BitVec 32 := 0#32
  let v128 : BitVec 1 := Scalar.cmpi .ne v127 c0_i32_52
  let v129 : BitVec 1 := Scalar.andi v126 v128
  let v115 : BitVec 32 := Scalar.divsi v114 c2_i32
  let c1_i32_53 : BitVec 32 := 1#32
  let v130 : BitVec 32 := Scalar.subi v115 c1_i32_53
  let v131 : BitVec 32 := Scalar.select v129 v130 v115
  let v132 : BitVec 32 := Scalar.subi v131 c0_i32_55
  let c1_i32_56 : BitVec 32 := 1#32
  let v134 : BitVec 32 := Scalar.divsi v132 c1_i32_56
  let v135 : BitVec 32 := Scalar.muli v134 c1_i32_56
  let v136 : BitVec 32 := Scalar.addi c0_i32_55 v135
  let c1_i32_58 : BitVec 32 := 1#32
  let arg14 : BitVec 32 := Scf.iv v136 c1_i32_58 k0_t2
  let v165 : BitVec 32 := Scalar.muli c2_i32_80 arg14
  let v166 : BitVec 32 := Scalar.addi v164 v165
  let c512_i32_81 : BitVec 32 := 512#32
  let v167 : BitVec 32 := Scalar.muli v166 c512_i32_81
  let v168 : BitVec 32 := v167
  let v172 : Index := Scalar.indexCast v168
  let c0_84 : Index := 0#32
  ![v172.toNat, 0]
def k0_off11 (i : grid0.Coords) (k0_t2 : Fin (k0_t2_loop i).trips) (c1_i32_79 : BitVec 32) : Fin 4 → Nat :=
  let c0_86 : Index := 0#32
  let arg1 : BitVec 32 := BitVec.ofNat 32 (i 1).val
  let v164 : BitVec 32 := Scalar.addi arg1 c1_i32_79
  let c2_i32_80 : BitVec 32 := 2#32
  let c0_i32_55 : BitVec 32 := 0#32
  let c15_i32 : BitVec 32 := 15#32
  let v114 : BitVec 32 := Scalar.subi c15_i32 arg1
  let c0_i32_48 : BitVec 32 := 0#32
  let v116 : BitVec 1 := Scalar.cmpi .sgt v114 c0_i32_48
  let v117 : BitVec 32 := Scalar.extui v116
  let c0_i32_49 : BitVec 32 := 0#32
  let v118 : BitVec 1 := Scalar.cmpi .slt v114 c0_i32_49
  let v119 : BitVec 32 := Scalar.extui v118
  let v120 : BitVec 32 := Scalar.subi v117 v119
  let c2_i32 : BitVec 32 := 2#32
  let c0_i32_50 : BitVec 32 := 0#32
  let v121 : BitVec 1 := Scalar.cmpi .sgt c2_i32 c0_i32_50
  let v122 : BitVec 32 := Scalar.extui v121
  let c0_i32_51 : BitVec 32 := 0#32
  let v123 : BitVec 1 := Scalar.cmpi .slt c2_i32 c0_i32_51
  let v124 : BitVec 32 := Scalar.extui v123
  let v125 : BitVec 32 := Scalar.subi v122 v124
  let v126 : BitVec 1 := Scalar.cmpi .ne v120 v125
  let v127 : BitVec 32 := Scalar.remsi v114 c2_i32
  let c0_i32_52 : BitVec 32 := 0#32
  let v128 : BitVec 1 := Scalar.cmpi .ne v127 c0_i32_52
  let v129 : BitVec 1 := Scalar.andi v126 v128
  let v115 : BitVec 32 := Scalar.divsi v114 c2_i32
  let c1_i32_53 : BitVec 32 := 1#32
  let v130 : BitVec 32 := Scalar.subi v115 c1_i32_53
  let v131 : BitVec 32 := Scalar.select v129 v130 v115
  let v132 : BitVec 32 := Scalar.subi v131 c0_i32_55
  let c1_i32_56 : BitVec 32 := 1#32
  let v134 : BitVec 32 := Scalar.divsi v132 c1_i32_56
  let v135 : BitVec 32 := Scalar.muli v134 c1_i32_56
  let v136 : BitVec 32 := Scalar.addi c0_i32_55 v135
  let c1_i32_58 : BitVec 32 := 1#32
  let arg14 : BitVec 32 := Scf.iv v136 c1_i32_58 k0_t2
  let v165 : BitVec 32 := Scalar.muli c2_i32_80 arg14
  let v166 : BitVec 32 := Scalar.addi v164 v165
  let v176 : Index := Scalar.indexCast v166
  let c0_87 : Index := 0#32
  let c0_88 : Index := 0#32
  ![0, v176.toNat, 0, 0]
def k0_off12 (i : grid0.Coords) (k0_t2 : Fin (k0_t2_loop i).trips) (c1_i32_79 : BitVec 32) : Fin 2 → Nat :=
  let arg1 : BitVec 32 := BitVec.ofNat 32 (i 1).val
  let v164 : BitVec 32 := Scalar.addi arg1 c1_i32_79
  let c2_i32_80 : BitVec 32 := 2#32
  let c0_i32_55 : BitVec 32 := 0#32
  let c15_i32 : BitVec 32 := 15#32
  let v114 : BitVec 32 := Scalar.subi c15_i32 arg1
  let c0_i32_48 : BitVec 32 := 0#32
  let v116 : BitVec 1 := Scalar.cmpi .sgt v114 c0_i32_48
  let v117 : BitVec 32 := Scalar.extui v116
  let c0_i32_49 : BitVec 32 := 0#32
  let v118 : BitVec 1 := Scalar.cmpi .slt v114 c0_i32_49
  let v119 : BitVec 32 := Scalar.extui v118
  let v120 : BitVec 32 := Scalar.subi v117 v119
  let c2_i32 : BitVec 32 := 2#32
  let c0_i32_50 : BitVec 32 := 0#32
  let v121 : BitVec 1 := Scalar.cmpi .sgt c2_i32 c0_i32_50
  let v122 : BitVec 32 := Scalar.extui v121
  let c0_i32_51 : BitVec 32 := 0#32
  let v123 : BitVec 1 := Scalar.cmpi .slt c2_i32 c0_i32_51
  let v124 : BitVec 32 := Scalar.extui v123
  let v125 : BitVec 32 := Scalar.subi v122 v124
  let v126 : BitVec 1 := Scalar.cmpi .ne v120 v125
  let v127 : BitVec 32 := Scalar.remsi v114 c2_i32
  let c0_i32_52 : BitVec 32 := 0#32
  let v128 : BitVec 1 := Scalar.cmpi .ne v127 c0_i32_52
  let v129 : BitVec 1 := Scalar.andi v126 v128
  let v115 : BitVec 32 := Scalar.divsi v114 c2_i32
  let c1_i32_53 : BitVec 32 := 1#32
  let v130 : BitVec 32 := Scalar.subi v115 c1_i32_53
  let v131 : BitVec 32 := Scalar.select v129 v130 v115
  let v132 : BitVec 32 := Scalar.subi v131 c0_i32_55
  let c1_i32_56 : BitVec 32 := 1#32
  let v134 : BitVec 32 := Scalar.divsi v132 c1_i32_56
  let v135 : BitVec 32 := Scalar.muli v134 c1_i32_56
  let v136 : BitVec 32 := Scalar.addi c0_i32_55 v135
  let c1_i32_58 : BitVec 32 := 1#32
  let arg14 : BitVec 32 := Scf.iv v136 c1_i32_58 k0_t2
  let v165 : BitVec 32 := Scalar.muli c2_i32_80 arg14
  let v166 : BitVec 32 := Scalar.addi v164 v165
  let c512_i32_81 : BitVec 32 := 512#32
  let v167 : BitVec 32 := Scalar.muli v166 c512_i32_81
  let v168 : BitVec 32 := v167
  let v205 : Index := Scalar.indexCast v168
  let c0_103 : Index := 0#32
  ![v205.toNat, 0]
def k0_mult5 (i : grid0.Coords) (k0_t2 : Fin (k0_t2_loop i).trips) : BitVec 32 :=
  let arg1 : BitVec 32 := BitVec.ofNat 32 (i 1).val
  let c2_i32_106 : BitVec 32 := 2#32
  let v213 : BitVec 32 := Scalar.addi arg1 c2_i32_106
  let c2_i32_107 : BitVec 32 := 2#32
  let c0_i32_55 : BitVec 32 := 0#32
  let c15_i32 : BitVec 32 := 15#32
  let v114 : BitVec 32 := Scalar.subi c15_i32 arg1
  let c0_i32_48 : BitVec 32 := 0#32
  let v116 : BitVec 1 := Scalar.cmpi .sgt v114 c0_i32_48
  let v117 : BitVec 32 := Scalar.extui v116
  let c0_i32_49 : BitVec 32 := 0#32
  let v118 : BitVec 1 := Scalar.cmpi .slt v114 c0_i32_49
  let v119 : BitVec 32 := Scalar.extui v118
  let v120 : BitVec 32 := Scalar.subi v117 v119
  let c2_i32 : BitVec 32 := 2#32
  let c0_i32_50 : BitVec 32 := 0#32
  let v121 : BitVec 1 := Scalar.cmpi .sgt c2_i32 c0_i32_50
  let v122 : BitVec 32 := Scalar.extui v121
  let c0_i32_51 : BitVec 32 := 0#32
  let v123 : BitVec 1 := Scalar.cmpi .slt c2_i32 c0_i32_51
  let v124 : BitVec 32 := Scalar.extui v123
  let v125 : BitVec 32 := Scalar.subi v122 v124
  let v126 : BitVec 1 := Scalar.cmpi .ne v120 v125
  let v127 : BitVec 32 := Scalar.remsi v114 c2_i32
  let c0_i32_52 : BitVec 32 := 0#32
  let v128 : BitVec 1 := Scalar.cmpi .ne v127 c0_i32_52
  let v129 : BitVec 1 := Scalar.andi v126 v128
  let v115 : BitVec 32 := Scalar.divsi v114 c2_i32
  let c1_i32_53 : BitVec 32 := 1#32
  let v130 : BitVec 32 := Scalar.subi v115 c1_i32_53
  let v131 : BitVec 32 := Scalar.select v129 v130 v115
  let v132 : BitVec 32 := Scalar.subi v131 c0_i32_55
  let c1_i32_56 : BitVec 32 := 1#32
  let v134 : BitVec 32 := Scalar.divsi v132 c1_i32_56
  let v135 : BitVec 32 := Scalar.muli v134 c1_i32_56
  let v136 : BitVec 32 := Scalar.addi c0_i32_55 v135
  let c1_i32_58 : BitVec 32 := 1#32
  let arg14 : BitVec 32 := Scf.iv v136 c1_i32_58 k0_t2
  let v214 : BitVec 32 := Scalar.muli c2_i32_107 arg14
  let v215 : BitVec 32 := Scalar.addi v213 v214
  let c512_i32_108 : BitVec 32 := 512#32
  let v216 : BitVec 32 := Scalar.muli v215 c512_i32_108
  v216
def k0_cond2 (i : grid0.Coords) : BitVec 1 :=
  let c15_i32 : BitVec 32 := 15#32
  let arg1 : BitVec 32 := BitVec.ofNat 32 (i 1).val
  let v114 : BitVec 32 := Scalar.subi c15_i32 arg1
  let c2_i32_59 : BitVec 32 := 2#32
  let c0_i32_60 : BitVec 32 := 0#32
  let v137 : BitVec 1 := Scalar.cmpi .eq c2_i32_59 c0_i32_60
  let c1_i32_61 : BitVec 32 := 1#32
  let v138 : BitVec 32 := Scalar.select v137 c1_i32_61 c2_i32_59
  let v139 : BitVec 32 := Scalar.remsi v114 v138
  let c0_i32_63 : BitVec 32 := 0#32
  let v141 : BitVec 1 := Scalar.cmpi .slt v139 c0_i32_63
  let c0_i32_64 : BitVec 32 := 0#32
  let v142 : BitVec 1 := Scalar.cmpi .slt v138 c0_i32_64
  let v143 : BitVec 1 := Scalar.xori v141 v142
  let c0_i32_62 : BitVec 32 := 0#32
  let v140 : BitVec 1 := Scalar.cmpi .ne v139 c0_i32_62
  let v144 : BitVec 1 := Scalar.andi v143 v140
  let v145 : BitVec 32 := Scalar.addi v139 v138
  let v146 : BitVec 32 := Scalar.select v144 v145 v139
  let c1_i32_65 : BitVec 32 := 1#32
  let v147 : BitVec 1 := Scalar.cmpi .eq v146 c1_i32_65
  let v148 : BitVec 32 := Scalar.extui v147
  let c0_i32_66 : BitVec 32 := 0#32
  let v149 : BitVec 1 := Scalar.cmpi .ne v148 c0_i32_66
  v149

def k0_mult6 : BitVec 32 :=
  let c7680_i32 : BitVec 32 := 7680#32
  c7680_i32
def k0_cond3 (i : grid0.Coords) : BitVec 1 :=
  let arg1 : BitVec 32 := BitVec.ofNat 32 (i 1).val
  let c15_i32_77 : BitVec 32 := 15#32
  let v161 : BitVec 1 := Scalar.cmpi .eq arg1 c15_i32_77
  let v162 : BitVec 32 := Scalar.extui v161
  let c0_i32_78 : BitVec 32 := 0#32
  let v163 : BitVec 1 := Scalar.cmpi .ne v162 c0_i32_78
  v163

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8192x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FlashRefIdeal.lean ====
abbrev S8x8192x192 : Shape := ⟨3, ![8, 8192, 192]⟩
abbrev S8x8192x128 : Shape := ⟨3, ![8, 8192, 128]⟩
abbrev S8x8192x8192 : Shape := ⟨3, ![8, 8192, 8192]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x256 : Shape := ⟨3, ![8, 8192, 256]⟩

abbrev nBuf : Space → Nat
  | .hbm => 111
  | .vmem => 0
  | .smem => 0
  | _ => 0

abbrev bufTy : (tb : Table) → Fin (tcTables nBuf tb) → BufTy
  | .hbm, ⟨0, _⟩ => ⟨S8x8192x192, .bf16⟩
  | .hbm, ⟨1, _⟩ => ⟨S8x8192x192, .bf16⟩
  | .hbm, ⟨2, _⟩ => ⟨S8x8192x128, .bf16⟩
  | .hbm, ⟨3, _⟩ => ⟨S8x8192x128, .bf16⟩
  | .hbm, ⟨4, _⟩ => ⟨S8x8192x192, .f32⟩
  | .hbm, ⟨5, _⟩ => ⟨S8x8192x192, .f32⟩
  | .hbm, ⟨6, _⟩ => ⟨S8x8192x128, .f32⟩
  | .hbm, ⟨7, _⟩ => ⟨S8x8192x128, .f32⟩
  | .hbm, ⟨8, _⟩ => ⟨S8x8192x8192, .f32⟩
  | .hbm, ⟨9, _⟩ => ⟨S8192, .i32⟩
  | .hbm, ⟨10, _⟩ => ⟨S_, .i32⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192, .i32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S8192x1, .i32⟩
  | .hbm, ⟨29, _⟩ => ⟨S1x8192, .i32⟩
  | .hbm, ⟨30, _⟩ => ⟨S8192x8192, .i32⟩
  | .hbm, ⟨31, _⟩ => ⟨S8192x8192, .i32⟩
  | .hbm, ⟨32, _⟩ => ⟨S8192x8192, .i1⟩
  | .hbm, ⟨33, _⟩ => ⟨S1x8192x8192, .i1⟩
  | .hbm, ⟨34, _⟩ => ⟨S_, .f32⟩
  | .hbm, ⟨35, _⟩ => ⟨S_, .f32⟩
  | .hbm, ⟨36, _⟩ => ⟨S8x8192x8192, .i1⟩
  | .hbm, ⟨37, _⟩ => ⟨S8x8192x8192, .f32⟩
  | .hbm, ⟨38, _⟩ => ⟨S8x8192x8192, .f32⟩
  | .hbm, ⟨39, _⟩ => ⟨S_, .f32⟩
  | .hbm, ⟨40, _⟩ => ⟨S8x8192x8192, .f32⟩
  | .hbm, ⟨41, _⟩ => ⟨S_, .f32⟩
  | .hbm, ⟨42, _⟩ => ⟨S8x8192, .f32⟩
  | .hbm, ⟨43, _⟩ => ⟨S8x8192x1, .f32⟩
  | .hbm, ⟨44, _⟩ => ⟨S8x8192x8192, .f32⟩
  | .hbm, ⟨45, _⟩ => ⟨S8x8192x8192, .i1⟩
  | .hbm, ⟨46, _⟩ => ⟨S8x8192x8192, .f32⟩
  | .hbm, ⟨47, _⟩ => ⟨S_, .f32⟩
  | .hbm, ⟨48, _⟩ => ⟨S8x8192, .f32⟩
  | .hbm, ⟨49, _⟩ => ⟨S_, .f32⟩
  | .hbm, ⟨50, _⟩ => ⟨S8x8192, .f32⟩
  | .hbm, ⟨51, _⟩ => ⟨S8x8192, .f32⟩
  | .hbm, ⟨52, _⟩ => ⟨S_, .f32⟩
  | .hbm, ⟨53, _⟩ => ⟨S8x8192, .f32⟩
  | .hbm, ⟨54, _⟩ => ⟨S8x8192, .i1⟩
  | .hbm, ⟨55, _⟩ => ⟨S_, .f32⟩
  | .hbm, ⟨56, _⟩ => ⟨S8x8192, .f32⟩
  | .hbm, ⟨57, _⟩ => ⟨S8x8192, .i1⟩
  | .hbm, ⟨58, _⟩ => ⟨S_, .f32⟩
  | .hbm, ⟨59, _⟩ => ⟨S8x8192, .f32⟩
  | .hbm, ⟨60, _⟩ => ⟨S_, .f32⟩
  | .hbm, ⟨61, _⟩ => ⟨S8x8192, .f32⟩
  | .hbm, ⟨62, _⟩ => ⟨S_, .f32⟩
  | .hbm, ⟨63, _⟩ => ⟨S8x8192, .f32⟩
  | .hbm, ⟨64, _⟩ => ⟨S8x8192, .f32⟩
  | .hbm, ⟨65, _⟩ => ⟨S8x8192, .f32⟩
  | .hbm, ⟨66, _⟩ => ⟨S8x8192x1, .f32⟩
  | .hbm, ⟨67, _⟩ => ⟨S8x8192x8192, .f32⟩
  | .hbm, ⟨68, _⟩ => ⟨S8x8192x8192, .f32⟩
  | .hbm, ⟨69, _⟩ => ⟨S8x8192x8192, .f32⟩
  | .hbm, ⟨70, _⟩ => ⟨S_, .f32⟩
  | .hbm, ⟨71, _⟩ => ⟨S8x8192, .f32⟩
  | .hbm, ⟨72, _⟩ => ⟨S8x8192x1, .f32⟩
  | .hbm, ⟨73, _⟩ => ⟨S8x8192x8192, .f32⟩
  | .hbm, ⟨74, _⟩ => ⟨S8x8192x8192, .f32⟩
  | .hbm, ⟨75, _⟩ => ⟨S8x8192x1, .f32⟩
  | .hbm, ⟨76, _⟩ => ⟨S_, .f32⟩
  | .hbm, ⟨77, _⟩ => ⟨S8x8192x1, .f32⟩
  | .hbm, ⟨78, _⟩ => ⟨S8x8192x1, .f32⟩
  | .hbm, ⟨79, _⟩ => ⟨S8x8192x128, .f32⟩
  | .hbm, ⟨80, _⟩ => ⟨S8x128x8192, .f32⟩
  | .hbm, ⟨81, _⟩ => ⟨S8x8192x128, .f32⟩
  | .hbm, ⟨82, _⟩ => ⟨S8x8192x8192, .f32⟩
  | .hbm, ⟨83, _⟩ => ⟨S8x8192x8192, .f32⟩
  | .hbm, ⟨84, _⟩ => ⟨S8x8192x8192, .f32⟩
  | .hbm, ⟨85, _⟩ => ⟨S8x8192x8192, .f32⟩
  | .hbm, ⟨86, _⟩ => ⟨S_, .f32⟩
  | .hbm, ⟨87, _⟩ => ⟨S8x8192, .f32⟩
  | .hbm, ⟨88, _⟩ => ⟨S8x8192x1, .f32⟩
  | .hbm, ⟨89, _⟩ => ⟨S8x8192x1, .f32⟩
  | .hbm, ⟨90, _⟩ => ⟨S8x8192x8192, .f32⟩
  | .hbm, ⟨91, _⟩ => ⟨S8x8192x8192, .f32⟩
  | .hbm, ⟨92, _⟩ => ⟨S_, .f32⟩
  | .hbm, ⟨93, _⟩ => ⟨S8x8192, .f32⟩
  | .hbm, ⟨94, _⟩ => ⟨S8x8192x8192, .f32⟩
  | .hbm, ⟨95, _⟩ => ⟨S8x8192x8192, .f32⟩
  | .hbm, ⟨96, _⟩ => ⟨S8x8192x8192, .f32⟩
  | .hbm, ⟨97, _⟩ => ⟨S_, .f32⟩
  | .hbm, ⟨98, _⟩ => ⟨S8x8192x8192, .f32⟩
  | .hbm, ⟨99, _⟩ => ⟨S8x8192x8192, .f32⟩
  | .hbm, ⟨100, _⟩ => ⟨S8x8192x192, .f32⟩
  | .hbm, ⟨101, _⟩ => ⟨S8x8192x192, .f32⟩
  | .hbm, ⟨102, _⟩ => ⟨S_, .i32⟩
  | .hbm, ⟨103, _⟩ => ⟨S_, .f32⟩
  | .hbm, ⟨104, _⟩ => ⟨S8x8192x256, .f32⟩
  | .hbm, ⟨105, _⟩ => ⟨S8x8192x256, .bf16⟩
  | .hbm, ⟨106, _⟩ => ⟨S_, .i32⟩
  | .hbm, ⟨107, _⟩ => ⟨S_, .f32⟩
  | .hbm, ⟨108, _⟩ => ⟨S8x8192x256, .f32⟩
  | .hbm, ⟨109, _⟩ => ⟨S8x8192x256, .bf16⟩
  | .hbm, ⟨110, _⟩ => ⟨S8x8192x128, .bf16⟩
  | _, _ => ⟨S8x8192x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst : Ref sig .tc := ⟨.hbm, 34, rfl⟩
abbrev main_call1_v0 : Ref sig .tc := ⟨.hbm, 35, rfl⟩
abbrev main_v13_1 : Ref sig .tc := ⟨.hbm, 36, rfl⟩
abbrev main_call1_v2 : Ref sig .tc := ⟨.hbm, 37, rfl⟩
abbrev main_v13_0 : Ref sig .tc := ⟨.hbm, 38, rfl⟩
abbrev main_call1_cst : Ref sig .tc := ⟨.hbm, 39, rfl⟩
abbrev main_v13_2 : Ref sig .tc := ⟨.hbm, 40, rfl⟩
abbrev main_cst_0 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_1 : Ref sig .tc := ⟨.hbm, 47, rfl⟩
abbrev main_v19 : Ref sig .tc := ⟨.hbm, 48, rfl⟩
abbrev main_cst_2 : Ref sig .tc := ⟨.hbm, 49, rfl⟩
abbrev main_v20 : Ref sig .tc := ⟨.hbm, 50, rfl⟩
abbrev main_v21 : Ref sig .tc := ⟨.hbm, 51, rfl⟩
abbrev main_cst_3 : Ref sig .tc := ⟨.hbm, 52, rfl⟩
abbrev main_v22 : Ref sig .tc := ⟨.hbm, 53, rfl⟩
abbrev main_v23 : Ref sig .tc := ⟨.hbm, 54, rfl⟩
abbrev main_cst_4 : Ref sig .tc := ⟨.hbm, 55, rfl⟩
abbrev main_v24 : Ref sig .tc := ⟨.hbm, 56, rfl⟩
abbrev main_v25 : Ref sig .tc := ⟨.hbm, 57, rfl⟩
abbrev main_cst_5 : Ref sig .tc := ⟨.hbm, 58, rfl⟩
abbrev main_v26 : Ref sig .tc := ⟨.hbm, 59, rfl⟩
abbrev main_cst_6 : Ref sig .tc := ⟨.hbm, 60, rfl⟩
abbrev main_v27 : Ref sig .tc := ⟨.hbm, 61, rfl⟩
abbrev main_cst_7 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_8 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_9 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_10 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_11 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_call2_cst : Ref sig .tc := ⟨.hbm, 97, rfl⟩
abbrev main_call2_v0 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_c_12 : Ref sig .tc := ⟨.hbm, 102, rfl⟩
abbrev main_call3_v0 : Ref sig .tc := ⟨.hbm, 103, rfl⟩
abbrev main_v61 : Ref sig .tc := ⟨.hbm, 104, rfl⟩
abbrev main_v62 : Ref sig .tc := ⟨.hbm, 105, rfl⟩
abbrev main_c_13 : Ref sig .tc := ⟨.hbm, 106, rfl⟩
abbrev main_call4_v0 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩

abbrev nD : Nat := 1
abbrev τ : Topo := Topo.v7x

variable {F : FTy → Type} [FloatOps F]
-- ==== Prep.lean ====
abbrev S8192x832 : Shape := ⟨2, ![8192, 832]⟩
abbrev S8192x512 : Shape := ⟨2, ![8192, 512]⟩
abbrev S8192x256 : Shape := ⟨2, ![8192, 256]⟩
abbrev S8192x64 : Shape := ⟨2, ![8192, 64]⟩
abbrev S512 : Shape := ⟨1, ![512]⟩
abbrev S256 : Shape := ⟨1, ![256]⟩
abbrev S_ : Shape := ⟨0, ![]⟩
abbrev S8192x896 : Shape := ⟨2, ![8192, 896]⟩
abbrev S8192x128 : Shape := ⟨2, ![8192, 128]⟩
abbrev S1x512 : Shape := ⟨2, ![1, 512]⟩
abbrev S1x256 : Shape := ⟨2, ![1, 256]⟩
abbrev S8x512 : Shape := ⟨2, ![8, 512]⟩
abbrev S8x256 : Shape := ⟨2, ![8, 256]⟩
abbrev S512x896 : Shape := ⟨2, ![512, 896]⟩
abbrev S512x512 : Shape := ⟨2, ![512, 512]⟩
abbrev S512x256 : Shape := ⟨2, ![512, 256]⟩
abbrev S512x128 : Shape := ⟨2, ![512, 128]⟩
abbrev S512x1 : Shape := ⟨2, ![512, 1]⟩

abbrev nBuf : Space → Nat
  | .hbm => 17
  | .vmem => 14
  | .smem => 0
  | _ => 0

abbrev bufTy : (tb : Table) → Fin (tcTables nBuf tb) → BufTy
  | .hbm, ⟨0, _⟩ => ⟨S8192x832, .f32⟩
  | .hbm, ⟨1, _⟩ => ⟨S8192x512, .f32⟩
  | .hbm, ⟨2, _⟩ => ⟨S8192x256, .f32⟩
  | .hbm, ⟨3, _⟩ => ⟨S8192x64, .f32⟩
  | .hbm, ⟨4, _⟩ => ⟨S512, .f32⟩
  | .hbm, ⟨5, _⟩ => ⟨S256, .f32⟩
  | .hbm, ⟨6, _⟩ => ⟨S_, .i32⟩
  | .hbm, ⟨7, _⟩ => ⟨S_, .f32⟩
  | .hbm, ⟨8, _⟩ => ⟨S8192x896, .f32⟩
  | .hbm, ⟨9, _⟩ => ⟨S_, .i32⟩
  | .hbm, ⟨10, _⟩ => ⟨S_, .f32⟩
  | .hbm, ⟨11, _⟩ => ⟨S8192x128, .f32⟩
  | .hbm, ⟨12, _⟩ => ⟨S1x512, .f32⟩
  | .hbm, ⟨13, _⟩ => ⟨S1x256, .f32⟩
  | .hbm, ⟨14, _⟩ => ⟨S8192x896, .bf16⟩
  | .hbm, ⟨15, _⟩ => ⟨S8x512, .f32⟩
  | .hbm, ⟨16, _⟩ => ⟨S8x256, .f32⟩
  | .local _ .vmem, ⟨0, _⟩ => ⟨S512x896, .f32⟩
  | .local _ .vmem, ⟨1, _⟩ => ⟨S512x896, .f32⟩
  | .local _ .vmem, ⟨2, _⟩ => ⟨S512x512, .f32⟩
  | .local _ .vmem, ⟨3, _⟩ => ⟨S512x512, .f32⟩
  | .local _ .vmem, ⟨4, _⟩ => ⟨S512x256, .f32⟩
  | .local _ .vmem, ⟨5, _⟩ => ⟨S512x256, .f32⟩
  | .local _ .vmem, ⟨6, _⟩ => ⟨S512x128, .f32⟩
  | .local _ .vmem, ⟨7, _⟩ => ⟨S512x128, .f32⟩
  | .local _ .vmem, ⟨8, _⟩ => ⟨S1x512, .f32⟩
  | .local _ .vmem, ⟨9, _⟩ => ⟨S1x256, .f32⟩
  | .local _ .vmem, ⟨10, _⟩ => ⟨S512x896, .bf16⟩
  | .local _ .vmem, ⟨11, _⟩ => ⟨S512x896, .bf16⟩
  | .local _ .vmem, ⟨12, _⟩ => ⟨S8x512, .f32⟩
  | .local _ .vmem, ⟨13, _⟩ => ⟨S8x256, .f32⟩
  | _, _ => ⟨S8192x832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x896 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PrepRefIdeal.lean ====
abbrev S8192x832 : Shape := ⟨2, ![8192, 832]⟩
abbrev S8192x512 : Shape := ⟨2, ![8192, 512]⟩
abbrev S8192x256 : Shape := ⟨2, ![8192, 256]⟩
abbrev S8192x64 : Shape := ⟨2, ![8192, 64]⟩
abbrev S512 : Shape := ⟨1, ![512]⟩
abbrev S256 : Shape := ⟨1, ![256]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S1x256 : Shape := ⟨2, ![1, 256]⟩
abbrev S8192x896 : Shape := ⟨2, ![8192, 896]⟩
abbrev S8x512 : Shape := ⟨2, ![8, 512]⟩
abbrev S8x256 : Shape := ⟨2, ![8, 256]⟩

abbrev nBuf : Space → Nat
  | .hbm => 113
  | .vmem => 0
  | .smem => 0
  | _ => 0

abbrev bufTy : (tb : Table) → Fin (tcTables nBuf tb) → BufTy
  | .hbm, ⟨0, _⟩ => ⟨S8192x832, .f32⟩
  | .hbm, ⟨1, _⟩ => ⟨S8192x512, .f32⟩
  | .hbm, ⟨2, _⟩ => ⟨S8192x256, .f32⟩
  | .hbm, ⟨3, _⟩ => ⟨S8192x64, .f32⟩
  | .hbm, ⟨4, _⟩ => ⟨S512, .f32⟩
  | .hbm, ⟨5, _⟩ => ⟨S256, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x512, .f32⟩
  | .hbm, ⟨23, _⟩ => ⟨S8192x512, .f32⟩
  | .hbm, ⟨24, _⟩ => ⟨S1x512, .f32⟩
  | .hbm, ⟨25, _⟩ => ⟨S8192x512, .f32⟩
  | .hbm, ⟨26, _⟩ => ⟨S8192x512, .f32⟩
  | .hbm, ⟨27, _⟩ => ⟨S8192x256, .f32⟩
  | .hbm, ⟨28, _⟩ => ⟨S8192x256, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x256, .f32⟩
  | .hbm, ⟨44, _⟩ => ⟨S8192x256, .f32⟩
  | .hbm, ⟨45, _⟩ => ⟨S1x256, .f32⟩
  | .hbm, ⟨46, _⟩ => ⟨S8192x256, .f32⟩
  | .hbm, ⟨47, _⟩ => ⟨S8192x256, .f32⟩
  | .hbm, ⟨48, _⟩ => ⟨S8192x64, .f32⟩
  | .hbm, ⟨49, _⟩ => ⟨S_, .f32⟩
  | .hbm, ⟨50, _⟩ => ⟨S8192x832, .f32⟩
  | .hbm, ⟨51, _⟩ => ⟨S8192x256, .f32⟩
  | .hbm, ⟨52, _⟩ => ⟨S_, .f32⟩
  | .hbm, ⟨53, _⟩ => ⟨S256, .f32⟩
  | .hbm, ⟨54, _⟩ => ⟨S1x256, .f32⟩
  | .hbm, ⟨55, _⟩ => ⟨S8192x256, .f32⟩
  | .hbm, ⟨56, _⟩ => ⟨S8192x256, .f32⟩
  | .hbm, ⟨57, _⟩ => ⟨S_, .f32⟩
  | .hbm, ⟨58, _⟩ => ⟨S256, .f32⟩
  | .hbm, ⟨59, _⟩ => ⟨S8192x256, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x256, .f32⟩
  | .hbm, ⟨64, _⟩ => ⟨S8192x256, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x256, .f32⟩
  | .hbm, ⟨72, _⟩ => ⟨S8192x256, .f32⟩
  | .hbm, ⟨73, _⟩ => ⟨S8192x256, .f32⟩
  | .hbm, ⟨74, _⟩ => ⟨S8192x256, .f32⟩
  | .hbm, ⟨75, _⟩ => ⟨S8192x256, .f32⟩
  | .hbm, ⟨76, _⟩ => ⟨S_, .f32⟩
  | .hbm, ⟨77, _⟩ => ⟨S8192x832, .f32⟩
  | .hbm, ⟨78, _⟩ => ⟨S8192x832, .f32⟩
  | .hbm, ⟨79, _⟩ => ⟨S8192x512, .f32⟩
  | .hbm, ⟨80, _⟩ => ⟨S_, .f32⟩
  | .hbm, ⟨81, _⟩ => ⟨S512, .f32⟩
  | .hbm, ⟨82, _⟩ => ⟨S1x512, .f32⟩
  | .hbm, ⟨83, _⟩ => ⟨S8192x512, .f32⟩
  | .hbm, ⟨84, _⟩ => ⟨S8192x512, .f32⟩
  | .hbm, ⟨85, _⟩ => ⟨S_, .f32⟩
  | .hbm, ⟨86, _⟩ => ⟨S512, .f32⟩
  | .hbm, ⟨87, _⟩ => ⟨S8192x512, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S8192x512, .f32⟩
  | .hbm, ⟨92, _⟩ => ⟨S8192x512, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192, .f32⟩
  | .hbm, ⟨99, _⟩ => ⟨S8192x512, .f32⟩
  | .hbm, ⟨100, _⟩ => ⟨S8192x512, .f32⟩
  | .hbm, ⟨101, _⟩ => ⟨S8192x512, .f32⟩
  | .hbm, ⟨102, _⟩ => ⟨S8192x512, .f32⟩
  | .hbm, ⟨103, _⟩ => ⟨S8192x512, .f32⟩
  | .hbm, ⟨104, _⟩ => ⟨S_, .f32⟩
  | .hbm, ⟨105, _⟩ => ⟨S8192x832, .f32⟩
  | .hbm, ⟨106, _⟩ => ⟨S8192x832, .f32⟩
  | .hbm, ⟨107, _⟩ => ⟨S_, .i32⟩
  | .hbm, ⟨108, _⟩ => ⟨S_, .f32⟩
  | .hbm, ⟨109, _⟩ => ⟨S8192x896, .f32⟩
  | .hbm, ⟨110, _⟩ => ⟨S8192x896, .bf16⟩
  | .hbm, ⟨111, _⟩ => ⟨S8x512, .f32⟩
  | .hbm, ⟨112, _⟩ => ⟨S8x256, .f32⟩
  | _, _ => ⟨S8192x832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_14 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_15 : Ref sig .tc := ⟨.hbm, 85, rfl⟩
abbrev main_v63 : Ref sig .tc := ⟨.hbm, 86, rfl⟩
abbrev main_v64 : Ref sig .tc := ⟨.hbm, 87, rfl⟩
abbrev main_cst_16 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_17 : Ref sig .tc := ⟨.hbm, 94, rfl⟩
abbrev main_v70 : Ref sig .tc := ⟨.hbm, 95, rfl⟩
abbrev main_v71 : Ref sig .tc := ⟨.hbm, 96, rfl⟩
abbrev main_cst_18 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_19 : Ref sig .tc := ⟨.hbm, 104, rfl⟩
abbrev main_v78 : Ref sig .tc := ⟨.hbm, 105, rfl⟩
abbrev main_v79 : Ref sig .tc := ⟨.hbm, 106, rfl⟩
abbrev main_c : Ref sig .tc := ⟨.hbm, 107, rfl⟩
abbrev main_call0_v0 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩

abbrev nD : Nat := 1
abbrev τ : Topo := Topo.v7x

variable {F : FTy → Type} [FloatOps F]
-- ==== Down.lean ====
abbrev S8192x1024 : Shape := ⟨2, ![8192, 1024]⟩
abbrev S1024 : Shape := ⟨1, ![1024]⟩
abbrev S1024x832 : Shape := ⟨2, ![1024, 832]⟩
abbrev S8192x832 : Shape := ⟨2, ![8192, 832]⟩
abbrev S_ : Shape := ⟨0, ![]⟩
abbrev S8192x896 : Shape := ⟨2, ![8192, 896]⟩
abbrev S1024x896 : Shape := ⟨2, ![1024, 896]⟩
abbrev S8x128 : Shape := ⟨2, ![8, 128]⟩
abbrev S1x1024 : Shape := ⟨2, ![1, 1024]⟩
abbrev S8x1024 : Shape := ⟨2, ![8, 1024]⟩
abbrev S512x896 : Shape := ⟨2, ![512, 896]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x832, .bf16⟩
  | .hbm, ⟨3, _⟩ => ⟨S8192x1024, .f32⟩
  | .hbm, ⟨4, _⟩ => ⟨S8192x832, .bf16⟩
  | .hbm, ⟨5, _⟩ => ⟨S_, .i32⟩
  | .hbm, ⟨6, _⟩ => ⟨S_, .bf16⟩
  | .hbm, ⟨7, _⟩ => ⟨S8192x896, .bf16⟩
  | .hbm, ⟨8, _⟩ => ⟨S_, .i32⟩
  | .hbm, ⟨9, _⟩ => ⟨S_, .bf16⟩
  | .hbm, ⟨10, _⟩ => ⟨S1024x896, .bf16⟩
  | .hbm, ⟨11, _⟩ => ⟨S_, .f32⟩
  | .hbm, ⟨12, _⟩ => ⟨S8x128, .f32⟩
  | .hbm, ⟨13, _⟩ => ⟨S1x1024, .f32⟩
  | .hbm, ⟨14, _⟩ => ⟨S8192x1024, .f32⟩
  | .hbm, ⟨15, _⟩ => ⟨S8x1024, .f32⟩
  | .local _ .vmem, ⟨0, _⟩ => ⟨S512x896, .bf16⟩
  | .local _ .vmem, ⟨1, _⟩ => ⟨S512x896, .bf16⟩
  | .local _ .vmem, ⟨2, _⟩ => ⟨S1024x896, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S8x128, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c0_i32_11 : BitVec 32 := 0#32
  let v18 : BitVec 1 := Scalar.cmpi .eq arg1 c0_i32_11
  let v19 : BitVec 32 := Scalar.extui v18
  let c0_i32_12 : BitVec 32 := 0#32
  let v20 : BitVec 1 := Scalar.cmpi .ne v19 c0_i32_12
  v20

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== DownRefIdeal.lean ====
abbrev S8192x1024 : Shape := ⟨2, ![8192, 1024]⟩
abbrev S1024 : Shape := ⟨1, ![1024]⟩
abbrev S1024x832 : Shape := ⟨2, ![1024, 832]⟩
abbrev S8192x832 : Shape := ⟨2, ![8192, 832]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x832, .bf16⟩
  | .hbm, ⟨3, _⟩ => ⟨S8192x1024, .f32⟩
  | .hbm, ⟨4, _⟩ => ⟨S8192x832, .bf16⟩
  | .hbm, ⟨5, _⟩ => ⟨S1024x832, .f32⟩
  | .hbm, ⟨6, _⟩ => ⟨S8192x832, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x832, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Pointwise.lean ====
abbrev S8192x1024 : Shape := ⟨2, ![8192, 1024]⟩
abbrev S1024 : Shape := ⟨1, ![1024]⟩
abbrev S1024x2048 : Shape := ⟨2, ![1024, 2048]⟩
abbrev S1024x1024 : Shape := ⟨2, ![1024, 1024]⟩
abbrev S_ : Shape := ⟨0, ![]⟩
abbrev S8x128 : Shape := ⟨2, ![8, 128]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .bf16⟩
  | .hbm, ⟨3, _⟩ => ⟨S8192x1024, .f32⟩
  | .hbm, ⟨4, _⟩ => ⟨S8192x1024, .bf16⟩
  | .hbm, ⟨5, _⟩ => ⟨S8192x1024, .bf16⟩
  | .hbm, ⟨6, _⟩ => ⟨S1024x1024, .bf16⟩
  | .hbm, ⟨7, _⟩ => ⟨S1024x1024, .bf16⟩
  | .hbm, ⟨8, _⟩ => ⟨S_, .f32⟩
  | .hbm, ⟨9, _⟩ => ⟨S8x128, .f32⟩
  | .hbm, ⟨10, _⟩ => ⟨S1x1024, .f32⟩
  | .hbm, ⟨11, _⟩ => ⟨S8192x1024, .f32⟩
  | .hbm, ⟨12, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x128, .f32⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | .local _ .vmem, ⟨15, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c0_i32_16 : BitVec 32 := 0#32
  let v22 : BitVec 1 := Scalar.cmpi .eq arg1 c0_i32_16
  let v23 : BitVec 32 := Scalar.extui v22
  let c0_i32_17 : BitVec 32 := 0#32
  let v24 : BitVec 1 := Scalar.cmpi .ne v23 c0_i32_17
  v24

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== PointwiseRefIdeal.lean ====
abbrev S8192x1024 : Shape := ⟨2, ![8192, 1024]⟩
abbrev S1024 : Shape := ⟨1, ![1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .bf16⟩
  | .hbm, ⟨3, _⟩ => ⟨S8192x1024, .f32⟩
  | .hbm, ⟨4, _⟩ => ⟨S8192x1024, .bf16⟩
  | .hbm, ⟨5, _⟩ => ⟨S8192x1024, .bf16⟩
  | .hbm, ⟨6, _⟩ => ⟨S1024x2048, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x2048, .f32⟩
  | .hbm, ⟨30, _⟩ => ⟨S8192x1024, .f32⟩
  | .hbm, ⟨31, _⟩ => ⟨S8192x1024, .f32⟩
  | .hbm, ⟨32, _⟩ => ⟨S8192x2048, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== ConvNorm.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8x128 : Shape := ⟨2, ![8, 128]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .bf16⟩
  | .hbm, ⟨4, _⟩ => ⟨S_, .f32⟩
  | .hbm, ⟨5, _⟩ => ⟨S8x128, .f32⟩
  | .hbm, ⟨6, _⟩ => ⟨S1x1024, .f32⟩
  | .hbm, ⟨7, _⟩ => ⟨S8192x1024, .f32⟩
  | .hbm, ⟨8, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S8x128, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ConvNormRefIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .bf16⟩
  | .hbm, ⟨4, _⟩ => ⟨S1024x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_v17_2 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_v17_1 : Ref sig .tc := ⟨.hbm, 36, rfl⟩
abbrev main_v17_0 : Ref sig .tc := ⟨.hbm, 37, rfl⟩
abbrev main_v18 : Ref sig .tc := ⟨.hbm, 38, rfl⟩
abbrev main_v19 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩

abbrev nD : Nat := 1
abbrev τ : Topo := Topo.v7x

variable {F : FTy → Type} [FloatOps F]
-- ==== ConvDw.lean ====
abbrev S8192x1024 : Shape := ⟨2, ![8192, 1024]⟩
abbrev S31x1024 : Shape := ⟨2, ![31, 1024]⟩
abbrev S_ : Shape := ⟨0, ![]⟩
abbrev S32x1024 : Shape := ⟨2, ![32, 1024]⟩
abbrev S256x1024 : Shape := ⟨2, ![256, 1024]⟩
abbrev S296x1024 : Shape := ⟨2, ![296, 1024]⟩
abbrev S8x288x1024 : Shape := ⟨3, ![8, 288, 1024]⟩
abbrev S8x1024 : Shape := ⟨2, ![8, 1024]⟩
abbrev S288x1024 : Shape := ⟨2, ![288, 1024]⟩
abbrev S1x288x1024 : Shape := ⟨3, ![1, 288, 1024]⟩
abbrev S16x1024 : Shape := ⟨2, ![16, 1024]⟩
abbrev S1x16x1024 : Shape := ⟨3, ![1, 16, 1024]⟩
abbrev S1x1024 : Shape := ⟨2, ![1, 1024]⟩
abbrev S1024 : Shape := ⟨1, ![1024]⟩

abbrev nBuf : Space → Nat
  | .hbm => 22
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S31x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .bf16⟩
  | .hbm, ⟨16, _⟩ => ⟨S_, .i32⟩
  | .hbm, ⟨17, _⟩ => ⟨S_, .f32⟩
  | .hbm, ⟨18, _⟩ => ⟨S32x1024, .f32⟩
  | .hbm, ⟨19, _⟩ => ⟨S8192x1024, .bf16⟩
  | .hbm, ⟨20, _⟩ => ⟨S8192x1024, .bf16⟩
  | .hbm, ⟨21, _⟩ => ⟨S32x1024, .f32⟩
  | .local _ .vmem, ⟨0, _⟩ => ⟨S256x1024, .f32⟩
  | .local _ .vmem, ⟨1, _⟩ => ⟨S256x1024, .f32⟩
  | .local _ .vmem, ⟨2, _⟩ => ⟨S32x1024, .f32⟩
  | .local _ .vmem, ⟨3, _⟩ => ⟨S32x1024, .f32⟩
  | .local _ .vmem, ⟨4, _⟩ => ⟨S256x1024, .bf16⟩
  | .local _ .vmem, ⟨5, _⟩ => ⟨S256x1024, .bf16⟩
  | .local _ .vmem, ⟨6, _⟩ => ⟨S32x1024, .bf16⟩
  | .local _ .vmem, ⟨7, _⟩ => ⟨S32x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S32x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S32x1024, .f32⟩
  | .local _ .vmem, ⟨18, _⟩ => ⟨S296x1024, .f32⟩
  | .local _ .vmem, ⟨19, _⟩ => ⟨S296x1024, .f32⟩
  | .local _ .vmem, ⟨20, _⟩ => ⟨S8x288x1024, .f32⟩
  | .local _ .vmem, ⟨21, _⟩ => ⟨S8x288x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ConvDwRefIdeal.lean ====
abbrev S8192x1024 : Shape := ⟨2, ![8192, 1024]⟩
abbrev S31x1024 : Shape := ⟨2, ![31, 1024]⟩
abbrev S_ : Shape := ⟨0, ![]⟩
abbrev S30x1024 : Shape := ⟨2, ![30, 1024]⟩
abbrev S8222x1024 : Shape := ⟨2, ![8222, 1024]⟩
abbrev S1x1024 : Shape := ⟨2, ![1, 1024]⟩
abbrev S1024 : Shape := ⟨1, ![1024]⟩
abbrev S32x1024 : Shape := ⟨2, ![32, 1024]⟩

abbrev nBuf : Space → Nat
  | .hbm => 715
  | .vmem => 0
  | .smem => 0
  | _ => 0

abbrev hbmTy0_0 (i : Nat) : BufTy := match i % 128 with
  | 0 => ⟨S8192x1024, .f32⟩
  | 1 => ⟨S8192x1024, .bf16⟩
  | 2 => ⟨S8192x1024, .bf16⟩
  | 3 => ⟨S31x1024, .f32⟩
  | 4 => ⟨S8192x1024, .f32⟩
  | 5 => ⟨S8192x1024, .f32⟩
  | 6 => ⟨S8192x1024, .f32⟩
  | 7 => ⟨S8192x1024, .f32⟩
  | 8 => ⟨S_, .f32⟩
  | 9 => ⟨S8192x1024, .f32⟩
  | 10 => ⟨S8192x1024, .f32⟩
  | 11 => ⟨S_, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S8192x1024, .f32⟩
  | 18 => ⟨S8192x1024, .f32⟩
  | 19 => ⟨S_, .f32⟩
  | 20 => ⟨S30x1024, .f32⟩
  | 21 => ⟨S8222x1024, .f32⟩
  | 22 => ⟨S_, .f32⟩
  | 23 => ⟨S30x1024, .f32⟩
  | 24 => ⟨S8192x1024, .f32⟩
  | 25 => ⟨S1x1024, .f32⟩
  | 26 => ⟨S1024, .f32⟩
  | 27 => ⟨S1x1024, .f32⟩
  | 28 => ⟨S8192x1024, .f32⟩
  | 29 => ⟨S8192x1024, .f32⟩
  | 30 => ⟨S8192x1024, .f32⟩
  | 31 => ⟨S1x1024, .f32⟩
  | 32 => ⟨S1024, .f32⟩
  | 33 => ⟨S1x1024, .f32⟩
  | 34 => ⟨S8192x1024, .f32⟩
  | 35 => ⟨S8192x1024, .f32⟩
  | 36 => ⟨S8192x1024, .f32⟩
  | 37 => ⟨S8192x1024, .f32⟩
  | 38 => ⟨S1x1024, .f32⟩
  | 39 => ⟨S1024, .f32⟩
  | 40 => ⟨S1x1024, .f32⟩
  | 41 => ⟨S8192x1024, .f32⟩
  | 42 => ⟨S8192x1024, .f32⟩
  | 43 => ⟨S8192x1024, .f32⟩
  | 44 => ⟨S8192x1024, .f32⟩
  | 45 => ⟨S1x1024, .f32⟩
  | 46 => ⟨S1024, .f32⟩
  | 47 => ⟨S1x1024, .f32⟩
  | 48 => ⟨S8192x1024, .f32⟩
  | 49 => ⟨S8192x1024, .f32⟩
  | 50 => ⟨S8192x1024, .f32⟩
  | 51 => ⟨S8192x1024, .f32⟩
  | 52 => ⟨S1x1024, .f32⟩
  | 53 => ⟨S1024, .f32⟩
  | 54 => ⟨S1x1024, .f32⟩
  | 55 => ⟨S8192x1024, .f32⟩
  | 56 => ⟨S8192x1024, .f32⟩
  | 57 => ⟨S8192x1024, .f32⟩
  | 58 => ⟨S8192x1024, .f32⟩
  | 59 => ⟨S1x1024, .f32⟩
  | 60 => ⟨S1024, .f32⟩
  | 61 => ⟨S1x1024, .f32⟩
  | 62 => ⟨S8192x1024, .f32⟩
  | 63 => ⟨S8192x1024, .f32⟩
  | 64 => ⟨S8192x1024, .f32⟩
  | 65 => ⟨S8192x1024, .f32⟩
  | 66 => ⟨S1x1024, .f32⟩
  | 67 => ⟨S1024, .f32⟩
  | 68 => ⟨S1x1024, .f32⟩
  | 69 => ⟨S8192x1024, .f32⟩
  | 70 => ⟨S8192x1024, .f32⟩
  | 71 => ⟨S8192x1024, .f32⟩
  | 72 => ⟨S8192x1024, .f32⟩
  | 73 => ⟨S1x1024, .f32⟩
  | 74 => ⟨S1024, .f32⟩
  | 75 => ⟨S1x1024, .f32⟩
  | 76 => ⟨S8192x1024, .f32⟩
  | 77 => ⟨S8192x1024, .f32⟩
  | 78 => ⟨S8192x1024, .f32⟩
  | 79 => ⟨S8192x1024, .f32⟩
  | 80 => ⟨S1x1024, .f32⟩
  | 81 => ⟨S1024, .f32⟩
  | 82 => ⟨S1x1024, .f32⟩
  | 83 => ⟨S8192x1024, .f32⟩
  | 84 => ⟨S8192x1024, .f32⟩
  | 85 => ⟨S8192x1024, .f32⟩
  | 86 => ⟨S8192x1024, .f32⟩
  | 87 => ⟨S1x1024, .f32⟩
  | 88 => ⟨S1024, .f32⟩
  | 89 => ⟨S1x1024, .f32⟩
  | 90 => ⟨S8192x1024, .f32⟩
  | 91 => ⟨S8192x1024, .f32⟩
  | 92 => ⟨S8192x1024, .f32⟩
  | 93 => ⟨S8192x1024, .f32⟩
  | 94 => ⟨S1x1024, .f32⟩
  | 95 => ⟨S1024, .f32⟩
  | 96 => ⟨S1x1024, .f32⟩
  | 97 => ⟨S8192x1024, .f32⟩
  | 98 => ⟨S8192x1024, .f32⟩
  | 99 => ⟨S8192x1024, .f32⟩
  | 100 => ⟨S8192x1024, .f32⟩
  | 101 => ⟨S1x1024, .f32⟩
  | 102 => ⟨S1024, .f32⟩
  | 103 => ⟨S1x1024, .f32⟩
  | 104 => ⟨S8192x1024, .f32⟩
  | 105 => ⟨S8192x1024, .f32⟩
  | 106 => ⟨S8192x1024, .f32⟩
  | 107 => ⟨S8192x1024, .f32⟩
  | 108 => ⟨S1x1024, .f32⟩
  | 109 => ⟨S1024, .f32⟩
  | 110 => ⟨S1x1024, .f32⟩
  | 111 => ⟨S8192x1024, .f32⟩
  | 112 => ⟨S8192x1024, .f32⟩
  | 113 => ⟨S8192x1024, .f32⟩
  | 114 => ⟨S8192x1024, .f32⟩
  | 115 => ⟨S1x1024, .f32⟩
  | 116 => ⟨S1024, .f32⟩
  | 117 => ⟨S1x1024, .f32⟩
  | 118 => ⟨S8192x1024, .f32⟩
  | 119 => ⟨S8192x1024, .f32⟩
  | 120 => ⟨S8192x1024, .f32⟩
  | 121 => ⟨S8192x1024, .f32⟩
  | 122 => ⟨S1x1024, .f32⟩
  | 123 => ⟨S1024, .f32⟩
  | 124 => ⟨S1x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S1x1024, .f32⟩
  | 2 => ⟨S1024, .f32⟩
  | 3 => ⟨S1x1024, .f32⟩
  | 4 => ⟨S8192x1024, .f32⟩
  | 5 => ⟨S8192x1024, .f32⟩
  | 6 => ⟨S8192x1024, .f32⟩
  | 7 => ⟨S8192x1024, .f32⟩
  | 8 => ⟨S1x1024, .f32⟩
  | 9 => ⟨S1024, .f32⟩
  | 10 => ⟨S1x1024, .f32⟩
  | 11 => ⟨S8192x1024, .f32⟩
  | 12 => ⟨S8192x1024, .f32⟩
  | 13 => ⟨S8192x1024, .f32⟩
  | 14 => ⟨S8192x1024, .f32⟩
  | 15 => ⟨S1x1024, .f32⟩
  | 16 => ⟨S1024, .f32⟩
  | 17 => ⟨S1x1024, .f32⟩
  | 18 => ⟨S8192x1024, .f32⟩
  | 19 => ⟨S8192x1024, .f32⟩
  | 20 => ⟨S8192x1024, .f32⟩
  | 21 => ⟨S8192x1024, .f32⟩
  | 22 => ⟨S1x1024, .f32⟩
  | 23 => ⟨S1024, .f32⟩
  | 24 => ⟨S1x1024, .f32⟩
  | 25 => ⟨S8192x1024, .f32⟩
  | 26 => ⟨S8192x1024, .f32⟩
  | 27 => ⟨S8192x1024, .f32⟩
  | 28 => ⟨S8192x1024, .f32⟩
  | 29 => ⟨S1x1024, .f32⟩
  | 30 => ⟨S1024, .f32⟩
  | 31 => ⟨S1x1024, .f32⟩
  | 32 => ⟨S8192x1024, .f32⟩
  | 33 => ⟨S8192x1024, .f32⟩
  | 34 => ⟨S8192x1024, .f32⟩
  | 35 => ⟨S8192x1024, .f32⟩
  | 36 => ⟨S1x1024, .f32⟩
  | 37 => ⟨S1024, .f32⟩
  | 38 => ⟨S1x1024, .f32⟩
  | 39 => ⟨S8192x1024, .f32⟩
  | 40 => ⟨S8192x1024, .f32⟩
  | 41 => ⟨S8192x1024, .f32⟩
  | 42 => ⟨S8192x1024, .f32⟩
  | 43 => ⟨S1x1024, .f32⟩
  | 44 => ⟨S1024, .f32⟩
  | 45 => ⟨S1x1024, .f32⟩
  | 46 => ⟨S8192x1024, .f32⟩
  | 47 => ⟨S8192x1024, .f32⟩
  | 48 => ⟨S8192x1024, .f32⟩
  | 49 => ⟨S8192x1024, .f32⟩
  | 50 => ⟨S1x1024, .f32⟩
  | 51 => ⟨S1024, .f32⟩
  | 52 => ⟨S1x1024, .f32⟩
  | 53 => ⟨S8192x1024, .f32⟩
  | 54 => ⟨S8192x1024, .f32⟩
  | 55 => ⟨S8192x1024, .f32⟩
  | 56 => ⟨S8192x1024, .f32⟩
  | 57 => ⟨S1x1024, .f32⟩
  | 58 => ⟨S1024, .f32⟩
  | 59 => ⟨S1x1024, .f32⟩
  | 60 => ⟨S8192x1024, .f32⟩
  | 61 => ⟨S8192x1024, .f32⟩
  | 62 => ⟨S8192x1024, .f32⟩
  | 63 => ⟨S8192x1024, .f32⟩
  | 64 => ⟨S1x1024, .f32⟩
  | 65 => ⟨S1024, .f32⟩
  | 66 => ⟨S1x1024, .f32⟩
  | 67 => ⟨S8192x1024, .f32⟩
  | 68 => ⟨S8192x1024, .f32⟩
  | 69 => ⟨S8192x1024, .f32⟩
  | 70 => ⟨S8192x1024, .f32⟩
  | 71 => ⟨S1x1024, .f32⟩
  | 72 => ⟨S1024, .f32⟩
  | 73 => ⟨S1x1024, .f32⟩
  | 74 => ⟨S8192x1024, .f32⟩
  | 75 => ⟨S8192x1024, .f32⟩
  | 76 => ⟨S8192x1024, .f32⟩
  | 77 => ⟨S8192x1024, .f32⟩
  | 78 => ⟨S1x1024, .f32⟩
  | 79 => ⟨S1024, .f32⟩
  | 80 => ⟨S1x1024, .f32⟩
  | 81 => ⟨S8192x1024, .f32⟩
  | 82 => ⟨S8192x1024, .f32⟩
  | 83 => ⟨S8192x1024, .f32⟩
  | 84 => ⟨S8192x1024, .f32⟩
  | 85 => ⟨S1x1024, .f32⟩
  | 86 => ⟨S1024, .f32⟩
  | 87 => ⟨S1x1024, .f32⟩
  | 88 => ⟨S8192x1024, .f32⟩
  | 89 => ⟨S8192x1024, .f32⟩
  | 90 => ⟨S8192x1024, .f32⟩
  | 91 => ⟨S8192x1024, .f32⟩
  | 92 => ⟨S1x1024, .f32⟩
  | 93 => ⟨S1024, .f32⟩
  | 94 => ⟨S1x1024, .f32⟩
  | 95 => ⟨S8192x1024, .f32⟩
  | 96 => ⟨S8192x1024, .f32⟩
  | 97 => ⟨S8192x1024, .f32⟩
  | 98 => ⟨S8192x1024, .f32⟩
  | 99 => ⟨S1x1024, .f32⟩
  | 100 => ⟨S1024, .f32⟩
  | 101 => ⟨S1x1024, .f32⟩
  | 102 => ⟨S8192x1024, .f32⟩
  | 103 => ⟨S8192x1024, .f32⟩
  | 104 => ⟨S8192x1024, .f32⟩
  | 105 => ⟨S8192x1024, .f32⟩
  | 106 => ⟨S1x1024, .f32⟩
  | 107 => ⟨S1024, .f32⟩
  | 108 => ⟨S1x1024, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S_, .f32⟩
  | 116 => ⟨S1024, .f32⟩
  | 117 => ⟨S1x1024, .f32⟩
  | 118 => ⟨S8192x1024, .f32⟩
  | 119 => ⟨S8192x1024, .f32⟩
  | 120 => ⟨S_, .f32⟩
  | 121 => ⟨S1024, .f32⟩
  | 122 => ⟨S1x1024, .f32⟩
  | 123 => ⟨S_, .f32⟩
  | 124 => ⟨S31x1024, .f32⟩
  | 125 => ⟨S_, .f32⟩
  | 126 => ⟨S8222x1024, .f32⟩
  | 127 => ⟨S8192x1024, .f32⟩
  | _ => ⟨S8192x1024, .f32⟩

abbrev hbmTy0_2 (i : Nat) : BufTy := match i % 128 with
  | 0 => ⟨S_, .f32⟩
  | 1 => ⟨S1024, .f32⟩
  | 2 => ⟨S1x1024, .f32⟩
  | 3 => ⟨S8192x1024, .f32⟩
  | 4 => ⟨S8192x1024, .f32⟩
  | 5 => ⟨S_, .f32⟩
  | 6 => ⟨S1024, .f32⟩
  | 7 => ⟨S1x1024, .f32⟩
  | 8 => ⟨S_, .f32⟩
  | 9 => ⟨S31x1024, .f32⟩
  | 10 => ⟨S31x1024, .f32⟩
  | 11 => ⟨S_, .f32⟩
  | 12 => ⟨S8222x1024, .f32⟩
  | 13 => ⟨S8222x1024, .f32⟩
  | 14 => ⟨S8192x1024, .f32⟩
  | 15 => ⟨S_, .f32⟩
  | 16 => ⟨S1024, .f32⟩
  | 17 => ⟨S1x1024, .f32⟩
  | 18 => ⟨S8192x1024, .f32⟩
  | 19 => ⟨S8192x1024, .f32⟩
  | 20 => ⟨S_, .f32⟩
  | 21 => ⟨S1024, .f32⟩
  | 22 => ⟨S1x1024, .f32⟩
  | 23 => ⟨S_, .f32⟩
  | 24 => ⟨S31x1024, .f32⟩
  | 25 => ⟨S31x1024, .f32⟩
  | 26 => ⟨S_, .f32⟩
  | 27 => ⟨S8222x1024, .f32⟩
  | 28 => ⟨S8222x1024, .f32⟩
  | 29 => ⟨S8192x1024, .f32⟩
  | 30 => ⟨S_, .f32⟩
  | 31 => ⟨S1024, .f32⟩
  | 32 => ⟨S1x1024, .f32⟩
  | 33 => ⟨S8192x1024, .f32⟩
  | 34 => ⟨S8192x1024, .f32⟩
  | 35 => ⟨S_, .f32⟩
  | 36 => ⟨S1024, .f32⟩
  | 37 => ⟨S1x1024, .f32⟩
  | 38 => ⟨S_, .f32⟩
  | 39 => ⟨S31x1024, .f32⟩
  | 40 => ⟨S31x1024, .f32⟩
  | 41 => ⟨S_, .f32⟩
  | 42 => ⟨S8222x1024, .f32⟩
  | 43 => ⟨S8222x1024, .f32⟩
  | 44 => ⟨S8192x1024, .f32⟩
  | 45 => ⟨S_, .f32⟩
  | 46 => ⟨S1024, .f32⟩
  | 47 => ⟨S1x1024, .f32⟩
  | 48 => ⟨S8192x1024, .f32⟩
  | 49 => ⟨S8192x1024, .f32⟩
  | 50 => ⟨S_, .f32⟩
  | 51 => ⟨S1024, .f32⟩
  | 52 => ⟨S1x1024, .f32⟩
  | 53 => ⟨S_, .f32⟩
  | 54 => ⟨S31x1024, .f32⟩
  | 55 => ⟨S31x1024, .f32⟩
  | 56 => ⟨S_, .f32⟩
  | 57 => ⟨S8222x1024, .f32⟩
  | 58 => ⟨S8222x1024, .f32⟩
  | 59 => ⟨S8192x1024, .f32⟩
  | 60 => ⟨S_, .f32⟩
  | 61 => ⟨S1024, .f32⟩
  | 62 => ⟨S1x1024, .f32⟩
  | 63 => ⟨S8192x1024, .f32⟩
  | 64 => ⟨S8192x1024, .f32⟩
  | 65 => ⟨S_, .f32⟩
  | 66 => ⟨S1024, .f32⟩
  | 67 => ⟨S1x1024, .f32⟩
  | 68 => ⟨S_, .f32⟩
  | 69 => ⟨S31x1024, .f32⟩
  | 70 => ⟨S31x1024, .f32⟩
  | 71 => ⟨S_, .f32⟩
  | 72 => ⟨S8222x1024, .f32⟩
  | 73 => ⟨S8222x1024, .f32⟩
  | 74 => ⟨S8192x1024, .f32⟩
  | 75 => ⟨S_, .f32⟩
  | 76 => ⟨S1024, .f32⟩
  | 77 => ⟨S1x1024, .f32⟩
  | 78 => ⟨S8192x1024, .f32⟩
  | 79 => ⟨S8192x1024, .f32⟩
  | 80 => ⟨S_, .f32⟩
  | 81 => ⟨S1024, .f32⟩
  | 82 => ⟨S1x1024, .f32⟩
  | 83 => ⟨S_, .f32⟩
  | 84 => ⟨S31x1024, .f32⟩
  | 85 => ⟨S31x1024, .f32⟩
  | 86 => ⟨S_, .f32⟩
  | 87 => ⟨S8222x1024, .f32⟩
  | 88 => ⟨S8222x1024, .f32⟩
  | 89 => ⟨S8192x1024, .f32⟩
  | 90 => ⟨S_, .f32⟩
  | 91 => ⟨S1024, .f32⟩
  | 92 => ⟨S1x1024, .f32⟩
  | 93 => ⟨S8192x1024, .f32⟩
  | 94 => ⟨S8192x1024, .f32⟩
  | 95 => ⟨S_, .f32⟩
  | 96 => ⟨S1024, .f32⟩
  | 97 => ⟨S1x1024, .f32⟩
  | 98 => ⟨S_, .f32⟩
  | 99 => ⟨S31x1024, .f32⟩
  | 100 => ⟨S31x1024, .f32⟩
  | 101 => ⟨S_, .f32⟩
  | 102 => ⟨S8222x1024, .f32⟩
  | 103 => ⟨S8222x1024, .f32⟩
  | 104 => ⟨S8192x1024, .f32⟩
  | 105 => ⟨S_, .f32⟩
  | 106 => ⟨S1024, .f32⟩
  | 107 => ⟨S1x1024, .f32⟩
  | 108 => ⟨S8192x1024, .f32⟩
  | 109 => ⟨S8192x1024, .f32⟩
  | 110 => ⟨S_, .f32⟩
  | 111 => ⟨S1024, .f32⟩
  | 112 => ⟨S1x1024, .f32⟩
  | 113 => ⟨S_, .f32⟩
  | 114 => ⟨S31x1024, .f32⟩
  | 115 => ⟨S31x1024, .f32⟩
  | 116 => ⟨S_, .f32⟩
  | 117 => ⟨S8222x1024, .f32⟩
  | 118 => ⟨S8222x1024, .f32⟩
  | 119 => ⟨S8192x1024, .f32⟩
  | 120 => ⟨S_, .f32⟩
  | 121 => ⟨S1024, .f32⟩
  | 122 => ⟨S1x1024, .f32⟩
  | 123 => ⟨S8192x1024, .f32⟩
  | 124 => ⟨S8192x1024, .f32⟩
  | 125 => ⟨S_, .f32⟩
  | 126 => ⟨S1024, .f32⟩
  | 127 => ⟨S1x1024, .f32⟩
  | _ => ⟨S8192x1024, .f32⟩

abbrev hbmTy0_3 (i : Nat) : BufTy := match i % 128 with
  | 0 => ⟨S_, .f32⟩
  | 1 => ⟨S31x1024, .f32⟩
  | 2 => ⟨S31x1024, .f32⟩
  | 3 => ⟨S_, .f32⟩
  | 4 => ⟨S8222x1024, .f32⟩
  | 5 => ⟨S8222x1024, .f32⟩
  | 6 => ⟨S8192x1024, .f32⟩
  | 7 => ⟨S_, .f32⟩
  | 8 => ⟨S1024, .f32⟩
  | 9 => ⟨S1x1024, .f32⟩
  | 10 => ⟨S8192x1024, .f32⟩
  | 11 => ⟨S8192x1024, .f32⟩
  | 12 => ⟨S_, .f32⟩
  | 13 => ⟨S1024, .f32⟩
  | 14 => ⟨S1x1024, .f32⟩
  | 15 => ⟨S_, .f32⟩
  | 16 => ⟨S31x1024, .f32⟩
  | 17 => ⟨S31x1024, .f32⟩
  | 18 => ⟨S_, .f32⟩
  | 19 => ⟨S8222x1024, .f32⟩
  | 20 => ⟨S8222x1024, .f32⟩
  | 21 => ⟨S8192x1024, .f32⟩
  | 22 => ⟨S_, .f32⟩
  | 23 => ⟨S1024, .f32⟩
  | 24 => ⟨S1x1024, .f32⟩
  | 25 => ⟨S8192x1024, .f32⟩
  | 26 => ⟨S8192x1024, .f32⟩
  | 27 => ⟨S_, .f32⟩
  | 28 => ⟨S1024, .f32⟩
  | 29 => ⟨S1x1024, .f32⟩
  | 30 => ⟨S_, .f32⟩
  | 31 => ⟨S31x1024, .f32⟩
  | 32 => ⟨S31x1024, .f32⟩
  | 33 => ⟨S_, .f32⟩
  | 34 => ⟨S8222x1024, .f32⟩
  | 35 => ⟨S8222x1024, .f32⟩
  | 36 => ⟨S8192x1024, .f32⟩
  | 37 => ⟨S_, .f32⟩
  | 38 => ⟨S1024, .f32⟩
  | 39 => ⟨S1x1024, .f32⟩
  | 40 => ⟨S8192x1024, .f32⟩
  | 41 => ⟨S8192x1024, .f32⟩
  | 42 => ⟨S_, .f32⟩
  | 43 => ⟨S1024, .f32⟩
  | 44 => ⟨S1x1024, .f32⟩
  | 45 => ⟨S_, .f32⟩
  | 46 => ⟨S31x1024, .f32⟩
  | 47 => ⟨S31x1024, .f32⟩
  | 48 => ⟨S_, .f32⟩
  | 49 => ⟨S8222x1024, .f32⟩
  | 50 => ⟨S8222x1024, .f32⟩
  | 51 => ⟨S8192x1024, .f32⟩
  | 52 => ⟨S_, .f32⟩
  | 53 => ⟨S1024, .f32⟩
  | 54 => ⟨S1x1024, .f32⟩
  | 55 => ⟨S8192x1024, .f32⟩
  | 56 => ⟨S8192x1024, .f32⟩
  | 57 => ⟨S_, .f32⟩
  | 58 => ⟨S1024, .f32⟩
  | 59 => ⟨S1x1024, .f32⟩
  | 60 => ⟨S_, .f32⟩
  | 61 => ⟨S31x1024, .f32⟩
  | 62 => ⟨S31x1024, .f32⟩
  | 63 => ⟨S_, .f32⟩
  | 64 => ⟨S8222x1024, .f32⟩
  | 65 => ⟨S8222x1024, .f32⟩
  | 66 => ⟨S8192x1024, .f32⟩
  | 67 => ⟨S_, .f32⟩
  | 68 => ⟨S1024, .f32⟩
  | 69 => ⟨S1x1024, .f32⟩
  | 70 => ⟨S8192x1024, .f32⟩
  | 71 => ⟨S8192x1024, .f32⟩
  | 72 => ⟨S_, .f32⟩
  | 73 => ⟨S1024, .f32⟩
  | 74 => ⟨S1x1024, .f32⟩
  | 75 => ⟨S_, .f32⟩
  | 76 => ⟨S31x1024, .f32⟩
  | 77 => ⟨S31x1024, .f32⟩
  | 78 => ⟨S_, .f32⟩
  | 79 => ⟨S8222x1024, .f32⟩
  | 80 => ⟨S8222x1024, .f32⟩
  | 81 => ⟨S8192x1024, .f32⟩
  | 82 => ⟨S_, .f32⟩
  | 83 => ⟨S1024, .f32⟩
  | 84 => ⟨S1x1024, .f32⟩
  | 85 => ⟨S8192x1024, .f32⟩
  | 86 => ⟨S8192x1024, .f32⟩
  | 87 => ⟨S_, .f32⟩
  | 88 => ⟨S1024, .f32⟩
  | 89 => ⟨S1x1024, .f32⟩
  | 90 => ⟨S_, .f32⟩
  | 91 => ⟨S31x1024, .f32⟩
  | 92 => ⟨S31x1024, .f32⟩
  | 93 => ⟨S_, .f32⟩
  | 94 => ⟨S8222x1024, .f32⟩
  | 95 => ⟨S8222x1024, .f32⟩
  | 96 => ⟨S8192x1024, .f32⟩
  | 97 => ⟨S_, .f32⟩
  | 98 => ⟨S1024, .f32⟩
  | 99 => ⟨S1x1024, .f32⟩
  | 100 => ⟨S8192x1024, .f32⟩
  | 101 => ⟨S8192x1024, .f32⟩
  | 102 => ⟨S_, .f32⟩
  | 103 => ⟨S1024, .f32⟩
  | 104 => ⟨S1x1024, .f32⟩
  | 105 => ⟨S_, .f32⟩
  | 106 => ⟨S31x1024, .f32⟩
  | 107 => ⟨S31x1024, .f32⟩
  | 108 => ⟨S_, .f32⟩
  | 109 => ⟨S8222x1024, .f32⟩
  | 110 => ⟨S8222x1024, .f32⟩
  | 111 => ⟨S8192x1024, .f32⟩
  | 112 => ⟨S_, .f32⟩
  | 113 => ⟨S1024, .f32⟩
  | 114 => ⟨S1x1024, .f32⟩
  | 115 => ⟨S8192x1024, .f32⟩
  | 116 => ⟨S8192x1024, .f32⟩
  | 117 => ⟨S_, .f32⟩
  | 118 => ⟨S1024, .f32⟩
  | 119 => ⟨S1x1024, .f32⟩
  | 120 => ⟨S_, .f32⟩
  | 121 => ⟨S31x1024, .f32⟩
  | 122 => ⟨S31x1024, .f32⟩
  | 123 => ⟨S_, .f32⟩
  | 124 => ⟨S8222x1024, .f32⟩
  | 125 => ⟨S8222x1024, .f32⟩
  | 126 => ⟨S8192x1024, .f32⟩
  | 127 => ⟨S_, .f32⟩
  | _ => ⟨S8192x1024, .f32⟩

abbrev hbmTy0_4 (i : Nat) : BufTy := match i % 128 with
  | 0 => ⟨S1024, .f32⟩
  | 1 => ⟨S1x1024, .f32⟩
  | 2 => ⟨S8192x1024, .f32⟩
  | 3 => ⟨S8192x1024, .f32⟩
  | 4 => ⟨S_, .f32⟩
  | 5 => ⟨S1024, .f32⟩
  | 6 => ⟨S1x1024, .f32⟩
  | 7 => ⟨S_, .f32⟩
  | 8 => ⟨S31x1024, .f32⟩
  | 9 => ⟨S31x1024, .f32⟩
  | 10 => ⟨S_, .f32⟩
  | 11 => ⟨S8222x1024, .f32⟩
  | 12 => ⟨S8222x1024, .f32⟩
  | 13 => ⟨S8192x1024, .f32⟩
  | 14 => ⟨S_, .f32⟩
  | 15 => ⟨S1024, .f32⟩
  | 16 => ⟨S1x1024, .f32⟩
  | 17 => ⟨S8192x1024, .f32⟩
  | 18 => ⟨S8192x1024, .f32⟩
  | 19 => ⟨S_, .f32⟩
  | 20 => ⟨S1024, .f32⟩
  | 21 => ⟨S1x1024, .f32⟩
  | 22 => ⟨S_, .f32⟩
  | 23 => ⟨S31x1024, .f32⟩
  | 24 => ⟨S31x1024, .f32⟩
  | 25 => ⟨S_, .f32⟩
  | 26 => ⟨S8222x1024, .f32⟩
  | 27 => ⟨S8222x1024, .f32⟩
  | 28 => ⟨S8192x1024, .f32⟩
  | 29 => ⟨S_, .f32⟩
  | 30 => ⟨S1024, .f32⟩
  | 31 => ⟨S1x1024, .f32⟩
  | 32 => ⟨S8192x1024, .f32⟩
  | 33 => ⟨S8192x1024, .f32⟩
  | 34 => ⟨S_, .f32⟩
  | 35 => ⟨S1024, .f32⟩
  | 36 => ⟨S1x1024, .f32⟩
  | 37 => ⟨S_, .f32⟩
  | 38 => ⟨S31x1024, .f32⟩
  | 39 => ⟨S31x1024, .f32⟩
  | 40 => ⟨S_, .f32⟩
  | 41 => ⟨S8222x1024, .f32⟩
  | 42 => ⟨S8222x1024, .f32⟩
  | 43 => ⟨S8192x1024, .f32⟩
  | 44 => ⟨S_, .f32⟩
  | 45 => ⟨S1024, .f32⟩
  | 46 => ⟨S1x1024, .f32⟩
  | 47 => ⟨S8192x1024, .f32⟩
  | 48 => ⟨S8192x1024, .f32⟩
  | 49 => ⟨S_, .f32⟩
  | 50 => ⟨S1024, .f32⟩
  | 51 => ⟨S1x1024, .f32⟩
  | 52 => ⟨S_, .f32⟩
  | 53 => ⟨S31x1024, .f32⟩
  | 54 => ⟨S31x1024, .f32⟩
  | 55 => ⟨S_, .f32⟩
  | 56 => ⟨S8222x1024, .f32⟩
  | 57 => ⟨S8222x1024, .f32⟩
  | 58 => ⟨S8192x1024, .f32⟩
  | 59 => ⟨S_, .f32⟩
  | 60 => ⟨S1024, .f32⟩
  | 61 => ⟨S1x1024, .f32⟩
  | 62 => ⟨S8192x1024, .f32⟩
  | 63 => ⟨S8192x1024, .f32⟩
  | 64 => ⟨S_, .f32⟩
  | 65 => ⟨S1024, .f32⟩
  | 66 => ⟨S1x1024, .f32⟩
  | 67 => ⟨S_, .f32⟩
  | 68 => ⟨S31x1024, .f32⟩
  | 69 => ⟨S31x1024, .f32⟩
  | 70 => ⟨S_, .f32⟩
  | 71 => ⟨S8222x1024, .f32⟩
  | 72 => ⟨S8222x1024, .f32⟩
  | 73 => ⟨S8192x1024, .f32⟩
  | 74 => ⟨S_, .f32⟩
  | 75 => ⟨S1024, .f32⟩
  | 76 => ⟨S1x1024, .f32⟩
  | 77 => ⟨S8192x1024, .f32⟩
  | 78 => ⟨S8192x1024, .f32⟩
  | 79 => ⟨S_, .f32⟩
  | 80 => ⟨S1024, .f32⟩
  | 81 => ⟨S1x1024, .f32⟩
  | 82 => ⟨S_, .f32⟩
  | 83 => ⟨S31x1024, .f32⟩
  | 84 => ⟨S31x1024, .f32⟩
  | 85 => ⟨S_, .f32⟩
  | 86 => ⟨S8222x1024, .f32⟩
  | 87 => ⟨S8222x1024, .f32⟩
  | 88 => ⟨S8192x1024, .f32⟩
  | 89 => ⟨S_, .f32⟩
  | 90 => ⟨S1024, .f32⟩
  | 91 => ⟨S1x1024, .f32⟩
  | 92 => ⟨S8192x1024, .f32⟩
  | 93 => ⟨S8192x1024, .f32⟩
  | 94 => ⟨S_, .f32⟩
  | 95 => ⟨S1024, .f32⟩
  | 96 => ⟨S1x1024, .f32⟩
  | 97 => ⟨S_, .f32⟩
  | 98 => ⟨S31x1024, .f32⟩
  | 99 => ⟨S31x1024, .f32⟩
  | 100 => ⟨S_, .f32⟩
  | 101 => ⟨S8222x1024, .f32⟩
  | 102 => ⟨S8222x1024, .f32⟩
  | 103 => ⟨S8192x1024, .f32⟩
  | 104 => ⟨S_, .f32⟩
  | 105 => ⟨S1024, .f32⟩
  | 106 => ⟨S1x1024, .f32⟩
  | 107 => ⟨S8192x1024, .f32⟩
  | 108 => ⟨S8192x1024, .f32⟩
  | 109 => ⟨S_, .f32⟩
  | 110 => ⟨S1024, .f32⟩
  | 111 => ⟨S1x1024, .f32⟩
  | 112 => ⟨S_, .f32⟩
  | 113 => ⟨S31x1024, .f32⟩
  | 114 => ⟨S31x1024, .f32⟩
  | 115 => ⟨S_, .f32⟩
  | 116 => ⟨S8222x1024, .f32⟩
  | 117 => ⟨S8222x1024, .f32⟩
  | 118 => ⟨S8192x1024, .f32⟩
  | 119 => ⟨S_, .f32⟩
  | 120 => ⟨S1024, .f32⟩
  | 121 => ⟨S1x1024, .f32⟩
  | 122 => ⟨S8192x1024, .f32⟩
  | 123 => ⟨S8192x1024, .f32⟩
  | 124 => ⟨S_, .f32⟩
  | 125 => ⟨S1024, .f32⟩
  | 126 => ⟨S1x1024, .f32⟩
  | 127 => ⟨S_, .f32⟩
  | _ => ⟨S8192x1024, .f32⟩

abbrev hbmTy0_5 (i : Nat) : BufTy := match i % 128 with
  | 0 => ⟨S31x1024, .f32⟩
  | 1 => ⟨S31x1024, .f32⟩
  | 2 => ⟨S_, .f32⟩
  | 3 => ⟨S8222x1024, .f32⟩
  | 4 => ⟨S8222x1024, .f32⟩
  | 5 => ⟨S8192x1024, .f32⟩
  | 6 => ⟨S_, .f32⟩
  | 7 => ⟨S1024, .f32⟩
  | 8 => ⟨S1x1024, .f32⟩
  | 9 => ⟨S8192x1024, .f32⟩
  | 10 => ⟨S8192x1024, .f32⟩
  | 11 => ⟨S_, .f32⟩
  | 12 => ⟨S1024, .f32⟩
  | 13 => ⟨S1x1024, .f32⟩
  | 14 => ⟨S_, .f32⟩
  | 15 => ⟨S31x1024, .f32⟩
  | 16 => ⟨S31x1024, .f32⟩
  | 17 => ⟨S_, .f32⟩
  | 18 => ⟨S8222x1024, .f32⟩
  | 19 => ⟨S8222x1024, .f32⟩
  | 20 => ⟨S8192x1024, .f32⟩
  | 21 => ⟨S_, .f32⟩
  | 22 => ⟨S1024, .f32⟩
  | 23 => ⟨S1x1024, .f32⟩
  | 24 => ⟨S8192x1024, .f32⟩
  | 25 => ⟨S8192x1024, .f32⟩
  | 26 => ⟨S_, .f32⟩
  | 27 => ⟨S1024, .f32⟩
  | 28 => ⟨S1x1024, .f32⟩
  | 29 => ⟨S_, .f32⟩
  | 30 => ⟨S31x1024, .f32⟩
  | 31 => ⟨S31x1024, .f32⟩
  | 32 => ⟨S_, .f32⟩
  | 33 => ⟨S8222x1024, .f32⟩
  | 34 => ⟨S8222x1024, .f32⟩
  | 35 => ⟨S8192x1024, .f32⟩
  | 36 => ⟨S_, .f32⟩
  | 37 => ⟨S1024, .f32⟩
  | 38 => ⟨S1x1024, .f32⟩
  | 39 => ⟨S8192x1024, .f32⟩
  | 40 => ⟨S8192x1024, .f32⟩
  | 41 => ⟨S_, .f32⟩
  | 42 => ⟨S1024, .f32⟩
  | 43 => ⟨S1x1024, .f32⟩
  | 44 => ⟨S_, .f32⟩
  | 45 => ⟨S31x1024, .f32⟩
  | 46 => ⟨S31x1024, .f32⟩
  | 47 => ⟨S_, .f32⟩
  | 48 => ⟨S8222x1024, .f32⟩
  | 49 => ⟨S8222x1024, .f32⟩
  | 50 => ⟨S8192x1024, .f32⟩
  | 51 => ⟨S_, .f32⟩
  | 52 => ⟨S1024, .f32⟩
  | 53 => ⟨S1x1024, .f32⟩
  | 54 => ⟨S8192x1024, .f32⟩
  | 55 => ⟨S8192x1024, .f32⟩
  | 56 => ⟨S_, .f32⟩
  | 57 => ⟨S1024, .f32⟩
  | 58 => ⟨S1x1024, .f32⟩
  | 59 => ⟨S_, .f32⟩
  | 60 => ⟨S31x1024, .f32⟩
  | 61 => ⟨S31x1024, .f32⟩
  | 62 => ⟨S_, .f32⟩
  | 63 => ⟨S8222x1024, .f32⟩
  | 64 => ⟨S8222x1024, .f32⟩
  | 65 => ⟨S30x1024, .f32⟩
  | 66 => ⟨S8192x1024, .f32⟩
  | 67 => ⟨S8192x1024, .f32⟩
  | 68 => ⟨S8192x1024, .f32⟩
  | 69 => ⟨S8192x1024, .f32⟩
  | 70 => ⟨S8192x1024, .bf16⟩
  | 71 => ⟨S8192x1024, .bf16⟩
  | 72 => ⟨S_, .i32⟩
  | 73 => ⟨S_, .f32⟩
  | 74 => ⟨S32x1024, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_cst_4 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_cst_5 : Ref sig .tc := ⟨.hbm, 248, rfl⟩
abbrev main_v238 : Ref sig .tc := ⟨.hbm, 249, rfl⟩
abbrev main_v239 : Ref sig .tc := ⟨.hbm, 250, rfl⟩
abbrev main_cst_6 : Ref sig .tc := ⟨.hbm, 251, rfl⟩
abbrev main_v240 : Ref sig .tc := ⟨.hbm, 252, rfl⟩
abbrev main_cst_7 : Ref sig .tc := ⟨.hbm, 253, rfl⟩
abbrev main_v241 : Ref sig .tc := ⟨.hbm, 254, rfl⟩
abbrev main_v242 : Ref sig .tc := ⟨.hbm, 255, rfl⟩
abbrev main_cst_8 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_cst_9 : Ref sig .tc := ⟨.hbm, 261, rfl⟩
abbrev main_v247 : Ref sig .tc := ⟨.hbm, 262, rfl⟩
abbrev main_v248 : Ref sig .tc := ⟨.hbm, 263, rfl⟩
abbrev main_cst_10 : Ref sig .tc := ⟨.hbm, 264, rfl⟩
abbrev main_v249 : Ref sig .tc := ⟨.hbm, 265, rfl⟩
abbrev main_v250 : Ref sig .tc := ⟨.hbm, 266, rfl⟩
abbrev main_cst_11 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_cst_12 : Ref sig .tc := ⟨.hbm, 271, rfl⟩
abbrev main_v254 : Ref sig .tc := ⟨.hbm, 272, rfl⟩
abbrev main_v255 : Ref sig .tc := ⟨.hbm, 273, rfl⟩
abbrev main_v256 : Ref sig .tc := ⟨.hbm, 274, rfl⟩
abbrev main_v257 : Ref sig .tc := ⟨.hbm, 275, rfl⟩
abbrev main_cst_13 : Ref sig .tc := ⟨.hbm, 276, rfl⟩
abbrev main_v258 : Ref sig .tc := ⟨.hbm, 277, rfl⟩
abbrev main_v259 : Ref sig .tc := ⟨.hbm, 278, rfl⟩
abbrev main_cst_14 : Ref sig .tc := ⟨.hbm, 279, rfl⟩
abbrev main_v260 : Ref sig .tc := ⟨.hbm, 280, rfl⟩
abbrev main_v261 : Ref sig .tc := ⟨.hbm, 281, rfl⟩
abbrev main_cst_15 : Ref sig .tc := ⟨.hbm, 282, rfl⟩
abbrev main_v262 : Ref sig .tc := ⟨.hbm, 283, rfl⟩
abbrev main_v263 : Ref sig .tc := ⟨.hbm, 284, rfl⟩
abbrev main_v264 : Ref sig .tc := ⟨.hbm, 285, rfl⟩
abbrev main_cst_16 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_cst_17 : Ref sig .tc := ⟨.hbm, 291, rfl⟩
abbrev main_v269 : Ref sig .tc := ⟨.hbm, 292, rfl⟩
abbrev main_v270 : Ref sig .tc := ⟨.hbm, 293, rfl⟩
abbrev main_cst_18 : Ref sig .tc := ⟨.hbm, 294, rfl⟩
abbrev main_v271 : Ref sig .tc := ⟨.hbm, 295, rfl⟩
abbrev main_v272 : Ref sig .tc := ⟨.hbm, 296, rfl⟩
abbrev main_cst_19 : Ref sig .tc := ⟨.hbm, 297, rfl⟩
abbrev main_v273 : Ref sig .tc := ⟨.hbm, 298, rfl⟩
abbrev main_v274 : Ref sig .tc := ⟨.hbm, 299, rfl⟩
abbrev main_v275 : Ref sig .tc := ⟨.hbm, 300, rfl⟩
abbrev main_cst_20 : Ref sig .tc := ⟨.hbm, 301, rfl⟩
abbrev main_v276 : Ref sig .tc := ⟨.hbm, 302, rfl⟩
abbrev main_v277 : Ref sig .tc := ⟨.hbm, 303, rfl⟩
abbrev main_v278 : Ref sig .tc := ⟨.hbm, 304, rfl⟩
abbrev main_v279 : Ref sig .tc := ⟨.hbm, 305, rfl⟩
abbrev main_cst_21 : Ref sig .tc := ⟨.hbm, 306, rfl⟩
abbrev main_v280 : Ref sig .tc := ⟨.hbm, 307, rfl⟩
abbrev main_v281 : Ref sig .tc := ⟨.hbm, 308, rfl⟩
abbrev main_cst_22 : Ref sig .tc := ⟨.hbm, 309, rfl⟩
abbrev main_v282 : Ref sig .tc := ⟨.hbm, 310, rfl⟩
abbrev main_v283 : Ref sig .tc := ⟨.hbm, 311, rfl⟩
abbrev main_cst_23 : Ref sig .tc := ⟨.hbm, 312, rfl⟩
abbrev main_v284 : Ref sig .tc := ⟨.hbm, 313, rfl⟩
abbrev main_v285 : Ref sig .tc := ⟨.hbm, 314, rfl⟩
abbrev main_v286 : Ref sig .tc := ⟨.hbm, 315, rfl⟩
abbrev main_cst_24 : Ref sig .tc := ⟨.hbm, 316, rfl⟩
abbrev main_v287 : Ref sig .tc := ⟨.hbm, 317, rfl⟩
abbrev main_v288 : Ref sig .tc := ⟨.hbm, 318, rfl⟩
abbrev main_v289 : Ref sig .tc := ⟨.hbm, 319, rfl⟩
abbrev main_v290 : Ref sig .tc := ⟨.hbm, 320, rfl⟩
abbrev main_cst_25 : Ref sig .tc := ⟨.hbm, 321, rfl⟩
abbrev main_v291 : Ref sig .tc := ⟨.hbm, 322, rfl⟩
abbrev main_v292 : Ref sig .tc := ⟨.hbm, 323, rfl⟩
abbrev main_cst_26 : Ref sig .tc := ⟨.hbm, 324, rfl⟩
abbrev main_v293 : Ref sig .tc := ⟨.hbm, 325, rfl⟩
abbrev main_v294 : Ref sig .tc := ⟨.hbm, 326, rfl⟩
abbrev main_cst_27 : Ref sig .tc := ⟨.hbm, 327, rfl⟩
abbrev main_v295 : Ref sig .tc := ⟨.hbm, 328, rfl⟩
abbrev main_v296 : Ref sig .tc := ⟨.hbm, 329, rfl⟩
abbrev main_v297 : Ref sig .tc := ⟨.hbm, 330, rfl⟩
abbrev main_cst_28 : Ref sig .tc := ⟨.hbm, 331, rfl⟩
abbrev main_v298 : Ref sig .tc := ⟨.hbm, 332, rfl⟩
abbrev main_v299 : Ref sig .tc := ⟨.hbm, 333, rfl⟩
abbrev main_v300 : Ref sig .tc := ⟨.hbm, 334, rfl⟩
abbrev main_v301 : Ref sig .tc := ⟨.hbm, 335, rfl⟩
abbrev main_cst_29 : Ref sig .tc := ⟨.hbm, 336, rfl⟩
abbrev main_v302 : Ref sig .tc := ⟨.hbm, 337, rfl⟩
abbrev main_v303 : Ref sig .tc := ⟨.hbm, 338, rfl⟩
abbrev main_cst_30 : Ref sig .tc := ⟨.hbm, 339, rfl⟩
abbrev main_v304 : Ref sig .tc := ⟨.hbm, 340, rfl⟩
abbrev main_v305 : Ref sig .tc := ⟨.hbm, 341, rfl⟩
abbrev main_cst_31 : Ref sig .tc := ⟨.hbm, 342, rfl⟩
abbrev main_v306 : Ref sig .tc := ⟨.hbm, 343, rfl⟩
abbrev main_v307 : Ref sig .tc := ⟨.hbm, 344, rfl⟩
abbrev main_v308 : Ref sig .tc := ⟨.hbm, 345, rfl⟩
abbrev main_cst_32 : Ref sig .tc := ⟨.hbm, 346, rfl⟩
abbrev main_v309 : Ref sig .tc := ⟨.hbm, 347, rfl⟩
abbrev main_v310 : Ref sig .tc := ⟨.hbm, 348, rfl⟩
abbrev main_v311 : Ref sig .tc := ⟨.hbm, 349, rfl⟩
abbrev main_v312 : Ref sig .tc := ⟨.hbm, 350, rfl⟩
abbrev main_cst_33 : Ref sig .tc := ⟨.hbm, 351, rfl⟩
abbrev main_v313 : Ref sig .tc := ⟨.hbm, 352, rfl⟩
abbrev main_v314 : Ref sig .tc := ⟨.hbm, 353, rfl⟩
abbrev main_cst_34 : Ref sig .tc := ⟨.hbm, 354, rfl⟩
abbrev main_v315 : Ref sig .tc := ⟨.hbm, 355, rfl⟩
abbrev main_v316 : Ref sig .tc := ⟨.hbm, 356, rfl⟩
abbrev main_cst_35 : Ref sig .tc := ⟨.hbm, 357, rfl⟩
abbrev main_v317 : Ref sig .tc := ⟨.hbm, 358, rfl⟩
abbrev main_v318 : Ref sig .tc := ⟨.hbm, 359, rfl⟩
abbrev main_v319 : Ref sig .tc := ⟨.hbm, 360, rfl⟩
abbrev main_cst_36 : Ref sig .tc := ⟨.hbm, 361, rfl⟩
abbrev main_v320 : Ref sig .tc := ⟨.hbm, 362, rfl⟩
abbrev main_v321 : Ref sig .tc := ⟨.hbm, 363, rfl⟩
abbrev main_v322 : Ref sig .tc := ⟨.hbm, 364, rfl⟩
abbrev main_v323 : Ref sig .tc := ⟨.hbm, 365, rfl⟩
abbrev main_cst_37 : Ref sig .tc := ⟨.hbm, 366, rfl⟩
abbrev main_v324 : Ref sig .tc := ⟨.hbm, 367, rfl⟩
abbrev main_v325 : Ref sig .tc := ⟨.hbm, 368, rfl⟩
abbrev main_cst_38 : Ref sig .tc := ⟨.hbm, 369, rfl⟩
abbrev main_v326 : Ref sig .tc := ⟨.hbm, 370, rfl⟩
abbrev main_v327 : Ref sig .tc := ⟨.hbm, 371, rfl⟩
abbrev main_cst_39 : Ref sig .tc := ⟨.hbm, 372, rfl⟩
abbrev main_v328 : Ref sig .tc := ⟨.hbm, 373, rfl⟩
abbrev main_v329 : Ref sig .tc := ⟨.hbm, 374, rfl⟩
abbrev main_v330 : Ref sig .tc := ⟨.hbm, 375, rfl⟩
abbrev main_cst_40 : Ref sig .tc := ⟨.hbm, 376, rfl⟩
abbrev main_v331 : Ref sig .tc := ⟨.hbm, 377, rfl⟩
abbrev main_v332 : Ref sig .tc := ⟨.hbm, 378, rfl⟩
abbrev main_v333 : Ref sig .tc := ⟨.hbm, 379, rfl⟩
abbrev main_v334 : Ref sig .tc := ⟨.hbm, 380, rfl⟩
abbrev main_cst_41 : Ref sig .tc := ⟨.hbm, 381, rfl⟩
abbrev main_v335 : Ref sig .tc := ⟨.hbm, 382, rfl⟩
abbrev main_v336 : Ref sig .tc := ⟨.hbm, 383, rfl⟩
abbrev main_cst_42 : Ref sig .tc := ⟨.hbm, 384, rfl⟩
abbrev main_v337 : Ref sig .tc := ⟨.hbm, 385, rfl⟩
abbrev main_v338 : Ref sig .tc := ⟨.hbm, 386, rfl⟩
abbrev main_cst_43 : Ref sig .tc := ⟨.hbm, 387, rfl⟩
abbrev main_v339 : Ref sig .tc := ⟨.hbm, 388, rfl⟩
abbrev main_v340 : Ref sig .tc := ⟨.hbm, 389, rfl⟩
abbrev main_v341 : Ref sig .tc := ⟨.hbm, 390, rfl⟩
abbrev main_cst_44 : Ref sig .tc := ⟨.hbm, 391, rfl⟩
abbrev main_v342 : Ref sig .tc := ⟨.hbm, 392, rfl⟩
abbrev main_v343 : Ref sig .tc := ⟨.hbm, 393, rfl⟩
abbrev main_v344 : Ref sig .tc := ⟨.hbm, 394, rfl⟩
abbrev main_v345 : Ref sig .tc := ⟨.hbm, 395, rfl⟩
abbrev main_cst_45 : Ref sig .tc := ⟨.hbm, 396, rfl⟩
abbrev main_v346 : Ref sig .tc := ⟨.hbm, 397, rfl⟩
abbrev main_v347 : Ref sig .tc := ⟨.hbm, 398, rfl⟩
abbrev main_cst_46 : Ref sig .tc := ⟨.hbm, 399, rfl⟩
abbrev main_v348 : Ref sig .tc := ⟨.hbm, 400, rfl⟩
abbrev main_v349 : Ref sig .tc := ⟨.hbm, 401, rfl⟩
abbrev main_cst_47 : Ref sig .tc := ⟨.hbm, 402, rfl⟩
abbrev main_v350 : Ref sig .tc := ⟨.hbm, 403, rfl⟩
abbrev main_v351 : Ref sig .tc := ⟨.hbm, 404, rfl⟩
abbrev main_v352 : Ref sig .tc := ⟨.hbm, 405, rfl⟩
abbrev main_cst_48 : Ref sig .tc := ⟨.hbm, 406, rfl⟩
abbrev main_v353 : Ref sig .tc := ⟨.hbm, 407, rfl⟩
abbrev main_v354 : Ref sig .tc := ⟨.hbm, 408, rfl⟩
abbrev main_v355 : Ref sig .tc := ⟨.hbm, 409, rfl⟩
abbrev main_v356 : Ref sig .tc := ⟨.hbm, 410, rfl⟩
abbrev main_cst_49 : Ref sig .tc := ⟨.hbm, 411, rfl⟩
abbrev main_v357 : Ref sig .tc := ⟨.hbm, 412, rfl⟩
abbrev main_v358 : Ref sig .tc := ⟨.hbm, 413, rfl⟩
abbrev main_cst_50 : Ref sig .tc := ⟨.hbm, 414, rfl⟩
abbrev main_v359 : Ref sig .tc := ⟨.hbm, 415, rfl⟩
abbrev main_v360 : Ref sig .tc := ⟨.hbm, 416, rfl⟩
abbrev main_cst_51 : Ref sig .tc := ⟨.hbm, 417, rfl⟩
abbrev main_v361 : Ref sig .tc := ⟨.hbm, 418, rfl⟩
abbrev main_v362 : Ref sig .tc := ⟨.hbm, 419, rfl⟩
abbrev main_v363 : Ref sig .tc := ⟨.hbm, 420, rfl⟩
abbrev main_cst_52 : Ref sig .tc := ⟨.hbm, 421, rfl⟩
abbrev main_v364 : Ref sig .tc := ⟨.hbm, 422, rfl⟩
abbrev main_v365 : Ref sig .tc := ⟨.hbm, 423, rfl⟩
abbrev main_v366 : Ref sig .tc := ⟨.hbm, 424, rfl⟩
abbrev main_v367 : Ref sig .tc := ⟨.hbm, 425, rfl⟩
abbrev main_cst_53 : Ref sig .tc := ⟨.hbm, 426, rfl⟩
abbrev main_v368 : Ref sig .tc := ⟨.hbm, 427, rfl⟩
abbrev main_v369 : Ref sig .tc := ⟨.hbm, 428, rfl⟩
abbrev main_cst_54 : Ref sig .tc := ⟨.hbm, 429, rfl⟩
abbrev main_v370 : Ref sig .tc := ⟨.hbm, 430, rfl⟩
abbrev main_v371 : Ref sig .tc := ⟨.hbm, 431, rfl⟩
abbrev main_cst_55 : Ref sig .tc := ⟨.hbm, 432, rfl⟩
abbrev main_v372 : Ref sig .tc := ⟨.hbm, 433, rfl⟩
abbrev main_v373 : Ref sig .tc := ⟨.hbm, 434, rfl⟩
abbrev main_v374 : Ref sig .tc := ⟨.hbm, 435, rfl⟩
abbrev main_cst_56 : Ref sig .tc := ⟨.hbm, 436, rfl⟩
abbrev main_v375 : Ref sig .tc := ⟨.hbm, 437, rfl⟩
abbrev main_v376 : Ref sig .tc := ⟨.hbm, 438, rfl⟩
abbrev main_v377 : Ref sig .tc := ⟨.hbm, 439, rfl⟩
abbrev main_v378 : Ref sig .tc := ⟨.hbm, 440, rfl⟩
abbrev main_cst_57 : Ref sig .tc := ⟨.hbm, 441, rfl⟩
abbrev main_v379 : Ref sig .tc := ⟨.hbm, 442, rfl⟩
abbrev main_v380 : Ref sig .tc := ⟨.hbm, 443, rfl⟩
abbrev main_cst_58 : Ref sig .tc := ⟨.hbm, 444, rfl⟩
abbrev main_v381 : Ref sig .tc := ⟨.hbm, 445, rfl⟩
abbrev main_v382 : Ref sig .tc := ⟨.hbm, 446, rfl⟩
abbrev main_cst_59 : Ref sig .tc := ⟨.hbm, 447, rfl⟩
abbrev main_v383 : Ref sig .tc := ⟨.hbm, 448, rfl⟩
abbrev main_v384 : Ref sig .tc := ⟨.hbm, 449, rfl⟩
abbrev main_v385 : Ref sig .tc := ⟨.hbm, 450, rfl⟩
abbrev main_cst_60 : Ref sig .tc := ⟨.hbm, 451, rfl⟩
abbrev main_v386 : Ref sig .tc := ⟨.hbm, 452, rfl⟩
abbrev main_v387 : Ref sig .tc := ⟨.hbm, 453, rfl⟩
abbrev main_v388 : Ref sig .tc := ⟨.hbm, 454, rfl⟩
abbrev main_v389 : Ref sig .tc := ⟨.hbm, 455, rfl⟩
abbrev main_cst_61 : Ref sig .tc := ⟨.hbm, 456, rfl⟩
abbrev main_v390 : Ref sig .tc := ⟨.hbm, 457, rfl⟩
abbrev main_v391 : Ref sig .tc := ⟨.hbm, 458, rfl⟩
abbrev main_cst_62 : Ref sig .tc := ⟨.hbm, 459, rfl⟩
abbrev main_v392 : Ref sig .tc := ⟨.hbm, 460, rfl⟩
abbrev main_v393 : Ref sig .tc := ⟨.hbm, 461, rfl⟩
abbrev main_cst_63 : Ref sig .tc := ⟨.hbm, 462, rfl⟩
abbrev main_v394 : Ref sig .tc := ⟨.hbm, 463, rfl⟩
abbrev main_v395 : Ref sig .tc := ⟨.hbm, 464, rfl⟩
abbrev main_v396 : Ref sig .tc := ⟨.hbm, 465, rfl⟩
abbrev main_cst_64 : Ref sig .tc := ⟨.hbm, 466, rfl⟩
abbrev main_v397 : Ref sig .tc := ⟨.hbm, 467, rfl⟩
abbrev main_v398 : Ref sig .tc := ⟨.hbm, 468, rfl⟩
abbrev main_v399 : Ref sig .tc := ⟨.hbm, 469, rfl⟩
abbrev main_v400 : Ref sig .tc := ⟨.hbm, 470, rfl⟩
abbrev main_cst_65 : Ref sig .tc := ⟨.hbm, 471, rfl⟩
abbrev main_v401 : Ref sig .tc := ⟨.hbm, 472, rfl⟩
abbrev main_v402 : Ref sig .tc := ⟨.hbm, 473, rfl⟩
abbrev main_cst_66 : Ref sig .tc := ⟨.hbm, 474, rfl⟩
abbrev main_v403 : Ref sig .tc := ⟨.hbm, 475, rfl⟩
abbrev main_v404 : Ref sig .tc := ⟨.hbm, 476, rfl⟩
abbrev main_cst_67 : Ref sig .tc := ⟨.hbm, 477, rfl⟩
abbrev main_v405 : Ref sig .tc := ⟨.hbm, 478, rfl⟩
abbrev main_v406 : Ref sig .tc := ⟨.hbm, 479, rfl⟩
abbrev main_v407 : Ref sig .tc := ⟨.hbm, 480, rfl⟩
abbrev main_cst_68 : Ref sig .tc := ⟨.hbm, 481, rfl⟩
abbrev main_v408 : Ref sig .tc := ⟨.hbm, 482, rfl⟩
abbrev main_v409 : Ref sig .tc := ⟨.hbm, 483, rfl⟩
abbrev main_v410 : Ref sig .tc := ⟨.hbm, 484, rfl⟩
abbrev main_v411 : Ref sig .tc := ⟨.hbm, 485, rfl⟩
abbrev main_cst_69 : Ref sig .tc := ⟨.hbm, 486, rfl⟩
abbrev main_v412 : Ref sig .tc := ⟨.hbm, 487, rfl⟩
abbrev main_v413 : Ref sig .tc := ⟨.hbm, 488, rfl⟩
abbrev main_cst_70 : Ref sig .tc := ⟨.hbm, 489, rfl⟩
abbrev main_v414 : Ref sig .tc := ⟨.hbm, 490, rfl⟩
abbrev main_v415 : Ref sig .tc := ⟨.hbm, 491, rfl⟩
abbrev main_cst_71 : Ref sig .tc := ⟨.hbm, 492, rfl⟩
abbrev main_v416 : Ref sig .tc := ⟨.hbm, 493, rfl⟩
abbrev main_v417 : Ref sig .tc := ⟨.hbm, 494, rfl⟩
abbrev main_v418 : Ref sig .tc := ⟨.hbm, 495, rfl⟩
abbrev main_cst_72 : Ref sig .tc := ⟨.hbm, 496, rfl⟩
abbrev main_v419 : Ref sig .tc := ⟨.hbm, 497, rfl⟩
abbrev main_v420 : Ref sig .tc := ⟨.hbm, 498, rfl⟩
abbrev main_v421 : Ref sig .tc := ⟨.hbm, 499, rfl⟩
abbrev main_v422 : Ref sig .tc := ⟨.hbm, 500, rfl⟩
abbrev main_cst_73 : Ref sig .tc := ⟨.hbm, 501, rfl⟩
abbrev main_v423 : Ref sig .tc := ⟨.hbm, 502, rfl⟩
abbrev main_v424 : Ref sig .tc := ⟨.hbm, 503, rfl⟩
abbrev main_cst_74 : Ref sig .tc := ⟨.hbm, 504, rfl⟩
abbrev main_v425 : Ref sig .tc := ⟨.hbm, 505, rfl⟩
abbrev main_v426 : Ref sig .tc := ⟨.hbm, 506, rfl⟩
abbrev main_cst_75 : Ref sig .tc := ⟨.hbm, 507, rfl⟩
abbrev main_v427 : Ref sig .tc := ⟨.hbm, 508, rfl⟩
abbrev main_v428 : Ref sig .tc := ⟨.hbm, 509, rfl⟩
abbrev main_v429 : Ref sig .tc := ⟨.hbm, 510, rfl⟩
abbrev main_cst_76 : Ref sig .tc := ⟨.hbm, 511, rfl⟩
abbrev main_v430 : Ref sig .tc := ⟨.hbm, 512, rfl⟩
abbrev main_v431 : Ref sig .tc := ⟨.hbm, 513, rfl⟩
abbrev main_v432 : Ref sig .tc := ⟨.hbm, 514, rfl⟩
abbrev main_v433 : Ref sig .tc := ⟨.hbm, 515, rfl⟩
abbrev main_cst_77 : Ref sig .tc := ⟨.hbm, 516, rfl⟩
abbrev main_v434 : Ref sig .tc := ⟨.hbm, 517, rfl⟩
abbrev main_v435 : Ref sig .tc := ⟨.hbm, 518, rfl⟩
abbrev main_cst_78 : Ref sig .tc := ⟨.hbm, 519, rfl⟩
abbrev main_v436 : Ref sig .tc := ⟨.hbm, 520, rfl⟩
abbrev main_v437 : Ref sig .tc := ⟨.hbm, 521, rfl⟩
abbrev main_cst_79 : Ref sig .tc := ⟨.hbm, 522, rfl⟩
abbrev main_v438 : Ref sig .tc := ⟨.hbm, 523, rfl⟩
abbrev main_v439 : Ref sig .tc := ⟨.hbm, 524, rfl⟩
abbrev main_v440 : Ref sig .tc := ⟨.hbm, 525, rfl⟩
abbrev main_cst_80 : Ref sig .tc := ⟨.hbm, 526, rfl⟩
abbrev main_v441 : Ref sig .tc := ⟨.hbm, 527, rfl⟩
abbrev main_v442 : Ref sig .tc := ⟨.hbm, 528, rfl⟩
abbrev main_v443 : Ref sig .tc := ⟨.hbm, 529, rfl⟩
abbrev main_v444 : Ref sig .tc := ⟨.hbm, 530, rfl⟩
abbrev main_cst_81 : Ref sig .tc := ⟨.hbm, 531, rfl⟩
abbrev main_v445 : Ref sig .tc := ⟨.hbm, 532, rfl⟩
abbrev main_v446 : Ref sig .tc := ⟨.hbm, 533, rfl⟩
abbrev main_cst_82 : Ref sig .tc := ⟨.hbm, 534, rfl⟩
abbrev main_v447 : Ref sig .tc := ⟨.hbm, 535, rfl⟩
abbrev main_v448 : Ref sig .tc := ⟨.hbm, 536, rfl⟩
abbrev main_cst_83 : Ref sig .tc := ⟨.hbm, 537, rfl⟩
abbrev main_v449 : Ref sig .tc := ⟨.hbm, 538, rfl⟩
abbrev main_v450 : Ref sig .tc := ⟨.hbm, 539, rfl⟩
abbrev main_v451 : Ref sig .tc := ⟨.hbm, 540, rfl⟩
abbrev main_cst_84 : Ref sig .tc := ⟨.hbm, 541, rfl⟩
abbrev main_v452 : Ref sig .tc := ⟨.hbm, 542, rfl⟩
abbrev main_v453 : Ref sig .tc := ⟨.hbm, 543, rfl⟩
abbrev main_v454 : Ref sig .tc := ⟨.hbm, 544, rfl⟩
abbrev main_v455 : Ref sig .tc := ⟨.hbm, 545, rfl⟩
abbrev main_cst_85 : Ref sig .tc := ⟨.hbm, 546, rfl⟩
abbrev main_v456 : Ref sig .tc := ⟨.hbm, 547, rfl⟩
abbrev main_v457 : Ref sig .tc := ⟨.hbm, 548, rfl⟩
abbrev main_cst_86 : Ref sig .tc := ⟨.hbm, 549, rfl⟩
abbrev main_v458 : Ref sig .tc := ⟨.hbm, 550, rfl⟩
abbrev main_v459 : Ref sig .tc := ⟨.hbm, 551, rfl⟩
abbrev main_cst_87 : Ref sig .tc := ⟨.hbm, 552, rfl⟩
abbrev main_v460 : Ref sig .tc := ⟨.hbm, 553, rfl⟩
abbrev main_v461 : Ref sig .tc := ⟨.hbm, 554, rfl⟩
abbrev main_v462 : Ref sig .tc := ⟨.hbm, 555, rfl⟩
abbrev main_cst_88 : Ref sig .tc := ⟨.hbm, 556, rfl⟩
abbrev main_v463 : Ref sig .tc := ⟨.hbm, 557, rfl⟩
abbrev main_v464 : Ref sig .tc := ⟨.hbm, 558, rfl⟩
abbrev main_v465 : Ref sig .tc := ⟨.hbm, 559, rfl⟩
abbrev main_v466 : Ref sig .tc := ⟨.hbm, 560, rfl⟩
abbrev main_cst_89 : Ref sig .tc := ⟨.hbm, 561, rfl⟩
abbrev main_v467 : Ref sig .tc := ⟨.hbm, 562, rfl⟩
abbrev main_v468 : Ref sig .tc := ⟨.hbm, 563, rfl⟩
abbrev main_cst_90 : Ref sig .tc := ⟨.hbm, 564, rfl⟩
abbrev main_v469 : Ref sig .tc := ⟨.hbm, 565, rfl⟩
abbrev main_v470 : Ref sig .tc := ⟨.hbm, 566, rfl⟩
abbrev main_cst_91 : Ref sig .tc := ⟨.hbm, 567, rfl⟩
abbrev main_v471 : Ref sig .tc := ⟨.hbm, 568, rfl⟩
abbrev main_v472 : Ref sig .tc := ⟨.hbm, 569, rfl⟩
abbrev main_v473 : Ref sig .tc := ⟨.hbm, 570, rfl⟩
abbrev main_cst_92 : Ref sig .tc := ⟨.hbm, 571, rfl⟩
abbrev main_v474 : Ref sig .tc := ⟨.hbm, 572, rfl⟩
abbrev main_v475 : Ref sig .tc := ⟨.hbm, 573, rfl⟩
abbrev main_v476 : Ref sig .tc := ⟨.hbm, 574, rfl⟩
abbrev main_v477 : Ref sig .tc := ⟨.hbm, 575, rfl⟩
abbrev main_cst_93 : Ref sig .tc := ⟨.hbm, 576, rfl⟩
abbrev main_v478 : Ref sig .tc := ⟨.hbm, 577, rfl⟩
abbrev main_v479 : Ref sig .tc := ⟨.hbm, 578, rfl⟩
abbrev main_cst_94 : Ref sig .tc := ⟨.hbm, 579, rfl⟩
abbrev main_v480 : Ref sig .tc := ⟨.hbm, 580, rfl⟩
abbrev main_v481 : Ref sig .tc := ⟨.hbm, 581, rfl⟩
abbrev main_cst_95 : Ref sig .tc := ⟨.hbm, 582, rfl⟩
abbrev main_v482 : Ref sig .tc := ⟨.hbm, 583, rfl⟩
abbrev main_v483 : Ref sig .tc := ⟨.hbm, 584, rfl⟩
abbrev main_v484 : Ref sig .tc := ⟨.hbm, 585, rfl⟩
abbrev main_cst_96 : Ref sig .tc := ⟨.hbm, 586, rfl⟩
abbrev main_v485 : Ref sig .tc := ⟨.hbm, 587, rfl⟩
abbrev main_v486 : Ref sig .tc := ⟨.hbm, 588, rfl⟩
abbrev main_v487 : Ref sig .tc := ⟨.hbm, 589, rfl⟩
abbrev main_v488 : Ref sig .tc := ⟨.hbm, 590, rfl⟩
abbrev main_cst_97 : Ref sig .tc := ⟨.hbm, 591, rfl⟩
abbrev main_v489 : Ref sig .tc := ⟨.hbm, 592, rfl⟩
abbrev main_v490 : Ref sig .tc := ⟨.hbm, 593, rfl⟩
abbrev main_cst_98 : Ref sig .tc := ⟨.hbm, 594, rfl⟩
abbrev main_v491 : Ref sig .tc := ⟨.hbm, 595, rfl⟩
abbrev main_v492 : Ref sig .tc := ⟨.hbm, 596, rfl⟩
abbrev main_cst_99 : Ref sig .tc := ⟨.hbm, 597, rfl⟩
abbrev main_v493 : Ref sig .tc := ⟨.hbm, 598, rfl⟩
abbrev main_v494 : Ref sig .tc := ⟨.hbm, 599, rfl⟩
abbrev main_v495 : Ref sig .tc := ⟨.hbm, 600, rfl⟩
abbrev main_cst_100 : Ref sig .tc := ⟨.hbm, 601, rfl⟩
abbrev main_v496 : Ref sig .tc := ⟨.hbm, 602, rfl⟩
abbrev main_v497 : Ref sig .tc := ⟨.hbm, 603, rfl⟩
abbrev main_v498 : Ref sig .tc := ⟨.hbm, 604, rfl⟩
abbrev main_v499 : Ref sig .tc := ⟨.hbm, 605, rfl⟩
abbrev main_cst_101 : Ref sig .tc := ⟨.hbm, 606, rfl⟩
abbrev main_v500 : Ref sig .tc := ⟨.hbm, 607, rfl⟩
abbrev main_v501 : Ref sig .tc := ⟨.hbm, 608, rfl⟩
abbrev main_cst_102 : Ref sig .tc := ⟨.hbm, 609, rfl⟩
abbrev main_v502 : Ref sig .tc := ⟨.hbm, 610, rfl⟩
abbrev main_v503 : Ref sig .tc := ⟨.hbm, 611, rfl⟩
abbrev main_cst_103 : Ref sig .tc := ⟨.hbm, 612, rfl⟩
abbrev main_v504 : Ref sig .tc := ⟨.hbm, 613, rfl⟩
abbrev main_v505 : Ref sig .tc := ⟨.hbm, 614, rfl⟩
abbrev main_v506 : Ref sig .tc := ⟨.hbm, 615, rfl⟩
abbrev main_cst_104 : Ref sig .tc := ⟨.hbm, 616, rfl⟩
abbrev main_v507 : Ref sig .tc := ⟨.hbm, 617, rfl⟩
abbrev main_v508 : Ref sig .tc := ⟨.hbm, 618, rfl⟩
abbrev main_v509 : Ref sig .tc := ⟨.hbm, 619, rfl⟩
abbrev main_v510 : Ref sig .tc := ⟨.hbm, 620, rfl⟩
abbrev main_cst_105 : Ref sig .tc := ⟨.hbm, 621, rfl⟩
abbrev main_v511 : Ref sig .tc := ⟨.hbm, 622, rfl⟩
abbrev main_v512 : Ref sig .tc := ⟨.hbm, 623, rfl⟩
abbrev main_cst_106 : Ref sig .tc := ⟨.hbm, 624, rfl⟩
abbrev main_v513 : Ref sig .tc := ⟨.hbm, 625, rfl⟩
abbrev main_v514 : Ref sig .tc := ⟨.hbm, 626, rfl⟩
abbrev main_cst_107 : Ref sig .tc := ⟨.hbm, 627, rfl⟩
abbrev main_v515 : Ref sig .tc := ⟨.hbm, 628, rfl⟩
abbrev main_v516 : Ref sig .tc := ⟨.hbm, 629, rfl⟩
abbrev main_v517 : Ref sig .tc := ⟨.hbm, 630, rfl⟩
abbrev main_cst_108 : Ref sig .tc := ⟨.hbm, 631, rfl⟩
abbrev main_v518 : Ref sig .tc := ⟨.hbm, 632, rfl⟩
abbrev main_v519 : Ref sig .tc := ⟨.hbm, 633, rfl⟩
abbrev main_v520 : Ref sig .tc := ⟨.hbm, 634, rfl⟩
abbrev main_v521 : Ref sig .tc := ⟨.hbm, 635, rfl⟩
abbrev main_cst_109 : Ref sig .tc := ⟨.hbm, 636, rfl⟩
abbrev main_v522 : Ref sig .tc := ⟨.hbm, 637, rfl⟩
abbrev main_v523 : Ref sig .tc := ⟨.hbm, 638, rfl⟩
abbrev main_cst_110 : Ref sig .tc := ⟨.hbm, 639, rfl⟩
abbrev main_v524 : Ref sig .tc := ⟨.hbm, 640, rfl⟩
abbrev main_v525 : Ref sig .tc := ⟨.hbm, 641, rfl⟩
abbrev main_cst_111 : Ref sig .tc := ⟨.hbm, 642, rfl⟩
abbrev main_v526 : Ref sig .tc := ⟨.hbm, 643, rfl⟩
abbrev main_v527 : Ref sig .tc := ⟨.hbm, 644, rfl⟩
abbrev main_v528 : Ref sig .tc := ⟨.hbm, 645, rfl⟩
abbrev main_cst_112 : Ref sig .tc := ⟨.hbm, 646, rfl⟩
abbrev main_v529 : Ref sig .tc := ⟨.hbm, 647, rfl⟩
abbrev main_v530 : Ref sig .tc := ⟨.hbm, 648, rfl⟩
abbrev main_v531 : Ref sig .tc := ⟨.hbm, 649, rfl⟩
abbrev main_v532 : Ref sig .tc := ⟨.hbm, 650, rfl⟩
abbrev main_cst_113 : Ref sig .tc := ⟨.hbm, 651, rfl⟩
abbrev main_v533 : Ref sig .tc := ⟨.hbm, 652, rfl⟩
abbrev main_v534 : Ref sig .tc := ⟨.hbm, 653, rfl⟩
abbrev main_cst_114 : Ref sig .tc := ⟨.hbm, 654, rfl⟩
abbrev main_v535 : Ref sig .tc := ⟨.hbm, 655, rfl⟩
abbrev main_v536 : Ref sig .tc := ⟨.hbm, 656, rfl⟩
abbrev main_cst_115 : Ref sig .tc := ⟨.hbm, 657, rfl⟩
abbrev main_v537 : Ref sig .tc := ⟨.hbm, 658, rfl⟩
abbrev main_v538 : Ref sig .tc := ⟨.hbm, 659, rfl⟩
abbrev main_v539 : Ref sig .tc := ⟨.hbm, 660, rfl⟩
abbrev main_cst_116 : Ref sig .tc := ⟨.hbm, 661, rfl⟩
abbrev main_v540 : Ref sig .tc := ⟨.hbm, 662, rfl⟩
abbrev main_v541 : Ref sig .tc := ⟨.hbm, 663, rfl⟩
abbrev main_v542 : Ref sig .tc := ⟨.hbm, 664, rfl⟩
abbrev main_v543 : Ref sig .tc := ⟨.hbm, 665, rfl⟩
abbrev main_cst_117 : Ref sig .tc := ⟨.hbm, 666, rfl⟩
abbrev main_v544 : Ref sig .tc := ⟨.hbm, 667, rfl⟩
abbrev main_v545 : Ref sig .tc := ⟨.hbm, 668, rfl⟩
abbrev main_cst_118 : Ref sig .tc := ⟨.hbm, 669, rfl⟩
abbrev main_v546 : Ref sig .tc := ⟨.hbm, 670, rfl⟩
abbrev main_v547 : Ref sig .tc := ⟨.hbm, 671, rfl⟩
abbrev main_cst_119 : Ref sig .tc := ⟨.hbm, 672, rfl⟩
abbrev main_v548 : Ref sig .tc := ⟨.hbm, 673, rfl⟩
abbrev main_v549 : Ref sig .tc := ⟨.hbm, 674, rfl⟩
abbrev main_v550 : Ref sig .tc := ⟨.hbm, 675, rfl⟩
abbrev main_cst_120 : Ref sig .tc := ⟨.hbm, 676, rfl⟩
abbrev main_v551 : Ref sig .tc := ⟨.hbm, 677, rfl⟩
abbrev main_v552 : Ref sig .tc := ⟨.hbm, 678, rfl⟩
abbrev main_v553 : Ref sig .tc := ⟨.hbm, 679, rfl⟩
abbrev main_v554 : Ref sig .tc := ⟨.hbm, 680, rfl⟩
abbrev main_cst_121 : Ref sig .tc := ⟨.hbm, 681, rfl⟩
abbrev main_v555 : Ref sig .tc := ⟨.hbm, 682, rfl⟩
abbrev main_v556 : Ref sig .tc := ⟨.hbm, 683, rfl⟩
abbrev main_cst_122 : Ref sig .tc := ⟨.hbm, 684, rfl⟩
abbrev main_v557 : Ref sig .tc := ⟨.hbm, 685, rfl⟩
abbrev main_v558 : Ref sig .tc := ⟨.hbm, 686, rfl⟩
abbrev main_cst_123 : Ref sig .tc := ⟨.hbm, 687, rfl⟩
abbrev main_v559 : Ref sig .tc := ⟨.hbm, 688, rfl⟩
abbrev main_v560 : Ref sig .tc := ⟨.hbm, 689, rfl⟩
abbrev main_v561 : Ref sig .tc := ⟨.hbm, 690, rfl⟩
abbrev main_cst_124 : Ref sig .tc := ⟨.hbm, 691, rfl⟩
abbrev main_v562 : Ref sig .tc := ⟨.hbm, 692, rfl⟩
abbrev main_v563 : Ref sig .tc := ⟨.hbm, 693, rfl⟩
abbrev main_v564 : Ref sig .tc := ⟨.hbm, 694, rfl⟩
abbrev main_v565 : Ref sig .tc := ⟨.hbm, 695, rfl⟩
abbrev main_cst_125 : Ref sig .tc := ⟨.hbm, 696, rfl⟩
abbrev main_v566 : Ref sig .tc := ⟨.hbm, 697, rfl⟩
abbrev main_v567 : Ref sig .tc := ⟨.hbm, 698, rfl⟩
abbrev main_cst_126 : Ref sig .tc := ⟨.hbm, 699, rfl⟩
abbrev main_v568 : Ref sig .tc := ⟨.hbm, 700, rfl⟩
abbrev main_v569 : Ref sig .tc := ⟨.hbm, 701, rfl⟩
abbrev main_cst_127 : Ref sig .tc := ⟨.hbm, 702, rfl⟩
abbrev main_v570 : Ref sig .tc := ⟨.hbm, 703, rfl⟩
abbrev main_v571 : Ref sig .tc := ⟨.hbm, 704, rfl⟩
abbrev main_v572 : Ref sig .tc := ⟨.hbm, 705, rfl⟩
abbrev main_v573 : Ref sig .tc := ⟨.hbm, 706, rfl⟩
abbrev main_v574 : Ref sig .tc := ⟨.hbm, 707, rfl⟩
abbrev main_v575 : Ref sig .tc := ⟨.hbm, 708, rfl⟩
abbrev main_v576 : Ref sig .tc := ⟨.hbm, 709, rfl⟩
abbrev main_v577 : Ref sig .tc := ⟨.hbm, 710, rfl⟩
abbrev main_v578 : Ref sig .tc := ⟨.hbm, 711, rfl⟩
abbrev main_c : Ref sig .tc := ⟨.hbm, 712, rfl⟩
abbrev main_call0_v0 : Ref sig .tc := ⟨.hbm, 713, rfl⟩
abbrev main_v579 : Ref sig .tc := ⟨.hbm, 714, rfl⟩

abbrev nD : Nat := 1
abbrev τ : Topo := Topo.v7x

variable {F : FTy → Type} [FloatOps F]
-- ==== Ffn.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8x128 : Shape := ⟨2, ![8, 128]⟩
abbrev S8x1024 : Shape := ⟨2, ![8, 1024]⟩
abbrev S256x1024 : Shape := ⟨2, ![256, 1024]⟩
abbrev S256x2816 : Shape := ⟨2, ![256, 2816]⟩
abbrev S3 : Shape := ⟨1, ![3]⟩
abbrev S1 : Shape := ⟨1, ![1]⟩
abbrev S256 : Shape := ⟨1, ![256]⟩
abbrev S256x1 : Shape := ⟨2, ![256, 1]⟩

abbrev nBuf : Space → Nat
  | .hbm => 39
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1024x2816, .f32⟩
  | .hbm, ⟨23, _⟩ => ⟨S8192x2816, .f32⟩
  | .hbm, ⟨24, _⟩ => ⟨S8192x2816, .bf16⟩
  | .hbm, ⟨25, _⟩ => ⟨S1024x2816, .f32⟩
  | .hbm, ⟨26, _⟩ => ⟨S8192x2816, .f32⟩
  | .hbm, ⟨27, _⟩ => ⟨S8192x2816, .bf16⟩
  | .hbm, ⟨28, _⟩ => ⟨S2816x1024, .bf16⟩
  | .hbm, ⟨29, _⟩ => ⟨S2816x1024, .bf16⟩
  | .hbm, ⟨30, _⟩ => ⟨S_, .f32⟩
  | .hbm, ⟨31, _⟩ => ⟨S8x128, .f32⟩
  | .hbm, ⟨32, _⟩ => ⟨S1x1024, .f32⟩
  | .hbm, ⟨33, _⟩ => ⟨S8192x1024, .f32⟩
  | .hbm, ⟨34, _⟩ => ⟨S8x1024, .f32⟩
  | .hbm, ⟨35, _⟩ => ⟨S8192x2816, .bf16⟩
  | .hbm, ⟨36, _⟩ => ⟨S8192x2816, .bf16⟩
  | .hbm, ⟨37, _⟩ => ⟨S8192x2816, .bf16⟩
  | .hbm, ⟨38, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S8x128, .f32⟩
  | .local _ .vmem, ⟨10, _⟩ => ⟨S256x1024, .f32⟩
  | .local _ .vmem, ⟨11, _⟩ => ⟨S256x1024, .f32⟩
  | .local _ .vmem, ⟨12, _⟩ => ⟨S8x1024, .f32⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x1024, .bf16⟩
  | .local _ .vmem, ⟨20, _⟩ => ⟨S256x1024, .bf16⟩
  | .local _ .vmem, ⟨21, _⟩ => ⟨S2816x1024, .bf16⟩
  | .local _ .vmem, ⟨22, _⟩ => ⟨S2816x1024, .bf16⟩
  | .local _ .vmem, ⟨23, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev main_v23_3 : Ref sig .tc := ⟨.hbm, 36, rfl⟩
abbrev main_v23_4 : Ref sig .tc := ⟨.hbm, 37, rfl⟩
abbrev main_v23_5 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FfnRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8x1024 : Shape := ⟨2, ![8, 1024]⟩

abbrev nBuf : Space → Nat
  | .hbm => 144
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S1024x2816, .bf16⟩
  | 4 => ⟨S1024x2816, .bf16⟩
  | 5 => ⟨S2816x1024, .bf16⟩
  | 6 => ⟨S1024x2816, .f32⟩
  | 7 => ⟨S1024x2816, .f32⟩
  | 8 => ⟨S2816x1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1024, .f32⟩
  | 21 => ⟨S8192x1024, .f32⟩
  | 22 => ⟨S1x1024, .f32⟩
  | 23 => ⟨S8192x1024, .f32⟩
  | 24 => ⟨S8192x1024, .f32⟩
  | 25 => ⟨S8192x2816, .f32⟩
  | 26 => ⟨S8192x2816, .f32⟩
  | 27 => ⟨S8192x2816, .f32⟩
  | 28 => ⟨S8192x2816, .f32⟩
  | 29 => ⟨S_, .f32⟩
  | 30 => ⟨S8192x2816, .f32⟩
  | 31 => ⟨S8192x2816, .f32⟩
  | 32 => ⟨S_, .f32⟩
  | 33 => ⟨S8192x2816, .f32⟩
  | 34 => ⟨S8192x2816, .f32⟩
  | 35 => ⟨S_, .f32⟩
  | 36 => ⟨S8192x2816, .f32⟩
  | 37 => ⟨S8192x2816, .f32⟩
  | 38 => ⟨S8192x2816, .f32⟩
  | 39 => ⟨S8192x2816, .f32⟩
  | 40 => ⟨S8192x2816, .f32⟩
  | 41 => ⟨S_, .f32⟩
  | 42 => ⟨S8192x1024, .f32⟩
  | 43 => ⟨S_, .f32⟩
  | 44 => ⟨S8192x1024, .f32⟩
  | 45 => ⟨S8192x1024, .f32⟩
  | 46 => ⟨S8192x1024, .f32⟩
  | 47 => ⟨S_, .f32⟩
  | 48 => ⟨S8192x1024, .f32⟩
  | 49 => ⟨S8192x1024, .f32⟩
  | 50 => ⟨S8192x1024, .f32⟩
  | 51 => ⟨S8192x2816, .f32⟩
  | 52 => ⟨S8192x2816, .f32⟩
  | 53 => ⟨S8192x2816, .f32⟩
  | 54 => ⟨S8192x2816, .f32⟩
  | 55 => ⟨S8192x2816, .f32⟩
  | 56 => ⟨S8192x2816, .f32⟩
  | 57 => ⟨S8192x2816, .f32⟩
  | 58 => ⟨S8192x1024, .f32⟩
  | 59 => ⟨S_, .f32⟩
  | 60 => ⟨S8192, .f32⟩
  | 61 => ⟨S8192x1, .f32⟩
  | 62 => ⟨S_, .f32⟩
  | 63 => ⟨S8192x1, .f32⟩
  | 64 => ⟨S8192x1, .f32⟩
  | 65 => ⟨S_, .f32⟩
  | 66 => ⟨S8192x1, .f32⟩
  | 67 => ⟨S8192x1, .f32⟩
  | 68 => ⟨S8192x1, .f32⟩
  | 69 => ⟨S8192x1, .f32⟩
  | 70 => ⟨S_, .f32⟩
  | 71 => ⟨S8192x1, .f32⟩
  | 72 => ⟨S8192x1, .f32⟩
  | 73 => ⟨S8192x1024, .f32⟩
  | 74 => ⟨S8192x1024, .f32⟩
  | 75 => ⟨S1x1024, .f32⟩
  | 76 => ⟨S8192x1024, .f32⟩
  | 77 => ⟨S8192x1024, .f32⟩
  | 78 => ⟨S8192x2816, .f32⟩
  | 79 => ⟨S8192x2816, .f32⟩
  | 80 => ⟨S8192x2816, .f32⟩
  | 81 => ⟨S8192x2816, .f32⟩
  | 82 => ⟨S_, .f32⟩
  | 83 => ⟨S8192x2816, .f32⟩
  | 84 => ⟨S8192x2816, .f32⟩
  | 85 => ⟨S_, .f32⟩
  | 86 => ⟨S8192x2816, .f32⟩
  | 87 => ⟨S8192x2816, .f32⟩
  | 88 => ⟨S_, .f32⟩
  | 89 => ⟨S8192x2816, .f32⟩
  | 90 => ⟨S8192x2816, .f32⟩
  | 91 => ⟨S8192x2816, .f32⟩
  | 92 => ⟨S8192x2816, .f32⟩
  | 93 => ⟨S8192x2816, .f32⟩
  | 94 => ⟨S8192x1024, .f32⟩
  | 95 => ⟨S_, .f32⟩
  | 96 => ⟨S8192x1024, .f32⟩
  | 97 => ⟨S8192x1024, .f32⟩
  | 98 => ⟨S8192x1024, .f32⟩
  | 99 => ⟨S8192x1024, .f32⟩
  | 100 => ⟨S_, .f32⟩
  | 101 => ⟨S8192x1024, .f32⟩
  | 102 => ⟨S8192x1024, .f32⟩
  | 103 => ⟨S8192x2816, .f32⟩
  | 104 => ⟨S8192x2816, .f32⟩
  | 105 => ⟨S8192x2816, .f32⟩
  | 106 => ⟨S8192x2816, .f32⟩
  | 107 => ⟨S8192x2816, .f32⟩
  | 108 => ⟨S8192x2816, .f32⟩
  | 109 => ⟨S8192x2816, .f32⟩
  | 110 => ⟨S8192x1024, .f32⟩
  | 111 => ⟨S8192x1024, .f32⟩
  | 112 => ⟨S8192x1024, .f32⟩
  | 113 => ⟨S8192x1024, .f32⟩
  | 114 => ⟨S_, .f32⟩
  | 115 => ⟨S1024, .f32⟩
  | 116 => ⟨S1x1024, .f32⟩
  | 117 => ⟨S8192x1024, .f32⟩
  | 118 => ⟨S8192x1024, .f32⟩
  | 119 => ⟨S_, .f32⟩
  | 120 => ⟨S1024, .f32⟩
  | 121 => ⟨S8192x1024, .f32⟩
  | 122 => ⟨S_, .f32⟩
  | 123 => ⟨S8192, .f32⟩
  | 124 => ⟨S8192x1, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1, .f32⟩
  | 1 => ⟨S_, .f32⟩
  | 2 => ⟨S8192x1, .f32⟩
  | 3 => ⟨S8192x1, .f32⟩
  | 4 => ⟨S_, .f32⟩
  | 5 => ⟨S8192, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S8x1024, .f32⟩
  | 12 => ⟨S8192x2816, .bf16⟩
  | 13 => ⟨S8192x2816, .bf16⟩
  | 14 => ⟨S8192x2816, .bf16⟩
  | 15 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_v33 : Ref sig .tc := ⟨.hbm, 61, rfl⟩
abbrev main_cst_6 : Ref sig .tc := ⟨.hbm, 62, rfl⟩
abbrev main_v34 : Ref sig .tc := ⟨.hbm, 63, rfl⟩
abbrev main_v35 : Ref sig .tc := ⟨.hbm, 64, rfl⟩
abbrev main_cst_7 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_8 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_call2_v0 : Ref sig .tc := ⟨.hbm, 80, rfl⟩
abbrev main_call2_v1 : Ref sig .tc := ⟨.hbm, 81, rfl⟩
abbrev main_call2_cst : Ref sig .tc := ⟨.hbm, 82, rfl⟩
abbrev main_call2_v2 : Ref sig .tc := ⟨.hbm, 83, rfl⟩
abbrev main_call2_v3 : Ref sig .tc := ⟨.hbm, 84, rfl⟩
abbrev main_call2_cst_0 : Ref sig .tc := ⟨.hbm, 85, rfl⟩
abbrev main_call2_v4 : Ref sig .tc := ⟨.hbm, 86, rfl⟩
abbrev main_v49_2 : Ref sig .tc := ⟨.hbm, 87, rfl⟩
abbrev main_call2_cst_1 : Ref sig .tc := ⟨.hbm, 88, rfl⟩
abbrev main_call2_v6 : Ref sig .tc := ⟨.hbm, 89, rfl⟩
abbrev main_call2_v7 : Ref sig .tc := ⟨.hbm, 90, rfl⟩
abbrev main_v49_1 : Ref sig .tc := ⟨.hbm, 91, rfl⟩
abbrev main_v49_0 : Ref sig .tc := ⟨.hbm, 92, rfl⟩
abbrev main_v50 : Ref sig .tc := ⟨.hbm, 93, rfl⟩
abbrev main_v51 : Ref sig .tc := ⟨.hbm, 94, rfl⟩
abbrev main_cst_9 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_10 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_11 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_cst_12 : Ref sig .tc := ⟨.hbm, 119, rfl⟩
abbrev main_v70 : Ref sig .tc := ⟨.hbm, 120, rfl⟩
abbrev main_v71 : Ref sig .tc := ⟨.hbm, 121, rfl⟩
abbrev main_cst_13 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_14 : Ref sig .tc := ⟨.hbm, 129, rfl⟩
abbrev main_v78 : Ref sig .tc := ⟨.hbm, 130, rfl⟩
abbrev main_v79 : Ref sig .tc := ⟨.hbm, 131, rfl⟩
abbrev main_cst_15 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩

abbrev nD : Nat := 1
abbrev τ : Topo := Topo.v7x

variable {F : FTy → Type} [FloatOps F]
-- ==== Qkv.lean ====
abbrev S8x8192x192 : Shape := ⟨3, ![8, 8192, 192]⟩
abbrev S8x8192x128 : Shape := ⟨3, ![8, 8192, 128]⟩
abbrev S8192 : Shape := ⟨1, ![8192]⟩
abbrev S512x8x192 : Shape := ⟨3, ![512, 8, 192]⟩
abbrev S256x8x256 : Shape := ⟨3, ![256, 8, 256]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S512x8x256 : Shape := ⟨3, ![512, 8, 256]⟩
abbrev S512x2048 : Shape := ⟨2, ![512, 2048]⟩
abbrev S256x2048 : Shape := ⟨2, ![256, 2048]⟩
abbrev S8x8192x256 : Shape := ⟨3, ![8, 8192, 256]⟩
abbrev S8192x64 : Shape := ⟨2, ![8192, 64]⟩
abbrev S8192x128 : Shape := ⟨2, ![8192, 128]⟩
abbrev S8192x2048 : Shape := ⟨2, ![8192, 2048]⟩
abbrev S8192x512 : Shape := ⟨2, ![8192, 512]⟩
abbrev S8192x256 : Shape := ⟨2, ![8192, 256]⟩
abbrev S8x256x256 : Shape := ⟨3, ![8, 256, 256]⟩
abbrev S8x256x128 : Shape := ⟨3, ![8, 256, 128]⟩
abbrev S256x128 : Shape := ⟨2, ![256, 128]⟩
abbrev S256x512 : Shape := ⟨2, ![256, 512]⟩
abbrev S256x256 : Shape := ⟨2, ![256, 256]⟩
abbrev S1x256x128 : Shape := ⟨3, ![1, 256, 128]⟩
abbrev S8192x8x256 : Shape := ⟨3, ![8192, 8, 256]⟩
abbrev S8192x8x192 : Shape := ⟨3, ![8192, 8, 192]⟩

abbrev nBuf : Space → Nat
  | .hbm => 51
  | .vmem => 22
  | .smem => 0
  | _ => 0

abbrev bufTy : (tb : Table) → Fin (tcTables nBuf tb) → BufTy
  | .hbm, ⟨0, _⟩ => ⟨S8x8192x192, .bf16⟩
  | .hbm, ⟨1, _⟩ => ⟨S8x8192x192, .bf16⟩
  | .hbm, ⟨2, _⟩ => ⟨S8x8192x128, .bf16⟩
  | .hbm, ⟨3, _⟩ => ⟨S8192, .i32⟩
  | .hbm, ⟨4, _⟩ => ⟨S512x8x192, .bf16⟩
  | .hbm, ⟨5, _⟩ => ⟨S256x8x256, .bf16⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S8192, .f32⟩
  | .hbm, ⟨17, _⟩ => ⟨S8192x1, .f32⟩
  | .hbm, ⟨18, _⟩ => ⟨S1x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S_, .i32⟩
  | .hbm, ⟨25, _⟩ => ⟨S_, .bf16⟩
  | .hbm, ⟨26, _⟩ => ⟨S512x8x256, .bf16⟩
  | .hbm, ⟨27, _⟩ => ⟨S512x2048, .bf16⟩
  | .hbm, ⟨28, _⟩ => ⟨S256x2048, .bf16⟩
  | .hbm, ⟨29, _⟩ => ⟨S_, .i32⟩
  | .hbm, ⟨30, _⟩ => ⟨S_, .bf16⟩
  | .hbm, ⟨31, _⟩ => ⟨S8x8192x256, .bf16⟩
  | .hbm, ⟨32, _⟩ => ⟨S_, .i32⟩
  | .hbm, ⟨33, _⟩ => ⟨S_, .bf16⟩
  | .hbm, ⟨34, _⟩ => ⟨S8x8192x256, .bf16⟩
  | .hbm, ⟨35, _⟩ => ⟨S8192x64, .f32⟩
  | .hbm, ⟨36, _⟩ => ⟨S_, .i32⟩
  | .hbm, ⟨37, _⟩ => ⟨S_, .f32⟩
  | .hbm, ⟨38, _⟩ => ⟨S8192x128, .f32⟩
  | .hbm, ⟨39, _⟩ => ⟨S8192x64, .f32⟩
  | .hbm, ⟨40, _⟩ => ⟨S_, .i32⟩
  | .hbm, ⟨41, _⟩ => ⟨S_, .f32⟩
  | .hbm, ⟨42, _⟩ => ⟨S8192x128, .f32⟩
  | .hbm, ⟨43, _⟩ => ⟨S8192x2048, .bf16⟩
  | .hbm, ⟨44, _⟩ => ⟨S8192x2048, .bf16⟩
  | .hbm, ⟨45, _⟩ => ⟨S8192x512, .f32⟩
  | .hbm, ⟨46, _⟩ => ⟨S8192x256, .f32⟩
  | .hbm, ⟨47, _⟩ => ⟨S8192x128, .f32⟩
  | .hbm, ⟨48, _⟩ => ⟨S8192x8x256, .bf16⟩
  | .hbm, ⟨49, _⟩ => ⟨S8192x8x192, .bf16⟩
  | .hbm, ⟨50, _⟩ => ⟨S8192x64, .f32⟩
  | .local _ .vmem, ⟨0, _⟩ => ⟨S8x256x256, .bf16⟩
  | .local _ .vmem, ⟨1, _⟩ => ⟨S8x256x256, .bf16⟩
  | .local _ .vmem, ⟨2, _⟩ => ⟨S8x256x256, .bf16⟩
  | .local _ .vmem, ⟨3, _⟩ => ⟨S8x256x256, .bf16⟩
  | .local _ .vmem, ⟨4, _⟩ => ⟨S8x256x128, .bf16⟩
  | .local _ .vmem, ⟨5, _⟩ => ⟨S8x256x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S512x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x512, .f32⟩
  | .local _ .vmem, ⟨17, _⟩ => ⟨S256x512, .f32⟩
  | .local _ .vmem, ⟨18, _⟩ => ⟨S256x256, .f32⟩
  | .local _ .vmem, ⟨19, _⟩ => ⟨S256x256, .f32⟩
  | .local _ .vmem, ⟨20, _⟩ => ⟨S256x128, .f32⟩
  | .local _ .vmem, ⟨21, _⟩ => ⟨S256x128, .f32⟩
  | _, _ => ⟨S8x8192x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_call1_v0 : Ref sig .tc := ⟨.hbm, 30, rfl⟩
abbrev main_v18 : Ref sig .tc := ⟨.hbm, 31, rfl⟩
abbrev main_c_3 : Ref sig .tc := ⟨.hbm, 32, rfl⟩
abbrev main_call2_v0 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_call3_v0 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_call4_v0 : Ref sig .tc := ⟨.hbm, 41, rfl⟩
abbrev main_v23 : Ref sig .tc := ⟨.hbm, 42, rfl⟩
abbrev main_v24_0 : Ref sig .tc := ⟨.hbm, 43, rfl⟩
abbrev main_v24_1 : Ref sig .tc := ⟨.hbm, 44, rfl⟩
abbrev main_v24_2 : Ref sig .tc := ⟨.hbm, 45, rfl⟩
abbrev main_v24_3 : Ref sig .tc := ⟨.hbm, 46, rfl⟩
abbrev main_v24_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== QkvRefIdeal.lean ====
abbrev S8x8192x192 : Shape := ⟨3, ![8, 8192, 192]⟩
abbrev S8x8192x128 : Shape := ⟨3, ![8, 8192, 128]⟩
abbrev S8192 : Shape := ⟨1, ![8192]⟩
abbrev S512x8x192 : Shape := ⟨3, ![512, 8, 192]⟩
abbrev S256x8x256 : Shape := ⟨3, ![256, 8, 256]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x8x192 : Shape := ⟨3, ![8192, 8, 192]⟩
abbrev S8192x8x256 : Shape := ⟨3, ![8192, 8, 256]⟩
abbrev S8192x64 : Shape := ⟨2, ![8192, 64]⟩
abbrev S8192x8x64 : Shape := ⟨3, ![8192, 8, 64]⟩
abbrev S8192x1x32 : Shape := ⟨3, ![8192, 1, 32]⟩
abbrev S8192x8x32 : Shape := ⟨3, ![8192, 8, 32]⟩
abbrev S8192x8x128 : Shape := ⟨3, ![8192, 8, 128]⟩
abbrev S8192x1x64 : Shape := ⟨3, ![8192, 1, 64]⟩
abbrev S8192x512 : Shape := ⟨2, ![8192, 512]⟩
abbrev S8192x256 : Shape := ⟨2, ![8192, 256]⟩
abbrev S8192x2048 : Shape := ⟨2, ![8192, 2048]⟩

abbrev nBuf : Space → Nat
  | .hbm => 141
  | .vmem => 0
  | .smem => 0
  | _ => 0

abbrev hbmTy0_0 (i : Nat) : BufTy := match i % 128 with
  | 0 => ⟨S8x8192x192, .bf16⟩
  | 1 => ⟨S8x8192x192, .bf16⟩
  | 2 => ⟨S8x8192x128, .bf16⟩
  | 3 => ⟨S8192, .i32⟩
  | 4 => ⟨S512x8x192, .bf16⟩
  | 5 => ⟨S256x8x256, .bf16⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S8192, .f32⟩
  | 17 => ⟨S8192x1, .f32⟩
  | 18 => ⟨S1x32, .f32⟩
  | 19 => ⟨S8192x32, .f32⟩
  | 20 => ⟨S8192x32, .f32⟩
  | 21 => ⟨S8192x32, .f32⟩
  | 22 => ⟨S8192x32, .f32⟩
  | 23 => ⟨S8192x32, .f32⟩
  | 24 => ⟨S8x8192x192, .f32⟩
  | 25 => ⟨S8x8192x192, .f32⟩
  | 26 => ⟨S8x8192x128, .f32⟩
  | 27 => ⟨S512x8x192, .f32⟩
  | 28 => ⟨S256x8x256, .f32⟩
  | 29 => ⟨S_, .f32⟩
  | 30 => ⟨S8192x8x192, .f32⟩
  | 31 => ⟨S_, .f32⟩
  | 32 => ⟨S8192x8x256, .f32⟩
  | 33 => ⟨S_, .f32⟩
  | 34 => ⟨S8192x64, .f32⟩
  | 35 => ⟨S8192x8x64, .f32⟩
  | 36 => ⟨S8192x1x32, .f32⟩
  | 37 => ⟨S8192x1x32, .f32⟩
  | 38 => ⟨S8192x8x32, .f32⟩
  | 39 => ⟨S8192x8x32, .f32⟩
  | 40 => ⟨S8192x8x32, .f32⟩
  | 41 => ⟨S8192x8x32, .f32⟩
  | 42 => ⟨S8192x8x32, .f32⟩
  | 43 => ⟨S8192x8x32, .f32⟩
  | 44 => ⟨S8192x8x32, .f32⟩
  | 45 => ⟨S8192x8x32, .f32⟩
  | 46 => ⟨S8192x8x32, .f32⟩
  | 47 => ⟨S8192x8x32, .f32⟩
  | 48 => ⟨S8192x8x32, .f32⟩
  | 49 => ⟨S8192x8x32, .f32⟩
  | 50 => ⟨S8192x8x64, .f32⟩
  | 51 => ⟨S8192x8x128, .f32⟩
  | 52 => ⟨S8192x8x192, .f32⟩
  | 53 => ⟨S_, .f32⟩
  | 54 => ⟨S8192x8x192, .f32⟩
  | 55 => ⟨S8192x8x192, .f32⟩
  | 56 => ⟨S8192x32, .f32⟩
  | 57 => ⟨S8192x32, .f32⟩
  | 58 => ⟨S8192x32, .f32⟩
  | 59 => ⟨S8192x32, .f32⟩
  | 60 => ⟨S8192x32, .f32⟩
  | 61 => ⟨S8192x32, .f32⟩
  | 62 => ⟨S8192x32, .f32⟩
  | 63 => ⟨S8192x32, .f32⟩
  | 64 => ⟨S8192x64, .f32⟩
  | 65 => ⟨S8192x8x128, .f32⟩
  | 66 => ⟨S8192x1x64, .f32⟩
  | 67 => ⟨S8192x8x64, .f32⟩
  | 68 => ⟨S8192x8x192, .f32⟩
  | 69 => ⟨S8x8192x192, .f32⟩
  | 70 => ⟨S8x8192x192, .f32⟩
  | 71 => ⟨S8192x8x128, .f32⟩
  | 72 => ⟨S8x8192x128, .f32⟩
  | 73 => ⟨S8192x8x128, .f32⟩
  | 74 => ⟨S_, .f32⟩
  | 75 => ⟨S8192x8x256, .f32⟩
  | 76 => ⟨S8192x8x192, .f32⟩
  | 77 => ⟨S8192x8x192, .f32⟩
  | 78 => ⟨S8192x8x128, .f32⟩
  | 79 => ⟨S8192x8x64, .f32⟩
  | 80 => ⟨S_, .f32⟩
  | 81 => ⟨S8192x64, .f32⟩
  | 82 => ⟨S8192x1x64, .f32⟩
  | 83 => ⟨S_, .f32⟩
  | 84 => ⟨S8192x64, .f32⟩
  | 85 => ⟨S_, .f32⟩
  | 86 => ⟨S8192x8x256, .f32⟩
  | 87 => ⟨S8192x8x256, .f32⟩
  | 88 => ⟨S8192x32, .f32⟩
  | 89 => ⟨S8192x32, .f32⟩
  | 90 => ⟨S8192x32, .f32⟩
  | 91 => ⟨S8192x32, .f32⟩
  | 92 => ⟨S8192x32, .f32⟩
  | 93 => ⟨S8192x32, .f32⟩
  | 94 => ⟨S8192x32, .f32⟩
  | 95 => ⟨S8192x32, .f32⟩
  | 96 => ⟨S8192x32, .f32⟩
  | 97 => ⟨S_, .f32⟩
  | 98 => ⟨S8192x64, .f32⟩
  | 99 => ⟨S_, .f32⟩
  | 100 => ⟨S8192x64, .f32⟩
  | 101 => ⟨S8192x64, .f32⟩
  | 102 => ⟨S_, .f32⟩
  | 103 => ⟨S8192x8x192, .f32⟩
  | 104 => ⟨S8192x8x192, .f32⟩
  | 105 => ⟨S8192x8x128, .f32⟩
  | 106 => ⟨S8192x8x64, .f32⟩
  | 107 => ⟨S_, .f32⟩
  | 108 => ⟨S8192x8x192, .f32⟩
  | 109 => ⟨S8192x8x32, .f32⟩
  | 110 => ⟨S8192x8x32, .f32⟩
  | 111 => ⟨S8192x8x32, .f32⟩
  | 112 => ⟨S8192x8x32, .f32⟩
  | 113 => ⟨S8192x8x32, .f32⟩
  | 114 => ⟨S8192x8x32, .f32⟩
  | 115 => ⟨S8192x8x32, .f32⟩
  | 116 => ⟨S8192x8x32, .f32⟩
  | 117 => ⟨S8192x8x32, .f32⟩
  | 118 => ⟨S8192x8x32, .f32⟩
  | 119 => ⟨S8192x8x32, .f32⟩
  | 120 => ⟨S8192x8x32, .f32⟩
  | 121 => ⟨S8192x8x32, .f32⟩
  | 122 => ⟨S_, .f32⟩
  | 123 => ⟨S8192x8x64, .f32⟩
  | 124 => ⟨S_, .f32⟩
  | 125 => ⟨S8192x8x64, .f32⟩
  | 126 => ⟨S8192x8x64, .f32⟩
  | 127 => ⟨S_, .f32⟩
  | _ => ⟨S8x8192x192, .bf16⟩

abbrev hbmTy0_1 (i : Nat) : BufTy := match i % 128 with
  | 0 => ⟨S8192x8x192, .f32⟩
  | 1 => ⟨S8192x8x192, .f32⟩
  | 2 => ⟨S_, .f32⟩
  | 3 => ⟨S8192x512, .f32⟩
  | 4 => ⟨S8192x8x192, .f32⟩
  | 5 => ⟨S8192x512, .f32⟩
  | 6 => ⟨S_, .f32⟩
  | 7 => ⟨S8192x256, .f32⟩
  | 8 => ⟨S8192x8x256, .f32⟩
  | 9 => ⟨S8192x256, .f32⟩
  | 10 => ⟨S8192x8x192, .bf16⟩
  | 11 => ⟨S8192x2048, .f32⟩
  | 12 => ⟨S8192x2048, .bf16⟩
  | _ => ⟨S8x8192x192, .bf16⟩

abbrev hbmTy (i : Nat) : BufTy := match i / 128 with
  | 0 => hbmTy0_0 i
  | 1 => hbmTy0_1 i
  | _ => ⟨S8x8192x192, .bf16⟩

abbrev bufTy : (tb : Table) → Fin (tcTables nBuf tb) → BufTy
  | .hbm, ⟨i, _⟩ => hbmTy i
  | _, _ => ⟨S8x8192x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_6 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_7 : Ref sig .tc := ⟨.hbm, 80, rfl⟩
abbrev main_v66 : Ref sig .tc := ⟨.hbm, 81, rfl⟩
abbrev main_v67 : Ref sig .tc := ⟨.hbm, 82, rfl⟩
abbrev main_cst_8 : Ref sig .tc := ⟨.hbm, 83, rfl⟩
abbrev main_v68 : Ref sig .tc := ⟨.hbm, 84, rfl⟩
abbrev main_cst_9 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_10 : Ref sig .tc := ⟨.hbm, 97, rfl⟩
abbrev main_v80 : Ref sig .tc := ⟨.hbm, 98, rfl⟩
abbrev main_cst_11 : Ref sig .tc := ⟨.hbm, 99, rfl⟩
abbrev main_v81 : Ref sig .tc := ⟨.hbm, 100, rfl⟩
abbrev main_v82 : Ref sig .tc := ⟨.hbm, 101, rfl⟩
abbrev main_cst_12 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_13 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_cst_14 : Ref sig .tc := ⟨.hbm, 122, rfl⟩
abbrev main_v101 : Ref sig .tc := ⟨.hbm, 123, rfl⟩
abbrev main_cst_15 : Ref sig .tc := ⟨.hbm, 124, rfl⟩
abbrev main_v102 : Ref sig .tc := ⟨.hbm, 125, rfl⟩
abbrev main_v103 : Ref sig .tc := ⟨.hbm, 126, rfl⟩
abbrev main_cst_16 : Ref sig .tc := ⟨.hbm, 127, rfl⟩
abbrev main_v104 : Ref sig .tc := ⟨.hbm, 128, rfl⟩
abbrev main_v105 : Ref sig .tc := ⟨.hbm, 129, rfl⟩
abbrev main_cst_17 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_cst_18 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩

abbrev nD : Nat := 1
abbrev τ : Topo := Topo.v7x

variable {F : FTy → Type} [FloatOps F]
-- ==== Delta.lean ====
abbrev S8192x1024 : Shape := ⟨2, ![8192, 1024]⟩
abbrev S8x16x8x512 : Shape := ⟨4, ![8, 16, 8, 512]⟩
abbrev S512x1024 : Shape := ⟨2, ![512, 1024]⟩
abbrev S8x1x8x512 : Shape := ⟨4, ![8, 1, 8, 512]⟩
abbrev S512x128 : Shape := ⟨2, ![512, 128]⟩
abbrev S128x512 : Shape := ⟨2, ![128, 512]⟩
abbrev S512 : Shape := ⟨1, ![512]⟩
abbrev S1x512 : Shape := ⟨2, ![1, 512]⟩
abbrev S8x512 : Shape := ⟨2, ![8, 512]⟩
abbrev S1x1x8x512 : Shape := ⟨4, ![1, 1, 8, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8x16x8x512, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S8x1x8x512, .f32⟩
  | .local _ .vmem, ⟨5, _⟩ => ⟨S8x1x8x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DeltaRefIdeal.lean ====
abbrev S8192x1024 : Shape := ⟨2, ![8192, 1024]⟩
abbrev S8192x8x128 : Shape := ⟨3, ![8192, 8, 128]⟩
abbrev S_ : Shape := ⟨0, ![]⟩
abbrev S8192x8 : Shape := ⟨2, ![8192, 8]⟩
abbrev S8x8192 : Shape := ⟨2, ![8, 8192]⟩
abbrev S8x16x1x512 : Shape := ⟨4, ![8, 16, 1, 512]⟩
abbrev S8x16x8x512 : Shape := ⟨4, ![8, 16, 8, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x8x128, .f32⟩
  | .hbm, ⟨6, _⟩ => ⟨S_, .f32⟩
  | .hbm, ⟨7, _⟩ => ⟨S8192x8, .f32⟩
  | .hbm, ⟨8, _⟩ => ⟨S8x8192, .f32⟩
  | .hbm, ⟨9, _⟩ => ⟨S8x16x1x512, .f32⟩
  | .hbm, ⟨10, _⟩ => ⟨S8x16x8x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FlashFwd.lean ====
abbrev S8x8192x192 : Shape := ⟨3, ![8, 8192, 192]⟩
abbrev S8x8192x128 : Shape := ⟨3, ![8, 8192, 128]⟩
abbrev S_ : Shape := ⟨0, ![]⟩
abbrev S8x8192x256 : Shape := ⟨3, ![8, 8192, 256]⟩
abbrev S8192x1024 : Shape := ⟨2, ![8192, 1024]⟩
abbrev S8x16x8x512 : Shape := ⟨4, ![8, 16, 8, 512]⟩
abbrev S1x1024x256 : Shape := ⟨3, ![1, 1024, 256]⟩
abbrev S1x8192x256 : Shape := ⟨3, ![1, 8192, 256]⟩
abbrev S1x8192x128 : Shape := ⟨3, ![1, 8192, 128]⟩
abbrev S1024x128 : Shape := ⟨2, ![1024, 128]⟩
abbrev S1x2x8x512 : Shape := ⟨4, ![1, 2, 8, 512]⟩
abbrev S2x2x512x512 : Shape := ⟨4, ![2, 2, 512, 512]⟩
abbrev S2x512x512 : Shape := ⟨3, ![2, 512, 512]⟩
abbrev S2x8x512 : Shape := ⟨3, ![2, 8, 512]⟩
abbrev S2x128x512 : Shape := ⟨3, ![2, 128, 512]⟩
abbrev S1x512x256 : Shape := ⟨3, ![1, 512, 256]⟩
abbrev S512x256 : Shape := ⟨2, ![512, 256]⟩
abbrev S512x512 : Shape := ⟨2, ![512, 512]⟩
abbrev S1x512x128 : Shape := ⟨3, ![1, 512, 128]⟩
abbrev S512x128 : Shape := ⟨2, ![512, 128]⟩
abbrev S1x1x512x512 : Shape := ⟨4, ![1, 1, 512, 512]⟩
abbrev S1x1x512x128 : Shape := ⟨4, ![1, 1, 512, 128]⟩
abbrev S1x1x128 : Shape := ⟨3, ![1, 1, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S1x128x512 : Shape := ⟨3, ![1, 128, 512]⟩
abbrev S128x512 : Shape := ⟨2, ![128, 512]⟩
abbrev S1x512x512 : Shape := ⟨3, ![1, 512, 512]⟩
abbrev S1x1x512 : Shape := ⟨3, ![1, 1, 512]⟩
abbrev S1x512 : Shape := ⟨2, ![1, 512]⟩
abbrev S8x512 : Shape := ⟨2, ![8, 512]⟩
abbrev S1x1x8x512 : Shape := ⟨4, ![1, 1, 8, 512]⟩

abbrev nBuf : Space → Nat
  | .hbm => 11
  | .vmem => 15
  | .smem => 0
  | _ => 0

abbrev bufTy : (tb : Table) → Fin (tcTables nBuf tb) → BufTy
  | .hbm, ⟨0, _⟩ => ⟨S8x8192x192, .bf16⟩
  | .hbm, ⟨1, _⟩ => ⟨S8x8192x192, .bf16⟩
  | .hbm, ⟨2, _⟩ => ⟨S8x8192x128, .bf16⟩
  | .hbm, ⟨3, _⟩ => ⟨S_, .i32⟩
  | .hbm, ⟨4, _⟩ => ⟨S_, .bf16⟩
  | .hbm, ⟨5, _⟩ => ⟨S8x8192x256, .bf16⟩
  | .hbm, ⟨6, _⟩ => ⟨S_, .i32⟩
  | .hbm, ⟨7, _⟩ => ⟨S_, .bf16⟩
  | .hbm, ⟨8, _⟩ => ⟨S8x8192x256, .bf16⟩
  | .hbm, ⟨9, _⟩ => ⟨S8192x1024, .bf16⟩
  | .hbm, ⟨10, _⟩ => ⟨S8x16x8x512, .f32⟩
  | .local _ .vmem, ⟨0, _⟩ => ⟨S1x1024x256, .bf16⟩
  | .local _ .vmem, ⟨1, _⟩ => ⟨S1x1024x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x128, .bf16⟩
  | .local _ .vmem, ⟨5, _⟩ => ⟨S1x8192x128, .bf16⟩
  | .local _ .vmem, ⟨6, _⟩ => ⟨S1024x128, .bf16⟩
  | .local _ .vmem, ⟨7, _⟩ => ⟨S1024x128, .bf16⟩
  | .local _ .vmem, ⟨8, _⟩ => ⟨S1x2x8x512, .f32⟩
  | .local _ .vmem, ⟨9, _⟩ => ⟨S1x2x8x512, .f32⟩
  | .local _ .vmem, ⟨10, _⟩ => ⟨S2x2x512x512, .f32⟩
  | .local _ .vmem, ⟨11, _⟩ => ⟨S2x512x512, .bf16⟩
  | .local _ .vmem, ⟨12, _⟩ => ⟨S2x8x512, .f32⟩
  | .local _ .vmem, ⟨13, _⟩ => ⟨S2x8x512, .f32⟩
  | .local _ .vmem, ⟨14, _⟩ => ⟨S2x128x512, .f32⟩
  | _, _ => ⟨S8x8192x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c2_i32 : BitVec 32 := 2#32
  let arg1 : BitVec 32 := BitVec.ofNat 32 (i 1).val
  let v67 : BitVec 32 := Scalar.muli c2_i32 arg1
  let c512_i32 : BitVec 32 := 512#32
  let v68 : BitVec 32 := Scalar.muli v67 c512_i32
  v68
def k0_off1 (i : grid0.Coords) : Fin 3 → Nat :=
  let c0_26 : Index := 0#32
  let c2_i32 : BitVec 32 := 2#32
  let arg1 : BitVec 32 := BitVec.ofNat 32 (i 1).val
  let v67 : BitVec 32 := Scalar.muli c2_i32 arg1
  let c512_i32 : BitVec 32 := 512#32
  let v68 : BitVec 32 := Scalar.muli v67 c512_i32
  let v69 : BitVec 32 := v68
  let v70 : Index := Scalar.indexCast v69
  let c0_27 : Index := 0#32
  ![0, v70.toNat, 0]
def k0_off2 (i : grid0.Coords) : Fin 3 → Nat :=
  let c0_28 : Index := 0#32
  let c2_i32 : BitVec 32 := 2#32
  let arg1 : BitVec 32 := BitVec.ofNat 32 (i 1).val
  let v67 : BitVec 32 := Scalar.muli c2_i32 arg1
  let c512_i32 : BitVec 32 := 512#32
  let v68 : BitVec 32 := Scalar.muli v67 c512_i32
  let v69 : BitVec 32 := v68
  let v73 : Index := Scalar.indexCast v69
  let c0_29 : Index := 0#32
  ![0, v73.toNat, 0]
def k0_mult2 (i : grid0.Coords) : BitVec 32 :=
  let c2_i32_30 : BitVec 32 := 2#32
  let arg1 : BitVec 32 := BitVec.ofNat 32 (i 1).val
  let v76 : BitVec 32 := Scalar.muli c2_i32_30 arg1
  let c1_i32_31 : BitVec 32 := 1#32
  let v77 : BitVec 32 := Scalar.addi v76 c1_i32_31
  let c512_i32_32 : BitVec 32 := 512#32
  let v78 : BitVec 32 := Scalar.muli v77 c512_i32_32
  v78
def k0_off3 (i : grid0.Coords) : Fin 3 → Nat :=
  let c0_33 : Index := 0#32
  let c2_i32_30 : BitVec 32 := 2#32
  let arg1 : BitVec 32 := BitVec.ofNat 32 (i 1).val
  let v76 : BitVec 32 := Scalar.muli c2_i32_30 arg1
  let c1_i32_31 : BitVec 32 := 1#32
  let v77 : BitVec 32 := Scalar.addi v76 c1_i32_31
  let c512_i32_32 : BitVec 32 := 512#32
  let v78 : BitVec 32 := Scalar.muli v77 c512_i32_32
  let v79 : BitVec 32 := v78
  let v80 : Index := Scalar.indexCast v79
  let c0_34 : Index := 0#32
  ![0, v80.toNat, 0]
def k0_off4 (i : grid0.Coords) : Fin 3 → Nat :=
  let c0_35 : Index := 0#32
  let c2_i32_30 : BitVec 32 := 2#32
  let arg1 : BitVec 32 := BitVec.ofNat 32 (i 1).val
  let v76 : BitVec 32 := Scalar.muli c2_i32_30 arg1
  let c1_i32_31 : BitVec 32 := 1#32
  let v77 : BitVec 32 := Scalar.addi v76 c1_i32_31
  let c512_i32_32 : BitVec 32 := 512#32
  let v78 : BitVec 32 := Scalar.muli v77 c512_i32_32
  let v79 : BitVec 32 := v78
  let v83 : Index := Scalar.indexCast v79
  let c0_36 : Index := 0#32
  ![0, v83.toNat, 0]
def k0_mult3 : BitVec 32 :=
  let c0_i32_404 : BitVec 32 := 0#32
  c0_i32_404
@[reducible] def k0_t1_loop (i : grid0.Coords) : Scf.Loop 32 :=
  let c0_i32_419 : BitVec 32 := 0#32
  let c1_i32_417 : BitVec 32 := 1#32
  let arg1 : BitVec 32 := BitVec.ofNat 32 (i 1).val
  let v561 : BitVec 32 := Scalar.muli c1_i32_417 arg1
  let v562 : BitVec 32 := Scalar.subi v561 c0_i32_419
  let c1_i32_420 : BitVec 32 := 1#32
  let v564 : BitVec 32 := Scalar.divsi v562 c1_i32_420
  let v565 : BitVec 32 := Scalar.muli v564 c1_i32_420
  let v566 : BitVec 32 := Scalar.addi c0_i32_419 v565
  let c1_i32_421 : BitVec 32 := 1#32
  ⟨c0_i32_419, v566, c1_i32_421⟩
def k0_mult4 (i : grid0.Coords) (k0_t1 : Fin (k0_t1_loop i).trips) : BitVec 32 :=
  let c2_i32_453 : BitVec 32 := 2#32
  let c0_i32_419 : BitVec 32 := 0#32
  let c1_i32_421 : BitVec 32 := 1#32
  let arg12 : BitVec 32 := Scf.iv c0_i32_419 c1_i32_421 k0_t1
  let v603 : BitVec 32 := Scalar.muli c2_i32_453 arg12
  let c0_i32_454 : BitVec 32 := 0#32
  let v604 : BitVec 32 := Scalar.addi v603 c0_i32_454
  let c1_i32_455 : BitVec 32 := 1#32
  let v605 : BitVec 32 := Scalar.addi v604 c1_i32_455
  let c2_i32_456 : BitVec 32 := 2#32
  let arg1 : BitVec 32 := BitVec.ofNat 32 (i 1).val
  let v606 : BitVec 32 := Scalar.muli c2_i32_456 arg1
  let c1_i32_457 : BitVec 32 := 1#32
  let v607 : BitVec 32 := Scalar.subi v606 c1_i32_457
  let c0_i32_458 : BitVec 32 := 0#32
  let v608 : BitVec 32 := Scalar.maxsi v607 c0_i32_458
  let v609 : BitVec 32 := Scalar.minsi v605 v608
  let c512_i32_459 : BitVec 32 := 512#32
  let v610 : BitVec 32 := Scalar.muli v609 c512_i32_459
  v610
def k0_off5 (i : grid0.Coords) (k0_t1 : Fin (k0_t1_loop i).trips) (c0_i32_454 : BitVec 32) : Fin 3 → Nat :=
  let c0_460 : Index := 0#32
  let c2_i32_453 : BitVec 32 := 2#32
  let c0_i32_419 : BitVec 32 := 0#32
  let c1_i32_421 : BitVec 32 := 1#32
  let arg12 : BitVec 32 := Scf.iv c0_i32_419 c1_i32_421 k0_t1
  let v603 : BitVec 32 := Scalar.muli c2_i32_453 arg12
  let v604 : BitVec 32 := Scalar.addi v603 c0_i32_454
  let c1_i32_455 : BitVec 32 := 1#32
  let v605 : BitVec 32 := Scalar.addi v604 c1_i32_455
  let c2_i32_456 : BitVec 32 := 2#32
  let arg1 : BitVec 32 := BitVec.ofNat 32 (i 1).val
  let v606 : BitVec 32 := Scalar.muli c2_i32_456 arg1
  let c1_i32_457 : BitVec 32 := 1#32
  let v607 : BitVec 32 := Scalar.subi v606 c1_i32_457
  let c0_i32_458 : BitVec 32 := 0#32
  let v608 : BitVec 32 := Scalar.maxsi v607 c0_i32_458
  let v609 : BitVec 32 := Scalar.minsi v605 v608
  let c512_i32_459 : BitVec 32 := 512#32
  let v610 : BitVec 32 := Scalar.muli v609 c512_i32_459
  let v611 : BitVec 32 := v610
  let v612 : Index := Scalar.indexCast v611
  let c0_461 : Index := 0#32
  ![0, v612.toNat, 0]
def k0_off6 (i : grid0.Coords) (k0_t1 : Fin (k0_t1_loop i).trips) (c0_i32_454 : BitVec 32) : Fin 3 → Nat :=
  let c0_462 : Index := 0#32
  let c2_i32_453 : BitVec 32 := 2#32
  let c0_i32_419 : BitVec 32 := 0#32
  let c1_i32_421 : BitVec 32 := 1#32
  let arg12 : BitVec 32 := Scf.iv c0_i32_419 c1_i32_421 k0_t1
  let v603 : BitVec 32 := Scalar.muli c2_i32_453 arg12
  let v604 : BitVec 32 := Scalar.addi v603 c0_i32_454
  let c1_i32_455 : BitVec 32 := 1#32
  let v605 : BitVec 32 := Scalar.addi v604 c1_i32_455
  let c2_i32_456 : BitVec 32 := 2#32
  let arg1 : BitVec 32 := BitVec.ofNat 32 (i 1).val
  let v606 : BitVec 32 := Scalar.muli c2_i32_456 arg1
  let c1_i32_457 : BitVec 32 := 1#32
  let v607 : BitVec 32 := Scalar.subi v606 c1_i32_457
  let c0_i32_458 : BitVec 32 := 0#32
  let v608 : BitVec 32 := Scalar.maxsi v607 c0_i32_458
  let v609 : BitVec 32 := Scalar.minsi v605 v608
  let c512_i32_459 : BitVec 32 := 512#32
  let v610 : BitVec 32 := Scalar.muli v609 c512_i32_459
  let v611 : BitVec 32 := v610
  let v615 : Index := Scalar.indexCast v611
  let c0_463 : Index := 0#32
  ![0, v615.toNat, 0]
def k0_mult5 (i : grid0.Coords) (k0_t1 : Fin (k0_t1_loop i).trips) : BitVec 32 :=
  let c2_i32_453 : BitVec 32 := 2#32
  let c0_i32_419 : BitVec 32 := 0#32
  let c1_i32_421 : BitVec 32 := 1#32
  let arg12 : BitVec 32 := Scf.iv c0_i32_419 c1_i32_421 k0_t1
  let v603 : BitVec 32 := Scalar.muli c2_i32_453 arg12
  let c0_i32_454 : BitVec 32 := 0#32
  let v604 : BitVec 32 := Scalar.addi v603 c0_i32_454
  let c512_i32_474 : BitVec 32 := 512#32
  let v626 : BitVec 32 := Scalar.muli v604 c512_i32_474
  v626
def k0_off7 (i : grid0.Coords) (k0_t1 : Fin (k0_t1_loop i).trips) (c0_i32_454 : BitVec 32) : Fin 3 → Nat :=
  let c0_475 : Index := 0#32
  let c2_i32_453 : BitVec 32 := 2#32
  let c0_i32_419 : BitVec 32 := 0#32
  let c1_i32_421 : BitVec 32 := 1#32
  let arg12 : BitVec 32 := Scf.iv c0_i32_419 c1_i32_421 k0_t1
  let v603 : BitVec 32 := Scalar.muli c2_i32_453 arg12
  let v604 : BitVec 32 := Scalar.addi v603 c0_i32_454
  let c512_i32_474 : BitVec 32 := 512#32
  let v626 : BitVec 32 := Scalar.muli v604 c512_i32_474
  let v627 : BitVec 32 := v626
  let v628 : Index := Scalar.indexCast v627
  let c0_476 : Index := 0#32
  ![0, v628.toNat, 0]
def k0_off8 (i : grid0.Coords) (k0_t1 : Fin (k0_t1_loop i).trips) (c0_i32_454 : BitVec 32) : Fin 3 → Nat :=
  let c0_477 : Index := 0#32
  let c2_i32_453 : BitVec 32 := 2#32
  let c0_i32_419 : BitVec 32 := 0#32
  let c1_i32_421 : BitVec 32 := 1#32
  let arg12 : BitVec 32 := Scf.iv c0_i32_419 c1_i32_421 k0_t1
  let v603 : BitVec 32 := Scalar.muli c2_i32_453 arg12
  let v604 : BitVec 32 := Scalar.addi v603 c0_i32_454
  let c512_i32_474 : BitVec 32 := 512#32
  let v626 : BitVec 32 := Scalar.muli v604 c512_i32_474
  let v627 : BitVec 32 := v626
  let v631 : Index := Scalar.indexCast v627
  let c0_478 : Index := 0#32
  ![0, v631.toNat, 0]
def k0_mult6 (i : grid0.Coords) (k0_t1 : Fin (k0_t1_loop i).trips) : BitVec 32 :=
  let c2_i32_715 : BitVec 32 := 2#32
  let c0_i32_419 : BitVec 32 := 0#32
  let c1_i32_421 : BitVec 32 := 1#32
  let arg12 : BitVec 32 := Scf.iv c0_i32_419 c1_i32_421 k0_t1
  let v932 : BitVec 32 := Scalar.muli c2_i32_715 arg12
  let c1_i32_716 : BitVec 32 := 1#32
  let v933 : BitVec 32 := Scalar.addi v932 c1_i32_716
  let c1_i32_717 : BitVec 32 := 1#32
  let v934 : BitVec 32 := Scalar.addi v933 c1_i32_717
  let c2_i32_718 : BitVec 32 := 2#32
  let arg1 : BitVec 32 := BitVec.ofNat 32 (i 1).val
  let v935 : BitVec 32 := Scalar.muli c2_i32_718 arg1
  let c1_i32_719 : BitVec 32 := 1#32
  let v936 : BitVec 32 := Scalar.subi v935 c1_i32_719
  let c0_i32_720 : BitVec 32 := 0#32
  let v937 : BitVec 32 := Scalar.maxsi v936 c0_i32_720
  let v938 : BitVec 32 := Scalar.minsi v934 v937
  let c512_i32_721 : BitVec 32 := 512#32
  let v939 : BitVec 32 := Scalar.muli v938 c512_i32_721
  v939
def k0_mult7 (i : grid0.Coords) (k0_t1 : Fin (k0_t1_loop i).trips) : BitVec 32 :=
  let c2_i32_715 : BitVec 32 := 2#32
  let c0_i32_419 : BitVec 32 := 0#32
  let c1_i32_421 : BitVec 32 := 1#32
  let arg12 : BitVec 32 := Scf.iv c0_i32_419 c1_i32_421 k0_t1
  let v932 : BitVec 32 := Scalar.muli c2_i32_715 arg12
  let c1_i32_716 : BitVec 32 := 1#32
  let v933 : BitVec 32 := Scalar.addi v932 c1_i32_716
  let c512_i32_736 : BitVec 32 := 512#32
  let v955 : BitVec 32 := Scalar.muli v933 c512_i32_736
  v955
@[reducible] def k0_t2_loop (i : grid0.Coords) : Scf.Loop 32 :=
  let c0_i32_419 : BitVec 32 := 0#32
  let c1_i32_417 : BitVec 32 := 1#32
  let arg1 : BitVec 32 := BitVec.ofNat 32 (i 1).val
  let v561 : BitVec 32 := Scalar.muli c1_i32_417 arg1
  let v562 : BitVec 32 := Scalar.subi v561 c0_i32_419
  let c1_i32_420 : BitVec 32 := 1#32
  let v564 : BitVec 32 := Scalar.divsi v562 c1_i32_420
  let v565 : BitVec 32 := Scalar.muli v564 c1_i32_420
  let v566 : BitVec 32 := Scalar.addi c0_i32_419 v565
  let v563 : BitVec 32 := Scalar.addi c0_i32_419 v562
  let c1_i32_422 : BitVec 32 := 1#32
  ⟨v566, v563, c1_i32_422⟩
def k0_mult8 (i : grid0.Coords) (k0_t2 : Fin (k0_t2_loop i).trips) : BitVec 32 :=
  let c2_i32_453 : BitVec 32 := 2#32
  let c0_i32_419 : BitVec 32 := 0#32
  let c1_i32_417 : BitVec 32 := 1#32
  let arg1 : BitVec 32 := BitVec.ofNat 32 (i 1).val
  let v561 : BitVec 32 := Scalar.muli c1_i32_417 arg1
  let v562 : BitVec 32 := Scalar.subi v561 c0_i32_419
  let c1_i32_420 : BitVec 32 := 1#32
  let v564 : BitVec 32 := Scalar.divsi v562 c1_i32_420
  let v565 : BitVec 32 := Scalar.muli v564 c1_i32_420
  let v566 : BitVec 32 := Scalar.addi c0_i32_419 v565
  let c1_i32_422 : BitVec 32 := 1#32
  let arg12 : BitVec 32 := Scf.iv v566 c1_i32_422 k0_t2
  let v603 : BitVec 32 := Scalar.muli c2_i32_453 arg12
  let c0_i32_454 : BitVec 32 := 0#32
  let v604 : BitVec 32 := Scalar.addi v603 c0_i32_454
  let c1_i32_455 : BitVec 32 := 1#32
  let v605 : BitVec 32 := Scalar.addi v604 c1_i32_455
  let c2_i32_456 : BitVec 32 := 2#32
  let v606 : BitVec 32 := Scalar.muli c2_i32_456 arg1
  let c1_i32_457 : BitVec 32 := 1#32
  let v607 : BitVec 32 := Scalar.subi v606 c1_i32_457
  let c0_i32_458 : BitVec 32 := 0#32
  let v608 : BitVec 32 := Scalar.maxsi v607 c0_i32_458
  let v609 : BitVec 32 := Scalar.minsi v605 v608
  let c512_i32_459 : BitVec 32 := 512#32
  let v610 : BitVec 32 := Scalar.muli v609 c512_i32_459
  v610
def k0_off9 (i : grid0.Coords) (k0_t2 : Fin (k0_t2_loop i).trips) (c0_i32_454 : BitVec 32) : Fin 3 → Nat :=
  let c0_460 : Index := 0#32
  let c2_i32_453 : BitVec 32 := 2#32
  let c0_i32_419 : BitVec 32 := 0#32
  let c1_i32_417 : BitVec 32 := 1#32
  let arg1 : BitVec 32 := BitVec.ofNat 32 (i 1).val
  let v561 : BitVec 32 := Scalar.muli c1_i32_417 arg1
  let v562 : BitVec 32 := Scalar.subi v561 c0_i32_419
  let c1_i32_420 : BitVec 32 := 1#32
  let v564 : BitVec 32 := Scalar.divsi v562 c1_i32_420
  let v565 : BitVec 32 := Scalar.muli v564 c1_i32_420
  let v566 : BitVec 32 := Scalar.addi c0_i32_419 v565
  let c1_i32_422 : BitVec 32 := 1#32
  let arg12 : BitVec 32 := Scf.iv v566 c1_i32_422 k0_t2
  let v603 : BitVec 32 := Scalar.muli c2_i32_453 arg12
  let v604 : BitVec 32 := Scalar.addi v603 c0_i32_454
  let c1_i32_455 : BitVec 32 := 1#32
  let v605 : BitVec 32 := Scalar.addi v604 c1_i32_455
  let c2_i32_456 : BitVec 32 := 2#32
  let v606 : BitVec 32 := Scalar.muli c2_i32_456 arg1
  let c1_i32_457 : BitVec 32 := 1#32
  let v607 : BitVec 32 := Scalar.subi v606 c1_i32_457
  let c0_i32_458 : BitVec 32 := 0#32
  let v608 : BitVec 32 := Scalar.maxsi v607 c0_i32_458
  let v609 : BitVec 32 := Scalar.minsi v605 v608
  let c512_i32_459 : BitVec 32 := 512#32
  let v610 : BitVec 32 := Scalar.muli v609 c512_i32_459
  let v611 : BitVec 32 := v610
  let v612 : Index := Scalar.indexCast v611
  let c0_461 : Index := 0#32
  ![0, v612.toNat, 0]
def k0_off10 (i : grid0.Coords) (k0_t2 : Fin (k0_t2_loop i).trips) (c0_i32_454 : BitVec 32) : Fin 3 → Nat :=
  let c0_462 : Index := 0#32
  let c2_i32_453 : BitVec 32 := 2#32
  let c0_i32_419 : BitVec 32 := 0#32
  let c1_i32_417 : BitVec 32 := 1#32
  let arg1 : BitVec 32 := BitVec.ofNat 32 (i 1).val
  let v561 : BitVec 32 := Scalar.muli c1_i32_417 arg1
  let v562 : BitVec 32 := Scalar.subi v561 c0_i32_419
  let c1_i32_420 : BitVec 32 := 1#32
  let v564 : BitVec 32 := Scalar.divsi v562 c1_i32_420
  let v565 : BitVec 32 := Scalar.muli v564 c1_i32_420
  let v566 : BitVec 32 := Scalar.addi c0_i32_419 v565
  let c1_i32_422 : BitVec 32 := 1#32
  let arg12 : BitVec 32 := Scf.iv v566 c1_i32_422 k0_t2
  let v603 : BitVec 32 := Scalar.muli c2_i32_453 arg12
  let v604 : BitVec 32 := Scalar.addi v603 c0_i32_454
  let c1_i32_455 : BitVec 32 := 1#32
  let v605 : BitVec 32 := Scalar.addi v604 c1_i32_455
  let c2_i32_456 : BitVec 32 := 2#32
  let v606 : BitVec 32 := Scalar.muli c2_i32_456 arg1
  let c1_i32_457 : BitVec 32 := 1#32
  let v607 : BitVec 32 := Scalar.subi v606 c1_i32_457
  let c0_i32_458 : BitVec 32 := 0#32
  let v608 : BitVec 32 := Scalar.maxsi v607 c0_i32_458
  let v609 : BitVec 32 := Scalar.minsi v605 v608
  let c512_i32_459 : BitVec 32 := 512#32
  let v610 : BitVec 32 := Scalar.muli v609 c512_i32_459
  let v611 : BitVec 32 := v610
  let v615 : Index := Scalar.indexCast v611
  let c0_463 : Index := 0#32
  ![0, v615.toNat, 0]
def k0_mult9 (i : grid0.Coords) (k0_t2 : Fin (k0_t2_loop i).trips) : BitVec 32 :=
  let c2_i32_453 : BitVec 32 := 2#32
  let c0_i32_419 : BitVec 32 := 0#32
  let c1_i32_417 : BitVec 32 := 1#32
  let arg1 : BitVec 32 := BitVec.ofNat 32 (i 1).val
  let v561 : BitVec 32 := Scalar.muli c1_i32_417 arg1
  let v562 : BitVec 32 := Scalar.subi v561 c0_i32_419
  let c1_i32_420 : BitVec 32 := 1#32
  let v564 : BitVec 32 := Scalar.divsi v562 c1_i32_420
  let v565 : BitVec 32 := Scalar.muli v564 c1_i32_420
  let v566 : BitVec 32 := Scalar.addi c0_i32_419 v565
  let c1_i32_422 : BitVec 32 := 1#32
  let arg12 : BitVec 32 := Scf.iv v566 c1_i32_422 k0_t2
  let v603 : BitVec 32 := Scalar.muli c2_i32_453 arg12
  let c0_i32_454 : BitVec 32 := 0#32
  let v604 : BitVec 32 := Scalar.addi v603 c0_i32_454
  let c512_i32_474 : BitVec 32 := 512#32
  let v626 : BitVec 32 := Scalar.muli v604 c512_i32_474
  v626
def k0_off11 (i : grid0.Coords) (k0_t2 : Fin (k0_t2_loop i).trips) (c0_i32_454 : BitVec 32) : Fin 3 → Nat :=
  let c0_475 : Index := 0#32
  let c2_i32_453 : BitVec 32 := 2#32
  let c0_i32_419 : BitVec 32 := 0#32
  let c1_i32_417 : BitVec 32 := 1#32
  let arg1 : BitVec 32 := BitVec.ofNat 32 (i 1).val
  let v561 : BitVec 32 := Scalar.muli c1_i32_417 arg1
  let v562 : BitVec 32 := Scalar.subi v561 c0_i32_419
  let c1_i32_420 : BitVec 32 := 1#32
  let v564 : BitVec 32 := Scalar.divsi v562 c1_i32_420
  let v565 : BitVec 32 := Scalar.muli v564 c1_i32_420
  let v566 : BitVec 32 := Scalar.addi c0_i32_419 v565
  let c1_i32_422 : BitVec 32 := 1#32
  let arg12 : BitVec 32 := Scf.iv v566 c1_i32_422 k0_t2
  let v603 : BitVec 32 := Scalar.muli c2_i32_453 arg12
  let v604 : BitVec 32 := Scalar.addi v603 c0_i32_454
  let c512_i32_474 : BitVec 32 := 512#32
  let v626 : BitVec 32 := Scalar.muli v604 c512_i32_474
  let v627 : BitVec 32 := v626
  let v628 : Index := Scalar.indexCast v627
  let c0_476 : Index := 0#32
  ![0, v628.toNat, 0]
def k0_off12 (i : grid0.Coords) (k0_t2 : Fin (k0_t2_loop i).trips) (c0_i32_454 : BitVec 32) : Fin 3 → Nat :=
  let c0_477 : Index := 0#32
  let c2_i32_453 : BitVec 32 := 2#32
  let c0_i32_419 : BitVec 32 := 0#32
  let c1_i32_417 : BitVec 32 := 1#32
  let arg1 : BitVec 32 := BitVec.ofNat 32 (i 1).val
  let v561 : BitVec 32 := Scalar.muli c1_i32_417 arg1
  let v562 : BitVec 32 := Scalar.subi v561 c0_i32_419
  let c1_i32_420 : BitVec 32 := 1#32
  let v564 : BitVec 32 := Scalar.divsi v562 c1_i32_420
  let v565 : BitVec 32 := Scalar.muli v564 c1_i32_420
  let v566 : BitVec 32 := Scalar.addi c0_i32_419 v565
  let c1_i32_422 : BitVec 32 := 1#32
  let arg12 : BitVec 32 := Scf.iv v566 c1_i32_422 k0_t2
  let v603 : BitVec 32 := Scalar.muli c2_i32_453 arg12
  let v604 : BitVec 32 := Scalar.addi v603 c0_i32_454
  let c512_i32_474 : BitVec 32 := 512#32
  let v626 : BitVec 32 := Scalar.muli v604 c512_i32_474
  let v627 : BitVec 32 := v626
  let v631 : Index := Scalar.indexCast v627
  let c0_478 : Index := 0#32
  ![0, v631.toNat, 0]
def k0_mult10 (i : grid0.Coords) (k0_t2 : Fin (k0_t2_loop i).trips) : BitVec 32 :=
  let c2_i32_715 : BitVec 32 := 2#32
  let c0_i32_419 : BitVec 32 := 0#32
  let c1_i32_417 : BitVec 32 := 1#32
  let arg1 : BitVec 32 := BitVec.ofNat 32 (i 1).val
  let v561 : BitVec 32 := Scalar.muli c1_i32_417 arg1
  let v562 : BitVec 32 := Scalar.subi v561 c0_i32_419
  let c1_i32_420 : BitVec 32 := 1#32
  let v564 : BitVec 32 := Scalar.divsi v562 c1_i32_420
  let v565 : BitVec 32 := Scalar.muli v564 c1_i32_420
  let v566 : BitVec 32 := Scalar.addi c0_i32_419 v565
  let c1_i32_422 : BitVec 32 := 1#32
  let arg12 : BitVec 32 := Scf.iv v566 c1_i32_422 k0_t2
  let v932 : BitVec 32 := Scalar.muli c2_i32_715 arg12
  let c1_i32_716 : BitVec 32 := 1#32
  let v933 : BitVec 32 := Scalar.addi v932 c1_i32_716
  let c1_i32_717 : BitVec 32 := 1#32
  let v934 : BitVec 32 := Scalar.addi v933 c1_i32_717
  let c2_i32_718 : BitVec 32 := 2#32
  let v935 : BitVec 32 := Scalar.muli c2_i32_718 arg1
  let c1_i32_719 : BitVec 32 := 1#32
  let v936 : BitVec 32 := Scalar.subi v935 c1_i32_719
  let c0_i32_720 : BitVec 32 := 0#32
  let v937 : BitVec 32 := Scalar.maxsi v936 c0_i32_720
  let v938 : BitVec 32 := Scalar.minsi v934 v937
  let c512_i32_721 : BitVec 32 := 512#32
  let v939 : BitVec 32 := Scalar.muli v938 c512_i32_721
  v939
def k0_mult11 (i : grid0.Coords) (k0_t2 : Fin (k0_t2_loop i).trips) : BitVec 32 :=
  let c2_i32_715 : BitVec 32 := 2#32
  let c0_i32_419 : BitVec 32 := 0#32
  let c1_i32_417 : BitVec 32 := 1#32
  let arg1 : BitVec 32 := BitVec.ofNat 32 (i 1).val
  let v561 : BitVec 32 := Scalar.muli c1_i32_417 arg1
  let v562 : BitVec 32 := Scalar.subi v561 c0_i32_419
  let c1_i32_420 : BitVec 32 := 1#32
  let v564 : BitVec 32 := Scalar.divsi v562 c1_i32_420
  let v565 : BitVec 32 := Scalar.muli v564 c1_i32_420
  let v566 : BitVec 32 := Scalar.addi c0_i32_419 v565
  let c1_i32_422 : BitVec 32 := 1#32
  let arg12 : BitVec 32 := Scf.iv v566 c1_i32_422 k0_t2
  let v932 : BitVec 32 := Scalar.muli c2_i32_715 arg12
  let c1_i32_716 : BitVec 32 := 1#32
  let v933 : BitVec 32 := Scalar.addi v932 c1_i32_716
  let c512_i32_736 : BitVec 32 := 512#32
  let v955 : BitVec 32 := Scalar.muli v933 c512_i32_736
  v955
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FlashFwdIdeal.lean ====
variable {F : FTy → Type} [FloatOps F] [Named F]
def κ : String → Option EReal := fun
  | "mask" => some ⊥
  | _ => none
-- ==== FlashFwdRefIdeal.lean ====
abbrev S8x8192x192 : Shape := ⟨3, ![8, 8192, 192]⟩
abbrev S8x8192x128 : Shape := ⟨3, ![8, 8192, 128]⟩
abbrev S8x8192x8192 : Shape := ⟨3, ![8, 8192, 8192]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8192x8x128 : Shape := ⟨3, ![8192, 8, 128]⟩
abbrev S8192x1024 : Shape := ⟨2, ![8192, 1024]⟩
abbrev S8x16x1x512 : Shape := ⟨4, ![8, 16, 1, 512]⟩
abbrev S8x16x8x512 : Shape := ⟨4, ![8, 16, 8, 512]⟩

abbrev nBuf : Space → Nat
  | .hbm => 67
  | .vmem => 0
  | .smem => 0
  | _ => 0

abbrev bufTy : (tb : Table) → Fin (tcTables nBuf tb) → BufTy
  | .hbm, ⟨0, _⟩ => ⟨S8x8192x192, .bf16⟩
  | .hbm, ⟨1, _⟩ => ⟨S8x8192x192, .bf16⟩
  | .hbm, ⟨2, _⟩ => ⟨S8x8192x128, .bf16⟩
  | .hbm, ⟨3, _⟩ => ⟨S8x8192x192, .f32⟩
  | .hbm, ⟨4, _⟩ => ⟨S8x8192x192, .f32⟩
  | .hbm, ⟨5, _⟩ => ⟨S8x8192x128, .f32⟩
  | .hbm, ⟨6, _⟩ => ⟨S8x8192x8192, .f32⟩
  | .hbm, ⟨7, _⟩ => ⟨S8192, .i32⟩
  | .hbm, ⟨8, _⟩ => ⟨S_, .i32⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S1x8192, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S1x8192x8192, .i1⟩
  | .hbm, ⟨32, _⟩ => ⟨S_, .f32⟩
  | .hbm, ⟨33, _⟩ => ⟨S_, .f32⟩
  | .hbm, ⟨34, _⟩ => ⟨S8x8192x8192, .i1⟩
  | .hbm, ⟨35, _⟩ => ⟨S8x8192x8192, .f32⟩
  | .hbm, ⟨36, _⟩ => ⟨S8x8192x8192, .f32⟩
  | .hbm, ⟨37, _⟩ => ⟨S_, .f32⟩
  | .hbm, ⟨38, _⟩ => ⟨S8x8192, .f32⟩
  | .hbm, ⟨39, _⟩ => ⟨S_, .f32⟩
  | .hbm, ⟨40, _⟩ => ⟨S8x8192, .f32⟩
  | .hbm, ⟨41, _⟩ => ⟨S8x8192, .f32⟩
  | .hbm, ⟨42, _⟩ => ⟨S8x8192x1, .f32⟩
  | .hbm, ⟨43, _⟩ => ⟨S8x8192x8192, .f32⟩
  | .hbm, ⟨44, _⟩ => ⟨S8x8192x8192, .f32⟩
  | .hbm, ⟨45, _⟩ => ⟨S8x8192x8192, .f32⟩
  | .hbm, ⟨46, _⟩ => ⟨S_, .f32⟩
  | .hbm, ⟨47, _⟩ => ⟨S8x8192, .f32⟩
  | .hbm, ⟨48, _⟩ => ⟨S8x8192x1, .f32⟩
  | .hbm, ⟨49, _⟩ => ⟨S8x8192x8192, .f32⟩
  | .hbm, ⟨50, _⟩ => ⟨S8x8192x8192, .f32⟩
  | .hbm, ⟨51, _⟩ => ⟨S8x8192x128, .f32⟩
  | .hbm, ⟨52, _⟩ => ⟨S_, .f32⟩
  | .hbm, ⟨53, _⟩ => ⟨S8x8192, .f32⟩
  | .hbm, ⟨54, _⟩ => ⟨S8x8192x1, .f32⟩
  | .hbm, ⟨55, _⟩ => ⟨S8x8192x8192, .f32⟩
  | .hbm, ⟨56, _⟩ => ⟨S8x8192x8192, .f32⟩
  | .hbm, ⟨57, _⟩ => ⟨S8x8192x8192, .f32⟩
  | .hbm, ⟨58, _⟩ => ⟨S_, .f32⟩
  | .hbm, ⟨59, _⟩ => ⟨S8x8192, .f32⟩
  | .hbm, ⟨60, _⟩ => ⟨S8x8192, .f32⟩
  | .hbm, ⟨61, _⟩ => ⟨S8x8192, .f32⟩
  | .hbm, ⟨62, _⟩ => ⟨S8x8192x128, .bf16⟩
  | .hbm, ⟨63, _⟩ => ⟨S8192x8x128, .bf16⟩
  | .hbm, ⟨64, _⟩ => ⟨S8192x1024, .bf16⟩
  | .hbm, ⟨65, _⟩ => ⟨S8x16x1x512, .f32⟩
  | .hbm, ⟨66, _⟩ => ⟨S8x16x8x512, .f32⟩
  | _, _ => ⟨S8x8192x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v12 : Ref sig .tc := ⟨.hbm, 36, rfl⟩
abbrev main_cst_0 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_3 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_4 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩

abbrev nD : Nat := 1
abbrev τ : Topo := Topo.v7x

variable {F : FTy → Type} [FloatOps F]
-- ==== NormFwd.lean ====
abbrev S8192x1024 : Shape := ⟨2, ![8192, 1024]⟩
abbrev S1024 : Shape := ⟨1, ![1024]⟩
abbrev S_ : Shape := ⟨0, ![]⟩
abbrev S8x128 : Shape := ⟨2, ![8, 128]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S_, .f32⟩
  | .hbm, ⟨3, _⟩ => ⟨S8x128, .f32⟩
  | .hbm, ⟨4, _⟩ => ⟨S1x1024, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x128, .f32⟩
  | .local _ .vmem, ⟨4, _⟩ => ⟨S512x1024, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormFwdRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GluFwd.lean ====
abbrev S8192x1024 : Shape := ⟨2, ![8192, 1024]⟩
abbrev S1024x2048 : Shape := ⟨2, ![1024, 2048]⟩
abbrev S1024x1024 : Shape := ⟨2, ![1024, 1024]⟩
abbrev S512x1024 : Shape := ⟨2, ![512, 1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S1024x1024, .bf16⟩
  | .hbm, ⟨3, _⟩ => ⟨S1024x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GluFwdRefIdeal.lean ====
abbrev S8192x1024 : Shape := ⟨2, ![8192, 1024]⟩
abbrev S1024x2048 : Shape := ⟨2, ![1024, 2048]⟩
abbrev S8192x2048 : Shape := ⟨2, ![8192, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .bf16⟩
  | .hbm, ⟨17, _⟩ => ⟨S8192x1024, .bf16⟩
  | .hbm, ⟨18, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== FfnFwd.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x128 : Shape := ⟨2, ![8, 128]⟩
abbrev S1x1024 : Shape := ⟨2, ![1, 1024]⟩
abbrev S8192x2816 : Shape := ⟨2, ![8192, 2816]⟩
abbrev S256x1024 : Shape := ⟨2, ![256, 1024]⟩
abbrev S256x2816 : Shape := ⟨2, ![256, 2816]⟩
abbrev S3 : Shape := ⟨1, ![3]⟩
abbrev S1 : Shape := ⟨1, ![1]⟩
abbrev S256 : Shape := ⟨1, ![256]⟩
abbrev S256x1 : Shape := ⟨2, ![256, 1]⟩

abbrev nBuf : Space → Nat
  | .hbm => 14
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S2816x1024, .bf16⟩
  | .hbm, ⟨6, _⟩ => ⟨S2816x1024, .bf16⟩
  | .hbm, ⟨7, _⟩ => ⟨S_, .f32⟩
  | .hbm, ⟨8, _⟩ => ⟨S8x128, .f32⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S8192x2816, .bf16⟩
  | .hbm, ⟨13, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x128, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S2816x1024, .bf16⟩
  | .local _ .vmem, ⟨13, _⟩ => ⟨S2816x1024, .bf16⟩
  | .local _ .vmem, ⟨14, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnFwdRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x2816, .f32⟩
  | .hbm, ⟨25, _⟩ => ⟨S8192x2816, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S_, .f32⟩
  | .hbm, ⟨47, _⟩ => ⟨S8192x2816, .f32⟩
  | .hbm, ⟨48, _⟩ => ⟨S8192x2816, .f32⟩
  | .hbm, ⟨49, _⟩ => ⟨S_, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .bf16⟩
  | .hbm, ⟨60, _⟩ => ⟨S8192x2816, .bf16⟩
  | .hbm, ⟨61, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== PrepFwd.lean ====
abbrev S8192x832 : Shape := ⟨2, ![8192, 832]⟩
abbrev S512 : Shape := ⟨1, ![512]⟩
abbrev S256 : Shape := ⟨1, ![256]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x896 : Shape := ⟨2, ![8192, 896]⟩
abbrev S8192x64 : Shape := ⟨2, ![8192, 64]⟩
abbrev S8192x128 : Shape := ⟨2, ![8192, 128]⟩
abbrev S1x512 : Shape := ⟨2, ![1, 512]⟩
abbrev S1x256 : Shape := ⟨2, ![1, 256]⟩
abbrev S8192x512 : Shape := ⟨2, ![8192, 512]⟩
abbrev S8192x256 : Shape := ⟨2, ![8192, 256]⟩
abbrev S512x896 : Shape := ⟨2, ![512, 896]⟩
abbrev S512x128 : Shape := ⟨2, ![512, 128]⟩
abbrev S512x512 : Shape := ⟨2, ![512, 512]⟩
abbrev S512x256 : Shape := ⟨2, ![512, 256]⟩
abbrev S512x1 : Shape := ⟨2, ![512, 1]⟩

abbrev nBuf : Space → Nat
  | .hbm => 38
  | .vmem => 14
  | .smem => 0
  | _ => 0

abbrev bufTy : (tb : Table) → Fin (tcTables nBuf tb) → BufTy
  | .hbm, ⟨0, _⟩ => ⟨S8192x832, .f32⟩
  | .hbm, ⟨1, _⟩ => ⟨S512, .f32⟩
  | .hbm, ⟨2, _⟩ => ⟨S256, .f32⟩
  | .hbm, ⟨3, _⟩ => ⟨S8192, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S8192, .f32⟩
  | .hbm, ⟨15, _⟩ => ⟨S8192x1, .f32⟩
  | .hbm, ⟨16, _⟩ => ⟨S1x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S_, .i32⟩
  | .hbm, ⟨23, _⟩ => ⟨S_, .f32⟩
  | .hbm, ⟨24, _⟩ => ⟨S8192x896, .f32⟩
  | .hbm, ⟨25, _⟩ => ⟨S8192x64, .f32⟩
  | .hbm, ⟨26, _⟩ => ⟨S_, .i32⟩
  | .hbm, ⟨27, _⟩ => ⟨S_, .f32⟩
  | .hbm, ⟨28, _⟩ => ⟨S8192x128, .f32⟩
  | .hbm, ⟨29, _⟩ => ⟨S8192x64, .f32⟩
  | .hbm, ⟨30, _⟩ => ⟨S_, .i32⟩
  | .hbm, ⟨31, _⟩ => ⟨S_, .f32⟩
  | .hbm, ⟨32, _⟩ => ⟨S8192x128, .f32⟩
  | .hbm, ⟨33, _⟩ => ⟨S1x512, .f32⟩
  | .hbm, ⟨34, _⟩ => ⟨S1x256, .f32⟩
  | .hbm, ⟨35, _⟩ => ⟨S8192x512, .bf16⟩
  | .hbm, ⟨36, _⟩ => ⟨S8192x256, .bf16⟩
  | .hbm, ⟨37, _⟩ => ⟨S8192x128, .bf16⟩
  | .local _ .vmem, ⟨0, _⟩ => ⟨S512x896, .f32⟩
  | .local _ .vmem, ⟨1, _⟩ => ⟨S512x896, .f32⟩
  | .local _ .vmem, ⟨2, _⟩ => ⟨S1x512, .f32⟩
  | .local _ .vmem, ⟨3, _⟩ => ⟨S1x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .bf16⟩
  | .local _ .vmem, ⟨9, _⟩ => ⟨S512x512, .bf16⟩
  | .local _ .vmem, ⟨10, _⟩ => ⟨S512x256, .bf16⟩
  | .local _ .vmem, ⟨11, _⟩ => ⟨S512x256, .bf16⟩
  | .local _ .vmem, ⟨12, _⟩ => ⟨S512x128, .bf16⟩
  | .local _ .vmem, ⟨13, _⟩ => ⟨S512x128, .bf16⟩
  | _, _ => ⟨S8192x832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_call1_v0 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_call2_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22_0 : Ref sig .tc := ⟨.hbm, 35, rfl⟩
abbrev main_v22_1 : Ref sig .tc := ⟨.hbm, 36, rfl⟩
abbrev main_v22_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PrepFwdRefIdeal.lean ====
abbrev S8192x832 : Shape := ⟨2, ![8192, 832]⟩
abbrev S512 : Shape := ⟨1, ![512]⟩
abbrev S256 : Shape := ⟨1, ![256]⟩
abbrev S8192 : Shape := ⟨1, ![8192]⟩
abbrev S8192x512 : Shape := ⟨2, ![8192, 512]⟩
abbrev S_ : Shape := ⟨0, ![]⟩
abbrev S8192x1 : Shape := ⟨2, ![8192, 1]⟩
abbrev S1x512 : Shape := ⟨2, ![1, 512]⟩
abbrev S8192x256 : Shape := ⟨2, ![8192, 256]⟩
abbrev S1x256 : Shape := ⟨2, ![1, 256]⟩
abbrev S8192x64 : Shape := ⟨2, ![8192, 64]⟩
abbrev S32 : Shape := ⟨1, ![32]⟩
abbrev S1x32 : Shape := ⟨2, ![1, 32]⟩
abbrev S8192x32 : Shape := ⟨2, ![8192, 32]⟩
abbrev S8192x128 : Shape := ⟨2, ![8192, 128]⟩

abbrev nBuf : Space → Nat
  | .hbm => 72
  | .vmem => 0
  | .smem => 0
  | _ => 0

abbrev bufTy : (tb : Table) → Fin (tcTables nBuf tb) → BufTy
  | .hbm, ⟨0, _⟩ => ⟨S8192x832, .f32⟩
  | .hbm, ⟨1, _⟩ => ⟨S512, .f32⟩
  | .hbm, ⟨2, _⟩ => ⟨S256, .f32⟩
  | .hbm, ⟨3, _⟩ => ⟨S8192, .i32⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x512, .f32⟩
  | .hbm, ⟨17, _⟩ => ⟨S8192x512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S8192x256, .f32⟩
  | .hbm, ⟨22, _⟩ => ⟨S8192x256, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x256, .f32⟩
  | .hbm, ⟨34, _⟩ => ⟨S8192x256, .f32⟩
  | .hbm, ⟨35, _⟩ => ⟨S1x256, .f32⟩
  | .hbm, ⟨36, _⟩ => ⟨S8192x256, .f32⟩
  | .hbm, ⟨37, _⟩ => ⟨S8192x256, .f32⟩
  | .hbm, ⟨38, _⟩ => ⟨S8192x64, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S8192, .f32⟩
  | .hbm, ⟨50, _⟩ => ⟨S8192x1, .f32⟩
  | .hbm, ⟨51, _⟩ => ⟨S1x32, .f32⟩
  | .hbm, ⟨52, _⟩ => ⟨S8192x32, .f32⟩
  | .hbm, ⟨53, _⟩ => ⟨S8192x32, .f32⟩
  | .hbm, ⟨54, _⟩ => ⟨S8192x32, .f32⟩
  | .hbm, ⟨55, _⟩ => ⟨S8192x32, .f32⟩
  | .hbm, ⟨56, _⟩ => ⟨S8192x32, .f32⟩
  | .hbm, ⟨57, _⟩ => ⟨S8192x32, .f32⟩
  | .hbm, ⟨58, _⟩ => ⟨S8192x32, .f32⟩
  | .hbm, ⟨59, _⟩ => ⟨S8192x32, .f32⟩
  | .hbm, ⟨60, _⟩ => ⟨S8192x32, .f32⟩
  | .hbm, ⟨61, _⟩ => ⟨S8192x32, .f32⟩
  | .hbm, ⟨62, _⟩ => ⟨S8192x32, .f32⟩
  | .hbm, ⟨63, _⟩ => ⟨S8192x32, .f32⟩
  | .hbm, ⟨64, _⟩ => ⟨S8192x32, .f32⟩
  | .hbm, ⟨65, _⟩ => ⟨S8192x64, .f32⟩
  | .hbm, ⟨66, _⟩ => ⟨S_, .i32⟩
  | .hbm, ⟨67, _⟩ => ⟨S_, .f32⟩
  | .hbm, ⟨68, _⟩ => ⟨S8192x128, .f32⟩
  | .hbm, ⟨69, _⟩ => ⟨S8192x512, .bf16⟩
  | .hbm, ⟨70, _⟩ => ⟨S8192x256, .bf16⟩
  | .hbm, ⟨71, _⟩ => ⟨S8192x128, .bf16⟩
  | _, _ => ⟨S8192x832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_c : Ref sig .tc := ⟨.hbm, 66, rfl⟩
abbrev main_call0_v0 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩

abbrev nD : Nat := 1
abbrev τ : Topo := Topo.v7x

variable {F : FTy → Type} [FloatOps F]
-- ==== QkvFwd.lean ====
abbrev S8192x512 : Shape := ⟨2, ![8192, 512]⟩
abbrev S8192x256 : Shape := ⟨2, ![8192, 256]⟩
abbrev S8192x64 : Shape := ⟨2, ![8192, 64]⟩
abbrev S8192 : Shape := ⟨1, ![8192]⟩
abbrev S512x8x192 : Shape := ⟨3, ![512, 8, 192]⟩
abbrev S256x8x256 : Shape := ⟨3, ![256, 8, 256]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S512x8x256 : Shape := ⟨3, ![512, 8, 256]⟩
abbrev S512x2048 : Shape := ⟨2, ![512, 2048]⟩
abbrev S256x2048 : Shape := ⟨2, ![256, 2048]⟩
abbrev S8192x128 : Shape := ⟨2, ![8192, 128]⟩
abbrev S8x8192x256 : Shape := ⟨3, ![8, 8192, 256]⟩
abbrev S8x8192x128 : Shape := ⟨3, ![8, 8192, 128]⟩
abbrev S512x512 : Shape := ⟨2, ![512, 512]⟩
abbrev S512x256 : Shape := ⟨2, ![512, 256]⟩
abbrev S512x128 : Shape := ⟨2, ![512, 128]⟩
abbrev S8x512x256 : Shape := ⟨3, ![8, 512, 256]⟩
abbrev S8x512x128 : Shape := ⟨3, ![8, 512, 128]⟩
abbrev S1x512x128 : Shape := ⟨3, ![1, 512, 128]⟩

abbrev nBuf : Space → Nat
  | .hbm => 43
  | .vmem => 18
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x64, .bf16⟩
  | .hbm, ⟨3, _⟩ => ⟨S8192, .i32⟩
  | .hbm, ⟨4, _⟩ => ⟨S512x8x192, .bf16⟩
  | .hbm, ⟨5, _⟩ => ⟨S256x8x256, .bf16⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S8192, .f32⟩
  | .hbm, ⟨17, _⟩ => ⟨S8192x1, .f32⟩
  | .hbm, ⟨18, _⟩ => ⟨S1x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S_, .i32⟩
  | .hbm, ⟨25, _⟩ => ⟨S_, .bf16⟩
  | .hbm, ⟨26, _⟩ => ⟨S512x8x256, .bf16⟩
  | .hbm, ⟨27, _⟩ => ⟨S512x2048, .bf16⟩
  | .hbm, ⟨28, _⟩ => ⟨S256x2048, .bf16⟩
  | .hbm, ⟨29, _⟩ => ⟨S_, .i32⟩
  | .hbm, ⟨30, _⟩ => ⟨S_, .bf16⟩
  | .hbm, ⟨31, _⟩ => ⟨S8192x128, .bf16⟩
  | .hbm, ⟨32, _⟩ => ⟨S8192x64, .f32⟩
  | .hbm, ⟨33, _⟩ => ⟨S_, .i32⟩
  | .hbm, ⟨34, _⟩ => ⟨S_, .f32⟩
  | .hbm, ⟨35, _⟩ => ⟨S8192x128, .f32⟩
  | .hbm, ⟨36, _⟩ => ⟨S8192x64, .f32⟩
  | .hbm, ⟨37, _⟩ => ⟨S_, .i32⟩
  | .hbm, ⟨38, _⟩ => ⟨S_, .f32⟩
  | .hbm, ⟨39, _⟩ => ⟨S8192x128, .f32⟩
  | .hbm, ⟨40, _⟩ => ⟨S8x8192x256, .bf16⟩
  | .hbm, ⟨41, _⟩ => ⟨S8x8192x256, .bf16⟩
  | .hbm, ⟨42, _⟩ => ⟨S8x8192x128, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x2048, .bf16⟩
  | .local _ .vmem, ⟨11, _⟩ => ⟨S256x2048, .bf16⟩
  | .local _ .vmem, ⟨12, _⟩ => ⟨S8x512x256, .bf16⟩
  | .local _ .vmem, ⟨13, _⟩ => ⟨S8x512x256, .bf16⟩
  | .local _ .vmem, ⟨14, _⟩ => ⟨S8x512x256, .bf16⟩
  | .local _ .vmem, ⟨15, _⟩ => ⟨S8x512x256, .bf16⟩
  | .local _ .vmem, ⟨16, _⟩ => ⟨S8x512x128, .bf16⟩
  | .local _ .vmem, ⟨17, _⟩ => ⟨S8x512x128, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_call1_v0 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_call2_v0 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_call3_v0 : Ref sig .tc := ⟨.hbm, 38, rfl⟩
abbrev main_v22 : Ref sig .tc := ⟨.hbm, 39, rfl⟩
abbrev main_v23_0 : Ref sig .tc := ⟨.hbm, 40, rfl⟩
abbrev main_v23_1 : Ref sig .tc := ⟨.hbm, 41, rfl⟩
abbrev main_v23_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QkvFwdRefIdeal.lean ====
abbrev S8192x512 : Shape := ⟨2, ![8192, 512]⟩
abbrev S8192x256 : Shape := ⟨2, ![8192, 256]⟩
abbrev S8192x64 : Shape := ⟨2, ![8192, 64]⟩
abbrev S8192 : Shape := ⟨1, ![8192]⟩
abbrev S512x8x192 : Shape := ⟨3, ![512, 8, 192]⟩
abbrev S256x8x256 : Shape := ⟨3, ![256, 8, 256]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8x192x8192 : Shape := ⟨3, ![8, 192, 8192]⟩
abbrev S8x8192x192 : Shape := ⟨3, ![8, 8192, 192]⟩
abbrev S8x256x8192 : Shape := ⟨3, ![8, 256, 8192]⟩
abbrev S8x8192x256 : Shape := ⟨3, ![8, 8192, 256]⟩
abbrev S8x8192x128 : Shape := ⟨3, ![8, 8192, 128]⟩
abbrev S8x8192x64 : Shape := ⟨3, ![8, 8192, 64]⟩
abbrev S8x8192x32 : Shape := ⟨3, ![8, 8192, 32]⟩
abbrev S1x8192x32 : Shape := ⟨3, ![1, 8192, 32]⟩

abbrev nBuf : Space → Nat
  | .hbm => 69
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x64, .bf16⟩
  | .hbm, ⟨3, _⟩ => ⟨S8192, .i32⟩
  | .hbm, ⟨4, _⟩ => ⟨S512x8x192, .bf16⟩
  | .hbm, ⟨5, _⟩ => ⟨S256x8x256, .bf16⟩
  | .hbm, ⟨6, _⟩ => ⟨S8192x512, .f32⟩
  | .hbm, ⟨7, _⟩ => ⟨S8192x256, .f32⟩
  | .hbm, ⟨8, _⟩ => ⟨S8192x64, .f32⟩
  | .hbm, ⟨9, _⟩ => ⟨S512x8x192, .f32⟩
  | .hbm, ⟨10, _⟩ => ⟨S256x8x256, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S8192, .f32⟩
  | .hbm, ⟨22, _⟩ => ⟨S8192x1, .f32⟩
  | .hbm, ⟨23, _⟩ => ⟨S1x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8x192x8192, .f32⟩
  | .hbm, ⟨30, _⟩ => ⟨S8x8192x192, .f32⟩
  | .hbm, ⟨31, _⟩ => ⟨S8x256x8192, .f32⟩
  | .hbm, ⟨32, _⟩ => ⟨S8x8192x256, .f32⟩
  | .hbm, ⟨33, _⟩ => ⟨S8x8192x128, .f32⟩
  | .hbm, ⟨34, _⟩ => ⟨S8x8192x64, .f32⟩
  | .hbm, ⟨35, _⟩ => ⟨S8x8192x32, .f32⟩
  | .hbm, ⟨36, _⟩ => ⟨S8x8192x32, .f32⟩
  | .hbm, ⟨37, _⟩ => ⟨S1x8192x32, .f32⟩
  | .hbm, ⟨38, _⟩ => ⟨S8x8192x32, .f32⟩
  | .hbm, ⟨39, _⟩ => ⟨S8x8192x32, .f32⟩
  | .hbm, ⟨40, _⟩ => ⟨S1x8192x32, .f32⟩
  | .hbm, ⟨41, _⟩ => ⟨S8x8192x32, .f32⟩
  | .hbm, ⟨42, _⟩ => ⟨S8x8192x32, .f32⟩
  | .hbm, ⟨43, _⟩ => ⟨S8x8192x32, .f32⟩
  | .hbm, ⟨44, _⟩ => ⟨S1x8192x32, .f32⟩
  | .hbm, ⟨45, _⟩ => ⟨S8x8192x32, .f32⟩
  | .hbm, ⟨46, _⟩ => ⟨S8x8192x32, .f32⟩
  | .hbm, ⟨47, _⟩ => ⟨S1x8192x32, .f32⟩
  | .hbm, ⟨48, _⟩ => ⟨S8x8192x32, .f32⟩
  | .hbm, ⟨49, _⟩ => ⟨S8x8192x32, .f32⟩
  | .hbm, ⟨50, _⟩ => ⟨S8x8192x32, .f32⟩
  | .hbm, ⟨51, _⟩ => ⟨S8x8192x64, .f32⟩
  | .hbm, ⟨52, _⟩ => ⟨S8x8192x192, .f32⟩
  | .hbm, ⟨53, _⟩ => ⟨S_, .f32⟩
  | .hbm, ⟨54, _⟩ => ⟨S8x8192x192, .f32⟩
  | .hbm, ⟨55, _⟩ => ⟨S8x8192x192, .f32⟩
  | .hbm, ⟨56, _⟩ => ⟨S8x8192x128, .f32⟩
  | .hbm, ⟨57, _⟩ => ⟨S8x8192x64, .f32⟩
  | .hbm, ⟨58, _⟩ => ⟨S8x8192x192, .f32⟩
  | .hbm, ⟨59, _⟩ => ⟨S_, .i32⟩
  | .hbm, ⟨60, _⟩ => ⟨S_, .f32⟩
  | .hbm, ⟨61, _⟩ => ⟨S8x8192x256, .f32⟩
  | .hbm, ⟨62, _⟩ => ⟨S_, .i32⟩
  | .hbm, ⟨63, _⟩ => ⟨S_, .f32⟩
  | .hbm, ⟨64, _⟩ => ⟨S8x8192x256, .f32⟩
  | .hbm, ⟨65, _⟩ => ⟨S8x8192x128, .f32⟩
  | .hbm, ⟨66, _⟩ => ⟨S8x8192x256, .bf16⟩
  | .hbm, ⟨67, _⟩ => ⟨S8x8192x256, .bf16⟩
  | .hbm, ⟨68, _⟩ => ⟨S8x8192x128, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_2 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_c : Ref sig .tc := ⟨.hbm, 59, rfl⟩
abbrev main_call0_v0 : Ref sig .tc := ⟨.hbm, 60, rfl⟩
abbrev main_v49 : Ref sig .tc := ⟨.hbm, 61, rfl⟩
abbrev main_c_3 : Ref sig .tc := ⟨.hbm, 62, rfl⟩
abbrev main_call1_v0 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== Product.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProductRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== WeightGrad.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 1, 4], ![false, false, false, false]⟩

def k0_cond2 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== WeightGradRefIdeal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S2816x8192, .f32⟩
  | .hbm, ⟨4, _⟩ => ⟨S8192x1024, .f32⟩
  | .hbm, ⟨5, _⟩ => ⟨S2816x1024, .f32⟩
  | .hbm, ⟨6, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SumDevices.lean ====
abbrev S8x112x1024 : Shape := ⟨3, ![8, 112, 1024]⟩
abbrev S112x1024 : Shape := ⟨2, ![112, 1024]⟩
abbrev S1x112x1024 : Shape := ⟨3, ![1, 112, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x112x1024, .f32⟩
  | .hbm, ⟨1, _⟩ => ⟨S112x1024, .f32⟩
  | .local _ .vmem, ⟨0, _⟩ => ⟨S8x112x1024, .f32⟩
  | .local _ .vmem, ⟨1, _⟩ => ⟨S112x1024, .f32⟩
  | _, _ => ⟨S8x112x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x112x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S112x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SumDevicesRefIdeal.lean ====
abbrev S8x112x1024 : Shape := ⟨3, ![8, 112, 1024]⟩
abbrev S_ : Shape := ⟨0, ![]⟩
abbrev S112x1024 : Shape := ⟨2, ![112, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x112x1024, .f32⟩
  | .hbm, ⟨1, _⟩ => ⟨S_, .f32⟩
  | .hbm, ⟨2, _⟩ => ⟨S112x1024, .f32⟩
  | _, _ => ⟨S8x112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumSlots.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .bf16⟩
  | .local _ .vmem, ⟨0, _⟩ => ⟨S4x256x1024, .bf16⟩
  | .local _ .vmem, ⟨1, _⟩ => ⟨S256x1024, .bf16⟩
  | _, _ => ⟨S4x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSlotsRefIdeal.lean ====
abbrev S4x256x1024 : Shape := ⟨3, ![4, 256, 1024]⟩
abbrev S_ : Shape := ⟨0, ![]⟩
abbrev S256x1024 : Shape := ⟨2, ![256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .f32⟩
  | .hbm, ⟨2, _⟩ => ⟨S_, .f32⟩
  | .hbm, ⟨3, _⟩ => ⟨S256x1024, .f32⟩
  | .hbm, ⟨4, _⟩ => ⟨S256x1024, .bf16⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Adamw.lean ====
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .bf16⟩
  | .hbm, ⟨4, _⟩ => ⟨S256x1024, .bf16⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .bf16⟩
  | .local _ .vmem, ⟨4, _⟩ => ⟨S256x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamwRefIdeal.lean ====
abbrev S256x1024 : Shape := ⟨2, ![256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .bf16⟩
  | .hbm, ⟨4, _⟩ => ⟨S256x1024, .bf16⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.Lift.lean ====
/- Finite extended reals as real numbers: a value computed from finite inputs by sums, products, quotients by a
   nonzero number, reciprocal square roots of positive numbers and exponentials is the image of the same real expression. -/
module

public import Idealize.ShloMosaic.Lib.Pointwise
public import Idealize.ShloMosaic.PureOps.Ideal.Laws

@[expose] public section

noncomputable section

namespace Cert.Lift

open Idealize.ShloMosaic

/-- A sum of finite values is the image of the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_add (a b : ℝ) : (a : EReal) + (b : EReal) = ((a + b : ℝ) : EReal) := (EReal.coe_add a b).symm
theorem coe_sub (a b : ℝ) : (a : EReal) - (b : EReal) = ((a - b : ℝ) : EReal) := (EReal.coe_sub a b).symm
theorem coe_mul (a b : ℝ) : (a : EReal) * (b : EReal) = ((a * b : ℝ) : EReal) := (EReal.coe_mul a b).symm
theorem coe_neg (a : ℝ) : -(a : EReal) = ((-a : ℝ) : EReal) := (EReal.coe_neg a).symm

theorem coe_div (a : ℝ) {b : ℝ} (h : b ≠ 0) : Ideal.div (a : EReal) (b : EReal) = ((a / b : ℝ) : EReal) := by
  rw [Ideal.div_coe h, ← EReal.coe_mul, mul_one_div]

theorem coe_rsqrt {a : ℝ} (h : 0 < a) : Ideal.rsqrt (a : EReal) = (((Real.sqrt a)⁻¹ : ℝ) : EReal) := by
  rw [Ideal.rsqrt_coe, if_neg (not_lt.mpr h.le), if_neg h.ne']

theorem coe_exp (a : ℝ) : Ideal.exp (a : EReal) = ((Real.exp a : ℝ) : EReal) := rfl

theorem coe_logistic (a : ℝ) : Ideal.logistic (a : EReal) = (((1 + Real.exp (-a))⁻¹ : ℝ) : EReal) := Ideal.logistic_coe a

/-- The word of `1024`. -/
theorem w1024 : Ideal.ofBits .f32 0x44800000#32 = ((1024 : ℝ) : EReal) := by
  simp [Ideal.ofBits, Ideal.ieee, -EReal.coe_mul]; norm_num
theorem whalf : Ideal.ofBits .f32 0x3F000000#32 = ((1 / 2 : ℝ) : EReal) := by
  simp [Ideal.ofBits, Ideal.ieee, -EReal.coe_mul]; norm_num
theorem wneghalf : Ideal.ofBits .f32 0xBF000000#32 = ((-(1 / 2) : ℝ) : EReal) := by
  simp [Ideal.ofBits, Ideal.ieee, -EReal.coe_mul]; norm_num
theorem wtwo : Ideal.ofBits .f32 0x40000000#32 = ((2 : ℝ) : EReal) := by
  simp [Ideal.ofBits, Ideal.ieee, -EReal.coe_mul]; norm_num
/-- The word that the small number added under the square root rounds to. -/
theorem weps : Ideal.ofBits .f32 0x358637BD#32 = ((8796093 / 8796093022208 : ℝ) : EReal) := by
  simp [Ideal.ofBits, Ideal.ieee, -EReal.coe_mul]; norm_num
theorem w1024inv : Ideal.ofBits .f32 0x3A800000#32 = ((1 / 1024 : ℝ) : EReal) := by
  simp [Ideal.ofBits, Ideal.ieee, -EReal.coe_mul]; norm_num
theorem w2048inv : Ideal.ofBits .f32 0x3A000000#32 = ((1 / 2048 : ℝ) : EReal) := by
  simp [Ideal.ofBits, Ideal.ieee, -EReal.coe_mul]; norm_num
theorem wone : Ideal.ofBits .f32 0x3F800000#32 = ((1 : ℝ) : EReal) := by
  rw [Ideal.ofBits_one_f32]; rfl
theorem wzero : Ideal.ofBits .f32 0x00000000#32 = ((0 : ℝ) : EReal) := by
  rw [Ideal.ofBits_zero_f32]; rfl
theorem winf : Ideal.ofBits .f32 0x7F800000#32 = ⊤ := by
  simp [Ideal.ofBits, Ideal.ieee]

/-- The small number under the square root: `1e-6` rounded to a 32-bit float. -/
def eps : ℝ := 8796093 / 8796093022208

theorem eps_pos : 0 < eps := by unfold eps; norm_num

theorem weps' : Ideal.ofBits .f32 0x358637BD#32 = ((eps : ℝ) : EReal) := weps

/-- A mean of squares plus the small number is positive. -/
theorem ms_pos {d : ℕ} (x : Fin d → ℝ) {c : ℝ} (hc : 0 < c) : 0 < (∑ k, x k * x k) / c + eps :=
  add_pos_of_nonneg_of_pos (div_nonneg (Finset.sum_nonneg fun _ _ => mul_self_nonneg _) hc.le) eps_pos

/-- Read in a precondition, "the absolute value is less than infinity" says that the number is finite. -/
theorem fin_of_lt {a : EReal} (h : Ideal.cmp .olt (max a (-a)) ⊤ = 1#1) : ∃ r : ℝ, a = (r : EReal) := by
  induction a with
  | bot => simp [Ideal.cmp] at h
  | top => simp [Ideal.cmp] at h
  | coe r => exact ⟨r, rfl⟩

/-- An array whose mask "the absolute value is less than infinity" is all ones is an array of reals. -/
theorem fin_of_mask {s : Shape} {φ : FTy} (x b : FVec Ideal s φ) (hb : ∀ i, b i = (⊤ : EReal))
    (h : cmpf .olt (Host.absf x) b = fun _ => 1#1) : ∃ X : s.Idx → ℝ, x = fun i => ((X i : ℝ) : EReal) := by
  have : ∀ i, ∃ r : ℝ, x i = (r : EReal) := fun i => fin_of_lt (by
    have := congrFun h i
    rw [← hb i]
    exact this)
  choose X hX using this
  exact ⟨X, funext hX⟩

end Cert.Lift

end
-- ==== Proof.NormReal.lean ====
/- Root mean square normalization and its gradient over the real numbers, for one row. -/
module

public import proofs.«01_k».proof.Proof.Lift

@[expose] public section

noncomputable section

namespace Cert.NormReal

open Cert.Lift

variable {d : ℕ}

/-- The number a row is scaled by: one over the root of the mean of its squares (over `c` of them) plus `eps`. -/
def rstd (c : ℝ) (x : Fin d → ℝ) : ℝ := (Real.sqrt ((∑ k, x k * x k) / c + eps))⁻¹

/-- The normalized row. -/
def nrm (c : ℝ) (x : Fin d → ℝ) (j : Fin d) : ℝ := x j * rstd c x

/-- The gradient by the row, `u` the gradient by the normalized row. -/
def dnrm (c : ℝ) (x u : Fin d → ℝ) (j : Fin d) : ℝ := rstd c x * (u j - nrm c x j * ((∑ k, u k * nrm c x k) / c))

/-- The reciprocal square root over its square is its cube. -/
theorem rstd_div {c : ℝ} (hc : 0 < c) (x : Fin d → ℝ) :
    rstd c x / ((∑ k, x k * x k) / c + eps) = rstd c x * rstd c x * rstd c x := by
  have hv := ms_pos x hc
  have hs := Real.mul_self_sqrt hv.le
  have hp := Real.sqrt_pos.mpr hv
  unfold rstd
  generalize Real.sqrt ((∑ k, x k * x k) / c + eps) = s at hs hp
  rw [← hs]
  field_simp

/-- The three terms that the chain rule adds up are the gradient written at once. -/
theorem dnrm_chain {c : ℝ} (hc : 0 < c) (x u : Fin d → ℝ) (j : Fin d) :
    u j * rstd c x + x j * ((∑ k, x k * u k) * (-(1 / 2) * (rstd c x / ((∑ k, x k * x k) / c + eps))) / c)
        + (∑ k, x k * u k) * (-(1 / 2) * (rstd c x / ((∑ k, x k * x k) / c + eps))) / c * x j
      = dnrm c x u j := by
  have h : ∑ k, u k * nrm c x k = rstd c x * ∑ k, x k * u k := by
    rw [Finset.mul_sum]
    exact Finset.sum_congr rfl fun k _ => by unfold nrm; ring
  rw [rstd_div hc, dnrm, h, nrm]
  ring

end Cert.NormReal

end
-- ==== Proof.LossRead.lean ====
/- The loss kernel: the arrays it leaves, as real numbers. -/
module

public import proofs.«01_k».proof.Proof.NormReal
public import proofs.«01_k».proof.Proof.Gen.LossIdeal.Value
public import Idealize.ShloMosaic.Lib.Pipeline.ValueKit

@[expose] public section

set_option maxRecDepth 16384

noncomputable section

namespace Cert.LossIdeal.Read

open Cert.LossIdeal Cert.LossIdeal.Gen Idealize.ShloMosaic Idealize.ShloMosaic.TcCoe Idealize.SL.Sem Cert.Lift Cert.NormReal
open Idealize.ShloMosaic.Pipeline (Dat)

/-- The error of one row at one column. -/
def err (x t g : Fin 1024 → ℝ) (j : Fin 1024) : ℝ := nrm 1024 x j * g j - t j

section Payloads
variable (X T : S512x1024.Idx → ℝ) (G : S1x1024.Idx → ℝ)

theorem dh_apply (a : Fin 512) (b : Fin 1024) :
    k0_pay2 (F := Ideal) (k0_pay5 fun i => ((X i : ℝ) : EReal)) (k0_pay6 fun i => ((X i : ℝ) : EReal))
        (k0_pay9 (fun i => ((X i : ℝ) : EReal)) (fun i => ((G i : ℝ) : EReal)) (fun i => ((T i : ℝ) : EReal)))
        (fun i => ((G i : ℝ) : EReal)) (ix2 a b)
      = ((dnrm 1024 (fun k => X (ix2 a k))
          (fun k => err (fun k => X (ix2 a k)) (fun k => T (ix2 a k)) (fun k => G (ix2 0 k)) k * (1 / 1024) * G (ix2 0 k)) b : ℝ) : EReal) := by
  unfold_payloads
  pointwise
  simp (disch := first | positivity | exact ms_pos _ (by norm_num)) only
    [w1024, w1024inv, weps', wzero, coe_add, coe_sub, coe_mul, coe_div, coe_rsqrt, coe_sum]
  rfl

theorem dg_apply (Y : S8x1024.Idx → EReal) (a : Fin 8) (b : Fin 1024) :
    k0_pay1 (F := Ideal) (k0_pay6 fun i => ((X i : ℝ) : EReal))
        (k0_pay9 (fun i => ((X i : ℝ) : EReal)) (fun i => ((G i : ℝ) : EReal)) (fun i => ((T i : ℝ) : EReal))) Y (ix2 a b)
      = Y (ix2 a b) + ((∑ r : Fin 512, err (fun k => X (ix2 r k)) (fun k => T (ix2 r k)) (fun k => G (ix2 0 k)) b * (1 / 1024)
          * nrm 1024 (fun k => X (ix2 r k)) b : ℝ) : EReal) := by
  unfold_payloads
  pointwise
  simp (disch := first | positivity | exact ms_pos _ (by norm_num)) only
    [w1024, w1024inv, weps', wzero, coe_add, coe_sub, coe_mul, coe_div, coe_rsqrt, coe_sum]
  rfl

theorem loss_apply (Y : S8x128.Idx → EReal) (a : Fin 8) (b : Fin 128) :
    k0_pay8 (F := Ideal) (fun i => ((X i : ℝ) : EReal)) (fun i => ((G i : ℝ) : EReal)) (fun i => ((T i : ℝ) : EReal)) Y (ix2 a b)
      = Y (ix2 a b) + ((∑ r : Fin 512, (∑ k, err (fun k => X (ix2 r k)) (fun k => T (ix2 r k)) (fun k => G (ix2 0 k)) k
          * err (fun k => X (ix2 r k)) (fun k => T (ix2 r k)) (fun k => G (ix2 0 k)) k) * (1 / 2048) : ℝ) : EReal) := by
  unfold_payloads
  pointwise
  simp (disch := first | positivity | exact ms_pos _ (by norm_num)) only
    [w1024, w2048inv, weps', wzero, coe_add, coe_sub, coe_mul, coe_div, coe_rsqrt, coe_sum]
  rfl

end Payloads

variable (m : (ℓ : Loc nD τ sig) → Buf (Elt Ideal) ℓ)

theorem idx : ∀ t : Fin grid0.N, win0_0.index t = ![t.val, 0] ∧ win0_1.index t = ![t.val, 0] ∧ win0_2.index t = ![0, 0]
    ∧ win0_3.index t = ![t.val, 0] ∧ win0_4.index t = ![0, 0] ∧ win0_5.index t = ![0, 0] := by decide +kernel

/-- Row `a` of point `t`'s block. -/
def row (t : Fin cfg0.N) (a : Fin 512) : Fin 8192 := ⟨t.val * 512 + a.val, by have : t.val < 16 := t.isLt; omega⟩

theorem blk0 (c : Dev nD) (t : Fin cfg0.N) (X : S8192x1024.Idx → ℝ)
    (hx : m ((c : Thread nD τ).loc main_arg0) = fun i => ((X i : ℝ) : EReal)) :
    iblk m c 0 t = fun y => ((X (ix2 (row t (y 0)) (y 1)) : ℝ) : EReal) := by
  have h : iblk m c 0 t = fun y => m ((c : Thread nD τ).loc main_arg0) (ix2 (row t (y 0)) (y 1)) := by
    funext y
    blk_ext [iblk, V, idx t, row]
  rw [h, hx]

theorem blk1 (c : Dev nD) (t : Fin cfg0.N) (X : S8192x1024.Idx → ℝ)
    (hx : m ((c : Thread nD τ).loc main_arg1) = fun i => ((X i : ℝ) : EReal)) :
    iblk m c 1 t = fun y => ((X (ix2 (row t (y 0)) (y 1)) : ℝ) : EReal) := by
  have h : iblk m c 1 t = fun y => m ((c : Thread nD τ).loc main_arg1) (ix2 (row t (y 0)) (y 1)) := by
    funext y
    blk_ext [iblk, V, idx t, row]
  rw [h, hx]

theorem blk2 (c : Dev nD) (t : Fin cfg0.N) (X : S1024.Idx → ℝ)
    (hx : m ((c : Thread nD τ).loc main_arg2) = fun i => ((X i : ℝ) : EReal)) :
    iblk m c 2 t = fun y => ((X (ix1 (y 1)) : ℝ) : EReal) := by
  have h : iblk m c 2 t = fun y => m ((c : Thread nD τ).loc main_arg2) (ix1 (y 1)) := by
    funext y
    blk_ext! [iblk, V, idx t, row]
  rw [h, hx]

section Arrays
variable (X T : S8192x1024.Idx → ℝ) (G : S1024.Idx → ℝ)

/-- The error of row `r`. -/
def errAt (r : Fin 8192) : Fin 1024 → ℝ := err (fun k => X (ix2 r k)) (fun k => T (ix2 r k)) (fun k => G (ix1 k))

/-- The gradient by the input. -/
def dhAt (r : Fin 8192) (b : Fin 1024) : ℝ :=
  dnrm 1024 (fun k => X (ix2 r k)) (fun k => errAt X T G r k * (1 / 1024) * G (ix1 k)) b

/-- The gradient by the gain. -/
def dgAt (b : Fin 1024) : ℝ := ∑ r : Fin 8192, errAt X T G r b * (1 / 1024) * nrm 1024 (fun k => X (ix2 r k)) b

/-- The loss. -/
def lossAt : ℝ := ∑ r : Fin 8192, (∑ k, errAt X T G r k * errAt X T G r k) * (1 / 2048)

variable {X T G} {c : Dev nD} (hx : m ((c : Thread nD τ).loc main_arg0) = fun i => ((X i : ℝ) : EReal))
  (ht : m ((c : Thread nD τ).loc main_arg1) = fun i => ((T i : ℝ) : EReal))
  (hg : m ((c : Thread nD τ).loc main_arg2) = fun i => ((G i : ℝ) : EReal))
include hx ht hg

theorem arr3 : (dats m 0 c).arrAt 3 cfg0.N = fun i : S8192x1024.Idx => ((dhAt X T G (i 0) (i 1) : ℝ) : EReal) := by
  refine (dats m 0 c).arrAt_eq_of_covers 3 _ (by decide +kernel) fun t hf y => ?_
  blk_simp
  rw [after0_3]
  have key : ∀ (y : S512x1024.Idx), k0_pay2 (F := Ideal) (k0_pay5 (iblk m c 0 t)) (k0_pay6 (iblk m c 0 t))
      (k0_pay9 (iblk m c 0 t) (iblk m c 2 t) (iblk m c 1 t)) (iblk m c 2 t) y
      = ((dhAt X T G (row t (y 0)) (y 1) : ℝ) : EReal) := by
    intro y
    rw [blk0 m c t X hx, blk1 m c t T ht, blk2 m c t G hg]
    idx_vars y
    exact dh_apply _ _ _ _ _
  have hi : ∀ y : S512x1024.Idx, (((View.whole main_v1_0).slice (win0_3.rect t)).emb y) = ix2 (row t (y 0)) (y 1) := by
    intro y
    blk_ext [idx t, row]
  by_cases h0 : t.val % 16 = 0
  · rw [outsAt0_A m c t h0]
    frame_out
    exact (key y).trans (by rw [hi]; rfl)
  · rw [outsAt0_B m c t h0]
    frame_out
    exact (key y).trans (by rw [hi]; rfl)

theorem arr4 : (dats m 0 c).arrAt 4 cfg0.N = fun i : S8x1024.Idx => ((dgAt X T G (i 1) : ℝ) : EReal) := by
  refine (dats m 0 c).arrAt_eq_of_covers 4 _ (by decide +kernel) fun t hf y => ?_
  blk_simp
  rw [after0_4]
  have key : ∀ (t : Fin cfg0.N) (Y : S8x1024.Idx → EReal) (y : S8x1024.Idx), k0_pay1 (F := Ideal) (k0_pay6 (iblk m c 0 t))
      (k0_pay9 (iblk m c 0 t) (iblk m c 2 t) (iblk m c 1 t)) Y y
      = Y y + ((∑ r : Fin 512, errAt X T G (row t r) (y 1) * (1 / 1024) * nrm 1024 (fun k => X (ix2 (row t r) k)) (y 1) : ℝ) : EReal) := by
    intro t Y y
    rw [blk0 m c t X hx, blk1 m c t T ht, blk2 m c t G hg]
    idx_vars y
    exact dg_apply _ _ _ _ _ _
  have hi : ∀ y : S8x1024.Idx, (((View.whole main_v1_1).slice (win0_4.rect t)).emb y) = y := by
    intro y
    blk_ext [idx t]
  have hN : t.val + 1 = cfg0.N := by
    have := (flush0_4 t).mp hf
    have h2 : t.val < 16 := t.isLt
    show t.val + 1 = 16
    omega
  rw [hi]
  refine (Pipeline.eq_sum_fin_of_reset_step_apply_last (fun n h => (outsAt0 m c n h).2.1) 16 (fun _ => (0 : EReal))
    (fun t y => ((∑ r : Fin 512, errAt X T G (row t r) (y 1) * (1 / 1024) * nrm 1024 (fun k => X (ix2 (row t r) k)) (y 1) : ℝ) : EReal))
    (fun t h0 y => ?_) (fun t h0 y => ?_) (by decide) t hN y).trans ?_
  · rw [outsAt0_A m c t h0]
    frame_out
    refine (key t _ y).trans ?_
    congr 1
    pointwise [k0_pay3]
  · rw [outsAt0_B m c t h0]
    frame_out
    exact key t _ y
  · rw [zero_add, coe_sum]
    congr 1
    exact Fin.sum_mul_add_congr (fun s k hl => rfl)

theorem arr5 : (dats m 0 c).arrAt 5 cfg0.N = fun i : S8x128.Idx => ((lossAt X T G : ℝ) : EReal) := by
  refine (dats m 0 c).arrAt_eq_of_covers 5 _ (by decide +kernel) fun t hf y => ?_
  blk_simp
  rw [after0_5]
  have key : ∀ (t : Fin cfg0.N) (Y : S8x128.Idx → EReal) (y : S8x128.Idx), k0_pay8 (F := Ideal) (iblk m c 0 t) (iblk m c 2 t) (iblk m c 1 t) Y y
      = Y y + ((∑ r : Fin 512, (∑ k, errAt X T G (row t r) k * errAt X T G (row t r) k) * (1 / 2048) : ℝ) : EReal) := by
    intro t Y y
    rw [blk0 m c t X hx, blk1 m c t T ht, blk2 m c t G hg]
    idx_vars y
    exact loss_apply _ _ _ _ _ _
  have hN : t.val + 1 = cfg0.N := by
    have := (flush0_5 t).mp hf
    have h2 : t.val < 16 := t.isLt
    show t.val + 1 = 16
    omega
  refine (Pipeline.eq_sum_fin_of_reset_step_apply_last (fun n h => (outsAt0 m c n h).2.2) 16 (fun _ => (0 : EReal))
    (fun t y => ((∑ r : Fin 512, (∑ k, errAt X T G (row t r) k * errAt X T G (row t r) k) * (1 / 2048) : ℝ) : EReal))
    (fun t h0 y => ?_) (fun t h0 y => ?_) (by decide) t hN y).trans ?_
  · rw [outsAt0_A m c t h0]
    frame_out
    refine (key t _ y).trans ?_
    congr 1
    pointwise [k0_pay4]
  · rw [outsAt0_B m c t h0]
    frame_out
    exact key t _ y
  · rw [zero_add, coe_sum]
    congr 1
    exact Fin.sum_mul_add_congr (fun s k hl => rfl)

end Arrays

end Cert.LossIdeal.Read
end
-- ==== Proof.LossRef.lean ====
/- The reference of the loss: its gradients as real numbers, the ones the kernel computes. -/
module

public import proofs.«01_k».proof.Proof.LossRead
public import proofs.«01_k».proof.Proof.Gen.LossRefIdeal.Run
public import proofs.«01_k».proof.Proof.Gen.LossRefIdeal.Read

@[expose] public section

set_option maxRecDepth 16384

noncomputable section

namespace Cert.LossRefIdeal.Tie

open Cert.LossRefIdeal Cert.LossRefIdeal.Gen Cert.LossRefIdeal.Read Idealize.ShloMosaic Idealize.ShloMosaic.TcCoe Idealize.SL.Sem
open Cert.Lift Cert.NormReal Cert.LossIdeal.Read

variable (X T : S8192x1024.Idx → ℝ) (G : S1024.Idx → ℝ)

theorem v6 (a : Fin 8192) : val_main_v6 (F := Ideal) (fun i => ((X i : ℝ) : EReal)) (ix2 a 0)
    = (((∑ k, X (ix2 a k) * X (ix2 a k)) / 1024 + eps : ℝ) : EReal) := by
  pointwise [val_main_v6, val_main_v5, val_main_v4, val_main_v3, val_main_v2, val_main_v1, val_main_v0, val_main_cst, val_main_cst_0, val_main_cst_1]
  simp (disch := positivity) only [w1024, weps', coe_add, coe_mul, coe_div, coe_sum]

theorem v7 (a : Fin 8192) : val_main_v7 (F := Ideal) (fun i => ((X i : ℝ) : EReal)) (ix2 a 0)
    = ((rstd 1024 (fun k => X (ix2 a k)) : ℝ) : EReal) := by
  pointwise [val_main_v7]
  rw [v6, coe_rsqrt (ms_pos _ (by norm_num))]
  rfl

theorem v12 (a : Fin 8192) (b : Fin 1024) : val_main_v12 (F := Ideal) (fun i => ((X i : ℝ) : EReal)) (ix2 a b)
    = ((nrm 1024 (fun k => X (ix2 a k)) b : ℝ) : EReal) := by
  pointwise [val_main_v12, val_main_v11]
  rw [v7, coe_mul]
  rfl

theorem v16 (a : Fin 8192) (b : Fin 1024) :
    val_main_v16 (F := Ideal) (fun i => ((X i : ℝ) : EReal)) (fun i => ((T i : ℝ) : EReal)) (fun i => ((G i : ℝ) : EReal)) (ix2 a b)
    = ((errAt X T G a b : ℝ) : EReal) := by
  pointwise [val_main_v16, val_main_v15, val_main_v14, val_main_v13]
  rw [v12, coe_mul, coe_sub]
  rfl

theorem v30 (a : Fin 8192) (b : Fin 1024) :
    val_main_v30 (F := Ideal) (fun i => ((X i : ℝ) : EReal)) (fun i => ((T i : ℝ) : EReal)) (fun i => ((G i : ℝ) : EReal)) (ix2 a b)
    = ((errAt X T G a b * (1 / 1024) : ℝ) : EReal) := by
  pointwise [val_main_v30, val_main_v29, val_main_v28, val_main_v27, val_main_v26, val_main_v25, val_main_v19, val_main_v18, val_main_cst_3, val_main_cst_8, val_main_cst_9, val_main_cst_10]
  rw [v16]
  simp (disch := positivity) only [w1024, whalf, wone, wtwo, coe_add, coe_mul, coe_div, coe_sum]
  congr 1
  ring

theorem v35 (a : Fin 8192) (b : Fin 1024) :
    val_main_v35 (F := Ideal) (fun i => ((X i : ℝ) : EReal)) (fun i => ((T i : ℝ) : EReal)) (fun i => ((G i : ℝ) : EReal)) (ix2 a b)
    = ((errAt X T G a b * (1 / 1024) * G (ix1 b) : ℝ) : EReal) := by
  pointwise [val_main_v35, val_main_v34, val_main_v13]
  rw [v30, coe_mul]

theorem v46 (a : Fin 8192) (b : Fin 1024) :
    val_main_v46 (F := Ideal) (fun i => ((X i : ℝ) : EReal)) (fun i => ((T i : ℝ) : EReal)) (fun i => ((G i : ℝ) : EReal)) (ix2 a b)
    = (((∑ k, X (ix2 a k) * (errAt X T G a k * (1 / 1024) * G (ix1 k))) * (-(1 / 2) * (rstd 1024 (fun k => X (ix2 a k))
        / ((∑ k, X (ix2 a k) * X (ix2 a k)) / 1024 + eps))) / 1024 : ℝ) : EReal) := by
  pointwise [val_main_v46, val_main_v45, val_main_v44, val_main_v43, val_main_v42, val_main_v39, val_main_v38, val_main_v37, val_main_v10, val_main_v9, val_main_v8, val_main_cst_2, val_main_cst_13, val_main_cst_14, val_main_cst_15]
  simp (disch := first | positivity | exact (ms_pos _ (by norm_num)).ne') only [Fin.sum_univ_one, v6, v7, v35, w1024, wneghalf, coe_add, coe_mul, coe_div, coe_sum]

theorem v50 : val_main_v50 (F := Ideal) (fun i => ((X i : ℝ) : EReal)) (fun i => ((T i : ℝ) : EReal)) (fun i => ((G i : ℝ) : EReal))
    = fun i => ((dhAt X T G (i 0) (i 1) : ℝ) : EReal) := by
  funext i
  idx_vars i
  pointwise [val_main_v50, val_main_v49, val_main_v48, val_main_v47, val_main_v41, val_main_v40]
  simp only [v7, v35, v46, coe_add, coe_mul]
  refine congrArg Real.toEReal ?_
  exact dnrm_chain (c := 1024) (by norm_num) (fun k => X (ix2 i0 k)) (fun k => errAt X T G i0 k * (1 / 1024) * G (ix1 k)) i1

theorem v51 : val_main_v51 (F := Ideal) (fun i => ((X i : ℝ) : EReal)) (fun i => ((T i : ℝ) : EReal)) (fun i => ((G i : ℝ) : EReal))
    = fun i => ((dgAt X T G (i 1) : ℝ) : EReal) := by
  funext i
  idx_vars i
  pointwise [val_main_v51, val_main_v36, val_main_v33, val_main_v32, val_main_v31, val_main_cst_11, val_main_cst_12]
  simp only [Fin.sum_univ_one, v12, v30, coe_add, coe_mul, coe_sum]
  refine congrArg Real.toEReal ?_
  exact Finset.sum_congr rfl fun r _ => by ring

theorem v52 : val_main_v52 (F := Ideal) (fun i => ((X i : ℝ) : EReal)) (fun i => ((T i : ℝ) : EReal)) (fun i => ((G i : ℝ) : EReal))
    = fun _ => ((lossAt X T G : ℝ) : EReal) := by
  funext i
  idx_vars i
  pointwise [val_main_v52, val_main_v24, val_main_v23, val_main_v22, val_main_v21, val_main_v20, val_main_v17, val_main_cst_4, val_main_cst_5, val_main_cst_6, val_main_cst_7]
  simp (disch := positivity) only [v16, w1024, whalf, coe_add, coe_mul, coe_div, coe_sum]
  refine congrArg Real.toEReal ?_
  rw [lossAt, Finset.mul_sum]
  exact Finset.sum_congr rfl fun r _ => by ring

end Cert.LossRefIdeal.Tie
end
-- ==== Proof.LossClaim.lean ====
/- The claims of the loss kernel: its three results are those of the reference's gradient. -/
module

public import proofs.«01_k».proof.Defs
public import proofs.«01_k».proof.Proof.LossRef
public import proofs.«01_k».proof.Proof.Gen.Loss.Frame
public import proofs.«01_k».proof.Proof.Gen.LossIdeal.Frame
public import proofs.«01_k».proof.Proof.Gen.Pre_loss_finite
public import Idealize.ShloMosaic.Adequacy
public import Idealize.ShloMosaic.Init

@[expose] public section

set_option maxRecDepth 16384

noncomputable section

namespace Cert.LossClaim

open Idealize.ShloMosaic Idealize.ShloMosaic.TcCoe Idealize.SL.Sem Cert.Lift

/-- Arguments below infinity in absolute value are arrays of reals. -/
theorem reals {m : (ℓ : Loc LossIdeal.nD LossIdeal.τ LossIdeal.sig) → Buf (Elt Ideal) ℓ} (hpre : Pre_LossIdeal_loss_finite m)
    (c : Dev LossIdeal.nD) :
    (∃ X : LossIdeal.S8192x1024.Idx → ℝ, m ((c : Thread LossIdeal.nD LossIdeal.τ).loc LossIdeal.main_arg0) = fun i : LossIdeal.S8192x1024.Idx => ((X i : ℝ) : EReal))
    ∧ (∃ T : LossIdeal.S8192x1024.Idx → ℝ, m ((c : Thread LossIdeal.nD LossIdeal.τ).loc LossIdeal.main_arg1) = fun i : LossIdeal.S8192x1024.Idx => ((T i : ℝ) : EReal))
    ∧ (∃ G : LossIdeal.S1024.Idx → ℝ, m ((c : Thread LossIdeal.nD LossIdeal.τ).loc LossIdeal.main_arg2) = fun i : LossIdeal.S1024.Idx => ((G i : ℝ) : EReal)) :=
  have h := hpre c
  ⟨fin_of_mask _ _ (fun _ => winf) h.1, fin_of_mask _ _ (fun _ => winf) h.2.1, fin_of_mask _ _ (fun _ => winf) h.2.2⟩

theorem loss_value : algebraic_LossIdeal_LossRefIdeal_pre_loss_finite := by
  intro m g m' g' hpre hag
  refine ⟨_, _, _, LossIdeal.Value.run_blocks m g, (θ_run _ _ _).mono (fun r h c => ?_) (LossRefIdeal.Value.run m' g')⟩
  obtain ⟨⟨X, hX⟩, ⟨T, hT⟩, ⟨G, hG⟩⟩ := reals hpre c
  obtain ⟨e0, e1, e2⟩ := hag c
  obtain ⟨h0, h1, h2, h3⟩ := h c
  have e0 := e0.trans hX
  have e1 := e1.trans hT
  have e2 := e2.trans hG
  refine ⟨h0.trans ?_, h1.trans ?_, h2.trans ?_, h3⟩
  · rw [LossRefIdeal.Read.val_main_v50_eq, e0, e1, e2]
    exact (LossRefIdeal.Tie.v50 X T G).trans (LossIdeal.Read.arr3 m hX hT hG).symm
  · rw [e0, e1, e2]
    exact (LossRefIdeal.Read.val_main_v51_eq _ _ _).trans ((LossRefIdeal.Tie.v51 X T G).trans (LossIdeal.Read.arr4 m hX hT hG).symm)
  · rw [e0, e1, e2]
    exact (LossRefIdeal.Read.val_main_v52_eq _ _ _).trans ((LossRefIdeal.Tie.v52 X T G).trans (LossIdeal.Read.arr5 m hX hT hG).symm)

theorem ref_frame : quiescent_LossRefIdeal := fun m ρ _ =>
  (θ_run LossRefIdeal.defs _ _).mono (fun r h => ⟨fun c => (h c).2.2.2, sem_eq_zero_of_no_sems (by decide) r.2⟩)
    (LossRefIdeal.Value.run m ρ)

end Cert.LossClaim
end
-- ==== Proof.FlashState.lean ====
/-
  The attention gradient's state: the three scratch arrays of a grid point (the query gradient of a whole head, the
  key gradient and the transposed value gradient of the point's block), and what one block of query rows does to them.
-/
module

public import proofs.«01_k».proof.Proof.Gen.FlashIdeal.Loops
public import Idealize.ShloMosaic.Lib.VecWindow

@[expose] public section

noncomputable section

namespace Cert.FlashRun

open Idealize.ShloMosaic Idealize.ShloMosaic.TcCoe Idealize.ShloMosaic.Tactic
open Cert.FlashIdeal Cert.FlashIdeal.Gen

variable {F : FTy → Type} [FloatOps F]

/-! ## Offsets of the counted loop -/

/-- The loop over the pairs of later blocks makes `(15 - j) / 2` trips. -/
theorem trips_eq : ∀ i : grid0.Coords, (k0_t1_loop i).trips = (15 - (i 1).val) / 2 := by decide +kernel

theorem off5_one : ∀ (i : grid0.Coords) (k : Fin (k0_t1_loop i).trips), k0_off5 i k 1#32 = ![0, 512 * ((i 1).val + 1 + 2 * k.val), 0] := by decide +kernel
theorem off5_two : ∀ (i : grid0.Coords) (k : Fin (k0_t1_loop i).trips), k0_off5 i k 2#32 = ![0, 512 * ((i 1).val + 2 + 2 * k.val), 0] := by decide +kernel
theorem off6_one : ∀ (i : grid0.Coords) (k : Fin (k0_t1_loop i).trips), k0_off6 i k 1#32 = ![512 * ((i 1).val + 1 + 2 * k.val), 0] := by decide +kernel
theorem off6_two : ∀ (i : grid0.Coords) (k : Fin (k0_t1_loop i).trips), k0_off6 i k 2#32 = ![512 * ((i 1).val + 2 + 2 * k.val), 0] := by decide +kernel
theorem off7_one : ∀ (i : grid0.Coords) (k : Fin (k0_t1_loop i).trips), k0_off7 i k 1#32 = ![0, (i 1).val + 1 + 2 * k.val, 0, 0] := by decide +kernel
theorem off7_two : ∀ (i : grid0.Coords) (k : Fin (k0_t1_loop i).trips), k0_off7 i k 2#32 = ![0, (i 1).val + 2 + 2 * k.val, 0, 0] := by decide +kernel
theorem off8_one : ∀ (i : grid0.Coords) (k : Fin (k0_t1_loop i).trips), k0_off8 i k 1#32 = ![512 * ((i 1).val + 1 + 2 * k.val), 0] := by decide +kernel
theorem off8_two : ∀ (i : grid0.Coords) (k : Fin (k0_t1_loop i).trips), k0_off8 i k 2#32 = ![512 * ((i 1).val + 2 + 2 * k.val), 0] := by decide +kernel
instance (i : grid0.Coords) (k : Fin (k0_t1_loop i).trips) : ClosedOff (k0_off8 i k 1#32) := ⟨_, off8_one i k⟩
instance (i : grid0.Coords) (k : Fin (k0_t1_loop i).trips) : ClosedOff (k0_off8 i k 2#32) := ⟨_, off8_two i k⟩

/-- The last block is left over after the pairs exactly when an odd number of blocks follows the point's own. -/
theorem cond2_iff : ∀ i : grid0.Coords, k0_cond2 i = 1#1 ↔ (15 - (i 1).val) % 2 = 1 := by decide +kernel
/-- The last point of a head is its sixteenth. -/
theorem cond3_iff : ∀ i : grid0.Coords, k0_cond3 i = 1#1 ↔ (i 1).val = 15 := by decide +kernel

/-! ## Blocks of rows -/

/-- The query rows of block `b`. -/
abbrev qRows (x : Vec F S1x8192x256 .bf16) (b : Fin 16) : Vec F S1x512x256 .bf16 :=
  VecWindow.window x ![0, 512 * b.val, 0] S1x512x256.size (by revert b; decide)
/-- The rows of the output gradient of block `b`. -/
abbrev oRows (x : Vec F S8192x128 .bf16) (b : Fin 16) : Vec F S512x128 .bf16 :=
  VecWindow.window x ![512 * b.val, 0] S512x128.size (by revert b; decide)
/-- A row statistic (the log of the normalizer, or the inner product with the output) of block `b`. -/
abbrev sRows (x : Vec F S1x16x8x512 .f32) (b : Fin 16) : Vec F S1x1x8x512 .f32 :=
  VecWindow.window x ![0, b.val, 0, 0] S1x1x8x512.size (by revert b; decide)
/-- The rows of the query gradient of block `b`. -/
abbrev gRows (x : Vec F S8192x256 .f32) (b : Fin 16) : Vec F S512x256 .f32 :=
  VecWindow.window x ![512 * b.val, 0] S512x256.size (by revert b; decide)

/-- The three scratch arrays. -/
abbrev St (F : FTy → Type) := Vec F S8192x256 .f32 × Vec F S512x256 .f32 × Vec F S128x512 .f32

/-- What a later block of query rows adds: no mask is needed there. -/
def blockStep (kk : FVec F S512x256 .bf16) (vv : FVec F S512x128 .bf16) (x0 : Vec F S1x8192x256 .bf16) (x3 : Vec F S8192x128 .bf16)
    (x4 x5 : Vec F S1x16x8x512 .f32) (b : Fin 16) (s : St F) : St F :=
  (VecWindow.put s.1 ![512 * b.val, 0] S512x256.size
      (k0_pay10 kk (k0_pay7 kk vv (qRows x0 b) (oRows x3 b) (sRows x4 b) (sRows x5 b)) (gRows s.1 b)),
    k0_pay9 (k0_pay4 (qRows x0 b)) (k0_pay7 kk vv (qRows x0 b) (oRows x3 b) (sRows x4 b) (sRows x5 b)) s.2.1 (constant S512x256 .f32 0x00000000#32),
    k0_pay8 kk (qRows x0 b) (oRows x3 b) (sRows x4 b) s.2.2)

/-- The masked weights of the point's own block. -/
abbrev diagP (x0 : Vec F S1x8192x256 .bf16) (x1 : Vec F S1x512x256 .bf16) (x4 : Vec F S1x16x8x512 .f32) (b : Fin 16) : FVec F S512x512 .f32 :=
  k0_pay39 x1 (qRows x0 b) (sRows x4 b)

/-- What the point's own block leaves of the query gradient it found, with the key and value gradients from nothing. -/
def diagStep (x0 : Vec F S1x8192x256 .bf16) (x1 : Vec F S1x512x256 .bf16) (x2 : Vec F S1x512x128 .bf16) (x3 : Vec F S8192x128 .bf16)
    (x4 x5 : Vec F S1x16x8x512 .f32) (b : Fin 16) (g : Vec F S8192x256 .f32) : St F :=
  (VecWindow.put g ![512 * b.val, 0] S512x256.size
      (k0_pay48 (k0_pay35 x1) (k0_pay36 x2) (k0_pay38 (oRows x3 b)) (diagP x0 x1 x4 b) (k0_pay40 (iota .tc S512x512 32 [0] iota_S512x512_d0_w32) 64#32)
        k0_pay41 k0_pay42 k0_pay43 (sRows x5 b) (gRows g b)),
    k0_pay47 (k0_pay36 x2) (k0_pay37 (qRows x0 b)) (k0_pay38 (oRows x3 b)) (diagP x0 x1 x4 b) (k0_pay40 (iota .tc S512x512 32 [0] iota_S512x512_d0_w32) 64#32)
      k0_pay41 k0_pay42 k0_pay43 (sRows x5 b) k0_pay33,
    k0_pay46 (k0_pay38 (oRows x3 b)) (diagP x0 x1 x4 b) (k0_pay40 (iota .tc S512x512 32 [0] iota_S512x512_d0_w32) 64#32)
      k0_pay41 k0_pay42 k0_pay43 k0_pay34)

/-- `n` later blocks, from the one after block `j` on. -/
def blocks (kk : FVec F S512x256 .bf16) (vv : FVec F S512x128 .bf16) (x0 : Vec F S1x8192x256 .bf16) (x3 : Vec F S8192x128 .bf16)
    (x4 x5 : Vec F S1x16x8x512 .f32) (j : ℕ) (s : St F) : ℕ → St F
  | 0 => s
  | n + 1 => blockStep kk vv x0 x3 x4 x5 (Fin.ofNat 16 (j + 1 + n)) (blocks kk vv x0 x3 x4 x5 j s n)

/-- The query gradient a point starts from: nothing at the first point of a head, what the point before left otherwise. -/
def start (j : ℕ) (g : Vec F S8192x256 .f32) : Vec F S8192x256 .f32 := if j = 0 then k0_pay32 else g

/-- What a point leaves in the three scratch arrays. -/
def point (j : Fin 16) (x0 : Vec F S1x8192x256 .bf16) (x1 : Vec F S1x512x256 .bf16) (x2 : Vec F S1x512x128 .bf16) (x3 : Vec F S8192x128 .bf16)
    (x4 x5 : Vec F S1x16x8x512 .f32) (g : Vec F S8192x256 .f32) : St F :=
  blocks (k0_pay35 x1) (k0_pay36 x2) x0 x3 x4 x5 j.val (diagStep x0 x1 x2 x3 x4 x5 j (start j.val g)) (15 - j.val)

end Cert.FlashRun

end
-- ==== Proof.FlashPay.lean ====
/- The attention gradient's arithmetic at an index, on real numbers. -/
module

public import proofs.«01_k».proof.Proof.Lift
public import proofs.«01_k».proof.Proof.FlashState
public import Idealize.ShloMosaic.Lib.Pipeline.ValueKit

@[expose] public section

set_option maxRecDepth 16384

noncomputable section

namespace Cert.FlashRun

open Idealize.ShloMosaic Idealize.ShloMosaic.TcCoe Idealize.ShloMosaic.Tactic
open Cert.FlashIdeal Cert.FlashIdeal.Gen Cert.Lift

variable (K Q : Fin 512 → Fin 256 → ℝ) (V O : Fin 512 → Fin 128 → ℝ) (L D : Fin 512 → ℝ)

/-- The weight of key `a` for query `c`. -/
def wt (a c : Fin 512) : ℝ := Real.exp ((∑ d, K a d * Q c d) - L c)
/-- The score gradient of key `a` for query `c`. -/
def sg (a c : Fin 512) : ℝ := wt K Q L a c * ((∑ d, V a d * O c d) - D c)

abbrev up2 {n k : ℕ} (X : Fin n → Fin k → ℝ) : (⟨2, ![n, k]⟩ : Shape).Idx → EReal := fun y => ((X (y 0) (y 1) : ℝ) : EReal)
abbrev up3 {n k : ℕ} (X : Fin n → Fin k → ℝ) : (⟨3, ![1, n, k]⟩ : Shape).Idx → EReal := fun y => ((X (y 1) (y 2) : ℝ) : EReal)
abbrev upS (X : Fin 512 → ℝ) : S1x1x8x512.Idx → EReal := fun y => ((X (y 3) : ℝ) : EReal)

theorem pay6_apply (a c : Fin 512) :
    k0_pay6 (F := Ideal) (up2 K) (up3 Q) (upS L) (ix2 a c) = ((wt K Q L a c : ℝ) : EReal) := by
  unfold_payloads
  pointwise
  simp only [wzero, coe_add, coe_sub, coe_mul, coe_exp, coe_sum]
  rfl

theorem pay6_eq : k0_pay6 (F := Ideal) (up2 K) (up3 Q) (upS L) = up2 (wt K Q L) := by
  funext y; idx_vars y; exact pay6_apply _ _ _ _ _

theorem pay7_apply (a c : Fin 512) : k0_pay7 (F := Ideal) (up2 K) (up2 V) (up3 Q) (up2 O) (upS L) (upS D) (ix2 a c) = ((sg K Q V O L D a c : ℝ) : EReal) := by
  unfold k0_pay7
  rw [pay6_eq]
  pointwise [k0_pay5]
  simp only [wzero, coe_add, coe_sub, coe_mul, coe_exp, coe_sum]
  rfl

theorem pay7_eq : k0_pay7 (F := Ideal) (up2 K) (up2 V) (up3 Q) (up2 O) (upS L) (upS D) = up2 (sg K Q V O L D) := by
  funext y; idx_vars y; exact pay7_apply _ _ _ _ _ _ _ _

variable (S : Fin 512 → Fin 512 → ℝ) (G : Fin 512 → Fin 256 → ℝ) (T : Fin 128 → Fin 512 → ℝ)

theorem pay8_apply (d : Fin 128) (a : Fin 512) : k0_pay8 (F := Ideal) (up2 K) (up3 Q) (up2 O) (upS L) (up2 T) (ix2 d a)
    = ((T d a + ∑ c, O c d * wt K Q L a c : ℝ) : EReal) := by
  unfold k0_pay8
  rw [pay6_eq]
  pointwise [k0_pay5]
  simp only [wzero, coe_add, coe_sub, coe_mul, coe_exp, coe_sum]
  rfl

theorem pay9_apply (a : Fin 512) (d : Fin 256) : k0_pay9 (F := Ideal) (k0_pay4 (up3 Q)) (up2 S) (up2 G) (constant S512x256 .f32 0x00000000#32) (ix2 a d)
    = ((G a d + ∑ c, S a c * Q c d : ℝ) : EReal) := by
  pointwise [k0_pay9, k0_pay4]
  simp only [wzero, coe_add, coe_sub, coe_mul, coe_exp, coe_sum]
  rfl

theorem pay10_apply (c : Fin 512) (d : Fin 256) : k0_pay10 (F := Ideal) (up2 K) (up2 S) (up2 G) (ix2 c d)
    = ((G c d + ∑ a, S a c * K a d : ℝ) : EReal) := by
  pointwise [k0_pay10]
  simp only [wzero, coe_add, coe_sub, coe_mul, coe_exp, coe_sum]
  rfl

/-! ## The point's own block -/

/-- A key of a block is seen by a query of the same block exactly when its chunk of sixty-four is not a later one. -/
def seen (a c : Fin 512) : Prop := a.val / 64 ≤ c.val / 64
instance (a c : Fin 512) : Decidable (seen a c) := inferInstanceAs (Decidable (_ ≤ _))

/-- What is not seen counts as nothing. -/
def cut (X : Fin 512 → Fin 512 → ℝ) (a c : Fin 512) : ℝ := if seen a c then X a c else 0

/-- The integer division of a small index by the chunk length. -/
theorem chunk_word : ∀ a : Fin 512, (BitVec.ofNat 32 a.val).sdiv 64#32 = BitVec.ofNat 32 (a.val / 64) := by decide +kernel

theorem pay40_apply (a c : Fin 512) : k0_pay40 (iota .tc S512x512 32 [0] iota_S512x512_d0_w32) 64#32 (ix2 a c) = BitVec.ofNat 32 (a.val / 64) := by
  pointwise [k0_pay40]
  revert a
  decide +kernel

theorem chunk_apply (a c : Fin 512) : select k0_pay42 (subi k0_pay41 k0_pay43) k0_pay41 (ix2 a c) = BitVec.ofNat 32 (c.val / 64) := by
  pointwise [k0_pay42, k0_pay41, k0_pay43]
  revert c
  decide +kernel

theorem sge_word : ∀ x y : Fin 8, IntOp.cmpi .sge (BitVec.ofNat 32 x.val) (BitVec.ofNat 32 y.val) = if y.val ≤ x.val then 1#1 else 0#1 := by
  decide +kernel

/-- The chunk of every row of a block, counted from the block's first row. -/
abbrev chunks : IVec S512x512 32 := k0_pay40 (iota .tc S512x512 32 [0] iota_S512x512_d0_w32) 64#32

theorem mask_apply (a c : Fin 512) : cmpi .sge (select k0_pay42 (subi k0_pay41 k0_pay43) k0_pay41) chunks (ix2 a c) = if seen a c then 1#1 else 0#1 := by
  refine (congrArg₂ (IntOp.cmpi .sge) (chunk_apply a c) (pay40_apply a c)).trans ?_
  exact sge_word ⟨c.val / 64, by omega⟩ ⟨a.val / 64, by omega⟩

theorem pay44_apply (a c : Fin 512) : k0_pay44 (F := Ideal) (up2 S) chunks k0_pay41 k0_pay42 k0_pay43 (ix2 a c) = ((cut S a c : ℝ) : EReal) := by
  show (if cmpi .sge (select k0_pay42 (subi k0_pay41 k0_pay43) k0_pay41) chunks (ix2 a c) = 1#1 then (up2 S) (ix2 a c) else Ideal.ofBits .f32 0x00000000#32) = _
  rw [mask_apply, wzero]
  unfold cut
  by_cases h : seen a c
  · rw [if_pos h, if_pos h]; rfl
  · rw [if_neg h, if_neg h]; rfl

theorem pay44_eq : k0_pay44 (F := Ideal) (up2 S) chunks k0_pay41 k0_pay42 k0_pay43 = up2 (cut S) := by
  funext y; idx_vars y; exact pay44_apply _ _ _

theorem pay39_apply (a c : Fin 512) : k0_pay39 (F := Ideal) (up3 K) (up3 Q) (upS L) (ix2 a c) = ((wt K Q L a c : ℝ) : EReal) := by
  unfold k0_pay39
  pointwise [k0_pay35, k0_pay37]
  simp only [wzero, coe_add, coe_sub, coe_mul, coe_exp, coe_sum]
  rfl

theorem pay39_eq : k0_pay39 (F := Ideal) (up3 K) (up3 Q) (upS L) = up2 (wt K Q L) := by
  funext y; idx_vars y; exact pay39_apply _ _ _ _ _

theorem pay45_apply (a c : Fin 512) : k0_pay45 (F := Ideal) (k0_pay36 (up3 V)) (k0_pay38 (up2 O)) (up2 (wt K Q L)) chunks k0_pay41 k0_pay42 k0_pay43 (upS D) (ix2 a c)
    = ((cut (sg K Q V O L D) a c : ℝ) : EReal) := by
  unfold k0_pay45
  rw [pay44_eq]
  pointwise [k0_pay36, k0_pay38]
  simp only [wzero, coe_add, coe_sub, coe_mul, coe_exp, coe_sum]
  refine congrArg Real.toEReal ?_
  show cut (wt K Q L) a c * ((∑ d, V a d * O c d) - D c) = _
  unfold cut sg
  by_cases h : seen a c
  · rw [if_pos h, if_pos h]
  · rw [if_neg h, if_neg h, zero_mul]

theorem pay45_eq : k0_pay45 (F := Ideal) (k0_pay36 (up3 V)) (k0_pay38 (up2 O)) (up2 (wt K Q L)) chunks k0_pay41 k0_pay42 k0_pay43 (upS D)
    = up2 (cut (sg K Q V O L D)) := by
  funext y; idx_vars y; exact pay45_apply _ _ _ _ _ _ _ _

theorem pay46_apply (d : Fin 128) (a : Fin 512) : k0_pay46 (F := Ideal) (k0_pay38 (up2 O)) (up2 (wt K Q L)) chunks k0_pay41 k0_pay42 k0_pay43 (k0_pay34 (F := Ideal)) (ix2 d a)
    = ((∑ c, O c d * cut (wt K Q L) a c : ℝ) : EReal) := by
  unfold k0_pay46
  rw [pay44_eq]
  pointwise [k0_pay38, k0_pay34]
  simp only [wzero, coe_add, coe_sub, coe_mul, coe_exp, coe_sum, zero_add]
  rfl

theorem pay47_apply (a : Fin 512) (d : Fin 256) : k0_pay47 (F := Ideal) (k0_pay36 (up3 V)) (k0_pay37 (up3 Q)) (k0_pay38 (up2 O)) (up2 (wt K Q L)) chunks k0_pay41 k0_pay42 k0_pay43 (upS D) (k0_pay33 (F := Ideal)) (ix2 a d)
    = ((∑ c, cut (sg K Q V O L D) a c * Q c d : ℝ) : EReal) := by
  unfold k0_pay47
  rw [pay45_eq]
  pointwise [k0_pay37, k0_pay33]
  simp only [wzero, coe_add, coe_sub, coe_mul, coe_exp, coe_sum, zero_add]
  rfl

theorem pay48_apply (c : Fin 512) (d : Fin 256) : k0_pay48 (F := Ideal) (k0_pay35 (up3 K)) (k0_pay36 (up3 V)) (k0_pay38 (up2 O)) (up2 (wt K Q L)) chunks k0_pay41 k0_pay42 k0_pay43 (upS D) (up2 G) (ix2 c d)
    = ((G c d + ∑ a, cut (sg K Q V O L D) a c * K a d : ℝ) : EReal) := by
  unfold k0_pay48
  rw [pay45_eq]
  pointwise [k0_pay35]
  simp only [wzero, coe_add, coe_sub, coe_mul, coe_exp, coe_sum]
  rfl

/-! ## Casts -/

theorem pay35_eq : k0_pay35 (F := Ideal) (up3 K) = up2 K := by
  funext y; idx_vars y
  pointwise [k0_pay35]
  rfl

theorem pay36_eq : k0_pay36 (F := Ideal) (up3 V) = up2 V := by
  funext y; idx_vars y
  pointwise [k0_pay36]
  rfl

theorem pay1_eq : k0_pay1 (F := Ideal) (k0_pay58 (up2 G)) = up3 G := by
  funext y; idx_vars y
  pointwise [k0_pay1, k0_pay58]
  rfl

theorem pay2_eq : k0_pay2 (F := Ideal) (up2 T) = up3 fun a d => T d a := by
  funext y; idx_vars y
  pointwise [k0_pay2]
  rfl

theorem pay3_eq (G : Fin 8192 → Fin 256 → ℝ) : k0_pay3 (F := Ideal) (up2 G) = up3 G := by
  funext y; idx_vars y
  pointwise [k0_pay3]
  rfl

theorem pay32_eq : k0_pay32 (F := Ideal) = up2 fun _ _ => 0 := by
  funext y; idx_vars y
  pointwise [k0_pay32]
  exact EReal.coe_zero.symm

end Cert.FlashRun
end
-- ==== Proof.FlashReal.lean ====
/- The attention gradient's state after every block of a grid point, as real numbers: sums over all rows so far. -/
module

public import proofs.«01_k».proof.Proof.FlashPay

@[expose] public section

set_option maxRecDepth 16384

noncomputable section

namespace Cert.FlashRun

open Idealize.ShloMosaic Idealize.ShloMosaic.TcCoe Idealize.ShloMosaic.Tactic
open Cert.FlashIdeal Cert.FlashIdeal.Gen Cert.Lift

/-- Row `a` of block `b`. -/
def rw' (b : Fin 16) (a : Fin 512) : Fin 8192 := ⟨b.val * 512 + a.val, by omega⟩

/-- A statistic of every row, as the kernel keeps it: by blocks, eight copies of each. -/
abbrev upT (X : Fin 8192 → ℝ) : S1x16x8x512.Idx → EReal := fun y => ((X (rw' (y 1) (y 3)) : ℝ) : EReal)

theorem qRows_eq (Q : Fin 8192 → Fin 256 → ℝ) (b : Fin 16) : qRows (F := Ideal) (up3 Q) b = up3 fun a => Q (rw' b a) := by
  funext y
  refine congrArg Real.toEReal (congrArg₂ Q (Fin.ext ?_) (Fin.ext ?_))
  · show 512 * b.val + 1 * (y 1).val = b.val * 512 + (y 1).val; omega
  · show 0 + 1 * (y 2).val = (y 2).val; omega

theorem oRows_eq (O : Fin 8192 → Fin 128 → ℝ) (b : Fin 16) : oRows (F := Ideal) (up2 O) b = up2 fun a => O (rw' b a) := by
  funext y
  refine congrArg Real.toEReal (congrArg₂ O (Fin.ext ?_) (Fin.ext ?_))
  · show 512 * b.val + 1 * (y 0).val = b.val * 512 + (y 0).val; omega
  · show 0 + 1 * (y 1).val = (y 1).val; omega

theorem gRows_eq (G : Fin 8192 → Fin 256 → ℝ) (b : Fin 16) : gRows (F := Ideal) (up2 G) b = up2 fun a => G (rw' b a) := by
  funext y
  refine congrArg Real.toEReal (congrArg₂ G (Fin.ext ?_) (Fin.ext ?_))
  · show 512 * b.val + 1 * (y 0).val = b.val * 512 + (y 0).val; omega
  · show 0 + 1 * (y 1).val = (y 1).val; omega

theorem sRows_eq (X : Fin 8192 → ℝ) (b : Fin 16) : sRows (F := Ideal) (upT X) b = upS fun a => X (rw' b a) := by
  funext y
  have h1 : (y 1).val = 0 := by have : (y 1).val < 1 := (y 1).isLt; omega
  refine congrArg Real.toEReal (congrArg X (Fin.ext ?_))
  show (b.val + 1 * (y 1).val) * 512 + (0 + 1 * (y 3).val) = b.val * 512 + (y 3).val; omega

theorem pay10_eq (K : Fin 512 → Fin 256 → ℝ) (S : Fin 512 → Fin 512 → ℝ) (G : Fin 512 → Fin 256 → ℝ) :
    k0_pay10 (F := Ideal) (up2 K) (up2 S) (up2 G) = up2 fun c d => G c d + ∑ a, S a c * K a d := by
  funext y; idx_vars y; exact pay10_apply _ _ _ _ _

theorem pay48_eq (K Q : Fin 512 → Fin 256 → ℝ) (V O : Fin 512 → Fin 128 → ℝ) (L D : Fin 512 → ℝ) (G : Fin 512 → Fin 256 → ℝ) :
    k0_pay48 (F := Ideal) (k0_pay35 (up3 K)) (k0_pay36 (up3 V)) (k0_pay38 (up2 O)) (up2 (wt K Q L)) chunks k0_pay41 k0_pay42 k0_pay43 (upS D) (up2 G)
      = up2 fun c d => G c d + ∑ a, cut (sg K Q V O L D) a c * K a d := by
  funext y; idx_vars y; exact pay48_apply _ _ _ _ _ _ _ _ _

/-- Rows put over a block. -/
theorem put_eq (G : Fin 8192 → Fin 256 → ℝ) (W : Fin 512 → Fin 256 → ℝ) (H : Fin 8192 → Fin 256 → ℝ) (b : Fin 16)
    (hin : ∀ a d, W a d = H (rw' b a) d) (hout : ∀ (r : Fin 8192) d, r.val / 512 ≠ b.val → G r d = H r d) :
    VecWindow.put (s := S8192x256) (up2 G) ![512 * b.val, 0] S512x256.size (up2 W) = up2 H := by
  funext y
  unfold VecWindow.put
  have h1 : (y 1).val < 256 := (y 1).isLt
  by_cases h : (y 0).val / 512 = b.val
  · have h0 : 512 * b.val ≤ (y 0).val ∧ (y 0).val < 512 * b.val + 512 := by omega
    rw [dif_pos (by
      intro a
      fin_cases a
      · exact h0
      · exact ⟨Nat.zero_le _, by show (y 1).val < 0 + 256; omega⟩)]
    refine congrArg Real.toEReal ((hin _ _).trans (congrArg₂ H (Fin.ext ?_) (Fin.ext ?_)))
    · show b.val * 512 + ((y 0).val - 512 * b.val) = (y 0).val; omega
    · show (y 1).val - 0 = (y 1).val; omega
  · rw [dif_neg (by
      intro hall
      have h2 := hall 0
      have h3 : 512 * b.val ≤ (y 0).val ∧ (y 0).val < 512 * b.val + 512 := h2
      omega)]
    exact congrArg Real.toEReal (hout _ _ h)

section Head
variable (K Q : Fin 8192 → Fin 256 → ℝ) (V O : Fin 8192 → Fin 128 → ℝ) (L D : Fin 8192 → ℝ)

/-- The weight of key `k` for query `r`: nothing when the key's chunk is a later one. -/
def weight (r k : Fin 8192) : ℝ := if k.val / 64 ≤ r.val / 64 then Real.exp ((∑ d, K k d * Q r d) - L r) else 0

/-- The gradient by the score of key `k` for query `r`. -/
def score (r k : Fin 8192) : ℝ := weight K Q L r k * ((∑ d, V k d * O r d) - D r)

theorem weight_lower (b j : Fin 16) (h : b.val < j.val) (a c : Fin 512) : weight K Q L (rw' b c) (rw' j a) = 0 := by
  unfold weight rw'
  rw [if_neg]
  show ¬ (j.val * 512 + a.val) / 64 ≤ (b.val * 512 + c.val) / 64
  omega

theorem score_lower (b j : Fin 16) (h : b.val < j.val) (a c : Fin 512) : score K Q V O L D (rw' b c) (rw' j a) = 0 := by
  unfold score
  rw [weight_lower K Q L b j h a c, zero_mul]

theorem weight_upper (b j : Fin 16) (h : j.val < b.val) (a c : Fin 512) :
    wt (fun a => K (rw' j a)) (fun c => Q (rw' b c)) (fun c => L (rw' b c)) a c = weight K Q L (rw' b c) (rw' j a) := by
  unfold weight
  rw [if_pos]
  · rfl
  · show (j.val * 512 + a.val) / 64 ≤ (b.val * 512 + c.val) / 64
    omega

theorem weight_diag (j : Fin 16) (a c : Fin 512) :
    cut (wt (fun a => K (rw' j a)) (fun c => Q (rw' j c)) (fun c => L (rw' j c))) a c = weight K Q L (rw' j c) (rw' j a) := by
  unfold weight cut
  have e : ((rw' j a).val / 64 ≤ (rw' j c).val / 64) ↔ seen a c := by
    show (j.val * 512 + a.val) / 64 ≤ (j.val * 512 + c.val) / 64 ↔ a.val / 64 ≤ c.val / 64
    omega
  by_cases h : seen a c
  · rw [if_pos h, if_pos (e.mpr h)]; rfl
  · rw [if_neg h, if_neg (fun h' => h (e.mp h'))]

theorem score_upper (b j : Fin 16) (h : j.val < b.val) (a c : Fin 512) :
    sg (fun a => K (rw' j a)) (fun c => Q (rw' b c)) (fun a => V (rw' j a)) (fun c => O (rw' b c)) (fun c => L (rw' b c)) (fun c => D (rw' b c)) a c
      = score K Q V O L D (rw' b c) (rw' j a) := by
  unfold sg score
  rw [weight_upper K Q L b j h]

theorem score_diag (j : Fin 16) (a c : Fin 512) :
    cut (sg (fun a => K (rw' j a)) (fun c => Q (rw' j c)) (fun a => V (rw' j a)) (fun c => O (rw' j c)) (fun c => L (rw' j c)) (fun c => D (rw' j c))) a c
      = score K Q V O L D (rw' j c) (rw' j a) := by
  unfold score
  rw [← weight_diag K Q L j a c]
  unfold cut sg
  by_cases h : seen a c
  · rw [if_pos h, if_pos h]
  · rw [if_neg h, if_neg h, zero_mul]

theorem sum_upto_succ (f : Fin 16 → ℝ) (n : ℕ) (h : n + 1 < 16) :
    (∑ b : Fin 16, if b.val ≤ n + 1 then f b else 0) = (∑ b : Fin 16, if b.val ≤ n then f b else 0) + f ⟨n + 1, h⟩ := by
  have : ∀ b : Fin 16, (if b.val ≤ n + 1 then f b else 0) = (if b.val ≤ n then f b else 0) + (if b = ⟨n + 1, h⟩ then f b else 0) := fun b => by
    by_cases h1 : b.val ≤ n
    · rw [if_pos h1, if_pos (by omega), if_neg (by intro e; rw [e] at h1; simp at h1), add_zero]
    · by_cases h2 : b = ⟨n + 1, h⟩
      · rw [if_neg h1, if_pos h2, if_pos (by rw [h2]), zero_add]
      · rw [if_neg h1, if_neg h2, if_neg (by intro e; exact h2 (Fin.ext (by show b.val = n + 1; omega))), zero_add]
  rw [Finset.sum_congr rfl fun b _ => this b, Finset.sum_add_distrib, Finset.sum_ite_eq' Finset.univ]
  simp

theorem sum_upto_first (f : Fin 16 → ℝ) (j : Fin 16) (h : ∀ b : Fin 16, b.val < j.val → f b = 0) :
    (∑ b : Fin 16, if b.val ≤ j.val then f b else 0) = f j := by
  rw [Finset.sum_eq_single j]
  · rw [if_pos le_rfl]
  · intro b _ hb
    by_cases h1 : b.val ≤ j.val
    · rw [if_pos h1, h b (lt_of_le_of_ne h1 fun e => hb (Fin.ext e))]
    · rw [if_neg h1]
  · simp

/-- The query gradient with the blocks up to `n` taken, at a point of key block `j`, over what was there. -/
def uptoQ (j : Fin 16) (G : Fin 8192 → Fin 256 → ℝ) (n : ℕ) (r : Fin 8192) (d : Fin 256) : ℝ :=
  G r d + if r.val / 512 ≤ n then ∑ a, score K Q V O L D r (rw' j a) * K (rw' j a) d else 0
/-- The key gradient of block `j` with the query blocks up to `n` taken. -/
def uptoK (j : Fin 16) (n : ℕ) (a : Fin 512) (d : Fin 256) : ℝ :=
  ∑ b : Fin 16, if b.val ≤ n then ∑ c, score K Q V O L D (rw' b c) (rw' j a) * Q (rw' b c) d else 0
/-- The value gradient of block `j`, transposed, with the query blocks up to `n` taken. -/
def uptoV (j : Fin 16) (n : ℕ) (d : Fin 128) (a : Fin 512) : ℝ :=
  ∑ b : Fin 16, if b.val ≤ n then ∑ c, O (rw' b c) d * weight K Q L (rw' b c) (rw' j a) else 0

/-- The state with the blocks up to `n` taken. -/
def upto (j : Fin 16) (G : Fin 8192 → Fin 256 → ℝ) (n : ℕ) : St Ideal :=
  (up2 (uptoQ K Q V O L D j G n), up2 (uptoK K Q V O L D j n), up2 (uptoV K Q O L j n))

theorem rw'_div (b : Fin 16) (a : Fin 512) : (rw' b a).val / 512 = b.val := by
  show (b.val * 512 + a.val) / 512 = b.val
  omega

theorem row_rw (r : Fin 8192) (b : Fin 16) (h : r.val / 512 = b.val) : r = rw' b ⟨r.val % 512, by omega⟩ :=
  Fin.ext (by show r.val = b.val * 512 + r.val % 512; omega)

theorem step_upto (j : Fin 16) (G : Fin 8192 → Fin 256 → ℝ) (n : ℕ) (hj : j.val ≤ n) (hn : n + 1 < 16) :
    blockStep (F := Ideal) (up2 fun a => K (rw' j a)) (up2 fun a => V (rw' j a)) (up3 Q) (up2 O) (upT L) (upT D) ⟨n + 1, hn⟩ (upto K Q V O L D j G n)
      = upto K Q V O L D j G (n + 1) := by
  have hlt : j.val < (⟨n + 1, hn⟩ : Fin 16).val := Nat.lt_succ_of_le hj
  unfold blockStep upto
  rw [qRows_eq, oRows_eq, sRows_eq, sRows_eq, pay7_eq]
  refine Prod.ext ?_ (Prod.ext ?_ ?_)
  · dsimp only
    rw [gRows_eq, pay10_eq]
    refine put_eq _ _ _ ⟨n + 1, hn⟩ (fun c d => ?_) fun r d h => ?_
    · unfold uptoQ
      rw [rw'_div, if_neg (by show ¬ n + 1 ≤ n; omega), if_pos (by show n + 1 ≤ n + 1; omega), add_zero]
      refine congrArg₂ (· + ·) rfl (Finset.sum_congr rfl fun a _ => ?_)
      rw [score_upper K Q V O L D ⟨n + 1, hn⟩ j hlt a c]
    · unfold uptoQ
      have h' : r.val / 512 ≠ n + 1 := h
      by_cases h1 : r.val / 512 ≤ n
      · rw [if_pos h1, if_pos (by omega)]
      · rw [if_neg h1, if_neg (by omega)]
  · funext y; idx_vars y
    refine (pay9_apply _ _ _ _ _).trans (congrArg Real.toEReal ?_)
    refine Eq.trans ?_ (sum_upto_succ _ n hn).symm
    refine congrArg₂ (· + ·) rfl (Finset.sum_congr rfl fun c _ => ?_)
    exact congrArg₂ (· * ·) (score_upper K Q V O L D ⟨n + 1, hn⟩ j hlt _ c) rfl
  · funext y; idx_vars y
    refine (pay8_apply _ _ _ _ _ _ _).trans (congrArg Real.toEReal ?_)
    refine Eq.trans ?_ (sum_upto_succ _ n hn).symm
    refine congrArg₂ (· + ·) rfl (Finset.sum_congr rfl fun c _ => ?_)
    exact congrArg₂ (· * ·) rfl (weight_upper K Q L ⟨n + 1, hn⟩ j hlt _ c)

theorem diag_upto (j : Fin 16) (G : Fin 8192 → Fin 256 → ℝ) :
    diagStep (F := Ideal) (up3 Q) (up3 fun a => K (rw' j a)) (up3 fun a => V (rw' j a)) (up2 O) (upT L) (upT D) j (up2 G)
      = upto K Q V O L D j G j.val := by
  unfold diagStep upto diagP
  rw [qRows_eq, oRows_eq, sRows_eq, sRows_eq, pay39_eq, gRows_eq, pay48_eq]
  refine Prod.ext ?_ (Prod.ext ?_ ?_)
  · refine put_eq _ _ _ j (fun c d => ?_) fun r d h => ?_
    · unfold uptoQ
      rw [rw'_div, if_pos le_rfl]
      refine congrArg₂ (· + ·) rfl (Finset.sum_congr rfl fun a _ => ?_)
      rw [score_diag K Q V O L D j a c]
    · unfold uptoQ
      by_cases h1 : r.val / 512 ≤ j.val
      · rw [if_pos h1]
        have h0 : ∀ a, score K Q V O L D r (rw' j a) = 0 := fun a => by
          have hr := row_rw r ⟨r.val / 512, by omega⟩ rfl
          rw [hr]
          exact score_lower K Q V O L D _ j (lt_of_le_of_ne h1 h) a _
        rw [Finset.sum_eq_zero fun a _ => by rw [h0, zero_mul], add_zero]
      · rw [if_neg h1, add_zero]
  · funext y; idx_vars y
    refine (pay47_apply _ _ _ _ _ _ _ _).trans (congrArg Real.toEReal ?_)
    refine Eq.trans ?_ (sum_upto_first _ j fun b hb => Finset.sum_eq_zero fun c _ => ?_).symm
    · refine Finset.sum_congr rfl fun c _ => ?_
      exact congrArg₂ (· * ·) (score_diag K Q V O L D j _ c) rfl
    · exact (congrArg₂ (· * ·) (score_lower K Q V O L D b j hb _ c) rfl).trans (zero_mul _)
  · funext y; idx_vars y
    refine (pay46_apply _ _ _ _ _ _).trans (congrArg Real.toEReal ?_)
    refine Eq.trans ?_ (sum_upto_first _ j fun b hb => Finset.sum_eq_zero fun c _ => ?_).symm
    · refine Finset.sum_congr rfl fun c _ => ?_
      exact congrArg₂ (· * ·) rfl (weight_diag K Q L j _ c)
    · exact (congrArg₂ (· * ·) rfl (weight_lower K Q L b j hb _ c)).trans (mul_zero _)

theorem blocks_upto (j : Fin 16) (G : Fin 8192 → Fin 256 → ℝ) : ∀ n : ℕ, j.val + n < 16 →
    blocks (F := Ideal) (up2 fun a => K (rw' j a)) (up2 fun a => V (rw' j a)) (up3 Q) (up2 O) (upT L) (upT D) j.val (upto K Q V O L D j G j.val) n
      = upto K Q V O L D j G (j.val + n)
  | 0, _ => rfl
  | n + 1, h => by
    unfold blocks
    rw [blocks_upto j G n (by omega)]
    have e : (Fin.ofNat 16 (j.val + 1 + n) : Fin 16) = ⟨j.val + n + 1, h⟩ := Fin.ext (by
      show (j.val + 1 + n) % 16 = j.val + n + 1
      rw [Nat.mod_eq_of_lt (by omega)]; omega)
    rw [e]
    exact step_upto K Q V O L D j G (j.val + n) (by omega) h

/-- What a point adds to the query gradient. -/
def addQ (j : Fin 16) (r : Fin 8192) (d : Fin 256) : ℝ := ∑ a, score K Q V O L D r (rw' j a) * K (rw' j a) d
/-- The key gradient of a whole head. -/
def gradK (k : Fin 8192) (d : Fin 256) : ℝ := ∑ r, score K Q V O L D r k * Q r d
/-- The value gradient of a whole head. -/
def gradV (k : Fin 8192) (d : Fin 128) : ℝ := ∑ r, O r d * weight K Q L r k
/-- The query gradient of a whole head. -/
def gradQ (r : Fin 8192) (d : Fin 256) : ℝ := ∑ k, score K Q V O L D r k * K k d

theorem sum_rows (f : Fin 8192 → ℝ) : ∑ b : Fin 16, ∑ c : Fin 512, f (rw' b c) = ∑ r, f r :=
  Fin.sum_mul_add_congr (fun s k hl => rfl)

theorem point_eq (j : Fin 16) (G : Fin 8192 → Fin 256 → ℝ) :
    point (F := Ideal) j (up3 Q) (up3 fun a => K (rw' j a)) (up3 fun a => V (rw' j a)) (up2 O) (upT L) (upT D) (up2 G)
      = (up2 fun r d => (if j.val = 0 then 0 else G r d) + addQ K Q V O L D j r d,
          up2 fun a => gradK K Q V O L D (rw' j a), up2 fun d a => gradV K Q O L (rw' j a) d) := by
  have hs : start (F := Ideal) j.val (up2 G) = up2 fun r d => if j.val = 0 then 0 else G r d := by
    unfold start
    by_cases h : j.val = 0
    · rw [if_pos h, pay32_eq]; simp only [if_pos h]
    · rw [if_neg h]; simp only [if_neg h]
  unfold point
  rw [hs, pay35_eq, pay36_eq, diag_upto, blocks_upto K Q V O L D j _ (15 - j.val) (by omega), show j.val + (15 - j.val) = 15 by omega]
  unfold upto
  refine congrArg₂ Prod.mk ?_ (congrArg₂ Prod.mk ?_ ?_)
  · refine congrArg up2 (funext fun r => funext fun d => ?_)
    unfold uptoQ addQ
    rw [if_pos (by omega)]
  · refine congrArg up2 (funext fun a => funext fun d => ?_)
    unfold uptoK gradK
    rw [← sum_rows]
    exact Finset.sum_congr rfl fun b _ => if_pos (by omega)
  · refine congrArg up2 (funext fun d => funext fun a => ?_)
    unfold uptoV gradV
    rw [← sum_rows]
    exact Finset.sum_congr rfl fun b _ => if_pos (by omega)

end Head

end Cert.FlashRun
end
-- ==== Proof.FlashMath.lean ====
/-
  Chunk-causal softmax attention and its gradient on real numbers, for one head: the weights, the output, the gradient
  by the scores, and the two forms in which they are computed (from the log of the normalizer; from the row maximum).
-/
module

public import proofs.«01_k».proof.Proof.Lift
public import Idealize.ShloMosaic.Lib.Pipeline.ValueKit

@[expose] public section

noncomputable section

namespace Cert.Attn

open Idealize.ShloMosaic Cert.Lift

/-- Query `r` sees key `k` when the key's chunk of sixty-four is not a later one. -/
def sees (r k : Fin 8192) : Prop := k.val / 64 ≤ r.val / 64
instance (r k : Fin 8192) : Decidable (sees r k) := inferInstanceAs (Decidable (_ ≤ _))

theorem sees_self (r : Fin 8192) : sees r r := le_refl _

section Row
variable (s : Fin 8192 → Fin 8192 → ℝ)

/-- The normalizer of a row of scores. -/
def norm (r : Fin 8192) : ℝ := ∑ k, if sees r k then Real.exp (s r k) else 0
/-- The softmax weight. -/
def prob (r k : Fin 8192) : ℝ := if sees r k then Real.exp (s r k) / norm s r else 0
/-- The exponentials over a row's reference value `M`. -/
def expo (M : Fin 8192 → ℝ) (r k : Fin 8192) : ℝ := if sees r k then Real.exp (s r k - M r) else 0

theorem norm_pos (r : Fin 8192) : 0 < norm s r := by
  refine lt_of_lt_of_le (Real.exp_pos (s r r)) ?_
  refine le_trans (le_of_eq (if_pos (sees_self r)).symm) (Finset.single_le_sum (f := fun k => if sees r k then Real.exp (s r k) else 0) (fun k _ => ?_) (Finset.mem_univ r))
  show 0 ≤ if sees r k then Real.exp (s r k) else 0
  split
  · exact (Real.exp_pos _).le
  · exact le_refl _

theorem sum_expo (M : Fin 8192 → ℝ) (r : Fin 8192) : ∑ k, expo s M r k = Real.exp (-M r) * norm s r := by
  unfold norm
  rw [Finset.mul_sum]
  refine Finset.sum_congr rfl fun k _ => ?_
  unfold expo
  split
  · rw [← Real.exp_add]; congr 1; ring
  · rw [mul_zero]

theorem sum_expo_pos (M : Fin 8192 → ℝ) (r : Fin 8192) : 0 < ∑ k, expo s M r k := by
  rw [sum_expo]; exact mul_pos (Real.exp_pos _) (norm_pos s r)

theorem expo_div (M : Fin 8192 → ℝ) (r k : Fin 8192) : expo s M r k / ∑ k', expo s M r k' = prob s r k := by
  rw [sum_expo]
  unfold expo prob
  split
  · rw [sub_eq_neg_add, Real.exp_add, mul_div_mul_left _ _ (Real.exp_pos _).ne']
  · rw [zero_div]

/-- The weight from the log of the normalizer. -/
theorem exp_sub_log (M : Fin 8192 → ℝ) (r k : Fin 8192) :
    (if sees r k then Real.exp (s r k - (M r + Real.log (∑ k', expo s M r k'))) else 0) = prob s r k := by
  unfold prob
  split
  · rw [sum_expo, Real.log_mul (Real.exp_pos _).ne' (norm_pos s r).ne', Real.log_exp,
      show s r k - (M r + (-M r + Real.log (norm s r))) = s r k - Real.log (norm s r) by ring,
      Real.exp_sub, Real.exp_log (norm_pos s r)]
  · rfl

/-- The gradient by the scores, from the gradient by the weights. -/
def dscore (dp : Fin 8192 → Fin 8192 → ℝ) (r k : Fin 8192) : ℝ := prob s r k * (dp r k - ∑ k', prob s r k' * dp r k')

theorem quotient_form {n : ℕ} (E dp : Fin n → ℝ) (L : ℝ) (hL : 0 < L) (k : Fin n) :
    (dp k / L + -(∑ k', dp k' * (1 / (L * L)) * E k')) * E k = E k / L * (dp k - ∑ k', E k' / L * dp k') := by
  have : ∑ k', dp k' * (1 / (L * L)) * E k' = (∑ k', E k' / L * dp k') / L := by
    rw [Finset.sum_div]
    refine Finset.sum_congr rfl fun k' _ => ?_
    field_simp
  rw [this]
  generalize (∑ k', E k' / L * dp k') = W
  field_simp
  ring

/-- The same, through the row maximum, the quotient's two gradients and the mask. -/
theorem dscore_quotient (M : Fin 8192 → ℝ) (dp : Fin 8192 → Fin 8192 → ℝ) (r k : Fin 8192) :
    (dp r k / (∑ k', expo s M r k') + -(∑ k', dp r k' * (1 / ((∑ k'', expo s M r k'') * ∑ k'', expo s M r k'')) * expo s M r k')) * expo s M r k
      = dscore s dp r k := by
  have e : (∑ k', prob s r k' * dp r k') = ∑ k', expo s M r k' / (∑ k'', expo s M r k'') * dp r k' :=
    Finset.sum_congr rfl fun k' _ => by rw [expo_div s M r k']
  unfold dscore
  rw [e, ← expo_div s M r k]
  exact quotient_form (expo s M r) (dp r) _ (sum_expo_pos s M r) k

theorem dscore_masked (dp : Fin 8192 → Fin 8192 → ℝ) (r k : Fin 8192) (h : ¬ sees r k) : dscore s dp r k = 0 := by
  unfold dscore prob
  rw [if_neg h, zero_mul]

end Row

section Head
variable (q k : Fin 8192 → Fin 192 → ℝ) (v o : Fin 8192 → Fin 128 → ℝ)

/-- The scores. -/
def scores (r j : Fin 8192) : ℝ := ∑ d, q r d * k j d
/-- The gradient by the weights. -/
def dprob (r j : Fin 8192) : ℝ := ∑ d, o r d * v j d
/-- The gradients by the query, the key and the value. -/
def dq (r : Fin 8192) (d : Fin 192) : ℝ := ∑ j, dscore (scores q k) (dprob v o) r j * k j d
def dk (j : Fin 8192) (d : Fin 192) : ℝ := ∑ r, dscore (scores q k) (dprob v o) r j * q r d
def dv (j : Fin 8192) (d : Fin 128) : ℝ := ∑ r, o r d * prob (scores q k) r j

/-- The inner product of a row of the output with its gradient is the weights' with theirs. -/
theorem delta_eq (P : Fin 8192 → Fin 8192 → ℝ) (r : Fin 8192) :
    ∑ d, o r d * (∑ j, P r j * v j d) = ∑ j, P r j * dprob v o r j := by
  simp only [dprob, Finset.mul_sum]
  rw [Finset.sum_comm]
  refine Finset.sum_congr rfl fun j _ => Finset.sum_congr rfl fun d _ => ?_
  ring

/-- A row padded with zeros up to 256 columns. -/
def wide (x : Fin 8192 → Fin 192 → ℝ) (r : Fin 8192) (d : Fin 256) : ℝ := if h : d.val < 192 then x r ⟨d.val, h⟩ else 0

theorem sum_wide (f : Fin 256 → ℝ) (g : Fin 192 → ℝ) (h1 : ∀ d : Fin 192, f ⟨d.val, by omega⟩ = g d) (h0 : ∀ d : Fin 256, 192 ≤ d.val → f d = 0) :
    ∑ d, f d = ∑ d, g d := by
  have e : (256 : ℕ) = 192 + 64 := rfl
  rw [show (∑ d, f d) = ∑ d : Fin (192 + 64), f d from rfl, Fin.sum_univ_add]
  have z : ∑ i : Fin 64, f (Fin.natAdd 192 i) = 0 := Finset.sum_eq_zero fun i _ => h0 _ (by show 192 ≤ 192 + i.val; omega)
  rw [z, add_zero]
  exact Finset.sum_congr rfl fun d _ => h1 d

theorem scores_wide (r j : Fin 8192) : ∑ d, wide k j d * wide q r d = scores q k r j := by
  refine sum_wide _ _ (fun d => ?_) fun d hd => ?_
  · unfold wide; rw [dif_pos d.isLt, dif_pos d.isLt, mul_comm]
  · unfold wide; rw [dif_neg (by omega), zero_mul]

end Head

/-! ## A row's maximum -/

theorem max_coe (X : Fin 8192 → EReal) (r : Fin 8192) (h1 : ∀ k, X k < ⊤) (h2 : ⊥ < X r) :
    ∃ M : ℝ, (Finset.univ : Finset (Fin 8192)).fold max ⊥ X = (M : EReal) := by
  have ht : (Finset.univ : Finset (Fin 8192)).fold max ⊥ X < ⊤ := (Finset.fold_max_lt _).mpr ⟨bot_lt_top, fun k _ => h1 k⟩
  have hb : ⊥ < (Finset.univ : Finset (Fin 8192)).fold max ⊥ X := (Finset.lt_fold_max _).mpr (Or.inr ⟨r, Finset.mem_univ _, h2⟩)
  exact ⟨_, (EReal.coe_toReal ht.ne hb.ne').symm⟩

/-- The maximum over the seen keys of a row of real scores is a real number. -/
theorem rowMax_coe (s : Fin 8 → Fin 8192 → Fin 8192 → ℝ) (X : (⟨3, ![8, 8192, 8192]⟩ : Shape).Idx → EReal) (init : (⟨0, ![]⟩ : Shape).Idx → EReal)
    (hX : ∀ h r k, X (ix3 h r k) = if sees r k then ((s h r k : ℝ) : EReal) else ⊥) (hi : ∀ i, init i = ⊥)
    (h' : (⟨3, ![8, 8192, 8192]⟩ : Shape).ReducesTo [2] ⟨2, ![8, 8192]⟩) (hu : 0 < (⟨0, ![]⟩ : Shape).numel) :
    ∃ M : Fin 8 → Fin 8192 → ℝ, ∀ h r, Host.reduce (FloatOps.maximumf (F := Ideal) (φ := .f32)) X init h' hu (ix2 h r) = ((M h r : ℝ) : EReal) := by
  have key : ∀ h r, ∃ M : ℝ, Host.reduce (FloatOps.maximumf (F := Ideal) (φ := .f32)) X init h' hu (ix2 h r) = (M : EReal) := by
    intro h r
    have hr : (⟨3, ![8, 8192, 8192]⟩ : Shape).Reduces [2] ⟨2, ![8, 8192]⟩ := by decide
    have hl : ∀ k : Fin 8192, hr.lift (ix2 h r) k = ix3 h r k := by
      intro k
      funext a
      refine Fin.ext ?_
      refine (Shape.Reduces.lift_val hr (ix2 h r) k a).trans ?_
      fin_cases a <;> rfl
    rw [Host.reduce_eq_fold_single _ X init h' hr hu (ix2 h r), hi]
    refine max_coe _ r (fun k => ?_) ?_
    · show X (hr.lift (ix2 h r) k) < ⊤
      rw [hl, hX]
      split
      · exact EReal.coe_lt_top _
      · exact bot_lt_top
    · show ⊥ < X (hr.lift (ix2 h r) r)
      rw [hl, hX, if_pos (sees_self r)]
      exact EReal.bot_lt_coe _
  choose M hM using key
  exact ⟨M, hM⟩

end Cert.Attn

end
-- ==== Proof.FlashHost.lean ====
/-
  The arrays the attention gradient's kernel is entered with: the padded query and key rows, the output gradient by
  heads, and the two row statistics of the forward lines, read as real numbers.
-/
module

public import proofs.«01_k».proof.Proof.FlashReal
public import proofs.«01_k».proof.Proof.FlashMath
public import proofs.«01_k».proof.Proof.Gen.FlashIdeal.Frame

@[expose] public section

set_option maxRecDepth 16384

noncomputable section

namespace Cert.FlashRun

open Idealize.ShloMosaic Idealize.ShloMosaic.TcCoe Idealize.ShloMosaic.StableHlo Idealize.SL.Sem
open Cert.FlashIdeal Cert.FlashIdeal.Gen Cert.Lift Cert.Attn

abbrev Arr (s : Shape) := FVec Ideal s .f32
abbrev Qk := FVec Ideal S8x8192x192 .bf16
abbrev Vo := FVec Ideal S8x8192x128 .bf16

/-- The chunk of every row. -/
def chunkOf : IVec S8192 32 :=
  select (andi (cmpi .ne (signi (iotaInDim S8192 32 0)) (broadcastInDim S8192 ![] bcast_S_S8192 (signi (constantI S_ 32 64#32))))
      (cmpi .ne (Host.remsi (iotaInDim S8192 32 0) (broadcastInDim S8192 ![] bcast_S_S8192 (constantI S_ 32 64#32)))
        (broadcastInDim S8192 ![] bcast_S_S8192 (constantI S_ 32 0#32))))
    (subi (Host.divsi (iotaInDim S8192 32 0) (broadcastInDim S8192 ![] bcast_S_S8192 (constantI S_ 32 64#32)))
      (broadcastInDim S8192 ![] bcast_S_S8192 (constantI S_ 32 1#32)))
    (Host.divsi (iotaInDim S8192 32 0) (broadcastInDim S8192 ![] bcast_S_S8192 (constantI S_ 32 64#32)))

/-- The mask of the chunk-causal attention, for every head. -/
def mask3 : IVec S8x8192x8192 1 :=
  broadcastInDim S8x8192x8192 ![0, 1, 2] bcast_S1x8192x8192_S8x8192x8192_0_1_2
    (broadcastInDim S1x8192x8192 ![1, 2] bcast_S8192x8192_S1x8192x8192_1_2
      (cmpi .sge (broadcastInDim S8192x8192 ![0, 1] bcast_S8192x1_S8192x8192_0_1 (broadcastInDim S8192x1 ![0] bcast_S8192_S8192x1_0 chunkOf))
        (broadcastInDim S8192x8192 ![0, 1] bcast_S1x8192_S8192x8192_0_1 (broadcastInDim S1x8192 ![1] bcast_S8192_S1x8192_1 chunkOf))))

/-- The masked scores. -/
def hScore (q k : Qk) : Arr S8x8192x8192 :=
  select mask3 (Host.dotGeneral dot_S8x8192x192_S8x8192x192_S8x8192x8192_2_2_1_1_0_0 none (extf .f32 q bitsLt_bf16_f32) (extf .f32 k bitsLt_bf16_f32) : Arr S8x8192x8192)
    (broadcastInDim S8x8192x8192 ![] bcast_S_S8x8192x8192 (constant S_ .f32 0xFF800000#32))
def hMax (q k : Qk) : Arr S8x8192x1 :=
  broadcastInDim S8x8192x1 ![0, 1] bcast_S8x8192_S8x8192x1_0_1
    (Host.reduce FloatOps.maximumf (hScore q k) (constant S_ .f32 0xFF800000#32) reducesTo_S8x8192x8192_S8x8192_d2 h_S_ : Arr S8x8192)
def hExp (q k : Qk) : Arr S8x8192x8192 :=
  Host.exp (subf (hScore q k) (broadcastInDim S8x8192x8192 ![0, 1, 2] bcast_S8x8192x1_S8x8192x8192_0_1_2 (hMax q k)))
def hSum (q k : Qk) : Arr S8x8192x1 :=
  broadcastInDim S8x8192x1 ![0, 1] bcast_S8x8192_S8x8192x1_0_1
    (Host.reduceAdd (hExp q k) (constant S_ .f32 0x00000000#32) reducesTo_S8x8192x8192_S8x8192_d2 h_S_ : Arr S8x8192)
def hLog (q k : Qk) : Arr S8x8192 := shapeCast S8x8192 (addf (hMax q k) (Host.log (hSum q k))) shapeCasts_S8x8192x1_S8x8192
/-- A statistic of every row by blocks, eight copies of each. -/
def byBlocks (x : Arr S8x8192) : Arr S8x16x8x512 :=
  broadcastInDim S8x16x8x512 ![0, 1, 2, 3] bcast_S8x16x1x512_S8x16x8x512_0_1_2_3 (shapeCast S8x16x1x512 x shapeCasts_S8x8192_S8x16x1x512)
def hLse (q k : Qk) : Arr S8x16x8x512 := byBlocks (hLog q k)
def hProb (q k : Qk) : Arr S8x8192x8192 :=
  Host.divf (hExp q k) (broadcastInDim S8x8192x8192 ![0, 1, 2] bcast_S8x8192x1_S8x8192x8192_0_1_2 (hSum q k))
def hOut (q k : Qk) (v : Vo) : Arr S8x8192x128 :=
  Host.dotGeneral dot_S8x8192x8192_S8x8192x128_S8x8192x128_2_1_1_2_0_0 none (hProb q k) (extf .f32 v bitsLt_bf16_f32)
def hInner (q k : Qk) (v o : Vo) : Arr S8x8192 :=
  Host.reduceAdd (mulf (extf .f32 o bitsLt_bf16_f32) (hOut q k v)) (constant S_ .f32 0x00000000#32) reducesTo_S8x8192x128_S8x8192_d2 h_S_
def hDelta (q k : Qk) (v o : Vo) : Arr S8x16x8x512 := byBlocks (hInner q k v o)
def hWide (x : Qk) : FVec Ideal S8x8192x256 .bf16 :=
  pad S8x8192x256 ![0, 0, 0] ![0, 0, 64] ![0, 0, 0] x (sitofp .bf16 (constantI S_ 32 0#32)) pads_S8x8192x192_S8x8192x256_000_000_0640 h_S_
def hRows (o : Vo) : FVec Ideal S8192x1024 .bf16 :=
  shapeCast S8192x1024 (transpose S8192x8x128 [1, 0, 2] o transposes_S8x8192x128_S8192x8x128_1_0_2) shapeCasts_S8192x8x128_S8192x1024

section Entry
variable (m : (ℓ : Loc nD τ sig) → Buf (Elt Ideal) ℓ) (c : Dev nD)

theorem V_q : V m c main_v31 = hWide (m ((c : Thread nD τ).loc main_arg0)) := by
  unfold_abbrev_sides
  simp only [List.flatten_cons, List.flatten_nil, List.append_nil, List.cons_append, List.nil_append, TRef.binary, TRef.nullary, TRef.ternary, TRef.unary, TRef.toBuf, TRef.ofBuf, cast_eq]
  after_results_simp
  rfl

theorem V_lse : V m c main_v34 = hLse (m ((c : Thread nD τ).loc main_arg0)) (m ((c : Thread nD τ).loc main_arg1)) := by
  unfold_abbrev_sides
  simp only [List.flatten_cons, List.flatten_nil, List.append_nil, List.cons_append, List.nil_append, TRef.binary, TRef.nullary, TRef.ternary, TRef.unary, TRef.toBuf, TRef.ofBuf, cast_eq]
  after_results_simp
  rfl

theorem V_k : V m c main_v32 = hWide (m ((c : Thread nD τ).loc main_arg1)) := by
  unfold_abbrev_sides
  simp only [List.flatten_cons, List.flatten_nil, List.append_nil, List.cons_append, List.nil_append, TRef.binary, TRef.nullary, TRef.ternary, TRef.unary, TRef.toBuf, TRef.ofBuf, cast_eq]
  after_results_simp
  rfl

theorem V_o : V m c main_v30 = hRows (m ((c : Thread nD τ).loc main_arg3)) := by
  unfold_abbrev_sides
  simp only [List.flatten_cons, List.flatten_nil, List.append_nil, List.cons_append, List.nil_append, TRef.binary, TRef.nullary, TRef.ternary, TRef.unary, TRef.toBuf, TRef.ofBuf, cast_eq]
  after_results_simp
  rfl

theorem V_delta : V m c main_v36 = hDelta (m ((c : Thread nD τ).loc main_arg0)) (m ((c : Thread nD τ).loc main_arg1)) (m ((c : Thread nD τ).loc main_arg2)) (m ((c : Thread nD τ).loc main_arg3)) := by
  unfold_abbrev_sides
  simp only [List.flatten_cons, List.flatten_nil, List.append_nil, List.cons_append, List.nil_append, TRef.binary, TRef.nullary, TRef.ternary, TRef.unary, TRef.toBuf, TRef.ofBuf, cast_eq]
  after_results_simp
  rfl

end Entry

end Cert.FlashRun

end
-- ==== Proof.FlashHostReal.lean ====
/- The arrays the attention gradient's kernel is entered with, read as real numbers. -/
module

public import proofs.«01_k».proof.Proof.FlashHost

@[expose] public section

set_option maxRecDepth 16384

noncomputable section

namespace Cert.FlashRun

open Idealize.ShloMosaic Idealize.ShloMosaic.TcCoe Idealize.ShloMosaic.StableHlo Idealize.SL.Sem
open Cert.FlashIdeal Cert.FlashIdeal.Gen Cert.Lift Cert.Attn

theorem wninf : Ideal.ofBits .f32 0xFF800000#32 = ⊥ := by simp [Ideal.ofBits, Ideal.ieee]

/-- A word at most another, for two small numbers. -/
theorem sge_ofNat (a b : ℕ) (ha : a < 128) (hb : b < 128) : IntOp.cmpi .sge (BitVec.ofNat 32 a) (BitVec.ofNat 32 b) = if b ≤ a then 1#1 else 0#1 := by
  have : ∀ x y : Fin 128, IntOp.cmpi .sge (BitVec.ofNat 32 x.val) (BitVec.ofNat 32 y.val) = if y.val ≤ x.val then 1#1 else 0#1 := by decide +kernel
  exact this ⟨a, ha⟩ ⟨b, hb⟩

theorem chunkOf_apply (r : Fin 8192) : chunkOf (ix1 r) = BitVec.ofNat 32 (r.val / 64) := by
  unfold chunkOf signi
  pointwise
  revert r
  decide +kernel

theorem mask3_apply (h : Fin 8) (r k : Fin 8192) : mask3 (ix3 h r k) = if sees r k then 1#1 else 0#1 := by
  unfold mask3
  pointwise
  rw [chunkOf_apply, chunkOf_apply]
  exact sge_ofNat _ _ (by omega) (by omega)

section Reals
variable (Q K : Fin 8 → Fin 8192 → Fin 192 → ℝ) (W O : Fin 8 → Fin 8192 → Fin 128 → ℝ)

abbrev up8 {n d : ℕ} (X : Fin 8 → Fin n → Fin d → ℝ) : (⟨3, ![8, n, d]⟩ : Shape).Idx → EReal := fun i => ((X (i 0) (i 1) (i 2) : ℝ) : EReal)

theorem hScore_apply (h : Fin 8) (r k : Fin 8192) : hScore (up8 Q) (up8 K) (ix3 h r k) = if sees r k then ((scores (Q h) (K h) r k : ℝ) : EReal) else ⊥ := by
  unfold hScore
  pointwise
  rw [mask3_apply]
  simp only [coe_mul, coe_sum, wninf]
  by_cases hs : sees r k
  · rw [if_pos hs, if_pos hs]; rfl
  · rw [if_neg hs, if_neg hs]; rfl

/-- The logarithm of the sum of a row's exponentials, for any two columns of statistics. -/
theorem lse_read (x y : Arr S8x8192x1) (h : Fin 8) (r : Fin 8192) :
    shapeCast S8x8192 (addf x (Host.log y)) shapeCasts_S8x8192x1_S8x8192 (ix2 h r) = x (ix3 h r 0) + Ideal.log (y (ix3 h r 0)) := by
  pointwise

theorem hMax_exists : ∃ M : Fin 8 → Fin 8192 → ℝ, ∀ h r z, hMax (up8 Q) (up8 K) (ix3 h r z) = ((M h r : ℝ) : EReal) := by
  obtain ⟨M, hM⟩ := rowMax_coe (fun h => scores (Q h) (K h)) (hScore (up8 Q) (up8 K)) (constant (F := Ideal) S_ .f32 0xFF800000#32) (hScore_apply Q K) (fun _ => wninf)
    reducesTo_S8x8192x8192_S8x8192_d2 h_S_
  refine ⟨M, fun h r z => Eq.trans ?_ (hM h r)⟩
  unfold hMax
  pointwise

variable {Q K} (M : Fin 8 → Fin 8192 → ℝ) (hM : ∀ h r z, hMax (up8 Q) (up8 K) (ix3 h r z) = ((M h r : ℝ) : EReal))
include hM

theorem hExp_apply (h : Fin 8) (r k : Fin 8192) : hExp (up8 Q) (up8 K) (ix3 h r k) = ((expo (scores (Q h) (K h)) (M h) r k : ℝ) : EReal) := by
  unfold hExp
  pointwise
  rw [hScore_apply, hM]
  unfold expo
  by_cases hs : sees r k
  · rw [if_pos hs, if_pos hs]; rfl
  · rw [if_neg hs, if_neg hs]; rfl

theorem hSum_apply (h : Fin 8) (r : Fin 8192) (z : Fin 1) : hSum (up8 Q) (up8 K) (ix3 h r z) = ((∑ k, expo (scores (Q h) (K h)) (M h) r k : ℝ) : EReal) := by
  unfold hSum
  pointwise
  simp only [hExp_apply M hM, coe_sum]

theorem hLog_apply (h : Fin 8) (r : Fin 8192) : hLog (up8 Q) (up8 K) (ix2 h r)
    = ((M h r + Real.log (∑ k, expo (scores (Q h) (K h)) (M h) r k) : ℝ) : EReal) := by
  unfold hLog
  rw [lse_read, hM, hSum_apply M hM, Ideal.log_coe, if_neg (not_le.mpr (sum_expo_pos _ _ _)), ← EReal.coe_add]

theorem hProb_apply (h : Fin 8) (r k : Fin 8192) : hProb (up8 Q) (up8 K) (ix3 h r k) = ((prob (scores (Q h) (K h)) r k : ℝ) : EReal) := by
  unfold hProb
  pointwise
  rw [hExp_apply M hM, hSum_apply M hM, coe_div _ (sum_expo_pos _ _ _).ne', expo_div]

theorem hInner_apply (h : Fin 8) (r : Fin 8192) : hInner (up8 Q) (up8 K) (up8 W) (up8 O) (ix2 h r)
    = ((∑ j, prob (scores (Q h) (K h)) r j * dprob (W h) (O h) r j : ℝ) : EReal) := by
  rw [← delta_eq]
  unfold hInner hOut
  pointwise
  simp only [hProb_apply M hM, coe_mul, coe_sum]
  rfl

end Reals

theorem byBlocks_apply (x : Arr S8x8192) (h : Fin 8) (b : Fin 16) (z : Fin 8) (a : Fin 512) : byBlocks x (ix4 h b z a) = x (ix2 h (rw' b a)) := by
  unfold byBlocks
  pointwise
  rfl

theorem hWide_apply (X : Fin 8 → Fin 8192 → Fin 192 → ℝ) (h : Fin 8) (r : Fin 8192) (d : Fin 256) : hWide (up8 X) (ix3 h r d) = ((wide (X h) r d : ℝ) : EReal) := by
  unfold hWide
  pointwise
  unfold wide
  by_cases hd : d.val < 192
  · rw [dif_pos hd, dif_pos hd]; rfl
  · rw [dif_neg hd, dif_neg hd]
    show ((((0#32 : BitVec 32).toInt : ℝ)) : EReal) = _
    simp

/-- Column `d` of head `h` among the columns of all heads. -/
def col (h : Fin 8) (d : Fin 128) : Fin 1024 := ⟨h.val * 128 + d.val, by omega⟩

theorem hRows_apply (O : Fin 8 → Fin 8192 → Fin 128 → ℝ) (h : Fin 8) (r : Fin 8192) (d : Fin 128) :
    hRows (up8 O) (ix2 r (col h d)) = ((O h r d : ℝ) : EReal) := by
  unfold hRows col
  pointwise
  rfl

end Cert.FlashRun

end
-- ==== Proof.FlashTrip.lean ====
/-
  One trip of the loop over the later blocks of query rows: two blocks one after the other.
-/
module

public import proofs.«01_k».proof.Proof.FlashState
public import Idealize.ShloMosaic.Lib.LoopRemainder
public import Idealize.ShloMosaic.Lib.Tactic.Stretches

@[expose] public section

set_option maxRecDepth 16384

noncomputable section

namespace Cert.FlashRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FlashIdeal Cert.FlashIdeal.Gen

variable {F : FTy → Type} [FloatOps F]

local notation "𝕄" => MT nD τ sig Unit (Elt F) ℕ (UR sig nD τ) ℕ

/-- The resources of the loop: the four input buffers read by it, and the three scratch arrays at a state. -/
abbrev loopRes (c : Dev nD) (arg2 : Memref sig .tc .vmem S1x8192x256 .bf16) (arg5 : Memref sig .tc .vmem S8192x128 .bf16)
    (arg6 arg7 : Memref sig .tc .vmem S1x16x8x512 .f32) (arg11 : Memref sig .tc .vmem S8192x256 .f32)
    (arg12 : Memref sig .tc .vmem S512x256 .f32) (arg13 : Memref sig .tc .vmem S128x512 .f32)
    (x0 : Vec F S1x8192x256 .bf16) (x3 : Vec F S8192x128 .bf16) (x4 x5 : Vec F S1x16x8x512 .f32) (s : St F) : sProp 𝕄 :=
  iprop(owns (c : Thread nD τ) arg2 fullShare x0 ∗ owns (c : Thread nD τ) arg5 fullShare x3 ∗ owns (c : Thread nD τ) arg6 fullShare x4
    ∗ owns (c : Thread nD τ) arg7 fullShare x5 ∗ owns (c : Thread nD τ) arg11 fullShare s.1 ∗ owns (c : Thread nD τ) arg12 fullShare s.2.1
    ∗ owns (c : Thread nD τ) arg13 fullShare s.2.2)

set_option maxHeartbeats 4000000 in
theorem trip (c : Dev nD) (i : grid0.Coords) (arg2 : Memref sig .tc .vmem S1x8192x256 .bf16) (harg2 : arg2.IsWhole) (arg3 : Memref sig .tc .vmem S1x512x256 .bf16) (harg3 : arg3.IsWhole) (arg4 : Memref sig .tc .vmem S1x512x128 .bf16) (harg4 : arg4.IsWhole) (arg5 : Memref sig .tc .vmem S8192x128 .bf16) (harg5 : arg5.IsWhole) (arg6 : Memref sig .tc .vmem S1x16x8x512 .f32) (harg6 : arg6.IsWhole) (arg7 : Memref sig .tc .vmem S1x16x8x512 .f32) (harg7 : arg7.IsWhole) (arg8 : Memref sig .tc .vmem S1x8192x256 .bf16) (harg8 : arg8.IsWhole) (arg9 : Memref sig .tc .vmem S1x512x256 .bf16) (harg9 : arg9.IsWhole) (arg10 : Memref sig .tc .vmem S1x512x128 .bf16) (harg10 : arg10.IsWhole) (arg11 : Memref sig .tc .vmem S8192x256 .f32) (harg11 : arg11.IsWhole) (arg12 : Memref sig .tc .vmem S512x256 .f32) (harg12 : arg12.IsWhole) (arg13 : Memref sig .tc .vmem S128x512 .f32) (harg13 : arg13.IsWhole)
    (a1 : BitVec 32) (v12 : FVec F S512x256 .bf16) (v14 : FVec F S512x128 .bf16) (w0 w1 w2 : BitVec 32)
    (x0 : Vec F S1x8192x256 .bf16) (x3 : Vec F S8192x128 .bf16) (x4 x5 : Vec F S1x16x8x512 .f32) (s : St F)
    (k : Fin (k0_t1_loop i).trips) (acc : Unit) (E : Set ℕ) (b₁ b₂ : Fin 16)
    (hb₁ : b₁.val = (i 1).val + 1 + 2 * k.val) (hb₂ : b₂.val = (i 1).val + 2 + 2 * k.val) :
    loopRes c arg2 arg5 arg6 arg7 arg11 arg12 arg13 x0 x3 x4 x5 s ⊢
      wp frame (wpE (defs₀ (F := F)) Variants.none (c : Thread nD τ) none) E
        (k0_t1_body (F := F) i arg2 harg2 arg3 harg3 arg4 harg4 arg5 harg5 arg6 harg6 arg7 harg7 arg8 harg8 arg9 harg9 arg10 harg10 arg11 harg11 arg12 harg12 arg13 harg13 a1 v12 v14 w0 w1 w2 k acc)
        fun _ => loopRes c arg2 arg5 arg6 arg7 arg11 arg12 arg13 x0 x3 x4 x5
          (blockStep v12 v14 x0 x3 x4 x5 b₂ (blockStep v12 v14 x0 x3 x4 x5 b₁ s)) := by
  obtain ⟨s1, s2, s3⟩ := s
  unfold k0_t1_body
  simp only [k0_part1_eq_skeleton, k0_part2_eq_skeleton]
  unfold loopRes owns
  iintro ⟨⟨%f0, %hf0, H0⟩, ⟨%f3, %hf3, H3⟩, ⟨%f4, %hf4, H4⟩, ⟨%f5, %hf5, H5⟩, ⟨%g1, %hg1, G1⟩, ⟨%g2, %hg2, G2⟩, ⟨%g3, %hg3, G3⟩⟩
  sl_exec
  sl_step
  have e5_1 : k0_off5 i k 1#32 = ![0, 512 * b₁.val, 0] := by rw [off5_one, hb₁]
  have e5_2 : k0_off5 i k 2#32 = ![0, 512 * b₂.val, 0] := by rw [off5_two, hb₂]
  have e6_1 : k0_off6 i k 1#32 = ![512 * b₁.val, 0] := by rw [off6_one, hb₁]
  have e6_2 : k0_off6 i k 2#32 = ![512 * b₂.val, 0] := by rw [off6_two, hb₂]
  have e7_1 : k0_off7 i k 1#32 = ![0, b₁.val, 0, 0] := by rw [off7_one, hb₁]
  have e7_2 : k0_off7 i k 2#32 = ![0, b₂.val, 0, 0] := by rw [off7_two, hb₂]
  have e8_1 : k0_off8 i k 1#32 = ![512 * b₁.val, 0] := by rw [off8_one, hb₁]
  have e8_2 : k0_off8 i k 2#32 = ![512 * b₂.val, 0] := by rw [off8_two, hb₂]
  have hq₁ : View.readAt (Elt F) arg2.view (Rect.unit (s := S1x8192x256) (k0_off5 i k 1#32) S1x512x256.size (k0_off5_inb i k 0)).toLoadRect f0 = qRows x0 b₁ := by
    rw [View.readAt_unit _ _ _ e5_1, hf0]
  have hq₂ : View.readAt (Elt F) arg2.view (Rect.unit (s := S1x8192x256) (k0_off5 i k 2#32) S1x512x256.size (k0_off5_inb i k 1)).toLoadRect f0 = qRows x0 b₂ := by
    rw [View.readAt_unit _ _ _ e5_2, hf0]
  have ho₁ : View.readAt (Elt F) arg5.view (Rect.unit (s := S8192x128) (k0_off6 i k 1#32) S512x128.size (k0_off6_inb i k 0)).toLoadRect f3 = oRows x3 b₁ := by
    rw [View.readAt_unit _ _ _ e6_1, hf3]
  have ho₂ : View.readAt (Elt F) arg5.view (Rect.unit (s := S8192x128) (k0_off6 i k 2#32) S512x128.size (k0_off6_inb i k 1)).toLoadRect f3 = oRows x3 b₂ := by
    rw [View.readAt_unit _ _ _ e6_2, hf3]
  have hl₁ : View.readAt (Elt F) arg6.view (Rect.unit (s := S1x16x8x512) (k0_off7 i k 1#32) S1x1x8x512.size (k0_off7_inb i k 0)).toLoadRect f4 = sRows x4 b₁ := by
    rw [View.readAt_unit _ _ _ e7_1, hf4]
  have hl₂ : View.readAt (Elt F) arg6.view (Rect.unit (s := S1x16x8x512) (k0_off7 i k 2#32) S1x1x8x512.size (k0_off7_inb i k 1)).toLoadRect f4 = sRows x4 b₂ := by
    rw [View.readAt_unit _ _ _ e7_2, hf4]
  have hd₁ : View.readAt (Elt F) arg7.view (Rect.unit (s := S1x16x8x512) (k0_off7 i k 1#32) S1x1x8x512.size (k0_off7_inb i k 0)).toLoadRect f5 = sRows x5 b₁ := by
    rw [View.readAt_unit _ _ _ e7_1, hf5]
  have hd₂ : View.readAt (Elt F) arg7.view (Rect.unit (s := S1x16x8x512) (k0_off7 i k 2#32) S1x1x8x512.size (k0_off7_inb i k 1)).toLoadRect f5 = sRows x5 b₂ := by
    rw [View.readAt_unit _ _ _ e7_2, hf5]
  have hg₁ : View.readAt (Elt F) arg11.view (Rect.unit (s := S8192x256) (k0_off8 i k 1#32) S512x256.size (k0_off8_inb i k 0)).toLoadRect g1 = gRows s1 b₁ := by
    rw [View.readAt_unit _ _ _ e8_1, hg1]
  have hg₂ : View.readAt (Elt F) arg11.view (Rect.unit (s := S8192x256) (k0_off8 i k 2#32) S512x256.size (k0_off8_inb i k 1)).toLoadRect g1 = gRows s1 b₂ := by
    rw [View.readAt_unit _ _ _ e8_2, hg1]
  have hk : View.readAt (Elt F) arg12.view (Rect.unit (s := S512x256) ![0, 0] S512x256.size inb_S512x256_S512x256_0_0).toLoadRect g2 = s2 := by
    rw [View.readAt_full (s := S512x256), hg2]
  have hv : View.readAt (Elt F) arg13.view (Rect.unit (s := S128x512) ![0, 0] S128x512.size inb_S128x512_S128x512_0_0).toLoadRect g3 = s3 := by
    rw [View.readAt_full (s := S128x512), hg3]
  have hgg : ∀ w, gRows (VecWindow.put s1 ![512 * b₁.val, 0] S512x256.size w) b₂ = gRows s1 b₂ := fun w =>
    VecWindow.window_put_of_disjoint s1 _ _ _ _ _ w (0 : Fin 2) (.inr (by
      show 512 * b₁.val + 512 ≤ 512 * b₂.val
      omega))
  isplitl [H0]
  · iexists _; isplitr; · ipureintro; exact hf0
    iexact H0
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [G1]
  · iexists _; isplitr; rotate_left; · iexact G1
    ipureintro
    rw [View.read_writes_cons_put _ _ _ _ _ e8_2, View.read_writes_cons_put _ _ _ _ _ e8_1,
      View.writes_nil, hg1]
    simp only [blockStep, hgg]
    sl_open_run
    simp only [hq₁, hq₂, ho₁, ho₂, hl₁, hl₂, hd₁, hd₂, hg₁, hg₂]
    sl_open_pay
    rfl
  isplitl [G2]
  · iexists _; isplitr; rotate_left; · iexact G2
    ipureintro
    rw [View.read_writes_full (s := S512x256)]
    simp only [blockStep]
    sl_open_run
    simp only [hq₁, hq₂, ho₁, ho₂, hl₁, hl₂, hd₁, hd₂, hk, View.readCov_full (s := S512x256)]
    sl_open_pay
    rfl
  · iexists _; isplitr; rotate_left; · iexact G3
    ipureintro
    rw [View.read_writes_full (s := S128x512)]
    simp only [blockStep]
    sl_open_run
    simp only [hq₁, hq₂, ho₁, ho₂, hl₁, hl₂, hd₁, hd₂, hv, View.readCov_full (s := S128x512)]
    sl_open_pay
    rfl

end Cert.FlashRun

end
-- ==== Proof.FlashTail.lean ====
/-
  The rest of a grid point after its own block: the loop over the pairs of later blocks, and the last block when it is left over.
-/
module

public import proofs.«01_k».proof.Proof.FlashTrip
public import Idealize.ShloMosaic.Lib.LoopRemainder
public import Idealize.ShloMosaic.Lib.Tactic.Stretches

@[expose] public section

set_option maxRecDepth 16384

noncomputable section

namespace Cert.FlashRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FlashIdeal Cert.FlashIdeal.Gen

variable {F : FTy → Type} [FloatOps F]

local notation "𝕄" => MT nD τ sig Unit (Elt F) ℕ (UR sig nD τ) ℕ

/-- The counted loop that takes the remainder of a step of one makes no trip. -/
theorem trips_two : ∀ i : grid0.Coords, (k0_t2_loop i).trips = 0 := by decide +kernel

set_option maxHeartbeats 4000000 in
/-- After the point's own block: the pairs, then the last block when an odd number follows; the key gradient is read off at the end. -/
theorem later (c : Dev nD) (i : grid0.Coords) (arg2 : Memref sig .tc .vmem S1x8192x256 .bf16) (harg2 : arg2.IsWhole) (arg3 : Memref sig .tc .vmem S1x512x256 .bf16) (harg3 : arg3.IsWhole) (arg4 : Memref sig .tc .vmem S1x512x128 .bf16) (harg4 : arg4.IsWhole) (arg5 : Memref sig .tc .vmem S8192x128 .bf16) (harg5 : arg5.IsWhole) (arg6 : Memref sig .tc .vmem S1x16x8x512 .f32) (harg6 : arg6.IsWhole) (arg7 : Memref sig .tc .vmem S1x16x8x512 .f32) (harg7 : arg7.IsWhole) (arg8 : Memref sig .tc .vmem S1x8192x256 .bf16) (harg8 : arg8.IsWhole) (arg9 : Memref sig .tc .vmem S1x512x256 .bf16) (harg9 : arg9.IsWhole) (arg10 : Memref sig .tc .vmem S1x512x128 .bf16) (harg10 : arg10.IsWhole) (arg11 : Memref sig .tc .vmem S8192x256 .f32) (harg11 : arg11.IsWhole) (arg12 : Memref sig .tc .vmem S512x256 .f32) (harg12 : arg12.IsWhole) (arg13 : Memref sig .tc .vmem S128x512 .f32) (harg13 : arg13.IsWhole)
    (v12 : FVec F S512x256 .bf16) (v14 : FVec F S512x128 .bf16)
    (x0 : Vec F S1x8192x256 .bf16) (x3 : Vec F S8192x128 .bf16) (x4 x5 : Vec F S1x16x8x512 .f32) (s : St F)
    (a1 w0 w1 w2 : BitVec 32) (E : Set ℕ) :
    loopRes c arg2 arg5 arg6 arg7 arg11 arg12 arg13 x0 x3 x4 x5 s ⊢
      wp frame (wpE (defs₀ (F := F)) Variants.none (c : Thread nD τ) none) E
        (k0_part9 (F := F) i arg2 harg2 arg3 harg3 arg4 harg4 arg5 harg5 arg6 harg6 arg7 harg7 arg8 harg8 arg9 harg9 arg10 harg10 arg11 harg11 arg12 harg12 arg13 harg13 a1 v12 v14 w0 w1 w2)
        fun v => iprop(⌜v = k0_pay58 (blocks v12 v14 x0 x3 x4 x5 (i 1).val s (15 - (i 1).val)).2.1⌝ ∗ loopRes c arg2 arg5 arg6 arg7 arg11 arg12 arg13 x0 x3 x4 x5
          (blocks v12 v14 x0 x3 x4 x5 (i 1).val s (15 - (i 1).val))) := by
  have hj : (i 1).val < 16 := (i 1).isLt
  rw [k0_part9_eq_skeleton]
  unfold k0_part9_skel
  dsimp only
  iintro H
  sl_for (fun n _ => loopRes c arg2 arg5 arg6 arg7 arg11 arg12 arg13 x0 x3 x4 x5 (blocks v12 v14 x0 x3 x4 x5 (i 1).val s (2 * n))) $$ [H]
  rotate_left
  · iexact H
  rotate_left
  · intro k acc
    have hk : k.val < (15 - (i 1).val) / 2 := lt_of_lt_of_eq k.isLt (trips_eq i)
    exact trip c i arg2 harg2 arg3 harg3 arg4 harg4 arg5 harg5 arg6 harg6 arg7 harg7 arg8 harg8 arg9 harg9 arg10 harg10 arg11 harg11 arg12 harg12 arg13 harg13 a1 v12 v14 w0 w1 w2 x0 x3 x4 x5 _ k acc E
      (Fin.ofNat 16 ((i 1).val + 1 + 2 * k.val)) (Fin.ofNat 16 ((i 1).val + 1 + (2 * k.val + 1)))
      (by simp only [Fin.ofNat]; omega) (by simp only [Fin.ofNat]; omega)
  rotate_left
  iintro %acc H
  sl_for0 (trips_two i)
  rw [show Scf.trips (k0_t1_loop i).lb (k0_t1_loop i).ub (k0_t1_loop i).st = (15 - (i 1).val) / 2 from trips_eq i]
  generalize hs' : blocks v12 v14 x0 x3 x4 x5 (i 1).val s (2 * ((15 - (i 1).val) / 2)) = s'
  obtain ⟨s1, s2, s3⟩ := s'
  unfold loopRes owns
  icases H with ⟨⟨%f0, %hf0, H0⟩, ⟨%f3, %hf3, H3⟩, ⟨%f4, %hf4, H4⟩, ⟨%f5, %hf5, H5⟩, ⟨%g1, %hg1, G1⟩, ⟨%g2, %hg2, G2⟩, ⟨%g3, %hg3, G3⟩⟩
  by_cases hc : (15 - (i 1).val) % 2 = 1
  · have hc2 := (cond2_iff i).mpr hc
    simp only [k0_part5_eq_skeleton]
    sl_exec (disch := exact hc2)
    sl_step
    have hfin : blocks v12 v14 x0 x3 x4 x5 (i 1).val s (15 - (i 1).val) = blockStep v12 v14 x0 x3 x4 x5 15 (s1, s2, s3) := by
      rw [show 15 - (i 1).val = 2 * ((15 - (i 1).val) / 2) + 1 by omega, blocks, hs']
      congr 1
      apply Fin.ext
      simp only [Fin.ofNat]
      show _ = 15
      omega
    rw [hfin]
    have e5 : (![0, 7680, 0] : Fin 3 → ℕ) = ![0, 512 * (15 : Fin 16).val, 0] := rfl
    have e6 : (![7680, 0] : Fin 2 → ℕ) = ![512 * (15 : Fin 16).val, 0] := rfl
    have e7 : (![0, 15, 0, 0] : Fin 4 → ℕ) = ![0, (15 : Fin 16).val, 0, 0] := rfl
    have hq : View.readAt (Elt F) arg2.view (Rect.unit (s := S1x8192x256) ![0, 7680, 0] S1x512x256.size inb_S1x8192x256_S1x512x256_0_7680_0).toLoadRect f0 = qRows x0 15 := by
      rw [View.readAt_unit _ _ _ e5, hf0]
    have ho : View.readAt (Elt F) arg5.view (Rect.unit (s := S8192x128) ![7680, 0] S512x128.size inb_S8192x128_S512x128_7680_0).toLoadRect f3 = oRows x3 15 := by
      rw [View.readAt_unit _ _ _ e6, hf3]
    have hl : View.readAt (Elt F) arg6.view (Rect.unit (s := S1x16x8x512) ![0, 15, 0, 0] S1x1x8x512.size inb_S1x16x8x512_S1x1x8x512_0_15_0_0).toLoadRect f4 = sRows x4 15 := by
      rw [View.readAt_unit _ _ _ e7, hf4]
    have hd : View.readAt (Elt F) arg7.view (Rect.unit (s := S1x16x8x512) ![0, 15, 0, 0] S1x1x8x512.size inb_S1x16x8x512_S1x1x8x512_0_15_0_0).toLoadRect f5 = sRows x5 15 := by
      rw [View.readAt_unit _ _ _ e7, hf5]
    have hg : View.readAt (Elt F) arg11.view (Rect.unit (s := S8192x256) ![7680, 0] S512x256.size inb_S8192x256_S512x256_7680_0).toLoadRect g1 = gRows s1 15 := by
      rw [View.readAt_unit _ _ _ e6, hg1]
    have hk : View.readAt (Elt F) arg12.view (Rect.unit (s := S512x256) ![0, 0] S512x256.size inb_S512x256_S512x256_0_0).toLoadRect g2 = s2 := by
      rw [View.readAt_full (s := S512x256), hg2]
    have hv : View.readAt (Elt F) arg13.view (Rect.unit (s := S128x512) ![0, 0] S128x512.size inb_S128x512_S128x512_0_0).toLoadRect g3 = s3 := by
      rw [View.readAt_full (s := S128x512), hg3]
    isplitr
    · ipureintro
      congr 1
      simp only [blockStep]
      sl_open_run
      simp only [View.readCov_full (s := S512x256), hq, ho, hl, hd, hk]
      sl_open_pay
      rfl
    isplitl [H0]
    · iexists _; isplitr; · ipureintro; exact hf0
      iexact H0
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [G1]
    · iexists _; isplitr; rotate_left; · iexact G1
      ipureintro
      rw [View.read_writes_cons_put _ _ _ _ _ e6, View.writes_nil, hg1]
      simp only [blockStep]
      sl_open_run
      simp only [hq, ho, hl, hd, hg]
      sl_open_pay
      rfl
    isplitl [G2]
    · iexists _; isplitr; rotate_left; · iexact G2
      ipureintro
      sl_open_run
      rw [View.read_writes_full (s := S512x256)]
      simp only [blockStep]
      simp only [hq, ho, hl, hd, hk]
      sl_open_pay
      rfl
    · iexists _; isplitr; rotate_left; · iexact G3
      ipureintro
      rw [View.read_writes_full (s := S128x512)]
      simp only [blockStep]
      simp only [hq, ho, hl, hd, hv]
      sl_open_pay
      rfl
  · have hc2 := fun h => hc ((cond2_iff i).mp h)
    sl_exec (disch := exact hc2)
    sl_step
    have hfin : blocks v12 v14 x0 x3 x4 x5 (i 1).val s (15 - (i 1).val) = (s1, s2, s3) := by
      rw [show 15 - (i 1).val = 2 * ((15 - (i 1).val) / 2) by omega, hs']
    rw [hfin]
    isplitr
    · ipureintro
      congr 1
      sl_open_run
      rw [View.readAt_full (s := S512x256), hg2]
    isplitl [H0]
    · iexists _; isplitr; · ipureintro; exact hf0
      iexact H0
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [G1]
    · iexists _; isplitr; · ipureintro; exact hg1
      iexact G1
    isplitl [G2]
    · iexists _; isplitr; · ipureintro; exact hg2
      iexact G2
    · iexists _; isplitr; · ipureintro; exact hg3
      iexact G3

end Cert.FlashRun

end
-- ==== Proof.FlashBody.lean ====
/-
  A whole grid point of the attention gradient: its own block, the later blocks, and the results it writes.
-/
module

public import proofs.«01_k».proof.Proof.FlashTail
public import Idealize.ShloMosaic.Lib.LoopRemainder
public import Idealize.ShloMosaic.Lib.Tactic.Stretches

@[expose] public section

set_option maxRecDepth 16384

noncomputable section

namespace Cert.FlashRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FlashIdeal Cert.FlashIdeal.Gen

variable {F : FTy → Type} [FloatOps F]

local notation "𝕄" => MT nD τ sig Unit (Elt F) ℕ (UR sig nD τ) ℕ

/-- The first point of a head clears the query gradient. -/
theorem cond1_iff : ∀ i : grid0.Coords, Scalar.cmpi .ne (Scalar.extui (Scalar.cmpi .eq (BitVec.ofNat 32 (i 1).val) 0#32)) 0#32 = 1#1 ↔ (i 1).val = 0 := by decide +kernel

/-- The rest of a point, as the run of the whole point takes it. -/
abbrev Later (c : Dev nD) (i : grid0.Coords) (arg2 : Memref sig .tc .vmem S1x8192x256 .bf16) (harg2 : arg2.IsWhole) (arg3 : Memref sig .tc .vmem S1x512x256 .bf16) (harg3 : arg3.IsWhole) (arg4 : Memref sig .tc .vmem S1x512x128 .bf16) (harg4 : arg4.IsWhole) (arg5 : Memref sig .tc .vmem S8192x128 .bf16) (harg5 : arg5.IsWhole) (arg6 : Memref sig .tc .vmem S1x16x8x512 .f32) (harg6 : arg6.IsWhole) (arg7 : Memref sig .tc .vmem S1x16x8x512 .f32) (harg7 : arg7.IsWhole) (arg8 : Memref sig .tc .vmem S1x8192x256 .bf16) (harg8 : arg8.IsWhole) (arg9 : Memref sig .tc .vmem S1x512x256 .bf16) (harg9 : arg9.IsWhole) (arg10 : Memref sig .tc .vmem S1x512x128 .bf16) (harg10 : arg10.IsWhole) (arg11 : Memref sig .tc .vmem S8192x256 .f32) (harg11 : arg11.IsWhole) (arg12 : Memref sig .tc .vmem S512x256 .f32) (harg12 : arg12.IsWhole) (arg13 : Memref sig .tc .vmem S128x512 .f32) (harg13 : arg13.IsWhole)
    (E : Set ℕ) : Prop :=
  ∀ (x0 : Vec F S1x8192x256 .bf16) (x3 : Vec F S8192x128 .bf16) (x4 x5 : Vec F S1x16x8x512 .f32) (s1 : Vec F S8192x256 .f32) (s2 : Vec F S512x256 .f32) (s3 : Vec F S128x512 .f32)
    (a1 : BitVec 32) (v12 : FVec F S512x256 .bf16) (v14 : FVec F S512x128 .bf16) (w0 w1 w2 : BitVec 32),
    (iprop(owns (c : Thread nD τ) arg2 fullShare x0 ∗ owns (c : Thread nD τ) arg5 fullShare x3 ∗ owns (c : Thread nD τ) arg6 fullShare x4
    ∗ owns (c : Thread nD τ) arg7 fullShare x5 ∗ owns (c : Thread nD τ) arg11 fullShare s1 ∗ owns (c : Thread nD τ) arg12 fullShare s2
    ∗ owns (c : Thread nD τ) arg13 fullShare s3) : sProp 𝕄) ⊢
      wp frame (wpE (defs₀ (F := F)) Variants.none (c : Thread nD τ) none) E
        (k0_part9 (F := F) i arg2 harg2 arg3 harg3 arg4 harg4 arg5 harg5 arg6 harg6 arg7 harg7 arg8 harg8 arg9 harg9 arg10 harg10 arg11 harg11 arg12 harg12 arg13 harg13 a1 v12 v14 w0 w1 w2)
        fun v => iprop(⌜v = k0_pay58 (blocks v12 v14 x0 x3 x4 x5 (i 1).val (s1, s2, s3) (15 - (i 1).val)).2.1⌝ ∗ loopRes c arg2 arg5 arg6 arg7 arg11 arg12 arg13 x0 x3 x4 x5
          (blocks v12 v14 x0 x3 x4 x5 (i 1).val (s1, s2, s3) (15 - (i 1).val)))

set_option maxHeartbeats 4000000 in
theorem body (c : Dev nD) (i : grid0.Coords) (arg2 : Memref sig .tc .vmem S1x8192x256 .bf16) (harg2 : arg2.IsWhole) (arg3 : Memref sig .tc .vmem S1x512x256 .bf16) (harg3 : arg3.IsWhole) (arg4 : Memref sig .tc .vmem S1x512x128 .bf16) (harg4 : arg4.IsWhole) (arg5 : Memref sig .tc .vmem S8192x128 .bf16) (harg5 : arg5.IsWhole) (arg6 : Memref sig .tc .vmem S1x16x8x512 .f32) (harg6 : arg6.IsWhole) (arg7 : Memref sig .tc .vmem S1x16x8x512 .f32) (harg7 : arg7.IsWhole) (arg8 : Memref sig .tc .vmem S1x8192x256 .bf16) (harg8 : arg8.IsWhole) (arg9 : Memref sig .tc .vmem S1x512x256 .bf16) (harg9 : arg9.IsWhole) (arg10 : Memref sig .tc .vmem S1x512x128 .bf16) (harg10 : arg10.IsWhole) (arg11 : Memref sig .tc .vmem S8192x256 .f32) (harg11 : arg11.IsWhole) (arg12 : Memref sig .tc .vmem S512x256 .f32) (harg12 : arg12.IsWhole) (arg13 : Memref sig .tc .vmem S128x512 .f32) (harg13 : arg13.IsWhole)
    (x0 : Vec F S1x8192x256 .bf16) (x1 : Vec F S1x512x256 .bf16) (x2 : Vec F S1x512x128 .bf16) (x3 : Vec F S8192x128 .bf16) (x4 x5 : Vec F S1x16x8x512 .f32)
    (y : Vec F S1x8192x256 .bf16) (g : Vec F S8192x256 .f32) (E : Set ℕ) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare y ∗ (∃ d, owns (c : Thread nD τ) arg9 fullShare d) ∗ (∃ d, owns (c : Thread nD τ) arg10 fullShare d)
      ∗ owns (c : Thread nD τ) arg11 fullShare g ∗ (∃ d, owns (c : Thread nD τ) arg12 fullShare d) ∗ (∃ d, owns (c : Thread nD τ) arg13 fullShare d)) ⊢
      wp frame (wpE (defs₀ (F := F)) Variants.none (c : Thread nD τ) none) E
        (cc0_flash_bwd (F := F) i arg2 harg2 arg3 harg3 arg4 harg4 arg5 harg5 arg6 harg6 arg7 harg7 arg8 harg8 arg9 harg9 arg10 harg10 arg11 harg11 arg12 harg12 arg13 harg13)
        fun _ => (iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare (if (i 1).val = 15 then k0_pay3 (point (i 1) x0 x1 x2 x3 x4 x5 g).1 else y)
      ∗ owns (c : Thread nD τ) arg9 fullShare (k0_pay1 (k0_pay58 (point (i 1) x0 x1 x2 x3 x4 x5 g).2.1))
      ∗ owns (c : Thread nD τ) arg10 fullShare (k0_pay2 (point (i 1) x0 x1 x2 x3 x4 x5 g).2.2)
      ∗ owns (c : Thread nD τ) arg11 fullShare (point (i 1) x0 x1 x2 x3 x4 x5 g).1
      ∗ (∃ d, owns (c : Thread nD τ) arg12 fullShare d) ∗ (∃ d, owns (c : Thread nD τ) arg13 fullShare d)) : sProp 𝕄) := by
  have hcut : Later (F := F) c i arg2 harg2 arg3 harg3 arg4 harg4 arg5 harg5 arg6 harg6 arg7 harg7 arg8 harg8 arg9 harg9 arg10 harg10 arg11 harg11 arg12 harg12 arg13 harg13 E := fun x0 x3 x4 x5 s1 s2 s3 a1 v12 v14 w0 w1 w2 =>
    later c i arg2 harg2 arg3 harg3 arg4 harg4 arg5 harg5 arg6 harg6 arg7 harg7 arg8 harg8 arg9 harg9 arg10 harg10 arg11 harg11 arg12 harg12 arg13 harg13 v12 v14 x0 x3 x4 x5 (s1, s2, s3) a1 w0 w1 w2 E
  unfold Later loopRes at hcut
  simp only [cc0_flash_bwd_eq_skeleton]
  unfold cc0_flash_bwd_skel
  simp only [k0_part6_eq_skeleton, k0_part7_eq_skeleton, k0_part8_eq_skeleton]
  unfold owns at *
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hf7, H7⟩, ⟨%d8, %f8, %hf8, H8⟩, ⟨%g1, %hg1, G1⟩, ⟨%d2, %g2, %hg2, G2⟩, ⟨%d3, %g3, %hg3, G3⟩⟩
  have hq : View.readAt (Elt F) arg2.view (Rect.unit (s := S1x8192x256) (k0_off1 i) S1x512x256.size (k0_off1_inb i)).toLoadRect f0 = qRows x0 (i 1) := by
    rw [View.readAt_unit _ _ _ (k0_off1_eq i), hf0]
  have ho : View.readAt (Elt F) arg5.view (Rect.unit (s := S8192x128) (k0_off2 i) S512x128.size (k0_off2_inb i)).toLoadRect f3 = oRows x3 (i 1) := by
    rw [View.readAt_unit _ _ _ (k0_off2_eq i), hf3]
  have hl : View.readAt (Elt F) arg6.view (Rect.unit (s := S1x16x8x512) (k0_off3 i) S1x1x8x512.size (k0_off3_inb i)).toLoadRect f4 = sRows x4 (i 1) := by
    rw [View.readAt_unit _ _ _ (k0_off3_eq i), hf4]
  have hd : View.readAt (Elt F) arg7.view (Rect.unit (s := S1x16x8x512) (k0_off3 i) S1x1x8x512.size (k0_off3_inb i)).toLoadRect f5 = sRows x5 (i 1) := by
    rw [View.readAt_unit _ _ _ (k0_off3_eq i), hf5]
  have hx1 : View.readAt (Elt F) arg3.view (Rect.unit (s := S1x512x256) ![0, 0, 0] S1x512x256.size inb_S1x512x256_S1x512x256_0_0_0).toLoadRect f1 = x1 := by
    rw [View.readAt_full (s := S1x512x256), hf1]
  have hx2 : View.readAt (Elt F) arg4.view (Rect.unit (s := S1x512x128) ![0, 0, 0] S1x512x128.size inb_S1x512x128_S1x512x128_0_0_0).toLoadRect f2 = x2 := by
    rw [View.readAt_full (s := S1x512x128), hf2]
  have h15 : (i 1).val = 15 → ¬ (i 1).val = 0 := by omega
  by_cases h0 : (i 1).val = 0
  on_goal 1 =>
    have hc1 := (cond1_iff i).mpr h0
    have hc3 : ¬ k0_cond3 i = 1#1 := fun h => h15 ((cond3_iff i).mp h) h0
    have hst : start (F := F) (i 1).val g = k0_pay32 := if_pos h0
    sl_exec (disch := first | exact hc1 | exact hc3)
    sl_step
    have e : ((View.read (Elt F) arg11.view fk0_part9_4, View.read (Elt F) arg12.view fk0_part9_5, View.read (Elt F) arg13.view fk0_part9_6) : St F) = point (i 1) x0 x1 x2 x3 x4 x5 g := by
      rw [hk0_part9_9, hk0_part9_11, hk0_part9_13]
      simp only [Prod.mk.eta]
      unfold point diagStep
      rw [hst]
      sl_open_run
      rw [View.read_writes_cons_put _ _ _ _ _ (k0_off4_eq i), View.read_writes_full (s := S8192x256), View.read_writes_full (s := S512x256), View.read_writes_full (s := S128x512),
        View.readAt_unit _ _ _ (k0_off4_eq i), View.read_writes_full (s := S8192x256), View.readCov_full (s := S512x256), View.readCov_full (s := S128x512), hf0, hf3, hf4, hf5]
    have e6 := hf6.trans (if_neg fun h => h15 h h0 : (if (i 1).val = 15 then k0_pay3 (point (i 1) x0 x1 x2 x3 x4 x5 g).1 else y) = y).symm
  on_goal 2 =>
    have hc1 := fun h => h0 ((cond1_iff i).mp h)
    have hst : start (F := F) (i 1).val g = g := if_neg h0
    by_cases hl15 : (i 1).val = 15
  on_goal 2 =>
    have hc3 := (cond3_iff i).mpr hl15
    sl_exec (disch := first | exact hc1 | exact hc3)
    sl_step
    have e : ((View.read (Elt F) arg11.view fk0_part9_4, View.read (Elt F) arg12.view fk0_part9_5, View.read (Elt F) arg13.view fk0_part9_6) : St F) = point (i 1) x0 x1 x2 x3 x4 x5 g := by
      rw [hk0_part9_9, hk0_part9_11, hk0_part9_13]
      simp only [Prod.mk.eta]
      unfold point diagStep
      rw [hst]
      sl_open_run
      rw [View.read_writes_cons_put _ _ _ _ _ (k0_off4_eq i), View.writes_nil, hg1, View.read_writes_full (s := S512x256), View.read_writes_full (s := S128x512),
        View.readAt_unit _ _ _ (k0_off4_eq i), hg1, View.readCov_full (s := S512x256), View.readCov_full (s := S128x512), hf0, hf3, hf4, hf5]
    have e6 : View.read (Elt F) arg8.view (arg8.view.writes (Elt F) f6 [⟨Rect.unit ![0, 0, 0] S1x8192x256.size inb_S1x8192x256_S1x8192x256_0_0_0, k0_pay3 (View.readAt (Elt F) arg11.view (Rect.unit ![0, 0] S8192x256.size inb_S8192x256_S8192x256_0_0).toLoadRect fk0_part9_4)⟩])
        = if (i 1).val = 15 then k0_pay3 (point (i 1) x0 x1 x2 x3 x4 x5 g).1 else y := by
      rw [if_pos hl15, View.read_writes_full (s := S1x8192x256), View.readAt_full (s := S8192x256)]
      exact congrArg k0_pay3 (congrArg Prod.fst e)
  on_goal 3 =>
    have hc3 := fun h => hl15 ((cond3_iff i).mp h)
    sl_exec (disch := first | exact hc1 | exact hc3)
    sl_step
    have e : ((View.read (Elt F) arg11.view fk0_part9_4, View.read (Elt F) arg12.view fk0_part9_5, View.read (Elt F) arg13.view fk0_part9_6) : St F) = point (i 1) x0 x1 x2 x3 x4 x5 g := by
      rw [hk0_part9_9, hk0_part9_11, hk0_part9_13]
      simp only [Prod.mk.eta]
      unfold point diagStep
      rw [hst]
      sl_open_run
      rw [View.read_writes_cons_put _ _ _ _ _ (k0_off4_eq i), View.writes_nil, hg1, View.read_writes_full (s := S512x256), View.read_writes_full (s := S128x512),
        View.readAt_unit _ _ _ (k0_off4_eq i), hg1, View.readCov_full (s := S512x256), View.readCov_full (s := S128x512), hf0, hf3, hf4, hf5]
    have e6 := hf6.trans (if_neg hl15 : (if (i 1).val = 15 then k0_pay3 (point (i 1) x0 x1 x2 x3 x4 x5 g).1 else y) = y).symm
  all_goals
    have e1 := congrArg Prod.fst e
    have e2 := congrArg (fun s => s.2.1) e
    have e3 := congrArg (fun s => s.2.2) e
    dsimp only at e1 e2 e3
    isplitl [Hk0_part9_2]
    · iexists _; isplitr; · ipureintro; exact hk0_part9_1.trans hf0
      iexact Hk0_part9_2
    isplitl [H1]
    · iexists _; isplitr; · ipureintro; exact hf1
      iexact H1
    isplitl [H2]
    · iexists _; isplitr; · ipureintro; exact hf2
      iexact H2
    isplitl [Hk0_part9_4]
    · iexists _; isplitr; · ipureintro; exact hk0_part9_3.trans hf3
      iexact Hk0_part9_4
    isplitl [Hk0_part9_6]
    · iexists _; isplitr; · ipureintro; exact hk0_part9_5.trans hf4
      iexact Hk0_part9_6
    isplitl [Hk0_part9_8]
    · iexists _; isplitr; · ipureintro; exact hk0_part9_7.trans hf5
      iexact Hk0_part9_8
    isplitl [H6]
    · iexists _; isplitr; rotate_left; · iexact H6
      ipureintro
      exact e6
    isplitl [H7]
    · iexists _; isplitr; rotate_left; · iexact H7
      ipureintro
      rw [View.read_writes_full (s := S1x512x256), hk0_part9_0, ← hk0_part9_11, e2]
    isplitl [H8]
    · iexists _; isplitr; rotate_left; · iexact H8
      ipureintro
      rw [View.read_writes_full (s := S1x512x128), View.readAt_full (s := S128x512), e3]
    isplitl [Hk0_part9_10]
    · iexists _; isplitr; · ipureintro; exact e1
      iexact Hk0_part9_10
    isplitl [Hk0_part9_12]
    · iexists (View.read (Elt F) arg12.view fk0_part9_5), _; isplitr; · ipureintro; exact rfl
      iexact Hk0_part9_12
    · iexists (View.read (Elt F) arg13.view fk0_part9_6), _; isplitr; · ipureintro; exact rfl
      iexact Hk0_part9_14

end Cert.FlashRun

end
-- ==== Proof.FlashFrame.lean ====
/-
  The attention gradient's whole run: every grid point's body, the query gradient carried from point to point, and what
  the three results hold when the pipeline is done.
-/
module

public import proofs.«01_k».proof.Proof.FlashBody
public import proofs.«01_k».proof.Proof.Gen.FlashIdeal.Frame
public import proofs.«01_k».proof.Proof.Gen.FlashIdeal.Launch
public import Idealize.ShloMosaic.Lib.Claim

@[expose] public section

set_option maxRecDepth 16384

noncomputable section

namespace Cert.FlashRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashIdeal Cert.FlashIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second grid coordinate counts the blocks of a head. -/
theorem coord_one : ∀ t : Fin cfg0.N, (grid0.coords t 1).val = t.val % 16 := by decide +kernel

/-- A point's state over its own blocks, from the query gradient it finds. -/
def stepAt (c : Dev nD) (t : Fin cfg0.N) (g : Vec F S8192x256 .f32) : St F :=
  point (grid0.coords t 1) (iblk m c 0 t) (iblk m c 1 t) (iblk m c 2 t) (iblk m c 3 t) (iblk m c 4 t) (iblk m c 5 t) g

/-- The state after each point. -/
def gradAt (c : Dev nD) : (n : ℕ) → n < cfg0.N → St F
  | 0, h => stepAt m c ⟨0, h⟩ k0_pay32
  | n + 1, h => stepAt m c ⟨n + 1, h⟩ (gradAt c n (Nat.lt_of_succ_lt h)).1

/-- The first point of a head does not look at the query gradient it finds. -/
theorem stepAt_first (c : Dev nD) (t : Fin cfg0.N) (h : t.val % 16 = 0) (g g' : Vec F S8192x256 .f32) : stepAt m c t g = stepAt m c t g' := by
  unfold stepAt point start
  rw [if_pos ((coord_one t).trans h), if_pos ((coord_one t).trans h)]

abbrev scratchQ : Memref sig .tc .vmem S8192x256 .f32 := Memref.whole cc0_scratch0
abbrev scratchK : Memref sig .tc .vmem S512x256 .f32 := Memref.whole cc0_scratch1
abbrev scratchV : Memref sig .tc .vmem S128x512 .f32 := Memref.whole cc0_scratch2

/-- The scratch arrays and the generator register before the first point: anything. -/
theorem anyScratch_eq (c : Dev nD) : (Pipeline.ΦA spec0 c : sProp 𝕄)
    = iprop(((∃ d, owns (c : Thread nD τ) scratchQ fullShare d) ∗ (∃ d, owns (c : Thread nD τ) scratchK fullShare d) ∗ (∃ d, owns (c : Thread nD τ) scratchV fullShare d))
      ∗ ∃ r, prngReg c r) := by
  unfold Pipeline.ΦA; rw [scopedRest0_eq]; simp only [scratchQ, scratchK, scratchV, owns_whole]; try rfl

/-- What is carried from point to point: the query gradient; the other two scratch arrays hold anything. -/
def carried (c : Dev nD) (g : Vec F S8192x256 .f32) : sProp 𝕄 :=
  iprop((owns (c : Thread nD τ) scratchQ fullShare g ∗ (∃ d, owns (c : Thread nD τ) scratchK fullShare d) ∗ (∃ d, owns (c : Thread nD τ) scratchV fullShare d))
    ∗ ∃ r, prngReg c r)

/-- The invariant between points. -/
def between (c : Dev nD) : (n : ℕ) → n ≤ cfg0.N → sProp 𝕄
  | 0, _ => Pipeline.ΦA spec0 c
  | n + 1, h => carried c (gradAt m c n h).1

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (gradAt m c t.val t.isLt).1
    | ⟨7, _⟩ => k0_pay1 (k0_pay58 (gradAt m c t.val t.isLt).2.1)
    | ⟨8, _⟩ => k0_pay2 (gradAt m c t.val t.isLt).2.2
  Φ t := between m c t.val (Nat.le_of_lt_succ t.isLt)
  q _ := fullShare
  owed _ := 0

theorem A_eq (c : Dev nD) (w : Fin cfg0.W) : (dats m 0 c).A w = V m c (Pipeline.arrRef spec0 w) := by dsimp only [dats]

theorem between_castSucc (c : Dev nD) (t : Fin cfg0.N) : (dats m 0 c).Φ t.castSucc = between m c t.val (Nat.le_of_lt t.isLt) := by
  dsimp only [dats]; exact Pipeline.Dat.Φ_castSucc (between m c) t

theorem after_q (c : Dev nD) (t : Fin cfg0.N) : (dats m 0 c).after 6 t = k0_pay3 (gradAt m c t.val t.isLt).1 := by dsimp only [dats]
theorem after_k (c : Dev nD) (t : Fin cfg0.N) : (dats m 0 c).after 7 t = k0_pay1 (k0_pay58 (gradAt m c t.val t.isLt).2.1) := by dsimp only [dats]
theorem after_v (c : Dev nD) (t : Fin cfg0.N) : (dats m 0 c).after 8 t = k0_pay2 (gradAt m c t.val t.isLt).2.2 := by dsimp only [dats]

theorem found0 (c : Dev nD) (t : Fin cfg0.N) (d) : (dats m 0 c).before 0 t d = iblk m c 0 t := before0_0_of m (dats m 0 c) (A_eq m c 0) (fun t => by dsimp only [dats]) t d
theorem found1 (c : Dev nD) (t : Fin cfg0.N) (d) : (dats m 0 c).before 1 t d = iblk m c 1 t := before0_1_of m (dats m 0 c) (A_eq m c 1) (fun t => by dsimp only [dats]) t d
theorem found2 (c : Dev nD) (t : Fin cfg0.N) (d) : (dats m 0 c).before 2 t d = iblk m c 2 t := before0_2_of m (dats m 0 c) (A_eq m c 2) (fun t => by dsimp only [dats]) t d
theorem found3 (c : Dev nD) (t : Fin cfg0.N) (d) : (dats m 0 c).before 3 t d = iblk m c 3 t := before0_3_of m (dats m 0 c) (A_eq m c 3) (fun t => by dsimp only [dats]) t d
theorem found4 (c : Dev nD) (t : Fin cfg0.N) (d) : (dats m 0 c).before 4 t d = iblk m c 4 t := before0_4_of m (dats m 0 c) (A_eq m c 4) (fun t => by dsimp only [dats]) t d
theorem found5 (c : Dev nD) (t : Fin cfg0.N) (d) : (dats m 0 c).before 5 t d = iblk m c 5 t := before0_5_of m (dats m 0 c) (A_eq m c 5) (fun t => by dsimp only [dats]) t d

/-! The windows' current buffers. -/

abbrev buf0 (t : Fin cfg0.N) : Memref sig .tc .vmem S1x8192x256 .bf16 := win0_0.stage (cfg0.slots t 0)
abbrev buf1 (t : Fin cfg0.N) : Memref sig .tc .vmem S1x512x256 .bf16 := win0_1.stage (cfg0.slots t 1)
abbrev buf2 (t : Fin cfg0.N) : Memref sig .tc .vmem S1x512x128 .bf16 := win0_2.stage (cfg0.slots t 2)
abbrev buf3 (t : Fin cfg0.N) : Memref sig .tc .vmem S8192x128 .bf16 := win0_3.stage (cfg0.slots t 3)
abbrev buf4 (t : Fin cfg0.N) : Memref sig .tc .vmem S1x16x8x512 .f32 := win0_4.stage (cfg0.slots t 4)
abbrev buf5 (t : Fin cfg0.N) : Memref sig .tc .vmem S1x16x8x512 .f32 := win0_5.stage (cfg0.slots t 5)
abbrev buf6 (t : Fin cfg0.N) : Memref sig .tc .vmem S1x8192x256 .bf16 := win0_6.stage (cfg0.slots t 6)
abbrev buf7 (t : Fin cfg0.N) : Memref sig .tc .vmem S1x512x256 .bf16 := win0_7.stage (cfg0.slots t 7)
abbrev buf8 (t : Fin cfg0.N) : Memref sig .tc .vmem S1x512x128 .bf16 := win0_8.stage (cfg0.slots t 8)

set_option maxHeartbeats 1600000 in
/-- A point from a query gradient it finds, to the state it leaves. -/
theorem sound_point (c : Dev nD) (t : Fin cfg0.N) (g : Vec F S8192x256 .f32) (W : Set ℕ)  :
    (iprop(carried c g ∗ owns (c : Thread nD τ) (buf0 t) fullShare (iblk m c 0 t) ∗ owns (c : Thread nD τ) (buf1 t) fullShare (iblk m c 1 t) ∗ owns (c : Thread nD τ) (buf2 t) fullShare (iblk m c 2 t) ∗ owns (c : Thread nD τ) (buf3 t) fullShare (iblk m c 3 t)
      ∗ owns (c : Thread nD τ) (buf4 t) fullShare (iblk m c 4 t) ∗ owns (c : Thread nD τ) (buf5 t) fullShare (iblk m c 5 t) ∗ (∃ d, owns (c : Thread nD τ) (buf6 t) fullShare ((dats m 0 c).before 6 t d)) ∗ (∃ d, owns (c : Thread nD τ) (buf7 t) fullShare d) ∗ (∃ d, owns (c : Thread nD τ) (buf8 t) fullShare d)) : sProp 𝕄)
    ⊢ wp frame (wpE (defs₀ (F := F)) Variants.none c none) W (bodyAt0 t) (fun _ => (iprop(carried c (stepAt m c t g).1
      ∗ owns (c : Thread nD τ) (buf0 t) fullShare (iblk m c 0 t) ∗ owns (c : Thread nD τ) (buf1 t) fullShare (iblk m c 1 t) ∗ owns (c : Thread nD τ) (buf2 t) fullShare (iblk m c 2 t) ∗ owns (c : Thread nD τ) (buf3 t) fullShare (iblk m c 3 t)
      ∗ owns (c : Thread nD τ) (buf4 t) fullShare (iblk m c 4 t) ∗ owns (c : Thread nD τ) (buf5 t) fullShare (iblk m c 5 t)
      ∗ (∃ d, owns (c : Thread nD τ) (buf6 t) fullShare (if t.val % 16 = 15 then k0_pay3 (stepAt m c t g).1 else (dats m 0 c).before 6 t d))
      ∗ owns (c : Thread nD τ) (buf7 t) fullShare (k0_pay1 (k0_pay58 (stepAt m c t g).2.1)) ∗ owns (c : Thread nD τ) (buf8 t) fullShare (k0_pay2 (stepAt m c t g).2.2)) : sProp 𝕄)) := by
  unfold carried bodyAt0
  iintro ⟨⟨⟨HQ, HK, HV⟩, Hg⟩, H0, H1, H2, H3, H4, H5, ⟨%d6, H6⟩, H7, H8⟩
  iapply wp_wand $$ [HQ HK HV H0 H1 H2 H3 H4 H5 H6 H7 H8]
  · iapply (body c (grid0.coords t) (buf0 t) (hstage0_0 ((cfg0.slots t 0).cast nbuf0_0)) (buf1 t) (hstage0_1 ((cfg0.slots t 1).cast nbuf0_1)) (buf2 t) (hstage0_2 ((cfg0.slots t 2).cast nbuf0_2))
      (buf3 t) (hstage0_3 ((cfg0.slots t 3).cast nbuf0_3)) (buf4 t) (hstage0_4 ((cfg0.slots t 4).cast nbuf0_4)) (buf5 t) (hstage0_5 ((cfg0.slots t 5).cast nbuf0_5))
      (buf6 t) (hstage0_6 ((cfg0.slots t 6).cast nbuf0_6)) (buf7 t) (hstage0_7 ((cfg0.slots t 7).cast nbuf0_7)) (buf8 t) (hstage0_8 ((cfg0.slots t 8).cast nbuf0_8))
      scratchQ (Memref.isWhole_whole _) scratchK (Memref.isWhole_whole _) scratchV (Memref.isWhole_whole _)
      (iblk m c 0 t) (iblk m c 1 t) (iblk m c 2 t) (iblk m c 3 t) (iblk m c 4 t) (iblk m c 5 t) ((dats m 0 c).before 6 t d6) g W)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HQ]; · iexact HQ
    isplitl [HK]; · iexact HK
    iexact HV
  · iintro %_ ⟨H0, H1, H2, H3, H4, H5, H6, H7, H8, HQ, HK, HV⟩
    isplitl [HQ HK HV Hg]
    · isplitl [HQ HK HV]
      · isplitl [HQ]; · iexact HQ
        isplitl [HK]; · iexact HK
        iexact HV
      iexact Hg
    isplitl [H0]; · iexact H0
    isplitl [H1]; · iexact H1
    isplitl [H2]; · iexact H2
    isplitl [H3]; · iexact H3
    isplitl [H4]; · iexact H4
    isplitl [H5]; · iexact H5
    isplitl [H6]; · iexists d6; rw [← coord_one t]; iexact H6
    isplitl [H7]; · iexact H7
    iexact H8

/-! ## The obligation of the pipeline -/

theorem live (w : Fin cfg0.W) (hw : w ≠ 6) (t : Fin cfg0.N) : cfg0.idle w (grid0.coords t) = false := by
  revert hw; revert w; simp only [show cfg0.W = 9 from rfl]; intro w hw; fin_cases w <;> first | rfl | exact absurd rfl hw

theorem leaves_input (c : Dev nD) (w : Fin cfg0.W) (hw : w ≠ 6) (t : Fin cfg0.N) :
    (dats m 0 c).leavesExact w t = owns (c : Thread nD τ) ((cfg0.win w).stage (cfg0.slots t w)) fullShare ((dats m 0 c).after w t) := by
  unfold Dat.leavesExact; rw [live w hw t]

/-- The query gradient's buffer is left alone until the last block of the head, and holds the result then. -/
theorem leaves_q (c : Dev nD) (t : Fin cfg0.N) :
    (∃ d, owns (c : Thread nD τ) (buf6 t) fullShare (if t.val % 16 = 15 then k0_pay3 (gradAt m c t.val t.isLt).1 else (dats m 0 c).before 6 t d) : sProp 𝕄)
      ⊢ (dats m 0 c).leavesExact 6 t := by
  by_cases h : t.val % 16 = 15
  · simp only [if_pos h]
    have hi : cfg0.idle 6 (grid0.coords t) = false := by
      show (!(k0_cond3 (grid0.coords t) == 1#1)) = false
      rw [(cond3_iff _).mpr ((coord_one t).trans h)]; rfl
    unfold Dat.leavesExact; rw [hi, after_q]
    iintro ⟨%d, H⟩; iexact H
  · simp only [if_neg h]
    have hi : cfg0.idle 6 (grid0.coords t) = true := by
      show (!(k0_cond3 (grid0.coords t) == 1#1)) = true
      have : ¬ k0_cond3 (grid0.coords t) = 1#1 := fun e => h ((coord_one t).symm.trans ((cond3_iff _).mp e))
      simpa using this
    rw [Dat.leavesExact_idle _ 6 t hi (Bool.eq_false_iff.mpr fun e => h ((flush0_6 t).mp e))]

/-- The query gradient found at a point, whatever came before. -/
theorem found_gradient (c : Dev nD) (t : Fin cfg0.N) : between m c t.val (Nat.le_of_lt t.isLt)
    ⊢ iprop(∃ g, ⌜stepAt m c t g = gradAt m c t.val t.isLt⌝ ∗ carried c g) := by
  obtain ⟨n, hn⟩ := t
  cases n with
  | zero =>
    show Pipeline.ΦA spec0 c ⊢ _
    rw [anyScratch_eq]
    iintro ⟨⟨⟨%g, HQ⟩, HK, HV⟩, Hg⟩
    iexists g
    isplitr
    · ipureintro; exact stepAt_first m c _ rfl _ _
    unfold carried
    isplitl [HQ HK HV]
    · isplitl [HQ]; · iexact HQ
      isplitl [HK]; · iexact HK
      iexact HV
    iexact Hg
  | succ n =>
    show carried c (gradAt m c n (Nat.lt_of_succ_lt hn)).1 ⊢ _
    iintro H
    iexists _
    isplitr
    swap; · iexact H
    ipureintro; rfl

/-- The carried state forgets what it holds. -/
theorem forget (c : Dev nD) (g : Vec F S8192x256 .f32) : carried c g ⊢ (Pipeline.ΦA spec0 c : sProp 𝕄) := by
  rw [anyScratch_eq]; unfold carried
  iintro ⟨⟨HQ, HK, HV⟩, Hg⟩
  isplitl [HQ HK HV]
  · isplitl [HQ]; · iexists _; iexact HQ
    isplitl [HK]; · iexact HK
    iexact HV
  iexact Hg

set_option maxHeartbeats 1600000 in
theorem sound_body (c : Dev nD) (t : Fin cfg0.N) :
    (iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))) : sProp 𝕄)
    ⊢ wp frame (wpE (defs₀ (F := F)) Variants.none c none) Set.univ (bodyAt0 t) (fun _ =>
      iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t
    ∗ (dats m 0 c).leavesExact 8 t)) := by
  simp only [found0, found1, found2, found3, found4, found5]
  rw [leaves_input m c 0 (by decide), leaves_input m c 1 (by decide), leaves_input m c 2 (by decide), leaves_input m c 3 (by decide),
    leaves_input m c 4 (by decide), leaves_input m c 5 (by decide), leaves_input m c 7 (by decide), leaves_input m c 8 (by decide), after_k, after_v,
    show (dats m 0 c).Φ t.succ = carried c (gradAt m c t.val t.isLt).1 from rfl,
    show (dats m 0 c).owesAt () t.succ = (dats m 0 c).owesAt () t.castSucc from rfl, between_castSucc]
  iintro ⟨HΦ, Ho, ⟨%d0, H0⟩, ⟨%d1, H1⟩, ⟨%d2, H2⟩, ⟨%d3, H3⟩, ⟨%d4, H4⟩, ⟨%d5, H5⟩, H6, ⟨%d7, H7⟩, ⟨%d8, H8⟩⟩
  ihave HΦ' := (found_gradient m c t) $$ HΦ
  icases HΦ' with ⟨%g, %hg, HΦ⟩
  iapply wp_wand $$ [HΦ H0 H1 H2 H3 H4 H5 H6 H7 H8]
  · iapply (sound_point m c t g Set.univ)
    isplitl [HΦ]; · iexact HΦ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8
  · rw [hg]
    iintro %_ ⟨HΦ, H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves_q m c t); iexact H6
    isplitl [H7]; · iexact H7
    iexact H8

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, body_row]
  exact triple_restated (sound_body m c t) rfl .rfl fun _ => .rfl

theorem carried_out (c : Dev nD) : (dats m 0 c).Φ (Fin.last cfg0.N) ⊢ (Pipeline.ΦA spec0 c : sProp 𝕄) := by
  rw [show (dats m 0 c).Φ (Fin.last cfg0.N) = carried c (gradAt m c 127 (by decide)).1 from rfl]
  exact forget c _

set_option backward.isDefEq.respectTransparency.types false in
/-- The run: every array at what the pipeline computes from the proof data, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun c => .rfl) (hout := carried_out m)

/-- The frame: the arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiescent m ρ))) ((θ_run defs _ _).mono (fun _ h => h.2) (run_quiescent m ρ))

end Cert.FlashRun

end
-- ==== Proof.FlashGrid.lean ====
/- The attention gradient's kernel over its grid: the blocks every point reads and the state it leaves, as real numbers. -/
module

public import proofs.«01_k».proof.Proof.FlashHostReal
public import proofs.«01_k».proof.Proof.FlashReal
public import proofs.«01_k».proof.Proof.FlashFrame

@[expose] public section

set_option maxRecDepth 16384

noncomputable section

namespace Cert.FlashRun

open Idealize.ShloMosaic Idealize.ShloMosaic.TcCoe Idealize.ShloMosaic.StableHlo Idealize.SL.Sem
open Cert.FlashIdeal Cert.FlashIdeal.Gen Cert.Lift Cert.Attn

/-! ## One head: the kernel's sums are the gradient's -/

section Head
variable (q k : Fin 8192 → Fin 192 → ℝ) (v o : Fin 8192 → Fin 128 → ℝ) (M : Fin 8192 → ℝ)

/-- The log of a row's normalizer, from its reference value. -/
def lseR (r : Fin 8192) : ℝ := M r + Real.log (∑ j, expo (scores q k) M r j)
/-- The inner product of a row's weights with their gradients. -/
def innerR (r : Fin 8192) : ℝ := ∑ j, prob (scores q k) r j * dprob v o r j

theorem weight_prob (r j : Fin 8192) : weight (wide k) (wide q) (lseR q k M) r j = prob (scores q k) r j := by
  rw [← exp_sub_log (scores q k) M r j]
  unfold weight
  rw [scores_wide]
  rfl

theorem score_dscore (r j : Fin 8192) :
    score (wide k) (wide q) v o (lseR q k M) (innerR q k v o) r j = dscore (scores q k) (dprob v o) r j := by
  unfold score
  rw [weight_prob]
  unfold dscore innerR
  rw [show (∑ d, v j d * o r d) = dprob v o r j from Finset.sum_congr rfl fun d _ => mul_comm _ _]

theorem gradQ_eq (r : Fin 8192) (d : Fin 256) : gradQ (wide k) (wide q) v o (lseR q k M) (innerR q k v o) r d = wide (dq q k v o) r d := by
  unfold gradQ
  simp only [score_dscore]
  unfold wide dq
  split
  · rfl
  · exact Finset.sum_eq_zero fun _ _ => mul_zero _

theorem gradK_eq (j : Fin 8192) (d : Fin 256) : gradK (wide k) (wide q) v o (lseR q k M) (innerR q k v o) j d = wide (dk q k v o) j d := by
  unfold gradK
  simp only [score_dscore]
  unfold wide dk
  split
  · rfl
  · exact Finset.sum_eq_zero fun _ _ => mul_zero _

theorem gradV_eq (j : Fin 8192) (d : Fin 128) : gradV (wide k) (wide q) o (lseR q k M) j d = dv q k o j d := by
  unfold gradV dv
  simp only [weight_prob]

/-- What the first blocks of keys, up to block `j`, give to the query gradient. -/
def partQ (j : Fin 16) (r : Fin 8192) (d : Fin 256) : ℝ :=
  ∑ i : Fin 16, if i.val ≤ j.val then addQ (wide k) (wide q) v o (lseR q k M) (innerR q k v o) i r d else 0

theorem partQ_zero (j : Fin 16) (hj : j.val = 0) (r : Fin 8192) (d : Fin 256) :
    partQ q k v o M j r d = addQ (wide k) (wide q) v o (lseR q k M) (innerR q k v o) j r d := by
  unfold partQ
  rw [Finset.sum_eq_single j]
  · exact if_pos (le_refl _)
  · intro i _ hi
    exact if_neg fun h => hi (Fin.ext (by omega))
  · exact fun h => absurd (Finset.mem_univ _) h

theorem partQ_succ (i j : Fin 16) (hj : j.val = i.val + 1) (r : Fin 8192) (d : Fin 256) :
    partQ q k v o M j r d = partQ q k v o M i r d + addQ (wide k) (wide q) v o (lseR q k M) (innerR q k v o) j r d := by
  unfold partQ
  rw [← Finset.sum_ite_eq' Finset.univ j (fun j => addQ (wide k) (wide q) v o (lseR q k M) (innerR q k v o) j r d) |>.trans (if_pos (Finset.mem_univ j)),
    ← Finset.sum_add_distrib]
  refine Finset.sum_congr rfl fun l _ => ?_
  by_cases h1 : l.val ≤ i.val
  · rw [if_pos (by omega), if_pos h1, if_neg (fun h => by rw [h] at h1; omega), add_zero]
  · by_cases h2 : l = j
    · rw [if_pos (by rw [h2]), if_neg h1, if_pos h2, zero_add]
    · rw [if_neg (fun h => h2 (Fin.ext (by omega))), if_neg h1, if_neg h2, zero_add]

theorem partQ_last (j : Fin 16) (hj : j.val = 15) (r : Fin 8192) (d : Fin 256) : partQ q k v o M j r d = wide (dq q k v o) r d := by
  rw [← gradQ_eq q k v o M]
  unfold partQ gradQ
  rw [← sum_rows]
  refine Finset.sum_congr rfl fun i _ => ?_
  rw [if_pos (by omega)]
  rfl

end Head

/-! ## The blocks a point reads -/

variable (m : (ℓ : Loc nD τ sig) → Buf (Elt Ideal) ℓ)

theorem idx : ∀ t : Fin grid0.N, win0_0.index t = ![t.val / 16, 0, 0] ∧ win0_1.index t = ![t.val / 16, t.val % 16, 0] ∧ win0_2.index t = ![t.val / 16, t.val % 16, 0]
    ∧ win0_3.index t = ![0, t.val / 16] ∧ win0_4.index t = ![t.val / 16, 0, 0, 0] ∧ win0_5.index t = ![t.val / 16, 0, 0, 0]
    ∧ win0_6.index t = ![t.val / 16, 0, 0] ∧ win0_7.index t = ![t.val / 16, t.val % 16, 0] ∧ win0_8.index t = ![t.val / 16, t.val % 16, 0] := by decide +kernel

/-- The head of a point, and its block of keys. -/
def head (t : Fin cfg0.N) : Fin 8 := ⟨t.val / 16, by have : t.val < 128 := t.isLt; omega⟩
def kblk (t : Fin cfg0.N) : Fin 16 := ⟨t.val % 16, by omega⟩

theorem coord_kblk (t : Fin cfg0.N) : grid0.coords t 1 = kblk t := Fin.ext (coord_one t)

section Blocks
variable (c : Dev nD) (t : Fin cfg0.N)

theorem read0 : iblk m c 0 t = fun y => V m c main_v31 (ix3 (head t) (y 1) (y 2)) := by
  funext y
  blk_ext [iblk, idx t, head]

theorem read1 : iblk m c 1 t = fun y => V m c main_v32 (ix3 (head t) (rw' (kblk t) (y 1)) (y 2)) := by
  funext y
  blk_ext [iblk, idx t, head, kblk, rw']

theorem read2 : iblk m c 2 t = fun y => V m c main_arg2 (ix3 (head t) (rw' (kblk t) (y 1)) (y 2)) := by
  funext y
  blk_ext [iblk, idx t, head, kblk, rw']

theorem read3 : iblk m c 3 t = fun y => V m c main_v30 (ix2 (y 0) (col (head t) (y 1))) := by
  funext y
  blk_ext [iblk, idx t, head, col]

/-- The block of a row statistic, of any such array. -/
theorem read_stat (A : S8x16x8x512.Idx → EReal) :
    ((cfg0.win 4).blk t).view.read (Elt Ideal) A = fun y => A (ix4 (head t) (y 1) (y 2) (y 3)) := by
  funext y
  blk_ext [idx t, head]

theorem read4 : iblk m c 4 t = fun y => V m c main_v34 (ix4 (head t) (y 1) (y 2) (y 3)) := by
  unfold iblk
  exact read_stat t _

theorem read5 : iblk m c 5 t = fun y => V m c main_v36 (ix4 (head t) (y 1) (y 2) (y 3)) := by
  funext y
  blk_simp [iblk]
  refine congrArg (V m c main_v36) ?_
  blk_ext [idx t, head]

end Blocks

section Grid
variable {Q K : Fin 8 → Fin 8192 → Fin 192 → ℝ} {W O : Fin 8 → Fin 8192 → Fin 128 → ℝ} {c : Dev nD}
  (hq : m ((c : Thread nD τ).loc main_arg0) = up8 Q) (hk : m ((c : Thread nD τ).loc main_arg1) = up8 K)
  (hw : m ((c : Thread nD τ).loc main_arg2) = up8 W) (ho : m ((c : Thread nD τ).loc main_arg3) = up8 O)
  (M : Fin 8 → Fin 8192 → ℝ) (hM : ∀ h r z, hMax (up8 Q) (up8 K) (ix3 h r z) = ((M h r : ℝ) : EReal)) (t : Fin cfg0.N)

include hq in
theorem blk0 : iblk m c 0 t = up3 (wide (Q (head t))) := by
  rw [read0, V_q, hq]
  funext y
  exact hWide_apply Q _ _ _

include hk in
theorem blk1 : iblk m c 1 t = up3 fun a => wide (K (head t)) (rw' (kblk t) a) := by
  rw [read1, V_k, hk]
  funext y
  exact hWide_apply K _ _ _

include hw in
theorem blk2 : iblk m c 2 t = up3 fun a => W (head t) (rw' (kblk t) a) := by
  rw [read2, V_main_arg2, hw]
  rfl

include ho in
theorem blk3 : iblk m c 3 t = up2 (O (head t)) := by
  rw [read3, V_o, ho]
  funext y
  exact hRows_apply O _ _ _

include hq hk hM in
theorem blk4 : iblk m c 4 t = upT (lseR (Q (head t)) (K (head t)) (M (head t))) := by
  rw [read4, V_lse, hq, hk]
  funext y
  exact (byBlocks_apply _ _ _ _ _).trans (hLog_apply M hM _ _)

include hq hk hw ho hM in
theorem blk5 : iblk m c 5 t = upT (innerR (Q (head t)) (K (head t)) (W (head t)) (O (head t))) := by
  rw [read5, V_delta, hq, hk, hw, ho]
  funext y
  exact (byBlocks_apply _ _ _ _ _).trans (hInner_apply W O M hM _ _)

include hq hk hw ho hM in
theorem step_eq (G : Fin 8192 → Fin 256 → ℝ) : stepAt m c t (up2 G)
    = (up2 fun r d => (if (kblk t).val = 0 then 0 else G r d)
          + addQ (wide (K (head t))) (wide (Q (head t))) (W (head t)) (O (head t)) (lseR (Q (head t)) (K (head t)) (M (head t)))
              (innerR (Q (head t)) (K (head t)) (W (head t)) (O (head t))) (kblk t) r d,
        up2 fun a => wide (dk (Q (head t)) (K (head t)) (W (head t)) (O (head t))) (rw' (kblk t) a),
        up2 fun d a => dv (Q (head t)) (K (head t)) (O (head t)) (rw' (kblk t) a) d) := by
  unfold stepAt
  rw [coord_kblk, blk0 m hq, blk1 m hk, blk2 m hw, blk3 m ho, blk4 m hq hk M hM, blk5 m hq hk hw ho M hM]
  refine (point_eq _ _ _ _ _ _ _ _).trans ?_
  refine congrArg₂ Prod.mk rfl (congrArg₂ Prod.mk ?_ ?_)
  · exact congrArg up2 (funext fun a => funext fun d => gradK_eq _ _ _ _ _ _ _)
  · exact congrArg up2 (funext fun d => funext fun a => gradV_eq _ _ _ _ _ _)

include hq hk hw ho hM in
theorem grad_eq : ∀ (n : ℕ) (h : n < cfg0.N), gradAt m c n h
    = (up2 (partQ (Q (head ⟨n, h⟩)) (K (head ⟨n, h⟩)) (W (head ⟨n, h⟩)) (O (head ⟨n, h⟩)) (M (head ⟨n, h⟩)) (kblk ⟨n, h⟩)),
        up2 fun a => wide (dk (Q (head ⟨n, h⟩)) (K (head ⟨n, h⟩)) (W (head ⟨n, h⟩)) (O (head ⟨n, h⟩))) (rw' (kblk ⟨n, h⟩) a),
        up2 fun d a => dv (Q (head ⟨n, h⟩)) (K (head ⟨n, h⟩)) (O (head ⟨n, h⟩)) (rw' (kblk ⟨n, h⟩) a) d)
  | 0, h => by
    rw [gradAt, pay32_eq, step_eq m hq hk hw ho M hM]
    refine congrArg₂ Prod.mk (congrArg up2 (funext fun r => funext fun d => ?_)) rfl
    rw [partQ_zero _ _ _ _ _ _ rfl, ite_self, zero_add]
  | n + 1, h => by
    rw [gradAt, grad_eq n _, step_eq m hq hk hw ho M hM]
    refine congrArg₂ Prod.mk (congrArg up2 (funext fun r => funext fun d => ?_)) rfl
    by_cases h0 : (kblk ⟨n + 1, h⟩).val = 0
    · rw [if_pos h0, zero_add, partQ_zero _ _ _ _ _ _ h0]
    · have h0' : (n + 1) % 16 ≠ 0 := h0
      have e : head ⟨n, Nat.lt_of_succ_lt h⟩ = head ⟨n + 1, h⟩ := Fin.ext (by show n / 16 = (n + 1) / 16; omega)
      rw [if_neg h0, e, partQ_succ _ _ _ _ _ (kblk ⟨n, Nat.lt_of_succ_lt h⟩) (kblk ⟨n + 1, h⟩) (by show (n + 1) % 16 = n % 16 + 1; omega)]

end Grid

end Cert.FlashRun

end
-- ==== Proof.FlashRead.lean ====
/- The attention gradient's kernel: the three arrays it leaves, as real numbers. -/
module

public import proofs.«01_k».proof.Proof.FlashGrid

@[expose] public section

set_option maxRecDepth 16384

noncomputable section

namespace Cert.FlashRun

open Idealize.ShloMosaic Idealize.ShloMosaic.TcCoe Idealize.SL.Sem
open Cert.FlashIdeal Cert.FlashIdeal.Gen Cert.Lift Cert.Attn

variable (m : (ℓ : Loc nD τ sig) → Buf (Elt Ideal) ℓ)
  {Q K : Fin 8 → Fin 8192 → Fin 192 → ℝ} {W O : Fin 8 → Fin 8192 → Fin 128 → ℝ} {c : Dev nD}
  (hq : m ((c : Thread nD τ).loc main_arg0) = up8 Q) (hk : m ((c : Thread nD τ).loc main_arg1) = up8 K)
  (hw : m ((c : Thread nD τ).loc main_arg2) = up8 W) (ho : m ((c : Thread nD τ).loc main_arg3) = up8 O)
include hq hk hw ho

theorem arr_q : (dats m 0 c).arrAt 6 cfg0.N = up8 fun h => wide (dq (Q h) (K h) (W h) (O h)) := by
  obtain ⟨M, hM⟩ := hMax_exists Q K
  refine (dats m 0 c).arrAt_eq_of_covers 6 _ (by decide +kernel) fun t hf y => ?_
  blk_simp
  rw [after_q, grad_eq m hq hk hw ho M hM]
  dsimp only
  rw [pay3_eq]
  have hi : (((View.whole main_v37_0).slice (win0_6.rect t)).emb y) = ix3 (head t) (y 1) (y 2) := by
    blk_ext [idx t, head]
  rw [hi]
  exact congrArg Real.toEReal (partQ_last _ _ _ _ _ _ ((flush0_6 t).mp hf) _ _)

theorem arr_k : (dats m 0 c).arrAt 7 cfg0.N = up8 fun h => wide (dk (Q h) (K h) (W h) (O h)) := by
  obtain ⟨M, hM⟩ := hMax_exists Q K
  refine (dats m 0 c).arrAt_eq_of_covers 7 _ (by decide +kernel) fun t hf y => ?_
  blk_simp
  rw [after_k, grad_eq m hq hk hw ho M hM]
  dsimp only
  rw [pay1_eq]
  have hi : (((View.whole main_v37_1).slice (win0_7.rect t)).emb y) = ix3 (head t) (rw' (kblk t) (y 1)) (y 2) := by
    blk_ext [idx t, head, kblk, rw']
  rw [hi]
  rfl

theorem arr_v : (dats m 0 c).arrAt 8 cfg0.N = up8 fun h => dv (Q h) (K h) (O h) := by
  obtain ⟨M, hM⟩ := hMax_exists Q K
  refine (dats m 0 c).arrAt_eq_of_covers 8 _ (by decide +kernel) fun t hf y => ?_
  blk_simp
  rw [after_v, grad_eq m hq hk hw ho M hM]
  dsimp only
  rw [pay2_eq]
  have hi : (((View.whole main_v37_2).slice (win0_8.rect t)).emb y) = ix3 (head t) (rw' (kblk t) (y 1)) (y 2) := by
    blk_ext [idx t, head, kblk, rw']
  rw [hi]
  rfl

end Cert.FlashRun

end
-- ==== Proof.FlashRef.lean ====
/- The reference of the attention: its gradients as real numbers, the ones the kernel computes. -/
module

public import proofs.«01_k».proof.Proof.FlashHostReal
public import proofs.«01_k».proof.Proof.Gen.FlashRefIdeal.Run
public import proofs.«01_k».proof.Proof.Gen.FlashRefIdeal.Read

@[expose] public section

set_option maxRecDepth 16384

noncomputable section

namespace Cert.FlashRefIdeal.Tie

open Cert.FlashRefIdeal Cert.FlashRefIdeal.Gen Cert.FlashRefIdeal.Read Idealize.ShloMosaic Idealize.ShloMosaic.TcCoe Idealize.SL.Sem
open Cert.Lift Cert.Attn
open Cert.FlashRun (up8 wninf sge_ofNat)

theorem chunk (r : Fin 8192) : val_main_v6 (F := Ideal) (ix1 r) = BitVec.ofNat 32 (r.val / 64) := by
  unfold val_main_v6 val_main_call0_v13 val_main_call0_v12 val_main_call0_v11 val_main_call0_v10 val_main_call0_v9 val_main_call0_v8
    val_main_call0_v7 val_main_call0_v6 val_main_call0_v5 val_main_call0_v4 val_main_call0_v3 val_main_call0_v2 val_main_call0_v1 val_main_call0_v0
    val_main_v5 val_main_c val_main_call0_c val_main_call0_c_0 signi
  pointwise
  revert r
  decide +kernel

theorem mask (h : Fin 8) (r k : Fin 8192) : val_main_v13_1 (F := Ideal) (ix3 h r k) = if sees r k then 1#1 else 0#1 := by
  pointwise [val_main_v13_1, val_main_v12, val_main_v11, val_main_v10, val_main_v9, val_main_v8, val_main_v7]
  rw [chunk, chunk]
  exact sge_ofNat _ _ (by omega) (by omega)

variable (Q K : Fin 8 → Fin 8192 → Fin 192 → ℝ) (W O : Fin 8 → Fin 8192 → Fin 128 → ℝ)

theorem v13 (h : Fin 8) (r k : Fin 8192) : val_main_v13_0 (F := Ideal) (up8 Q) (up8 K) (ix3 h r k)
    = if sees r k then ((scores (Q h) (K h) r k : ℝ) : EReal) else ⊥ := by
  rw [val_main_v13_0_apply, mask]
  pointwise [val_main_v4, val_main_v0, val_main_v1, val_main_call1_v2, val_main_call1_v0, val_main_cst]
  simp only [coe_mul, coe_sum, wninf]
  by_cases hs : sees r k
  · rw [if_pos hs, if_pos hs]; rfl
  · rw [if_neg hs, if_neg hs]; rfl

theorem max_exists : ∃ M : Fin 8 → Fin 8192 → ℝ, ∀ h r, val_main_v14 (F := Ideal) (up8 Q) (up8 K) (ix2 h r) = ((M h r : ℝ) : EReal) := by
  obtain ⟨M, hM⟩ := rowMax_coe (fun h => scores (Q h) (K h)) (val_main_v13_0 (F := Ideal) (up8 Q) (up8 K)) (val_main_cst_0 (F := Ideal)) (v13 Q K) (fun _ => wninf)
    reducesTo_S8x8192x8192_S8x8192_d2 h_S_
  refine ⟨M, fun h r => ?_⟩
  unfold val_main_v14
  exact hM h r

section Row
variable {Q K} (M : Fin 8 → Fin 8192 → ℝ) (hM : ∀ h r, val_main_v14 (F := Ideal) (up8 Q) (up8 K) (ix2 h r) = ((M h r : ℝ) : EReal))
include hM

theorem v21 (h : Fin 8) (r : Fin 8192) : val_main_v21 (F := Ideal) (up8 Q) (up8 K) (ix2 h r) = ((M h r : ℝ) : EReal) := by
  rw [val_main_v21_apply, hM]
  pointwise [val_main_v20, val_main_cst_2]
  rw [wninf]
  exact bot_sup_eq _

theorem v34 (h : Fin 8) (r k : Fin 8192) : val_main_v34 (F := Ideal) (up8 Q) (up8 K) (ix3 h r k)
    = ((expo (scores (Q h) (K h)) (M h) r k : ℝ) : EReal) := by
  pointwise [val_main_v34, val_main_v33, val_main_v32, val_main_v31]
  rw [v13, v21 M hM]
  unfold expo
  by_cases hs : sees r k
  · rw [if_pos hs, if_pos hs]; rfl
  · rw [if_neg hs, if_neg hs]; rfl

/-- The sum of a row's exponentials. -/
def tot (s : Fin 8192 → Fin 8192 → ℝ) (M : Fin 8192 → ℝ) (r : Fin 8192) : ℝ := ∑ k, expo s M r k

omit hM in
theorem tot_pos (s : Fin 8192 → Fin 8192 → ℝ) (M : Fin 8192 → ℝ) (r : Fin 8192) : 0 < tot s M r := sum_expo_pos s M r

theorem v36 (h : Fin 8) (r : Fin 8192) (z : Fin 1) : val_main_v36 (F := Ideal) (up8 Q) (up8 K) (ix3 h r z)
    = ((tot (scores (Q h) (K h)) (M h) r : ℝ) : EReal) := by
  pointwise [val_main_v36, val_main_v35, val_main_cst_8]
  simp only [v34 M hM, coe_sum]
  rfl

theorem v38 (h : Fin 8) (r k : Fin 8192) : val_main_v38 (F := Ideal) (up8 Q) (up8 K) (ix3 h r k)
    = ((prob (scores (Q h) (K h)) r k : ℝ) : EReal) := by
  pointwise [val_main_v38, val_main_v37]
  rw [v34 M hM, v36 M hM, coe_div _ (tot_pos _ _ _).ne', ← expo_div _ (M h)]
  rfl

theorem v41 (h : Fin 8) (r : Fin 8192) (z : Fin 1) : val_main_v41 (F := Ideal) (up8 Q) (up8 K) (ix3 h r z)
    = ((1 / (tot (scores (Q h) (K h)) (M h) r * tot (scores (Q h) (K h)) (M h) r) : ℝ) : EReal) := by
  pointwise [val_main_v41, val_main_v40, val_main_v39, val_main_cst_9]
  rw [v36 M hM, coe_mul, ← EReal.coe_one, coe_div _ (mul_pos (tot_pos _ _ _) (tot_pos _ _ _)).ne']

omit hM in
theorem v45 (h : Fin 8) (r k : Fin 8192) : val_main_v45 (F := Ideal) (up8 W) (up8 O) (ix3 h r k)
    = ((dprob (W h) (O h) r k : ℝ) : EReal) := by
  pointwise [val_main_v45, val_main_v2, val_main_v3]
  simp only [coe_mul, coe_sum]
  rfl

/-- The sum a row's gradient is corrected by. -/
def corr (s dp : Fin 8192 → Fin 8192 → ℝ) (M : Fin 8192 → ℝ) (r : Fin 8192) : ℝ :=
  ∑ k', dp r k' * (1 / (tot s M r * tot s M r)) * expo s M r k'

theorem v49 (h : Fin 8) (r : Fin 8192) : val_main_v49 (F := Ideal) (up8 Q) (up8 K) (up8 W) (up8 O) (ix2 h r)
    = ((corr (scores (Q h) (K h)) (dprob (W h) (O h)) (M h) r : ℝ) : EReal) := by
  pointwise [val_main_v49, val_main_v48, val_main_v47, val_main_v46, val_main_cst_10]
  simp only [v41 M hM, v45, v34 M hM, coe_mul, coe_sum]
  rfl

theorem v54 (h : Fin 8) (r : Fin 8192) : val_main_v54 (F := Ideal) (up8 Q) (up8 K) (up8 W) (up8 O) (ix2 h r)
    = ((-corr (scores (Q h) (K h)) (dprob (W h) (O h)) (M h) r : ℝ) : EReal) := by
  pointwise [val_main_v54, val_main_v51, val_main_v50, val_main_cst_11]
  simp only [Fin.sum_univ_one, v49 W O M hM, coe_neg]

theorem v57 (h : Fin 8) (r k : Fin 8192) : val_main_v57 (F := Ideal) (up8 Q) (up8 K) (up8 W) (up8 O) (ix3 h r k)
    = ((dscore (scores (Q h) (K h)) (dprob (W h) (O h)) r k : ℝ) : EReal) := by
  pointwise [val_main_v57, val_main_v56, val_main_v55, val_main_v53, val_main_v52]
  rw [v54 W O M hM, v34 M hM, v36 M hM, v45, coe_div _ (tot_pos _ _ _).ne', coe_add, coe_mul, ← dscore_quotient _ (M h)]
  rfl

theorem v58 (h : Fin 8) (r k : Fin 8192) : val_main_v58 (F := Ideal) (up8 Q) (up8 K) (up8 W) (up8 O) (ix3 h r k)
    = ((dscore (scores (Q h) (K h)) (dprob (W h) (O h)) r k : ℝ) : EReal) := by
  rw [val_main_v58_apply, mask, v57 W O M hM]
  pointwise [val_main_call2_v0, val_main_call2_cst]
  by_cases hs : sees r k
  · rw [if_pos hs]; rfl
  · rw [if_neg hs, dscore_masked _ _ _ _ hs]; exact EReal.coe_zero.symm

theorem v60 (h : Fin 8) (r : Fin 8192) (d : Fin 192) : val_main_v60 (F := Ideal) (up8 Q) (up8 K) (up8 W) (up8 O) (ix3 h r d)
    = ((dq (Q h) (K h) (W h) (O h) r d : ℝ) : EReal) := by
  pointwise [val_main_v60, val_main_v1]
  simp only [v58 W O M hM, coe_mul, coe_sum]
  rfl

theorem v59 (h : Fin 8) (r : Fin 8192) (d : Fin 192) : val_main_v59 (F := Ideal) (up8 Q) (up8 K) (up8 W) (up8 O) (ix3 h r d)
    = ((dk (Q h) (K h) (W h) (O h) r d : ℝ) : EReal) := by
  pointwise [val_main_v59, val_main_v0]
  simp only [v58 W O M hM, coe_mul, coe_sum]
  rfl

theorem v44 (h : Fin 8) (r : Fin 8192) (d : Fin 128) : val_main_v44 (F := Ideal) (up8 Q) (up8 K) (up8 O) (ix3 h r d)
    = ((dv (Q h) (K h) (O h) r d : ℝ) : EReal) := by
  pointwise [val_main_v44, val_main_v43, val_main_v3]
  simp only [v38 M hM, coe_mul, coe_sum]
  rfl

end Row

/-- Sixty-four columns of zeros put after a row. -/
theorem pad_apply (X : Fin 8 → Fin 8192 → Fin 192 → ℝ) (x : S8x8192x192.Idx → EReal) (hx : ∀ h r d, x (ix3 h r d) = ((X h r d : ℝ) : EReal))
    (z : S_.Idx → EReal) (hz : ∀ i, z i = 0) (h : Fin 8) (r : Fin 8192) (d : Fin 256) :
    pad S8x8192x256 ![0, 0, 0] ![0, 0, 64] ![0, 0, 0] x z pads_S8x8192x192_S8x8192x256_000_000_0640 h_S_ (ix3 h r d) = ((wide (X h) r d : ℝ) : EReal) := by
  pointwise
  unfold wide
  by_cases hd : d.val < 192
  · rw [dif_pos hd, dif_pos hd]
    exact hx _ _ _
  · rw [dif_neg hd, dif_neg hd]
    exact hz _

theorem r62 : val_main_v62 (F := Ideal) (up8 Q) (up8 K) (up8 W) (up8 O) = up8 fun h => wide (dq (Q h) (K h) (W h) (O h)) := by
  obtain ⟨M, hM⟩ := max_exists Q K
  funext y
  idx_vars y
  exact pad_apply (fun h => dq (Q h) (K h) (W h) (O h)) _ (v60 W O M hM) _ (fun i => by show ((((0#32 : BitVec 32).toInt : ℝ)) : EReal) = _; simp) _ _ _

theorem r64 : val_main_v64 (F := Ideal) (up8 Q) (up8 K) (up8 W) (up8 O) = up8 fun h => wide (dk (Q h) (K h) (W h) (O h)) := by
  obtain ⟨M, hM⟩ := max_exists Q K
  funext y
  idx_vars y
  exact pad_apply (fun h => dk (Q h) (K h) (W h) (O h)) _ (v59 W O M hM) _ (fun i => by show ((((0#32 : BitVec 32).toInt : ℝ)) : EReal) = _; simp) _ _ _

theorem r65 : val_main_v65 (F := Ideal) (up8 Q) (up8 K) (up8 O) = up8 fun h => dv (Q h) (K h) (O h) := by
  obtain ⟨M, hM⟩ := max_exists Q K
  funext y
  idx_vars y
  exact v44 O M hM _ _ _

end Cert.FlashRefIdeal.Tie

end
-- ==== Proof.FlashClaim.lean ====
/- The claims of the attention gradient's kernel: its three results are those of the reference's gradient. -/
module

public import proofs.«01_k».proof.Defs
public import proofs.«01_k».proof.Proof.FlashRead
public import proofs.«01_k».proof.Proof.FlashRef
public import proofs.«01_k».proof.Proof.Gen.Pre_flash_finite
public import Idealize.ShloMosaic.Adequacy
public import Idealize.ShloMosaic.Init

@[expose] public section

set_option maxRecDepth 16384

noncomputable section

namespace Cert.FlashClaim

open Idealize.ShloMosaic Idealize.ShloMosaic.TcCoe Idealize.SL.Sem Cert.Lift
open Cert.FlashRun (up8)

/-- An array of reals of rank three, by its three coordinates. -/
theorem by_coords {n d : ℕ} {x : (⟨3, ![8, n, d]⟩ : Shape).Idx → EReal}
    (h : ∃ X : (⟨3, ![8, n, d]⟩ : Shape).Idx → ℝ, x = fun i => ((X i : ℝ) : EReal)) : ∃ X : Fin 8 → Fin n → Fin d → ℝ, x = up8 X := by
  obtain ⟨X, hX⟩ := h
  refine ⟨fun a b c => X (ix3 a b c), hX.trans (funext fun i => congrArg Real.toEReal (congrArg X (funext fun a => ?_)))⟩
  fin_cases a <;> rfl

/-- Arguments below infinity in absolute value are arrays of reals. -/
theorem reals {m : (ℓ : Loc FlashIdeal.nD FlashIdeal.τ FlashIdeal.sig) → Buf (Elt Ideal) ℓ} (hpre : Pre_FlashIdeal_flash_finite m)
    (c : Dev FlashIdeal.nD) :
    (∃ Q : Fin 8 → Fin 8192 → Fin 192 → ℝ, m ((c : Thread FlashIdeal.nD FlashIdeal.τ).loc FlashIdeal.main_arg0) = up8 Q)
    ∧ (∃ K : Fin 8 → Fin 8192 → Fin 192 → ℝ, m ((c : Thread FlashIdeal.nD FlashIdeal.τ).loc FlashIdeal.main_arg1) = up8 K)
    ∧ (∃ W : Fin 8 → Fin 8192 → Fin 128 → ℝ, m ((c : Thread FlashIdeal.nD FlashIdeal.τ).loc FlashIdeal.main_arg2) = up8 W)
    ∧ (∃ O : Fin 8 → Fin 8192 → Fin 128 → ℝ, m ((c : Thread FlashIdeal.nD FlashIdeal.τ).loc FlashIdeal.main_arg3) = up8 O) :=
  have h := hpre c
  ⟨by_coords (fin_of_mask (extf .f32 _ Pre_flash_finite.Gen.bitsLt_bf16_f32) _ (fun _ => winf) h.1), by_coords (fin_of_mask (extf .f32 _ Pre_flash_finite.Gen.bitsLt_bf16_f32) _ (fun _ => winf) h.2.1),
    by_coords (fin_of_mask (extf .f32 _ Pre_flash_finite.Gen.bitsLt_bf16_f32) _ (fun _ => winf) h.2.2.1), by_coords (fin_of_mask (extf .f32 _ Pre_flash_finite.Gen.bitsLt_bf16_f32) _ (fun _ => winf) h.2.2.2)⟩

set_option maxHeartbeats 1600000 in
theorem flash_value : algebraic_FlashIdeal_FlashRefIdeal_pre_flash_finite := by
  intro m g m' g' hpre hag
  refine ⟨fun c => (Cert.FlashRun.dats m 0 c).arrAt 6 Cert.FlashIdeal.cfg0.N, fun c => (Cert.FlashRun.dats m 0 c).arrAt 7 Cert.FlashIdeal.cfg0.N,
    fun c => (Cert.FlashRun.dats m 0 c).arrAt 8 Cert.FlashIdeal.cfg0.N, ?_, ?_⟩
  · exact (θ_run FlashIdeal.defs _ _).mono (fun r h c => ⟨(h.1.1 c).1 6, (h.1.1 c).1 7, (h.1.1 c).1 8, h.2.1 c⟩)
      (θ_run_and (Cert.FlashRun.run_quiescent m g) (Cert.FlashRun.frame m g))
  refine (θ_run FlashRefIdeal.defs _ _).mono (fun r h c => ?_) (FlashRefIdeal.Value.run m' g')
  obtain ⟨⟨Q, hQ⟩, ⟨K, hK⟩, ⟨W, hW⟩, ⟨O, hO⟩⟩ := reals hpre c
  obtain ⟨e0, e1, e2, e3⟩ := hag c
  obtain ⟨h0, h1, h2, h3⟩ := h c
  have e0 := e0.trans hQ
  have e1 := e1.trans hK
  have e2 := e2.trans hW
  have e3 := e3.trans hO
  refine ⟨h0.trans ?_, h1.trans ?_, h2.trans ?_, h3⟩
  · rw [FlashRefIdeal.Read.val_main_v62_eq, e0, e1, e2, e3]
    exact (FlashRefIdeal.Tie.r62 Q K W O).trans (Cert.FlashRun.arr_q m hQ hK hW hO).symm
  · rw [FlashRefIdeal.Read.val_main_v64_eq, e0, e1, e2, e3]
    exact (FlashRefIdeal.Tie.r64 Q K W O).trans (Cert.FlashRun.arr_k m hQ hK hW hO).symm
  · rw [FlashRefIdeal.Read.val_main_v65_eq, e0, e1, e3]
    exact (FlashRefIdeal.Tie.r65 Q K O).trans (Cert.FlashRun.arr_v m hQ hK hW hO).symm

theorem ref_frame : quiescent_FlashRefIdeal := fun m ρ _ =>
  (θ_run FlashRefIdeal.defs _ _).mono (fun r h => ⟨fun c => (h c).2.2.2, sem_eq_zero_of_no_sems (by decide) r.2⟩)
    (FlashRefIdeal.Value.run m ρ)

end Cert.FlashClaim
end
-- ==== Proof.PrepRead.lean ====
/- The gradient through the normalizations of the two compressed parts: the arrays the kernel leaves, as real numbers. -/
module

public import proofs.«01_k».proof.Proof.NormReal
public import proofs.«01_k».proof.Proof.Gen.PrepIdeal.Value
public import Idealize.ShloMosaic.Lib.Pipeline.ValueKit

@[expose] public section

set_option maxRecDepth 16384

noncomputable section

namespace Cert.PrepIdeal.Read

open Cert.PrepIdeal Cert.PrepIdeal.Gen Idealize.ShloMosaic Idealize.ShloMosaic.TcCoe Idealize.ShloMosaic.StableHlo Idealize.SL.Sem Cert.Lift Cert.NormReal
open Idealize.ShloMosaic.Pipeline (Dat)

theorem w512 : Ideal.ofBits .f32 0x44000000#32 = ((512 : ℝ) : EReal) := by
  simp [Ideal.ofBits, Ideal.ieee, -EReal.coe_mul]; norm_num
theorem w256 : Ideal.ofBits .f32 0x43800000#32 = ((256 : ℝ) : EReal) := by
  simp [Ideal.ofBits, Ideal.ieee, -EReal.coe_mul]; norm_num

/-- A row read at any column, zero past its end. -/
def past {n : ℕ} (f : Fin n → EReal) (k : ℕ) : EReal := if h : k < n then f ⟨k, h⟩ else 0

section Payloads

theorem nrmq_apply (X : S512x512.Idx → ℝ) (a : Fin 512) (b : Fin 512) :
    k0_pay6 (F := Ideal) (fun i => ((X i : ℝ) : EReal)) (ix2 a b) = ((nrm 512 (fun k => X (ix2 a k)) b : ℝ) : EReal) := by
  unfold_payloads
  pointwise
  simp (disch := first | positivity | exact ms_pos _ (by norm_num)) only
    [w512, weps', wzero, coe_add, coe_sub, coe_mul, coe_div, coe_rsqrt, coe_sum]
  rfl

theorem rstdq_apply (X : S512x512.Idx → ℝ) (a : Fin 512) :
    k0_pay5 (F := Ideal) (fun i => ((X i : ℝ) : EReal)) (ix2 a 0) = ((rstd 512 (fun k => X (ix2 a k)) : ℝ) : EReal) := by
  unfold_payloads
  pointwise
  simp (disch := first | positivity | exact ms_pos _ (by norm_num)) only
    [w512, weps', wzero, coe_add, coe_sub, coe_mul, coe_div, coe_rsqrt, coe_sum]
  rfl

theorem dq_apply (X D : S512x512.Idx → ℝ) (G : S1x512.Idx → ℝ) (x : S512x512.Idx) :
    k0_pay9 (F := Ideal) (k0_pay8 (fun i => ((X i : ℝ) : EReal)) (fun i => ((D i : ℝ) : EReal)) (fun i => ((G i : ℝ) : EReal))) x
      = ((dnrm 512 (fun k => X (ix2 (x 0) k)) (fun k => D (ix2 (x 0) k) * G (ix2 0 k)) (x 1) : ℝ) : EReal) := by
  idx_vars x
  pointwise [k0_pay9, k0_pay8]
  simp (disch := positivity) only [nrmq_apply, rstdq_apply, w512, wzero, coe_add, coe_sub, coe_mul, coe_div, coe_sum]
  rfl

theorem dgq_apply (X D : S512x512.Idx → ℝ) (Y : S8x512.Idx → EReal) (a : Fin 8) (b : Fin 512) :
    k0_pay7 (F := Ideal) (fun i => ((X i : ℝ) : EReal)) (fun i => ((D i : ℝ) : EReal)) Y (ix2 a b)
      = Y (ix2 a b) + ((∑ r : Fin 512, D (ix2 r b) * nrm 512 (fun k => X (ix2 r k)) b : ℝ) : EReal) := by
  pointwise [k0_pay7]
  simp only [nrmq_apply, wzero, coe_add, coe_mul, coe_sum]

theorem nrmk_apply (X : S512x256.Idx → ℝ) (a : Fin 512) (b : Fin 256) :
    k0_pay12 (F := Ideal) (fun i => ((X i : ℝ) : EReal)) (ix2 a b) = ((nrm 256 (fun k => X (ix2 a k)) b : ℝ) : EReal) := by
  unfold_payloads
  pointwise
  simp (disch := first | positivity | exact ms_pos _ (by norm_num)) only
    [w256, weps', wzero, coe_add, coe_sub, coe_mul, coe_div, coe_rsqrt, coe_sum]
  rfl

theorem rstdk_apply (X : S512x256.Idx → ℝ) (a : Fin 512) :
    k0_pay11 (F := Ideal) (fun i => ((X i : ℝ) : EReal)) (ix2 a 0) = ((rstd 256 (fun k => X (ix2 a k)) : ℝ) : EReal) := by
  unfold_payloads
  pointwise
  simp (disch := first | positivity | exact ms_pos _ (by norm_num)) only
    [w256, weps', wzero, coe_add, coe_sub, coe_mul, coe_div, coe_rsqrt, coe_sum]
  rfl

theorem dk_apply (X D : S512x256.Idx → ℝ) (G : S1x256.Idx → ℝ) (x : S512x256.Idx) :
    k0_pay14 (F := Ideal) (fun i => ((X i : ℝ) : EReal)) (fun i => ((D i : ℝ) : EReal)) (fun i => ((G i : ℝ) : EReal)) x
      = ((dnrm 256 (fun k => X (ix2 (x 0) k)) (fun k => D (ix2 (x 0) k) * G (ix2 0 k)) (x 1) : ℝ) : EReal) := by
  idx_vars x
  pointwise [k0_pay14]
  simp (disch := positivity) only [nrmk_apply, rstdk_apply, w256, wzero, coe_add, coe_sub, coe_mul, coe_div, coe_sum]
  rfl

theorem dgk_apply (X D : S512x256.Idx → ℝ) (Y : S8x256.Idx → EReal) (a : Fin 8) (b : Fin 256) :
    k0_pay13 (F := Ideal) (fun i => ((X i : ℝ) : EReal)) (fun i => ((D i : ℝ) : EReal)) Y (ix2 a b)
      = Y (ix2 a b) + ((∑ r : Fin 512, D (ix2 r b) * nrm 256 (fun k => X (ix2 r k)) b : ℝ) : EReal) := by
  pointwise [k0_pay13]
  simp only [nrmk_apply, wzero, coe_add, coe_mul, coe_sum]

theorem tail_apply (R : S512x128.Idx → EReal) (x : S512x128.Idx) : k0_pay1 (F := Ideal) R x = R x := by
  idx_vars x
  pointwise [k0_pay1]

/-- A block stored as three strips of columns, read at one place. -/
theorem pieces_apply (P : S512x128.Idx → EReal) (Q : S512x256.Idx → EReal) (W : S512x512.Idx → EReal) (y : S512x896.Idx) :
    View.canon (Val := Elt Ideal) (e := .bf16) [⟨Rect.unit ![0, 768] ![512, 128] inb_S512x896_S512x128_0_768, P⟩,
      ⟨Rect.unit ![0, 512] ![512, 256] inb_S512x896_S512x256_0_512, Q⟩,
      ⟨Rect.unit ![0, 0] ![512, 512] inb_S512x896_S512x512_0_0, W⟩] y
    = if h : (y 1).val < 512 then W (ix2 (y 0) ⟨(y 1).val, h⟩)
      else if h : (y 1).val < 768 then Q (ix2 (y 0) ⟨(y 1).val - 512, by omega⟩)
      else P (ix2 (y 0) (⟨(y 1).val - 768, by have : (y 1).val < 896 := (y 1).isLt; omega⟩ : Fin 128)) := by
  canon_tiles x h using (View.cover_of_tiledBy (s := S512x896) _ ![512, 128] (by sl_kernel_rfl) _)
  · rw [dif_neg (by omega), dif_neg (by omega)]
    exact congrArg P ((eq_ix2 x).trans (congrArg₂ ix2 (Fin.ext h0.symm) (Fin.ext (by show (x 1).val = (y 1).val - 768; omega))))
  · rw [dif_neg (by omega), dif_pos (by omega)]
    exact congrArg Q ((eq_ix2 x).trans (congrArg₂ ix2 (Fin.ext h0.symm) (Fin.ext (by show (x 1).val = (y 1).val - 512; omega))))
  · rw [dif_pos (by omega)]
    exact congrArg W ((eq_ix2 x).trans (congrArg₂ ix2 (Fin.ext h0.symm) (Fin.ext h1.symm)))

end Payloads

/-- The compressed parts and the rotary part with `64` zero columns behind them. -/
def hLat (a : FVec Ideal S8192x832 .f32) : FVec Ideal S8192x896 .f32 :=
  pad S8192x896 ![0, 0] ![0, 64] ![0, 0] a (sitofp .f32 (constantI S_ 32 0#32)) pads_S8192x832_S8192x896_000_0640 h_S_

theorem hLat_apply (A : S8192x832.Idx → EReal) (y : S8192x896.Idx) :
    hLat A y = past (fun k => A (ix2 (y 0) k)) (y 1).val := by
  rw [eq_ix2 y]
  generalize y 0 = a
  generalize y 1 = k
  change Fin 896 at k
  unfold hLat
  pointwise
  unfold past
  by_cases hd : k.val < 832
  · rw [dif_pos hd, dif_pos hd]
  · rw [dif_neg hd, dif_neg hd]
    show ((((0#32 : BitVec 32).toInt : ℝ)) : EReal) = _
    simp

/-- The gradient by the rotary part with `64` zero columns behind it. -/
def hRot (a : FVec Ideal S8192x64 .f32) : FVec Ideal S8192x128 .f32 :=
  pad S8192x128 ![0, 0] ![0, 64] ![0, 0] a (sitofp .f32 (constantI S_ 32 0#32)) pads_S8192x64_S8192x128_000_0640 h_S_

theorem hRot_apply (A : S8192x64.Idx → EReal) (y : S8192x128.Idx) :
    hRot A y = past (fun k => A (ix2 (y 0) k)) (y 1).val := by
  rw [eq_ix2 y]
  generalize y 0 = a
  generalize y 1 = k
  change Fin 128 at k
  unfold hRot
  pointwise
  unfold past
  by_cases hd : k.val < 64
  · rw [dif_pos hd, dif_pos hd]
  · rw [dif_neg hd, dif_neg hd]
    show ((((0#32 : BitVec 32).toInt : ℝ)) : EReal) = _
    simp

/-- A gain as a row. -/
def hGq (g : FVec Ideal S512 .f32) : FVec Ideal S1x512 .f32 := shapeCast S1x512 g shapeCasts_S512_S1x512

theorem hGq_apply (g : FVec Ideal S512 .f32) (y : S1x512.Idx) : hGq g y = g (ix1 (y 1)) := by
  idx_vars y
  unfold hGq
  pointwise

/-- A gain as a row. -/
def hGk (g : FVec Ideal S256 .f32) : FVec Ideal S1x256 .f32 := shapeCast S1x256 g shapeCasts_S256_S1x256

theorem hGk_apply (g : FVec Ideal S256 .f32) (y : S1x256.Idx) : hGk g y = g (ix1 (y 1)) := by
  idx_vars y
  unfold hGk
  pointwise

variable (m : (ℓ : Loc nD τ sig) → Buf (Elt Ideal) ℓ)

theorem V_hLat (c : Dev nD) : V m c main_v0 = hLat (m ((c : Thread nD τ).loc main_arg0)) := by
  unfold_abbrev_sides
  simp only [List.flatten_cons, List.flatten_nil, List.append_nil, List.cons_append, List.nil_append, TRef.binary, TRef.nullary, TRef.ternary, TRef.unary, TRef.toBuf, TRef.ofBuf, cast_eq]
  after_results_simp
  rfl

theorem V_hRot (c : Dev nD) : V m c main_v1 = hRot (m ((c : Thread nD τ).loc main_arg3)) := by
  unfold_abbrev_sides
  simp only [List.flatten_cons, List.flatten_nil, List.append_nil, List.cons_append, List.nil_append, TRef.binary, TRef.nullary, TRef.ternary, TRef.unary, TRef.toBuf, TRef.ofBuf, cast_eq]
  after_results_simp
  rfl

theorem V_hGq (c : Dev nD) : V m c main_v2 = hGq (m ((c : Thread nD τ).loc main_arg4)) := by
  unfold_abbrev_sides
  simp only [List.flatten_cons, List.flatten_nil, List.append_nil, List.cons_append, List.nil_append, TRef.binary, TRef.nullary, TRef.ternary, TRef.unary, TRef.toBuf, TRef.ofBuf, cast_eq]
  after_results_simp
  rfl

theorem V_hGk (c : Dev nD) : V m c main_v3 = hGk (m ((c : Thread nD τ).loc main_arg5)) := by
  unfold_abbrev_sides
  simp only [List.flatten_cons, List.flatten_nil, List.append_nil, List.cons_append, List.nil_append, TRef.binary, TRef.nullary, TRef.ternary, TRef.unary, TRef.toBuf, TRef.ofBuf, cast_eq]
  after_results_simp
  rfl

theorem idx : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![0, 0] ∧ win0_8.index t = ![0, 0] := by
  decide +kernel

/-- Row `a` of point `t`'s block. -/
def row (t : Fin cfg0.N) (a : Fin 512) : Fin 8192 := ⟨t.val * 512 + a.val, by have : t.val < 16 := t.isLt; omega⟩

/-- Column `k` of the first compressed part, and of the second. -/
def qcol (k : Fin 512) : Fin 832 := ⟨k.val, by omega⟩
def kcol (k : Fin 256) : Fin 832 := ⟨512 + k.val, by omega⟩

section Arrays
variable {A : S8192x832.Idx → ℝ} {D : S8192x512.Idx → ℝ} {E : S8192x256.Idx → ℝ} {G : S512.Idx → ℝ} {H : S256.Idx → ℝ} {c : Dev nD}

theorem blk0 (ha : m ((c : Thread nD τ).loc main_arg0) = fun i => ((A i : ℝ) : EReal)) (t : Fin cfg0.N) (y : S512x896.Idx) :
    iblk m c 0 t y = past (fun k => ((A (ix2 (row t (y 0)) k) : ℝ) : EReal)) (y 1).val := by
  have h : iblk m c 0 t = fun y => V m c main_v0 (ix2 (row t (y 0)) (y 1)) := by
    funext y
    blk_ext [iblk, idx t, row]
  rw [h, V_hLat, ha]
  exact hLat_apply _ _

theorem blk1 (hd : m ((c : Thread nD τ).loc main_arg1) = fun i => ((D i : ℝ) : EReal)) (t : Fin cfg0.N) :
    iblk m c 1 t = fun y => ((D (ix2 (row t (y 0)) (y 1)) : ℝ) : EReal) := by
  have h : iblk m c 1 t = fun y => m ((c : Thread nD τ).loc main_arg1) (ix2 (row t (y 0)) (y 1)) := by
    funext y
    blk_ext [iblk, V, idx t, row]
  rw [h, hd]

theorem blk2 (he : m ((c : Thread nD τ).loc main_arg2) = fun i => ((E i : ℝ) : EReal)) (t : Fin cfg0.N) :
    iblk m c 2 t = fun y => ((E (ix2 (row t (y 0)) (y 1)) : ℝ) : EReal) := by
  have h : iblk m c 2 t = fun y => m ((c : Thread nD τ).loc main_arg2) (ix2 (row t (y 0)) (y 1)) := by
    funext y
    blk_ext [iblk, V, idx t, row]
  rw [h, he]

theorem blk3 (R : S8192x64.Idx → EReal) (hr : m ((c : Thread nD τ).loc main_arg3) = R) (t : Fin cfg0.N) (y : S512x128.Idx) :
    iblk m c 3 t y = past (fun k => R (ix2 (row t (y 0)) k)) (y 1).val := by
  have h : iblk m c 3 t = fun y => V m c main_v1 (ix2 (row t (y 0)) (y 1)) := by
    funext y
    blk_ext [iblk, idx t, row]
  rw [h, V_hRot, hr]
  exact hRot_apply _ _

theorem blk4 (hg : m ((c : Thread nD τ).loc main_arg4) = fun i => ((G i : ℝ) : EReal)) (t : Fin cfg0.N) :
    iblk m c 4 t = fun y => ((G (ix1 (y 1)) : ℝ) : EReal) := by
  have h : iblk m c 4 t = fun y => V m c main_v2 y := by
    funext y
    blk_ext [iblk, idx t]
  rw [h, V_hGq, hg]
  funext y
  exact hGq_apply _ _

theorem blk5 (hh : m ((c : Thread nD τ).loc main_arg5) = fun i => ((H i : ℝ) : EReal)) (t : Fin cfg0.N) :
    iblk m c 5 t = fun y => ((H (ix1 (y 1)) : ℝ) : EReal) := by
  have h : iblk m c 5 t = fun y => V m c main_v3 y := by
    funext y
    blk_ext [iblk, idx t]
  rw [h, V_hGk, hh]
  funext y
  exact hGk_apply _ _

/-- The columns the kernel loads of a block: the first compressed part, and the second. -/
theorem ldq (ha : m ((c : Thread nD τ).loc main_arg0) = fun i => ((A i : ℝ) : EReal)) (t : Fin cfg0.N) (inb) :
    View.ld (iblk m c 0 t) (Rect.unit ![0, 0] ![512, 512] inb) = fun x : S512x512.Idx => ((A (ix2 (row t (x 0)) (qcol (x 1))) : ℝ) : EReal) := by
  funext x
  rw [View.ld_apply, blk0 m ha t]
  unfold past
  have h1 : ((Rect.unit (s := S512x896) ![0, 0] ![512, 512] inb).idx x 1).val = (x 1).val := by rw [Rect.idx_unit_val]; exact Nat.zero_add _
  have h0 : ((Rect.unit (s := S512x896) ![0, 0] ![512, 512] inb).idx x 0) = x 0 := Fin.ext (by rw [Rect.idx_unit_val]; exact Nat.zero_add _)
  have hx : (x 1).val < 512 := (x 1).isLt
  rw [dif_pos (by rw [h1]; omega), h0]
  exact congrArg (fun k : Fin 832 => ((A (ix2 (row t (x 0)) k) : ℝ) : EReal)) (Fin.ext h1)

theorem ldk (ha : m ((c : Thread nD τ).loc main_arg0) = fun i => ((A i : ℝ) : EReal)) (t : Fin cfg0.N) (inb) :
    View.ld (iblk m c 0 t) (Rect.unit ![0, 512] ![512, 256] inb) = fun x : S512x256.Idx => ((A (ix2 (row t (x 0)) (kcol (x 1))) : ℝ) : EReal) := by
  funext x
  rw [View.ld_apply, blk0 m ha t]
  unfold past
  have h1 : ((Rect.unit (s := S512x896) ![0, 512] ![512, 256] inb).idx x 1).val = 512 + (x 1).val := by rw [Rect.idx_unit_val]; rfl
  have h0 : ((Rect.unit (s := S512x896) ![0, 512] ![512, 256] inb).idx x 0) = x 0 := Fin.ext (by rw [Rect.idx_unit_val]; exact Nat.zero_add _)
  have hx : (x 1).val < 256 := (x 1).isLt
  rw [dif_pos (by rw [h1]; omega), h0]
  exact congrArg (fun k : Fin 832 => ((A (ix2 (row t (x 0)) k) : ℝ) : EReal)) (Fin.ext h1)

variable (A D E G H)

/-- The gradient by the first compressed part, and by the second. -/
def dqAt (r : Fin 8192) (b : Fin 512) : ℝ := dnrm 512 (fun k => A (ix2 r (qcol k))) (fun k => D (ix2 r k) * G (ix1 k)) b
def dkAt (r : Fin 8192) (b : Fin 256) : ℝ := dnrm 256 (fun k => A (ix2 r (kcol k))) (fun k => E (ix2 r k) * H (ix1 k)) b

/-- The gradients by the two gains. -/
def dgqAt (b : Fin 512) : ℝ := ∑ r : Fin 8192, D (ix2 r b) * nrm 512 (fun k => A (ix2 r (qcol k))) b
def dgkAt (b : Fin 256) : ℝ := ∑ r : Fin 8192, E (ix2 r b) * nrm 256 (fun k => A (ix2 r (kcol k))) b

/-- The gradient by row `r`: the two compressed parts', then the rotary part's, then zeros. -/
def daAt (R : S8192x64.Idx → EReal) (r : Fin 8192) (k : ℕ) : EReal :=
  if h : k < 512 then ((dqAt A D G r ⟨k, h⟩ : ℝ) : EReal)
  else if h : k < 768 then ((dkAt A E H r ⟨k - 512, by omega⟩ : ℝ) : EReal)
  else past (fun k => R (ix2 r k)) (k - 768)

def daOf (R : S8192x64.Idx → EReal) (i : S8192x896.Idx) : EReal := daAt A D E G H R (i 0) (i 1).val

variable {A D E G H} (ha : m ((c : Thread nD τ).loc main_arg0) = fun i => ((A i : ℝ) : EReal))
include ha

theorem arr6 (R : S8192x64.Idx → EReal) (hr : m ((c : Thread nD τ).loc main_arg3) = R)
    (hd : m ((c : Thread nD τ).loc main_arg1) = fun i => ((D i : ℝ) : EReal))
    (he : m ((c : Thread nD τ).loc main_arg2) = fun i => ((E i : ℝ) : EReal))
    (hg : m ((c : Thread nD τ).loc main_arg4) = fun i => ((G i : ℝ) : EReal))
    (hh : m ((c : Thread nD τ).loc main_arg5) = fun i => ((H i : ℝ) : EReal)) :
    (dats m 0 c).arrAt 6 cfg0.N = daOf A D E G H R := by
  refine (dats m 0 c).arrAt_eq_of_covers 6 _ (by decide +kernel) fun t hf y => ?_
  blk_simp
  rw [after0_6]
  have hi : ∀ y : S512x896.Idx, (((View.whole main_v4_0).slice (win0_6.rect t)).emb y) = ix2 (row t (y 0)) (y 1) := by
    intro y
    blk_ext [idx t, row]
  rw [hi]
  have key : ∀ (t : Fin cfg0.N) (y : S512x896.Idx),
      (if h : (y 1).val < 512 then k0_pay9 (F := Ideal) (k0_pay8 (View.ld (iblk m c 0 t) (Rect.unit ![0, 0] ![512, 512] inb_S512x896_S512x512_0_0)) (iblk m c 1 t) (iblk m c 4 t)) (ix2 (y 0) ⟨(y 1).val, h⟩)
        else if h : (y 1).val < 768 then k0_pay14 (F := Ideal) (View.ld (iblk m c 0 t) (Rect.unit ![0, 512] ![512, 256] inb_S512x896_S512x256_0_512)) (iblk m c 2 t) (iblk m c 5 t) (ix2 (y 0) ⟨(y 1).val - 512, by omega⟩)
        else k0_pay1 (F := Ideal) (iblk m c 3 t) (ix2 (y 0) (⟨(y 1).val - 768, by have : (y 1).val < 896 := (y 1).isLt; omega⟩ : Fin 128)) : EReal)
      = daOf A D E G H R (ix2 (row t (y 0)) (y 1)) := by
    intro t y
    show _ = daAt A D E G H R (row t (y 0)) (y 1).val
    rw [ldq m ha t, ldk m ha t, blk1 m hd t, blk2 m he t, blk4 m hg t, blk5 m hh t]
    unfold daAt
    split_ifs with h1 h2
    · exact dq_apply _ _ _ _
    · exact dk_apply _ _ _ _
    · exact (tail_apply _ _).trans (blk3 m R hr t _)
  by_cases h0 : t.val % 16 = 0
  · rw [outsAt0_A m c t h0]
    frame_out
    exact (pieces_apply _ _ _ y).trans (key t y)
  · rw [outsAt0_B m c t h0]
    frame_out
    exact (pieces_apply _ _ _ y).trans (key t y)

theorem arr7 (hd : m ((c : Thread nD τ).loc main_arg1) = fun i => ((D i : ℝ) : EReal)) :
    (dats m 0 c).arrAt 7 cfg0.N = fun i : S8x512.Idx => ((dgqAt A D (i 1) : ℝ) : EReal) := by
  refine (dats m 0 c).arrAt_eq_of_covers 7 _ (by decide +kernel) fun t hf y => ?_
  blk_simp
  rw [after0_7]
  have key : ∀ (t : Fin cfg0.N) (inb) (Y : S8x512.Idx → EReal) (y : S8x512.Idx),
      k0_pay7 (F := Ideal) (View.ld (iblk m c 0 t) (Rect.unit ![0, 0] ![512, 512] inb)) (iblk m c 1 t) Y y
      = Y y + ((∑ r : Fin 512, D (ix2 (row t r) (y 1)) * nrm 512 (fun k => A (ix2 (row t r) (qcol k))) (y 1) : ℝ) : EReal) := by
    intro t inb Y y
    rw [ldq m ha t, blk1 m hd t]
    idx_vars y
    exact dgq_apply _ _ _ _ _
  have hi : ∀ y : S8x512.Idx, (((View.whole main_v4_1).slice (win0_7.rect t)).emb y) = y := by
    intro y
    blk_ext [idx t]
  have hN : t.val + 1 = cfg0.N := by
    have := (flush0_7 t).mp hf
    have h2 : t.val < 16 := t.isLt
    show t.val + 1 = 16
    omega
  rw [hi]
  refine (Pipeline.eq_sum_fin_of_reset_step_apply_last (fun n h => (outsAt0 m c n h).2.1) 16 (fun _ => (0 : EReal))
    (fun t y => ((∑ r : Fin 512, D (ix2 (row t r) (y 1)) * nrm 512 (fun k => A (ix2 (row t r) (qcol k))) (y 1) : ℝ) : EReal))
    (fun t h0 y => ?_) (fun t h0 y => ?_) (by decide) t hN y).trans ?_
  · rw [outsAt0_A m c t h0]
    frame_out
    refine (key t _ _ y).trans ?_
    congr 1
    pointwise [k0_pay2]
  · rw [outsAt0_B m c t h0]
    frame_out
    exact key t _ _ y
  · rw [zero_add, coe_sum]
    congr 1
    exact Fin.sum_mul_add_congr (fun s k hl => rfl)

theorem arr8 (he : m ((c : Thread nD τ).loc main_arg2) = fun i => ((E i : ℝ) : EReal)) :
    (dats m 0 c).arrAt 8 cfg0.N = fun i : S8x256.Idx => ((dgkAt A E (i 1) : ℝ) : EReal) := by
  refine (dats m 0 c).arrAt_eq_of_covers 8 _ (by decide +kernel) fun t hf y => ?_
  blk_simp
  rw [after0_8]
  have key : ∀ (t : Fin cfg0.N) (inb) (Y : S8x256.Idx → EReal) (y : S8x256.Idx),
      k0_pay13 (F := Ideal) (View.ld (iblk m c 0 t) (Rect.unit ![0, 512] ![512, 256] inb)) (iblk m c 2 t) Y y
      = Y y + ((∑ r : Fin 512, E (ix2 (row t r) (y 1)) * nrm 256 (fun k => A (ix2 (row t r) (kcol k))) (y 1) : ℝ) : EReal) := by
    intro t inb Y y
    rw [ldk m ha t, blk2 m he t]
    idx_vars y
    exact dgk_apply _ _ _ _ _
  have hi : ∀ y : S8x256.Idx, (((View.whole main_v4_2).slice (win0_8.rect t)).emb y) = y := by
    intro y
    blk_ext [idx t]
  have hN : t.val + 1 = cfg0.N := by
    have := (flush0_8 t).mp hf
    have h2 : t.val < 16 := t.isLt
    show t.val + 1 = 16
    omega
  rw [hi]
  refine (Pipeline.eq_sum_fin_of_reset_step_apply_last (fun n h => (outsAt0 m c n h).2.2) 16 (fun _ => (0 : EReal))
    (fun t y => ((∑ r : Fin 512, E (ix2 (row t r) (y 1)) * nrm 256 (fun k => A (ix2 (row t r) (kcol k))) (y 1) : ℝ) : EReal))
    (fun t h0 y => ?_) (fun t h0 y => ?_) (by decide) t hN y).trans ?_
  · rw [outsAt0_A m c t h0]
    frame_out
    refine (key t _ _ y).trans ?_
    congr 1
    pointwise [k0_pay3]
  · rw [outsAt0_B m c t h0]
    frame_out
    exact key t _ _ y
  · rw [zero_add, coe_sum]
    congr 1
    exact Fin.sum_mul_add_congr (fun s k hl => rfl)

end Arrays

end Cert.PrepIdeal.Read
end
-- ==== Proof.PrepRef.lean ====
/- The reference of the gradient through the normalizations of the two compressed parts, as real numbers. -/
module

public import proofs.«01_k».proof.Proof.PrepRead
public import proofs.«01_k».proof.Proof.Gen.PrepRefIdeal.Run
public import proofs.«01_k».proof.Proof.Gen.PrepRefIdeal.Read

@[expose] public section

set_option maxRecDepth 16384

noncomputable section

namespace Cert.PrepRefIdeal.Tie

open Cert.PrepRefIdeal Cert.PrepRefIdeal.Gen Cert.PrepRefIdeal.Read Idealize.ShloMosaic Idealize.ShloMosaic.TcCoe Idealize.SL.Sem
open Cert.Lift Cert.NormReal Cert.PrepIdeal.Read

variable (A : S8192x832.Idx → ℝ)

theorem v0 (a : Fin 8192) (b : Fin 512) : val_main_v0 (F := Ideal) (fun i => ((A i : ℝ) : EReal)) (ix2 a b) = ((A (ix2 a (qcol b)) : ℝ) : EReal) := by
  pointwise [val_main_v0]
  rfl

theorem v17 (a : Fin 8192) (b : Fin 256) : val_main_v17 (F := Ideal) (fun i => ((A i : ℝ) : EReal)) (ix2 a b) = ((A (ix2 a (kcol b)) : ℝ) : EReal) := by
  pointwise [val_main_v17]
  rfl

theorem v7 (a : Fin 8192) : val_main_v7 (F := Ideal) (fun i => ((A i : ℝ) : EReal)) (ix2 a 0)
    = (((∑ k, A (ix2 a (qcol k)) * A (ix2 a (qcol k))) / 512 + eps : ℝ) : EReal) := by
  pointwise [val_main_v7, val_main_v6, val_main_v5, val_main_v4, val_main_v3, val_main_v2, val_main_v1, val_main_cst, val_main_cst_0, val_main_cst_1]
  simp (disch := positivity) only [v0, w512, wzero, zero_add, weps', coe_add, coe_mul, coe_div, coe_sum]

theorem v8 (a : Fin 8192) : val_main_v8 (F := Ideal) (fun i => ((A i : ℝ) : EReal)) (ix2 a 0) = ((rstd 512 (fun k => A (ix2 a (qcol k))) : ℝ) : EReal) := by
  pointwise [val_main_v8]
  rw [v7, coe_rsqrt (ms_pos _ (by norm_num))]
  rfl

theorem v13 (a : Fin 8192) (b : Fin 512) : val_main_v13 (F := Ideal) (fun i => ((A i : ℝ) : EReal)) (ix2 a b)
    = ((nrm 512 (fun k => A (ix2 a (qcol k))) b : ℝ) : EReal) := by
  pointwise [val_main_v13, val_main_v12]
  rw [v0, v8, coe_mul]
  rfl

theorem v62 (D : S8192x512.Idx → ℝ) (G : S512.Idx → ℝ) (a : Fin 8192) (b : Fin 512) : val_main_v62 (F := Ideal) (fun i => ((D i : ℝ) : EReal)) (fun i => ((G i : ℝ) : EReal)) (ix2 a b)
    = ((D (ix2 a b) * G (ix1 b) : ℝ) : EReal) := by
  pointwise [val_main_v62, val_main_v61, val_main_v14]
  rw [coe_mul]

theorem v73 (D : S8192x512.Idx → ℝ) (G : S512.Idx → ℝ) (a : Fin 8192) (b : Fin 512) : val_main_v73 (F := Ideal) (fun i => ((A i : ℝ) : EReal)) (fun i => ((D i : ℝ) : EReal)) (fun i => ((G i : ℝ) : EReal)) (ix2 a b)
    = (((∑ k, A (ix2 a (qcol k)) * (D (ix2 a k) * G (ix1 k))) * (-(1 / 2) * (rstd 512 (fun k => A (ix2 a (qcol k)))
        / ((∑ k, A (ix2 a (qcol k)) * A (ix2 a (qcol k))) / 512 + eps))) / 512 : ℝ) : EReal) := by
  pointwise [val_main_v73, val_main_v72, val_main_v71, val_main_v70, val_main_v69, val_main_v68, val_main_v67, val_main_v66, val_main_v65, val_main_v64, val_main_v11, val_main_v10, val_main_v9, val_main_cst_2, val_main_cst_16, val_main_cst_17, val_main_cst_18]
  simp (disch := first | positivity | exact (ms_pos _ (by norm_num)).ne') only
    [Fin.sum_univ_one, v0, v7, v8, v62, w512, wzero, zero_add, wneghalf, coe_add, coe_mul, coe_div, coe_sum]

theorem v77 (D : S8192x512.Idx → ℝ) (G : S512.Idx → ℝ) (a : Fin 8192) (b : Fin 512) : val_main_v77 (F := Ideal) (fun i => ((A i : ℝ) : EReal)) (fun i => ((D i : ℝ) : EReal)) (fun i => ((G i : ℝ) : EReal)) (ix2 a b)
    = ((dnrm 512 (fun k => A (ix2 a (qcol k))) (fun k => D (ix2 a k) * G (ix1 k)) b : ℝ) : EReal) := by
  pointwise [val_main_v77, val_main_v76, val_main_v75, val_main_v74, val_main_v68, val_main_v67]
  simp only [v0, v8, v62, v73, coe_mul]
  rw [coe_add, coe_add]
  refine congrArg Real.toEReal ?_
  exact dnrm_chain (c := 512) (by norm_num) (fun k => A (ix2 a (qcol k))) (fun k => D (ix2 a k) * G (ix1 k)) b

theorem v82 (D : S8192x512.Idx → ℝ) : val_main_v82 (F := Ideal) (fun i => ((A i : ℝ) : EReal)) (fun i => ((D i : ℝ) : EReal)) = fun i => ((dgqAt A D (i 1) : ℝ) : EReal) := by
  funext i
  idx_vars i
  pointwise [val_main_v82, val_main_v63, val_main_v60, val_main_v59, val_main_v58, val_main_cst_14, val_main_cst_15]
  simp only [Fin.sum_univ_one, v13, wzero, zero_add, coe_mul, coe_sum]
  refine congrArg Real.toEReal ?_
  exact Finset.sum_congr rfl fun r _ => by ring

theorem v24 (a : Fin 8192) : val_main_v24 (F := Ideal) (fun i => ((A i : ℝ) : EReal)) (ix2 a 0)
    = (((∑ k, A (ix2 a (kcol k)) * A (ix2 a (kcol k))) / 256 + eps : ℝ) : EReal) := by
  pointwise [val_main_v24, val_main_v23, val_main_v22, val_main_v21, val_main_v20, val_main_v19, val_main_v18, val_main_cst_3, val_main_cst_4, val_main_cst_5]
  simp (disch := positivity) only [v17, w256, wzero, zero_add, weps', coe_add, coe_mul, coe_div, coe_sum]

theorem v25 (a : Fin 8192) : val_main_v25 (F := Ideal) (fun i => ((A i : ℝ) : EReal)) (ix2 a 0) = ((rstd 256 (fun k => A (ix2 a (kcol k))) : ℝ) : EReal) := by
  pointwise [val_main_v25]
  rw [v24, coe_rsqrt (ms_pos _ (by norm_num))]
  rfl

theorem v30 (a : Fin 8192) (b : Fin 256) : val_main_v30 (F := Ideal) (fun i => ((A i : ℝ) : EReal)) (ix2 a b)
    = ((nrm 256 (fun k => A (ix2 a (kcol k))) b : ℝ) : EReal) := by
  pointwise [val_main_v30, val_main_v29]
  rw [v17, v25, coe_mul]
  rfl

theorem v40 (D : S8192x256.Idx → ℝ) (G : S256.Idx → ℝ) (a : Fin 8192) (b : Fin 256) : val_main_v40 (F := Ideal) (fun i => ((D i : ℝ) : EReal)) (fun i => ((G i : ℝ) : EReal)) (ix2 a b)
    = ((D (ix2 a b) * G (ix1 b) : ℝ) : EReal) := by
  pointwise [val_main_v40, val_main_v39, val_main_v31]
  rw [coe_mul]

theorem v51 (D : S8192x256.Idx → ℝ) (G : S256.Idx → ℝ) (a : Fin 8192) (b : Fin 256) : val_main_v51 (F := Ideal) (fun i => ((A i : ℝ) : EReal)) (fun i => ((D i : ℝ) : EReal)) (fun i => ((G i : ℝ) : EReal)) (ix2 a b)
    = (((∑ k, A (ix2 a (kcol k)) * (D (ix2 a k) * G (ix1 k))) * (-(1 / 2) * (rstd 256 (fun k => A (ix2 a (kcol k)))
        / ((∑ k, A (ix2 a (kcol k)) * A (ix2 a (kcol k))) / 256 + eps))) / 256 : ℝ) : EReal) := by
  pointwise [val_main_v51, val_main_v50, val_main_v49, val_main_v48, val_main_v47, val_main_v46, val_main_v45, val_main_v44, val_main_v43, val_main_v42, val_main_v28, val_main_v27, val_main_v26, val_main_cst_6, val_main_cst_10, val_main_cst_11, val_main_cst_12]
  simp (disch := first | positivity | exact (ms_pos _ (by norm_num)).ne') only
    [Fin.sum_univ_one, v17, v24, v25, v40, w256, wzero, zero_add, wneghalf, coe_add, coe_mul, coe_div, coe_sum]

theorem v55 (D : S8192x256.Idx → ℝ) (G : S256.Idx → ℝ) (a : Fin 8192) (b : Fin 256) : val_main_v55 (F := Ideal) (fun i => ((A i : ℝ) : EReal)) (fun i => ((D i : ℝ) : EReal)) (fun i => ((G i : ℝ) : EReal)) (ix2 a b)
    = ((dnrm 256 (fun k => A (ix2 a (kcol k))) (fun k => D (ix2 a k) * G (ix1 k)) b : ℝ) : EReal) := by
  pointwise [val_main_v55, val_main_v54, val_main_v53, val_main_v52, val_main_v46, val_main_v45]
  simp only [v17, v25, v40, v51, coe_mul]
  rw [coe_add, coe_add]
  refine congrArg Real.toEReal ?_
  exact dnrm_chain (c := 256) (by norm_num) (fun k => A (ix2 a (kcol k))) (fun k => D (ix2 a k) * G (ix1 k)) b

theorem v83 (D : S8192x256.Idx → ℝ) : val_main_v83 (F := Ideal) (fun i => ((A i : ℝ) : EReal)) (fun i => ((D i : ℝ) : EReal)) = fun i => ((dgkAt A D (i 1) : ℝ) : EReal) := by
  funext i
  idx_vars i
  pointwise [val_main_v83, val_main_v41, val_main_v38, val_main_v37, val_main_v36, val_main_cst_8, val_main_cst_9]
  simp only [Fin.sum_univ_one, v30, wzero, zero_add, coe_mul, coe_sum]
  refine congrArg Real.toEReal ?_
  exact Finset.sum_congr rfl fun r _ => by ring

variable (D : S8192x512.Idx → ℝ) (E : S8192x256.Idx → ℝ) (G : S512.Idx → ℝ) (H : S256.Idx → ℝ) (R : S8192x64.Idx → EReal)

theorem v79 (a : Fin 8192) (b : Fin 832) : val_main_v79 (F := Ideal) (fun i => ((A i : ℝ) : EReal)) (fun i => ((D i : ℝ) : EReal)) (fun i => ((E i : ℝ) : EReal)) R
    (fun i => ((G i : ℝ) : EReal)) (fun i => ((H i : ℝ) : EReal)) (ix2 a b) = daAt A D E G H R a b.val := by
  pointwise [val_main_v79, val_main_v78, val_main_v57, val_main_v56, val_main_v35, val_main_cst_7, val_main_cst_13, val_main_cst_19]
  unfold daAt past
  by_cases h1 : b.val < 512
  · rw [dif_neg (show ¬(768 ≤ b.val ∧ b.val - 768 < 64) by omega), dif_neg (show ¬(512 ≤ b.val ∧ b.val - 512 < 256) by omega), dif_pos h1, dif_pos h1, v77]
    simp only [zero_add]
    rfl
  · rw [dif_neg h1, dif_neg h1]
    by_cases h2 : b.val < 768
    · rw [dif_neg (show ¬(768 ≤ b.val ∧ b.val - 768 < 64) by omega), dif_pos (show 512 ≤ b.val ∧ b.val - 512 < 256 by omega), dif_pos h2, v55]
      simp only [zero_add, add_zero]
      rfl
    · rw [dif_pos (show 768 ≤ b.val ∧ b.val - 768 < 64 by omega), dif_neg (show ¬(512 ≤ b.val ∧ b.val - 512 < 256) by omega), dif_neg h2, dif_pos (show b.val - 768 < 64 by omega)]
      simp only [zero_add, add_zero]

theorem v81 : val_main_v81 (F := Ideal) (fun i => ((A i : ℝ) : EReal)) (fun i => ((D i : ℝ) : EReal)) (fun i => ((E i : ℝ) : EReal)) R
    (fun i => ((G i : ℝ) : EReal)) (fun i => ((H i : ℝ) : EReal)) = daOf A D E G H R := by
  funext i
  idx_vars i
  pointwise [val_main_v81, val_main_v80, val_main_call0_v0, val_main_c]
  show _ = daAt A D E G H R i0 i1.val
  by_cases h : i1.val < 832
  · rw [dif_pos h]
    exact v79 A D E G H R i0 ⟨i1.val, h⟩
  · rw [dif_neg h]
    unfold daAt past
    rw [dif_neg (show ¬ i1.val < 512 by omega), dif_neg (show ¬ i1.val < 768 by omega), dif_neg (show ¬ i1.val - 768 < 64 by omega)]
    show ((((0#32 : BitVec 32).toInt : ℝ)) : EReal) = _
    simp

end Cert.PrepRefIdeal.Tie
end
-- ==== Proof.PrepClaim.lean ====
/- The gradient through the normalizations of the two compressed parts: the kernel's three results are the reference's. -/
module

public import proofs.«01_k».proof.Defs
public import proofs.«01_k».proof.Proof.PrepRef
public import proofs.«01_k».proof.Proof.Gen.Prep.Frame
public import proofs.«01_k».proof.Proof.Gen.PrepIdeal.Frame
public import proofs.«01_k».proof.Proof.Gen.Pre_prep_finite
public import Idealize.ShloMosaic.Adequacy
public import Idealize.ShloMosaic.Init

@[expose] public section

set_option maxRecDepth 16384

noncomputable section

namespace Cert.PrepClaim

open Idealize.ShloMosaic Idealize.ShloMosaic.TcCoe Idealize.SL.Sem Cert.Lift

theorem prep_value : algebraic_PrepIdeal_PrepRefIdeal_pre_prep_finite := by
  intro m g m' g' hpre hag
  refine ⟨_, _, _, PrepIdeal.Value.run_blocks m g, (θ_run _ _ _).mono (fun r h c => ?_) (PrepRefIdeal.Value.run m' g')⟩
  have f := hpre c
  obtain ⟨A, hA⟩ : ∃ A : PrepIdeal.S8192x832.Idx → ℝ, m ((c : Thread PrepIdeal.nD PrepIdeal.τ).loc PrepIdeal.main_arg0) = fun i : PrepIdeal.S8192x832.Idx => ((A i : ℝ) : EReal) :=
    fin_of_mask _ _ (fun _ => winf) f.1
  obtain ⟨D, hD⟩ : ∃ D : PrepIdeal.S8192x512.Idx → ℝ, m ((c : Thread PrepIdeal.nD PrepIdeal.τ).loc PrepIdeal.main_arg1) = fun i : PrepIdeal.S8192x512.Idx => ((D i : ℝ) : EReal) :=
    fin_of_mask _ _ (fun _ => winf) f.2.1
  obtain ⟨E, hE⟩ : ∃ E : PrepIdeal.S8192x256.Idx → ℝ, m ((c : Thread PrepIdeal.nD PrepIdeal.τ).loc PrepIdeal.main_arg2) = fun i : PrepIdeal.S8192x256.Idx => ((E i : ℝ) : EReal) :=
    fin_of_mask _ _ (fun _ => winf) f.2.2.1
  obtain ⟨G, hG⟩ : ∃ G : PrepIdeal.S512.Idx → ℝ, m ((c : Thread PrepIdeal.nD PrepIdeal.τ).loc PrepIdeal.main_arg4) = fun i : PrepIdeal.S512.Idx => ((G i : ℝ) : EReal) :=
    fin_of_mask _ _ (fun _ => winf) f.2.2.2.1
  obtain ⟨H, hH⟩ : ∃ H : PrepIdeal.S256.Idx → ℝ, m ((c : Thread PrepIdeal.nD PrepIdeal.τ).loc PrepIdeal.main_arg5) = fun i : PrepIdeal.S256.Idx => ((H i : ℝ) : EReal) :=
    fin_of_mask _ _ (fun _ => winf) f.2.2.2.2
  obtain ⟨e0, e1, e2, e3, e4, e5⟩ := hag c
  obtain ⟨r0, r1, r2, hk⟩ := h c
  have e0 := e0.trans hA
  have e1 := e1.trans hD
  have e2 := e2.trans hE
  have e4 := e4.trans hG
  have e5 := e5.trans hH
  refine ⟨r0.trans ?_, r1.trans ?_, r2.trans ?_, hk⟩
  · rw [PrepRefIdeal.Read.val_main_v81_eq, e0, e1, e2, e3, e4, e5]
    exact (PrepRefIdeal.Tie.v81 A D E G H _).trans (PrepIdeal.Read.arr6 m hA _ rfl hD hE hG hH).symm
  · rw [e0, e1]
    exact (PrepRefIdeal.Read.val_main_v82_eq _ _).trans ((PrepRefIdeal.Tie.v82 A D).trans (PrepIdeal.Read.arr7 m hA hD).symm)
  · rw [e0, e2]
    exact (PrepRefIdeal.Read.val_main_v83_eq _ _).trans ((PrepRefIdeal.Tie.v83 A E).trans (PrepIdeal.Read.arr8 m hA hE).symm)

theorem ref_frame : quiescent_PrepRefIdeal := fun m ρ _ =>
  (θ_run PrepRefIdeal.defs _ _).mono (fun r h => ⟨fun c => (h c).2.2.2, sem_eq_zero_of_no_sems (by decide) r.2⟩)
    (PrepRefIdeal.Value.run m ρ)

end Cert.PrepClaim
end
-- ==== Proof.DownRead.lean ====
/- The gradient through the down projection and the normalization before it: the arrays the kernel leaves, as real numbers. -/
module

public import proofs.«01_k».proof.Proof.NormReal
public import proofs.«01_k».proof.Proof.Gen.DownIdeal.Value
public import Idealize.ShloMosaic.Lib.Pipeline.ValueKit

@[expose] public section

set_option maxRecDepth 16384

noncomputable section

namespace Cert.DownIdeal.Read

open Cert.DownIdeal Cert.DownIdeal.Gen Idealize.ShloMosaic Idealize.ShloMosaic.TcCoe Idealize.ShloMosaic.StableHlo Idealize.SL.Sem Cert.Lift Cert.NormReal
open Idealize.ShloMosaic.Pipeline (Dat)

/-- A row with `64` zeros behind it. -/
def wide (f : Fin 832 → ℝ) (k : Fin 896) : ℝ := if h : k.val < 832 then f ⟨k.val, h⟩ else 0

/-- The added columns add nothing to a product. -/
theorem sum_wide (f g : Fin 832 → ℝ) : ∑ k, wide f k * wide g k = ∑ k, f k * g k := by
  rw [show (∑ k, wide f k * wide g k) = ∑ k : Fin (832 + 64), wide f k * wide g k from rfl, Fin.sum_univ_add]
  have z : ∑ i : Fin 64, wide f (Fin.natAdd 832 i) * wide g (Fin.natAdd 832 i) = 0 := Finset.sum_eq_zero fun i _ => by
    have : ¬ (Fin.natAdd 832 i).val < 832 := by show ¬ 832 + i.val < 832; omega
    unfold wide
    rw [dif_neg this, zero_mul]
  rw [z, add_zero]
  refine Finset.sum_congr rfl fun d _ => ?_
  unfold wide
  rw [dif_pos (show (Fin.castAdd 64 d).val < 832 from d.isLt), dif_pos (show (Fin.castAdd 64 d).val < 832 from d.isLt)]
  rfl

section Payloads

theorem nrm_apply (X : S512x1024.Idx → ℝ) (a : Fin 512) (b : Fin 1024) :
    k0_pay5 (F := Ideal) (fun i => ((X i : ℝ) : EReal)) (ix2 a b) = ((nrm 1024 (fun k => X (ix2 a k)) b : ℝ) : EReal) := by
  unfold_payloads
  pointwise
  simp (disch := first | positivity | exact ms_pos _ (by norm_num)) only
    [w1024, weps', wzero, coe_add, coe_sub, coe_mul, coe_div, coe_rsqrt, coe_sum]
  rfl

theorem rstd_apply (X : S512x1024.Idx → ℝ) (a : Fin 512) :
    k0_pay4 (F := Ideal) (fun i => ((X i : ℝ) : EReal)) (ix2 a 0) = ((rstd 1024 (fun k => X (ix2 a k)) : ℝ) : EReal) := by
  unfold_payloads
  pointwise
  simp (disch := first | positivity | exact ms_pos _ (by norm_num)) only
    [w1024, weps', wzero, coe_add, coe_sub, coe_mul, coe_div, coe_rsqrt, coe_sum]
  rfl

theorem dx_apply (U X : S512x1024.Idx → ℝ) (G : S1x1024.Idx → ℝ) (R : S512x1024.Idx → EReal) (a : Fin 512) (b : Fin 1024) :
    k0_pay7 (F := Ideal) (fun i => ((U i : ℝ) : EReal)) (fun i => ((X i : ℝ) : EReal)) (fun i => ((G i : ℝ) : EReal)) R (ix2 a b)
      = R (ix2 a b) + ((dnrm 1024 (fun k => X (ix2 a k)) (fun k => U (ix2 a k) * G (ix2 0 k)) b : ℝ) : EReal) := by
  pointwise [k0_pay7]
  simp (disch := positivity) only [nrm_apply, rstd_apply, w1024, wzero, coe_add, coe_sub, coe_mul, coe_div, coe_sum]
  rfl

theorem dg_apply (U X : S512x1024.Idx → ℝ) (Y : S8x1024.Idx → EReal) (a : Fin 8) (b : Fin 1024) :
    k0_pay6 (F := Ideal) (fun i => ((U i : ℝ) : EReal)) (fun i => ((X i : ℝ) : EReal)) Y (ix2 a b)
      = Y (ix2 a b) + ((∑ r : Fin 512, U (ix2 r b) * nrm 1024 (fun k => X (ix2 r k)) b : ℝ) : EReal) := by
  pointwise [k0_pay6]
  simp only [nrm_apply, wzero, coe_add, coe_mul, coe_sum]

theorem du_apply (A : Fin 512 → Fin 832 → ℝ) (W : S1024x832.Idx → ℝ) :
    k0_pay3 (F := Ideal) (k0_pay2 (F := Ideal)) (fun i => ((wide (A (i 0)) (i 1) : ℝ) : EReal))
        (fun i => ((wide (fun k => W (ix2 (i 0) k)) (i 1) : ℝ) : EReal))
      = fun i => ((∑ k, A (i 0) k * W (ix2 (i 1) k) : ℝ) : EReal) := by
  funext i
  idx_vars i
  pointwise [k0_pay3, k0_pay2]
  simp only [coe_mul, coe_sum, sum_wide]

end Payloads

/-- The gradient by the projection's output with `64` zero columns behind it. -/
def hAct (a : FVec Ideal S8192x832 .bf16) : FVec Ideal S8192x896 .bf16 :=
  pad S8192x896 ![0, 0] ![0, 64] ![0, 0] a (sitofp .bf16 (constantI S_ 32 0#32)) pads_S8192x832_S8192x896_000_0640 h_S_
/-- The weights with `64` zero columns behind them. -/
def hWgt (w : FVec Ideal S1024x832 .bf16) : FVec Ideal S1024x896 .bf16 :=
  pad S1024x896 ![0, 0] ![0, 64] ![0, 0] w (sitofp .bf16 (constantI S_ 32 0#32)) pads_S1024x832_S1024x896_000_0640 h_S_

theorem hAct_apply (A : S8192x832.Idx → ℝ) (a : Fin 8192) (k : Fin 896) :
    hAct (fun i => ((A i : ℝ) : EReal)) (ix2 a k) = ((wide (fun k => A (ix2 a k)) k : ℝ) : EReal) := by
  unfold hAct
  pointwise
  unfold wide
  by_cases hd : k.val < 832
  · rw [dif_pos hd, dif_pos hd]
  · rw [dif_neg hd, dif_neg hd]
    show ((((0#32 : BitVec 32).toInt : ℝ)) : EReal) = _
    simp

theorem hWgt_apply (A : S1024x832.Idx → ℝ) (a : Fin 1024) (k : Fin 896) :
    hWgt (fun i => ((A i : ℝ) : EReal)) (ix2 a k) = ((wide (fun k => A (ix2 a k)) k : ℝ) : EReal) := by
  unfold hWgt
  pointwise
  unfold wide
  by_cases hd : k.val < 832
  · rw [dif_pos hd, dif_pos hd]
  · rw [dif_neg hd, dif_neg hd]
    show ((((0#32 : BitVec 32).toInt : ℝ)) : EReal) = _
    simp

variable (m : (ℓ : Loc nD τ sig) → Buf (Elt Ideal) ℓ)

theorem V_act (c : Dev nD) : V m c main_v0 = hAct (m ((c : Thread nD τ).loc main_arg4)) := by
  unfold_abbrev_sides
  simp only [List.flatten_cons, List.flatten_nil, List.append_nil, List.cons_append, List.nil_append, TRef.binary, TRef.nullary, TRef.ternary, TRef.unary, TRef.toBuf, TRef.ofBuf, cast_eq]
  after_results_simp
  rfl

theorem V_wgt (c : Dev nD) : V m c main_v1 = hWgt (m ((c : Thread nD τ).loc main_arg2)) := by
  unfold_abbrev_sides
  simp only [List.flatten_cons, List.flatten_nil, List.append_nil, List.cons_append, List.nil_append, TRef.binary, TRef.nullary, TRef.ternary, TRef.unary, TRef.toBuf, TRef.ofBuf, cast_eq]
  after_results_simp
  rfl

/-- The gain as a row. -/
def hGain (g : FVec Ideal S1024 .f32) : FVec Ideal S1x1024 .f32 := shapeCast S1x1024 g shapeCasts_S1024_S1x1024

theorem V_gain (c : Dev nD) : V m c main_v3 = hGain (m ((c : Thread nD τ).loc main_arg1)) := by
  unfold_abbrev_sides
  simp only [List.flatten_cons, List.flatten_nil, List.append_nil, List.cons_append, List.nil_append, TRef.binary, TRef.nullary, TRef.ternary, TRef.unary, TRef.toBuf, TRef.ofBuf, cast_eq]
  after_results_simp
  rfl

theorem gain_apply (g : FVec Ideal S1024 .f32) (y : S1x1024.Idx) : hGain g y = g (ix1 (y 1)) := by
  idx_vars y
  unfold hGain
  pointwise

theorem idx : ∀ t : Fin grid0.N, win0_0.index t = ![t.val, 0] ∧ win0_1.index t = ![0, 0] ∧ win0_2.index t = ![t.val, 0]
    ∧ win0_3.index t = ![0, 0] ∧ win0_4.index t = ![t.val, 0] ∧ win0_6.index t = ![t.val, 0] ∧ win0_7.index t = ![0, 0] := by
  decide +kernel

/-- Row `a` of point `t`'s block. -/
def row (t : Fin cfg0.N) (a : Fin 512) : Fin 8192 := ⟨t.val * 512 + a.val, by have : t.val < 16 := t.isLt; omega⟩

section Arrays
variable {X : S8192x1024.Idx → ℝ} {G : S1024.Idx → ℝ} {W : S1024x832.Idx → ℝ} {A : S8192x832.Idx → ℝ} {c : Dev nD}

theorem blk0 (ha : m ((c : Thread nD τ).loc main_arg4) = fun i => ((A i : ℝ) : EReal)) (t : Fin cfg0.N) :
    iblk m c 0 t = fun y => ((wide (fun k => A (ix2 (row t (y 0)) k)) (y 1) : ℝ) : EReal) := by
  have h : iblk m c 0 t = fun y => V m c main_v0 (ix2 (row t (y 0)) (y 1)) := by
    funext y
    blk_ext [iblk, idx t, row]
  rw [h, V_act, ha]
  funext y
  exact hAct_apply A _ _

theorem blk1 (hw : m ((c : Thread nD τ).loc main_arg2) = fun i => ((W i : ℝ) : EReal)) (t : Fin cfg0.N) :
    iblk m c 1 t = fun y => ((wide (fun k => W (ix2 (y 0) k)) (y 1) : ℝ) : EReal) := by
  have h : iblk m c 1 t = fun y => V m c main_v1 (ix2 (y 0) (y 1)) := by
    funext y
    blk_ext [iblk, idx t]
  rw [h, V_wgt, hw]
  funext y
  exact hWgt_apply W _ _

theorem blk2 (hx : m ((c : Thread nD τ).loc main_arg0) = fun i => ((X i : ℝ) : EReal)) (t : Fin cfg0.N) :
    iblk m c 2 t = fun y => ((X (ix2 (row t (y 0)) (y 1)) : ℝ) : EReal) := by
  have h : iblk m c 2 t = fun y => m ((c : Thread nD τ).loc main_arg0) (ix2 (row t (y 0)) (y 1)) := by
    funext y
    blk_ext [iblk, V, idx t, row]
  rw [h, hx]

theorem blk3 (hg : m ((c : Thread nD τ).loc main_arg1) = fun i => ((G i : ℝ) : EReal)) (t : Fin cfg0.N) :
    iblk m c 3 t = fun y => ((G (ix1 (y 1)) : ℝ) : EReal) := by
  have h : iblk m c 3 t = fun y => V m c main_v3 y := by
    funext y
    blk_ext [iblk, idx t]
  rw [h, V_gain, hg]
  funext y
  exact gain_apply _ _

theorem blk4 (t : Fin cfg0.N) : iblk m c 4 t = fun y => m ((c : Thread nD τ).loc main_arg3) (ix2 (row t (y 0)) (y 1)) := by
  funext y
  blk_ext [iblk, V, idx t, row]

variable (X G W A)

/-- The gradient by row `r` of the normalized and scaled array. -/
def duAt (r : Fin 8192) (b : Fin 1024) : ℝ := ∑ k, A (ix2 r k) * W (ix2 b k)

variable {W A} in
theorem du_blk (ha : m ((c : Thread nD τ).loc main_arg4) = fun i => ((A i : ℝ) : EReal))
    (hw : m ((c : Thread nD τ).loc main_arg2) = fun i => ((W i : ℝ) : EReal)) (t : Fin cfg0.N) :
    k0_pay3 (F := Ideal) (k0_pay2 (F := Ideal)) (iblk m c 0 t) (iblk m c 1 t)
      = fun i : S512x1024.Idx => ((duAt W A (row t (i 0)) (i 1) : ℝ) : EReal) := by
  rw [blk0 m ha t, blk1 m hw t]
  exact du_apply (fun a k => A (ix2 (row t a) k)) W

/-- What the gradient by the input has beside the residual's. -/
def dxAt (r : Fin 8192) (b : Fin 1024) : ℝ := dnrm 1024 (fun k => X (ix2 r k)) (fun k => duAt W A r k * G (ix1 k)) b

/-- The gradient by the gain. -/
def dgAt (b : Fin 1024) : ℝ := ∑ r : Fin 8192, duAt W A r b * nrm 1024 (fun k => X (ix2 r k)) b

variable {X G W A} (hx : m ((c : Thread nD τ).loc main_arg0) = fun i => ((X i : ℝ) : EReal))
  (hg : m ((c : Thread nD τ).loc main_arg1) = fun i => ((G i : ℝ) : EReal))
  (hw : m ((c : Thread nD τ).loc main_arg2) = fun i => ((W i : ℝ) : EReal))
  (ha : m ((c : Thread nD τ).loc main_arg4) = fun i => ((A i : ℝ) : EReal))
include hx hw ha

theorem arr6 (R : S8192x1024.Idx → EReal) (hr : m ((c : Thread nD τ).loc main_arg3) = R)
    (hg : m ((c : Thread nD τ).loc main_arg1) = fun i => ((G i : ℝ) : EReal)) :
    (dats m 0 c).arrAt 6 cfg0.N = fun i : S8192x1024.Idx => R i + ((dxAt X G W A (i 0) (i 1) : ℝ) : EReal) := by
  refine (dats m 0 c).arrAt_eq_of_covers 6 _ (by decide +kernel) fun t hf y => ?_
  blk_simp
  rw [after0_6]
  have key : ∀ (y : S512x1024.Idx), k0_pay7 (F := Ideal) (k0_pay3 k0_pay2 (iblk m c 0 t) (iblk m c 1 t)) (iblk m c 2 t) (iblk m c 3 t) (iblk m c 4 t) y
      = R (ix2 (row t (y 0)) (y 1)) + ((dxAt X G W A (row t (y 0)) (y 1) : ℝ) : EReal) := by
    intro y
    rw [du_blk m ha hw t, blk2 m hx t, blk3 m hg t, blk4 m t, hr]
    idx_vars y
    exact dx_apply _ _ _ _ _ _
  have hi : ∀ y : S512x1024.Idx, (((View.whole main_v4_0).slice (win0_6.rect t)).emb y) = ix2 (row t (y 0)) (y 1) := by
    intro y
    blk_ext [idx t, row]
  by_cases h0 : t.val % 16 = 0
  · rw [outsAt0_A m c t h0]
    frame_out
    exact (key y).trans (by rw [hi]; rfl)
  · rw [outsAt0_B m c t h0]
    frame_out
    exact (key y).trans (by rw [hi]; rfl)

theorem arr7 : (dats m 0 c).arrAt 7 cfg0.N = fun i : S8x1024.Idx => ((dgAt X W A (i 1) : ℝ) : EReal) := by
  refine (dats m 0 c).arrAt_eq_of_covers 7 _ (by decide +kernel) fun t hf y => ?_
  blk_simp
  rw [after0_7]
  have key : ∀ (t : Fin cfg0.N) (Y : S8x1024.Idx → EReal) (y : S8x1024.Idx),
      k0_pay6 (F := Ideal) (k0_pay3 k0_pay2 (iblk m c 0 t) (iblk m c 1 t)) (iblk m c 2 t) Y y
      = Y y + ((∑ r : Fin 512, duAt W A (row t r) (y 1) * nrm 1024 (fun k => X (ix2 (row t r) k)) (y 1) : ℝ) : EReal) := by
    intro t Y y
    rw [du_blk m ha hw t, blk2 m hx t]
    idx_vars y
    exact dg_apply _ _ _ _ _
  have hi : ∀ y : S8x1024.Idx, (((View.whole main_v4_1).slice (win0_7.rect t)).emb y) = y := by
    intro y
    blk_ext [idx t]
  have hN : t.val + 1 = cfg0.N := by
    have := (flush0_7 t).mp hf
    have h2 : t.val < 16 := t.isLt
    show t.val + 1 = 16
    omega
  rw [hi]
  refine (Pipeline.eq_sum_fin_of_reset_step_apply_last (fun n h => (outsAt0 m c n h).2) 16 (fun _ => (0 : EReal))
    (fun t y => ((∑ r : Fin 512, duAt W A (row t r) (y 1) * nrm 1024 (fun k => X (ix2 (row t r) k)) (y 1) : ℝ) : EReal))
    (fun t h0 y => ?_) (fun t h0 y => ?_) (by decide) t hN y).trans ?_
  · rw [outsAt0_A m c t h0]
    frame_out
    refine (key t _ y).trans ?_
    congr 1
    pointwise [k0_pay1]
  · rw [outsAt0_B m c t h0]
    frame_out
    exact key t _ y
  · rw [zero_add, coe_sum]
    congr 1
    exact Fin.sum_mul_add_congr (fun s k hl => rfl)

end Arrays

end Cert.DownIdeal.Read
end
-- ==== Proof.DownRef.lean ====
/- The reference of the gradient through the down projection and the normalization before it, as real numbers. -/
module

public import proofs.«01_k».proof.Proof.DownRead
public import proofs.«01_k».proof.Proof.Gen.DownRefIdeal.Run
public import proofs.«01_k».proof.Proof.Gen.DownRefIdeal.Read

@[expose] public section

set_option maxRecDepth 16384

noncomputable section

namespace Cert.DownRefIdeal.Tie

open Cert.DownRefIdeal Cert.DownRefIdeal.Gen Cert.DownRefIdeal.Read Idealize.ShloMosaic Idealize.ShloMosaic.TcCoe Idealize.SL.Sem
open Cert.Lift Cert.NormReal Cert.DownIdeal.Read

variable (X : S8192x1024.Idx → ℝ) (G : S1024.Idx → ℝ) (W : S1024x832.Idx → ℝ) (A : S8192x832.Idx → ℝ)

theorem v8 (a : Fin 8192) : val_main_v8 (F := Ideal) (fun i => ((X i : ℝ) : EReal)) (ix2 a 0)
    = (((∑ k, X (ix2 a k) * X (ix2 a k)) / 1024 + eps : ℝ) : EReal) := by
  pointwise [val_main_v8, val_main_v7, val_main_v6, val_main_v5, val_main_v4, val_main_v3, val_main_v2, val_main_cst, val_main_cst_0, val_main_cst_1]
  simp (disch := positivity) only [w1024, weps', coe_add, coe_mul, coe_div, coe_sum]

theorem v9 (a : Fin 8192) : val_main_v9 (F := Ideal) (fun i => ((X i : ℝ) : EReal)) (ix2 a 0) = ((rstd 1024 (fun k => X (ix2 a k)) : ℝ) : EReal) := by
  pointwise [val_main_v9]
  rw [v8, coe_rsqrt (ms_pos _ (by norm_num))]
  rfl

theorem v14 (a : Fin 8192) (b : Fin 1024) : val_main_v14 (F := Ideal) (fun i => ((X i : ℝ) : EReal)) (ix2 a b)
    = ((nrm 1024 (fun k => X (ix2 a k)) b : ℝ) : EReal) := by
  pointwise [val_main_v14, val_main_v13]
  rw [v9, coe_mul]
  rfl

theorem v19 (a : Fin 8192) (b : Fin 1024) : val_main_v19 (F := Ideal) (fun i => ((W i : ℝ) : EReal)) (fun i => ((A i : ℝ) : EReal)) (ix2 a b) = ((duAt W A a b : ℝ) : EReal) := by
  pointwise [val_main_v19, val_main_v1, val_main_v0]
  simp only [coe_mul, coe_sum]
  rfl

theorem v24 (a : Fin 8192) (b : Fin 1024) : val_main_v24 (F := Ideal) (fun i => ((G i : ℝ) : EReal)) (fun i => ((W i : ℝ) : EReal)) (fun i => ((A i : ℝ) : EReal)) (ix2 a b)
    = ((duAt W A a b * G (ix1 b) : ℝ) : EReal) := by
  pointwise [val_main_v24, val_main_v23, val_main_v15]
  rw [v19, coe_mul]

theorem v36 (a : Fin 8192) (b : Fin 1024) : val_main_v36 (F := Ideal) (fun i => ((X i : ℝ) : EReal)) (fun i => ((G i : ℝ) : EReal)) (fun i => ((W i : ℝ) : EReal)) (fun i => ((A i : ℝ) : EReal)) (ix2 a b)
    = (((∑ k, X (ix2 a k) * (duAt W A a k * G (ix1 k))) * (-(1 / 2) * (rstd 1024 (fun k => X (ix2 a k))
        / ((∑ k, X (ix2 a k) * X (ix2 a k)) / 1024 + eps))) / 1024 : ℝ) : EReal) := by
  pointwise [val_main_v36, val_main_v35, val_main_v34, val_main_v33, val_main_v32, val_main_v28, val_main_v27, val_main_v26,
    val_main_v12, val_main_v11, val_main_v10, val_main_cst_2, val_main_cst_5, val_main_cst_6, val_main_cst_7]
  simp (disch := first | positivity | exact (ms_pos _ (by norm_num)).ne') only
    [Fin.sum_univ_one, v8, v9, v24, w1024, wneghalf, coe_add, coe_mul, coe_div, coe_sum]

theorem v40 (R : S8192x1024.Idx → EReal) : val_main_v40 (F := Ideal) (fun i => ((X i : ℝ) : EReal)) (fun i => ((G i : ℝ) : EReal)) (fun i => ((W i : ℝ) : EReal)) R (fun i => ((A i : ℝ) : EReal))
    = fun i => R i + ((dxAt X G W A (i 0) (i 1) : ℝ) : EReal) := by
  funext i
  idx_vars i
  pointwise [val_main_v40, val_main_v39, val_main_v38, val_main_v37, val_main_v31, val_main_v30, val_main_v29]
  simp only [v9, v24, v36, coe_mul]
  rw [add_assoc, add_assoc, coe_add, coe_add, ← add_assoc]
  refine congrArg (R (ix2 i0 i1) + ·) (congrArg Real.toEReal ?_)
  exact dnrm_chain (c := 1024) (by norm_num) (fun k => X (ix2 i0 k)) (fun k => duAt W A i0 k * G (ix1 k)) i1

theorem v41 : val_main_v41 (F := Ideal) (fun i => ((X i : ℝ) : EReal)) (fun i => ((W i : ℝ) : EReal)) (fun i => ((A i : ℝ) : EReal)) = fun i => ((dgAt X W A (i 1) : ℝ) : EReal) := by
  funext i
  idx_vars i
  pointwise [val_main_v41, val_main_v25, val_main_v22, val_main_v21, val_main_v20, val_main_cst_3, val_main_cst_4]
  simp only [Fin.sum_univ_one, v14, v19, coe_mul, coe_sum]
  refine congrArg Real.toEReal ?_
  exact Finset.sum_congr rfl fun r _ => by ring

end Cert.DownRefIdeal.Tie
end
-- ==== Proof.DownClaim.lean ====
/- The gradient through the down projection and its normalization: the kernel's two results are the reference's. -/
module

public import proofs.«01_k».proof.Defs
public import proofs.«01_k».proof.Proof.DownRef
public import proofs.«01_k».proof.Proof.Gen.Down.Frame
public import proofs.«01_k».proof.Proof.Gen.DownIdeal.Frame
public import proofs.«01_k».proof.Proof.Gen.Pre_down_finite
public import Idealize.ShloMosaic.Adequacy
public import Idealize.ShloMosaic.Init

@[expose] public section

set_option maxRecDepth 16384

noncomputable section

namespace Cert.DownClaim

open Idealize.ShloMosaic Idealize.ShloMosaic.TcCoe Idealize.SL.Sem Cert.Lift

theorem down_value : algebraic_DownIdeal_DownRefIdeal_pre_down_finite := by
  intro m g m' g' hpre hag
  refine ⟨_, _, DownIdeal.Value.run_blocks m g, (θ_run _ _ _).mono (fun r h c => ?_) (DownRefIdeal.Value.run m' g')⟩
  have f := hpre c
  obtain ⟨X, hX⟩ : ∃ X : DownIdeal.S8192x1024.Idx → ℝ, m ((c : Thread DownIdeal.nD DownIdeal.τ).loc DownIdeal.main_arg0) = fun i : DownIdeal.S8192x1024.Idx => ((X i : ℝ) : EReal) :=
    fin_of_mask _ _ (fun _ => winf) f.1
  obtain ⟨G, hG⟩ : ∃ G : DownIdeal.S1024.Idx → ℝ, m ((c : Thread DownIdeal.nD DownIdeal.τ).loc DownIdeal.main_arg1) = fun i : DownIdeal.S1024.Idx => ((G i : ℝ) : EReal) :=
    fin_of_mask _ _ (fun _ => winf) f.2.1
  obtain ⟨W, hW⟩ : ∃ W : DownIdeal.S1024x832.Idx → ℝ, m ((c : Thread DownIdeal.nD DownIdeal.τ).loc DownIdeal.main_arg2) = fun i : DownIdeal.S1024x832.Idx => ((W i : ℝ) : EReal) :=
    fin_of_mask (extf .f32 _ Pre_down_finite.Gen.bitsLt_bf16_f32) _ (fun _ => winf) f.2.2.1
  obtain ⟨A, hA⟩ : ∃ A : DownIdeal.S8192x832.Idx → ℝ, m ((c : Thread DownIdeal.nD DownIdeal.τ).loc DownIdeal.main_arg4) = fun i : DownIdeal.S8192x832.Idx => ((A i : ℝ) : EReal) :=
    fin_of_mask (extf .f32 _ Pre_down_finite.Gen.bitsLt_bf16_f32) _ (fun _ => winf) f.2.2.2
  obtain ⟨e0, e1, e2, e3, e4⟩ := hag c
  obtain ⟨r0, r1, hk⟩ := h c
  have e0 := e0.trans hX
  have e1 := e1.trans hG
  have e2 := e2.trans hW
  have e4 := e4.trans hA
  refine ⟨r0.trans ?_, r1.trans ?_, hk⟩
  · rw [DownRefIdeal.Read.val_main_v40_eq, e0, e1, e2, e3, e4]
    exact (DownRefIdeal.Tie.v40 X G W A _).trans (DownIdeal.Read.arr6 m hX hW hA _ rfl hG).symm
  · rw [e0, e2, e4]
    exact (DownRefIdeal.Read.val_main_v41_eq _ _ _).trans ((DownRefIdeal.Tie.v41 X W A).trans (DownIdeal.Read.arr7 m hX hW hA).symm)

theorem ref_frame : quiescent_DownRefIdeal := fun m ρ _ =>
  (θ_run DownRefIdeal.defs _ _).mono (fun r h => ⟨fun c => (h c).2.2, sem_eq_zero_of_no_sems (by decide) r.2⟩)
    (DownRefIdeal.Value.run m ρ)

end Cert.DownClaim
end
-- ==== Proof.PointwiseRead.lean ====
/- The gradient through the first projection of the convolution block and the normalization before it: the arrays the kernel leaves, as real numbers. -/
module

public import proofs.«01_k».proof.Proof.NormReal
public import proofs.«01_k».proof.Proof.Gen.PointwiseIdeal.Value
public import Idealize.ShloMosaic.Lib.Pipeline.ValueKit

@[expose] public section

set_option maxRecDepth 16384

noncomputable section

namespace Cert.PointwiseIdeal.Read

open Cert.PointwiseIdeal Cert.PointwiseIdeal.Gen Idealize.ShloMosaic Idealize.ShloMosaic.TcCoe Idealize.ShloMosaic.StableHlo Idealize.SL.Sem Cert.Lift Cert.NormReal
open Idealize.ShloMosaic.Pipeline (Dat)

section Payloads

theorem nrm_apply (X : S512x1024.Idx → ℝ) (a : Fin 512) (b : Fin 1024) :
    k0_pay5 (F := Ideal) (fun i => ((X i : ℝ) : EReal)) (ix2 a b) = ((nrm 1024 (fun k => X (ix2 a k)) b : ℝ) : EReal) := by
  unfold_payloads
  pointwise
  simp (disch := first | positivity | exact ms_pos _ (by norm_num)) only
    [w1024, weps', wzero, coe_add, coe_sub, coe_mul, coe_div, coe_rsqrt, coe_sum]
  rfl

theorem rstd_apply (X : S512x1024.Idx → ℝ) (a : Fin 512) :
    k0_pay4 (F := Ideal) (fun i => ((X i : ℝ) : EReal)) (ix2 a 0) = ((rstd 1024 (fun k => X (ix2 a k)) : ℝ) : EReal) := by
  unfold_payloads
  pointwise
  simp (disch := first | positivity | exact ms_pos _ (by norm_num)) only
    [w1024, weps', wzero, coe_add, coe_sub, coe_mul, coe_div, coe_rsqrt, coe_sum]
  rfl

theorem dx_apply (U X : S512x1024.Idx → ℝ) (G : S1x1024.Idx → ℝ) (R : S512x1024.Idx → EReal) (a : Fin 512) (b : Fin 1024) :
    k0_pay7 (F := Ideal) (fun i => ((U i : ℝ) : EReal)) (fun i => ((X i : ℝ) : EReal)) (fun i => ((G i : ℝ) : EReal)) R (ix2 a b)
      = R (ix2 a b) + ((dnrm 1024 (fun k => X (ix2 a k)) (fun k => U (ix2 a k) * G (ix2 0 k)) b : ℝ) : EReal) := by
  pointwise [k0_pay7]
  simp (disch := positivity) only [nrm_apply, rstd_apply, w1024, wzero, coe_add, coe_sub, coe_mul, coe_div, coe_sum]
  rfl

theorem dg_apply (U X : S512x1024.Idx → ℝ) (Y : S8x1024.Idx → EReal) (a : Fin 8) (b : Fin 1024) :
    k0_pay6 (F := Ideal) (fun i => ((U i : ℝ) : EReal)) (fun i => ((X i : ℝ) : EReal)) Y (ix2 a b)
      = Y (ix2 a b) + ((∑ r : Fin 512, U (ix2 r b) * nrm 1024 (fun k => X (ix2 r k)) b : ℝ) : EReal) := by
  pointwise [k0_pay6]
  simp only [nrm_apply, wzero, coe_add, coe_mul, coe_sum]

theorem du_apply (A B : Fin 512 → Fin 1024 → ℝ) (W Z : Fin 1024 → Fin 1024 → ℝ) :
    k0_pay3 (F := Ideal) (k0_pay2 (F := Ideal)) (fun i => ((A (i 0) (i 1) : ℝ) : EReal)) (fun i => ((W (i 0) (i 1) : ℝ) : EReal))
        (fun i => ((B (i 0) (i 1) : ℝ) : EReal)) (fun i => ((Z (i 0) (i 1) : ℝ) : EReal))
      = fun i => ((∑ k, A (i 0) k * W (i 1) k + ∑ k, B (i 0) k * Z (i 1) k : ℝ) : EReal) := by
  funext i
  idx_vars i
  pointwise [k0_pay3, k0_pay2]
  simp only [coe_mul, coe_sum, coe_add]

end Payloads

/-- A column of the first half of the weights. -/
def low (k : Fin 1024) : Fin 2048 := ⟨k.val, by omega⟩
/-- A column of the second half of the weights. -/
def upp (k : Fin 1024) : Fin 2048 := ⟨1024 + k.val, by omega⟩

/-- The half of the weights that starts at column `0`. -/
def hLeft (w : FVec Ideal S1024x2048 .bf16) : FVec Ideal S1024x1024 .bf16 := extractStridedSlice S1024x1024 ![0, 0] w slices_S1024x2048_S1024x1024_0_0
/-- The half of the weights that starts at column `1024`. -/
def hRight (w : FVec Ideal S1024x2048 .bf16) : FVec Ideal S1024x1024 .bf16 := extractStridedSlice S1024x1024 ![0, 1024] w slices_S1024x2048_S1024x1024_0_1024

theorem hLeft_apply (w : FVec Ideal S1024x2048 .bf16) (y : S1024x1024.Idx) :
    hLeft w y = w (ix2 (y 0) (low (y 1))) := by
  idx_vars y
  unfold hLeft low
  pointwise

theorem hRight_apply (w : FVec Ideal S1024x2048 .bf16) (y : S1024x1024.Idx) :
    hRight w y = w (ix2 (y 0) (upp (y 1))) := by
  idx_vars y
  unfold hRight upp
  pointwise

variable (m : (ℓ : Loc nD τ sig) → Buf (Elt Ideal) ℓ)

theorem V_left (c : Dev nD) : V m c main_v0 = hLeft (m ((c : Thread nD τ).loc main_arg2)) := by
  unfold_abbrev_sides
  after_results_simp
  rfl

theorem V_right (c : Dev nD) : V m c main_v1 = hRight (m ((c : Thread nD τ).loc main_arg2)) := by
  unfold_abbrev_sides
  after_results_simp
  rfl

/-- The gain as a row. -/
def hGain (g : FVec Ideal S1024 .f32) : FVec Ideal S1x1024 .f32 := shapeCast S1x1024 g shapeCasts_S1024_S1x1024

theorem V_gain (c : Dev nD) : V m c main_v3 = hGain (m ((c : Thread nD τ).loc main_arg1)) := by
  unfold_abbrev_sides
  after_results_simp
  rfl

theorem gain_apply (g : FVec Ideal S1024 .f32) (y : S1x1024.Idx) : hGain g y = g (ix1 (y 1)) := by
  idx_vars y
  unfold hGain
  pointwise

theorem idx : ∀ t : Fin grid0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0]
    ∧ win0_8.index t = ![t.val, 0] ∧ win0_9.index t = ![0, 0] := by
  decide +kernel

/-- Row `a` of point `t`'s block. -/
def row (t : Fin cfg0.N) (a : Fin 512) : Fin 8192 := ⟨t.val * 512 + a.val, by have : t.val < 16 := t.isLt; omega⟩

section Arrays
variable {X : S8192x1024.Idx → ℝ} {G : S1024.Idx → ℝ} {W : S1024x2048.Idx → ℝ} {A B : S8192x1024.Idx → ℝ} {c : Dev nD}

theorem blk0 (ha : m ((c : Thread nD τ).loc main_arg4) = fun i => ((A i : ℝ) : EReal)) (t : Fin cfg0.N) :
    iblk m c 0 t = fun y => ((A (ix2 (row t (y 0)) (y 1)) : ℝ) : EReal) := by
  have h : iblk m c 0 t = fun y => m ((c : Thread nD τ).loc main_arg4) (ix2 (row t (y 0)) (y 1)) := by
    funext y
    blk_ext [iblk, V, idx t, row]
  rw [h, ha]

theorem blk1 (hb : m ((c : Thread nD τ).loc main_arg5) = fun i => ((B i : ℝ) : EReal)) (t : Fin cfg0.N) :
    iblk m c 1 t = fun y => ((B (ix2 (row t (y 0)) (y 1)) : ℝ) : EReal) := by
  have h : iblk m c 1 t = fun y => m ((c : Thread nD τ).loc main_arg5) (ix2 (row t (y 0)) (y 1)) := by
    funext y
    blk_ext [iblk, V, idx t, row]
  rw [h, hb]

theorem blk2 (hw : m ((c : Thread nD τ).loc main_arg2) = fun i => ((W i : ℝ) : EReal)) (t : Fin cfg0.N) :
    iblk m c 2 t = fun y => ((W (ix2 (y 0) (low (y 1))) : ℝ) : EReal) := by
  have h : iblk m c 2 t = fun y => V m c main_v0 y := by
    funext y
    blk_ext [iblk, idx t]
  rw [h, V_left, hw]
  funext y
  exact hLeft_apply _ _

theorem blk3 (hw : m ((c : Thread nD τ).loc main_arg2) = fun i => ((W i : ℝ) : EReal)) (t : Fin cfg0.N) :
    iblk m c 3 t = fun y => ((W (ix2 (y 0) (upp (y 1))) : ℝ) : EReal) := by
  have h : iblk m c 3 t = fun y => V m c main_v1 y := by
    funext y
    blk_ext [iblk, idx t]
  rw [h, V_right, hw]
  funext y
  exact hRight_apply _ _

theorem blk4 (hx : m ((c : Thread nD τ).loc main_arg0) = fun i => ((X i : ℝ) : EReal)) (t : Fin cfg0.N) :
    iblk m c 4 t = fun y => ((X (ix2 (row t (y 0)) (y 1)) : ℝ) : EReal) := by
  have h : iblk m c 4 t = fun y => m ((c : Thread nD τ).loc main_arg0) (ix2 (row t (y 0)) (y 1)) := by
    funext y
    blk_ext [iblk, V, idx t, row]
  rw [h, hx]

theorem blk5 (hg : m ((c : Thread nD τ).loc main_arg1) = fun i => ((G i : ℝ) : EReal)) (t : Fin cfg0.N) :
    iblk m c 5 t = fun y => ((G (ix1 (y 1)) : ℝ) : EReal) := by
  have h : iblk m c 5 t = fun y => V m c main_v3 y := by
    funext y
    blk_ext [iblk, idx t]
  rw [h, V_gain, hg]
  funext y
  exact gain_apply _ _

theorem blk6 (t : Fin cfg0.N) : iblk m c 6 t = fun y => m ((c : Thread nD τ).loc main_arg3) (ix2 (row t (y 0)) (y 1)) := by
  funext y
  blk_ext [iblk, V, idx t, row]

variable (X G W A B)

/-- The gradient by row `r` of the normalized and scaled array. -/
def duAt (r : Fin 8192) (b : Fin 1024) : ℝ :=
  ∑ k : Fin 1024, A (ix2 r k) * W (ix2 b (low k))
    + ∑ k : Fin 1024, B (ix2 r k) * W (ix2 b (upp k))

variable {W A B} in
theorem du_blk (ha : m ((c : Thread nD τ).loc main_arg4) = fun i => ((A i : ℝ) : EReal))
    (hb : m ((c : Thread nD τ).loc main_arg5) = fun i => ((B i : ℝ) : EReal))
    (hw : m ((c : Thread nD τ).loc main_arg2) = fun i => ((W i : ℝ) : EReal)) (t : Fin cfg0.N) :
    k0_pay3 (F := Ideal) (k0_pay2 (F := Ideal)) (iblk m c 0 t) (iblk m c 2 t) (iblk m c 1 t) (iblk m c 3 t)
      = fun i : S512x1024.Idx => ((duAt W A B (row t (i 0)) (i 1) : ℝ) : EReal) := by
  rw [blk0 m ha t, blk1 m hb t, blk2 m hw t, blk3 m hw t]
  exact du_apply (fun a k => A (ix2 (row t a) k)) (fun a k => B (ix2 (row t a) k))
    (fun a k => W (ix2 a (low k))) (fun a k => W (ix2 a (upp k)))

/-- What the gradient by the input has beside the residual's. -/
def dxAt (r : Fin 8192) (b : Fin 1024) : ℝ := dnrm 1024 (fun k => X (ix2 r k)) (fun k => duAt W A B r k * G (ix1 k)) b

/-- The gradient by the gain. -/
def dgAt (b : Fin 1024) : ℝ := ∑ r : Fin 8192, duAt W A B r b * nrm 1024 (fun k => X (ix2 r k)) b

variable {X G W A B} (hx : m ((c : Thread nD τ).loc main_arg0) = fun i => ((X i : ℝ) : EReal))
  (hg : m ((c : Thread nD τ).loc main_arg1) = fun i => ((G i : ℝ) : EReal))
  (hw : m ((c : Thread nD τ).loc main_arg2) = fun i => ((W i : ℝ) : EReal))
  (ha : m ((c : Thread nD τ).loc main_arg4) = fun i => ((A i : ℝ) : EReal))
  (hb : m ((c : Thread nD τ).loc main_arg5) = fun i => ((B i : ℝ) : EReal))
include hx hw ha hb

theorem arr8 (R : S8192x1024.Idx → EReal) (hr : m ((c : Thread nD τ).loc main_arg3) = R)
    (hg : m ((c : Thread nD τ).loc main_arg1) = fun i => ((G i : ℝ) : EReal)) :
    (dats m 0 c).arrAt 8 cfg0.N = fun i : S8192x1024.Idx => R i + ((dxAt X G W A B (i 0) (i 1) : ℝ) : EReal) := by
  refine (dats m 0 c).arrAt_eq_of_covers 8 _ (by decide +kernel) fun t hf y => ?_
  blk_simp
  rw [after0_8]
  have key : ∀ (y : S512x1024.Idx), k0_pay7 (F := Ideal) (k0_pay3 k0_pay2 (iblk m c 0 t) (iblk m c 2 t) (iblk m c 1 t) (iblk m c 3 t)) (iblk m c 4 t) (iblk m c 5 t) (iblk m c 6 t) y
      = R (ix2 (row t (y 0)) (y 1)) + ((dxAt X G W A B (row t (y 0)) (y 1) : ℝ) : EReal) := by
    intro y
    rw [du_blk m ha hb hw t, blk4 m hx t, blk5 m hg t, blk6 m t, hr]
    idx_vars y
    exact dx_apply _ _ _ _ _ _
  have hi : ∀ y : S512x1024.Idx, (((View.whole main_v4_0).slice (win0_8.rect t)).emb y) = ix2 (row t (y 0)) (y 1) := by
    intro y
    blk_ext [idx t, row]
  by_cases h0 : t.val % 16 = 0
  · rw [outsAt0_A m c t h0]
    frame_out
    exact (key y).trans (by rw [hi]; rfl)
  · rw [outsAt0_B m c t h0]
    frame_out
    exact (key y).trans (by rw [hi]; rfl)

theorem arr9 : (dats m 0 c).arrAt 9 cfg0.N = fun i : S8x1024.Idx => ((dgAt X W A B (i 1) : ℝ) : EReal) := by
  refine (dats m 0 c).arrAt_eq_of_covers 9 _ (by decide +kernel) fun t hf y => ?_
  blk_simp
  rw [after0_9]
  have key : ∀ (t : Fin cfg0.N) (Y : S8x1024.Idx → EReal) (y : S8x1024.Idx),
      k0_pay6 (F := Ideal) (k0_pay3 k0_pay2 (iblk m c 0 t) (iblk m c 2 t) (iblk m c 1 t) (iblk m c 3 t)) (iblk m c 4 t) Y y
      = Y y + ((∑ r : Fin 512, duAt W A B (row t r) (y 1) * nrm 1024 (fun k => X (ix2 (row t r) k)) (y 1) : ℝ) : EReal) := by
    intro t Y y
    rw [du_blk m ha hb hw t, blk4 m hx t]
    idx_vars y
    exact dg_apply _ _ _ _ _
  have hi : ∀ y : S8x1024.Idx, (((View.whole main_v4_1).slice (win0_9.rect t)).emb y) = y := by
    intro y
    blk_ext [idx t]
  have hN : t.val + 1 = cfg0.N := by
    have := (flush0_9 t).mp hf
    have h2 : t.val < 16 := t.isLt
    show t.val + 1 = 16
    omega
  rw [hi]
  refine (Pipeline.eq_sum_fin_of_reset_step_apply_last (fun n h => (outsAt0 m c n h).2) 16 (fun _ => (0 : EReal))
    (fun t y => ((∑ r : Fin 512, duAt W A B (row t r) (y 1) * nrm 1024 (fun k => X (ix2 (row t r) k)) (y 1) : ℝ) : EReal))
    (fun t h0 y => ?_) (fun t h0 y => ?_) (by decide) t hN y).trans ?_
  · rw [outsAt0_A m c t h0]
    frame_out
    refine (key t _ y).trans ?_
    congr 1
    pointwise [k0_pay1]
  · rw [outsAt0_B m c t h0]
    frame_out
    exact key t _ y
  · rw [zero_add, coe_sum]
    congr 1
    exact Fin.sum_mul_add_congr (fun s k hl => rfl)

end Arrays

end Cert.PointwiseIdeal.Read
end
-- ==== Proof.PointwiseRef.lean ====
/- The reference of the gradient through the first projection of the convolution block and the normalization before it, as real numbers. -/
module

public import proofs.«01_k».proof.Proof.PointwiseRead
public import proofs.«01_k».proof.Proof.Gen.PointwiseRefIdeal.Run
public import proofs.«01_k».proof.Proof.Gen.PointwiseRefIdeal.Read

@[expose] public section

set_option maxRecDepth 16384

noncomputable section

namespace Cert.PointwiseRefIdeal.Tie

open Cert.PointwiseRefIdeal Cert.PointwiseRefIdeal.Gen Cert.PointwiseRefIdeal.Read Idealize.ShloMosaic Idealize.ShloMosaic.TcCoe Idealize.SL.Sem
open Cert.Lift Cert.NormReal Cert.PointwiseIdeal.Read

variable (X : S8192x1024.Idx → ℝ) (G : S1024.Idx → ℝ) (W : S1024x2048.Idx → ℝ) (A B : S8192x1024.Idx → ℝ)

theorem v9 (a : Fin 8192) : val_main_v9 (F := Ideal) (fun i => ((X i : ℝ) : EReal)) (ix2 a 0)
    = (((∑ k, X (ix2 a k) * X (ix2 a k)) / 1024 + eps : ℝ) : EReal) := by
  pointwise [val_main_v9, val_main_v8, val_main_v7, val_main_v6, val_main_v5, val_main_v4, val_main_v3, val_main_cst, val_main_cst_0, val_main_cst_1]
  simp (disch := positivity) only [w1024, weps', coe_add, coe_mul, coe_div, coe_sum]

theorem v10 (a : Fin 8192) : val_main_v10 (F := Ideal) (fun i => ((X i : ℝ) : EReal)) (ix2 a 0) = ((rstd 1024 (fun k => X (ix2 a k)) : ℝ) : EReal) := by
  pointwise [val_main_v10]
  rw [v9, coe_rsqrt (ms_pos _ (by norm_num))]
  rfl

theorem v15 (a : Fin 8192) (b : Fin 1024) : val_main_v15 (F := Ideal) (fun i => ((X i : ℝ) : EReal)) (ix2 a b)
    = ((nrm 1024 (fun k => X (ix2 a k)) b : ℝ) : EReal) := by
  pointwise [val_main_v15, val_main_v14]
  rw [v10, coe_mul]
  rfl

/-- The two gradients side by side. -/
theorem v22_low (a : Fin 8192) (k : Fin 1024) : val_main_v22 (F := Ideal) (fun i => ((A i : ℝ) : EReal)) (fun i => ((B i : ℝ) : EReal)) (ix2 a (low k)) = ((A (ix2 a k) : ℝ) : EReal) := by
  pointwise [val_main_v22, val_main_v1]
  rw [dif_pos (show (low k).val < 1024 from k.isLt)]
  rfl

theorem v22_upp (a : Fin 8192) (k : Fin 1024) : val_main_v22 (F := Ideal) (fun i => ((A i : ℝ) : EReal)) (fun i => ((B i : ℝ) : EReal)) (ix2 a (upp k)) = ((B (ix2 a k) : ℝ) : EReal) := by
  pointwise [val_main_v22, val_main_v2]
  rw [dif_neg (show ¬ (upp k).val < 1024 by show ¬ 1024 + k.val < 1024; omega)]
  refine congrArg (fun i => ((B i : ℝ) : EReal)) ?_
  refine congrArg (ix2 a) (Fin.ext ?_)
  show 1024 + k.val - 1024 = k.val
  omega

theorem v23 (a : Fin 8192) (b : Fin 1024) : val_main_v23 (F := Ideal) (fun i => ((W i : ℝ) : EReal)) (fun i => ((A i : ℝ) : EReal)) (fun i => ((B i : ℝ) : EReal)) (ix2 a b) = ((duAt W A B a b : ℝ) : EReal) := by
  pointwise [val_main_v23, val_main_v0]
  refine (Fin.sum_univ_add (a := 1024) (b := 1024) _).trans ?_
  rw [duAt, ← coe_add, ← coe_sum, ← coe_sum]
  refine congrArg₂ (· + ·) (Finset.sum_congr rfl fun k _ => ?_) (Finset.sum_congr rfl fun k _ => ?_)
  · exact (congrArg (· * _) (v22_low A B a k)).trans (coe_mul _ _)
  · exact (congrArg (· * _) (v22_upp A B a k)).trans (coe_mul _ _)

theorem v28 (a : Fin 8192) (b : Fin 1024) : val_main_v28 (F := Ideal) (fun i => ((G i : ℝ) : EReal)) (fun i => ((W i : ℝ) : EReal)) (fun i => ((A i : ℝ) : EReal)) (fun i => ((B i : ℝ) : EReal)) (ix2 a b)
    = ((duAt W A B a b * G (ix1 b) : ℝ) : EReal) := by
  pointwise [val_main_v28, val_main_v27, val_main_v16]
  rw [v23, coe_mul]

theorem v40 (a : Fin 8192) (b : Fin 1024) : val_main_v40 (F := Ideal) (fun i => ((X i : ℝ) : EReal)) (fun i => ((G i : ℝ) : EReal)) (fun i => ((W i : ℝ) : EReal)) (fun i => ((A i : ℝ) : EReal)) (fun i => ((B i : ℝ) : EReal)) (ix2 a b)
    = (((∑ k, X (ix2 a k) * (duAt W A B a k * G (ix1 k))) * (-(1 / 2) * (rstd 1024 (fun k => X (ix2 a k))
        / ((∑ k, X (ix2 a k) * X (ix2 a k)) / 1024 + eps))) / 1024 : ℝ) : EReal) := by
  pointwise [val_main_v40, val_main_v39, val_main_v38, val_main_v37, val_main_v36, val_main_v32, val_main_v31, val_main_v30,
    val_main_v13, val_main_v12, val_main_v11, val_main_cst_2, val_main_cst_5, val_main_cst_6, val_main_cst_7]
  simp (disch := first | positivity | exact (ms_pos _ (by norm_num)).ne') only
    [Fin.sum_univ_one, v9, v10, v28, w1024, wneghalf, coe_add, coe_mul, coe_div, coe_sum]

theorem v44 (R : S8192x1024.Idx → EReal) : val_main_v44 (F := Ideal) (fun i => ((X i : ℝ) : EReal)) (fun i => ((G i : ℝ) : EReal)) (fun i => ((W i : ℝ) : EReal)) R (fun i => ((A i : ℝ) : EReal)) (fun i => ((B i : ℝ) : EReal))
    = fun i => R i + ((dxAt X G W A B (i 0) (i 1) : ℝ) : EReal) := by
  funext i
  idx_vars i
  pointwise [val_main_v44, val_main_v43, val_main_v42, val_main_v41, val_main_v35, val_main_v34, val_main_v33]
  simp only [v10, v28, v40, coe_mul]
  rw [add_assoc, add_assoc, coe_add, coe_add, ← add_assoc]
  refine congrArg (R (ix2 i0 i1) + ·) (congrArg Real.toEReal ?_)
  exact dnrm_chain (c := 1024) (by norm_num) (fun k => X (ix2 i0 k)) (fun k => duAt W A B i0 k * G (ix1 k)) i1

theorem v45 : val_main_v45 (F := Ideal) (fun i => ((X i : ℝ) : EReal)) (fun i => ((W i : ℝ) : EReal)) (fun i => ((A i : ℝ) : EReal)) (fun i => ((B i : ℝ) : EReal)) = fun i => ((dgAt X W A B (i 1) : ℝ) : EReal) := by
  funext i
  idx_vars i
  pointwise [val_main_v45, val_main_v29, val_main_v26, val_main_v25, val_main_v24, val_main_cst_3, val_main_cst_4]
  simp only [Fin.sum_univ_one, v15, v23, coe_mul, coe_sum]
  refine congrArg Real.toEReal ?_
  exact Finset.sum_congr rfl fun r _ => by ring

end Cert.PointwiseRefIdeal.Tie
end
-- ==== Proof.PointwiseClaim.lean ====
/- The gradient through the first projection of the convolution block and its normalization: the kernel's two results are the reference's. -/
module

public import proofs.«01_k».proof.Defs
public import proofs.«01_k».proof.Proof.PointwiseRef
public import proofs.«01_k».proof.Proof.Gen.Pointwise.Frame
public import proofs.«01_k».proof.Proof.Gen.PointwiseIdeal.Frame
public import proofs.«01_k».proof.Proof.Gen.Pre_pointwise_finite
public import Idealize.ShloMosaic.Adequacy
public import Idealize.ShloMosaic.Init

@[expose] public section

set_option maxRecDepth 16384

noncomputable section

namespace Cert.PointwiseClaim

open Idealize.ShloMosaic Idealize.ShloMosaic.TcCoe Idealize.SL.Sem Cert.Lift

theorem pointwise_value : algebraic_PointwiseIdeal_PointwiseRefIdeal_pre_pointwise_finite := by
  intro m g m' g' hpre hag
  refine ⟨_, _, PointwiseIdeal.Value.run_blocks m g, (θ_run _ _ _).mono (fun r h c => ?_) (PointwiseRefIdeal.Value.run m' g')⟩
  have f := hpre c
  obtain ⟨X, hX⟩ : ∃ X : PointwiseIdeal.S8192x1024.Idx → ℝ, m ((c : Thread PointwiseIdeal.nD PointwiseIdeal.τ).loc PointwiseIdeal.main_arg0) = fun i : PointwiseIdeal.S8192x1024.Idx => ((X i : ℝ) : EReal) :=
    fin_of_mask _ _ (fun _ => winf) f.1
  obtain ⟨G, hG⟩ : ∃ G : PointwiseIdeal.S1024.Idx → ℝ, m ((c : Thread PointwiseIdeal.nD PointwiseIdeal.τ).loc PointwiseIdeal.main_arg1) = fun i : PointwiseIdeal.S1024.Idx => ((G i : ℝ) : EReal) :=
    fin_of_mask _ _ (fun _ => winf) f.2.1
  obtain ⟨W, hW⟩ : ∃ W : PointwiseIdeal.S1024x2048.Idx → ℝ, m ((c : Thread PointwiseIdeal.nD PointwiseIdeal.τ).loc PointwiseIdeal.main_arg2) = fun i : PointwiseIdeal.S1024x2048.Idx => ((W i : ℝ) : EReal) :=
    fin_of_mask (extf .f32 _ Pre_pointwise_finite.Gen.bitsLt_bf16_f32) _ (fun _ => winf) f.2.2.1
  obtain ⟨A, hA⟩ : ∃ A : PointwiseIdeal.S8192x1024.Idx → ℝ, m ((c : Thread PointwiseIdeal.nD PointwiseIdeal.τ).loc PointwiseIdeal.main_arg4) = fun i : PointwiseIdeal.S8192x1024.Idx => ((A i : ℝ) : EReal) :=
    fin_of_mask (extf .f32 _ Pre_pointwise_finite.Gen.bitsLt_bf16_f32) _ (fun _ => winf) f.2.2.2.1
  obtain ⟨B, hB⟩ : ∃ B : PointwiseIdeal.S8192x1024.Idx → ℝ, m ((c : Thread PointwiseIdeal.nD PointwiseIdeal.τ).loc PointwiseIdeal.main_arg5) = fun i : PointwiseIdeal.S8192x1024.Idx => ((B i : ℝ) : EReal) :=
    fin_of_mask (extf .f32 _ Pre_pointwise_finite.Gen.bitsLt_bf16_f32) _ (fun _ => winf) f.2.2.2.2
  obtain ⟨e0, e1, e2, e3, e4, e5⟩ := hag c
  obtain ⟨r0, r1, hk⟩ := h c
  have e0 := e0.trans hX
  have e1 := e1.trans hG
  have e2 := e2.trans hW
  have e4 := e4.trans hA
  have e5 := e5.trans hB
  refine ⟨r0.trans ?_, r1.trans ?_, hk⟩
  · rw [PointwiseRefIdeal.Read.val_main_v44_eq, e0, e1, e2, e3, e4, e5]
    exact (PointwiseRefIdeal.Tie.v44 X G W A B _).trans (PointwiseIdeal.Read.arr8 m hX hW hA hB _ rfl hG).symm
  · rw [e0, e2, e4, e5]
    exact (PointwiseRefIdeal.Read.val_main_v45_eq _ _ _ _).trans ((PointwiseRefIdeal.Tie.v45 X W A B).trans (PointwiseIdeal.Read.arr9 m hX hW hA hB).symm)

theorem ref_frame : quiescent_PointwiseRefIdeal := fun m ρ _ =>
  (θ_run PointwiseRefIdeal.defs _ _).mono (fun r h => ⟨fun c => (h c).2.2, sem_eq_zero_of_no_sems (by decide) r.2⟩)
    (PointwiseRefIdeal.Value.run m ρ)

end Cert.PointwiseClaim
end
-- ==== Proof.ConvNormRead.lean ====
/- The gradient through the gate and the normalization after the convolution: the arrays the kernel leaves, as real numbers. -/
module

public import proofs.«01_k».proof.Proof.NormReal
public import proofs.«01_k».proof.Proof.Gen.ConvNormIdeal.Value
public import Idealize.ShloMosaic.Lib.Pipeline.ValueKit

@[expose] public section

set_option maxRecDepth 16384

noncomputable section

namespace Cert.ConvNormIdeal.Read

open Cert.ConvNormIdeal Cert.ConvNormIdeal.Gen Idealize.ShloMosaic Idealize.ShloMosaic.TcCoe Idealize.SL.Sem Cert.Lift Cert.NormReal
open Idealize.ShloMosaic.Pipeline (Dat)

/-- The derivative of `u ↦ u / (1 + exp (-u))`. -/
def dsilu (u : ℝ) : ℝ := (1 + Real.exp (-u))⁻¹ * (1 + u * (1 - (1 + Real.exp (-u))⁻¹))

/-- The gradient by the normalized and scaled row: `p` the gradient by the gate's value. -/
def du (x p g : Fin 1024 → ℝ) (j : Fin 1024) : ℝ := p j * dsilu (nrm 1024 x j * g j)

section Payloads
variable (D X : S512x1024.Idx → ℝ) (W : S1024x1024.Idx → ℝ) (G : S1x1024.Idx → ℝ)

/-- The gradient by the normalized row, row `a` of a block. -/
def duBlk (a : Fin 512) : Fin 1024 → ℝ :=
  du (fun k => X (ix2 a k)) (fun k => ∑ l, D (ix2 a l) * W (ix2 k l)) (fun k => G (ix2 0 k))

theorem du_apply (a : Fin 512) (b : Fin 1024) :
    k0_pay5 (F := Ideal) (fun i => ((D i : ℝ) : EReal)) (fun i => ((W i : ℝ) : EReal)) (fun i => ((X i : ℝ) : EReal))
        (fun i => ((G i : ℝ) : EReal)) (ix2 a b)
      = ((duBlk D X W G a b : ℝ) : EReal) := by
  unfold_payloads
  pointwise
  simp (disch := first | positivity | exact ms_pos _ (by norm_num)) only
    [w1024, wone, weps', wzero, coe_add, coe_sub, coe_mul, coe_div, coe_rsqrt, coe_sum, coe_logistic]
  rfl

theorem nrm_apply (a : Fin 512) (b : Fin 1024) :
    k0_pay4 (F := Ideal) (fun i => ((X i : ℝ) : EReal)) (ix2 a b) = ((nrm 1024 (fun k => X (ix2 a k)) b : ℝ) : EReal) := by
  unfold_payloads
  pointwise
  simp (disch := first | positivity | exact ms_pos _ (by norm_num)) only
    [w1024, weps', wzero, coe_add, coe_sub, coe_mul, coe_div, coe_rsqrt, coe_sum]
  rfl

theorem rstd_apply (a : Fin 512) :
    k0_pay3 (F := Ideal) (fun i => ((X i : ℝ) : EReal)) (ix2 a 0) = ((rstd 1024 (fun k => X (ix2 a k)) : ℝ) : EReal) := by
  unfold_payloads
  pointwise
  simp (disch := first | positivity | exact ms_pos _ (by norm_num)) only
    [w1024, weps', wzero, coe_add, coe_sub, coe_mul, coe_div, coe_rsqrt, coe_sum]
  rfl

theorem dx_apply (a : Fin 512) (b : Fin 1024) :
    k0_pay1 (F := Ideal) (k0_pay3 fun i => ((X i : ℝ) : EReal)) (k0_pay4 fun i => ((X i : ℝ) : EReal))
        (k0_pay5 (fun i => ((D i : ℝ) : EReal)) (fun i => ((W i : ℝ) : EReal)) (fun i => ((X i : ℝ) : EReal)) (fun i => ((G i : ℝ) : EReal)))
        (fun i => ((G i : ℝ) : EReal)) (ix2 a b)
      = ((dnrm 1024 (fun k => X (ix2 a k)) (fun k => duBlk D X W G a k * G (ix2 0 k)) b : ℝ) : EReal) := by
  pointwise [k0_pay1]
  simp (disch := positivity) only [du_apply, nrm_apply, rstd_apply, w1024, wzero, coe_add, coe_sub, coe_mul, coe_div, coe_sum]
  rfl

theorem dg_apply (Y : S8x1024.Idx → EReal) (a : Fin 8) (b : Fin 1024) :
    k0_pay6 (F := Ideal) (fun i => ((D i : ℝ) : EReal)) (fun i => ((W i : ℝ) : EReal)) (fun i => ((X i : ℝ) : EReal))
        (fun i => ((G i : ℝ) : EReal)) Y (ix2 a b)
      = Y (ix2 a b) + ((∑ r : Fin 512, duBlk D X W G r b * nrm 1024 (fun k => X (ix2 r k)) b : ℝ) : EReal) := by
  pointwise [k0_pay6]
  simp only [du_apply, nrm_apply, wzero, coe_add, coe_mul, coe_sum]

end Payloads

variable (m : (ℓ : Loc nD τ sig) → Buf (Elt Ideal) ℓ)

theorem idx : ∀ t : Fin grid0.N, win0_0.index t = ![t.val, 0] ∧ win0_1.index t = ![t.val, 0] ∧ win0_2.index t = ![0, 0]
    ∧ win0_3.index t = ![0, 0] ∧ win0_5.index t = ![t.val, 0] ∧ win0_6.index t = ![0, 0] := by decide +kernel

/-- Row `a` of point `t`'s block. -/
def row (t : Fin cfg0.N) (a : Fin 512) : Fin 8192 := ⟨t.val * 512 + a.val, by have : t.val < 16 := t.isLt; omega⟩

section Arrays
variable {D X : S8192x1024.Idx → ℝ} {G : S1024.Idx → ℝ} {W : S1024x1024.Idx → ℝ} {c : Dev nD}

theorem blk0 (hd : m ((c : Thread nD τ).loc main_arg0) = fun i => ((D i : ℝ) : EReal)) (t : Fin cfg0.N) :
    iblk m c 0 t = fun y => ((D (ix2 (row t (y 0)) (y 1)) : ℝ) : EReal) := by
  have h : iblk m c 0 t = fun y => m ((c : Thread nD τ).loc main_arg0) (ix2 (row t (y 0)) (y 1)) := by
    funext y
    blk_ext [iblk, V, idx t, row]
  rw [h, hd]

theorem blk1 (hx : m ((c : Thread nD τ).loc main_arg1) = fun i => ((X i : ℝ) : EReal)) (t : Fin cfg0.N) :
    iblk m c 1 t = fun y => ((X (ix2 (row t (y 0)) (y 1)) : ℝ) : EReal) := by
  have h : iblk m c 1 t = fun y => m ((c : Thread nD τ).loc main_arg1) (ix2 (row t (y 0)) (y 1)) := by
    funext y
    blk_ext [iblk, V, idx t, row]
  rw [h, hx]

theorem blk2 (hw : m ((c : Thread nD τ).loc main_arg3) = fun i => ((W i : ℝ) : EReal)) (t : Fin cfg0.N) :
    iblk m c 2 t = fun y => ((W y : ℝ) : EReal) := by
  have h : iblk m c 2 t = fun y => m ((c : Thread nD τ).loc main_arg3) y := by
    funext y
    blk_ext [iblk, V, idx t]
  exact h.trans hw

theorem blk3 (hg : m ((c : Thread nD τ).loc main_arg2) = fun i => ((G i : ℝ) : EReal)) (t : Fin cfg0.N) :
    iblk m c 3 t = fun y => ((G (ix1 (y 1)) : ℝ) : EReal) := by
  have h : iblk m c 3 t = fun y => m ((c : Thread nD τ).loc main_arg2) (ix1 (y 1)) := by
    funext y
    blk_ext! [iblk, V, idx t]
  rw [h, hg]

variable (D X G W)

/-- The gradient by row `r` of the normalized and scaled array. -/
def duAt (r : Fin 8192) : Fin 1024 → ℝ :=
  du (fun k => X (ix2 r k)) (fun k => ∑ l, D (ix2 r l) * W (ix2 k l)) (fun k => G (ix1 k))

/-- The gradient by the convolution's output. -/
def dxAt (r : Fin 8192) (b : Fin 1024) : ℝ := dnrm 1024 (fun k => X (ix2 r k)) (fun k => duAt D X G W r k * G (ix1 k)) b

/-- The gradient by the gain. -/
def dgAt (b : Fin 1024) : ℝ := ∑ r : Fin 8192, duAt D X G W r b * nrm 1024 (fun k => X (ix2 r k)) b

variable {D X G W} (hd : m ((c : Thread nD τ).loc main_arg0) = fun i => ((D i : ℝ) : EReal))
  (hx : m ((c : Thread nD τ).loc main_arg1) = fun i => ((X i : ℝ) : EReal))
  (hg : m ((c : Thread nD τ).loc main_arg2) = fun i => ((G i : ℝ) : EReal))
  (hw : m ((c : Thread nD τ).loc main_arg3) = fun i => ((W i : ℝ) : EReal))
include hd hx hg hw

theorem arr5 : (dats m 0 c).arrAt 5 cfg0.N = fun i : S8192x1024.Idx => ((dxAt D X G W (i 0) (i 1) : ℝ) : EReal) := by
  refine (dats m 0 c).arrAt_eq_of_covers 5 _ (by decide +kernel) fun t hf y => ?_
  blk_simp
  rw [after0_5]
  have key : ∀ (y : S512x1024.Idx), k0_pay1 (F := Ideal) (k0_pay3 (iblk m c 1 t)) (k0_pay4 (iblk m c 1 t))
      (k0_pay5 (iblk m c 0 t) (iblk m c 2 t) (iblk m c 1 t) (iblk m c 3 t)) (iblk m c 3 t) y
      = ((dxAt D X G W (row t (y 0)) (y 1) : ℝ) : EReal) := by
    intro y
    rw [blk0 m hd t, blk1 m hx t, blk2 m hw t, blk3 m hg t]
    idx_vars y
    exact dx_apply _ _ _ _ _ _
  have hi : ∀ y : S512x1024.Idx, (((View.whole main_v2_0).slice (win0_5.rect t)).emb y) = ix2 (row t (y 0)) (y 1) := by
    intro y
    blk_ext [idx t, row]
  by_cases h0 : t.val % 16 = 0
  · rw [outsAt0_A m c t h0]
    frame_out
    exact (key y).trans (by rw [hi]; rfl)
  · rw [outsAt0_B m c t h0]
    frame_out
    exact (key y).trans (by rw [hi]; rfl)

theorem arr6 : (dats m 0 c).arrAt 6 cfg0.N = fun i : S8x1024.Idx => ((dgAt D X G W (i 1) : ℝ) : EReal) := by
  refine (dats m 0 c).arrAt_eq_of_covers 6 _ (by decide +kernel) fun t hf y => ?_
  blk_simp
  rw [after0_6]
  have key : ∀ (t : Fin cfg0.N) (Y : S8x1024.Idx → EReal) (y : S8x1024.Idx), k0_pay6 (F := Ideal) (iblk m c 0 t) (iblk m c 2 t)
      (iblk m c 1 t) (iblk m c 3 t) Y y
      = Y y + ((∑ r : Fin 512, duAt D X G W (row t r) (y 1) * nrm 1024 (fun k => X (ix2 (row t r) k)) (y 1) : ℝ) : EReal) := by
    intro t Y y
    rw [blk0 m hd t, blk1 m hx t, blk2 m hw t, blk3 m hg t]
    idx_vars y
    exact dg_apply _ _ _ _ _ _ _
  have hi : ∀ y : S8x1024.Idx, (((View.whole main_v2_1).slice (win0_6.rect t)).emb y) = y := by
    intro y
    blk_ext [idx t]
  have hN : t.val + 1 = cfg0.N := by
    have := (flush0_6 t).mp hf
    have h2 : t.val < 16 := t.isLt
    show t.val + 1 = 16
    omega
  rw [hi]
  refine (Pipeline.eq_sum_fin_of_reset_step_apply_last (fun n h => (outsAt0 m c n h).2) 16 (fun _ => (0 : EReal))
    (fun t y => ((∑ r : Fin 512, duAt D X G W (row t r) (y 1) * nrm 1024 (fun k => X (ix2 (row t r) k)) (y 1) : ℝ) : EReal))
    (fun t h0 y => ?_) (fun t h0 y => ?_) (by decide) t hN y).trans ?_
  · rw [outsAt0_A m c t h0]
    frame_out
    refine (key t _ y).trans ?_
    congr 1
    pointwise [k0_pay2]
  · rw [outsAt0_B m c t h0]
    frame_out
    exact key t _ y
  · rw [zero_add, coe_sum]
    congr 1
    exact Fin.sum_mul_add_congr (fun s k hl => rfl)

end Arrays

end Cert.ConvNormIdeal.Read
end
-- ==== Proof.ConvNormRef.lean ====
/- The reference of the gradient through the gate and the normalization after the convolution, as real numbers. -/
module

public import proofs.«01_k».proof.Proof.ConvNormRead
public import proofs.«01_k».proof.Proof.Gen.ConvNormRefIdeal.Run
public import proofs.«01_k».proof.Proof.Gen.ConvNormRefIdeal.Read

@[expose] public section

set_option maxRecDepth 16384

noncomputable section

namespace Cert.ConvNormRefIdeal.Tie

open Cert.ConvNormRefIdeal Cert.ConvNormRefIdeal.Gen Cert.ConvNormRefIdeal.Read Idealize.ShloMosaic Idealize.ShloMosaic.TcCoe Idealize.SL.Sem
open Cert.Lift Cert.NormReal Cert.ConvNormIdeal.Read

variable (D X : S8192x1024.Idx → ℝ) (G : S1024.Idx → ℝ) (W : S1024x1024.Idx → ℝ)

theorem v7 (a : Fin 8192) : val_main_v7 (F := Ideal) (fun i => ((X i : ℝ) : EReal)) (ix2 a 0)
    = (((∑ k, X (ix2 a k) * X (ix2 a k)) / 1024 + eps : ℝ) : EReal) := by
  pointwise [val_main_v7, val_main_v6, val_main_v5, val_main_v4, val_main_v3, val_main_v2, val_main_v1, val_main_cst, val_main_cst_0, val_main_cst_1]
  simp (disch := positivity) only [w1024, weps', coe_add, coe_mul, coe_div, coe_sum]

theorem v8 (a : Fin 8192) : val_main_v8 (F := Ideal) (fun i => ((X i : ℝ) : EReal)) (ix2 a 0) = ((rstd 1024 (fun k => X (ix2 a k)) : ℝ) : EReal) := by
  pointwise [val_main_v8]
  rw [v7, coe_rsqrt (ms_pos _ (by norm_num))]
  rfl

theorem v13 (a : Fin 8192) (b : Fin 1024) : val_main_v13 (F := Ideal) (fun i => ((X i : ℝ) : EReal)) (ix2 a b)
    = ((nrm 1024 (fun k => X (ix2 a k)) b : ℝ) : EReal) := by
  pointwise [val_main_v13, val_main_v12]
  rw [v8, coe_mul]
  rfl

/-- What the gate is applied to. -/
def preAct (a : Fin 8192) (b : Fin 1024) : ℝ := nrm 1024 (fun k => X (ix2 a k)) b * G (ix1 b)

theorem v16 (a : Fin 8192) (b : Fin 1024) : val_main_v16 (F := Ideal) (fun i => ((X i : ℝ) : EReal)) (fun i => ((G i : ℝ) : EReal)) (ix2 a b) = ((preAct X G a b : ℝ) : EReal) := by
  pointwise [val_main_v16, val_main_v15, val_main_v14]
  rw [v13, coe_mul]
  rfl

theorem sig (a : Fin 8192) (b : Fin 1024) : val_main_v17_2 (F := Ideal) (fun i => ((X i : ℝ) : EReal)) (fun i => ((G i : ℝ) : EReal)) (ix2 a b)
    = (((1 + Real.exp (-preAct X G a b))⁻¹ : ℝ) : EReal) := by
  pointwise [val_main_v17_2, val_main_call0_v4, val_main_call0_v3, val_main_call0_v2, val_main_call0_v1, val_main_call0_v0,
    val_main_call0_cst, val_main_call0_cst_0]
  rw [v16, ← EReal.coe_one]
  simp (disch := positivity) only [wone, coe_neg, coe_exp, coe_add, coe_div, one_div]

theorem v20 (a : Fin 8192) (b : Fin 1024) : val_main_v20 (F := Ideal) (fun i => ((D i : ℝ) : EReal)) (fun i => ((X i : ℝ) : EReal)) (fun i => ((G i : ℝ) : EReal)) (fun i => ((W i : ℝ) : EReal)) (ix2 a b)
    = ((duAt D X G W a b : ℝ) : EReal) := by
  pointwise [val_main_v20, val_main_call1_v0, val_main_call1_v1, val_main_call1_v2, val_main_v17_1, val_main_call0_v7,
    val_main_call0_v6, val_main_call0_cst_1, val_main_v19, val_main_v0]
  rw [← EReal.coe_one]
  simp only [v16, sig, wone, wzero, coe_add, coe_sub, coe_mul, coe_sum]
  refine congrArg Real.toEReal ?_
  unfold duAt du dsilu preAct
  ring

theorem v25 (a : Fin 8192) (b : Fin 1024) : val_main_v25 (F := Ideal) (fun i => ((D i : ℝ) : EReal)) (fun i => ((X i : ℝ) : EReal)) (fun i => ((G i : ℝ) : EReal)) (fun i => ((W i : ℝ) : EReal)) (ix2 a b)
    = ((duAt D X G W a b * G (ix1 b) : ℝ) : EReal) := by
  pointwise [val_main_v25, val_main_v24, val_main_v14]
  rw [v20, coe_mul]

theorem v36 (a : Fin 8192) (b : Fin 1024) : val_main_v36 (F := Ideal) (fun i => ((D i : ℝ) : EReal)) (fun i => ((X i : ℝ) : EReal)) (fun i => ((G i : ℝ) : EReal)) (fun i => ((W i : ℝ) : EReal)) (ix2 a b)
    = (((∑ k, X (ix2 a k) * (duAt D X G W a k * G (ix1 k))) * (-(1 / 2) * (rstd 1024 (fun k => X (ix2 a k))
        / ((∑ k, X (ix2 a k) * X (ix2 a k)) / 1024 + eps))) / 1024 : ℝ) : EReal) := by
  pointwise [val_main_v36, val_main_v35, val_main_v34, val_main_v33, val_main_v32, val_main_v29, val_main_v28, val_main_v27,
    val_main_v11, val_main_v10, val_main_v9, val_main_cst_2, val_main_cst_5, val_main_cst_6, val_main_cst_7]
  simp (disch := first | positivity | exact (ms_pos _ (by norm_num)).ne') only
    [Fin.sum_univ_one, v7, v8, v25, w1024, wneghalf, coe_add, coe_mul, coe_div, coe_sum]

theorem v40 : val_main_v40 (F := Ideal) (fun i => ((D i : ℝ) : EReal)) (fun i => ((X i : ℝ) : EReal)) (fun i => ((G i : ℝ) : EReal)) (fun i => ((W i : ℝ) : EReal)) = fun i => ((dxAt D X G W (i 0) (i 1) : ℝ) : EReal) := by
  funext i
  idx_vars i
  pointwise [val_main_v40, val_main_v39, val_main_v38, val_main_v37, val_main_v31, val_main_v30]
  simp only [v8, v25, v36, coe_add, coe_mul]
  refine congrArg Real.toEReal ?_
  exact dnrm_chain (c := 1024) (by norm_num) (fun k => X (ix2 i0 k)) (fun k => duAt D X G W i0 k * G (ix1 k)) i1

theorem v41 : val_main_v41 (F := Ideal) (fun i => ((D i : ℝ) : EReal)) (fun i => ((X i : ℝ) : EReal)) (fun i => ((G i : ℝ) : EReal)) (fun i => ((W i : ℝ) : EReal)) = fun i => ((dgAt D X G W (i 1) : ℝ) : EReal) := by
  funext i
  idx_vars i
  pointwise [val_main_v41, val_main_v26, val_main_v23, val_main_v22, val_main_v21, val_main_cst_3, val_main_cst_4]
  simp only [Fin.sum_univ_one, v13, v20, coe_mul, coe_sum]
  refine congrArg Real.toEReal ?_
  exact Finset.sum_congr rfl fun r _ => by ring

end Cert.ConvNormRefIdeal.Tie
end
-- ==== Proof.ConvNormClaim.lean ====
/- The gradient through the gate and the normalization after the convolution: the kernel's two results are the reference's. -/
module

public import proofs.«01_k».proof.Defs
public import proofs.«01_k».proof.Proof.ConvNormRef
public import proofs.«01_k».proof.Proof.Gen.ConvNorm.Frame
public import proofs.«01_k».proof.Proof.Gen.ConvNormIdeal.Frame
public import proofs.«01_k».proof.Proof.Gen.Pre_convnorm_finite
public import Idealize.ShloMosaic.Adequacy
public import Idealize.ShloMosaic.Init

@[expose] public section

set_option maxRecDepth 16384

noncomputable section

namespace Cert.ConvNormClaim

open Idealize.ShloMosaic Idealize.ShloMosaic.TcCoe Idealize.SL.Sem Cert.Lift

theorem convNorm_value : algebraic_ConvNormIdeal_ConvNormRefIdeal_pre_convnorm_finite := by
  intro m g m' g' hpre hag
  refine ⟨_, _, ConvNormIdeal.Value.run_blocks m g, (θ_run _ _ _).mono (fun r h c => ?_) (ConvNormRefIdeal.Value.run m' g')⟩
  have f := hpre c
  obtain ⟨D, hD⟩ : ∃ D : ConvNormIdeal.S8192x1024.Idx → ℝ, m ((c : Thread ConvNormIdeal.nD ConvNormIdeal.τ).loc ConvNormIdeal.main_arg0) = fun i : ConvNormIdeal.S8192x1024.Idx => ((D i : ℝ) : EReal) :=
    fin_of_mask _ _ (fun _ => winf) f.1
  obtain ⟨X, hX⟩ : ∃ X : ConvNormIdeal.S8192x1024.Idx → ℝ, m ((c : Thread ConvNormIdeal.nD ConvNormIdeal.τ).loc ConvNormIdeal.main_arg1) = fun i : ConvNormIdeal.S8192x1024.Idx => ((X i : ℝ) : EReal) :=
    fin_of_mask _ _ (fun _ => winf) f.2.1
  obtain ⟨G, hG⟩ : ∃ G : ConvNormIdeal.S1024.Idx → ℝ, m ((c : Thread ConvNormIdeal.nD ConvNormIdeal.τ).loc ConvNormIdeal.main_arg2) = fun i : ConvNormIdeal.S1024.Idx => ((G i : ℝ) : EReal) :=
    fin_of_mask _ _ (fun _ => winf) f.2.2.1
  obtain ⟨W, hW⟩ : ∃ W : ConvNormIdeal.S1024x1024.Idx → ℝ, m ((c : Thread ConvNormIdeal.nD ConvNormIdeal.τ).loc ConvNormIdeal.main_arg3) = fun i : ConvNormIdeal.S1024x1024.Idx => ((W i : ℝ) : EReal) :=
    fin_of_mask (extf .f32 _ Pre_convnorm_finite.Gen.bitsLt_bf16_f32) _ (fun _ => winf) f.2.2.2
  obtain ⟨e0, e1, e2, e3⟩ := hag c
  obtain ⟨r0, r1, hk⟩ := h c
  have e0 := e0.trans hD
  have e1 := e1.trans hX
  have e2 := e2.trans hG
  have e3 := e3.trans hW
  refine ⟨r0.trans ?_, r1.trans ?_, hk⟩
  · rw [ConvNormRefIdeal.Read.val_main_v40_eq, e0, e1, e2, e3]
    exact (ConvNormRefIdeal.Tie.v40 D X G W).trans (ConvNormIdeal.Read.arr5 m hD hX hG hW).symm
  · rw [ConvNormRefIdeal.Read.val_main_v41_eq, e0, e1, e2, e3]
    exact (ConvNormRefIdeal.Tie.v41 D X G W).trans (ConvNormIdeal.Read.arr6 m hD hX hG hW).symm

theorem ref_frame : quiescent_ConvNormRefIdeal := fun m ρ _ =>
  (θ_run ConvNormRefIdeal.defs _ _).mono (fun r h => ⟨fun c => (h c).2.2, sem_eq_zero_of_no_sems (by decide) r.2⟩)
    (ConvNormRefIdeal.Value.run m ρ)

end Cert.ConvNormClaim
end
-- ==== Proof.ConvDwClaim.lean ====
/- The frame of the reference program `ConvDwRef`. -/
module

public import proofs.«01_k».proof.Defs
public import proofs.«01_k».proof.Proof.Gen.ConvDwIdeal.Value
public import proofs.«01_k».proof.Proof.Gen.ConvDwRefIdeal.Run
public import Idealize.ShloMosaic.Adequacy
public import Idealize.ShloMosaic.Init

@[expose] public section

namespace Cert.ConvDwClaim

open Idealize.ShloMosaic Idealize.ShloMosaic.TcCoe Idealize.SL.Sem

theorem ref_frame : quiescent_ConvDwRefIdeal := fun m ρ _ =>
  (θ_run ConvDwRefIdeal.defs _ _).mono (fun r h => ⟨fun c => (h c).2.2.2, sem_eq_zero_of_no_sems (by decide) r.2⟩)
    (ConvDwRefIdeal.Value.run m ρ)

end Cert.ConvDwClaim
-- ==== Proof.FfnClaim.lean ====
/- The frame of the reference program `FfnRef`. -/
module

public import proofs.«01_k».proof.Defs
public import proofs.«01_k».proof.Proof.Gen.FfnRefIdeal.Run
public import Idealize.ShloMosaic.Adequacy
public import Idealize.ShloMosaic.Init

@[expose] public section

namespace Cert.FfnClaim

open Idealize.ShloMosaic Idealize.ShloMosaic.TcCoe Idealize.SL.Sem

theorem ref_frame : quiescent_FfnRefIdeal := fun m ρ _ =>
  (θ_run FfnRefIdeal.defs _ _).mono (fun r h => ⟨fun c => (h c).2.2.2.2.2.2, sem_eq_zero_of_no_sems (by decide) r.2⟩)
    (FfnRefIdeal.Value.run m ρ)

end Cert.FfnClaim
-- ==== Proof.QkvClaim.lean ====
/- The frame of the reference program `QkvRef`. -/
module

public import proofs.«01_k».proof.Defs
public import proofs.«01_k».proof.Proof.Gen.QkvRefIdeal.Run
public import proofs.«01_k».proof.Proof.Gen.QkvRefIdeal.Read
public import Idealize.ShloMosaic.Adequacy
public import Idealize.ShloMosaic.Init

@[expose] public section

namespace Cert.QkvClaim

open Idealize.ShloMosaic Idealize.ShloMosaic.TcCoe Idealize.SL.Sem

theorem ref_frame : quiescent_QkvRefIdeal := fun m ρ _ =>
  (θ_run QkvRefIdeal.defs _ _).mono (fun r h => ⟨fun c => (h c).2.2.2.2.2, sem_eq_zero_of_no_sems (by decide) r.2⟩)
    (QkvRefIdeal.Value.run m ρ)

end Cert.QkvClaim
-- ==== Proof.DeltaRead.lean ====
/- The row sums the gradient of softmax subtracts: the array the kernel leaves, and the reference's. -/
module

public import Idealize.ShloMosaic.PureOps.Ideal.Laws
public import proofs.«01_k».proof.Proof.Gen.DeltaIdeal.Value
public import proofs.«01_k».proof.Proof.Gen.DeltaRefIdeal.Run
public import proofs.«01_k».proof.Proof.Gen.DeltaRefIdeal.Read
public import Idealize.ShloMosaic.Lib.Pipeline.ValueKit
public import Idealize.ShloMosaic.Lib.Pointwise

@[expose] public section

set_option maxRecDepth 16384

noncomputable section

namespace Cert.DeltaIdeal.Read

open Cert.DeltaIdeal Cert.DeltaIdeal.Gen Idealize.ShloMosaic Idealize.ShloMosaic.TcCoe Idealize.SL.Sem
open Idealize.ShloMosaic.Pipeline (Dat)

/-- Column `d` of head `h`. -/
def col (h : Fin 8) (d : Fin 128) : Fin 1024 := ⟨h.val * 128 + d.val, by omega⟩

/-- One head's row sums of a block. -/
theorem chain (A B : S512x128.Idx → EReal) (x : S1x1x8x512.Idx) :
    k0_pay2 (F := Ideal) A B x = ∑ d : Fin 128, A (ix2 (x 3) d) * B (ix2 (x 3) d) := by
  idx_vars x
  unfold_payloads
  pointwise

theorem out_apply (A B : S512x1024.Idx → EReal) (y : S8x1x8x512.Idx) :
    out0_2 (F := Ideal) A B y = ∑ d : Fin 128, A (ix2 (y 3) (col (y 0) d)) * B (ix2 (y 3) (col (y 0) d)) := by
  canon_tiles x h using cover0_2 ..
  all_goals
    refine (chain _ _ x).trans (Finset.sum_congr rfl fun d _ => ?_)
    refine congrArg₂ (· * ·) (congrArg A ?_) (congrArg B ?_)
    all_goals
      funext a
      match a with
      | ⟨0, _⟩ => exact Fin.ext (by simp [col]; omega)
      | ⟨1, _⟩ => exact Fin.ext (by simp [col]; omega)

variable (m : (ℓ : Loc nD τ sig) → Buf (Elt Ideal) ℓ)

theorem idx : ∀ t : Fin grid0.N, win0_0.index t = ![t.val, 0] ∧ win0_1.index t = ![t.val, 0] ∧ win0_2.index t = ![0, t.val, 0, 0] := by
  decide +kernel

/-- Row `a` of point `t`'s block. -/
def row (t : Fin cfg0.N) (a : Fin 512) : Fin 8192 := ⟨t.val * 512 + a.val, by have : t.val < 16 := t.isLt; omega⟩

theorem blk0 (c : Dev nD) (t : Fin cfg0.N) :
    iblk m c 0 t = fun y => m ((c : Thread nD τ).loc main_arg0) (ix2 (row t (y 0)) (y 1)) := by
  funext y
  blk_ext [iblk, V, idx t, row]

theorem blk1 (c : Dev nD) (t : Fin cfg0.N) :
    iblk m c 1 t = fun y => m ((c : Thread nD τ).loc main_arg1) (ix2 (row t (y 0)) (y 1)) := by
  funext y
  blk_ext [iblk, V, idx t, row]

/-- The sum over one head's columns of one row. -/
def sumAt (D O : S8192x1024.Idx → EReal) (h : Fin 8) (r : Fin 8192) : EReal := ∑ d : Fin 128, D (ix2 r (col h d)) * O (ix2 r (col h d))

/-- Row `l` of block `b`. -/
def at16 (b : Fin 16) (l : Fin 512) : Fin 8192 := ⟨b.val * 512 + l.val, by omega⟩

theorem arr2 (c : Dev nD) (D O : S8192x1024.Idx → EReal) (hd : m ((c : Thread nD τ).loc main_arg0) = D)
    (ho : m ((c : Thread nD τ).loc main_arg1) = O) :
    (dats m 0 c).arrAt 2 cfg0.N = fun i : S8x16x8x512.Idx => sumAt D O (i 0) (at16 (i 1) (i 3)) := by
  refine (dats m 0 c).arrAt_eq_of_covers 2 _ (by decide +kernel) fun t hf y => ?_
  blk_simp
  rw [after0_2]
  have key : ∀ y : S8x1x8x512.Idx, out0_2 (F := Ideal) (iblk m c 0 t) (iblk m c 1 t) y = sumAt D O (y 0) (row t (y 3)) := by
    intro y
    rw [blk0 m c t, blk1 m c t, hd, ho]
    exact out_apply _ _ y
  have hi : ∀ y : S8x1x8x512.Idx, (((View.whole main_v0).slice (win0_2.rect t)).emb y) = ix4 (y 0) ⟨t.val, t.isLt⟩ (y 2) (y 3) := by
    intro y
    blk_ext [idx t]
  exact (key y).trans (by rw [hi]; rfl)

end Cert.DeltaIdeal.Read

namespace Cert.DeltaRefIdeal.Tie

open Cert.DeltaRefIdeal Cert.DeltaRefIdeal.Gen Cert.DeltaRefIdeal.Read Idealize.ShloMosaic Idealize.ShloMosaic.TcCoe Idealize.SL.Sem
open Cert.DeltaIdeal.Read

theorem v3 (D O : S8192x1024.Idx → EReal) (a : Fin 8192) (h : Fin 8) (d : Fin 128) :
    val_main_v3 (F := Ideal) D O (ix3 a h d) = D (ix2 a (col h d)) * O (ix2 a (col h d)) := by
  pointwise [val_main_v3, val_main_v2, val_main_v1, val_main_v0]
  unfold col
  rfl

theorem v7 (D O : S8192x1024.Idx → EReal) :
    val_main_v7 (F := Ideal) D O = fun i => sumAt D O (i 0) (at16 (i 1) (i 3)) := by
  funext i
  idx_vars i
  pointwise [val_main_v7, val_main_v6, val_main_v5, val_main_v4, val_main_cst]
  simp only [v3]
  unfold sumAt at16
  rfl

end Cert.DeltaRefIdeal.Tie
end
-- ==== Proof.DeltaClaim.lean ====
/- The claims of the row sums that the gradient of softmax subtracts: the kernel's result is the reference's. -/
module

public import proofs.«01_k».proof.Defs
public import proofs.«01_k».proof.Proof.DeltaRead
public import proofs.«01_k».proof.Proof.Gen.Delta.Frame
public import proofs.«01_k».proof.Proof.Gen.DeltaIdeal.Frame
public import Idealize.ShloMosaic.Adequacy
public import Idealize.ShloMosaic.Init

@[expose] public section

set_option maxRecDepth 16384

noncomputable section

namespace Cert.DeltaClaim

open Idealize.ShloMosaic Idealize.ShloMosaic.TcCoe Idealize.SL.Sem

theorem delta_value : algebraic_DeltaIdeal_DeltaRefIdeal := by
  intro m g m' g' hpre hag
  refine ⟨_, DeltaIdeal.Value.run_blocks m g, (θ_run _ _ _).mono (fun r h c => ?_) (DeltaRefIdeal.Value.run m' g')⟩
  obtain ⟨e0, e1⟩ := hag c
  obtain ⟨h0, hk⟩ := h c
  refine ⟨h0.trans ?_, hk⟩
  rw [e0, e1]
  exact (DeltaRefIdeal.Read.val_main_v7_eq _ _).trans ((DeltaRefIdeal.Tie.v7 _ _).trans (DeltaIdeal.Read.arr2 m c _ _ rfl rfl).symm)

theorem ref_frame : quiescent_DeltaRefIdeal := fun m ρ _ =>
  (θ_run DeltaRefIdeal.defs _ _).mono (fun r h => ⟨fun c => (h c).2, sem_eq_zero_of_no_sems (by decide) r.2⟩)
    (DeltaRefIdeal.Value.run m ρ)

end Cert.DeltaClaim
end
-- ==== Proof.FlashFwdState.lean ====
/-
  The attention forward's state at a grid point: two chains of 512 query rows, each with its running row maximum, its
  running normalizer and its running weighted sum of value rows, and what one block of 512 keys does to a chain.
-/
module

public import proofs.«01_k».proof.Proof.Gen.FlashFwdIdeal.Loops
public import Idealize.ShloMosaic.Lib.VecWindow

@[expose] public section

noncomputable section

namespace Cert.FwdRun

open Idealize.ShloMosaic Idealize.ShloMosaic.TcCoe Idealize.ShloMosaic.Tactic
open Cert.FlashFwdIdeal Cert.FlashFwdIdeal.Gen

variable {F : FTy → Type} [FloatOps F]

/-! ## Offsets of the counted loop -/

/-- The loop over the pairs of earlier blocks makes one trip per pair. -/
theorem trips_eq : ∀ i : grid0.Coords, (k0_t1_loop i).trips = (i 1).val := by decide +kernel
/-- The loop that takes the remainder of a step of one makes no trip. -/
theorem trips_two : ∀ i : grid0.Coords, (k0_t2_loop i).trips = 0 := by decide +kernel

/-- The block scored ahead of its use: the next one, and at the end the last earlier one again. -/
def ahead (j n : ℕ) : ℕ := min n (2 * j - 1)

theorem off5_zero : ∀ (i : grid0.Coords) (k : Fin (k0_t1_loop i).trips), k0_off5 i k 0#32 = ![0, 512 * ahead (i 1).val (2 * k.val + 1), 0] := by decide +kernel
theorem off5_one : ∀ (i : grid0.Coords) (k : Fin (k0_t1_loop i).trips), k0_off5 i k 1#32 = ![0, 512 * ahead (i 1).val (2 * k.val + 2), 0] := by decide +kernel
theorem off8_zero : ∀ (i : grid0.Coords) (k : Fin (k0_t1_loop i).trips), k0_off8 i k 0#32 = ![0, 512 * (2 * k.val), 0] := by decide +kernel
theorem off8_one : ∀ (i : grid0.Coords) (k : Fin (k0_t1_loop i).trips), k0_off8 i k 1#32 = ![0, 512 * (2 * k.val + 1), 0] := by decide +kernel
theorem off1_eq : ∀ i : grid0.Coords, k0_off1 i = ![0, 512 * (2 * (i 1).val), 0] := by decide +kernel
theorem off2_eq : ∀ i : grid0.Coords, k0_off2 i = ![0, 512 * (2 * (i 1).val), 0] := by decide +kernel
theorem off3_eq : ∀ i : grid0.Coords, k0_off3 i = ![0, 512 * (2 * (i 1).val + 1), 0] := by decide +kernel
theorem off4_eq : ∀ i : grid0.Coords, k0_off4 i = ![0, 512 * (2 * (i 1).val + 1), 0] := by decide +kernel

/-! ## Blocks of rows, columns of a chain -/

/-- The key rows of block `b`. -/
abbrev kRows (x : Vec F S1x8192x256 .bf16) (b : Fin 16) : Vec F S1x512x256 .bf16 :=
  VecWindow.window x ![0, 512 * b.val, 0] S1x512x256.size (by revert b; decide)
/-- The value rows of block `b`. -/
abbrev vRows (x : Vec F S1x8192x128 .bf16) (b : Fin 16) : Vec F S1x512x128 .bf16 :=
  VecWindow.window x ![0, 512 * b.val, 0] S1x512x128.size (by revert b; decide)
/-- The query rows of a chain. -/
abbrev qRows (x : Vec F S1x1024x256 .bf16) (h : Fin 2) : Vec F S1x512x256 .bf16 :=
  VecWindow.window x ![0, 512 * h.val, 0] S1x512x256.size (by revert h; decide)

/-- A quarter of the columns of a block of scores. -/
abbrev sTile (s : Vec F S1x1x512x512 .f32) (q : Fin 4) : Vec F S1x1x512x128 .f32 :=
  VecWindow.window s ![0, 0, 0, 128 * q.val] S1x1x512x128.size (by revert q; decide)
/-- A quarter of the columns of a weighted sum. -/
abbrev aTile (a : Vec F S1x128x512 .f32) (q : Fin 4) : Vec F S1x128x128 .f32 :=
  VecWindow.window a ![0, 0, 128 * q.val] S1x128x128.size (by revert q; decide)
/-- The scores of a chain, in one of the two slots. -/
abbrev sWin (x : Vec F S2x2x512x512 .f32) (slot h : Fin 2) : Vec F S1x1x512x512 .f32 :=
  VecWindow.window x ![slot.val, h.val, 0, 0] S1x1x512x512.size (by revert slot h; decide)
/-- A quarter of a chain's row statistic. -/
abbrev mWin (x : Vec F S2x8x512 .f32) (h : Fin 2) (q : Fin 4) : Vec F S1x1x128 .f32 :=
  VecWindow.window x ![h.val, 0, 128 * q.val] S1x1x128.size (by revert h q; decide)
/-- A chain's weighted sum. -/
abbrev aWin (x : Vec F S2x128x512 .f32) (h : Fin 2) : Vec F S1x128x512 .f32 :=
  VecWindow.window x ![h.val, 0, 0] S1x128x512.size (by revert h; decide)

/-- Four quarters side by side. -/
def join {α : Type} {n : ℕ} (f0 f1 f2 f3 : (⟨3, ![1, n, 128]⟩ : Shape).Idx → α) : (⟨3, ![1, n, 512]⟩ : Shape).Idx → α := fun y =>
  (if (y 2).val < 128 then f0 else if (y 2).val < 256 then f1 else if (y 2).val < 384 then f2 else f3)
    (fun a => match a with | 0 => y 0 | 1 => y 1 | 2 => (⟨(y 2).val % 128, Nat.mod_lt _ (by norm_num)⟩ : Fin 128))

/-- A chain: its running maximum and normalizer, by quarters, and its weighted sum. -/
structure Ch (F : FTy → Type) where
  m : Fin 4 → Vec F S1x1x128 .f32
  l : Fin 4 → Vec F S1x1x128 .f32
  a : Vec F S1x128x512 .f32

/-- The scores of a chain's queries at a block of keys. -/
abbrev score (q : Vec F S1x512x256 .bf16) (k : Vec F S1x512x256 .bf16) : Vec F S1x1x512x512 .f32 := k0_pay3 (k0_pay338 q) k

/-- A quarter of the weights of a block of keys. -/
abbrev wTile (s : Vec F S1x1x512x512 .f32) (c : Ch F) (q : Fin 4) : Vec F S1x512x128 .bf16 := k0_pay13 (sTile s q) (c.m q)
/-- A quarter of the weighted sum, rescaled to the new maximum. -/
abbrev rTile (s : Vec F S1x1x512x512 .f32) (c : Ch F) (q : Fin 4) : Vec F S1x128x128 .f32 := k0_pay15 (k0_pay14 (sTile s q) (c.m q) (aTile c.a q))

/-- One block of keys: the maximum grows, what was summed is rescaled, the block's own terms are added. -/
def soft (v : Vec F S1x512x128 .bf16) (s : Vec F S1x1x512x512 .f32) (c : Ch F) : Ch F where
  m q := k0_pay12 (sTile s q) (c.m q)
  l q := k0_pay11 (sTile s q) (c.m q) (c.l q)
  a := k0_pay44 (k0_pay5 v) (join (n := 128) (rTile s c 0) (rTile s c 1) (rTile s c 2) (rTile s c 3)) (join (n := 512) (wTile s c 0) (wTile s c 1) (wTile s c 2) (wTile s c 3))

end Cert.FwdRun

end
-- ==== Proof.FlashFwdWin.lean ====
/-
  Reading one window of an array after stores into other windows of it.
-/
module

public import proofs.«01_k».proof.Proof.FlashFwdState
public import Idealize.ShloMosaic.Lib.Pipeline.ValueKit
public import Idealize.ShloMosaic.Lib.Pipeline.ReadBack

@[expose] public section

noncomputable section

namespace Cert.FwdRun

open Idealize.ShloMosaic Idealize.ShloMosaic.TcCoe
open Cert.FlashFwdIdeal

section
variable {sig : RefSig} {κ : Kind} {sp : Space} {s : Shape} {e : EltTy} {Val : EltTy → Type}

/-- The window last stored reads the payload. -/
theorem window_hit (v : View sig κ sp s e) (f : v.ty.Contents Val) {off size : Fin s.rank → ℕ} (inb inb' : ∀ a, off a + size a ≤ s.size a)
    (w : (Rect.unit off size inb).shape.Idx → Val e) (L : List (View.Piece Val s e)) :
    VecWindow.window (v.read Val (v.writes Val f (⟨Rect.unit off size inb, w⟩ :: L))) off size inb' = w := by
  rw [View.read_writes_cons_put _ _ _ _ _ rfl]
  exact VecWindow.window_put_same _ _ _ _ _

/-- A window apart from the one last stored reads the earlier stores. -/
theorem window_skip (v : View sig κ sp s e) (f : v.ty.Contents Val) (r : Rect s) {off' size' : Fin s.rank → ℕ}
    (inb' : ∀ a, off' a + size' a ≤ s.size a)
    (w : r.shape.Idx → Val e) (L : List (View.Piece Val s e)) (h : LoadRect.disj r (Rect.unit off' size' inb').toLoadRect = true) :
    VecWindow.window (v.read Val (v.writes Val f (⟨r, w⟩ :: L))) off' size' inb' = VecWindow.window (v.read Val (v.writes Val f L)) off' size' inb' := by
  funext y
  have hn := LoadRect.idx_not_mem_of_disj h y
  show v.read Val (v.writes Val f (⟨r, w⟩ :: L)) _ = v.read Val (v.writes Val f L) _
  rw [View.writes_cons]
  exact View.read_slice_write_of_not_mem r _ _ _ (by rwa [Rect.map_emb_univ])

/-- A load inside the window last stored reads a window of the payload. -/
theorem readCov_inside [∀ e, Nonempty (Val e)] (v : View sig κ sp s e) {off size off' size' : Fin s.rank → ℕ} (inb : ∀ a, off a + size a ≤ s.size a)
    (inb' : ∀ a, off' a + size' a ≤ s.size a)
    (w : (Rect.unit off size inb).shape.Idx → Val e) (L : List (View.Piece Val s e)) (h : ∀ a, off a ≤ off' a ∧ off' a + size' a ≤ off a + size a) :
    v.readCov (⟨Rect.unit off size inb, w⟩ :: L) (Rect.unit off' size' inb').toLoadRect
      = VecWindow.window (s := ⟨s.rank, size⟩) w (fun a => off' a - off a) size' (fun a => by have := h a; show off' a - off a + size' a ≤ size a; omega) := by
  unfold View.readCov
  rw [View.readAt_unit _ _ _ rfl inb', View.read_writes_cons_put _ _ _ _ _ rfl]
  exact VecWindow.window_put_of_inside _ _ _ _ _ _ _ h

end

section
variable {sig : RefSig} {κ : Kind} {sp : Space} {e : EltTy} {Val : EltTy → Type}

/-- A load of a chain's whole matrix after stores of its four quarters reads them side by side. -/
theorem readCov_join [∀ e, Nonempty (Val e)] {n : ℕ} (v : View sig κ sp (⟨3, ![2, n, 512]⟩ : Shape) e) (a : ℕ)
    (i0 : ∀ x, (![a, 0, 0] : Fin 3 → ℕ) x + (![1, n, 128] : Fin 3 → ℕ) x ≤ (![2, n, 512] : Fin 3 → ℕ) x)
    (i1 : ∀ x, (![a, 0, 128] : Fin 3 → ℕ) x + (![1, n, 128] : Fin 3 → ℕ) x ≤ (![2, n, 512] : Fin 3 → ℕ) x)
    (i2 : ∀ x, (![a, 0, 256] : Fin 3 → ℕ) x + (![1, n, 128] : Fin 3 → ℕ) x ≤ (![2, n, 512] : Fin 3 → ℕ) x)
    (i3 : ∀ x, (![a, 0, 384] : Fin 3 → ℕ) x + (![1, n, 128] : Fin 3 → ℕ) x ≤ (![2, n, 512] : Fin 3 → ℕ) x)
    (i : ∀ x, (![a, 0, 0] : Fin 3 → ℕ) x + (![1, n, 512] : Fin 3 → ℕ) x ≤ (![2, n, 512] : Fin 3 → ℕ) x)
    (w0 w1 w2 w3 : (⟨3, ![1, n, 128]⟩ : Shape).Idx → Val e) (L : List (View.Piece Val (⟨3, ![2, n, 512]⟩ : Shape) e)) :
    v.readCov (⟨Rect.unit ![a, 0, 384] ![1, n, 128] i3, w3⟩ :: ⟨Rect.unit ![a, 0, 256] ![1, n, 128] i2, w2⟩ :: ⟨Rect.unit ![a, 0, 128] ![1, n, 128] i1, w1⟩
        :: ⟨Rect.unit ![a, 0, 0] ![1, n, 128] i0, w0⟩ :: L) (Rect.unit ![a, 0, 0] ![1, n, 512] i).toLoadRect = join w0 w1 w2 w3 := by
  unfold View.readCov
  rw [View.readAt_unit _ _ _ rfl i, View.read_writes_cons_put _ _ _ _ _ rfl, View.read_writes_cons_put _ _ _ _ _ rfl,
    View.read_writes_cons_put _ _ _ _ _ rfl, View.read_writes_cons_put _ _ _ _ _ rfl]
  funext y
  have h0 : (y 0).val < 1 := (y 0).isLt
  have h1 : (y 1).val < n := (y 1).isLt
  have h2 : (y 2).val < 512 := (y 2).isLt
  generalize hz : (Rect.unit (s := (⟨3, ![2, n, 512]⟩ : Shape)) ![a, 0, 0] ![1, n, 512] i).emb y = z
  have z0 : (z 0).val = a + (y 0).val := by rw [← hz]; show a + 1 * (y 0).val = _; omega
  have z1 : (z 1).val = (y 1).val := by rw [← hz]; show 0 + 1 * (y 1).val = _; omega
  have z2 : (z 2).val = (y 2).val := by rw [← hz]; show 0 + 1 * (y 2).val = _; omega
  have no : ∀ b : ℕ, (y 2).val < b ∨ b + 128 ≤ (y 2).val →
      ¬ ∀ x : Fin 3, (![a, 0, b] : Fin 3 → ℕ) x ≤ (z x).val ∧ (z x).val < (![a, 0, b] : Fin 3 → ℕ) x + (![1, n, 128] : Fin 3 → ℕ) x := fun b hb h => by
    have h : b ≤ (z 2).val ∧ (z 2).val < b + 128 := h 2
    omega
  have yes : ∀ b : ℕ, b ≤ (y 2).val ∧ (y 2).val < b + 128 →
      ∀ x : Fin 3, (![a, 0, b] : Fin 3 → ℕ) x ≤ (z x).val ∧ (z x).val < (![a, 0, b] : Fin 3 → ℕ) x + (![1, n, 128] : Fin 3 → ℕ) x := fun b hb x => by
    match x with
    | 0 => exact ⟨by show a ≤ (z 0).val; omega, by show (z 0).val < a + 1; omega⟩
    | 1 => exact ⟨Nat.zero_le _, by show (z 1).val < 0 + n; omega⟩
    | 2 => exact ⟨by show b ≤ (z 2).val; omega, by show (z 2).val < b + 128; omega⟩
  have loc : ∀ (b : ℕ) (hb : b ≤ (y 2).val ∧ (y 2).val < b + 128) (h4 : b % 128 = 0) (w : (⟨3, ![1, n, 128]⟩ : Shape).Idx → Val e),
      w (Rect.unitLocal (s := (⟨3, ![2, n, 512]⟩ : Shape)) (off := ![a, 0, b]) (size := ![1, n, 128]) z (yes b hb))
        = w (fun x => match x with | 0 => y 0 | 1 => y 1 | 2 => (⟨(y 2).val % 128, Nat.mod_lt _ (by norm_num)⟩ : Fin 128)) := fun b hb h4 w =>
    congrArg w (funext fun x => Fin.ext (by
      match x with
      | 0 => show (z 0).val - a = (y 0).val; omega
      | 1 => show (z 1).val - 0 = (y 1).val; omega
      | 2 => show (z 2).val - b = (y 2).val % 128; omega))
  unfold VecWindow.window join
  rw [hz]
  unfold VecWindow.put
  by_cases c0 : (y 2).val < 128
  · rw [if_pos c0, dif_neg (no 384 (by omega)), dif_neg (no 256 (by omega)), dif_neg (no 128 (by omega)), dif_pos (yes 0 (by omega))]
    exact loc 0 (by omega) (by norm_num) w0
  by_cases c1 : (y 2).val < 256
  · rw [if_neg c0, if_pos c1, dif_neg (no 384 (by omega)), dif_neg (no 256 (by omega)), dif_pos (yes 128 (by omega))]
    exact loc 128 (by omega) (by norm_num) w1
  by_cases c2 : (y 2).val < 384
  · rw [if_neg c0, if_neg c1, if_pos c2, dif_neg (no 384 (by omega)), dif_pos (yes 256 (by omega))]
    exact loc 256 (by omega) (by norm_num) w2
  · rw [if_neg c0, if_neg c1, if_neg c2, dif_pos (yes 384 (by omega))]
    exact loc 384 (by omega) (by norm_num) w3

end

/-- A window of a window. -/
theorem window_sub {α : Type} {s : Shape} (x : s.Idx → α) {off size off' size' off2 : Fin s.rank → ℕ} (inb : ∀ a, off a + size a ≤ s.size a)
    (inb' : ∀ a, off' a + size' a ≤ s.size a) (inb2 : ∀ a, off2 a + size' a ≤ size a) (h : ∀ a, off' a = off a + off2 a) :
    VecWindow.window x off' size' inb' = VecWindow.window (s := ⟨s.rank, size⟩) (VecWindow.window x off size inb) off2 size' inb2 := by
  funext y
  exact congrArg x (funext fun a => Fin.ext (by
    show off' a + 1 * (y a).val = off a + 1 * (off2 a + 1 * (y a).val)
    rw [h a]; omega))

section
variable {sig : RefSig} {κ : Kind} {sp : Space} {F : FTy → Type}

theorem readCov_join_p [∀ e, Nonempty (Elt F e)] (v : View sig κ sp S2x512x512 .bf16) (a : ℕ) (i0 i1 i2 i3 i) (w0 w1 w2 w3 : Vec F S1x512x128 .bf16) (L) :
    v.readCov (Val := Elt F) (⟨Rect.unit ![a, 0, 384] ![1, 512, 128] i3, w3⟩ :: ⟨Rect.unit ![a, 0, 256] ![1, 512, 128] i2, w2⟩
        :: ⟨Rect.unit ![a, 0, 128] ![1, 512, 128] i1, w1⟩ :: ⟨Rect.unit ![a, 0, 0] ![1, 512, 128] i0, w0⟩ :: L)
      (Rect.unit (s := S2x512x512) ![a, 0, 0] ![1, 512, 512] i).toLoadRect = join (n := 512) w0 w1 w2 w3 := readCov_join (n := 512) v a i0 i1 i2 i3 i w0 w1 w2 w3 L

theorem readCov_join_a [∀ e, Nonempty (Elt F e)] (v : View sig κ sp S2x128x512 .f32) (a : ℕ) (i0 i1 i2 i3 i) (w0 w1 w2 w3 : Vec F S1x128x128 .f32) (L) :
    v.readCov (Val := Elt F) (⟨Rect.unit ![a, 0, 384] ![1, 128, 128] i3, w3⟩ :: ⟨Rect.unit ![a, 0, 256] ![1, 128, 128] i2, w2⟩
        :: ⟨Rect.unit ![a, 0, 128] ![1, 128, 128] i1, w1⟩ :: ⟨Rect.unit ![a, 0, 0] ![1, 128, 128] i0, w0⟩ :: L)
      (Rect.unit (s := S2x128x512) ![a, 0, 0] ![1, 128, 512] i).toLoadRect = join (n := 128) w0 w1 w2 w3 := readCov_join (n := 128) v a i0 i1 i2 i3 i w0 w1 w2 w3 L

/-- A load of a quarter of a chain's scores, of contents whose scores are known. -/
theorem read_s (v : View sig κ sp S2x2x512x512 .f32) (f : v.ty.Contents (Elt F)) {slot h : Fin 2} (q : Fin 4) {s : Vec F S1x1x512x512 .f32} (hs : sWin (v.read (Elt F) f) slot h = s)
    (a b n : ℕ) (ha : a = slot.val) (hb : b = h.val) (hn : n = 128 * q.val) (i) :
    v.readAt (Elt F) (Rect.unit (s := S2x2x512x512) ![a, b, 0, n] S1x1x512x128.size i).toLoadRect f = sTile s q := by
  subst ha hb hn
  rw [← hs, View.readAt_unit _ _ _ rfl i]
  exact window_sub (s := S2x2x512x512) _ _ _ _ (fun x => by match x with | 0 => rfl | 1 => rfl | 2 => rfl | 3 => exact (Nat.zero_add _).symm)

/-- A load of a quarter of a chain's scores after the store of those scores. -/
theorem read_s' [∀ e, Nonempty (Elt F e)] (v : View sig κ sp S2x2x512x512 .f32) (q : Fin 4) (a b n : ℕ) (hn : n = 128 * q.val) (i i') (w : Vec F S1x1x512x512 .f32) (L) :
    v.readCov (Val := Elt F) (⟨Rect.unit ![a, b, 0, 0] S1x1x512x512.size i', w⟩ :: L) (Rect.unit (s := S2x2x512x512) ![a, b, 0, n] S1x1x512x128.size i).toLoadRect = sTile w q := by
  subst hn
  rw [readCov_inside v i' i w L (fun x => by
    have := q.isLt
    match x with
    | 0 => exact ⟨le_refl _, le_refl _⟩
    | 1 => exact ⟨le_refl _, le_refl _⟩
    | 2 => exact ⟨le_refl _, le_refl _⟩
    | 3 => exact ⟨Nat.zero_le _, by show 128 * q.val + 128 ≤ 0 + 512; omega⟩)]
  funext y
  exact congrArg w (funext fun x => Fin.ext (by
    match x with
    | 0 => show a - a + 1 * _ = 0 + 1 * _; omega
    | 1 => show b - b + 1 * _ = 0 + 1 * _; omega
    | 2 => rfl
    | 3 => show 128 * q.val - 0 + 1 * _ = 128 * q.val + 1 * _; omega))

/-- A load of a quarter of a row statistic. -/
theorem read_m (v : View sig κ sp S2x8x512 .f32) (f : v.ty.Contents (Elt F)) {h : Fin 2} {q : Fin 4} {s : Vec F S1x1x128 .f32} (hs : mWin (v.read (Elt F) f) h q = s)
    (a n : ℕ) (ha : a = h.val) (hn : n = 128 * q.val) (i) :
    v.readAt (Elt F) (Rect.unit (s := S2x8x512) ![a, 0, n] S1x1x128.size i).toLoadRect f = s := by
  subst ha hn
  rw [← hs, View.readAt_unit _ _ _ rfl i]

/-- A load of a quarter of a weighted sum, of contents whose sums are known. -/
theorem read_a (v : View sig κ sp S2x128x512 .f32) (f : v.ty.Contents (Elt F)) {h : Fin 2} (q : Fin 4) {s : Vec F S1x128x512 .f32} (hs : aWin (v.read (Elt F) f) h = s)
    (a n : ℕ) (ha : a = h.val) (hn : n = 128 * q.val) (i) :
    v.readAt (Elt F) (Rect.unit (s := S2x128x512) ![a, 0, n] S1x128x128.size i).toLoadRect f = aTile s q := by
  subst ha hn
  rw [← hs, View.readAt_unit _ _ _ rfl i]
  exact window_sub (s := S2x128x512) _ _ _ _ (fun x => by match x with | 0 => rfl | 1 => rfl | 2 => exact (Nat.zero_add _).symm)

/-- A load of a quarter of a weighted sum after the store of that sum. -/
theorem read_a' [∀ e, Nonempty (Elt F e)] (v : View sig κ sp S2x128x512 .f32) (q : Fin 4) (a n : ℕ) (hn : n = 128 * q.val) (i i') (w : Vec F S1x128x512 .f32) (L) :
    v.readCov (Val := Elt F) (⟨Rect.unit ![a, 0, 0] S1x128x512.size i', w⟩ :: L) (Rect.unit (s := S2x128x512) ![a, 0, n] S1x128x128.size i).toLoadRect = aTile w q := by
  subst hn
  rw [readCov_inside v i' i w L (fun x => by
    have := q.isLt
    match x with
    | 0 => exact ⟨le_refl _, le_refl _⟩
    | 1 => exact ⟨le_refl _, le_refl _⟩
    | 2 => exact ⟨Nat.zero_le _, by show 128 * q.val + 128 ≤ 0 + 512; omega⟩)]
  funext y
  exact congrArg w (funext fun x => Fin.ext (by
    match x with
    | 0 => show a - a + 1 * _ = 0 + 1 * _; omega
    | 1 => rfl
    | 2 => show 128 * q.val - 0 + 1 * _ = 128 * q.val + 1 * _; omega))

/-- What holds of the four quarters holds of every one. -/
theorem forall_four {P : Fin 4 → Prop} (h0 : P 0) (h1 : P 1) (h2 : P 2) (h3 : P 3) (q : Fin 4) : P q := by
  match q with
  | 0 => exact h0
  | 1 => exact h1
  | 2 => exact h2
  | 3 => exact h3

end

end Cert.FwdRun

end
-- ==== Proof.FlashFwdTrip.lean ====
/-
  One trip of the loop over the earlier blocks of keys: two blocks one after the other, for both chains.
-/
module

public import proofs.«01_k».proof.Proof.FlashFwdWin
public import Idealize.ShloMosaic.Lib.LoopRemainder
public import Idealize.ShloMosaic.Lib.MemrefSat
public import Idealize.ShloMosaic.Lib.Tactic.Stretches

@[expose] public section

set_option maxRecDepth 16384

noncomputable section

namespace Cert.FwdRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FlashFwdIdeal Cert.FlashFwdIdeal.Gen

variable {F : FTy → Type} [FloatOps F] [Named F]

local notation "𝕄" => MT nD τ sig Unit (Elt F) ℕ (UR sig nD τ) ℕ

/-- The scratch arrays of the loop, as far as they are read: the scores in the first slot, and the chains. -/
abbrev held (c : Dev nD) (arg7 : Memref sig .tc .vmem S2x2x512x512 .f32) (arg8 : Memref sig .tc .vmem S2x512x512 .bf16)
    (arg9 arg10 : Memref sig .tc .vmem S2x8x512 .f32) (arg11 : Memref sig .tc .vmem S2x128x512 .f32)
    (s : Fin 2 → Vec F S1x1x512x512 .f32) (p : Fin 2 → Ch F) : sProp 𝕄 :=
  iprop(ownsSat (c : Thread nD τ) arg7 fullShare (fun d => ∀ h, sWin d 0 h = s h) ∗ ownsSat (c : Thread nD τ) arg8 fullShare (fun _ => True)
    ∗ ownsSat (c : Thread nD τ) arg9 fullShare (fun d => ∀ h q, mWin d h q = (p h).m q)
    ∗ ownsSat (c : Thread nD τ) arg10 fullShare (fun d => ∀ h q, mWin d h q = (p h).l q)
    ∗ ownsSat (c : Thread nD τ) arg11 fullShare (fun d => ∀ h, aWin d h = (p h).a))

set_option maxHeartbeats 4000000 in
theorem trip (c : Dev nD) (i : grid0.Coords) (arg2 : Memref sig .tc .vmem S1x1024x256 .bf16) (harg2 : arg2.IsWhole) (arg3 : Memref sig .tc .vmem S1x8192x256 .bf16) (harg3 : arg3.IsWhole) (arg4 : Memref sig .tc .vmem S1x8192x128 .bf16) (harg4 : arg4.IsWhole) (arg5 : Memref sig .tc .vmem S1024x128 .bf16) (harg5 : arg5.IsWhole) (arg6 : Memref sig .tc .vmem S1x2x8x512 .f32) (harg6 : arg6.IsWhole) (arg7 : Memref sig .tc .vmem S2x2x512x512 .f32) (harg7 : arg7.IsWhole) (arg8 : Memref sig .tc .vmem S2x512x512 .bf16) (harg8 : arg8.IsWhole) (arg9 : Memref sig .tc .vmem S2x8x512 .f32) (harg9 : arg9.IsWhole) (arg10 : Memref sig .tc .vmem S2x8x512 .f32) (harg10 : arg10.IsWhole) (arg11 : Memref sig .tc .vmem S2x128x512 .f32) (harg11 : arg11.IsWhole)
    (a1 : BitVec 32) (q0 q1 : Vec F S1x512x256 .bf16) (w : FVec F S128x512 .f32)
    (x1 : Vec F S1x8192x256 .bf16) (x2 : Vec F S1x8192x128 .bf16) (s : Fin 2 → Vec F S1x1x512x512 .f32) (p : Fin 2 → Ch F)
    (k : Fin (k0_t1_loop i).trips) (acc : Unit) (E : Set ℕ) (b₁ b₂ d₀ d₁ : Fin 16)
    (hb₁ : b₁.val = ahead (i 1).val (2 * k.val + 1)) (hb₂ : b₂.val = ahead (i 1).val (2 * k.val + 2)) (hd₀ : d₀.val = 2 * k.val) (hd₁ : d₁.val = 2 * k.val + 1) :
    iprop(owns (c : Thread nD τ) arg3 fullShare x1 ∗ owns (c : Thread nD τ) arg4 fullShare x2 ∗ held c arg7 arg8 arg9 arg10 arg11 s p) ⊢
      wp frame (wpE (defs₀ (F := F)) Variants.none (c : Thread nD τ) none) E
        (k0_t1_body (F := F) i arg2 harg2 arg3 harg3 arg4 harg4 arg5 harg5 arg6 harg6 arg7 harg7 arg8 harg8 arg9 harg9 arg10 harg10 arg11 harg11 a1 (k0_pay338 q0) (k0_pay339 q1) w k acc)
        fun _ => iprop(owns (c : Thread nD τ) arg3 fullShare x1 ∗ owns (c : Thread nD τ) arg4 fullShare x2 ∗ held c arg7 arg8 arg9 arg10 arg11
          (fun h => score (if h = 0 then q0 else q1) (kRows x1 b₂))
          (fun h => soft (vRows x2 d₁) (score (if h = 0 then q0 else q1) (kRows x1 b₁)) (soft (vRows x2 d₀) (s h) (p h)))) := by
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold held owns ownsSat
  iintro ⟨⟨%f3, %hf3, H3⟩, ⟨%f4, %hf4, H4⟩, ⟨%f7, %hf7, H7⟩, ⟨%f8, %hf8, H8⟩, ⟨%f9, %hf9, H9⟩, ⟨%f10, %hf10, H10⟩, ⟨%f11, %hf11, H11⟩⟩
  sl_exec
  sl_step
  have e5_0 : k0_off5 i k 0#32 = ![0, 512 * b₁.val, 0] := by rw [off5_zero, hb₁]
  have e5_1 : k0_off5 i k 1#32 = ![0, 512 * b₂.val, 0] := by rw [off5_one, hb₂]
  have e8_0 : k0_off8 i k 0#32 = ![0, 512 * d₀.val, 0] := by rw [off8_zero, hd₀]
  have e8_1 : k0_off8 i k 1#32 = ![0, 512 * d₁.val, 0] := by rw [off8_one, hd₁]
  have hk₁ : View.readAt (Elt F) arg3.view (Rect.unit (s := S1x8192x256) (k0_off5 i k 0#32) S1x512x256.size (k0_off5_inb i k 0)).toLoadRect f3 = kRows x1 b₁ := by
    rw [View.readAt_unit _ _ _ e5_0, hf3]
  have hk₂ : View.readAt (Elt F) arg3.view (Rect.unit (s := S1x8192x256) (k0_off5 i k 1#32) S1x512x256.size (k0_off5_inb i k 1)).toLoadRect f3 = kRows x1 b₂ := by
    rw [View.readAt_unit _ _ _ e5_1, hf3]
  have hv₁ : View.readAt (Elt F) arg4.view (Rect.unit (s := S1x8192x128) (k0_off8 i k 0#32) S1x512x128.size (k0_off8_inb i k 0)).toLoadRect f4 = vRows x2 d₀ := by
    rw [View.readAt_unit _ _ _ e8_0, hf4]
  have hv₂ : View.readAt (Elt F) arg4.view (Rect.unit (s := S1x8192x128) (k0_off8 i k 1#32) S1x512x128.size (k0_off8_inb i k 1)).toLoadRect f4 = vRows x2 d₁ := by
    rw [View.readAt_unit _ _ _ e8_1, hf4]
  have rs := fun h q => read_s arg7.view f7 q (hf7 h)
  have rm := fun h q => read_m arg9.view f9 (hf9 h q)
  have rl := fun h q => read_m arg10.view f10 (hf10 h q)
  have ra := fun h q => read_a arg11.view f11 q (hf11 h)
  isplitl [H3]
  · iexists _; isplitr; · ipureintro; exact hf3
    iexact H3
  isplitl [H4]
  · iexists _; isplitr; · ipureintro; exact hf4
    iexact H4
  isplitl [H7]
  · iexists _; isplitr; rotate_left; · iexact H7
    ipureintro
    refine Fin.forall_fin_two.2 ⟨?_, ?_⟩
    · sl_open_run
      refine (window_skip arg7.view f7 _ _ _ _ (by rfl)).trans ((window_hit arg7.view f7 _ _ _ _).trans ?_)
      rw [hk₂]
      sl_open_pay
      rfl
    · sl_open_run
      refine (window_hit arg7.view f7 _ _ _ _).trans ?_
      rw [hk₂]
      sl_open_pay
      rfl
  isplitl [H8]
  · iexists _; isplitr; rotate_left; · iexact H8
    ipureintro; trivial
  isplitl [H9]
  · iexists _; isplitr; rotate_left; · iexact H9
    ipureintro
    refine Fin.forall_fin_two.2 ⟨forall_four ?_ ?_ ?_ ?_, forall_four ?_ ?_ ?_ ?_⟩
    all_goals
      repeat refine (window_skip arg9.view f9 _ _ _ _ (by rfl)).trans ?_
      refine (window_hit arg9.view f9 _ _ _ _).trans ?_
      sl_open_run
      simp (disch := decide) only [View.readCov_skip, View.readCov_cons_toLoadRect, readCov_join_p, readCov_join_a,
        read_s' _ 0 _ _ 0 rfl, read_s' _ 1 _ _ 128 rfl, read_s' _ 2 _ _ 256 rfl, read_s' _ 3 _ _ 384 rfl,
        read_a' _ 0 _ 0 rfl, read_a' _ 1 _ 128 rfl, read_a' _ 2 _ 256 rfl, read_a' _ 3 _ 384 rfl,
        rs 0 0 0 0 0 rfl rfl rfl, rs 0 1 0 0 128 rfl rfl rfl, rs 0 2 0 0 256 rfl rfl rfl, rs 0 3 0 0 384 rfl rfl rfl,
        rs 1 0 0 1 0 rfl rfl rfl, rs 1 1 0 1 128 rfl rfl rfl, rs 1 2 0 1 256 rfl rfl rfl, rs 1 3 0 1 384 rfl rfl rfl,
        rm 0 0 0 0 rfl rfl, rm 0 1 0 128 rfl rfl, rm 0 2 0 256 rfl rfl, rm 0 3 0 384 rfl rfl,
        rm 1 0 1 0 rfl rfl, rm 1 1 1 128 rfl rfl, rm 1 2 1 256 rfl rfl, rm 1 3 1 384 rfl rfl,
        rl 0 0 0 0 rfl rfl, rl 0 1 0 128 rfl rfl, rl 0 2 0 256 rfl rfl, rl 0 3 0 384 rfl rfl,
        rl 1 0 1 0 rfl rfl, rl 1 1 1 128 rfl rfl, rl 1 2 1 256 rfl rfl, rl 1 3 1 384 rfl rfl,
        ra 0 0 0 0 rfl rfl, ra 0 1 0 128 rfl rfl, ra 0 2 0 256 rfl rfl, ra 0 3 0 384 rfl rfl,
        ra 1 0 1 0 rfl rfl, ra 1 1 1 128 rfl rfl, ra 1 2 1 256 rfl rfl, ra 1 3 1 384 rfl rfl, hk₁, hk₂, hv₁, hv₂]
      sl_open_pay
      rfl
  isplitl [H10]
  · iexists _; isplitr; rotate_left; · iexact H10
    ipureintro
    refine Fin.forall_fin_two.2 ⟨forall_four ?_ ?_ ?_ ?_, forall_four ?_ ?_ ?_ ?_⟩
    all_goals
      repeat refine (window_skip arg10.view f10 _ _ _ _ (by rfl)).trans ?_
      refine (window_hit arg10.view f10 _ _ _ _).trans ?_
      sl_open_run
      simp (disch := decide) only [View.readCov_skip, View.readCov_cons_toLoadRect, readCov_join_p, readCov_join_a,
        read_s' _ 0 _ _ 0 rfl, read_s' _ 1 _ _ 128 rfl, read_s' _ 2 _ _ 256 rfl, read_s' _ 3 _ _ 384 rfl,
        read_a' _ 0 _ 0 rfl, read_a' _ 1 _ 128 rfl, read_a' _ 2 _ 256 rfl, read_a' _ 3 _ 384 rfl,
        rs 0 0 0 0 0 rfl rfl rfl, rs 0 1 0 0 128 rfl rfl rfl, rs 0 2 0 0 256 rfl rfl rfl, rs 0 3 0 0 384 rfl rfl rfl,
        rs 1 0 0 1 0 rfl rfl rfl, rs 1 1 0 1 128 rfl rfl rfl, rs 1 2 0 1 256 rfl rfl rfl, rs 1 3 0 1 384 rfl rfl rfl,
        rm 0 0 0 0 rfl rfl, rm 0 1 0 128 rfl rfl, rm 0 2 0 256 rfl rfl, rm 0 3 0 384 rfl rfl,
        rm 1 0 1 0 rfl rfl, rm 1 1 1 128 rfl rfl, rm 1 2 1 256 rfl rfl, rm 1 3 1 384 rfl rfl,
        rl 0 0 0 0 rfl rfl, rl 0 1 0 128 rfl rfl, rl 0 2 0 256 rfl rfl, rl 0 3 0 384 rfl rfl,
        rl 1 0 1 0 rfl rfl, rl 1 1 1 128 rfl rfl, rl 1 2 1 256 rfl rfl, rl 1 3 1 384 rfl rfl,
        ra 0 0 0 0 rfl rfl, ra 0 1 0 128 rfl rfl, ra 0 2 0 256 rfl rfl, ra 0 3 0 384 rfl rfl,
        ra 1 0 1 0 rfl rfl, ra 1 1 1 128 rfl rfl, ra 1 2 1 256 rfl rfl, ra 1 3 1 384 rfl rfl, hk₁, hk₂, hv₁, hv₂]
      sl_open_pay
      rfl
  · iexists _; isplitr; rotate_left; · iexact H11
    ipureintro
    refine Fin.forall_fin_two.2 ⟨?_, ?_⟩
    all_goals
      repeat refine (window_skip arg11.view f11 _ _ _ _ (by rfl)).trans ?_
      refine (window_hit arg11.view f11 _ _ _ _).trans ?_
      sl_open_run
      simp (disch := decide) only [View.readCov_skip, View.readCov_cons_toLoadRect, readCov_join_p, readCov_join_a,
        read_s' _ 0 _ _ 0 rfl, read_s' _ 1 _ _ 128 rfl, read_s' _ 2 _ _ 256 rfl, read_s' _ 3 _ _ 384 rfl,
        read_a' _ 0 _ 0 rfl, read_a' _ 1 _ 128 rfl, read_a' _ 2 _ 256 rfl, read_a' _ 3 _ 384 rfl,
        rs 0 0 0 0 0 rfl rfl rfl, rs 0 1 0 0 128 rfl rfl rfl, rs 0 2 0 0 256 rfl rfl rfl, rs 0 3 0 0 384 rfl rfl rfl,
        rs 1 0 0 1 0 rfl rfl rfl, rs 1 1 0 1 128 rfl rfl rfl, rs 1 2 0 1 256 rfl rfl rfl, rs 1 3 0 1 384 rfl rfl rfl,
        rm 0 0 0 0 rfl rfl, rm 0 1 0 128 rfl rfl, rm 0 2 0 256 rfl rfl, rm 0 3 0 384 rfl rfl,
        rm 1 0 1 0 rfl rfl, rm 1 1 1 128 rfl rfl, rm 1 2 1 256 rfl rfl, rm 1 3 1 384 rfl rfl,
        rl 0 0 0 0 rfl rfl, rl 0 1 0 128 rfl rfl, rl 0 2 0 256 rfl rfl, rl 0 3 0 384 rfl rfl,
        rl 1 0 1 0 rfl rfl, rl 1 1 1 128 rfl rfl, rl 1 2 1 256 rfl rfl, rl 1 3 1 384 rfl rfl,
        ra 0 0 0 0 rfl rfl, ra 0 1 0 128 rfl rfl, ra 0 2 0 256 rfl rfl, ra 0 3 0 384 rfl rfl,
        ra 1 0 1 0 rfl rfl, ra 1 1 1 128 rfl rfl, ra 1 2 1 256 rfl rfl, ra 1 3 1 384 rfl rfl, hk₁, hk₂, hv₁, hv₂]
      sl_open_pay
      rfl

end Cert.FwdRun

end
-- ==== Proof.FlashFwdTail.lean ====
/-
  The rest of a grid point after the diagonal blocks of keys: the loop over the earlier blocks, and the first chain's results.
-/
module

public import proofs.«01_k».proof.Proof.FlashFwdTrip

@[expose] public section

set_option maxRecDepth 16384

noncomputable section

namespace Cert.FwdRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FlashFwdIdeal Cert.FlashFwdIdeal.Gen

/-- A load of a chain's whole row statistic, of contents whose quarters are known. -/
theorem read_row {sig : RefSig} {κ : Kind} {sp : Space} {F : FTy → Type} (v : View sig κ sp S2x8x512 .f32) (f : v.ty.Contents (Elt F)) {h : Fin 2}
    {s : Fin 4 → Vec F S1x1x128 .f32} (hs : ∀ q, mWin (v.read (Elt F) f) h q = s q) (a : ℕ) (ha : a = h.val) (i) :
    v.readAt (Elt F) (Rect.unit (s := S2x8x512) ![a, 0, 0] S1x1x512.size i).toLoadRect f = join (n := 1) (s 0) (s 1) (s 2) (s 3) := by
  subst ha
  rw [← hs, ← hs, ← hs, ← hs, View.readAt_unit _ _ _ rfl i]
  funext y
  have h0 : (y 0).val < 1 := (y 0).isLt
  have h1 : (y 1).val < 1 := (y 1).isLt
  have h2 : (y 2).val < 512 := (y 2).isLt
  have key : ∀ (q : Fin 4), (y 2).val = 128 * q.val + (y 2).val % 128 →
      VecWindow.window (View.read (Elt F) v f) ![h.val, 0, 0] S1x1x512.size i y
        = mWin (View.read (Elt F) v f) h q (fun a => match a with | 0 => y 0 | 1 => y 1 | 2 => (⟨(y 2).val % 128, Nat.mod_lt _ (by norm_num)⟩ : Fin 128)) := fun q hq =>
    congrArg (View.read (Elt F) v f) (funext fun x => Fin.ext (by
      match x with
      | 0 => rfl
      | 1 => rfl
      | 2 => show 0 + 1 * (y 2).val = 128 * q.val + 1 * ((y 2).val % 128); omega))
  unfold join
  by_cases c0 : (y 2).val < 128
  · rw [if_pos c0]
    exact (key 0 (by show (y 2).val = 128 * 0 + _; omega)).trans (congrArg (mWin (View.read (Elt F) v f) h 0) (funext fun x => by match x with | 0 => rfl | 1 => rfl | 2 => rfl))
  by_cases c1 : (y 2).val < 256
  · rw [if_neg c0, if_pos c1]
    exact (key 1 (by show (y 2).val = 128 * 1 + _; omega)).trans (congrArg (mWin (View.read (Elt F) v f) h 1) (funext fun x => by match x with | 0 => rfl | 1 => rfl | 2 => rfl))
  by_cases c2 : (y 2).val < 384
  · rw [if_neg c0, if_neg c1, if_pos c2]
    exact (key 2 (by show (y 2).val = 128 * 2 + _; omega)).trans (congrArg (mWin (View.read (Elt F) v f) h 2) (funext fun x => by match x with | 0 => rfl | 1 => rfl | 2 => rfl))
  · rw [if_neg c0, if_neg c1, if_neg c2]
    exact (key 3 (by show (y 2).val = 128 * 3 + _; omega)).trans (congrArg (mWin (View.read (Elt F) v f) h 3) (funext fun x => by match x with | 0 => rfl | 1 => rfl | 2 => rfl))

variable {F : FTy → Type} [FloatOps F] [Named F]

local notation "𝕄" => MT nD τ sig Unit (Elt F) ℕ (UR sig nD τ) ℕ

/-- A chain after the first `n` blocks of keys. -/
def past (q : Vec F S1x512x256 .bf16) (x1 : Vec F S1x8192x256 .bf16) (x2 : Vec F S1x8192x128 .bf16) (c : Ch F) : ℕ → Ch F
  | 0 => c
  | n + 1 => soft (vRows x2 (Fin.ofNat 16 n)) (score q (kRows x1 (Fin.ofNat 16 n))) (past q x1 x2 c n)

/-- A chain's statistic as one row. -/
def whole (s : Fin 4 → Vec F S1x1x128 .f32) : Vec F S1x1x512 .f32 := join (n := 1) (s 0) (s 1) (s 2) (s 3)

/-- The chains at the loop's start, of what the arrays hold; the second chain's weighted sum is still to be stored. -/
def begin (d9 d10 : Vec F S2x8x512 .f32) (d11 : Vec F S2x128x512 .f32) (w : FVec F S128x512 .f32) (h : Fin 2) : Ch F where
  m q := mWin d9 h q
  l q := mWin d10 h q
  a := if h = 0 then aWin d11 0 else k0_pay470 w

/-- The chains at the loop's end. -/
abbrev done (j : ℕ) (q0 q1 : Vec F S1x512x256 .bf16) (x1 : Vec F S1x8192x256 .bf16) (x2 : Vec F S1x8192x128 .bf16) (p : Fin 2 → Ch F) (h : Fin 2) : Ch F :=
  past (if h = 0 then q0 else q1) x1 x2 (p h) (2 * j)

set_option maxHeartbeats 4000000 in
theorem later (c : Dev nD) (i : grid0.Coords) (arg2 : Memref sig .tc .vmem S1x1024x256 .bf16) (harg2 : arg2.IsWhole) (arg3 : Memref sig .tc .vmem S1x8192x256 .bf16) (harg3 : arg3.IsWhole) (arg4 : Memref sig .tc .vmem S1x8192x128 .bf16) (harg4 : arg4.IsWhole) (arg5 : Memref sig .tc .vmem S1024x128 .bf16) (harg5 : arg5.IsWhole) (arg6 : Memref sig .tc .vmem S1x2x8x512 .f32) (harg6 : arg6.IsWhole) (arg7 : Memref sig .tc .vmem S2x2x512x512 .f32) (harg7 : arg7.IsWhole) (arg8 : Memref sig .tc .vmem S2x512x512 .bf16) (harg8 : arg8.IsWhole) (arg9 : Memref sig .tc .vmem S2x8x512 .f32) (harg9 : arg9.IsWhole) (arg10 : Memref sig .tc .vmem S2x8x512 .f32) (harg10 : arg10.IsWhole) (arg11 : Memref sig .tc .vmem S2x128x512 .f32) (harg11 : arg11.IsWhole)
    (a1 : BitVec 32) (q0 q1 : Vec F S1x512x256 .bf16) (w : FVec F S128x512 .f32)
    (x1 : Vec F S1x8192x256 .bf16) (x2 : Vec F S1x8192x128 .bf16) (d7 : Vec F S2x2x512x512 .f32) (d8 : Vec F S2x512x512 .bf16) (d9 d10 : Vec F S2x8x512 .f32) (d11 : Vec F S2x128x512 .f32)
    (E : Set ℕ) :
    iprop(owns (c : Thread nD τ) arg3 fullShare x1 ∗ owns (c : Thread nD τ) arg4 fullShare x2 ∗ owns (c : Thread nD τ) arg7 fullShare d7 ∗ owns (c : Thread nD τ) arg8 fullShare d8
      ∗ owns (c : Thread nD τ) arg9 fullShare d9 ∗ owns (c : Thread nD τ) arg10 fullShare d10 ∗ owns (c : Thread nD τ) arg11 fullShare d11) ⊢
      wp frame (wpE (defs₀ (F := F)) Variants.none (c : Thread nD τ) none) E
        (k0_part60 (F := F) i arg2 harg2 arg3 harg3 arg4 harg4 arg5 harg5 arg6 harg6 arg7 harg7 arg8 harg8 arg9 harg9 arg10 harg10 arg11 harg11 a1 (k0_pay338 q0) (k0_pay339 q1) w)
        fun v => iprop(⌜v = ⟨k0_pay476 (whole (done (i 1).val q0 q1 x1 x2 (begin d9 d10 d11 w) 0).l), k0_pay477 (whole (done (i 1).val q0 q1 x1 x2 (begin d9 d10 d11 w) 0).l) (done (i 1).val q0 q1 x1 x2 (begin d9 d10 d11 w) 0).a⟩⌝
          ∗ owns (c : Thread nD τ) arg3 fullShare x1 ∗ owns (c : Thread nD τ) arg4 fullShare x2
          ∗ held c arg7 arg8 arg9 arg10 arg11 (fun h => score (if h = 0 then q0 else q1) (kRows x1 (Fin.ofNat 16 (ahead (i 1).val (2 * (i 1).val))))) (done (i 1).val q0 q1 x1 x2 (begin d9 d10 d11 w))) := by
  have hj : (i 1).val < 8 := (i 1).isLt
  rw [k0_part60_eq_skeleton]
  unfold k0_part60_skel
  dsimp only
  unfold owns
  iintro ⟨⟨%f3, %hf3, H3⟩, ⟨%f4, %hf4, H4⟩, ⟨%f7, %hf7, H7⟩, ⟨%f8, %hf8, H8⟩, ⟨%f9, %hf9, H9⟩, ⟨%f10, %hf10, H10⟩, ⟨%f11, %hf11, H11⟩⟩
  generalize hL : Scf.Loop.for (k0_t1_loop i) (k0_t1_ok i) PUnit.unit _ = L
  sl_exec
  subst hL
  sl_for (fun n _ => iprop(owns (c : Thread nD τ) arg3 fullShare x1 ∗ owns (c : Thread nD τ) arg4 fullShare x2
          ∗ held c arg7 arg8 arg9 arg10 arg11 (fun h => score (if h = 0 then q0 else q1) (kRows x1 (Fin.ofNat 16 (ahead (i 1).val (2 * n)))))
            (fun h => past (if h = 0 then q0 else q1) x1 x2 (begin d9 d10 d11 w h) (2 * n)))) $$ [H3 H4 H7 H8 H9 H10 H11]
  rotate_left
  · unfold held owns ownsSat
    isplitl [H3]
    · iexists _; isplitr; · ipureintro; exact hf3
      iexact H3
    isplitl [H4]
    · iexists _; isplitr; · ipureintro; exact hf4
      iexact H4
    isplitl [H7]
    · iexists _; isplitr; rotate_left; · iexact H7
      ipureintro
      have hk : View.readAt (Elt F) arg3.view (Rect.unit (s := S1x8192x256) ![0, 0, 0] S1x512x256.size inb_S1x8192x256_S1x512x256_0_0_0).toLoadRect f3 = kRows x1 (Fin.ofNat 16 (ahead (i 1).val (2 * 0))) := by
        rw [show ahead (i 1).val (2 * 0) = 0 from Nat.zero_min _, View.readAt_unit _ _ _ rfl, hf3]
        rfl
      refine Fin.forall_fin_two.2 ⟨?_, ?_⟩
      · refine (window_skip arg7.view f7 _ _ _ _ (by rfl)).trans ((window_hit arg7.view f7 _ _ _ _).trans ?_)
        rw [hk]
        rfl
      · refine (window_hit arg7.view f7 _ _ _ _).trans ?_
        rw [hk]
        rfl
    isplitl [H8]
    · iexists _; isplitr; rotate_left; · iexact H8
      ipureintro; trivial
    isplitl [H9]
    · iexists _; isplitr; rotate_left; · iexact H9
      ipureintro
      rw [hf9]
      exact fun _ _ => rfl
    isplitl [H10]
    · iexists _; isplitr; rotate_left; · iexact H10
      ipureintro
      rw [hf10]
      exact fun _ _ => rfl
    · iexists _; isplitr; rotate_left; · iexact H11
      ipureintro
      refine Fin.forall_fin_two.2 ⟨?_, ?_⟩
      · refine (window_skip arg11.view f11 _ _ _ _ (by rfl)).trans ?_
        rw [View.writes_nil, hf11]
        rfl
      · exact window_hit arg11.view f11 _ _ _ _
  rotate_left
  · intro k acc
    have hk : k.val < (i 1).val := lt_of_lt_of_eq k.isLt (trips_eq i)
    have e : (fun h : Fin 2 => past (if h = 0 then q0 else q1) x1 x2 (begin d9 d10 d11 w h) (2 * (k.val + 1)))
        = fun h => soft (vRows x2 (Fin.ofNat 16 (2 * k.val + 1))) (score (if h = 0 then q0 else q1) (kRows x1 (Fin.ofNat 16 (2 * k.val + 1))))
          (soft (vRows x2 (Fin.ofNat 16 (2 * k.val))) (score (if h = 0 then q0 else q1) (kRows x1 (Fin.ofNat 16 (ahead (i 1).val (2 * k.val)))))
            (past (if h = 0 then q0 else q1) x1 x2 (begin d9 d10 d11 w h) (2 * k.val))) := by
      rw [show ahead (i 1).val (2 * k.val) = 2 * k.val by unfold ahead; omega, show 2 * (k.val + 1) = 2 * k.val + 1 + 1 by omega]
      rfl
    dsimp only
    rw [e]
    exact trip c i arg2 harg2 arg3 harg3 arg4 harg4 arg5 harg5 arg6 harg6 arg7 harg7 arg8 harg8 arg9 harg9 arg10 harg10 arg11 harg11 a1 q0 q1 w x1 x2 _ _ k acc E
      (Fin.ofNat 16 (2 * k.val + 1)) (Fin.ofNat 16 (ahead (i 1).val (2 * (k.val + 1)))) (Fin.ofNat 16 (2 * k.val)) (Fin.ofNat 16 (2 * k.val + 1))
      (by simp only [Fin.ofNat, ahead]; omega) (by simp only [Fin.ofNat, ahead]; omega) (by simp only [Fin.ofNat]; omega) (by simp only [Fin.ofNat]; omega)
  rotate_left
  iintro %acc H
  sl_for0 (trips_two i)
  rw [show Scf.trips (k0_t1_loop i).lb (k0_t1_loop i).ub (k0_t1_loop i).st = (i 1).val from trips_eq i]
  rw [show (fun h => past (if h = 0 then q0 else q1) x1 x2 (begin d9 d10 d11 w h) (2 * (i 1).val)) = done (i 1).val q0 q1 x1 x2 (begin d9 d10 d11 w) from rfl]
  generalize done (i 1).val q0 q1 x1 x2 (begin d9 d10 d11 w) = p
  unfold held owns ownsSat
  icases H with ⟨⟨%g3, %hg3, G3⟩, ⟨%g4, %hg4, G4⟩, ⟨%g7, %hg7, G7⟩, ⟨%g8, %hg8, G8⟩, ⟨%g9, %hg9, G9⟩, ⟨%g10, %hg10, G10⟩, ⟨%g11, %hg11, G11⟩⟩
  sl_exec
  sl_step
  isplitr
  · ipureintro
    sl_open_run
    rw [read_row arg10.view g10 (hg10 0) 0 rfl, View.readAt_unit _ _ _ rfl]
    rw [← hg11 0]
    rfl
  isplitl [G3]
  · iexists _; isplitr; · ipureintro; exact hg3
    iexact G3
  isplitl [G4]
  · iexists _; isplitr; · ipureintro; exact hg4
    iexact G4
  isplitl [G7]
  · iexists _; isplitr; · ipureintro; exact hg7
    iexact G7
  isplitl [G8]
  · iexists _; isplitr; rotate_left; · iexact G8
    ipureintro; trivial
  isplitl [G9]
  · iexists _; isplitr; · ipureintro; exact hg9
    iexact G9
  isplitl [G10]
  · iexists _; isplitr; · ipureintro; exact hg10
    iexact G10
  · iexists _; isplitr; · ipureintro; exact hg11
    iexact G11

end Cert.FwdRun

end
-- ==== Proof.FlashFwdOut.lean ====
/-
  What a grid point starts from and what it writes: the diagonal blocks of keys, and the two halves of each result.
-/
module

public import proofs.«01_k».proof.Proof.FlashFwdTail

@[expose] public section

set_option maxRecDepth 16384

noncomputable section

namespace Cert.FwdRun

open Idealize.ShloMosaic Idealize.ShloMosaic.TcCoe Idealize.ShloMosaic.Tactic
open Cert.FlashFwdIdeal Cert.FlashFwdIdeal.Gen

section
variable {F : FTy → Type}

/-- Two halves of the output rows. -/
def halves (w0 w1 : Vec F S512x128 .bf16) : Vec F S1024x128 .bf16 := fun y =>
  (if (y 0).val < 512 then w0 else w1) (fun a => match a with | 0 => (⟨(y 0).val % 512, Nat.mod_lt _ (by norm_num)⟩ : Fin 512) | 1 => y 1)

/-- Two rows of the row statistic. -/
def pair (w0 w1 : Vec F S1x1x8x512 .f32) : Vec F S1x2x8x512 .f32 := fun y =>
  (if (y 1).val < 1 then w0 else w1) (fun a => match a with | 0 => y 0 | 1 => (⟨0, by norm_num⟩ : Fin 1) | 2 => y 2 | 3 => y 3)

variable {sig : RefSig} {κ : Kind} {sp : Space}

theorem read_halves (v : View sig κ sp S1024x128 .bf16) (f : v.ty.Contents (Elt F)) (i0 i1) (w0 w1 : Vec F S512x128 .bf16) :
    v.read (Elt F) (v.writes (Elt F) f [⟨Rect.unit ![512, 0] S512x128.size i1, w1⟩, ⟨Rect.unit ![0, 0] S512x128.size i0, w0⟩]) = halves w0 w1 := by
  rw [View.read_writes_cons_put _ _ _ _ _ rfl, View.read_writes_cons_put _ _ _ _ _ rfl]
  funext y
  have h0 : (y 0).val < 1024 := (y 0).isLt
  have h1 : (y 1).val < 128 := (y 1).isLt
  unfold VecWindow.put halves
  by_cases c0 : (y 0).val < 512
  · rw [if_pos c0, dif_neg (fun h => by have h : 512 ≤ (y 0).val ∧ _ := h 0; omega),
      dif_pos (fun x => by
        match x with
        | 0 => exact ⟨Nat.zero_le _, by show (y 0).val < 0 + 512; omega⟩
        | 1 => exact ⟨Nat.zero_le _, by show (y 1).val < 0 + 128; omega⟩)]
    exact congrArg w0 (funext fun x => Fin.ext (by
      match x with
      | 0 => show (y 0).val - 0 = (y 0).val % 512; omega
      | 1 => rfl))
  · rw [if_neg c0, dif_pos (fun x => by
        match x with
        | 0 => exact ⟨by show 512 ≤ (y 0).val; omega, by show (y 0).val < 512 + 512; omega⟩
        | 1 => exact ⟨Nat.zero_le _, by show (y 1).val < 0 + 128; omega⟩)]
    exact congrArg w1 (funext fun x => Fin.ext (by
      match x with
      | 0 => show (y 0).val - 512 = (y 0).val % 512; omega
      | 1 => rfl))

theorem read_pair (v : View sig κ sp S1x2x8x512 .f32) (f : v.ty.Contents (Elt F)) (i0 i1) (w0 w1 : Vec F S1x1x8x512 .f32) :
    v.read (Elt F) (v.writes (Elt F) f [⟨Rect.unit ![0, 1, 0, 0] S1x1x8x512.size i1, w1⟩, ⟨Rect.unit ![0, 0, 0, 0] S1x1x8x512.size i0, w0⟩]) = pair w0 w1 := by
  rw [View.read_writes_cons_put _ _ _ _ _ rfl, View.read_writes_cons_put _ _ _ _ _ rfl]
  funext y
  have h0 : (y 0).val < 1 := (y 0).isLt
  have h1 : (y 1).val < 2 := (y 1).isLt
  have h2 : (y 2).val < 8 := (y 2).isLt
  have h3 : (y 3).val < 512 := (y 3).isLt
  unfold VecWindow.put pair
  by_cases c0 : (y 1).val < 1
  · rw [if_pos c0, dif_neg (fun h => by have h : 1 ≤ (y 1).val ∧ _ := h 1; omega),
      dif_pos (fun x => by
        match x with
        | 0 => exact ⟨Nat.zero_le _, by show (y 0).val < 0 + 1; omega⟩
        | 1 => exact ⟨Nat.zero_le _, by show (y 1).val < 0 + 1; omega⟩
        | 2 => exact ⟨Nat.zero_le _, by show (y 2).val < 0 + 8; omega⟩
        | 3 => exact ⟨Nat.zero_le _, by show (y 3).val < 0 + 512; omega⟩)]
    exact congrArg w0 (funext fun x => Fin.ext (by
      match x with
      | 0 => rfl
      | 1 => show (y 1).val - 0 = 0; omega
      | 2 => rfl
      | 3 => rfl))
  · rw [if_neg c0, dif_pos (fun x => by
        match x with
        | 0 => exact ⟨Nat.zero_le _, by show (y 0).val < 0 + 1; omega⟩
        | 1 => exact ⟨by show 1 ≤ (y 1).val; omega, by show (y 1).val < 1 + 1; omega⟩
        | 2 => exact ⟨Nat.zero_le _, by show (y 2).val < 0 + 8; omega⟩
        | 3 => exact ⟨Nat.zero_le _, by show (y 3).val < 0 + 512; omega⟩)]
    exact congrArg w1 (funext fun x => Fin.ext (by
      match x with
      | 0 => rfl
      | 1 => show (y 1).val - 1 = 0; omega
      | 2 => rfl
      | 3 => rfl))

/-- A load of a quarter of a row statistic after the store of the whole array. -/
theorem read_m' [∀ e, Nonempty (Elt F e)] (v : View sig κ sp S2x8x512 .f32) (h : Fin 2) (q : Fin 4) (a n : ℕ) (ha : a = h.val) (hn : n = 128 * q.val) (i i') (w : Vec F S2x8x512 .f32) (L) :
    v.readCov (Val := Elt F) (⟨Rect.unit ![0, 0, 0] S2x8x512.size i', w⟩ :: L) (Rect.unit (s := S2x8x512) ![a, 0, n] S1x1x128.size i).toLoadRect = mWin w h q := by
  subst ha hn
  rw [readCov_inside v i' i w L (fun x => by
    have := q.isLt
    have := h.isLt
    match x with
    | 0 => exact ⟨Nat.zero_le _, by show h.val + 1 ≤ 0 + 2; omega⟩
    | 1 => exact ⟨le_refl _, by show 0 + 1 ≤ 0 + 8; omega⟩
    | 2 => exact ⟨Nat.zero_le _, by show 128 * q.val + 128 ≤ 0 + 512; omega⟩)]
  funext y
  exact congrArg w (funext fun x => Fin.ext (by
    match x with
    | 0 => rfl
    | 1 => rfl
    | 2 => rfl))

/-- A load of a quarter of a weighted sum after the store of the whole array. -/
theorem read_a'' [∀ e, Nonempty (Elt F e)] (v : View sig κ sp S2x128x512 .f32) (h : Fin 2) (q : Fin 4) (a n : ℕ) (ha : a = h.val) (hn : n = 128 * q.val) (i i') (w : Vec F S2x128x512 .f32) (L) :
    v.readCov (Val := Elt F) (⟨Rect.unit ![0, 0, 0] S2x128x512.size i', w⟩ :: L) (Rect.unit (s := S2x128x512) ![a, 0, n] S1x128x128.size i).toLoadRect = aTile (aWin w h) q := by
  subst ha hn
  rw [readCov_inside v i' i w L (fun x => by
    have := q.isLt
    have := h.isLt
    match x with
    | 0 => exact ⟨Nat.zero_le _, by show h.val + 1 ≤ 0 + 2; omega⟩
    | 1 => exact ⟨le_refl _, le_refl _⟩
    | 2 => exact ⟨Nat.zero_le _, by show 128 * q.val + 128 ≤ 0 + 512; omega⟩)]
  funext y
  exact congrArg w (funext fun x => Fin.ext (by
    match x with
    | 0 => show h.val - 0 + 1 * (y 0).val = h.val + 1 * (0 + 1 * (y 0).val); omega
    | 1 => show 0 - 0 + 1 * (y 1).val = 0 + 1 * (0 + 1 * (y 1).val); omega
    | 2 => show 128 * q.val - 0 + 1 * (y 2).val = 0 + 1 * (128 * q.val + 1 * (y 2).val); omega))

end

variable {F : FTy → Type} [FloatOps F] [Named F]

/-- The chains at the loop's start, of what they are. -/
theorem begin_eq {d9 d10 : Vec F S2x8x512 .f32} {d11 : Vec F S2x128x512 .f32} {w : FVec F S128x512 .f32} {p : Fin 2 → Ch F} (hm : ∀ h q, mWin d9 h q = (p h).m q)
    (hl : ∀ h q, mWin d10 h q = (p h).l q) (h0 : aWin d11 0 = (p 0).a) (h1 : k0_pay470 w = (p 1).a) : begin d9 d10 d11 w = p := by
  funext h
  have ha : (if h = 0 then aWin d11 0 else k0_pay470 w) = (p h).a := by
    revert h
    exact Fin.forall_fin_two.2 ⟨h0, h1⟩
  unfold begin
  rw [ha]
  have h2 : (fun q => mWin d9 h q) = (p h).m := funext (hm h)
  have h3 : (fun q => mWin d10 h q) = (p h).l := funext (hl h)
  rw [h2, h3]

/-- Which keys of the diagonal block a query sees: those of its own chunk of 64 and of the earlier ones. -/
def mask : IVec S512x512 1 := k0_pay346 (iota .tc S512x512 32 [0] iota_S512x512_d0_w32) 64#32 k0_pay343 k0_pay344 k0_pay345

/-- A chain before any key. -/
def blank (h : Fin 2) : Ch F where
  m q := mWin k0_pay340 h q
  l q := mWin k0_pay341 h q
  a := aWin k0_pay342 h

/-- The chains after the diagonal blocks. -/
def first (j : ℕ) (q0 q1 : Vec F S1x512x256 .bf16) (x1 : Vec F S1x8192x256 .bf16) (x2 : Vec F S1x8192x128 .bf16) (h : Fin 2) : Ch F :=
  if h = 0 then
    soft (vRows x2 (Fin.ofNat 16 (2 * j))) (k0_pay350 (k0_pay338 q0) mask (k0_pay347 (kRows x1 (Fin.ofNat 16 (2 * j))))) (blank 0)
  else
    soft (vRows x2 (Fin.ofNat 16 (2 * j + 1))) (k0_pay352 (k0_pay339 q1) mask (kRows x1 (Fin.ofNat 16 (2 * j + 1))))
      (soft (vRows x2 (Fin.ofNat 16 (2 * j))) (k0_pay351 (k0_pay339 q1) (k0_pay347 (kRows x1 (Fin.ofNat 16 (2 * j))))) (blank 1))

/-- The chains at a point's end. -/
def chains (j : ℕ) (x0 : Vec F S1x1024x256 .bf16) (x1 : Vec F S1x8192x256 .bf16) (x2 : Vec F S1x8192x128 .bf16) : Fin 2 → Ch F :=
  done j (qRows x0 0) (qRows x0 1) x1 x2 (first j (qRows x0 0) (qRows x0 1) x1 x2)

/-- The output rows of a point. -/
def outO (p : Fin 2 → Ch F) : Vec F S1024x128 .bf16 := halves (k0_pay477 (whole (p 0).l) (p 0).a) (k0_pay480 (whole (p 1).l) (p 1).a)
/-- The row statistic of a point. -/
def outL (p : Fin 2 → Ch F) : Vec F S1x2x8x512 .f32 := pair (k0_pay478 (k0_pay476 (whole (p 0).l)) (whole (p 0).m)) (k0_pay1 (k0_pay479 (whole (p 1).l)) (whole (p 1).m))

end Cert.FwdRun

end
-- ==== Proof.FlashFwdPay.lean ====
/- The attention forward's arithmetic at an index: one block of keys' step of the online softmax, on extended reals. -/
module

public import proofs.«01_k».proof.Proof.Lift
public import proofs.«01_k».proof.Proof.FlashFwdOut
public import Idealize.ShloMosaic.Lib.Pipeline.ValueKit

@[expose] public section

set_option maxRecDepth 16384

noncomputable section

namespace Cert.FwdRun

open Idealize.ShloMosaic Idealize.ShloMosaic.TcCoe Idealize.ShloMosaic.Tactic
open Cert.FlashFwdIdeal Cert.FlashFwdIdeal.Gen Cert.Lift

theorem wbot : Ideal.ofBits .f32 0xFF800000#32 = ⊥ := by simp [Ideal.ofBits, Ideal.ieee]

/-- The name's own value. -/
theorem named_mask : Named.named (F := Ideal) Cert.FlashFwdIdeal.κ "mask" (φ := .f32) 0xF149F2CA#32 = (⊥ : EReal) :=
  IdealRules.named_const.ideal_named_scalar _ _ _ _ rfl

section Step
variable (n : ℕ) (x : Fin 512 → Fin n → EReal) (m l : Fin n → EReal) (A : Fin 128 → Fin n → EReal) (v : Fin 512 → Fin 128 → EReal)

/-- The running maximum after a block. -/
def top (c : Fin n) : EReal := max (m c) (Finset.univ.fold max ⊥ fun a => x a c)
/-- The factor of what was summed before. -/
def shrink (c : Fin n) : EReal := Ideal.exp (m c - top n x m c)
/-- A key's weight. -/
def heavy (a : Fin 512) (c : Fin n) : EReal := Ideal.exp (x a c - top n x m c)

end Step

section Tile
variable (x : Fin 512 → Fin 128 → EReal) (m l : Fin 128 → EReal) (A : Fin 128 → Fin 128 → EReal)

abbrev tS (x : Fin 512 → Fin 128 → EReal) : S1x1x512x128.Idx → EReal := fun y => x (y 2) (y 3)
abbrev tM (m : Fin 128 → EReal) : S1x1x128.Idx → EReal := fun y => m (y 2)
abbrev tA (A : Fin 128 → Fin 128 → EReal) : S1x128x128.Idx → EReal := fun y => A (y 1) (y 2)

theorem pay8_apply (c : Fin 128) (z : Fin 1) : k0_pay8 (F := Ideal) (tS x) (tM m) (ix2 z c) = top 128 x m c := by
  unfold_payloads
  pointwise
  rw [wbot]
  rfl

theorem pay12_apply (c : Fin 128) (z w : Fin 1) : k0_pay12 (F := Ideal) (tS x) (tM m) (ix3 z w c) = top 128 x m c := by
  pointwise [k0_pay12]
  exact pay8_apply x m _ _

theorem pay9_apply (c : Fin 128) (z : Fin 1) : k0_pay9 (F := Ideal) (tS x) (tM m) (ix2 z c) = shrink 128 x m c := by
  pointwise [k0_pay9, k0_pay7]
  rw [pay8_apply]
  rfl

theorem pay10_apply (a : Fin 512) (c : Fin 128) : k0_pay10 (F := Ideal) (tS x) (tM m) (ix2 a c) = heavy 128 x m a c := by
  pointwise [k0_pay10, k0_pay6]
  rw [pay8_apply]
  rfl

theorem pay11_apply (c : Fin 128) (z w : Fin 1) : k0_pay11 (F := Ideal) (tS x) (tM m) (tM l) (ix3 z w c)
    = shrink 128 x m c * l c + ∑ a, heavy 128 x m a c := by
  pointwise [k0_pay11]
  simp only [pay9_apply, pay10_apply, Ideal.ofBits_zero_f32, zero_add]
  rfl

theorem pay13_apply (a : Fin 512) (c : Fin 128) (z : Fin 1) : k0_pay13 (F := Ideal) (tS x) (tM m) (ix3 z a c) = heavy 128 x m a c := by
  pointwise [k0_pay13]
  exact pay10_apply x m _ _

theorem pay15_apply (d c : Fin 128) (z : Fin 1) : k0_pay15 (F := Ideal) (k0_pay14 (tS x) (tM m) (tA A)) (ix3 z d c) = A d c * shrink 128 x m c := by
  pointwise [k0_pay15, k0_pay14]
  rw [pay9_apply]
  rfl

end Tile

section Chain
variable (x : Fin 512 → Fin 512 → EReal) (m l : Fin 512 → EReal) (A : Fin 128 → Fin 512 → EReal) (v : Fin 512 → Fin 128 → EReal)

/-- Column `c` of quarter `q`. -/
def qc (q : Fin 4) (c : Fin 128) : Fin 512 := ⟨128 * q.val + c.val, by omega⟩

abbrev fS (x : Fin 512 → Fin 512 → EReal) : S1x1x512x512.Idx → EReal := fun y => x (y 2) (y 3)
abbrev fA {n : ℕ} (A : Fin n → Fin 512 → EReal) : (⟨3, ![1, n, 512]⟩ : Shape).Idx → EReal := fun y => A (y 1) (y 2)
abbrev fV (v : Fin 512 → Fin 128 → EReal) : S1x512x128.Idx → EReal := fun y => v (y 1) (y 2)

/-- A chain of whole rows. -/
def ch : Ch Ideal where
  m q := tM fun c => m (qc q c)
  l q := tM fun c => l (qc q c)
  a := fA A

theorem sTile_fS (q : Fin 4) : sTile (F := Ideal) (fS x) q = tS fun a c => x a (qc q c) := by
  funext y
  refine congrArg₂ x ?_ ?_
  · exact Fin.ext (by show 0 + 1 * (y 2).val = (y 2).val; omega)
  · exact Fin.ext (by show 128 * q.val + 1 * (y 3).val = 128 * q.val + (y 3).val; omega)

theorem aTile_fA (q : Fin 4) : aTile (F := Ideal) (fA A) q = tA fun d c => A d (qc q c) := by
  funext y
  refine congrArg₂ A ?_ ?_
  · exact Fin.ext (by show 0 + 1 * (y 1).val = (y 1).val; omega)
  · exact Fin.ext (by show 128 * q.val + 1 * (y 2).val = 128 * q.val + (y 2).val; omega)

/-- Four quarters of an array are the array. -/
theorem join_eq {n : ℕ} (B : Fin n → Fin 512 → EReal) (f : Fin 4 → (⟨3, ![1, n, 128]⟩ : Shape).Idx → EReal)
    (h : ∀ q (z : Fin 1) (d : Fin n) (c : Fin 128), f q (ix3 z d c) = B d (qc q c)) : join (f 0) (f 1) (f 2) (f 3) = fA B := by
  funext y
  have h2 : (y 2).val < 512 := (y 2).isLt
  have e : ∀ q : Fin 4, q.val = (y 2).val / 128 → f q (fun a => match a with | 0 => y 0 | 1 => y 1 | 2 => (⟨(y 2).val % 128, Nat.mod_lt _ (by norm_num)⟩ : Fin 128)) = B (y 1) (y 2) := by
    intro q hq
    refine (congrArg (f q) ?_).trans ((h q (y 0) (y 1) ⟨(y 2).val % 128, Nat.mod_lt _ (by norm_num)⟩).trans ?_)
    · funext a; fin_cases a <;> rfl
    · exact congrArg (B (y 1)) (Fin.ext (by show 128 * q.val + (y 2).val % 128 = (y 2).val; omega))
  unfold join
  by_cases c0 : (y 2).val < 128
  · rw [if_pos c0]; exact e 0 (by show 0 = _; omega)
  · by_cases c1 : (y 2).val < 256
    · rw [if_neg c0, if_pos c1]; exact e 1 (by show 1 = _; omega)
    · by_cases c2 : (y 2).val < 384
      · rw [if_neg c0, if_neg c1, if_pos c2]; exact e 2 (by show 2 = _; omega)
      · rw [if_neg c0, if_neg c1, if_neg c2]; exact e 3 (by show 3 = _; omega)

theorem pay44_apply (w : Fin 512 → Fin 512 → EReal) : k0_pay44 (F := Ideal) (k0_pay5 (fV v)) (fA A) (fA w) = fA fun d c => A d c + ∑ a, v a d * w a c := by
  funext y
  idx_vars y
  unfold_payloads
  pointwise
  rfl

/-- A block's step, on a chain of whole rows. -/
theorem soft_ch : soft (F := Ideal) (fV v) (fS x) (ch m l A)
    = ch (top 512 x m) (fun c => shrink 512 x m c * l c + ∑ a, heavy 512 x m a c) (fun d c => A d c * shrink 512 x m c + ∑ a, v a d * heavy 512 x m a c) := by
  unfold soft
  have e : (ch m l A).a = fA A := rfl
  have em : ∀ q, (ch m l A).m q = tM fun c => m (qc q c) := fun _ => rfl
  have el : ∀ q, (ch m l A).l q = tM fun c => l (qc q c) := fun _ => rfl
  have j1 := join_eq (n := 128) (fun d c => A d c * shrink 512 x m c) (fun q => rTile (fS x) (ch m l A) q) (fun q z d c => by
    unfold rTile
    rw [sTile_fS, em, e, aTile_fA]
    exact pay15_apply _ _ _ _ _ _)
  have j2 := join_eq (n := 512) (heavy 512 x m) (fun q => wTile (fS x) (ch m l A) q) (fun q z a c => by
    unfold wTile
    rw [sTile_fS, em]
    exact pay13_apply _ _ _ _ _)
  rw [show join (n := 128) (rTile (fS x) (ch m l A) 0) (rTile (fS x) (ch m l A) 1) (rTile (fS x) (ch m l A) 2) (rTile (fS x) (ch m l A) 3) = _ from j1,
    show join (n := 512) (wTile (fS x) (ch m l A) 0) (wTile (fS x) (ch m l A) 1) (wTile (fS x) (ch m l A) 2) (wTile (fS x) (ch m l A) 3) = _ from j2, pay44_apply]
  have p1 : (fun q => k0_pay12 (F := Ideal) (sTile (fS x) q) ((ch m l A).m q)) = fun q => tM fun c => top 512 x m (qc q c) := by
    funext q y
    idx_vars y
    rw [sTile_fS, em]
    exact pay12_apply _ _ _ _ _
  have p2 : (fun q => k0_pay11 (F := Ideal) (sTile (fS x) q) ((ch m l A).m q) ((ch m l A).l q))
      = fun q => tM fun c => shrink 512 x m (qc q c) * l (qc q c) + ∑ a, heavy 512 x m a (qc q c) := by
    funext q y
    idx_vars y
    rw [sTile_fS, em, el]
    exact pay11_apply _ _ _ _ _ _
  rw [p1, p2]
  rfl

end Chain

end Cert.FwdRun

end
-- ==== Proof.FlashFwdMath.lean ====
/-
  The online softmax on real numbers: whatever blocks of keys were taken, the running maximum is a real number and the
  two sums are those of the exponentials over it; at the end their quotient is the softmax and their log the normalizer's.
-/
module

public import proofs.«01_k».proof.Proof.FlashFwdPay
public import proofs.«01_k».proof.Proof.FlashMath
public import proofs.«01_k».proof.Proof.FlashReal

@[expose] public section

set_option maxRecDepth 16384

noncomputable section

namespace Cert.FwdRun

open Idealize.ShloMosaic Cert.Lift Cert.Attn
open Cert.FlashFwdIdeal (S1x512x128)
open Cert.FlashRun (rw' sum_rows)

theorem expo_shift (s : Fin 8192 → Fin 8192 → ℝ) (M N : ℝ) (r k : Fin 8192) :
    Real.exp (M - N) * expo s (fun _ => M) r k = expo s (fun _ => N) r k := by
  unfold expo
  split
  · rw [← Real.exp_add]; congr 1; ring
  · rw [mul_zero]

/-- The weighted rows' sum. -/
def attn (s : Fin 8192 → Fin 8192 → ℝ) (v : Fin 8192 → Fin 128 → ℝ) (r : Fin 8192) (d : Fin 128) : ℝ := ∑ k, prob s r k * v k d

theorem quotient_attn (s : Fin 8192 → Fin 8192 → ℝ) (v : Fin 8192 → Fin 128 → ℝ) (M : ℝ) (r : Fin 8192) (d : Fin 128) :
    (∑ k, v k d * expo s (fun _ => M) r k) / (∑ k, expo s (fun _ => M) r k) = attn s v r d := by
  rw [Finset.sum_div]
  refine Finset.sum_congr rfl fun k _ => ?_
  rw [mul_div_assoc, expo_div s (fun _ => M), mul_comm]

theorem log_norm (s : Fin 8192 → Fin 8192 → ℝ) (M : ℝ) (r : Fin 8192) : M + Real.log (∑ k, expo s (fun _ => M) r k) = Real.log (norm s r) := by
  rw [sum_expo, Real.log_mul (Real.exp_pos _).ne' (norm_pos s r).ne', Real.log_exp]
  ring

section Chain
variable (s : Fin 8192 → Fin 8192 → ℝ) (v : Fin 8192 → Fin 128 → ℝ) (j : Fin 16)

/-- The masked scores of the queries of block `j` at the keys of block `b`. -/
def tile (b : Fin 16) (a c : Fin 512) : EReal := if sees (rw' j c) (rw' b a) then ((s (rw' j c) (rw' b a) : ℝ) : EReal) else ⊥

/-- The sum of the exponentials of some blocks of keys. -/
def lsum (B : Finset (Fin 16)) (M : Fin 512 → ℝ) (c : Fin 512) : ℝ := ∑ b ∈ B, ∑ a, expo s (fun _ => M c) (rw' j c) (rw' b a)
/-- The values' sum, weighted by them. -/
def asum (B : Finset (Fin 16)) (M : Fin 512 → ℝ) (d : Fin 128) (c : Fin 512) : ℝ :=
  ∑ b ∈ B, ∑ a, v (rw' b a) d * expo s (fun _ => M c) (rw' j c) (rw' b a)

/-- A chain that has taken the blocks `B`. -/
def Took (B : Finset (Fin 16)) (p : Ch Ideal) : Prop :=
  ∃ M : Fin 512 → ℝ, p = ch (fun c => ((M c : ℝ) : EReal)) (fun c => ((lsum s j B M c : ℝ) : EReal)) (fun d c => ((asum s v j B M d c : ℝ) : EReal))

theorem tile_lt (b : Fin 16) (a c : Fin 512) : tile s j b a c < ⊤ := by
  unfold tile
  split
  · exact EReal.coe_lt_top _
  · exact bot_lt_top

/-- The maximum after a block that every query sees a key of is a real number. -/
theorem top_coe (b : Fin 16) (hb : b.val ≤ j.val) (m : Fin 512 → EReal) (hm : ∀ c, m c < ⊤) :
    ∃ M : Fin 512 → ℝ, ∀ c, top 512 (tile s j b) m c = ((M c : ℝ) : EReal) := by
  have key : ∀ c, ∃ M : ℝ, top 512 (tile s j b) m c = (M : EReal) := by
    intro c
    have h0 : ⊥ < tile s j b 0 c := by
      have : sees (rw' j c) (rw' b 0) := by show (b.val * 512 + 0) / 64 ≤ (j.val * 512 + c.val) / 64; omega
      unfold tile
      rw [if_pos this]
      exact EReal.bot_lt_coe _
    have ht : top 512 (tile s j b) m c < ⊤ := max_lt (hm c) ((Finset.fold_max_lt _).mpr ⟨bot_lt_top, fun k _ => tile_lt s j b k c⟩)
    have hb : ⊥ < top 512 (tile s j b) m c := lt_max_of_lt_right ((Finset.lt_fold_max _).mpr (Or.inr ⟨0, Finset.mem_univ _, h0⟩))
    exact ⟨_, (EReal.coe_toReal ht.ne hb.ne').symm⟩
  choose M hM using key
  exact ⟨M, hM⟩

section Block
variable (b : Fin 16) (m : Fin 512 → EReal) (N : Fin 512 → ℝ) (hN : ∀ c, top 512 (tile s j b) m c = ((N c : ℝ) : EReal))
include hN

theorem heavy_coe (a c : Fin 512) : heavy 512 (tile s j b) m a c = ((expo s (fun _ => N c) (rw' j c) (rw' b a) : ℝ) : EReal) := by
  unfold heavy
  rw [hN]
  unfold tile expo
  by_cases h : sees (rw' j c) (rw' b a)
  · rw [if_pos h, if_pos h]; rfl
  · rw [if_neg h, if_neg h]; rfl

theorem shrink_coe (c : Fin 512) (M : ℝ) (h : m c = ((M : ℝ) : EReal)) : shrink 512 (tile s j b) m c = ((Real.exp (M - N c) : ℝ) : EReal) := by
  unfold shrink
  rw [hN, h]; rfl

theorem shrink_bot (c : Fin 512) (h : m c = ⊥) : shrink 512 (tile s j b) m c = 0 := by
  unfold shrink
  rw [hN, h]; rfl

theorem sums_coe (d : Fin 128) (c : Fin 512) :
    (∑ a, heavy 512 (tile s j b) m a c) = ((∑ a, expo s (fun _ => N c) (rw' j c) (rw' b a) : ℝ) : EReal)
    ∧ (∑ a, ((v (rw' b a) d : ℝ) : EReal) * heavy 512 (tile s j b) m a c) = ((∑ a, v (rw' b a) d * expo s (fun _ => N c) (rw' j c) (rw' b a) : ℝ) : EReal) := by
  simp only [heavy_coe s j b m N hN, coe_mul, coe_sum]
  exact ⟨trivial, trivial⟩

end Block

/-- The block's own values. -/
abbrev vals (b : Fin 16) : S1x512x128.Idx → EReal := fV fun a d => ((v (rw' b a) d : ℝ) : EReal)

theorem took_first (b : Fin 16) (hb : b.val ≤ j.val) : Took s v j {b} (soft (F := Ideal) (vals v b) (fS (tile s j b)) (ch (fun _ => ⊥) (fun _ => 0) (fun _ _ => 0))) := by
  obtain ⟨N, hN⟩ := top_coe s j b hb (fun _ => ⊥) (fun _ => bot_lt_top)
  refine ⟨N, ?_⟩
  unfold vals
  rw [soft_ch]
  have e1 : top 512 (tile s j b) (fun _ => ⊥) = fun c => ((N c : ℝ) : EReal) := funext hN
  rw [e1]
  refine congrArg₂ (ch _) (funext fun c => ?_) (funext fun d => funext fun c => ?_)
  · rw [(sums_coe s v j b _ N hN 0 c).1, mul_zero, zero_add]
    unfold lsum
    rw [Finset.sum_singleton]
  · rw [(sums_coe s v j b _ N hN d c).2, zero_mul, zero_add]
    unfold asum
    rw [Finset.sum_singleton]

theorem took_next (B : Finset (Fin 16)) (b : Fin 16) (hb : b.val ≤ j.val) (hB : b ∉ B) (p : Ch Ideal) (hp : Took s v j B p) :
    Took s v j (insert b B) (soft (F := Ideal) (vals v b) (fS (tile s j b)) p) := by
  obtain ⟨M, rfl⟩ := hp
  obtain ⟨N, hN⟩ := top_coe s j b hb (fun c => ((M c : ℝ) : EReal)) (fun _ => EReal.coe_lt_top _)
  refine ⟨N, ?_⟩
  unfold vals
  rw [soft_ch]
  have e1 : top 512 (tile s j b) (fun c => ((M c : ℝ) : EReal)) = fun c => ((N c : ℝ) : EReal) := funext hN
  rw [e1]
  refine congrArg₂ (ch _) (funext fun c => ?_) (funext fun d => funext fun c => ?_)
  · rw [(sums_coe s v j b _ N hN 0 c).1, shrink_coe s j b _ N hN c (M c) rfl, coe_mul, coe_add]
    refine congrArg Real.toEReal ?_
    unfold lsum
    rw [Finset.sum_insert hB, add_comm, Finset.mul_sum]
    refine congrArg₂ (· + ·) rfl (Finset.sum_congr rfl fun i _ => ?_)
    rw [Finset.mul_sum]
    exact Finset.sum_congr rfl fun a _ => expo_shift s _ _ _ _
  · rw [(sums_coe s v j b _ N hN d c).2, shrink_coe s j b _ N hN c (M c) rfl, coe_mul, coe_add]
    refine congrArg Real.toEReal ?_
    unfold asum
    rw [Finset.sum_insert hB, add_comm, Finset.sum_mul]
    refine congrArg₂ (· + ·) rfl (Finset.sum_congr rfl fun i _ => ?_)
    rw [Finset.sum_mul]
    exact Finset.sum_congr rfl fun a _ => by rw [mul_assoc, mul_comm (expo _ _ _ _), expo_shift]

/-- The blocks taken after the diagonal ones and `n` earlier ones. -/
def taken (J n : ℕ) (j : Fin 16) : Finset (Fin 16) := Finset.univ.filter fun b => b.val < n ∨ (2 * J ≤ b.val ∧ b.val ≤ j.val)

theorem taken_succ (J n : ℕ) (h : n < 2 * J) (hj : 2 * J ≤ j.val) : Fin.ofNat 16 n ∉ taken J n j ∧ insert (Fin.ofNat 16 n) (taken J n j) = taken J (n + 1) j := by
  have e : (Fin.ofNat 16 n).val = n := Nat.mod_eq_of_lt (by omega)
  constructor
  · unfold taken
    rw [Finset.mem_filter, e]
    rintro ⟨-, h1 | h1⟩ <;> omega
  · ext b
    unfold taken
    rw [Finset.mem_insert, Finset.mem_filter, Finset.mem_filter, Fin.ext_iff, e]
    constructor
    · rintro (h1 | ⟨-, h1⟩)
      · exact ⟨Finset.mem_univ _, Or.inl (by omega)⟩
      · exact ⟨Finset.mem_univ _, by omega⟩
    · rintro ⟨-, h1⟩
      by_cases h2 : b.val = n
      · exact Or.inl h2
      · exact Or.inr ⟨Finset.mem_univ _, by omega⟩

/-- A key of a later block is not seen. -/
theorem expo_later (M : ℝ) (b : Fin 16) (h : j.val < b.val) (a c : Fin 512) : expo s (fun _ => M) (rw' j c) (rw' b a) = 0 := by
  unfold expo
  exact if_neg fun hs => by
    have : (b.val * 512 + a.val) / 64 ≤ (j.val * 512 + c.val) / 64 := hs
    omega

theorem sum_taken (J : ℕ) (hj : 2 * J ≤ j.val) (f : Fin 16 → ℝ) (hf : ∀ b : Fin 16, j.val < b.val → f b = 0) : ∑ b ∈ taken J (2 * J) j, f b = ∑ b, f b := by
  refine Finset.sum_subset (Finset.subset_univ _) fun b _ h => hf b ?_
  by_contra hb
  exact h (Finset.mem_filter.mpr ⟨Finset.mem_univ _, by omega⟩)

theorem lsum_all (J : ℕ) (hj : 2 * J ≤ j.val) (M : Fin 512 → ℝ) (c : Fin 512) :
    lsum s j (taken J (2 * J) j) M c = ∑ k, expo s (fun _ => M c) (rw' j c) k := by
  unfold lsum
  rw [sum_taken j J hj _ (fun b h => Finset.sum_eq_zero fun a _ => expo_later s j _ b h a c)]
  exact sum_rows fun k => expo s (fun _ => M c) (rw' j c) k

theorem asum_all (J : ℕ) (hj : 2 * J ≤ j.val) (M : Fin 512 → ℝ) (d : Fin 128) (c : Fin 512) :
    asum s v j (taken J (2 * J) j) M d c = ∑ k, v k d * expo s (fun _ => M c) (rw' j c) k := by
  unfold asum
  rw [sum_taken j J hj _ (fun b h => Finset.sum_eq_zero fun a _ => by rw [expo_later s j _ b h a c, mul_zero])]
  exact sum_rows fun k => v k d * expo s (fun _ => M c) (rw' j c) k

end Chain

end Cert.FwdRun

end
-- ==== Proof.FlashFwdReal.lean ====
/- The attention forward's point on real numbers: its scores, its mask, its two chains and what it leaves. -/
module

public import proofs.«01_k».proof.Proof.FlashFwdMath
public import proofs.«01_k».proof.Proof.FlashHostReal

@[expose] public section

set_option maxRecDepth 16384

noncomputable section

namespace Cert.FwdRun

open Idealize.ShloMosaic Idealize.ShloMosaic.TcCoe Idealize.ShloMosaic.Tactic
open Cert.FlashFwdIdeal Cert.FlashFwdIdeal.Gen Cert.Lift Cert.Attn
open Cert.FlashRun (rw' up3 sge_ofNat)

/-- The chunk of a row of a block, as the program divides by sixty-four. -/
theorem chunk_apply : ∀ c : Fin 512,
    Scalar.select
        (IntOp.andi
          (IntOp.cmpi .ne
            (IntOp.subi (BitVec.setWidth 32 (IntOp.cmpi .sgt (BitVec.ofNat 32 c.val) 0#32)) (BitVec.setWidth 32 (IntOp.cmpi .slt (BitVec.ofNat 32 c.val) 0#32)))
            (Scalar.subi (Scalar.extui (Scalar.cmpi .sgt 64#32 0#32)) (Scalar.extui (Scalar.cmpi .slt 64#32 0#32))))
          (IntOp.cmpi .ne (IntOp.remsi .vector (BitVec.ofNat 32 c.val) 64#32) 0#32))
        (IntOp.subi (IntOp.divsi .vector (BitVec.ofNat 32 c.val) 64#32) 1#32)
        (IntOp.divsi .vector (BitVec.ofNat 32 c.val) 64#32)
      = BitVec.ofNat 32 (c.val / 64) := by decide +kernel

theorem mask_apply (a c : Fin 512) : mask (ix2 a c) = if a.val / 64 ≤ c.val / 64 then 1#1 else 0#1 := by
  unfold mask k0_pay346 k0_pay345 k0_pay344 k0_pay343
  pointwise
  exact (congrArg₂ (IntOp.cmpi .sge) (chunk_apply c) (chunk_apply a)).trans (sge_ofNat _ _ (by omega) (by omega))

section Scores
variable (Qb Kb : Fin 512 → Fin 256 → ℝ)

/-- The scores of a block of queries at a block of keys. -/
def sc (a c : Fin 512) : ℝ := ∑ d, Kb a d * Qb c d

theorem pay3_eq : k0_pay3 (F := Ideal) (k0_pay338 (up3 Qb)) (up3 Kb) = fS fun a c => ((sc Qb Kb a c : ℝ) : EReal) := by
  funext y
  idx_vars y
  unfold_payloads
  pointwise
  simp only [wzero, coe_mul, coe_sum, coe_add, zero_add]
  rfl

theorem pay351_eq : k0_pay351 (F := Ideal) (k0_pay339 (up3 Qb)) (k0_pay347 (up3 Kb)) = fS fun a c => ((sc Qb Kb a c : ℝ) : EReal) := by
  funext y
  idx_vars y
  unfold_payloads
  pointwise
  simp only [wzero, coe_mul, coe_sum, coe_add, zero_add]
  rfl

theorem pay350_eq : k0_pay350 (F := Ideal) (k0_pay338 (up3 Qb)) mask (k0_pay347 (up3 Kb))
    = fS fun a c => if a.val / 64 ≤ c.val / 64 then ((sc Qb Kb a c : ℝ) : EReal) else ⊥ := by
  funext y
  idx_vars y
  unfold k0_pay350 k0_pay347 k0_pay338
  pointwise
  rw [mask_apply, named_mask]
  simp only [wzero, coe_mul, coe_sum, coe_add, zero_add]
  by_cases h : y2.val / 64 ≤ y3.val / 64
  · rw [if_pos h]; exact (if_pos h).symm
  · rw [if_neg h]; exact (if_neg h).symm

theorem pay352_eq : k0_pay352 (F := Ideal) (k0_pay339 (up3 Qb)) mask (up3 Kb)
    = fS fun a c => if a.val / 64 ≤ c.val / 64 then ((sc Qb Kb a c : ℝ) : EReal) else ⊥ := by
  funext y
  idx_vars y
  unfold k0_pay352 k0_pay339
  pointwise
  rw [mask_apply, named_mask]
  simp only [wzero, coe_mul, coe_sum, coe_add, zero_add]
  by_cases h : y2.val / 64 ≤ y3.val / 64
  · rw [if_pos h]; exact (if_pos h).symm
  · rw [if_neg h]; exact (if_neg h).symm

end Scores

theorem blank_eq (h : Fin 2) : blank (F := Ideal) h = ch (fun _ => ⊥) (fun _ => 0) (fun _ _ => 0) := by
  have e1 : ∀ y, k0_pay340 (F := Ideal) y = ⊥ := fun y => by
    idx_vars y; unfold k0_pay340; pointwise; exact named_mask
  have e2 : ∀ y, k0_pay341 (F := Ideal) y = 0 := fun y => by
    idx_vars y; unfold k0_pay341; pointwise
  have e3 : ∀ y, k0_pay342 (F := Ideal) y = 0 := fun y => by
    idx_vars y; unfold k0_pay342; pointwise
  unfold blank ch
  refine congr (congrArg₂ Ch.mk (funext fun q => funext fun y => e1 _) (funext fun q => funext fun y => e2 _)) (funext fun y => e3 _)

section Head
variable (Q K : Fin 8192 → Fin 192 → ℝ) (W : Fin 8192 → Fin 128 → ℝ)

theorem kRows_eq (b : Fin 16) : kRows (F := Ideal) (up3 (wide K)) b = up3 fun a => wide K (rw' b a) := by
  funext y
  refine congrArg Real.toEReal (congrArg₂ (wide K) (Fin.ext ?_) (Fin.ext ?_))
  · show 512 * b.val + 1 * (y 1).val = b.val * 512 + (y 1).val; omega
  · show 0 + 1 * (y 2).val = (y 2).val; omega

theorem vRows_eq (b : Fin 16) : vRows (F := Ideal) (up3 W) b = vals W b := by
  funext y
  refine congrArg Real.toEReal (congrArg₂ W (Fin.ext ?_) (Fin.ext ?_))
  · show 512 * b.val + 1 * (y 1).val = b.val * 512 + (y 1).val; omega
  · show 0 + 1 * (y 2).val = (y 2).val; omega

/-- A pair of blocks of queries. -/
def prow (J : Fin 8) (a : Fin 1024) : Fin 8192 := ⟨J.val * 1024 + a.val, by omega⟩
/-- The block of queries of a chain. -/
def qblk (J : Fin 8) (h : Fin 2) : Fin 16 := ⟨2 * J.val + h.val, by omega⟩

theorem qRows_eq (J : Fin 8) (h : Fin 2) : qRows (F := Ideal) (up3 fun a => wide Q (prow J a)) h = up3 fun a => wide Q (rw' (qblk J h) a) := by
  funext y
  refine congrArg Real.toEReal (congrArg₂ (wide Q) (Fin.ext ?_) (Fin.ext ?_))
  · show J.val * 1024 + (512 * h.val + 1 * (y 1).val) = (2 * J.val + h.val) * 512 + (y 1).val; omega
  · show 0 + 1 * (y 2).val = (y 2).val; omega

theorem sc_wide (j b : Fin 16) (a c : Fin 512) : sc (fun a => wide Q (rw' j a)) (fun a => wide K (rw' b a)) a c = scores Q K (rw' j c) (rw' b a) :=
  scores_wide _ _ _ _

theorem tile_before (j b : Fin 16) (h : b.val < j.val) :
    (fun a c => ((sc (fun a => wide Q (rw' j a)) (fun a => wide K (rw' b a)) a c : ℝ) : EReal)) = tile (scores Q K) j b := by
  funext a c
  have : sees (rw' j c) (rw' b a) := by show (b.val * 512 + a.val) / 64 ≤ (j.val * 512 + c.val) / 64; omega
  unfold tile
  rw [if_pos this, sc_wide]

theorem tile_diag (j : Fin 16) :
    (fun a c : Fin 512 => if a.val / 64 ≤ c.val / 64 then ((sc (fun a => wide Q (rw' j a)) (fun a => wide K (rw' j a)) a c : ℝ) : EReal) else ⊥) = tile (scores Q K) j j := by
  funext a c
  have : sees (rw' j c) (rw' j a) ↔ a.val / 64 ≤ c.val / 64 := by
    show (j.val * 512 + a.val) / 64 ≤ (j.val * 512 + c.val) / 64 ↔ _; omega
  unfold tile
  rw [sc_wide]
  exact (if_congr this rfl rfl).symm

theorem past_took (J : ℕ) (j : Fin 16) (hj : 2 * J ≤ j.val) (p : Ch Ideal) (hp : Took (scores Q K) W j (taken J 0 j) p) :
    ∀ n, n ≤ 2 * J → Took (scores Q K) W j (taken J n j) (past (up3 fun a => wide Q (rw' j a)) (up3 (wide K)) (up3 W) p n)
  | 0, _ => hp
  | n + 1, h => by
    have e : (Fin.ofNat 16 n).val = n := Nat.mod_eq_of_lt (by omega)
    obtain ⟨h1, h2⟩ := taken_succ j J n (by omega) hj
    rw [past, vRows_eq, kRows_eq]
    unfold score
    rw [pay3_eq, tile_before _ _ _ _ (by omega), ← h2]
    exact took_next _ _ _ _ _ (by omega) h1 _ (past_took J j hj p hp n (by omega))

theorem taken_zero (J : Fin 8) : taken J.val 0 (qblk J 0) = {qblk J 0} ∧ taken J.val 0 (qblk J 1) = insert (qblk J 1) {qblk J 0} := by
  revert J; decide

theorem ofNat_blk (J : Fin 8) : Fin.ofNat 16 (2 * J.val) = qblk J 0 ∧ Fin.ofNat 16 (2 * J.val + 1) = qblk J 1 := by
  revert J; decide

theorem chain_took (J : Fin 8) (h : Fin 2) :
    Took (scores Q K) W (qblk J h) (taken J.val (2 * J.val) (qblk J h)) (chains J.val (up3 fun a => wide Q (prow J a)) (up3 (wide K)) (up3 W) h) := by
  unfold chains done
  have t := taken_zero J
  have o := ofNat_blk J
  match h with
  | 0 =>
    rw [if_pos rfl, qRows_eq, qRows_eq]
    refine past_took Q K W J.val _ (by show _ ≤ 2 * J.val + 0; omega) _ ?_ _ le_rfl
    unfold first
    rw [if_pos rfl, o.1, t.1, vRows_eq, kRows_eq, pay350_eq, tile_diag, blank_eq]
    exact took_first _ _ _ _ le_rfl
  | 1 =>
    rw [if_neg (by decide), qRows_eq, qRows_eq]
    refine past_took Q K W J.val _ (by show _ ≤ 2 * J.val + 1; omega) _ ?_ _ le_rfl
    unfold first
    rw [if_neg (by decide), o.1, o.2, t.2, vRows_eq, vRows_eq, kRows_eq, kRows_eq, pay352_eq, pay351_eq, tile_diag,
      tile_before _ _ _ _ (by show 2 * J.val + 0 < 2 * J.val + 1; omega), blank_eq]
    refine took_next _ _ _ _ _ le_rfl ?_ _ (took_first _ _ _ _ (by show 2 * J.val + 0 ≤ 2 * J.val + 1; omega))
    rw [Finset.mem_singleton]
    exact fun h => by have : 2 * J.val + 1 = 2 * J.val + 0 := congrArg Fin.val h; omega

end Head

end Cert.FwdRun

end
-- ==== Proof.FlashFwdBody.lean ====
/-
  A whole grid point of the attention forward: the diagonal blocks, the earlier blocks, and the results it writes.
-/
module

public import proofs.«01_k».proof.Proof.FlashFwdOut

@[expose] public section

set_option maxRecDepth 16384

noncomputable section

namespace Cert.FwdRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FlashFwdIdeal Cert.FlashFwdIdeal.Gen

variable {F : FTy → Type} [FloatOps F] [Named F]

local notation "𝕄" => MT nD τ sig Unit (Elt F) ℕ (UR sig nD τ) ℕ

/-- The rest of a point, as the run of the whole point takes it. -/
abbrev Later (c : Dev nD) (i : grid0.Coords) (arg2 : Memref sig .tc .vmem S1x1024x256 .bf16) (harg2 : arg2.IsWhole) (arg3 : Memref sig .tc .vmem S1x8192x256 .bf16) (harg3 : arg3.IsWhole) (arg4 : Memref sig .tc .vmem S1x8192x128 .bf16) (harg4 : arg4.IsWhole) (arg5 : Memref sig .tc .vmem S1024x128 .bf16) (harg5 : arg5.IsWhole) (arg6 : Memref sig .tc .vmem S1x2x8x512 .f32) (harg6 : arg6.IsWhole) (arg7 : Memref sig .tc .vmem S2x2x512x512 .f32) (harg7 : arg7.IsWhole) (arg8 : Memref sig .tc .vmem S2x512x512 .bf16) (harg8 : arg8.IsWhole) (arg9 : Memref sig .tc .vmem S2x8x512 .f32) (harg9 : arg9.IsWhole) (arg10 : Memref sig .tc .vmem S2x8x512 .f32) (harg10 : arg10.IsWhole) (arg11 : Memref sig .tc .vmem S2x128x512 .f32) (harg11 : arg11.IsWhole) (E : Set ℕ) : Prop :=
  ∀ (x1 : Vec F S1x8192x256 .bf16) (x2 : Vec F S1x8192x128 .bf16) (d7 : Vec F S2x2x512x512 .f32) (d8 : Vec F S2x512x512 .bf16) (d9 d10 : Vec F S2x8x512 .f32) (d11 : Vec F S2x128x512 .f32)
    (a1 : BitVec 32) (q0 q1 : Vec F S1x512x256 .bf16) (w : FVec F S128x512 .f32),
    (iprop(owns (c : Thread nD τ) arg3 fullShare x1 ∗ owns (c : Thread nD τ) arg4 fullShare x2 ∗ owns (c : Thread nD τ) arg7 fullShare d7 ∗ owns (c : Thread nD τ) arg8 fullShare d8
      ∗ owns (c : Thread nD τ) arg9 fullShare d9 ∗ owns (c : Thread nD τ) arg10 fullShare d10 ∗ owns (c : Thread nD τ) arg11 fullShare d11) : sProp 𝕄) ⊢
      wp frame (wpE (defs₀ (F := F)) Variants.none (c : Thread nD τ) none) E
        (k0_part60 (F := F) i arg2 harg2 arg3 harg3 arg4 harg4 arg5 harg5 arg6 harg6 arg7 harg7 arg8 harg8 arg9 harg9 arg10 harg10 arg11 harg11 a1 (k0_pay338 q0) (k0_pay339 q1) w)
        fun v => iprop(⌜v = ⟨k0_pay476 (whole (done (i 1).val q0 q1 x1 x2 (begin d9 d10 d11 w) 0).l), k0_pay477 (whole (done (i 1).val q0 q1 x1 x2 (begin d9 d10 d11 w) 0).l) (done (i 1).val q0 q1 x1 x2 (begin d9 d10 d11 w) 0).a⟩⌝
          ∗ owns (c : Thread nD τ) arg3 fullShare x1 ∗ owns (c : Thread nD τ) arg4 fullShare x2
          ∗ held c arg7 arg8 arg9 arg10 arg11 (fun h => score (if h = 0 then q0 else q1) (kRows x1 (Fin.ofNat 16 (ahead (i 1).val (2 * (i 1).val))))) (done (i 1).val q0 q1 x1 x2 (begin d9 d10 d11 w)))

set_option maxHeartbeats 4000000 in
theorem body (c : Dev nD) (i : grid0.Coords) (arg2 : Memref sig .tc .vmem S1x1024x256 .bf16) (harg2 : arg2.IsWhole) (arg3 : Memref sig .tc .vmem S1x8192x256 .bf16) (harg3 : arg3.IsWhole) (arg4 : Memref sig .tc .vmem S1x8192x128 .bf16) (harg4 : arg4.IsWhole) (arg5 : Memref sig .tc .vmem S1024x128 .bf16) (harg5 : arg5.IsWhole) (arg6 : Memref sig .tc .vmem S1x2x8x512 .f32) (harg6 : arg6.IsWhole) (arg7 : Memref sig .tc .vmem S2x2x512x512 .f32) (harg7 : arg7.IsWhole) (arg8 : Memref sig .tc .vmem S2x512x512 .bf16) (harg8 : arg8.IsWhole) (arg9 : Memref sig .tc .vmem S2x8x512 .f32) (harg9 : arg9.IsWhole) (arg10 : Memref sig .tc .vmem S2x8x512 .f32) (harg10 : arg10.IsWhole) (arg11 : Memref sig .tc .vmem S2x128x512 .f32) (harg11 : arg11.IsWhole)
    (x0 : Vec F S1x1024x256 .bf16) (x1 : Vec F S1x8192x256 .bf16) (x2 : Vec F S1x8192x128 .bf16) (E : Set ℕ) :
    iprop(owns (c : Thread nD τ) arg2 fullShare x0 ∗ owns (c : Thread nD τ) arg3 fullShare x1 ∗ owns (c : Thread nD τ) arg4 fullShare x2
      ∗ (∃ d, owns (c : Thread nD τ) arg5 fullShare d) ∗ (∃ d, owns (c : Thread nD τ) arg6 fullShare d) ∗ (∃ d, owns (c : Thread nD τ) arg7 fullShare d)
      ∗ (∃ d, owns (c : Thread nD τ) arg8 fullShare d) ∗ (∃ d, owns (c : Thread nD τ) arg9 fullShare d) ∗ (∃ d, owns (c : Thread nD τ) arg10 fullShare d)
      ∗ (∃ d, owns (c : Thread nD τ) arg11 fullShare d)) ⊢
      wp frame (wpE (defs₀ (F := F)) Variants.none (c : Thread nD τ) none) E
        (cc0_flash_fwd (F := F) i arg2 harg2 arg3 harg3 arg4 harg4 arg5 harg5 arg6 harg6 arg7 harg7 arg8 harg8 arg9 harg9 arg10 harg10 arg11 harg11)
        fun _ => (iprop(owns (c : Thread nD τ) arg2 fullShare x0 ∗ owns (c : Thread nD τ) arg3 fullShare x1 ∗ owns (c : Thread nD τ) arg4 fullShare x2
      ∗ owns (c : Thread nD τ) arg5 fullShare (outO (chains (i 1).val x0 x1 x2)) ∗ owns (c : Thread nD τ) arg6 fullShare (outL (chains (i 1).val x0 x1 x2))
      ∗ (∃ d, owns (c : Thread nD τ) arg7 fullShare d)
      ∗ (∃ d, owns (c : Thread nD τ) arg8 fullShare d) ∗ (∃ d, owns (c : Thread nD τ) arg9 fullShare d) ∗ (∃ d, owns (c : Thread nD τ) arg10 fullShare d)
      ∗ (∃ d, owns (c : Thread nD τ) arg11 fullShare d)) : sProp 𝕄) := by
  have hcut : Later (F := F) c i arg2 harg2 arg3 harg3 arg4 harg4 arg5 harg5 arg6 harg6 arg7 harg7 arg8 harg8 arg9 harg9 arg10 harg10 arg11 harg11 E := fun x1 x2 d7 d8 d9 d10 d11 a1 q0 q1 w =>
    later c i arg2 harg2 arg3 harg3 arg4 harg4 arg5 harg5 arg6 harg6 arg7 harg7 arg8 harg8 arg9 harg9 arg10 harg10 arg11 harg11 a1 q0 q1 w x1 x2 d7 d8 d9 d10 d11 E
  unfold Later held at hcut
  simp only [cc0_flash_fwd_eq_skeleton]
  unfold cc0_flash_fwd_skel
  simp only [k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part61_eq_skeleton]
  unfold ownsSat owns at *
  iintro ⟨⟨%f2, %hf2, H2⟩, ⟨%f3, %hf3, H3⟩, ⟨%f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩⟩
  sl_exec
  sl_step
  have hq0 : View.readAt (Elt F) arg2.view (Rect.unit (s := S1x1024x256) ![0, 0, 0] S1x512x256.size inb_S1x1024x256_S1x512x256_0_0_0).toLoadRect f2 = qRows x0 0 := by
    rw [View.readAt_unit _ _ _ rfl, hf2]
    rfl
  have hq1 : View.readAt (Elt F) arg2.view (Rect.unit (s := S1x1024x256) ![0, 512, 0] S1x512x256.size inb_S1x1024x256_S1x512x256_0_512_0).toLoadRect f2 = qRows x0 1 := by
    rw [View.readAt_unit _ _ _ rfl, hf2]
    rfl
  have hj : (i 1).val < 8 := (i 1).isLt
  have e0 : (Fin.ofNat 16 (2 * (i 1).val)).val = 2 * (i 1).val := by simp only [Fin.ofNat]; omega
  have e1 : (Fin.ofNat 16 (2 * (i 1).val + 1)).val = 2 * (i 1).val + 1 := by simp only [Fin.ofNat]; omega
  have hk0 : View.readAt (Elt F) arg3.view (Rect.unit (s := S1x8192x256) (k0_off1 i) S1x512x256.size (k0_off1_inb i)).toLoadRect f3 = kRows x1 (Fin.ofNat 16 (2 * (i 1).val)) := by
    rw [View.readAt_unit _ _ _ ((off1_eq i).trans (by rw [e0]) : k0_off1 i = ![0, 512 * (Fin.ofNat 16 (2 * (i 1).val)).val, 0]), hf3]
  have hk1 : View.readAt (Elt F) arg3.view (Rect.unit (s := S1x8192x256) (k0_off3 i) S1x512x256.size (k0_off3_inb i)).toLoadRect f3 = kRows x1 (Fin.ofNat 16 (2 * (i 1).val + 1)) := by
    rw [View.readAt_unit _ _ _ ((off3_eq i).trans (by rw [e1]) : k0_off3 i = ![0, 512 * (Fin.ofNat 16 (2 * (i 1).val + 1)).val, 0]), hf3]
  have hv0 : View.readAt (Elt F) arg4.view (Rect.unit (s := S1x8192x128) (k0_off2 i) S1x512x128.size (k0_off2_inb i)).toLoadRect f4 = vRows x2 (Fin.ofNat 16 (2 * (i 1).val)) := by
    rw [View.readAt_unit _ _ _ ((off2_eq i).trans (by rw [e0]) : k0_off2 i = ![0, 512 * (Fin.ofNat 16 (2 * (i 1).val)).val, 0]), hf4]
  have hv1 : View.readAt (Elt F) arg4.view (Rect.unit (s := S1x8192x128) (k0_off4 i) S1x512x128.size (k0_off4_inb i)).toLoadRect f4 = vRows x2 (Fin.ofNat 16 (2 * (i 1).val + 1)) := by
    rw [View.readAt_unit _ _ _ ((off4_eq i).trans (by rw [e1]) : k0_off4 i = ![0, 512 * (Fin.ofNat 16 (2 * (i 1).val + 1)).val, 0]), hf4]
  rw [hf3, hf4, hq0, hq1] at hk0_part60_0
  rw [hf3, hf4, hq0, hq1] at hk0_part60_9
  rw [hf3, hf4, hq0, hq1] at hk0_part60_11
  rw [hf3, hf4, hq0, hq1] at hk0_part60_13
  generalize hB : begin _ _ _ _ = B at hk0_part60_0 hk0_part60_9 hk0_part60_11 hk0_part60_13
  have hF0 : first (F := F) (i 1).val (qRows x0 0) (qRows x0 1) x1 x2 0 = soft (vRows x2 (Fin.ofNat 16 (2 * (i 1).val))) (k0_pay350 (k0_pay338 (qRows x0 0)) mask (k0_pay347 (kRows x1 (Fin.ofNat 16 (2 * (i 1).val))))) (blank 0) := rfl
  have hF1 : first (F := F) (i 1).val (qRows x0 0) (qRows x0 1) x1 x2 1 = soft (vRows x2 (Fin.ofNat 16 (2 * (i 1).val + 1))) (k0_pay352 (k0_pay339 (qRows x0 1)) mask (kRows x1 (Fin.ofNat 16 (2 * (i 1).val + 1))))
      (soft (vRows x2 (Fin.ofNat 16 (2 * (i 1).val))) (k0_pay351 (k0_pay339 (qRows x0 1)) (k0_pay347 (kRows x1 (Fin.ofNat 16 (2 * (i 1).val))))) (blank 1)) := rfl
  have e : B = first (i 1).val (qRows x0 0) (qRows x0 1) x1 x2 := by
    rw [← hB]
    sl_open_run
    refine begin_eq ?_ ?_ ?_ ?_
    on_goal 1 =>
      refine Fin.forall_fin_two.2 ⟨forall_four ?_ ?_ ?_ ?_, forall_four ?_ ?_ ?_ ?_⟩
      all_goals
        repeat refine (window_skip arg9.view f9 _ _ _ _ (by rfl)).trans ?_
        refine (window_hit arg9.view f9 _ _ _ _).trans ?_
    on_goal 9 =>
      refine Fin.forall_fin_two.2 ⟨forall_four ?_ ?_ ?_ ?_, forall_four ?_ ?_ ?_ ?_⟩
      all_goals
        repeat refine (window_skip arg10.view f10 _ _ _ _ (by rfl)).trans ?_
        refine (window_hit arg10.view f10 _ _ _ _).trans ?_
    on_goal 17 =>
      repeat refine (window_skip arg11.view f11 _ _ _ _ (by rfl)).trans ?_
      refine (window_hit arg11.view f11 _ _ _ _).trans ?_
    all_goals
      simp (disch := decide) only [View.readCov_skip, View.readCov_cons_toLoadRect, readCov_join_p, readCov_join_a, read_s' _ 0 _ _ 0 rfl, read_s' _ 1 _ _ 128 rfl,
        read_s' _ 2 _ _ 256 rfl, read_s' _ 3 _ _ 384 rfl, read_a' _ 0 _ 0 rfl, read_a' _ 1 _ 128 rfl, read_a' _ 2 _ 256 rfl, read_a' _ 3 _ 384 rfl,
        read_m' _ 0 0 0 0 rfl rfl, read_m' _ 0 1 0 128 rfl rfl, read_m' _ 0 2 0 256 rfl rfl, read_m' _ 0 3 0 384 rfl rfl, read_m' _ 1 0 1 0 rfl rfl,
        read_m' _ 1 1 1 128 rfl rfl, read_m' _ 1 2 1 256 rfl rfl, read_m' _ 1 3 1 384 rfl rfl, read_a'' _ 0 0 0 0 rfl rfl,
        read_a'' _ 0 1 0 128 rfl rfl, read_a'' _ 0 2 0 256 rfl rfl, read_a'' _ 0 3 0 384 rfl rfl, read_a'' _ 1 0 1 0 rfl rfl,
        read_a'' _ 1 1 1 128 rfl rfl, read_a'' _ 1 2 1 256 rfl rfl, read_a'' _ 1 3 1 384 rfl rfl, hq0, hq1, hk0, hk1, hv0, hv1, hF0, hF1]
      sl_open_pay
      rfl
  subst e
  change _ = _ at hk0_part60_0
  have hp : chains (i 1).val x0 x1 x2 = done (i 1).val (qRows x0 0) (qRows x0 1) x1 x2 (first (i 1).val (qRows x0 0) (qRows x0 1) x1 x2) := rfl
  rw [hp]
  generalize done (i 1).val (qRows x0 0) (qRows x0 1) x1 x2 (first (i 1).val (qRows x0 0) (qRows x0 1) x1 x2) = p at *
  have hl : ∀ h q, mWin (View.read (Elt F) arg10.view fk0_part60_5) h q = (p h).l q := hk0_part60_11
  have hm : ∀ h q, mWin (View.read (Elt F) arg9.view fk0_part60_4) h q = (p h).m q := hk0_part60_9
  have ha : ∀ h, aWin (View.read (Elt F) arg11.view fk0_part60_6) h = (p h).a := hk0_part60_13
  sl_open_run
  isplitl [H2]
  · iexists _; isplitr; · ipureintro; exact hf2
    iexact H2
  isplitl [Hk0_part60_2]
  · iexists _; isplitr; · ipureintro; exact hk0_part60_1.trans hf3
    iexact Hk0_part60_2
  isplitl [Hk0_part60_4]
  · iexists _; isplitr; · ipureintro; exact hk0_part60_3.trans hf4
    iexact Hk0_part60_4
  isplitl [H5]
  · iexists _; isplitr; rotate_left; · iexact H5
    ipureintro
    rw [read_halves]
    have ev : v574 = k0_pay477 (whole (p 0).l) (p 0).a := congrArg PSigma.snd hk0_part60_0
    have ea : View.readAt (Elt F) arg11.view (Rect.unit (s := S2x128x512) ![1, 0, 0] S1x128x512.size inb_S2x128x512_S1x128x512_1_0_0).toLoadRect fk0_part60_6 = (p 1).a := by
      rw [View.readAt_unit _ _ _ rfl]
      exact ha 1
    rw [ev, read_row arg10.view fk0_part60_5 (hl 1) 1 rfl, ea]
    rfl
  isplitl [H6]
  · iexists _; isplitr; rotate_left; · iexact H6
    ipureintro
    refine (read_pair arg6.view f6 _ _ _ _).trans ?_
    have ev : v568 = k0_pay476 (whole (p 0).l) := congrArg PSigma.fst hk0_part60_0
    rw [ev, read_row arg10.view fk0_part60_5 (hl 1) 1 rfl, read_row arg9.view fk0_part60_4 (hm 1) 1 rfl, read_row arg9.view fk0_part60_4 (hm 0) 0 rfl]
    rfl
  isplitl [Hk0_part60_6]
  · iexists (View.read (Elt F) arg7.view fk0_part60_2), _; isplitr; · ipureintro; exact rfl
    iexact Hk0_part60_6
  isplitl [Hk0_part60_8]
  · iexists (View.read (Elt F) arg8.view fk0_part60_3), _; isplitr; · ipureintro; exact rfl
    iexact Hk0_part60_8
  isplitl [Hk0_part60_10]
  · iexists (View.read (Elt F) arg9.view fk0_part60_4), _; isplitr; · ipureintro; exact rfl
    iexact Hk0_part60_10
  isplitl [Hk0_part60_12]
  · iexists (View.read (Elt F) arg10.view fk0_part60_5), _; isplitr; · ipureintro; exact rfl
    iexact Hk0_part60_12
  · iexists (View.read (Elt F) arg11.view fk0_part60_6), _; isplitr; · ipureintro; exact rfl
    iexact Hk0_part60_14

end Cert.FwdRun

end
-- ==== Proof.FlashFwdFrame.lean ====
/-
  The attention forward's whole run: every grid point's body, and what the two results hold when the pipeline is done.
-/
module

public import proofs.«01_k».proof.Proof.FlashFwdBody
public import proofs.«01_k».proof.Proof.Gen.FlashFwdIdeal.Frame
public import proofs.«01_k».proof.Proof.Gen.FlashFwdIdeal.Launch
public import Idealize.ShloMosaic.Lib.Claim

@[expose] public section

set_option maxRecDepth 16384

noncomputable section

namespace Cert.FwdRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashFwdIdeal Cert.FlashFwdIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev scratchS : Memref sig .tc .vmem S2x2x512x512 .f32 := Memref.whole cc0_scratch0
abbrev scratchP : Memref sig .tc .vmem S2x512x512 .bf16 := Memref.whole cc0_scratch1
abbrev scratchM : Memref sig .tc .vmem S2x8x512 .f32 := Memref.whole cc0_scratch2
abbrev scratchL : Memref sig .tc .vmem S2x8x512 .f32 := Memref.whole cc0_scratch3
abbrev scratchA : Memref sig .tc .vmem S2x128x512 .f32 := Memref.whole cc0_scratch4

/-- The scratch arrays and the generator register between points: anything. -/
theorem anyScratch_eq (c : Dev nD) : (Pipeline.ΦA spec0 c : sProp 𝕄)
    = iprop(((∃ d, owns (c : Thread nD τ) scratchS fullShare d) ∗ (∃ d, owns (c : Thread nD τ) scratchP fullShare d) ∗ (∃ d, owns (c : Thread nD τ) scratchM fullShare d)
      ∗ (∃ d, owns (c : Thread nD τ) scratchL fullShare d) ∗ (∃ d, owns (c : Thread nD τ) scratchA fullShare d))
      ∗ ∃ r, prngReg c r) := by
  unfold Pipeline.ΦA; rw [scopedRest0_eq]; simp only [scratchS, scratchP, scratchM, scratchL, scratchA, owns_whole]; try rfl

/-- The two chains at the end of a point, over its own blocks. -/
def chainsAt (c : Dev nD) (t : Fin cfg0.N) : Fin 2 → Ch F :=
  chains (grid0.coords t 1).val (iblk m c 0 t) (iblk m c 1 t) (iblk m c 2 t)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outO (chainsAt m c t)
    | ⟨4, _⟩ => outL (chainsAt m c t)
  Φ _ := Pipeline.ΦA spec0 c
  q _ := fullShare
  owed _ := 0

theorem A_eq (c : Dev nD) (w : Fin cfg0.W) : (dats m 0 c).A w = V m c (Pipeline.arrRef spec0 w) := by dsimp only [dats]

theorem after_o (c : Dev nD) (t : Fin cfg0.N) : (dats m 0 c).after 3 t = outO (chainsAt m c t) := by dsimp only [dats]
theorem after_l (c : Dev nD) (t : Fin cfg0.N) : (dats m 0 c).after 4 t = outL (chainsAt m c t) := by dsimp only [dats]

theorem found0 (c : Dev nD) (t : Fin cfg0.N) (d) : (dats m 0 c).before 0 t d = iblk m c 0 t := before0_0_of m (dats m 0 c) (A_eq m c 0) (fun t => by dsimp only [dats]) t d
theorem found1 (c : Dev nD) (t : Fin cfg0.N) (d) : (dats m 0 c).before 1 t d = iblk m c 1 t := before0_1_of m (dats m 0 c) (A_eq m c 1) (fun t => by dsimp only [dats]) t d
theorem found2 (c : Dev nD) (t : Fin cfg0.N) (d) : (dats m 0 c).before 2 t d = iblk m c 2 t := before0_2_of m (dats m 0 c) (A_eq m c 2) (fun t => by dsimp only [dats]) t d

/-! The windows' current buffers. -/

abbrev buf0 (t : Fin cfg0.N) : Memref sig .tc .vmem S1x1024x256 .bf16 := win0_0.stage (cfg0.slots t 0)
abbrev buf1 (t : Fin cfg0.N) : Memref sig .tc .vmem S1x8192x256 .bf16 := win0_1.stage (cfg0.slots t 1)
abbrev buf2 (t : Fin cfg0.N) : Memref sig .tc .vmem S1x8192x128 .bf16 := win0_2.stage (cfg0.slots t 2)
abbrev buf3 (t : Fin cfg0.N) : Memref sig .tc .vmem S1024x128 .bf16 := win0_3.stage (cfg0.slots t 3)
abbrev buf4 (t : Fin cfg0.N) : Memref sig .tc .vmem S1x2x8x512 .f32 := win0_4.stage (cfg0.slots t 4)

theorem leaves (c : Dev nD) (w : Fin cfg0.W) (t : Fin cfg0.N) :
    (dats m 0 c).leavesExact w t = owns (c : Thread nD τ) ((cfg0.win w).stage (cfg0.slots t w)) fullShare ((dats m 0 c).after w t) := by
  have live : cfg0.idle w (grid0.coords t) = false := by
    revert w; simp only [show cfg0.W = 5 from rfl]; intro w; fin_cases w <;> trivial
  unfold Dat.leavesExact; rw [live]

set_option maxHeartbeats 1600000 in
theorem sound_body (c : Dev nD) (t : Fin cfg0.N) :
    (iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))) : sProp 𝕄)
    ⊢ wp frame (wpE (defs₀ (F := F)) Variants.none c none) Set.univ (bodyAt0 t) (fun _ =>
      iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t)) := by
  simp only [found0, found1, found2]
  rw [leaves, leaves, leaves, leaves, leaves, after_o, after_l,
    show (dats m 0 c).Φ t.succ = (Pipeline.ΦA spec0 c : sProp 𝕄) from rfl, show (dats m 0 c).Φ t.castSucc = (Pipeline.ΦA spec0 c : sProp 𝕄) from rfl,
    show (dats m 0 c).owesAt () t.succ = (dats m 0 c).owesAt () t.castSucc from rfl, anyScratch_eq]
  unfold bodyAt0
  iintro ⟨⟨⟨HS, HP, HM, HL, HA⟩, Hg⟩, Ho, ⟨%d0, H0⟩, ⟨%d1, H1⟩, ⟨%d2, H2⟩, ⟨%d3, H3⟩, ⟨%d4, H4⟩⟩
  iapply wp_wand $$ [HS HP HM HL HA H0 H1 H2 H3 H4]
  · iapply (body c (grid0.coords t) (buf0 t) (hstage0_0 ((cfg0.slots t 0).cast nbuf0_0)) (buf1 t) (hstage0_1 ((cfg0.slots t 1).cast nbuf0_1)) (buf2 t) (hstage0_2 ((cfg0.slots t 2).cast nbuf0_2))
      (buf3 t) (hstage0_3 ((cfg0.slots t 3).cast nbuf0_3)) (buf4 t) (hstage0_4 ((cfg0.slots t 4).cast nbuf0_4))
      scratchS (Memref.isWhole_whole _) scratchP (Memref.isWhole_whole _) scratchM (Memref.isWhole_whole _) scratchL (Memref.isWhole_whole _) scratchA (Memref.isWhole_whole _)
      (iblk m c 0 t) (iblk m c 1 t) (iblk m c 2 t) Set.univ)
    isplitl [H0]; · iexact H0
    isplitl [H1]; · iexact H1
    isplitl [H2]; · iexact H2
    isplitl [H3]; · iexists _; iexact H3
    isplitl [H4]; · iexists _; iexact H4
    isplitl [HS]; · iexact HS
    isplitl [HP]; · iexact HP
    isplitl [HM]; · iexact HM
    isplitl [HL]; · iexact HL
    iexact HA
  · iintro %_ ⟨H0, H1, H2, H3, H4, HS, HP, HM, HL, HA⟩
    isplitl [HS HP HM HL HA Hg]
    · isplitl [HS HP HM HL HA]
      · isplitl [HS]; · iexact HS
        isplitl [HP]; · iexact HP
        isplitl [HM]; · iexact HM
        isplitl [HL]; · iexact HL
        iexact HA
      iexact Hg
    isplitl [Ho]; · iexact Ho
    isplitl [H0]; · iexact H0
    isplitl [H1]; · iexact H1
    isplitl [H2]; · iexact H2
    isplitl [H3]; · iexact H3
    iexact H4

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, body_row]
  exact triple_restated (sound_body m c t) rfl .rfl fun _ => .rfl

set_option backward.isDefEq.respectTransparency.types false in
/-- The run: every array at what the pipeline computes from the proof data, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun c => .rfl) (hout := fun c => .rfl)

/-- The frame: the arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_quiescent m ρ))) ((θ_run defs _ _).mono (fun _ h => h.2) (run_quiescent m ρ))

end Cert.FwdRun

end
-- ==== Proof.FlashFwdRead.lean ====
/- The attention forward's kernel over its grid: the two arrays it leaves, as real numbers. -/
module

public import proofs.«01_k».proof.Proof.FlashFwdReal
public import proofs.«01_k».proof.Proof.FlashFwdFrame

@[expose] public section

set_option maxRecDepth 16384

noncomputable section

namespace Cert.FwdRun

open Idealize.ShloMosaic Idealize.ShloMosaic.TcCoe Idealize.ShloMosaic.StableHlo Idealize.SL.Sem
open Cert.FlashFwdIdeal Cert.FlashFwdIdeal.Gen Cert.Lift Cert.Attn
open Cert.FlashRun (rw' up3 up8 col)

/-! ## What a point leaves -/

section Out
variable (m l : Fin 512 → EReal) (A : Fin 128 → Fin 512 → EReal)

theorem ch_a : (ch m l A).a = fA A := rfl
theorem whole_l : whole (F := Ideal) (ch m l A).l = fA (n := 1) fun _ c => l c :=
  join_eq (n := 1) (fun _ c => l c) (ch m l A).l fun _ _ _ _ => rfl
theorem whole_m : whole (F := Ideal) (ch m l A).m = fA (n := 1) fun _ c => m c :=
  join_eq (n := 1) (fun _ c => m c) (ch m l A).m fun _ _ _ _ => rfl

theorem pay477_apply (c : Fin 512) (d : Fin 128) :
    k0_pay477 (F := Ideal) (fA (n := 1) fun _ c => l c) (fA A) (ix2 c d) = Ideal.div (A d c) (l c) := by
  unfold_payloads
  pointwise
  rfl

theorem pay480_apply (c : Fin 512) (d : Fin 128) :
    k0_pay480 (F := Ideal) (fA (n := 1) fun _ c => l c) (fA A) (ix2 c d) = Ideal.div (A d c) (l c) := by
  unfold_payloads
  pointwise
  rfl

theorem pay478_apply (c : Fin 512) (z w : Fin 1) (e : Fin 8) :
    k0_pay478 (F := Ideal) (k0_pay476 (fA (n := 1) fun _ c => l c)) (fA (n := 1) fun _ c => m c) (ix4 z w e c) = m c + Ideal.log (l c) := by
  unfold_payloads
  pointwise
  rfl

theorem pay1_apply (c : Fin 512) (z w : Fin 1) (e : Fin 8) :
    k0_pay1 (F := Ideal) (k0_pay479 (fA (n := 1) fun _ c => l c)) (fA (n := 1) fun _ c => m c) (ix4 z w e c) = m c + Ideal.log (l c) := by
  unfold_payloads
  pointwise
  rfl

theorem halves_apply (w0 w1 : Vec Ideal S512x128 .bf16) (a : Fin 1024) (d : Fin 128) :
    halves w0 w1 (ix2 a d) = (if a.val < 512 then w0 else w1) (ix2 ⟨a.val % 512, Nat.mod_lt _ (by norm_num)⟩ d) := by
  unfold halves
  refine congrArg (if a.val < 512 then w0 else w1) (funext fun x => ?_)
  match x with
  | 0 => rfl
  | 1 => rfl

theorem pair_apply (w0 w1 : Vec Ideal S1x1x8x512 .f32) (z : Fin 1) (h : Fin 2) (e : Fin 8) (c : Fin 512) :
    pair w0 w1 (ix4 z h e c) = (if h.val < 1 then w0 else w1) (ix4 z 0 e c) := by
  unfold pair
  refine congrArg (if h.val < 1 then w0 else w1) (funext fun x => ?_)
  match x with
  | 0 => rfl
  | 1 => rfl
  | 2 => rfl
  | 3 => rfl

end Out

section Point
variable (Q K : Fin 8192 → Fin 192 → ℝ) (W : Fin 8192 → Fin 128 → ℝ) (J : Fin 8)

/-- The two chains of a point. -/
abbrev ends : Fin 2 → Ch Ideal := chains J.val (up3 fun a => wide Q (prow J a)) (up3 (wide K)) (up3 W)

theorem chain_reals (h : Fin 2) : ∃ (M L : Fin 512 → ℝ) (A : Fin 128 → Fin 512 → ℝ),
    ends Q K W J h = ch (fun c => ((M c : ℝ) : EReal)) (fun c => ((L c : ℝ) : EReal)) (fun d c => ((A d c : ℝ) : EReal))
    ∧ (∀ c, 0 < L c) ∧ (∀ d c, A d c / L c = attn (scores Q K) W (rw' (qblk J h) c) d)
    ∧ ∀ c, M c + Real.log (L c) = Real.log (norm (scores Q K) (rw' (qblk J h) c)) := by
  obtain ⟨M, hM⟩ := chain_took Q K W J h
  have hj : 2 * J.val ≤ (qblk J h).val := Nat.le_add_right _ _
  refine ⟨M, _, _, hM, fun c => ?_, fun d c => ?_, fun c => ?_⟩
  · rw [lsum_all _ _ _ hj]; exact sum_expo_pos _ (fun _ => M c) _
  · rw [lsum_all _ _ _ hj, asum_all _ _ _ _ hj]; exact quotient_attn _ _ _ _ _
  · rw [lsum_all _ _ _ hj]; exact log_norm _ _ _

theorem rows_h (a : Fin 1024) (h : Fin 2) (e : h.val = a.val / 512) :
    rw' (qblk J h) ⟨a.val % 512, Nat.mod_lt _ (by norm_num)⟩ = prow J a :=
  Fin.ext (by show (2 * J.val + h.val) * 512 + a.val % 512 = J.val * 1024 + a.val; omega)

theorem outO_apply (a : Fin 1024) (d : Fin 128) :
    outO (F := Ideal) (ends Q K W J) (ix2 a d) = ((attn (scores Q K) W (prow J a) d : ℝ) : EReal) := by
  obtain ⟨M0, L0, A0, h0, p0, q0, -⟩ := chain_reals Q K W J 0
  obtain ⟨M1, L1, A1, h1, p1, q1, -⟩ := chain_reals Q K W J 1
  unfold outO
  rw [h0, h1, whole_l, whole_l, ch_a, ch_a, halves_apply]
  by_cases ha : a.val < 512
  · rw [if_pos ha]
    refine (pay477_apply _ _ _ _).trans ?_
    rw [coe_div _ (p0 _).ne', q0, rows_h J a 0 (by show 0 = _; omega)]
  · rw [if_neg ha]
    refine (pay480_apply _ _ _ _).trans ?_
    rw [coe_div _ (p1 _).ne', q1, rows_h J a 1 (by show 1 = _; omega)]

theorem outL_apply (z : Fin 1) (h : Fin 2) (e : Fin 8) (c : Fin 512) :
    outL (F := Ideal) (ends Q K W J) (ix4 z h e c) = ((Real.log (norm (scores Q K) (rw' (qblk J h) c)) : ℝ) : EReal) := by
  obtain ⟨M0, L0, A0, h0, p0, -, r0⟩ := chain_reals Q K W J 0
  obtain ⟨M1, L1, A1, h1, p1, -, r1⟩ := chain_reals Q K W J 1
  unfold outL
  rw [h0, h1, whole_l, whole_l, whole_m, whole_m, pair_apply]
  match h with
  | 0 =>
    rw [if_pos (by decide)]
    refine (pay478_apply _ _ _ _ _ _).trans ?_
    rw [Ideal.log_coe, if_neg (not_le.mpr (p0 c)), ← EReal.coe_add, r0]
  | 1 =>
    rw [if_neg (by decide)]
    refine (pay1_apply _ _ _ _ _ _).trans ?_
    rw [Ideal.log_coe, if_neg (not_le.mpr (p1 c)), ← EReal.coe_add, r1]

end Point

/-! ## The blocks -/

variable (m : (ℓ : Loc nD τ sig) → Buf (Elt Ideal) ℓ)

theorem idx : ∀ t : Fin grid0.N, win0_0.index t = ![t.val / 8, t.val % 8, 0] ∧ win0_1.index t = ![t.val / 8, 0, 0] ∧ win0_2.index t = ![t.val / 8, 0, 0]
    ∧ win0_3.index t = ![t.val % 8, t.val / 8] ∧ win0_4.index t = ![t.val / 8, t.val % 8, 0, 0] := by decide +kernel
theorem coord_pair : ∀ t : Fin cfg0.N, (grid0.coords t 1).val = t.val % 8 := by decide +kernel

/-- The head of a point, and its pair of query blocks. -/
def head (t : Fin cfg0.N) : Fin 8 := ⟨t.val / 8, by have : t.val < 64 := t.isLt; omega⟩
def jpair (t : Fin cfg0.N) : Fin 8 := ⟨t.val % 8, by omega⟩

def hWide (x : FVec Ideal S8x8192x192 .bf16) : FVec Ideal S8x8192x256 .bf16 :=
  pad S8x8192x256 ![0, 0, 0] ![0, 0, 64] ![0, 0, 0] x (sitofp .bf16 (constantI S_ 32 0#32)) pads_S8x8192x192_S8x8192x256_000_000_0640 h_S_

theorem hWide_apply (X : Fin 8 → Fin 8192 → Fin 192 → ℝ) (h : Fin 8) (r : Fin 8192) (d : Fin 256) : hWide (up8 X) (ix3 h r d) = ((wide (X h) r d : ℝ) : EReal) := by
  unfold hWide
  pointwise
  unfold wide
  by_cases hd : d.val < 192
  · rw [dif_pos hd, dif_pos hd]; rfl
  · rw [dif_neg hd, dif_neg hd]
    show ((((0#32 : BitVec 32).toInt : ℝ)) : EReal) = _
    simp

section Entry
variable (c : Dev nD)

theorem V_q : V m c main_v0 = hWide (m ((c : Thread nD τ).loc main_arg0)) := by
  unfold_abbrev_sides
  simp only [List.flatten_cons, List.flatten_nil, List.append_nil, List.cons_append, List.nil_append, TRef.binary, TRef.nullary, TRef.ternary, TRef.unary, TRef.toBuf, TRef.ofBuf, cast_eq]
  after_results_simp
  rfl

theorem V_k : V m c main_v1 = hWide (m ((c : Thread nD τ).loc main_arg1)) := by
  unfold_abbrev_sides
  simp only [List.flatten_cons, List.flatten_nil, List.append_nil, List.cons_append, List.nil_append, TRef.binary, TRef.nullary, TRef.ternary, TRef.unary, TRef.toBuf, TRef.ofBuf, cast_eq]
  after_results_simp
  rfl

end Entry

section Grid
variable {Q K : Fin 8 → Fin 8192 → Fin 192 → ℝ} {W : Fin 8 → Fin 8192 → Fin 128 → ℝ} {c : Dev nD}
  (hq : m ((c : Thread nD τ).loc main_arg0) = up8 Q) (hk : m ((c : Thread nD τ).loc main_arg1) = up8 K)
  (hw : m ((c : Thread nD τ).loc main_arg2) = up8 W) (t : Fin cfg0.N)

include hq in
theorem blk0 : iblk m c 0 t = up3 fun a => wide (Q (head t)) (prow (jpair t) a) := by
  have h : iblk m c 0 t = fun y => V m c main_v0 (ix3 (head t) (prow (jpair t) (y 1)) (y 2)) := by
    funext y
    blk_ext [iblk, idx t, head, jpair, prow]
  rw [h, V_q, hq]
  funext y
  exact hWide_apply Q _ _ _

include hk in
theorem blk1 : iblk m c 1 t = up3 (wide (K (head t))) := by
  have h : iblk m c 1 t = fun y => V m c main_v1 (ix3 (head t) (y 1) (y 2)) := by
    funext y
    blk_ext [iblk, idx t, head]
  rw [h, V_k, hk]
  funext y
  exact hWide_apply K _ _ _

include hw in
theorem blk2 : iblk m c 2 t = up3 (W (head t)) := by
  have h : iblk m c 2 t = fun y => V m c main_arg2 (ix3 (head t) (y 1) (y 2)) := by
    funext y
    blk_ext [iblk, idx t, head]
  rw [h, V_main_arg2, hw]
  rfl

include hq hk hw in
theorem chainsAt_eq : chainsAt m c t = ends (Q (head t)) (K (head t)) (W (head t)) (jpair t) := by
  unfold chainsAt
  rw [coord_pair, blk0 m hq, blk1 m hk, blk2 m hw]
  rfl

/-- The output rows of all heads side by side. -/
def rowsO (Q K : Fin 8 → Fin 8192 → Fin 192 → ℝ) (W : Fin 8 → Fin 8192 → Fin 128 → ℝ) : S8192x1024.Idx → EReal := fun y =>
  ((attn (scores (Q ⟨(y 1).val / 128, by have : (y 1).val < 1024 := (y 1).isLt; omega⟩) (K ⟨(y 1).val / 128, by have : (y 1).val < 1024 := (y 1).isLt; omega⟩))
    (W ⟨(y 1).val / 128, by have : (y 1).val < 1024 := (y 1).isLt; omega⟩) (y 0) ⟨(y 1).val % 128, Nat.mod_lt _ (by norm_num)⟩ : ℝ) : EReal)
/-- The log of every row's normalizer, by blocks, eight copies of each. -/
def logs (Q K : Fin 8 → Fin 8192 → Fin 192 → ℝ) : S8x16x8x512.Idx → EReal := fun y =>
  ((Real.log (norm (scores (Q (y 0)) (K (y 0))) (rw' (y 1) (y 3))) : ℝ) : EReal)

theorem rowsO_col (h : Fin 8) (r : Fin 8192) (d : Fin 128) : rowsO Q K W (ix2 r (col h d)) = ((attn (scores (Q h) (K h)) (W h) r d : ℝ) : EReal) := by
  have e1 : (h.val * 128 + d.val) / 128 = h.val := by omega
  have e2 : (h.val * 128 + d.val) % 128 = d.val := by omega
  have key : ∀ (x : Fin 8) (z : Fin 128), x = h → z = d → ((attn (scores (Q x) (K x)) (W x) r z : ℝ) : EReal) = ((attn (scores (Q h) (K h)) (W h) r d : ℝ) : EReal) := by
    rintro _ _ rfl rfl; rfl
  exact key _ _ (Fin.ext e1) (Fin.ext e2)

include hq hk hw in
theorem arr_o : (dats m 0 c).arrAt 3 cfg0.N = rowsO Q K W := by
  refine (dats m 0 c).arrAt_eq_of_covers 3 _ (by decide +kernel) fun t hf y => ?_
  blk_simp
  rw [after_o, chainsAt_eq m hq hk hw]
  have hi : (((View.whole main_v2_0).slice (win0_3.rect t)).emb y) = ix2 (prow (jpair t) (y 0)) (col (head t) (y 1)) := by
    blk_ext [idx t, head, jpair, prow, col]
  rw [hi]
  exact (congrArg _ (eq_ix2 y)).trans ((outO_apply _ _ _ _ _ _).trans (rowsO_col _ _ _).symm)

include hq hk hw in
theorem arr_l : (dats m 0 c).arrAt 4 cfg0.N = logs Q K := by
  refine (dats m 0 c).arrAt_eq_of_covers 4 _ (by decide +kernel) fun t hf y => ?_
  blk_simp
  rw [after_l, chainsAt_eq m hq hk hw]
  have hi : (((View.whole main_v2_1).slice (win0_4.rect t)).emb y) = ix4 (head t) (qblk (jpair t) (y 1)) (y 2) (y 3) := by
    blk_ext [idx t, head, jpair, qblk]
  rw [hi]
  exact (congrArg _ (eq_ix4 y)).trans (outL_apply _ _ _ _ _ _ _ _)

end Grid

end Cert.FwdRun

end
-- ==== Proof.FlashFwdRef.lean ====
/- The reference of the attention's forward: its output and the log of its normalizers as real numbers, the kernel's. -/
module

public import proofs.«01_k».proof.Proof.FlashFwdRead
public import proofs.«01_k».proof.Proof.Gen.FlashFwdRefIdeal.Run
public import proofs.«01_k».proof.Proof.Gen.FlashFwdRefIdeal.Read

@[expose] public section

set_option maxRecDepth 16384

noncomputable section

namespace Cert.FlashFwdRefIdeal.Tie

open Cert.FlashFwdRefIdeal Cert.FlashFwdRefIdeal.Gen Cert.FlashFwdRefIdeal.Read Idealize.ShloMosaic Idealize.ShloMosaic.TcCoe Idealize.SL.Sem
open Cert.Lift Cert.Attn
open Cert.FlashRun (up8 wninf sge_ofNat rw' col)
open Cert.FwdRun (attn rowsO logs rowsO_col quotient_attn log_norm)

theorem chunk (r : Fin 8192) : val_main_v5 (F := Ideal) (ix1 r) = BitVec.ofNat 32 (r.val / 64) := by
  unfold val_main_v5 val_main_call0_v13 val_main_call0_v12 val_main_call0_v11 val_main_call0_v10 val_main_call0_v9 val_main_call0_v8
    val_main_call0_v7 val_main_call0_v6 val_main_call0_v5 val_main_call0_v4 val_main_call0_v3 val_main_call0_v2 val_main_call0_v1 val_main_call0_v0
    val_main_v4 val_main_c val_main_call0_c val_main_call0_c_0 signi
  pointwise
  revert r
  decide +kernel

theorem seen (h : Fin 8) (r k : Fin 8192) : val_main_call1_v1 (F := Ideal) (ix3 h r k) = if sees r k then 1#1 else 0#1 := by
  pointwise [val_main_call1_v1, val_main_v11, val_main_v10, val_main_v9, val_main_v8, val_main_v7, val_main_v6]
  rw [chunk, chunk]
  exact sge_ofNat _ _ (by omega) (by omega)

variable (Q K : Fin 8 → Fin 8192 → Fin 192 → ℝ) (W : Fin 8 → Fin 8192 → Fin 128 → ℝ)

theorem v12 (h : Fin 8) (r k : Fin 8192) : val_main_v12 (F := Ideal) (up8 Q) (up8 K) (ix3 h r k)
    = if sees r k then ((scores (Q h) (K h) r k : ℝ) : EReal) else ⊥ := by
  rw [val_main_v12_apply, seen]
  pointwise [val_main_v3, val_main_v0, val_main_v1, val_main_call1_v2, val_main_call1_v0, val_main_cst]
  simp only [coe_mul, coe_sum, wninf]
  by_cases hs : sees r k
  · rw [if_pos hs, if_pos hs]; rfl
  · rw [if_neg hs, if_neg hs]; rfl

/-- Each row's maximum, taken once for the weights and once for the log, is a real number. -/
theorem max_exists : ∃ M : Fin 8 → Fin 8192 → ℝ, ∀ h r, val_main_v13 (F := Ideal) (up8 Q) (up8 K) (ix2 h r) = ((M h r : ℝ) : EReal)
    ∧ val_main_v25 (F := Ideal) (up8 Q) (up8 K) (ix2 h r) = ((M h r : ℝ) : EReal) := by
  obtain ⟨M, hM⟩ := rowMax_coe (fun h => scores (Q h) (K h)) (val_main_v12 (F := Ideal) (up8 Q) (up8 K)) (val_main_cst_0 (F := Ideal)) (v12 Q K) (fun _ => wninf)
    reducesTo_S8x8192x8192_S8x8192_d2 h_S_
  exact ⟨M, fun h r => ⟨hM h r, hM h r⟩⟩

section Row
variable {Q K} (M : Fin 8 → Fin 8192 → ℝ) (hM : ∀ h r, val_main_v13 (F := Ideal) (up8 Q) (up8 K) (ix2 h r) = ((M h r : ℝ) : EReal)
    ∧ val_main_v25 (F := Ideal) (up8 Q) (up8 K) (ix2 h r) = ((M h r : ℝ) : EReal))
include hM

theorem v15 (h : Fin 8) (r : Fin 8192) : val_main_v15 (F := Ideal) (up8 Q) (up8 K) (ix2 h r) = ((M h r : ℝ) : EReal) := by
  rw [val_main_v15_apply, (hM h r).1]
  pointwise [val_main_v14, val_main_cst_1]
  rw [wninf]
  exact bot_sup_eq _

theorem v19 (h : Fin 8) (r k : Fin 8192) : val_main_v19 (F := Ideal) (up8 Q) (up8 K) (ix3 h r k)
    = ((expo (scores (Q h) (K h)) (fun _ => M h r) r k : ℝ) : EReal) := by
  pointwise [val_main_v19, val_main_v18, val_main_v17, val_main_v16]
  rw [v12, v15 M hM]
  unfold expo
  by_cases hs : sees r k
  · rw [if_pos hs, if_pos hs]; rfl
  · rw [if_neg hs, if_neg hs]; rfl

theorem v29 (h : Fin 8) (r k : Fin 8192) : val_main_v29 (F := Ideal) (up8 Q) (up8 K) (ix3 h r k)
    = ((expo (scores (Q h) (K h)) (fun _ => M h r) r k : ℝ) : EReal) := by
  pointwise [val_main_v29, val_main_v28, val_main_v27, val_main_v26]
  rw [v12, (hM h r).2]
  unfold expo
  by_cases hs : sees r k
  · rw [if_pos hs, if_pos hs]; rfl
  · rw [if_neg hs, if_neg hs]; rfl

theorem v23 (h : Fin 8) (r k : Fin 8192) : val_main_v23 (F := Ideal) (up8 Q) (up8 K) (ix3 h r k)
    = ((prob (scores (Q h) (K h)) r k : ℝ) : EReal) := by
  have e : val_main_v22 (F := Ideal) (up8 Q) (up8 K) (ix3 h r k) = ((∑ k, expo (scores (Q h) (K h)) (fun _ => M h r) r k : ℝ) : EReal) := by
    pointwise [val_main_v22, val_main_v21, val_main_v20, val_main_cst_2]
    simp only [v19 M hM, coe_sum]
  rw [val_main_v23_apply, v19 M hM, e, ← expo_div _ (fun _ => M h r)]
  exact coe_div _ (sum_expo_pos _ (fun _ => M h r) r).ne'

theorem v32 (h : Fin 8) (r : Fin 8192) : val_main_v32 (F := Ideal) (up8 Q) (up8 K) (ix2 h r) = ((Real.log (norm (scores (Q h) (K h)) r) : ℝ) : EReal) := by
  have e : val_main_v30 (F := Ideal) (up8 Q) (up8 K) (ix2 h r) = ((∑ k, expo (scores (Q h) (K h)) (fun _ => M h r) r k : ℝ) : EReal) := by
    pointwise [val_main_v30, val_main_cst_4]
    simp only [v29 M hM, coe_sum]
  have l : val_main_v31 (F := Ideal) (up8 Q) (up8 K) (ix2 h r) = Ideal.log (val_main_v30 (F := Ideal) (up8 Q) (up8 K) (ix2 h r)) := rfl
  rw [val_main_v32_apply, (hM h r).2, l, e, Ideal.log_coe, if_neg (not_le.mpr (sum_expo_pos _ (fun _ => M h r) r)), ← log_norm _ (M h r)]
  exact coe_add _ _

theorem v24 (h : Fin 8) (r : Fin 8192) (d : Fin 128) : val_main_v24 (F := Ideal) (up8 Q) (up8 K) (up8 W) (ix3 h r d)
    = ((attn (scores (Q h) (K h)) (W h) r d : ℝ) : EReal) := by
  pointwise [val_main_v24, val_main_v2]
  simp only [v23 M hM, coe_mul, coe_sum]
  rfl

end Row

theorem v35 (h : Fin 8) (r : Fin 8192) (d : Fin 128) : val_main_v35 (F := Ideal) (up8 Q) (up8 K) (up8 W) (ix2 r (col h d))
    = ((attn (scores (Q h) (K h)) (W h) r d : ℝ) : EReal) := by
  obtain ⟨M, hM⟩ := max_exists Q K
  unfold col
  pointwise [val_main_v35, val_main_v34, val_main_v33]
  exact v24 W M hM _ _ _

theorem r35 : val_main_v35 (F := Ideal) (up8 Q) (up8 K) (up8 W) = rowsO Q K W := by
  funext y
  have h1 : (y 1).val < 1024 := (y 1).isLt
  have e : y = ix2 (y 0) (col ⟨(y 1).val / 128, by omega⟩ ⟨(y 1).val % 128, Nat.mod_lt _ (by norm_num)⟩) :=
    (eq_ix2 y).trans (congrArg (ix2 (y 0)) (Fin.ext (by show (y 1).val = (y 1).val / 128 * 128 + (y 1).val % 128; omega)))
  rw [e]
  exact (v35 Q K W _ _ _).trans (rowsO_col _ _ _).symm

theorem r37 : val_main_v37 (F := Ideal) (up8 Q) (up8 K) = logs Q K := by
  obtain ⟨M, hM⟩ := max_exists Q K
  funext y
  idx_vars y
  pointwise [val_main_v37, val_main_v36]
  refine (v32 M hM _ _).trans ?_
  rfl

end Cert.FlashFwdRefIdeal.Tie

end
-- ==== Proof.FlashFwdClaim.lean ====
/- The claims of the attention's forward kernel: its output and its row statistic are those of the reference. -/
module

public import proofs.«01_k».proof.Defs
public import proofs.«01_k».proof.Proof.FlashFwdRef
public import proofs.«01_k».proof.Proof.FlashClaim
public import proofs.«01_k».proof.Proof.Gen.Pre_flashfwd_finite
public import Idealize.ShloMosaic.Adequacy
public import Idealize.ShloMosaic.Init

@[expose] public section

set_option maxRecDepth 16384

noncomputable section

namespace Cert.FlashFwdClaim

open Idealize.ShloMosaic Idealize.ShloMosaic.TcCoe Idealize.SL.Sem Cert.Lift
open Cert.FlashRun (up8)
open Cert.FlashClaim (by_coords)

/-- Arguments below infinity in absolute value are arrays of reals. -/
theorem reals {m : (ℓ : Loc FlashFwdIdeal.nD FlashFwdIdeal.τ FlashFwdIdeal.sig) → Buf (Elt Ideal) ℓ} (hpre : Pre_FlashFwdIdeal_flashfwd_finite m)
    (c : Dev FlashFwdIdeal.nD) :
    (∃ Q : Fin 8 → Fin 8192 → Fin 192 → ℝ, m ((c : Thread FlashFwdIdeal.nD FlashFwdIdeal.τ).loc FlashFwdIdeal.main_arg0) = up8 Q)
    ∧ (∃ K : Fin 8 → Fin 8192 → Fin 192 → ℝ, m ((c : Thread FlashFwdIdeal.nD FlashFwdIdeal.τ).loc FlashFwdIdeal.main_arg1) = up8 K)
    ∧ (∃ W : Fin 8 → Fin 8192 → Fin 128 → ℝ, m ((c : Thread FlashFwdIdeal.nD FlashFwdIdeal.τ).loc FlashFwdIdeal.main_arg2) = up8 W) :=
  have h := hpre c
  ⟨by_coords (fin_of_mask (extf .f32 _ Pre_flashfwd_finite.Gen.bitsLt_bf16_f32) _ (fun _ => winf) h.1), by_coords (fin_of_mask (extf .f32 _ Pre_flashfwd_finite.Gen.bitsLt_bf16_f32) _ (fun _ => winf) h.2.1),
    by_coords (fin_of_mask (extf .f32 _ Pre_flashfwd_finite.Gen.bitsLt_bf16_f32) _ (fun _ => winf) h.2.2)⟩

set_option maxHeartbeats 1600000 in
theorem flashFwd_value : algebraic_FlashFwdIdeal_FlashFwdRefIdeal_pre_flashfwd_finite := by
  intro m g m' g' hpre hag
  refine ⟨fun c => (Cert.FwdRun.dats m 0 c).arrAt 3 Cert.FlashFwdIdeal.cfg0.N, fun c => (Cert.FwdRun.dats m 0 c).arrAt 4 Cert.FlashFwdIdeal.cfg0.N, ?_, ?_⟩
  · exact (θ_run FlashFwdIdeal.defs _ _).mono (fun r h c => ⟨(h.1.1 c).1 3, (h.1.1 c).1 4, h.2.1 c⟩)
      (θ_run_and (Cert.FwdRun.run_quiescent m g) (Cert.FwdRun.frame m g))
  refine (θ_run FlashFwdRefIdeal.defs _ _).mono (fun r h c => ?_) (FlashFwdRefIdeal.Value.run m' g')
  obtain ⟨⟨Q, hQ⟩, ⟨K, hK⟩, ⟨W, hW⟩⟩ := reals hpre c
  obtain ⟨e0, e1, e2⟩ := hag c
  obtain ⟨h0, h1, h2⟩ := h c
  have e0 := e0.trans hQ
  have e1 := e1.trans hK
  have e2 := e2.trans hW
  refine ⟨h0.trans ?_, h1.trans ?_, h2⟩
  · rw [FlashFwdRefIdeal.Read.val_main_v35_eq, e0, e1, e2]
    exact (FlashFwdRefIdeal.Tie.r35 Q K W).trans (Cert.FwdRun.arr_o m hQ hK hW).symm
  · rw [FlashFwdRefIdeal.Read.val_main_v37_eq, e0, e1]
    exact (FlashFwdRefIdeal.Tie.r37 Q K).trans (Cert.FwdRun.arr_l m hQ hK hW).symm

theorem ref_frame : quiescent_FlashFwdRefIdeal := fun m ρ _ =>
  (θ_run FlashFwdRefIdeal.defs _ _).mono (fun r h => ⟨fun c => (h c).2.2, sem_eq_zero_of_no_sems (by decide) r.2⟩)
    (FlashFwdRefIdeal.Value.run m ρ)

end Cert.FlashFwdClaim
end
-- ==== Proof.NormFwdRead.lean ====
/- The norm of the residual stream: the array the kernel leaves, and the reference's. -/
module

public import proofs.«01_k».proof.Proof.Gen.NormFwdIdeal.Value
public import proofs.«01_k».proof.Proof.Gen.NormFwdRefIdeal.Run
public import proofs.«01_k».proof.Proof.Gen.NormFwdRefIdeal.Read
public import proofs.«01_k».proof.Proof.Lift
public import Idealize.ShloMosaic.PureOps.Ideal.Laws
public import Idealize.ShloMosaic.Lib.Pipeline.ValueKit
public import Idealize.ShloMosaic.Lib.Pointwise

@[expose] public section

set_option maxRecDepth 16384

noncomputable section

namespace Cert.NormFwdIdeal.Read

open Cert.NormFwdIdeal Cert.NormFwdIdeal.Gen Idealize.ShloMosaic Idealize.ShloMosaic.TcCoe Idealize.ShloMosaic.StableHlo Idealize.SL.Sem Cert.Lift
open Idealize.ShloMosaic.Pipeline (Dat)

/-- The scale of a row in the extended reals: the reciprocal root of the mean of its squares plus a small number. -/
def scale (x : Fin 1024 → EReal) : EReal :=
  Ideal.rsqrt (Ideal.div (∑ k, x k * x k) (Ideal.ofBits .f32 0x44800000#32) + Ideal.ofBits .f32 0x358637BD#32)

theorem out_apply (X : S512x1024.Idx → EReal) (G : S1x1024.Idx → EReal) (Y : S8x128.Idx → EReal) (y : S512x1024.Idx) :
    out0_3 (F := Ideal) X G Y y = X y * scale (fun k => X (ix2 (y 0) k)) * G (ix2 0 (y 1)) := by
  canon_tiles x h using cover0_3 ..
  obtain rfl : y = x := (eq_ix2 y).trans ((congrArg₂ ix2 (Fin.ext h0) (Fin.ext h1)).trans (eq_ix2 x).symm)
  idx_vars y
  unfold_payloads
  pointwise
  unfold scale
  rfl

variable (m : (ℓ : Loc nD τ sig) → Buf (Elt Ideal) ℓ)

theorem idx : ∀ t : Fin grid0.N, win0_0.index t = ![t.val, 0] ∧ win0_1.index t = ![0, 0] ∧ win0_3.index t = ![t.val, 0] := by
  decide +kernel

/-- Row `a` of point `t`'s block. -/
def row (t : Fin cfg0.N) (a : Fin 512) : Fin 8192 := ⟨t.val * 512 + a.val, by have : t.val < 16 := t.isLt; omega⟩

/-- The gain as a row. -/
def hG (g : FVec Ideal S1024 .f32) : FVec Ideal S1x1024 .f32 := shapeCast S1x1024 g shapeCasts_S1024_S1x1024

theorem hG_apply (g : FVec Ideal S1024 .f32) (y : S1x1024.Idx) : hG g y = g (ix1 (y 1)) := by
  idx_vars y
  unfold hG
  pointwise

theorem V_hG (c : Dev nD) : V m c main_v1 = hG (m ((c : Thread nD τ).loc main_arg1)) := by
  unfold_abbrev_sides
  after_results_simp
  rfl

theorem blk0 (c : Dev nD) (t : Fin cfg0.N) :
    iblk m c 0 t = fun y => m ((c : Thread nD τ).loc main_arg0) (ix2 (row t (y 0)) (y 1)) := by
  funext y
  blk_ext [iblk, V, idx t, row]

theorem blk1 (c : Dev nD) (t : Fin cfg0.N) :
    iblk m c 1 t = fun y => m ((c : Thread nD τ).loc main_arg1) (ix1 (y 1)) := by
  have h : iblk m c 1 t = fun y => V m c main_v1 (ix2 (y 0) (y 1)) := by
    funext y
    blk_ext [iblk, idx t]
  rw [h, V_hG]
  funext y
  exact hG_apply _ _

theorem arr3 (c : Dev nD) (X : S8192x1024.Idx → EReal) (G : S1024.Idx → EReal) (hx : m ((c : Thread nD τ).loc main_arg0) = X)
    (hg : m ((c : Thread nD τ).loc main_arg1) = G) :
    (dats m 0 c).arrAt 3 cfg0.N = fun i : S8192x1024.Idx => X i * scale (fun k => X (ix2 (i 0) k)) * G (ix1 (i 1)) := by
  refine (dats m 0 c).arrAt_eq_of_covers 3 _ (by decide +kernel) fun t hf y => ?_
  blk_simp
  rw [after0_3]
  have key : ∀ y : S512x1024.Idx, out0_3 (F := Ideal) (iblk m c 0 t) (iblk m c 1 t) (iblk m c 2 t) y
      = X (ix2 (row t (y 0)) (y 1)) * scale (fun k => X (ix2 (row t (y 0)) k)) * G (ix1 (y 1)) := by
    intro y
    rw [blk0 m c t, blk1 m c t, hx, hg]
    exact out_apply _ _ _ y
  have hi : ∀ y : S512x1024.Idx, (((View.whole main_v2).slice (win0_3.rect t)).emb y) = ix2 (row t (y 0)) (y 1) := by
    intro y
    blk_ext [idx t, row]
  exact (key y).trans (by rw [hi]; rfl)

end Cert.NormFwdIdeal.Read

namespace Cert.NormFwdRefIdeal.Tie

open Cert.NormFwdRefIdeal Cert.NormFwdRefIdeal.Gen Cert.NormFwdRefIdeal.Read Idealize.ShloMosaic Idealize.ShloMosaic.TcCoe Idealize.SL.Sem Cert.Lift
open Cert.NormFwdIdeal.Read

theorem v13 (X : S8192x1024.Idx → EReal) (G : S1024.Idx → EReal) :
    val_main_v13 (F := Ideal) X G = fun i => X i * scale (fun k => X (ix2 (i 0) k)) * G (ix1 (i 1)) := by
  funext i
  idx_vars i
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

end Cert.NormFwdRefIdeal.Tie
end
-- ==== Proof.NormFwdClaim.lean ====
/- The norm of the forward pass: both programs leave the same array. -/
module

public import proofs.«01_k».proof.Defs
public import proofs.«01_k».proof.Proof.NormFwdRead
public import proofs.«01_k».proof.Proof.Gen.NormFwd.Frame
public import proofs.«01_k».proof.Proof.Gen.NormFwdIdeal.Frame
public import Idealize.ShloMosaic.Adequacy
public import Idealize.ShloMosaic.Init

@[expose] public section

set_option maxRecDepth 16384

noncomputable section

namespace Cert.NormFwdClaim

open Idealize.ShloMosaic Idealize.ShloMosaic.TcCoe Idealize.SL.Sem

theorem normFwd_value : algebraic_NormFwdIdeal_NormFwdRefIdeal := by
  intro m g m' g' hpre hag
  refine ⟨_, NormFwdIdeal.Value.run_blocks m g, (θ_run _ _ _).mono (fun r h c => ?_) (NormFwdRefIdeal.Value.run m' g')⟩
  obtain ⟨e0, e1⟩ := hag c
  obtain ⟨r0, hk⟩ := h c
  refine ⟨r0.trans ?_, hk⟩
  · rw [e0, e1]
    exact (NormFwdRefIdeal.Read.val_main_v13_eq _ _).trans ((NormFwdRefIdeal.Tie.v13 _ _).trans (NormFwdIdeal.Read.arr3 m c _ _ rfl rfl).symm)

theorem ref_frame : quiescent_NormFwdRefIdeal := fun m ρ _ =>
  (θ_run NormFwdRefIdeal.defs _ _).mono (fun r h => ⟨fun c => (h c).2, sem_eq_zero_of_no_sems (by decide) r.2⟩)
    (NormFwdRefIdeal.Value.run m ρ)

end Cert.NormFwdClaim
end
-- ==== Proof.GluFwdRead.lean ====
/- The gated product of the convolution module: the arrays the kernel leaves, and the reference's. -/
module

public import proofs.«01_k».proof.Proof.Gen.GluFwdIdeal.Value
public import proofs.«01_k».proof.Proof.Gen.GluFwdRefIdeal.Run
public import proofs.«01_k».proof.Proof.Gen.GluFwdRefIdeal.Read
public import proofs.«01_k».proof.Proof.Lift
public import Idealize.ShloMosaic.PureOps.Ideal.Laws
public import Idealize.ShloMosaic.Lib.Pipeline.ValueKit
public import Idealize.ShloMosaic.Lib.Pointwise

@[expose] public section

set_option maxRecDepth 16384

noncomputable section

namespace Cert.GluFwdIdeal.Read

open Cert.GluFwdIdeal Cert.GluFwdIdeal.Gen Idealize.ShloMosaic Idealize.ShloMosaic.TcCoe Idealize.ShloMosaic.StableHlo Idealize.SL.Sem Cert.Lift
open Idealize.ShloMosaic.Pipeline (Dat)

/-- One entry of a product of rows and columns. -/
def dot (f g : Fin 1024 → EReal) : EReal := ∑ k, f k * g k

theorem a_apply (X : S512x1024.Idx → EReal) (A B : S1024x1024.Idx → EReal) (y : S512x1024.Idx) :
    out0_3 (F := Ideal) X A B y = dot (fun k => X (ix2 (y 0) k)) (fun k => A (ix2 k (y 1))) := by
  canon_tiles x h using cover0_3 ..
  obtain rfl : y = x := (eq_ix2 y).trans ((congrArg₂ ix2 (Fin.ext h0) (Fin.ext h1)).trans (eq_ix2 x).symm)
  idx_vars y
  unfold_payloads
  pointwise
  rfl

theorem b_apply (X : S512x1024.Idx → EReal) (A B : S1024x1024.Idx → EReal) (y : S512x1024.Idx) :
    out0_4 (F := Ideal) X A B y = dot (fun k => X (ix2 (y 0) k)) (fun k => B (ix2 k (y 1))) := by
  canon_tiles x h using cover0_4 ..
  obtain rfl : y = x := (eq_ix2 y).trans ((congrArg₂ ix2 (Fin.ext h0) (Fin.ext h1)).trans (eq_ix2 x).symm)
  idx_vars y
  unfold_payloads
  pointwise
  rfl

theorem glu_apply (X : S512x1024.Idx → EReal) (A B : S1024x1024.Idx → EReal) (y : S512x1024.Idx) :
    out0_5 (F := Ideal) X A B y = dot (fun k => X (ix2 (y 0) k)) (fun k => A (ix2 k (y 1)))
      * Ideal.logistic (dot (fun k => X (ix2 (y 0) k)) (fun k => B (ix2 k (y 1)))) := by
  canon_tiles x h using cover0_5 ..
  obtain rfl : y = x := (eq_ix2 y).trans ((congrArg₂ ix2 (Fin.ext h0) (Fin.ext h1)).trans (eq_ix2 x).symm)
  idx_vars y
  unfold_payloads
  pointwise
  rfl

variable (m : (ℓ : Loc nD τ sig) → Buf (Elt Ideal) ℓ)

theorem idx : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0] := by
  decide +kernel

/-- Row `a` of point `t`'s block. -/
def row (t : Fin cfg0.N) (a : Fin 512) : Fin 8192 := ⟨t.val * 512 + a.val, by have : t.val < 16 := t.isLt; omega⟩

/-- The columns of the value, and of the gate. -/
def acol (j : Fin 1024) : Fin 2048 := ⟨j.val, by omega⟩
def bcol (j : Fin 1024) : Fin 2048 := ⟨1024 + j.val, by omega⟩

def hA (w : FVec Ideal S1024x2048 .bf16) : FVec Ideal S1024x1024 .bf16 :=
  extractStridedSlice S1024x1024 ![0, 0] w slices_S1024x2048_S1024x1024_0_0
def hB (w : FVec Ideal S1024x2048 .bf16) : FVec Ideal S1024x1024 .bf16 :=
  extractStridedSlice S1024x1024 ![0, 1024] w slices_S1024x2048_S1024x1024_0_1024

theorem hA_eq (w : S1024x2048.Idx → EReal) : hA w = fun y => w (ix2 (y 0) (acol (y 1))) := by
  funext y
  idx_vars y
  unfold hA
  pointwise
  rfl

theorem hB_eq (w : S1024x2048.Idx → EReal) : hB w = fun y => w (ix2 (y 0) (bcol (y 1))) := by
  funext y
  idx_vars y
  unfold hB
  pointwise
  rfl

theorem V_hA (c : Dev nD) : V m c main_v0 = hA (m ((c : Thread nD τ).loc main_arg1)) := by
  unfold_abbrev_sides
  after_results_simp
  rfl

theorem V_hB (c : Dev nD) : V m c main_v1 = hB (m ((c : Thread nD τ).loc main_arg1)) := by
  unfold_abbrev_sides
  after_results_simp
  rfl

section Arrays
variable {X : S8192x1024.Idx → EReal} {W : S1024x2048.Idx → EReal} {c : Dev nD}

theorem blk0 (hx : m ((c : Thread nD τ).loc main_arg0) = X) (t : Fin cfg0.N) :
    iblk m c 0 t = fun y => X (ix2 (row t (y 0)) (y 1)) := by
  rw [← hx]
  funext y
  blk_ext [iblk, V, idx t, row]

theorem blk1 (hw : m ((c : Thread nD τ).loc main_arg1) = W) (t : Fin cfg0.N) :
    iblk m c 1 t = fun y => W (ix2 (y 0) (acol (y 1))) := by
  have h : iblk m c 1 t = fun y => V m c main_v0 y := by
    funext y
    blk_ext [iblk, idx t]
  rw [h, V_hA, hw, hA_eq]
  rfl

theorem blk2 (hw : m ((c : Thread nD τ).loc main_arg1) = W) (t : Fin cfg0.N) :
    iblk m c 2 t = fun y => W (ix2 (y 0) (bcol (y 1))) := by
  have h : iblk m c 2 t = fun y => V m c main_v1 y := by
    funext y
    blk_ext [iblk, idx t]
  rw [h, V_hB, hw, hB_eq]
  rfl

variable (X W)

/-- One entry of the value, of the gate before its sigmoid, and of the gated product. -/
def aAt (r : Fin 8192) (j : Fin 1024) : EReal := dot (fun k => X (ix2 r k)) (fun k => W (ix2 k (acol j)))
def bAt (r : Fin 8192) (j : Fin 1024) : EReal := dot (fun k => X (ix2 r k)) (fun k => W (ix2 k (bcol j)))
def gluAt (r : Fin 8192) (j : Fin 1024) : EReal := aAt X W r j * Ideal.logistic (bAt X W r j)

variable {X W} (hx : m ((c : Thread nD τ).loc main_arg0) = X) (hw : m ((c : Thread nD τ).loc main_arg1) = W)
include hx hw

theorem arr3 : (dats m 0 c).arrAt 3 cfg0.N = fun i : S8192x1024.Idx => aAt X W (i 0) (i 1) := by
  refine (dats m 0 c).arrAt_eq_of_covers 3 _ (by decide +kernel) fun t hf y => ?_
  blk_simp
  have hi : ∀ y : S512x1024.Idx, (((View.whole main_v2_0).slice (win0_3.rect t)).emb y) = ix2 (row t (y 0)) (y 1) := by
    intro y
    blk_ext [idx t, row]
  rw [after0_3, blk0 m hx t, blk1 m hw t, blk2 m hw t, hi]
  exact a_apply _ _ _ y

theorem arr4 : (dats m 0 c).arrAt 4 cfg0.N = fun i : S8192x1024.Idx => bAt X W (i 0) (i 1) := by
  refine (dats m 0 c).arrAt_eq_of_covers 4 _ (by decide +kernel) fun t hf y => ?_
  blk_simp
  have hi : ∀ y : S512x1024.Idx, (((View.whole main_v2_1).slice (win0_4.rect t)).emb y) = ix2 (row t (y 0)) (y 1) := by
    intro y
    blk_ext [idx t, row]
  rw [after0_4, blk0 m hx t, blk1 m hw t, blk2 m hw t, hi]
  exact b_apply _ _ _ y

theorem arr5 : (dats m 0 c).arrAt 5 cfg0.N = fun i : S8192x1024.Idx => gluAt X W (i 0) (i 1) := by
  refine (dats m 0 c).arrAt_eq_of_covers 5 _ (by decide +kernel) fun t hf y => ?_
  blk_simp
  have hi : ∀ y : S512x1024.Idx, (((View.whole main_v2_2).slice (win0_5.rect t)).emb y) = ix2 (row t (y 0)) (y 1) := by
    intro y
    blk_ext [idx t, row]
  rw [after0_5, blk0 m hx t, blk1 m hw t, blk2 m hw t, hi]
  exact glu_apply _ _ _ y

end Arrays

end Cert.GluFwdIdeal.Read

namespace Cert.GluFwdRefIdeal.Tie

open Cert.GluFwdRefIdeal Cert.GluFwdRefIdeal.Gen Cert.GluFwdRefIdeal.Read Idealize.ShloMosaic Idealize.ShloMosaic.TcCoe Idealize.SL.Sem Cert.Lift
open Cert.GluFwdIdeal.Read

theorem v12 (X : S8192x1024.Idx → EReal) (W : S1024x2048.Idx → EReal) :
    val_main_v12 (F := Ideal) X W = fun i => aAt X W (i 0) (i 1) := by
  funext i
  idx_vars i
  pointwise [val_main_v12, val_main_v3, val_main_v2, val_main_v1, val_main_v0]
  rfl

theorem v13 (X : S8192x1024.Idx → EReal) (W : S1024x2048.Idx → EReal) :
    val_main_v13 (F := Ideal) X W = fun i => bAt X W (i 0) (i 1) := by
  funext i
  idx_vars i
  pointwise [val_main_v13, val_main_v4, val_main_v2, val_main_v1, val_main_v0]
  rfl

theorem v14 (X : S8192x1024.Idx → EReal) (W : S1024x2048.Idx → EReal) :
    val_main_v14 (F := Ideal) X W = fun i => gluAt X W (i 0) (i 1) := by
  funext i
  idx_vars i
  pointwise [val_main_v14, val_main_v13, val_main_v12, val_main_v11, val_main_v10, val_main_v9, val_main_cst_0, val_main_v8, val_main_v7, val_main_cst, val_main_v6, val_main_v5, val_main_v4, val_main_v3, val_main_v2, val_main_v1, val_main_v0]
  unfold gluAt Ideal.logistic
  rw [show (1 : EReal) = Ideal.ofBits .f32 0x3F800000#32 from wone.symm]
  rfl

end Cert.GluFwdRefIdeal.Tie
end
-- ==== Proof.GluFwdClaim.lean ====
/- The gated product of the forward pass: both programs leave the same three arrays. -/
module

public import proofs.«01_k».proof.Defs
public import proofs.«01_k».proof.Proof.GluFwdRead
public import proofs.«01_k».proof.Proof.Gen.GluFwd.Frame
public import proofs.«01_k».proof.Proof.Gen.GluFwdIdeal.Frame
public import Idealize.ShloMosaic.Adequacy
public import Idealize.ShloMosaic.Init

@[expose] public section

set_option maxRecDepth 16384

noncomputable section

namespace Cert.GluFwdClaim

open Idealize.ShloMosaic Idealize.ShloMosaic.TcCoe Idealize.SL.Sem

theorem gluFwd_value : algebraic_GluFwdIdeal_GluFwdRefIdeal := by
  intro m g m' g' hpre hag
  refine ⟨_, _, _, GluFwdIdeal.Value.run_blocks m g, (θ_run _ _ _).mono (fun r h c => ?_) (GluFwdRefIdeal.Value.run m' g')⟩
  obtain ⟨e0, e1⟩ := hag c
  obtain ⟨r0, r1, r2, hk⟩ := h c
  refine ⟨r0.trans ?_, r1.trans ?_, r2.trans ?_, hk⟩
  · rw [e0, e1]
    exact (GluFwdRefIdeal.Read.val_main_v12_eq _ _).trans ((GluFwdRefIdeal.Tie.v12 _ _).trans (GluFwdIdeal.Read.arr3 m rfl rfl).symm)
  · rw [e0, e1]
    exact (GluFwdRefIdeal.Read.val_main_v13_eq _ _).trans ((GluFwdRefIdeal.Tie.v13 _ _).trans (GluFwdIdeal.Read.arr4 m rfl rfl).symm)
  · rw [e0, e1]
    exact (GluFwdRefIdeal.Read.val_main_v14_eq _ _).trans ((GluFwdRefIdeal.Tie.v14 _ _).trans (GluFwdIdeal.Read.arr5 m rfl rfl).symm)

theorem ref_frame : quiescent_GluFwdRefIdeal := fun m ρ _ =>
  (θ_run GluFwdRefIdeal.defs _ _).mono (fun r h => ⟨fun c => (h c).2.2.2, sem_eq_zero_of_no_sems (by decide) r.2⟩)
    (GluFwdRefIdeal.Value.run m ρ)

end Cert.GluFwdClaim
end
-- ==== Proof.FfnFwdRead.lean ====
/- The feed-forward network of the forward pass: the arrays the kernel leaves, and the reference's. -/
module

public import proofs.«01_k».proof.Proof.Gen.FfnFwdIdeal.Value
public import proofs.«01_k».proof.Proof.Gen.FfnFwdRefIdeal.Run
public import proofs.«01_k».proof.Proof.Gen.FfnFwdRefIdeal.Read
public import proofs.«01_k».proof.Proof.Lift
public import Idealize.ShloMosaic.Lib.Pipeline.ReadBack
public import Idealize.ShloMosaic.PureOps.Ideal.Laws
public import Idealize.ShloMosaic.Lib.Pipeline.ValueKit
public import Idealize.ShloMosaic.Lib.Pointwise

@[expose] public section

set_option maxRecDepth 16384

noncomputable section

namespace Cert.FfnFwdIdeal.Read

open Cert.FfnFwdIdeal Cert.FfnFwdIdeal.Gen Idealize.ShloMosaic Idealize.ShloMosaic.TcCoe Idealize.ShloMosaic.StableHlo Idealize.SL.Sem Cert.Lift
open Idealize.ShloMosaic.Pipeline (Dat)

/-- One over the root mean square of a row. -/
def scale (f : Fin 1024 → EReal) : EReal :=
  Ideal.rsqrt (Ideal.div (∑ k, f k * f k) (Ideal.ofBits .f32 0x44800000#32) + Ideal.ofBits .f32 0x358637BD#32)

/-- One entry of the norm, of a product of the norm with a weight, and of the output. -/
def nAt (f G : Fin 1024 → EReal) (j : Fin 1024) : EReal := f j * scale f * G j
def zAt (f G w : Fin 1024 → EReal) : EReal := ∑ k : Fin 1024, nAt f G k * w k
def oAt (f G : Fin 1024 → EReal) (w1 w3 : Fin 2816 → Fin 1024 → EReal) (w2 : Fin 2816 → Fin 1024 → EReal) (j : Fin 1024) : EReal :=
  f j + Ideal.ofBits .f32 0x3F000000#32 * ∑ l : Fin 2816, zAt f G (w1 l) * Ideal.logistic (zAt f G (w1 l)) * zAt f G (w3 l) * w2 l j

section Payloads
variable (X : S256x1024.Idx → EReal) (G : S1x1024.Idx → EReal) (A B C : S2816x1024.Idx → EReal)

theorem n_apply (a : Fin 256) (j : Fin 1024) :
    k0_pay2 (F := Ideal) X G (ix2 a j) = nAt (fun k => X (ix2 a k)) (fun k => G (ix2 0 k)) j := by
  unfold_payloads
  pointwise
  rfl

theorem z1_apply (a : Fin 256) (l : Fin 2816) :
    k0_pay3 (F := Ideal) X G A (ix2 a l) = zAt (fun k => X (ix2 a k)) (fun k => G (ix2 0 k)) (fun k => A (ix2 l k)) := by
  pointwise [k0_pay3]
  simp only [n_apply]
  rfl

theorem z3_apply (a : Fin 256) (l : Fin 2816) :
    k0_pay4 (F := Ideal) X G A (ix2 a l) = zAt (fun k => X (ix2 a k)) (fun k => G (ix2 0 k)) (fun k => A (ix2 l k)) := by
  pointwise [k0_pay4]
  simp only [n_apply]
  rfl

theorem o_apply (a : Fin 256) (j : Fin 1024) :
    k0_pay1 (F := Ideal) X (k0_pay7 X G A B) C (ix2 a j)
      = oAt (fun k => X (ix2 a k)) (fun k => G (ix2 0 k)) (fun l k => A (ix2 l k)) (fun l k => B (ix2 l k)) (fun l k => C (ix2 l k)) j := by
  pointwise [k0_pay1, k0_pay7]
  simp only [z1_apply, z3_apply]
  rfl

end Payloads

variable (m : (ℓ : Loc nD τ sig) → Buf (Elt Ideal) ℓ)

theorem idx : ∀ t : Fin grid0.N, win0_0.index t = ![t.val, 0] ∧ win0_1.index t = ![0, 0] ∧ win0_3.index t = ![t.val, 0]
    ∧ win0_4.index t = ![t.val, 0] ∧ win0_5.index t = ![t.val, 0] ∧ win0_6.index t = ![t.val, 0] := by
  decide +kernel

/-- Row `a` of point `t`'s block. -/
def row (t : Fin cfg0.N) (a : Fin 256) : Fin 8192 := ⟨t.val * 256 + a.val, by have : t.val < 32 := t.isLt; omega⟩

theorem canon_whole {s : Shape} {e : EltTy} (w : s.Idx → Elt Ideal e) :
    View.canon (Val := Elt Ideal) (e := e) [⟨Rect.whole s, w⟩] = w :=
  View.canon_unit_zero (S := s) (off := fun _ => 0) rfl (fun a => by simp) w

theorem read_whole (v : View sig .tc .vmem S2816x1024 .bf16) (w : S2816x1024.Idx → Elt Ideal .bf16) :
    v.readCov (Val := Elt Ideal) [⟨Rect.whole S2816x1024, w⟩] (Rect.unit ![0, 0] ![2816, 1024] inb_S2816x1024_S2816x1024_0_0).toLoadRect = w := by
  rw [View.readCov_eq_canon', canon_whole]
  funext y
  refine congrArg w (funext fun a => Fin.ext ?_)
  refine (Rect.idx_unit_val _ _ _ y a).trans ?_
  match a with
  | ⟨0, _⟩ => exact Nat.zero_add _
  | ⟨1, _⟩ => exact Nat.zero_add _

/-- The three weights stay in the scratch the first point copies them to. -/
theorem kept (c : Dev nD) : ∀ (n : ℕ) (h : n < cfg0.N),
    (outsAt0 m c n h).2.2.2.2 = (V m c main_v0, V m c main_v1, V m c main_arg4) := by
  intro n
  induction n with
  | zero =>
    intro h
    rw [outsAt0_A m c ⟨0, h⟩ rfl]
    refine Prod.ext ?_ (Prod.ext ?_ ?_)
    · frame_out
      exact canon_whole _
    · frame_out
      exact canon_whole _
    · frame_out
      exact canon_whole _
  | succ n ih =>
    intro h
    have hN : n + 1 < 32 := h
    rw [outsAt0_B m c ⟨n + 1, h⟩ (by show ¬ (n + 1) % 32 = 0; omega)]
    exact ih (Nat.lt_of_succ_lt h)

/-- What every point leaves. -/
theorem left (c : Dev nD) (t : Fin cfg0.N) :
    (outsAt0 m c t.val t.isLt).1 = k0_pay1 (iblk m c 0 t) (k0_pay7 (iblk m c 0 t) (iblk m c 1 t) (V m c main_v0) (V m c main_v1)) (V m c main_arg4)
    ∧ (outsAt0 m c t.val t.isLt).2.1 = k0_pay2 (iblk m c 0 t) (iblk m c 1 t)
    ∧ (outsAt0 m c t.val t.isLt).2.2.1 = k0_pay5 (iblk m c 0 t) (iblk m c 1 t) (V m c main_v0)
    ∧ (outsAt0 m c t.val t.isLt).2.2.2.1 = k0_pay6 (iblk m c 0 t) (iblk m c 1 t) (V m c main_v1) := by
  by_cases h0 : t.val % 32 = 0
  · rw [outsAt0_A m c t h0]
    refine ⟨?_, ?_, ?_, ?_⟩
    · frame_out
      rw [read_whole, read_whole, read_whole]
      rfl
    · frame_out
    · frame_out
      rw [read_whole]
      rfl
    · frame_out
      rw [read_whole]
      rfl
  · have hk := kept m c (t.val - 1) (Nat.lt_of_le_of_lt (Nat.sub_le _ _) t.isLt)
    rw [outsAt0_B m c t h0, hk]
    refine ⟨?_, ?_, ?_, ?_⟩
    · frame_out
      rw [read_unread_whole, read_unread_whole, read_unread_whole]
    · frame_out
    · frame_out
      rw [read_unread_whole]
    · frame_out
      rw [read_unread_whole]

def hT (w : FVec Ideal S1024x2816 .bf16) : FVec Ideal S2816x1024 .bf16 := transpose S2816x1024 [1, 0] w transposes_S1024x2816_S2816x1024_1_0
def hG (g : FVec Ideal S1024 .f32) : FVec Ideal S1x1024 .f32 := shapeCast S1x1024 g shapeCasts_S1024_S1x1024

theorem hT_eq (w : S1024x2816.Idx → EReal) : hT w = fun y => w (ix2 (y 1) (y 0)) := by
  funext y
  idx_vars y
  unfold hT
  pointwise

theorem hG_eq (g : S1024.Idx → EReal) : hG g = fun y => g (ix1 (y 1)) := by
  funext y
  idx_vars y
  unfold hG
  pointwise

theorem V_h1 (c : Dev nD) : V m c main_v0 = hT (m ((c : Thread nD τ).loc main_arg2)) := by
  unfold_abbrev_sides
  after_results_simp
  rfl
theorem V_h3 (c : Dev nD) : V m c main_v1 = hT (m ((c : Thread nD τ).loc main_arg3)) := by
  unfold_abbrev_sides
  after_results_simp
  rfl
theorem V_hG (c : Dev nD) : V m c main_v3 = hG (m ((c : Thread nD τ).loc main_arg1)) := by
  unfold_abbrev_sides
  after_results_simp
  rfl

theorem blk0 (c : Dev nD) (X : S8192x1024.Idx → EReal) (hx : m ((c : Thread nD τ).loc main_arg0) = X) (t : Fin cfg0.N) :
    iblk m c 0 t = fun y => X (ix2 (row t (y 0)) (y 1)) := by
  rw [← hx]
  funext y
  blk_ext [iblk, V, idx t, row]

theorem blk1 (c : Dev nD) (G : S1024.Idx → EReal) (hg : m ((c : Thread nD τ).loc main_arg1) = G) (t : Fin cfg0.N) :
    iblk m c 1 t = fun y => G (ix1 (y 1)) := by
  have h : iblk m c 1 t = fun y => V m c main_v3 y := by
    funext y
    blk_ext [iblk, idx t]
  rw [h, V_hG, hg, hG_eq]
  rfl

section Arrays
variable (X : S8192x1024.Idx → EReal) (G : S1024.Idx → EReal) (A B : S1024x2816.Idx → EReal) (C : S2816x1024.Idx → EReal)

/-- One entry of the norm, of the two products and of the output. -/
def nOf (i : S8192x1024.Idx) : EReal := nAt (fun k => X (ix2 (i 0) k)) (fun k => G (ix1 k)) (i 1)
def zOf (i : S8192x2816.Idx) : EReal := zAt (fun k => X (ix2 (i 0) k)) (fun k => G (ix1 k)) (fun k => A (ix2 k (i 1)))
def oOf (i : S8192x1024.Idx) : EReal :=
  oAt (fun k => X (ix2 (i 0) k)) (fun k => G (ix1 k)) (fun l k => A (ix2 k l)) (fun l k => B (ix2 k l)) (fun l k => C (ix2 l k)) (i 1)

variable {X G A B C} {c : Dev nD} (hx : m ((c : Thread nD τ).loc main_arg0) = X) (hg : m ((c : Thread nD τ).loc main_arg1) = G)
  (ha : m ((c : Thread nD τ).loc main_arg2) = A) (hb : m ((c : Thread nD τ).loc main_arg3) = B)
  (hc : m ((c : Thread nD τ).loc main_arg4) = C)

include hx hg ha hb hc in
theorem arr3 : (dats m 0 c).arrAt 3 cfg0.N = oOf X G A B C := by
  refine (dats m 0 c).arrAt_eq_of_covers 3 _ (by decide +kernel) fun t hf y => ?_
  blk_simp
  have hi : ∀ y : S256x1024.Idx, (((View.whole main_v4_0).slice (win0_3.rect t)).emb y) = ix2 (row t (y 0)) (y 1) := by
    intro y
    blk_ext [idx t, row]
  have key : ∀ y : S256x1024.Idx, (outsAt0 m c t.val t.isLt).1 y = oOf X G A B C (ix2 (row t (y 0)) (y 1)) := by
    intro y
    have h4 : V m c main_arg4 = C := by
      rw [← hc]
      unfold_abbrev_sides
      after_results_simp
    rw [(left m c t).1, blk0 m c X hx t, blk1 m c G hg t, V_h1, V_h3, ha, hb, h4, hT_eq, hT_eq]
    idx_vars y
    exact o_apply _ _ _ _ _ _ _
  rw [after0_3, hi]
  exact key y

include hx hg in
theorem arr4 : (dats m 0 c).arrAt 4 cfg0.N = nOf X G := by
  refine (dats m 0 c).arrAt_eq_of_covers 4 _ (by decide +kernel) fun t hf y => ?_
  blk_simp
  have hi : ∀ y : S256x1024.Idx, (((View.whole main_v4_1).slice (win0_4.rect t)).emb y) = ix2 (row t (y 0)) (y 1) := by
    intro y
    blk_ext [idx t, row]
  have key : ∀ y : S256x1024.Idx, (outsAt0 m c t.val t.isLt).2.1 y = nOf X G (ix2 (row t (y 0)) (y 1)) := by
    intro y
    rw [(left m c t).2.1, blk0 m c X hx t, blk1 m c G hg t]
    idx_vars y
    exact n_apply _ _ _ _
  rw [after0_4, hi]
  exact key y

include hx hg ha in
theorem arr5 : (dats m 0 c).arrAt 5 cfg0.N = zOf X G A := by
  refine (dats m 0 c).arrAt_eq_of_covers 5 _ (by decide +kernel) fun t hf y => ?_
  blk_simp
  have hi : ∀ y : S256x2816.Idx, (((View.whole main_v4_2).slice (win0_5.rect t)).emb y) = ix2 (row t (y 0)) (y 1) := by
    intro y
    blk_ext [idx t, row]
  have key : ∀ y : S256x2816.Idx, (outsAt0 m c t.val t.isLt).2.2.1 y = zOf X G A (ix2 (row t (y 0)) (y 1)) := by
    intro y
    rw [(left m c t).2.2.1, blk0 m c X hx t, blk1 m c G hg t, V_h1, ha, hT_eq]
    idx_vars y
    pointwise [k0_pay5]
    exact z1_apply _ _ _ _ _
  rw [after0_5, hi]
  exact key y

include hx hg hb in
theorem arr6 : (dats m 0 c).arrAt 6 cfg0.N = zOf X G B := by
  refine (dats m 0 c).arrAt_eq_of_covers 6 _ (by decide +kernel) fun t hf y => ?_
  blk_simp
  have hi : ∀ y : S256x2816.Idx, (((View.whole main_v4_3).slice (win0_6.rect t)).emb y) = ix2 (row t (y 0)) (y 1) := by
    intro y
    blk_ext [idx t, row]
  have key : ∀ y : S256x2816.Idx, (outsAt0 m c t.val t.isLt).2.2.2.1 y = zOf X G B (ix2 (row t (y 0)) (y 1)) := by
    intro y
    rw [(left m c t).2.2.2, blk0 m c X hx t, blk1 m c G hg t, V_h3, hb, hT_eq]
    idx_vars y
    pointwise [k0_pay6]
    exact z3_apply _ _ _ _ _
  rw [after0_6, hi]
  exact key y

end Arrays

end Cert.FfnFwdIdeal.Read

namespace Cert.FfnFwdRefIdeal.Tie

open Cert.FfnFwdRefIdeal Cert.FfnFwdRefIdeal.Gen Cert.FfnFwdRefIdeal.Read Idealize.ShloMosaic Idealize.ShloMosaic.TcCoe Idealize.SL.Sem Cert.Lift
open Cert.FfnFwdIdeal.Read

theorem n15 (X : S8192x1024.Idx → EReal) (G : S1024.Idx → EReal) : val_main_v15 (F := Ideal) X G = nOf X G := by
  funext i
  idx_vars i
  pointwise [val_main_v15, val_main_v14, val_main_v13, val_main_v12, val_main_v11, val_main_v10, val_main_v9, val_main_v8, val_main_v7,
    val_main_v6, val_main_v5, val_main_v4, val_main_v3, val_main_cst, val_main_cst_0, val_main_cst_1]
  rfl

theorem v39 (X : S8192x1024.Idx → EReal) (G : S1024.Idx → EReal) : val_main_v39 (F := Ideal) X G = nOf X G := by
  funext i
  idx_vars i
  pointwise [val_main_v39]
  rw [n15]

theorem v40 (X : S8192x1024.Idx → EReal) (G : S1024.Idx → EReal) (A : S1024x2816.Idx → EReal) :
    val_main_v40 (F := Ideal) X G A = zOf X G A := by
  funext i
  idx_vars i
  pointwise [val_main_v40, val_main_v16, val_main_v0]
  rw [n15]
  rfl

theorem v41 (X : S8192x1024.Idx → EReal) (G : S1024.Idx → EReal) (B : S1024x2816.Idx → EReal) :
    val_main_v41 (F := Ideal) X G B = zOf X G B := by
  funext i
  idx_vars i
  pointwise [val_main_v41, val_main_v17, val_main_v1]
  rw [n15]
  rfl

theorem n30 (X : S8192x1024.Idx → EReal) (G : S1024.Idx → EReal) : val_main_v30 (F := Ideal) X G = nOf X G := by
  funext i
  idx_vars i
  pointwise [val_main_v30, val_main_v29, val_main_v28, val_main_v27, val_main_v26, val_main_v25, val_main_v24, val_main_v23, val_main_v22,
    val_main_v21, val_main_v20, val_main_v19, val_main_v18, val_main_cst_2, val_main_cst_3, val_main_cst_4]
  rfl

theorem z31 (X : S8192x1024.Idx → EReal) (G : S1024.Idx → EReal) (A : S1024x2816.Idx → EReal) :
    val_main_v31 (F := Ideal) X G A = zOf X G A := by
  funext i
  idx_vars i
  pointwise [val_main_v31, val_main_v0]
  rw [n30]
  rfl

theorem z32 (X : S8192x1024.Idx → EReal) (G : S1024.Idx → EReal) (B : S1024x2816.Idx → EReal) :
    val_main_v32 (F := Ideal) X G B = zOf X G B := by
  funext i
  idx_vars i
  pointwise [val_main_v32, val_main_v1]
  rw [n30]
  rfl

theorem v38 (X : S8192x1024.Idx → EReal) (G : S1024.Idx → EReal) (A B : S1024x2816.Idx → EReal) (C : S2816x1024.Idx → EReal) :
    val_main_v38 (F := Ideal) X G A B C = oOf X G A B C := by
  funext i
  idx_vars i
  pointwise [val_main_v38, val_main_v37, val_main_v36, val_main_cst_5, val_main_v35, val_main_v34, val_main_v33, val_main_call0_v5,
    val_main_call0_v4, val_main_call0_v3, val_main_call0_v2, val_main_call0_v1, val_main_call0_v0, val_main_call0_cst, val_main_call0_cst_0, val_main_v2]
  simp only [z31, z32]
  unfold oOf oAt Ideal.logistic
  rw [show (1 : EReal) = Ideal.ofBits .f32 0x3F800000#32 from wone.symm]
  rfl

end Cert.FfnFwdRefIdeal.Tie
end
-- ==== Proof.FfnFwdClaim.lean ====
/- The feed-forward network of the forward pass: both programs leave the same four arrays. -/
module

public import proofs.«01_k».proof.Defs
public import proofs.«01_k».proof.Proof.FfnFwdRead
public import proofs.«01_k».proof.Proof.Gen.FfnFwd.Frame
public import proofs.«01_k».proof.Proof.Gen.FfnFwdIdeal.Frame
public import Idealize.ShloMosaic.Adequacy
public import Idealize.ShloMosaic.Init

@[expose] public section

set_option maxRecDepth 16384

noncomputable section

namespace Cert.FfnFwdClaim

open Idealize.ShloMosaic Idealize.ShloMosaic.TcCoe Idealize.SL.Sem

theorem ffnFwd_value : algebraic_FfnFwdIdeal_FfnFwdRefIdeal := by
  intro m g m' g' hpre hag
  refine ⟨_, _, _, _, FfnFwdIdeal.Value.run_blocks m g, (θ_run _ _ _).mono (fun r h c => ?_) (FfnFwdRefIdeal.Value.run m' g')⟩
  obtain ⟨e0, e1, e2, e3, e4⟩ := hag c
  obtain ⟨r0, r1, r2, r3, hk⟩ := h c
  refine ⟨r0.trans ?_, r1.trans ?_, r2.trans ?_, r3.trans ?_, hk⟩
  · rw [e0, e1, e2, e3, e4]
    exact (FfnFwdRefIdeal.Read.val_main_v38_eq _ _ _ _ _ ).trans ((FfnFwdRefIdeal.Tie.v38 _ _ _ _ _ ).trans (FfnFwdIdeal.Read.arr3 m rfl rfl rfl rfl rfl ).symm)
  · rw [e0, e1]
    exact (FfnFwdRefIdeal.Read.val_main_v39_eq _ _ ).trans ((FfnFwdRefIdeal.Tie.v39 _ _ ).trans (FfnFwdIdeal.Read.arr4 m rfl rfl ).symm)
  · rw [e0, e1, e2]
    exact (FfnFwdRefIdeal.Read.val_main_v40_eq _ _ _ ).trans ((FfnFwdRefIdeal.Tie.v40 _ _ _ ).trans (FfnFwdIdeal.Read.arr5 m rfl rfl rfl ).symm)
  · rw [e0, e1, e3]
    exact (FfnFwdRefIdeal.Read.val_main_v41_eq _ _ _ ).trans ((FfnFwdRefIdeal.Tie.v41 _ _ _ ).trans (FfnFwdIdeal.Read.arr6 m rfl rfl rfl ).symm)

theorem ref_frame : quiescent_FfnFwdRefIdeal := fun m ρ _ =>
  (θ_run FfnFwdRefIdeal.defs _ _).mono (fun r h => ⟨fun c => (h c).2.2.2.2, sem_eq_zero_of_no_sems (by decide) r.2⟩)
    (FfnFwdRefIdeal.Value.run m ρ)

end Cert.FfnFwdClaim
end
-- ==== Proof.PrepFwdRead.lean ====
/- The norms and the rotation of the latent parts: the arrays the kernel leaves, and the reference's. -/
module

public import proofs.«01_k».proof.Proof.Gen.PrepFwdIdeal.Value
public import proofs.«01_k».proof.Proof.Gen.PrepFwdRefIdeal.Run
public import proofs.«01_k».proof.Proof.Gen.PrepFwdRefIdeal.Read
public import proofs.«01_k».proof.Proof.Lift
public import Idealize.ShloMosaic.PureOps.Ideal.Laws
public import Idealize.ShloMosaic.Lib.Pipeline.ValueKit
public import Idealize.ShloMosaic.Lib.Pointwise

@[expose] public section

set_option maxRecDepth 16384

noncomputable section

namespace Cert.PrepFwdIdeal.Read

open Cert.PrepFwdIdeal Cert.PrepFwdIdeal.Gen Idealize.ShloMosaic Idealize.ShloMosaic.TcCoe Idealize.ShloMosaic.StableHlo Idealize.SL.Sem Cert.Lift
open Idealize.ShloMosaic.Pipeline (Dat)

/-- A row read at any column, zero past its end. -/
def past {n : ℕ} (f : Fin n → EReal) (k : ℕ) : EReal := if h : k < n then f ⟨k, h⟩ else 0

/-- A table of `32` columns laid out twice, zero from column `64` on. -/
def lane (f : Fin 32 → EReal) (k : ℕ) : EReal := if k < 64 then f ⟨k % 32, Nat.mod_lt _ (by norm_num)⟩ else 0

/-- A rotated row: the first half, the second half, zero from column `64` on. -/
def rotAt (f : Fin 64 → EReal) (c s : Fin 32 → EReal) (k : ℕ) : EReal :=
  if h : k < 64 then
    if h1 : k < 32 then f ⟨k, h⟩ * c ⟨k, h1⟩ - f ⟨k + 32, by omega⟩ * s ⟨k, h1⟩
    else f ⟨k, h⟩ * c ⟨k - 32, by omega⟩ + f ⟨k - 32, by omega⟩ * s ⟨k - 32, by omega⟩
  else 0

/-- One over the root mean square of a compressed row, of either length. -/
def qScale (f : Fin 512 → EReal) : EReal :=
  Ideal.rsqrt (Ideal.div (∑ k, f k * f k) (Ideal.ofBits .f32 0x44000000#32) + Ideal.ofBits .f32 0x358637BD#32)
def kScale (f : Fin 256 → EReal) : EReal :=
  Ideal.rsqrt (Ideal.div (∑ k, f k * f k) (Ideal.ofBits .f32 0x43800000#32) + Ideal.ofBits .f32 0x358637BD#32)

theorem q_apply (X : S512x512.Idx → EReal) (G : S1x512.Idx → EReal) (y : S512x512.Idx) :
    k0_pay3 (F := Ideal) X G y = X y * qScale (fun k => X (ix2 (y 0) k)) * G (ix2 0 (y 1)) := by
  idx_vars y
  unfold_payloads
  pointwise
  rfl

theorem k_apply (X : S512x256.Idx → EReal) (G : S1x256.Idx → EReal) (y : S512x256.Idx) :
    k0_pay4 (F := Ideal) X G y = X y * kScale (fun k => X (ix2 (y 0) k)) * G (ix2 0 (y 1)) := by
  idx_vars y
  unfold_payloads
  pointwise
  rfl

theorem before (j : Fin 128) : IntOp.cmpi .slt (BitVec.ofNat 32 j.val) 32#32 = if j.val < 32 then 1#1 else 0#1 := by
  revert j
  decide +kernel

/-- The turn the kernel takes of a row: the row times the cosines plus its two shifted halves times the sines. -/
def turned (r c s : Fin 128 → EReal) (j : Fin 128) : EReal :=
  r j * c j + Scalar.select (IntOp.cmpi .slt (BitVec.ofNat 32 j.val) 32#32) (0 - r ⟨(j.val + 128 - 96) % 128, Nat.mod_lt _ (by norm_num)⟩)
    (r ⟨(j.val + 128 - 32) % 128, Nat.mod_lt _ (by norm_num)⟩) * s j

theorem turned_eq {f : Fin 64 → EReal} {c s : Fin 32 → EReal} (j : Fin 128) :
    turned (fun k => past f k.val) (fun k => lane c k.val) (fun k => lane s k.val) j = rotAt f c s j.val := by
  unfold turned
  rw [before]
  beta_reduce
  have hj : j.val < 128 := j.isLt
  have s1 : ∀ x y : EReal, Scalar.select 1#1 x y = x := fun _ _ => rfl
  have s0 : ∀ x y : EReal, Scalar.select 0#1 x y = y := fun _ _ => rfl
  unfold rotAt lane
  by_cases h : j.val < 64
  · rw [dif_pos h, if_pos h, if_pos h]
    by_cases h1 : j.val < 32
    · have e1 : (⟨j.val % 32, Nat.mod_lt _ (by norm_num)⟩ : Fin 32) = ⟨j.val, h1⟩ := Fin.ext (Nat.mod_eq_of_lt h1)
      have e2 : (j.val + 128 - 96) % 128 = j.val + 32 := by omega
      rw [dif_pos h1, if_pos h1, s1, e1]
      show past f j.val * _ + (0 - past f ((j.val + 128 - 96) % 128)) * _ = _
      rw [e2, past, past, dif_pos h, dif_pos (show j.val + 32 < 64 by omega), sub_eq_add_neg, sub_eq_add_neg, zero_add, EReal.neg_mul]
    · have e1 : (⟨j.val % 32, Nat.mod_lt _ (by norm_num)⟩ : Fin 32) = ⟨j.val - 32, by omega⟩ := Fin.ext (show j.val % 32 = j.val - 32 by omega)
      have e2 : (j.val + 128 - 32) % 128 = j.val - 32 := by omega
      rw [dif_neg h1, if_neg h1, s0, e1]
      show past f j.val * _ + past f ((j.val + 128 - 32) % 128) * _ = _
      rw [e2, past, past, dif_pos h, dif_pos (show j.val - 32 < 64 by omega)]
  · rw [if_neg h, if_neg h, dif_neg h, mul_zero, mul_zero, zero_add]

theorem rot_apply (R C S : S512x128.Idx → EReal) (a : Fin 512) (j : Fin 128) (f : Fin 64 → EReal) (c s : Fin 32 → EReal)
    (hR : ∀ k, R (ix2 a k) = past f k.val) (hC : ∀ k, C (ix2 a k) = lane c k.val) (hS : ∀ k, S (ix2 a k) = lane s k.val) :
    k0_pay1 (F := Ideal) (k0_pay2 R) C S (ix2 a j) = rotAt f c s j.val := by
  refine Eq.trans ?_ (turned_eq (f := f) (c := c) (s := s) j)
  rw [← funext hR, ← funext hC, ← funext hS]
  pointwise [k0_pay1, k0_pay2]
  rfl

variable (m : (ℓ : Loc nD τ sig) → Buf (Elt Ideal) ℓ)

/-- The compressed parts and the rotary part with `64` zero columns behind them. -/
def hLat (a : FVec Ideal S8192x832 .f32) : FVec Ideal S8192x896 .f32 :=
  pad S8192x896 ![0, 0] ![0, 64] ![0, 0] a (sitofp .f32 (constantI S_ 32 0#32)) pads_S8192x832_S8192x896_000_0640 h_S_

theorem hLat_apply (A : S8192x832.Idx → EReal) (y : S8192x896.Idx) : hLat A y = past (fun k => A (ix2 (y 0) k)) (y 1).val := by
  idx_vars y
  unfold hLat past
  pointwise
  split_ifs
  · rfl
  · show ((((0#32 : BitVec 32).toInt : ℝ)) : EReal) = _
    simp

def hTab (x : FVec Ideal S8192x32 .f32) : FVec Ideal S8192x128 .f32 :=
  pad S8192x128 ![0, 0] ![0, 64] ![0, 0] (concatenate S8192x64 1 [⟨S8192x32, x⟩, ⟨S8192x32, x⟩] concatenates_S8192x32_S8192x32_S8192x64_d1)
    (sitofp .f32 (constantI S_ 32 0#32)) pads_S8192x64_S8192x128_000_0640 h_S_

theorem hTab_apply (x : S8192x32.Idx → EReal) (y : S8192x128.Idx) : hTab x y = lane (fun j => x (ix2 (y 0) j)) (y 1).val := by
  idx_vars y
  unfold hTab lane
  pointwise
  by_cases h : y1.val < 64
  · rw [dif_pos h, if_pos h]
    by_cases h1 : y1.val < 32
    · rw [dif_pos h1]
      exact congrArg x (congrArg (ix2 _) (Fin.ext (Nat.mod_eq_of_lt h1).symm))
    · rw [dif_neg h1]
      exact congrArg x (congrArg (ix2 _) (Fin.ext (show y1.val - 32 = y1.val % 32 by omega)))
  · rw [dif_neg h, if_neg h]
    show ((((0#32 : BitVec 32).toInt : ℝ)) : EReal) = _
    simp

/-- A gain as a row. -/
def hGq (g : FVec Ideal S512 .f32) : FVec Ideal S1x512 .f32 := shapeCast S1x512 g shapeCasts_S512_S1x512
def hGk (g : FVec Ideal S256 .f32) : FVec Ideal S1x256 .f32 := shapeCast S1x256 g shapeCasts_S256_S1x256

theorem hGq_eq (g : S512.Idx → EReal) : hGq g = fun y => g (ix1 (y 1)) := by
  funext y
  idx_vars y
  unfold hGq
  pointwise

theorem hGk_eq (g : S256.Idx → EReal) : hGk g = fun y => g (ix1 (y 1)) := by
  funext y
  idx_vars y
  unfold hGk
  pointwise

/-- The tables of cosines and sines, as the reference's own stages. -/
abbrev cosOf (p : S8192.Idx → BitVec 32) : S8192x32.Idx → EReal := Cert.PrepFwdRefIdeal.Read.val_main_v42 (F := Ideal) p
abbrev sinOf (p : S8192.Idx → BitVec 32) : S8192x32.Idx → EReal := Cert.PrepFwdRefIdeal.Read.val_main_v43 (F := Ideal) p

theorem V_hLat (c : Dev nD) : V m c main_v15 = hLat (m ((c : Thread nD τ).loc main_arg0)) := by
  unfold_abbrev_sides
  try simp only [List.flatten_cons, List.flatten_nil, List.append_nil, List.cons_append, List.nil_append, TRef.binary, TRef.nullary, TRef.ternary, TRef.unary, TRef.toBuf, TRef.ofBuf, cast_eq]
  after_results_simp
  rfl

theorem V_cos (c : Dev nD) : V m c main_v17 = hTab (cosOf (m ((c : Thread nD τ).loc main_arg3))) := by
  unfold_abbrev_sides
  try simp only [List.flatten_cons, List.flatten_nil, List.append_nil, List.cons_append, List.nil_append, TRef.binary, TRef.nullary, TRef.ternary, TRef.unary, TRef.toBuf, TRef.ofBuf, cast_eq]
  after_results_simp
  rfl

theorem V_sin (c : Dev nD) : V m c main_v19 = hTab (sinOf (m ((c : Thread nD τ).loc main_arg3))) := by
  unfold_abbrev_sides
  try simp only [List.flatten_cons, List.flatten_nil, List.append_nil, List.cons_append, List.nil_append, TRef.binary, TRef.nullary, TRef.ternary, TRef.unary, TRef.toBuf, TRef.ofBuf, cast_eq]
  after_results_simp
  rfl

theorem V_hGq (c : Dev nD) : V m c main_v20 = hGq (m ((c : Thread nD τ).loc main_arg1)) := by
  unfold_abbrev_sides
  try simp only [List.flatten_cons, List.flatten_nil, List.append_nil, List.cons_append, List.nil_append, TRef.binary, TRef.nullary, TRef.ternary, TRef.unary, TRef.toBuf, TRef.ofBuf, cast_eq]
  after_results_simp
  rfl

theorem V_hGk (c : Dev nD) : V m c main_v21 = hGk (m ((c : Thread nD τ).loc main_arg2)) := by
  unfold_abbrev_sides
  try simp only [List.flatten_cons, List.flatten_nil, List.append_nil, List.cons_append, List.nil_append, TRef.binary, TRef.nullary, TRef.ternary, TRef.unary, TRef.toBuf, TRef.ofBuf, cast_eq]
  after_results_simp
  rfl

theorem idx : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] := by
  decide +kernel

/-- Row `a` of point `t`'s block. -/
def row (t : Fin cfg0.N) (a : Fin 512) : Fin 8192 := ⟨t.val * 512 + a.val, by have : t.val < 16 := t.isLt; omega⟩

/-- The columns of the two compressed parts and of the rotary part. -/
def qcol (k : Fin 512) : Fin 832 := ⟨k.val, by omega⟩
def kcol (k : Fin 256) : Fin 832 := ⟨512 + k.val, by omega⟩
def rcol (k : Fin 64) : Fin 832 := ⟨768 + k.val, by omega⟩

section Arrays
variable {A : S8192x832.Idx → EReal} {G : S512.Idx → EReal} {H : S256.Idx → EReal} {p : S8192.Idx → BitVec 32} {c : Dev nD}
  (ha : m ((c : Thread nD τ).loc main_arg0) = A) (hg : m ((c : Thread nD τ).loc main_arg1) = G)
  (hh : m ((c : Thread nD τ).loc main_arg2) = H) (hp : m ((c : Thread nD τ).loc main_arg3) = p)

include ha in
theorem blk0 (t : Fin cfg0.N) (y : S512x896.Idx) : iblk m c 0 t y = past (fun k => A (ix2 (row t (y 0)) k)) (y 1).val := by
  have h : iblk m c 0 t = fun y => V m c main_v15 (ix2 (row t (y 0)) (y 1)) := by
    funext y
    blk_ext [iblk, idx t, row]
  rw [h, V_hLat, ha]
  exact hLat_apply _ _

include hg in
theorem blk1 (t : Fin cfg0.N) : iblk m c 1 t = fun y => G (ix1 (y 1)) := by
  have h : iblk m c 1 t = fun y => V m c main_v20 y := by
    funext y
    blk_ext [iblk, idx t]
  rw [h, V_hGq, hg, hGq_eq]
  rfl

include hh in
theorem blk2 (t : Fin cfg0.N) : iblk m c 2 t = fun y => H (ix1 (y 1)) := by
  have h : iblk m c 2 t = fun y => V m c main_v21 y := by
    funext y
    blk_ext [iblk, idx t]
  rw [h, V_hGk, hh, hGk_eq]
  rfl

include hp in
theorem blk3 (t : Fin cfg0.N) (y : S512x128.Idx) : iblk m c 3 t y = lane (fun j => cosOf p (ix2 (row t (y 0)) j)) (y 1).val := by
  have h : iblk m c 3 t = fun y => V m c main_v17 (ix2 (row t (y 0)) (y 1)) := by
    funext y
    blk_ext [iblk, idx t, row]
  rw [h, V_cos, hp]
  exact hTab_apply _ _

include hp in
theorem blk4 (t : Fin cfg0.N) (y : S512x128.Idx) : iblk m c 4 t y = lane (fun j => sinOf p (ix2 (row t (y 0)) j)) (y 1).val := by
  have h : iblk m c 4 t = fun y => V m c main_v19 (ix2 (row t (y 0)) (y 1)) := by
    funext y
    blk_ext [iblk, idx t, row]
  rw [h, V_sin, hp]
  exact hTab_apply _ _

include ha in
/-- What the kernel loads of a block: the two compressed parts and the rotary part. -/
theorem ld_q (t : Fin cfg0.N) : View.ld (iblk m c 0 t) r0_0 = fun x : S512x512.Idx => A (ix2 (row t (x 0)) (qcol (x 1))) := by
  funext x
  have h1 : (r0_0.idx x 1).val = 0 + (x 1).val := by rw [Rect.idx_unit_val]; rfl
  have h0 : r0_0.idx x 0 = x 0 := Fin.ext (by rw [Rect.idx_unit_val]; exact Nat.zero_add _)
  have hx : (x 1).val < 512 := (x 1).isLt
  rw [View.ld_apply, blk0 m ha t]
  unfold past
  rw [dif_pos (by rw [h1]; omega), h0]
  exact congrArg (fun k : Fin 832 => A (ix2 (row t (x 0)) k)) (Fin.ext (h1.trans (Nat.zero_add _)))

include ha in
theorem ld_k (t : Fin cfg0.N) : View.ld (iblk m c 0 t) r0_1 = fun x : S512x256.Idx => A (ix2 (row t (x 0)) (kcol (x 1))) := by
  funext x
  have h1 : (r0_1.idx x 1).val = 512 + (x 1).val := by rw [Rect.idx_unit_val]; rfl
  have h0 : r0_1.idx x 0 = x 0 := Fin.ext (by rw [Rect.idx_unit_val]; exact Nat.zero_add _)
  have hx : (x 1).val < 256 := (x 1).isLt
  rw [View.ld_apply, blk0 m ha t]
  unfold past
  rw [dif_pos (by rw [h1]; omega), h0]
  exact congrArg (fun k : Fin 832 => A (ix2 (row t (x 0)) k)) (Fin.ext h1)

include ha in
theorem ld_r (t : Fin cfg0.N) (x : S512x128.Idx) :
    View.ld (iblk m c 0 t) r0_2 x = past (fun k : Fin 64 => A (ix2 (row t (x 0)) (rcol k))) (x 1).val := by
  have h1 : (r0_2.idx x 1).val = 768 + (x 1).val := by rw [Rect.idx_unit_val]; rfl
  have h0 : r0_2.idx x 0 = x 0 := Fin.ext (by rw [Rect.idx_unit_val]; exact Nat.zero_add _)
  rw [View.ld_apply, blk0 m ha t]
  unfold past
  by_cases hx : (x 1).val < 64
  · rw [dif_pos hx, dif_pos (by rw [h1]; omega), h0]
    exact congrArg (fun k : Fin 832 => A (ix2 (row t (x 0)) k)) (Fin.ext h1)
  · rw [dif_neg hx, dif_neg (by rw [h1]; omega)]

variable (A G H p)

/-- One entry of the two norms and of the rotated part. -/
def cqOf (i : S8192x512.Idx) : EReal := A (ix2 (i 0) (qcol (i 1))) * qScale (fun k => A (ix2 (i 0) (qcol k))) * G (ix1 (i 1))
def ckOf (i : S8192x256.Idx) : EReal := A (ix2 (i 0) (kcol (i 1))) * kScale (fun k => A (ix2 (i 0) (kcol k))) * H (ix1 (i 1))
def krOf (i : S8192x128.Idx) : EReal :=
  rotAt (fun k => A (ix2 (i 0) (rcol k))) (fun j => cosOf p (ix2 (i 0) j)) (fun j => sinOf p (ix2 (i 0) j)) (i 1).val

variable {A G H p}

include ha hg in
theorem arr5 : (dats m 0 c).arrAt 5 cfg0.N = cqOf A G := by
  refine (dats m 0 c).arrAt_eq_of_covers 5 _ (by decide +kernel) fun t hf y => ?_
  blk_simp
  have hi : ∀ y : S512x512.Idx, (((View.whole main_v22_0).slice (win0_5.rect t)).emb y) = ix2 (row t (y 0)) (y 1) := by
    intro y
    blk_ext [idx t, row]
  have key : ∀ y : S512x512.Idx, out0_5 (F := Ideal) (iblk m c 0 t) (iblk m c 1 t) (iblk m c 2 t) (iblk m c 3 t) (iblk m c 4 t) y
      = cqOf A G (ix2 (row t (y 0)) (y 1)) := by
    intro y
    unfold out0_5
    frame_out
    refine (congrFun (congrArg₂ (k0_pay3 (F := Ideal)) (ld_q m ha t) (blk1 m hg t)) y).trans ?_
    exact q_apply _ _ y
  rw [after0_5, hi]
  exact key y

include ha hh in
theorem arr6 : (dats m 0 c).arrAt 6 cfg0.N = ckOf A H := by
  refine (dats m 0 c).arrAt_eq_of_covers 6 _ (by decide +kernel) fun t hf y => ?_
  blk_simp
  have hi : ∀ y : S512x256.Idx, (((View.whole main_v22_1).slice (win0_6.rect t)).emb y) = ix2 (row t (y 0)) (y 1) := by
    intro y
    blk_ext [idx t, row]
  have key : ∀ y : S512x256.Idx, out0_6 (F := Ideal) (iblk m c 0 t) (iblk m c 1 t) (iblk m c 2 t) (iblk m c 3 t) (iblk m c 4 t) y
      = ckOf A H (ix2 (row t (y 0)) (y 1)) := by
    intro y
    unfold out0_6
    frame_out
    refine (congrFun (congrArg₂ (k0_pay4 (F := Ideal)) (ld_k m ha t) (blk2 m hh t)) y).trans ?_
    exact k_apply _ _ y
  rw [after0_6, hi]
  exact key y

include ha hp in
theorem arr7 : (dats m 0 c).arrAt 7 cfg0.N = krOf A p := by
  refine (dats m 0 c).arrAt_eq_of_covers 7 _ (by decide +kernel) fun t hf y => ?_
  blk_simp
  have hi : ∀ y : S512x128.Idx, (((View.whole main_v22_2).slice (win0_7.rect t)).emb y) = ix2 (row t (y 0)) (y 1) := by
    intro y
    blk_ext [idx t, row]
  have key : ∀ y : S512x128.Idx, out0_7 (F := Ideal) (iblk m c 0 t) (iblk m c 1 t) (iblk m c 2 t) (iblk m c 3 t) (iblk m c 4 t) y
      = krOf A p (ix2 (row t (y 0)) (y 1)) := by
    intro y
    unfold out0_7
    frame_out
    rw [eq_ix2 y]
    exact rot_apply _ _ _ _ _ _ _ _ (fun k => ld_r m ha t (ix2 (y 0) k)) (fun k => blk3 m hp t (ix2 (y 0) k)) (fun k => blk4 m hp t (ix2 (y 0) k))
  rw [after0_7, hi]
  exact key y

end Arrays

end Cert.PrepFwdIdeal.Read

namespace Cert.PrepFwdRefIdeal.Tie

open Cert.PrepFwdRefIdeal Cert.PrepFwdRefIdeal.Gen Cert.PrepFwdRefIdeal.Read Idealize.ShloMosaic Idealize.ShloMosaic.TcCoe Idealize.SL.Sem Cert.Lift
open Cert.PrepFwdIdeal.Read

theorem v54 (A : S8192x832.Idx → EReal) (G : S512.Idx → EReal) : val_main_v54 (F := Ideal) A G = cqOf A G := by
  funext i
  idx_vars i
  pointwise [val_main_v54, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  unfold cqOf qScale qcol
  simp only [zero_add]
  rfl

theorem v55 (A : S8192x832.Idx → EReal) (H : S256.Idx → EReal) : val_main_v55 (F := Ideal) A H = ckOf A H := by
  funext i
  idx_vars i
  pointwise [val_main_v55, val_main_v27, val_main_v26, val_main_v25, val_main_v24, val_main_v23, val_main_v22, val_main_v21, val_main_v20,
    val_main_v19, val_main_v18, val_main_v17, val_main_v16, val_main_v15, val_main_v14, val_main_cst_2, val_main_cst_3, val_main_cst_4]
  rfl

theorem v56 (A : S8192x832.Idx → EReal) (p : S8192.Idx → BitVec 32) : val_main_v56 (F := Ideal) A p = krOf A p := by
  funext i
  idx_vars i
  pointwise [val_main_v56, val_main_v53, val_main_v52, val_main_v51, val_main_v50, val_main_v49, val_main_v48, val_main_v47, val_main_v46,
    val_main_v45, val_main_v44, val_main_v28, val_main_call0_v0]
  show _ = rotAt _ _ _ i1.val
  unfold rotAt
  by_cases h : i1.val < 64
  · rw [dif_pos h, dif_pos h]
    by_cases h1 : i1.val < 32
    · rw [dif_pos h1, dif_pos h1]
      refine congrArg₂ (· - ·) rfl (congrArg (· * _) (congrArg A (congrArg (ix2 _) (Fin.ext ?_))))
      show 768 + (32 + i1.val) = 768 + (i1.val + 32)
      omega
    · rw [dif_neg h1, dif_neg h1]
      refine congrArg₂ (· + ·) (congrArg (· * _) (congrArg A (congrArg (ix2 _) (Fin.ext ?_)))) rfl
      show 768 + (32 + (i1.val - 32)) = 768 + i1.val
      omega
  · rw [dif_neg h, dif_neg h]
    show ((((0#32 : BitVec 32).toInt : ℝ)) : EReal) = _
    simp

end Cert.PrepFwdRefIdeal.Tie
end
-- ==== Proof.PrepFwdClaim.lean ====
/- The norms and the rotation of the latent parts: both programs leave the same three arrays. -/
module

public import proofs.«01_k».proof.Defs
public import proofs.«01_k».proof.Proof.PrepFwdRead
public import proofs.«01_k».proof.Proof.Gen.PrepFwd.Frame
public import proofs.«01_k».proof.Proof.Gen.PrepFwdIdeal.Frame
public import Idealize.ShloMosaic.Adequacy
public import Idealize.ShloMosaic.Init

@[expose] public section

set_option maxRecDepth 16384

noncomputable section

namespace Cert.PrepFwdClaim

open Idealize.ShloMosaic Idealize.ShloMosaic.TcCoe Idealize.SL.Sem

theorem prepFwd_value : algebraic_PrepFwdIdeal_PrepFwdRefIdeal := by
  intro m g m' g' hpre hag
  refine ⟨_, _, _, PrepFwdIdeal.Value.run_blocks m g, (θ_run _ _ _).mono (fun r h c => ?_) (PrepFwdRefIdeal.Value.run m' g')⟩
  obtain ⟨e0, e1, e2, e3⟩ := hag c
  obtain ⟨r0, r1, r2, hk⟩ := h c
  refine ⟨r0.trans ?_, r1.trans ?_, r2.trans ?_, hk⟩
  · rw [e0, e1]
    exact (PrepFwdRefIdeal.Read.val_main_v54_eq _ _).trans ((PrepFwdRefIdeal.Tie.v54 _ _).trans (PrepFwdIdeal.Read.arr5 m rfl rfl).symm)
  · rw [e0, e2]
    exact (PrepFwdRefIdeal.Read.val_main_v55_eq _ _).trans ((PrepFwdRefIdeal.Tie.v55 _ _).trans (PrepFwdIdeal.Read.arr6 m rfl rfl).symm)
  · rw [e0, e3]
    exact (PrepFwdRefIdeal.Read.val_main_v56_eq _ _).trans ((PrepFwdRefIdeal.Tie.v56 _ _).trans (PrepFwdIdeal.Read.arr7 m rfl rfl).symm)

theorem ref_frame : quiescent_PrepFwdRefIdeal := fun m ρ _ =>
  (θ_run PrepFwdRefIdeal.defs _ _).mono (fun r h => ⟨fun c => (h c).2.2.2, sem_eq_zero_of_no_sems (by decide) r.2⟩)
    (PrepFwdRefIdeal.Value.run m ρ)

end Cert.PrepFwdClaim
end
-- ==== Proof.QkvFwdRead.lean ====
/- The queries, keys and values of the latent attention, forward: the arrays the kernel leaves, and the reference's. -/
module

public import proofs.«01_k».proof.Proof.Gen.QkvFwdIdeal.Value
public import proofs.«01_k».proof.Proof.Gen.QkvFwdRefIdeal.Run
public import proofs.«01_k».proof.Proof.Gen.QkvFwdRefIdeal.Read
public import proofs.«01_k».proof.Proof.Lift
public import proofs.«01_k».proof.Proof.PrepFwdRead
public import Idealize.ShloMosaic.PureOps.Ideal.Laws
public import Idealize.ShloMosaic.Lib.Pipeline.ValueKit
public import Idealize.ShloMosaic.Lib.Pointwise

@[expose] public section

set_option maxRecDepth 16384

noncomputable section

namespace Cert.QkvFwdIdeal.Read

open Cert.QkvFwdIdeal Cert.QkvFwdIdeal.Gen Idealize.ShloMosaic Idealize.ShloMosaic.TcCoe Idealize.ShloMosaic.StableHlo Idealize.SL.Sem Cert.Lift
open Idealize.ShloMosaic.Pipeline (Dat)
open Cert.PrepFwdIdeal.Read (past lane rotAt turned turned_eq hTab hTab_apply)

/-- The factor on the queries, one over the root of the head's width. -/
abbrev factor : EReal := Ideal.ofBits .f32 0x3D93CD3A#32

/-- A column within its half of a head, and the two halves of head `g` in the flat weight. -/
def inHalf (j : Fin 256) : Fin 128 := ⟨j.val % 128, Nat.mod_lt _ (by norm_num)⟩
def lo (g : Fin 8) (j : Fin 128) : Fin 2048 := ⟨g.val * 256 + j.val, by omega⟩
def hi (g : Fin 8) (j : Fin 128) : Fin 2048 := ⟨g.val * 256 + 128 + j.val, by omega⟩

/-- A block of rows against the flat weight. -/
def rowq (X : S512x512.Idx → EReal) (W : S512x2048.Idx → EReal) (a : Fin 512) (n : Fin 2048) : EReal := ∑ k, X (ix2 a k) * W (ix2 k n)
def rowk (X : S512x256.Idx → EReal) (W : S256x2048.Idx → EReal) (a : Fin 512) (n : Fin 2048) : EReal := ∑ k, X (ix2 a k) * W (ix2 k n)

theorem fin_of {n k : ℕ} {y : Fin n} (h : y.val = k) : ∃ p : k < n, y = ⟨k, p⟩ := ⟨h ▸ y.isLt, Fin.ext h⟩

theorem lo_zero (j : Fin 128) (h : j.val < 2048) : (⟨j.val, h⟩ : Fin 2048) = lo 0 j :=
  Fin.ext (show j.val = 0 * 256 + j.val by omega)

theorem out7_apply (X0 : S512x512.Idx → EReal) (X1 : S512x256.Idx → EReal) (X2 X3 X4 : S512x128.Idx → EReal)
    (X5 : S512x2048.Idx → EReal) (X6 : S256x2048.Idx → EReal) (g : Fin 8) (a : Fin 512) (j : Fin 256) :
    out0_7 (F := Ideal) X0 X1 X2 X3 X4 X5 X6 (ix3 g a j) = if j.val < 128 then rowq X0 X5 a (lo g (inHalf j)) * factor
      else turned (fun k => rowq X0 X5 a (hi g k)) (fun k => X3 (ix2 a k)) (fun k => X4 (ix2 a k)) (inHalf j) * factor := by
  canon_tiles x h using cover0_7 ..
  all_goals
    idx_vars x
    obtain rfl : a = x1 := Fin.ext h1
    obtain rfl : x0 = 0 := Subsingleton.elim _ _
    rw [show inHalf j = x2 from Fin.ext (show j.val % 128 = x2.val by omega)]
    first | rw [if_pos (by omega)] | rw [if_neg (by omega)]
    obtain ⟨_, rfl⟩ := fin_of h0
    unfold_payloads
    pointwise
  all_goals first | rfl | exact Eq.trans rfl (congrArg (fun n => rowq X0 X5 a n * factor) (lo_zero x2 (by omega)))

theorem out8_apply (X0 : S512x512.Idx → EReal) (X1 : S512x256.Idx → EReal) (X2 X3 X4 : S512x128.Idx → EReal)
    (X5 : S512x2048.Idx → EReal) (X6 : S256x2048.Idx → EReal) (g : Fin 8) (a : Fin 512) (j : Fin 256) :
    out0_8 (F := Ideal) X0 X1 X2 X3 X4 X5 X6 (ix3 g a j) = if j.val < 128 then rowk X1 X6 a (lo g (inHalf j)) else X2 (ix2 a (inHalf j)) := by
  canon_tiles x h using cover0_8 ..
  all_goals
    idx_vars x
    obtain rfl : a = x1 := Fin.ext h1
    obtain rfl : x0 = 0 := Subsingleton.elim _ _
    rw [show inHalf j = x2 from Fin.ext (show j.val % 128 = x2.val by omega)]
    first | rw [if_pos (by omega)] | rw [if_neg (by omega)]
    obtain ⟨_, rfl⟩ := fin_of h0
    unfold_payloads
    pointwise
  all_goals first | rfl | exact Eq.trans rfl (congrArg (fun n => rowk X1 X6 a n) (lo_zero x2 (by omega)))

theorem out9_apply (X0 : S512x512.Idx → EReal) (X1 : S512x256.Idx → EReal) (X2 X3 X4 : S512x128.Idx → EReal)
    (X5 : S512x2048.Idx → EReal) (X6 : S256x2048.Idx → EReal) (g : Fin 8) (a : Fin 512) (j : Fin 128) :
    out0_9 (F := Ideal) X0 X1 X2 X3 X4 X5 X6 (ix3 g a j) = rowk X1 X6 a (hi g j) := by
  canon_tiles x h using cover0_9 ..
  all_goals
    idx_vars x
    obtain rfl : a = x1 := Fin.ext h1
    obtain rfl : x0 = 0 := Subsingleton.elim _ _
    obtain rfl : j = x2 := Fin.ext h2
    obtain ⟨_, rfl⟩ := fin_of h0
    unfold_payloads
    pointwise
  all_goals rfl

variable (m : (ℓ : Loc nD τ sig) → Buf (Elt Ideal) ℓ)

/-- The weight of the queries, each head padded to `256` columns and the heads side by side. -/
def hWq (w : FVec Ideal S512x8x192 .bf16) : FVec Ideal S512x2048 .bf16 :=
  shapeCast S512x2048 (pad S512x8x256 ![0, 0, 0] ![0, 0, 64] ![0, 0, 0] w (sitofp .bf16 (constantI S_ 32 0#32)) pads_S512x8x192_S512x8x256_000_000_0640 h_S_)
    shapeCasts_S512x8x256_S512x2048

theorem hWq_apply (W : S512x8x192.Idx → EReal) (k : Fin 512) (n : Fin 2048) :
    hWq W (ix2 k n) = past (fun d => W (ix3 k ⟨n.val / 256, by omega⟩ d)) (n.val % 256) := by
  unfold hWq past
  pointwise
  by_cases h : n.val % 256 < 192
  · rw [dif_pos ⟨by omega, h⟩, dif_pos h]
  · rw [dif_neg fun e => h e.2, dif_neg h]
    show ((((0#32 : BitVec 32).toInt : ℝ)) : EReal) = _
    simp

def hWk (w : FVec Ideal S256x8x256 .bf16) : FVec Ideal S256x2048 .bf16 := shapeCast S256x2048 w shapeCasts_S256x8x256_S256x2048

theorem hWk_apply (W : S256x8x256.Idx → EReal) (k : Fin 256) (n : Fin 2048) :
    hWk W (ix2 k n) = W (ix3 k ⟨n.val / 256, by omega⟩ ⟨n.val % 256, by omega⟩) := by
  unfold hWk
  pointwise

/-- The turned part of the keys with `64` zero columns behind it. -/
def hKr (x : FVec Ideal S8192x64 .bf16) : FVec Ideal S8192x128 .bf16 :=
  pad S8192x128 ![0, 0] ![0, 64] ![0, 0] x (sitofp .bf16 (constantI S_ 32 0#32)) pads_S8192x64_S8192x128_000_0640 h_S_

theorem hKr_apply (x : S8192x64.Idx → EReal) (y : S8192x128.Idx) : hKr x y = past (fun d => x (ix2 (y 0) d)) (y 1).val := by
  idx_vars y
  unfold hKr past
  pointwise
  split_ifs
  · rfl
  · show ((((0#32 : BitVec 32).toInt : ℝ)) : EReal) = _
    simp

/-- The tables of cosines and sines, as the reference's own stages. -/
abbrev cosOf (p : S8192.Idx → BitVec 32) : S8192x32.Idx → EReal := Cert.QkvFwdRefIdeal.Read.val_main_v18 (F := Ideal) p
abbrev sinOf (p : S8192.Idx → BitVec 32) : S8192x32.Idx → EReal := Cert.QkvFwdRefIdeal.Read.val_main_v19 (F := Ideal) p

theorem V_cq (c : Dev nD) : V m c main_arg0 = m ((c : Thread nD τ).loc main_arg0) := by
  unfold_abbrev_sides
  simp only [List.flatten_cons, List.flatten_nil, List.append_nil, List.cons_append, List.nil_append, TRef.binary, TRef.nullary, TRef.ternary, TRef.unary, TRef.toBuf, TRef.ofBuf, cast_eq]
  after_results_simp

theorem V_ckv (c : Dev nD) : V m c main_arg1 = m ((c : Thread nD τ).loc main_arg1) := by
  unfold_abbrev_sides
  simp only [List.flatten_cons, List.flatten_nil, List.append_nil, List.cons_append, List.nil_append, TRef.binary, TRef.nullary, TRef.ternary, TRef.unary, TRef.toBuf, TRef.ofBuf, cast_eq]
  after_results_simp

theorem V_kr (c : Dev nD) : V m c main_v18 = hKr (m ((c : Thread nD τ).loc main_arg2)) := by
  unfold_abbrev_sides
  simp only [List.flatten_cons, List.flatten_nil, List.append_nil, List.cons_append, List.nil_append, TRef.binary, TRef.nullary, TRef.ternary, TRef.unary, TRef.toBuf, TRef.ofBuf, cast_eq]
  after_results_simp
  rfl

theorem V_cos (c : Dev nD) : V m c main_v20 = hTab (cosOf (m ((c : Thread nD τ).loc main_arg3))) := by
  unfold_abbrev_sides
  simp only [List.flatten_cons, List.flatten_nil, List.append_nil, List.cons_append, List.nil_append, TRef.binary, TRef.nullary, TRef.ternary, TRef.unary, TRef.toBuf, TRef.ofBuf, cast_eq]
  after_results_simp
  rfl

theorem V_sin (c : Dev nD) : V m c main_v22 = hTab (sinOf (m ((c : Thread nD τ).loc main_arg3))) := by
  unfold_abbrev_sides
  simp only [List.flatten_cons, List.flatten_nil, List.append_nil, List.cons_append, List.nil_append, TRef.binary, TRef.nullary, TRef.ternary, TRef.unary, TRef.toBuf, TRef.ofBuf, cast_eq]
  after_results_simp
  rfl

theorem V_wq (c : Dev nD) : V m c main_v16 = hWq (m ((c : Thread nD τ).loc main_arg4)) := by
  unfold_abbrev_sides
  simp only [List.flatten_cons, List.flatten_nil, List.append_nil, List.cons_append, List.nil_append, TRef.binary, TRef.nullary, TRef.ternary, TRef.unary, TRef.toBuf, TRef.ofBuf, cast_eq]
  after_results_simp
  rfl

theorem V_wk (c : Dev nD) : V m c main_v17 = hWk (m ((c : Thread nD τ).loc main_arg5)) := by
  unfold_abbrev_sides
  simp only [List.flatten_cons, List.flatten_nil, List.append_nil, List.cons_append, List.nil_append, TRef.binary, TRef.nullary, TRef.ternary, TRef.unary, TRef.toBuf, TRef.ofBuf, cast_eq]
  after_results_simp
  rfl

theorem idx : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, t.val, 0] ∧ win0_8.index t = ![0, t.val, 0] ∧ win0_9.index t = ![0, t.val, 0] := by
  decide +kernel

/-- Row `a` of point `t`'s block. -/
def row (t : Fin cfg0.N) (a : Fin 512) : Fin 8192 := ⟨t.val * 512 + a.val, by have : t.val < 16 := t.isLt; omega⟩

section Arrays
variable {A : S8192x512.Idx → EReal} {B : S8192x256.Idx → EReal} {K : S8192x64.Idx → EReal} {p : S8192.Idx → BitVec 32}
  {W : S512x8x192.Idx → EReal} {Z : S256x8x256.Idx → EReal} {c : Dev nD}
  (ha : m ((c : Thread nD τ).loc main_arg0) = A) (hb : m ((c : Thread nD τ).loc main_arg1) = B)
  (hk : m ((c : Thread nD τ).loc main_arg2) = K) (hp : m ((c : Thread nD τ).loc main_arg3) = p)
  (hw : m ((c : Thread nD τ).loc main_arg4) = W) (hz : m ((c : Thread nD τ).loc main_arg5) = Z)

include ha in
theorem blk0 (t : Fin cfg0.N) (y : S512x512.Idx) : iblk m c 0 t y = A (ix2 (row t (y 0)) (y 1)) := by
  have h : iblk m c 0 t = fun y => V m c main_arg0 (ix2 (row t (y 0)) (y 1)) := by
    funext y
    blk_ext [iblk, idx t, row]
  rw [h, V_cq, ha]

include hb in
theorem blk1 (t : Fin cfg0.N) (y : S512x256.Idx) : iblk m c 1 t y = B (ix2 (row t (y 0)) (y 1)) := by
  have h : iblk m c 1 t = fun y => V m c main_arg1 (ix2 (row t (y 0)) (y 1)) := by
    funext y
    blk_ext [iblk, idx t, row]
  rw [h, V_ckv, hb]

include hk in
theorem blk2 (t : Fin cfg0.N) (y : S512x128.Idx) : iblk m c 2 t y = past (fun d => K (ix2 (row t (y 0)) d)) (y 1).val := by
  have h : iblk m c 2 t = fun y => V m c main_v18 (ix2 (row t (y 0)) (y 1)) := by
    funext y
    blk_ext [iblk, idx t, row]
  rw [h, V_kr, hk]
  exact hKr_apply _ _

include hp in
theorem blk3 (t : Fin cfg0.N) (y : S512x128.Idx) : iblk m c 3 t y = lane (fun j => cosOf p (ix2 (row t (y 0)) j)) (y 1).val := by
  have h : iblk m c 3 t = fun y => V m c main_v20 (ix2 (row t (y 0)) (y 1)) := by
    funext y
    blk_ext [iblk, idx t, row]
  rw [h, V_cos, hp]
  exact hTab_apply _ _

include hp in
theorem blk4 (t : Fin cfg0.N) (y : S512x128.Idx) : iblk m c 4 t y = lane (fun j => sinOf p (ix2 (row t (y 0)) j)) (y 1).val := by
  have h : iblk m c 4 t = fun y => V m c main_v22 (ix2 (row t (y 0)) (y 1)) := by
    funext y
    blk_ext [iblk, idx t, row]
  rw [h, V_sin, hp]
  exact hTab_apply _ _

include hw in
theorem blk5 (t : Fin cfg0.N) : iblk m c 5 t = hWq W := by
  have h : iblk m c 5 t = fun y => V m c main_v16 y := by
    funext y
    blk_ext [iblk, idx t]
  rw [h, V_wq, hw]

include hz in
theorem blk6 (t : Fin cfg0.N) : iblk m c 6 t = hWk Z := by
  have h : iblk m c 6 t = fun y => V m c main_v17 y := by
    funext y
    blk_ext [iblk, idx t]
  rw [h, V_wk, hz]

variable (A B K p W Z)

/-- One entry of a head's queries before the turn, and of its keys and values. -/
def qv (r : Fin 8192) (g : Fin 8) (d : Fin 192) : EReal := ∑ k, W (ix3 k g d) * A (ix2 r k)
def kv (r : Fin 8192) (g : Fin 8) (d : Fin 256) : EReal := ∑ k, Z (ix3 k g d) * B (ix2 r k)

/-- The columns of a head's two halves. -/
def qlo (j : Fin 128) : Fin 192 := ⟨j.val, by omega⟩
def qhi (j : Fin 64) : Fin 192 := ⟨128 + j.val, by omega⟩
def klo (j : Fin 128) : Fin 256 := ⟨j.val, by omega⟩
def khi (j : Fin 128) : Fin 256 := ⟨128 + j.val, by omega⟩

/-- One entry of the queries, the keys and the values. -/
def qOf (g : Fin 8) (r : Fin 8192) (j : Fin 256) : EReal :=
  if j.val < 128 then qv A W r g (qlo (inHalf j)) * factor
  else rotAt (fun d => qv A W r g (qhi d)) (fun k => cosOf p (ix2 r k)) (fun k => sinOf p (ix2 r k)) (inHalf j).val * factor
def kOf (g : Fin 8) (r : Fin 8192) (j : Fin 256) : EReal :=
  if j.val < 128 then kv B Z r g (klo (inHalf j)) else past (fun d => K (ix2 r d)) (inHalf j).val

variable {A B K p W Z}

include ha hw in
theorem rowq_lo (t : Fin cfg0.N) (a : Fin 512) (g : Fin 8) (j : Fin 128) :
    rowq (iblk m c 0 t) (iblk m c 5 t) a (lo g j) = qv A W (row t a) g (qlo j) := by
  unfold rowq qv
  refine Finset.sum_congr rfl fun k _ => ?_
  rw [blk0 m ha t, blk5 m hw t, hWq_apply, mul_comm]
  have e1 : (lo g j).val % 256 = j.val := by show (g.val * 256 + j.val) % 256 = _; omega
  have e2 : (⟨(lo g j).val / 256, by omega⟩ : Fin 8) = g := Fin.ext (by show (g.val * 256 + j.val) / 256 = _; omega)
  rw [e1, e2, past, dif_pos (by omega)]
  rfl

include ha hw in
theorem rowq_hi (t : Fin cfg0.N) (a : Fin 512) (g : Fin 8) (j : Fin 128) :
    rowq (iblk m c 0 t) (iblk m c 5 t) a (hi g j) = past (fun d => qv A W (row t a) g (qhi d)) j.val := by
  have e1 : (hi g j).val % 256 = 128 + j.val := by show (g.val * 256 + 128 + j.val) % 256 = _; omega
  have e2 : (⟨(hi g j).val / 256, by omega⟩ : Fin 8) = g := Fin.ext (by show (g.val * 256 + 128 + j.val) / 256 = _; omega)
  have e : rowq (iblk m c 0 t) (iblk m c 5 t) a (hi g j) = ∑ k, past (fun d => W (ix3 k g d)) (128 + j.val) * A (ix2 (row t a) k) := by
    unfold rowq
    refine Finset.sum_congr rfl fun k _ => ?_
    rw [blk0 m ha t, blk5 m hw t, hWq_apply, mul_comm, e1, e2]
    rfl
  rw [e]
  unfold past qv
  by_cases h : j.val < 64
  · rw [dif_pos h]
    refine Finset.sum_congr rfl fun k _ => ?_
    rw [dif_pos (show 128 + j.val < 192 by omega)]
    rfl
  · rw [dif_neg h]
    refine Finset.sum_eq_zero fun k _ => ?_
    rw [dif_neg (show ¬ 128 + j.val < 192 by omega), zero_mul]

include hb hz in
theorem rowk_lo (t : Fin cfg0.N) (a : Fin 512) (g : Fin 8) (j : Fin 128) :
    rowk (iblk m c 1 t) (iblk m c 6 t) a (lo g j) = kv B Z (row t a) g (klo j) := by
  unfold rowk kv
  refine Finset.sum_congr rfl fun k _ => ?_
  rw [blk1 m hb t, blk6 m hz t, hWk_apply, mul_comm]
  exact congrArg₂ (fun (g' : Fin 8) (d : Fin 256) => Z (ix3 k g' d) * B (ix2 (row t a) k))
    (Fin.ext (by show (g.val * 256 + j.val) / 256 = _; omega)) (Fin.ext (by show (g.val * 256 + j.val) % 256 = j.val; omega))

include hb hz in
theorem rowk_hi (t : Fin cfg0.N) (a : Fin 512) (g : Fin 8) (j : Fin 128) :
    rowk (iblk m c 1 t) (iblk m c 6 t) a (hi g j) = kv B Z (row t a) g (khi j) := by
  unfold rowk kv
  refine Finset.sum_congr rfl fun k _ => ?_
  rw [blk1 m hb t, blk6 m hz t, hWk_apply, mul_comm]
  exact congrArg₂ (fun (g' : Fin 8) (d : Fin 256) => Z (ix3 k g' d) * B (ix2 (row t a) k))
    (Fin.ext (by show (g.val * 256 + 128 + j.val) / 256 = _; omega)) (Fin.ext (by show (g.val * 256 + 128 + j.val) % 256 = 128 + j.val; omega))

include ha hp hw in
theorem arr7 : (dats m 0 c).arrAt 7 cfg0.N = fun i : S8x8192x256.Idx => qOf A p W (i 0) (i 1) (i 2) := by
  refine (dats m 0 c).arrAt_eq_of_covers 7 _ (by decide +kernel) fun t hf y => ?_
  blk_simp
  have hi : ∀ y : S8x512x256.Idx, (((View.whole main_v23_0).slice (win0_7.rect t)).emb y) = ix3 (y 0) (row t (y 1)) (y 2) := by
    intro y
    blk_ext [idx t, row]
  have key : ∀ y : S8x512x256.Idx, out0_7 (F := Ideal) (iblk m c 0 t) (iblk m c 1 t) (iblk m c 2 t) (iblk m c 3 t) (iblk m c 4 t)
      (iblk m c 5 t) (iblk m c 6 t) y = qOf A p W (y 0) (row t (y 1)) (y 2) := by
    intro y
    idx_vars y
    show _ = qOf A p W y0 (row t y1) y2
    rw [out7_apply]
    unfold qOf
    refine if_congr Iff.rfl (congrArg (· * factor) (rowq_lo m ha hw t _ _ _)) (congrArg (· * factor) ?_)
    rw [← turned_eq]
    exact congrFun (congr (congrArg₂ turned (funext fun k => rowq_hi m ha hw t _ _ k) (funext fun k => blk3 m hp t (ix2 y1 k)))
      (funext fun k => blk4 m hp t (ix2 y1 k))) _
  rw [after0_7, hi]
  exact key y

include hb hk hz in
theorem arr8 : (dats m 0 c).arrAt 8 cfg0.N = fun i : S8x8192x256.Idx => kOf B K Z (i 0) (i 1) (i 2) := by
  refine (dats m 0 c).arrAt_eq_of_covers 8 _ (by decide +kernel) fun t hf y => ?_
  blk_simp
  have hi : ∀ y : S8x512x256.Idx, (((View.whole main_v23_1).slice (win0_8.rect t)).emb y) = ix3 (y 0) (row t (y 1)) (y 2) := by
    intro y
    blk_ext [idx t, row]
  have key : ∀ y : S8x512x256.Idx, out0_8 (F := Ideal) (iblk m c 0 t) (iblk m c 1 t) (iblk m c 2 t) (iblk m c 3 t) (iblk m c 4 t)
      (iblk m c 5 t) (iblk m c 6 t) y = kOf B K Z (y 0) (row t (y 1)) (y 2) := by
    intro y
    idx_vars y
    show _ = kOf B K Z y0 (row t y1) y2
    rw [out8_apply]
    exact if_congr Iff.rfl (rowk_lo m hb hz t _ _ _) (blk2 m hk t _)
  rw [after0_8, hi]
  exact key y

include hb hz in
theorem arr9 : (dats m 0 c).arrAt 9 cfg0.N = fun i : S8x8192x128.Idx => kv B Z (i 1) (i 0) (khi (i 2)) := by
  refine (dats m 0 c).arrAt_eq_of_covers 9 _ (by decide +kernel) fun t hf y => ?_
  blk_simp
  have hi : ∀ y : S8x512x128.Idx, (((View.whole main_v23_2).slice (win0_9.rect t)).emb y) = ix3 (y 0) (row t (y 1)) (y 2) := by
    intro y
    blk_ext [idx t, row]
  have key : ∀ y : S8x512x128.Idx, out0_9 (F := Ideal) (iblk m c 0 t) (iblk m c 1 t) (iblk m c 2 t) (iblk m c 3 t) (iblk m c 4 t)
      (iblk m c 5 t) (iblk m c 6 t) y = kv B Z (row t (y 1)) (y 0) (khi (y 2)) := by
    intro y
    idx_vars y
    show _ = kv B Z (row t y1) y0 (khi y2)
    rw [out9_apply]
    exact rowk_hi m hb hz t _ _ _
  rw [after0_9, hi]
  exact key y

end Arrays

end Cert.QkvFwdIdeal.Read

namespace Cert.QkvFwdRefIdeal.Tie

open Cert.QkvFwdRefIdeal Cert.QkvFwdRefIdeal.Gen Cert.QkvFwdRefIdeal.Read Idealize.ShloMosaic Idealize.ShloMosaic.TcCoe Idealize.SL.Sem Cert.Lift
open Cert.QkvFwdIdeal.Read
open Cert.PrepFwdIdeal.Read (past rotAt)

theorem v21 (A : S8192x512.Idx → EReal) (W : S512x8x192.Idx → EReal) (g : Fin 8) (r : Fin 8192) (d : Fin 192) :
    val_main_v21 (F := Ideal) A W (ix3 g r d) = qv A W r g d := by
  pointwise [val_main_v21, val_main_v20, val_main_v3, val_main_v0]
  rfl

/-- The reference's choice by column, as the kernel's: the plain half, the turned part, and zero. -/
theorem pick (f : Fin 192 → EReal) (c s : Fin 32 → EReal) (q z : EReal) (hz : z = 0) (j : Fin 256) :
    (if h : j.val < 192 then
      (if h1 : j.val < 128 then f ⟨j.val, h⟩
        else if h2 : j.val - 128 < 32 then
          f ⟨128 + (j.val - 128), by omega⟩ * c ⟨j.val - 128, h2⟩ - f ⟨128 + (32 + (j.val - 128)), by omega⟩ * s ⟨j.val - 128, h2⟩
        else f ⟨128 + (32 + (j.val - 128 - 32)), by omega⟩ * c ⟨j.val - 128 - 32, by omega⟩
          + f ⟨128 + (j.val - 128 - 32), by omega⟩ * s ⟨j.val - 128 - 32, by omega⟩) * q
      else z)
      = if j.val < 128 then f (qlo (inHalf j)) * q else rotAt (fun d => f (qhi d)) c s (inHalf j).val * q := by
  have hm : (inHalf j).val = j.val % 128 := rfl
  by_cases h : j.val < 192
  · rw [dif_pos h]
    by_cases h1 : j.val < 128
    · rw [dif_pos h1, if_pos h1]
      exact congrArg (fun d => f d * q) (Fin.ext (show j.val = j.val % 128 by omega))
    · have e : j.val % 128 = j.val - 128 := by omega
      rw [dif_neg h1, if_neg h1, hm, e, rotAt, dif_pos (show j.val - 128 < 64 by omega)]
      refine congrArg (· * q) ?_
      by_cases h2 : j.val - 128 < 32
      · rw [dif_pos h2, dif_pos h2]
        refine congrArg₂ (· - ·) rfl (congrArg₂ (· * ·) (congrArg f (Fin.ext ?_)) rfl)
        show 128 + (32 + (j.val - 128)) = 128 + (j.val - 128 + 32)
        omega
      · rw [dif_neg h2, dif_neg h2]
        refine congrArg₂ (· + ·) (congrArg₂ (· * ·) (congrArg f (Fin.ext ?_)) rfl) rfl
        show 128 + (32 + (j.val - 128 - 32)) = 128 + (j.val - 128)
        omega
  · rw [dif_neg h, if_neg (show ¬ j.val < 128 by omega), hm, rotAt, dif_neg (show ¬ j.val % 128 < 64 by omega), zero_mul]
    exact hz

theorem v52 (A : S8192x512.Idx → EReal) (p : S8192.Idx → BitVec 32) (W : S512x8x192.Idx → EReal) :
    val_main_v52 (F := Ideal) A p W = fun i => qOf A p W (i 0) (i 1) (i 2) := by
  funext i
  idx_vars i
  show _ = qOf A p W i0 i1 i2
  pointwise [val_main_v52, val_main_v49, val_main_v45, val_main_v44, val_main_v43, val_main_v42, val_main_v41, val_main_v40, val_main_v39,
    val_main_v38, val_main_v37, val_main_v36, val_main_v35, val_main_v34, val_main_v33, val_main_v32, val_main_v31, val_main_v30, val_main_v29,
    val_main_v28, val_main_v27, val_main_v26, val_main_v25, val_main_v24, val_main_call0_v0, val_main_cst_2]
  simp only [v21]
  refine pick (qv A W i1 i0) (fun k => cosOf p (ix2 i1 k)) (fun k => sinOf p (ix2 i1 k)) factor _ ?_ i2
  show ((((0#32 : BitVec 32).toInt : ℝ)) : EReal) = _
  simp

theorem v53 (B : S8192x256.Idx → EReal) (K : S8192x64.Idx → EReal) (Z : S256x8x256.Idx → EReal) :
    val_main_v53 (F := Ideal) B K Z = fun i => kOf B K Z (i 0) (i 1) (i 2) := by
  funext i
  idx_vars i
  show _ = kOf B K Z i0 i1 i2
  pointwise [val_main_v53, val_main_v50, val_main_v48, val_main_v47, val_main_v46, val_main_v23, val_main_v22, val_main_v4, val_main_v1,
    val_main_v2, val_main_call1_v0]
  unfold kOf
  have hm : (inHalf i2).val = i2.val % 128 := rfl
  by_cases h : i2.val < 192
  · rw [dif_pos h]
    by_cases h1 : i2.val < 128
    · rw [dif_pos h1, if_pos h1]
      exact congrArg (fun d => kv B Z i1 i0 d) (Fin.ext (show i2.val = i2.val % 128 by omega))
    · have e : i2.val % 128 = i2.val - 128 := by omega
      rw [dif_neg h1, if_neg h1, hm, e, past, dif_pos (show i2.val - 128 < 64 by omega)]
  · rw [dif_neg h, if_neg (show ¬ i2.val < 128 by omega), hm, past, dif_neg (show ¬ i2.val % 128 < 64 by omega)]
    show ((((0#32 : BitVec 32).toInt : ℝ)) : EReal) = _
    simp

theorem v54 (B : S8192x256.Idx → EReal) (Z : S256x8x256.Idx → EReal) :
    val_main_v54 (F := Ideal) B Z = fun i => kv B Z (i 1) (i 0) (khi (i 2)) := by
  funext i
  idx_vars i
  pointwise [val_main_v54, val_main_v51, val_main_v23, val_main_v22, val_main_v4, val_main_v1]
  rfl

end Cert.QkvFwdRefIdeal.Tie
end
-- ==== Proof.QkvFwdClaim.lean ====
/- The queries, keys and values, forward: both programs leave the same three arrays. -/
module

public import proofs.«01_k».proof.Defs
public import proofs.«01_k».proof.Proof.QkvFwdRead
public import proofs.«01_k».proof.Proof.Gen.QkvFwd.Frame
public import proofs.«01_k».proof.Proof.Gen.QkvFwdIdeal.Frame
public import Idealize.ShloMosaic.Adequacy
public import Idealize.ShloMosaic.Init

@[expose] public section

set_option maxRecDepth 16384

noncomputable section

namespace Cert.QkvFwdClaim

open Idealize.ShloMosaic Idealize.ShloMosaic.TcCoe Idealize.SL.Sem

theorem qkvFwd_value : algebraic_QkvFwdIdeal_QkvFwdRefIdeal := by
  intro m g m' g' hpre hag
  refine ⟨_, _, _, QkvFwdIdeal.Value.run_blocks m g, (θ_run _ _ _).mono (fun r h c => ?_) (QkvFwdRefIdeal.Value.run m' g')⟩
  obtain ⟨e0, e1, e2, e3, e4, e5⟩ := hag c
  obtain ⟨r0, r1, r2, hk⟩ := h c
  refine ⟨r0.trans ?_, r1.trans ?_, r2.trans ?_, hk⟩
  · rw [QkvFwdRefIdeal.Read.val_main_v52_eq, e0, e3, e4]
    exact (QkvFwdRefIdeal.Tie.v52 _ _ _).trans (QkvFwdIdeal.Read.arr7 m rfl rfl rfl).symm
  · rw [e1, e2, e5]
    exact (QkvFwdRefIdeal.Read.val_main_v53_eq _ _ _).trans ((QkvFwdRefIdeal.Tie.v53 _ _ _).trans (QkvFwdIdeal.Read.arr8 m rfl rfl rfl).symm)
  · rw [e1, e5]
    exact (QkvFwdRefIdeal.Read.val_main_v54_eq _ _).trans ((QkvFwdRefIdeal.Tie.v54 _ _).trans (QkvFwdIdeal.Read.arr9 m rfl rfl).symm)

theorem ref_frame : quiescent_QkvFwdRefIdeal := fun m ρ _ =>
  (θ_run QkvFwdRefIdeal.defs _ _).mono (fun r h => ⟨fun c => (h c).2.2.2, sem_eq_zero_of_no_sems (by decide) r.2⟩)
    (QkvFwdRefIdeal.Value.run m ρ)

end Cert.QkvFwdClaim
end
-- ==== Proof.ProductRead.lean ====
/- The product of the mixers' last step: the array the kernel leaves, and the reference's. -/
module

public import proofs.«01_k».proof.Proof.Gen.ProductIdeal.Value
public import proofs.«01_k».proof.Proof.Gen.ProductRefIdeal.Run
public import proofs.«01_k».proof.Proof.Gen.ProductRefIdeal.Read
public import proofs.«01_k».proof.Proof.Lift
public import Idealize.ShloMosaic.PureOps.Ideal.Laws
public import Idealize.ShloMosaic.Lib.Pipeline.ValueKit
public import Idealize.ShloMosaic.Lib.Pointwise

@[expose] public section

set_option maxRecDepth 16384

noncomputable section

namespace Cert.ProductIdeal.Read

open Cert.ProductIdeal Cert.ProductIdeal.Gen Idealize.ShloMosaic Idealize.ShloMosaic.TcCoe Idealize.ShloMosaic.StableHlo Idealize.SL.Sem Cert.Lift
open Idealize.ShloMosaic.Pipeline (Dat)

/-- One entry of the residual stream plus the product. -/
def stepAt (S : S8192x1024.Idx → EReal) (W : S1024x1024.Idx → EReal) (H : S8192x1024.Idx → EReal) (r : Fin 8192) (j : Fin 1024) : EReal :=
  H (ix2 r j) + ∑ k : Fin 1024, S (ix2 r k) * W (ix2 k j)

theorem out_apply (S : S512x1024.Idx → EReal) (W : S1024x1024.Idx → EReal) (H : S512x1024.Idx → EReal) (y : S512x1024.Idx) :
    out0_3 (F := Ideal) S W H y = H y + ∑ k : Fin 1024, S (ix2 (y 0) k) * W (ix2 k (y 1)) := by
  canon_tiles x h using cover0_3 ..
  obtain rfl : y = x := (eq_ix2 y).trans ((congrArg₂ ix2 (Fin.ext h0) (Fin.ext h1)).trans (eq_ix2 x).symm)
  idx_vars y
  unfold_payloads
  pointwise

variable (m : (ℓ : Loc nD τ sig) → Buf (Elt Ideal) ℓ)

theorem idx : ∀ t : Fin grid0.N, win0_0.index t = ![t.val, 0] ∧ win0_1.index t = ![0, 0] ∧ win0_2.index t = ![t.val, 0]
    ∧ win0_3.index t = ![t.val, 0] := by
  decide +kernel

/-- Row `a` of point `t`'s block. -/
def row (t : Fin cfg0.N) (a : Fin 512) : Fin 8192 := ⟨t.val * 512 + a.val, by have : t.val < 16 := t.isLt; omega⟩

theorem arr3 (c : Dev nD) (S : S8192x1024.Idx → EReal) (W : S1024x1024.Idx → EReal) (H : S8192x1024.Idx → EReal)
    (hs : m ((c : Thread nD τ).loc main_arg0) = S) (hw : m ((c : Thread nD τ).loc main_arg1) = W)
    (hh : m ((c : Thread nD τ).loc main_arg2) = H) :
    (dats m 0 c).arrAt 3 cfg0.N = fun i : S8192x1024.Idx => stepAt S W H (i 0) (i 1) := by
  refine (dats m 0 c).arrAt_eq_of_covers 3 _ (by decide +kernel) fun t hf y => ?_
  blk_simp
  rw [after0_3]
  have b0 : iblk m c 0 t = fun y => m ((c : Thread nD τ).loc main_arg0) (ix2 (row t (y 0)) (y 1)) := by
    funext y
    blk_ext [iblk, V, idx t, row]
  have b1 : iblk m c 1 t = fun y => m ((c : Thread nD τ).loc main_arg1) y := by
    funext y
    blk_ext [iblk, V, idx t]
  have b2 : iblk m c 2 t = fun y => m ((c : Thread nD τ).loc main_arg2) (ix2 (row t (y 0)) (y 1)) := by
    funext y
    blk_ext [iblk, V, idx t, row]
  have hi : ∀ y : S512x1024.Idx, (((View.whole main_v0).slice (win0_3.rect t)).emb y) = ix2 (row t (y 0)) (y 1) := by
    intro y
    blk_ext [idx t, row]
  rw [b0, b1, b2, hs, hw, hh, hi]
  exact out_apply _ _ _ y

end Cert.ProductIdeal.Read

namespace Cert.ProductRefIdeal.Tie

open Cert.ProductRefIdeal Cert.ProductRefIdeal.Gen Cert.ProductRefIdeal.Read Idealize.ShloMosaic Idealize.ShloMosaic.TcCoe Idealize.SL.Sem Cert.Lift
open Cert.ProductIdeal.Read

theorem v3 (S : S8192x1024.Idx → EReal) (W : S1024x1024.Idx → EReal) (H : S8192x1024.Idx → EReal) :
    val_main_v3 (F := Ideal) S W H = fun i => stepAt S W H (i 0) (i 1) := by
  funext i
  idx_vars i
  pointwise [val_main_v3, val_main_v2, val_main_v1, val_main_v0]
  rfl

end Cert.ProductRefIdeal.Tie
end
-- ==== Proof.ProductClaim.lean ====
/- One product of the training step: both programs leave the same array. -/
module

public import proofs.«01_k».proof.Defs
public import proofs.«01_k».proof.Proof.ProductRead
public import proofs.«01_k».proof.Proof.Gen.Product.Frame
public import proofs.«01_k».proof.Proof.Gen.ProductIdeal.Frame
public import Idealize.ShloMosaic.Adequacy
public import Idealize.ShloMosaic.Init

@[expose] public section

set_option maxRecDepth 16384

noncomputable section

namespace Cert.ProductClaim

open Idealize.ShloMosaic Idealize.ShloMosaic.TcCoe Idealize.SL.Sem

theorem product_value : algebraic_ProductIdeal_ProductRefIdeal := by
  intro m g m' g' hpre hag
  refine ⟨_, ProductIdeal.Value.run_blocks m g, (θ_run _ _ _).mono (fun r h c => ?_) (ProductRefIdeal.Value.run m' g')⟩
  obtain ⟨e0, e1, e2⟩ := hag c
  obtain ⟨r0, hk⟩ := h c
  refine ⟨r0.trans ?_, hk⟩
  · rw [e0, e1, e2]
    exact (ProductRefIdeal.Read.val_main_v3_eq _ _ _).trans ((ProductRefIdeal.Tie.v3 _ _ _).trans (ProductIdeal.Read.arr3 m c _ _ _ rfl rfl rfl).symm)

theorem ref_frame : quiescent_ProductRefIdeal := fun m ρ _ =>
  (θ_run ProductRefIdeal.defs _ _).mono (fun r h => ⟨fun c => (h c).2, sem_eq_zero_of_no_sems (by decide) r.2⟩)
    (ProductRefIdeal.Value.run m ρ)

end Cert.ProductClaim
end
-- ==== Proof.WeightGradRead.lean ====
/- One weight gradient: the array the kernel leaves, and the reference's. -/
module

public import proofs.«01_k».proof.Proof.Gen.WeightGradIdeal.Value
public import proofs.«01_k».proof.Proof.Gen.WeightGradRefIdeal.Run
public import proofs.«01_k».proof.Proof.Gen.WeightGradRefIdeal.Read
public import proofs.«01_k».proof.Proof.Lift
public import Idealize.ShloMosaic.Lib.Pipeline.ReadBack
public import Idealize.ShloMosaic.PureOps.Ideal.Laws
public import Idealize.ShloMosaic.Lib.Pipeline.ValueKit
public import Idealize.ShloMosaic.Lib.Pointwise

@[expose] public section

set_option maxRecDepth 16384

noncomputable section

namespace Cert.WeightGradIdeal.Read

open Cert.WeightGradIdeal Cert.WeightGradIdeal.Gen Idealize.ShloMosaic Idealize.ShloMosaic.TcCoe Idealize.ShloMosaic.StableHlo Idealize.SL.Sem Cert.Lift
open Idealize.ShloMosaic.Pipeline (Dat)

/-- The gradient of one weight: a column of the outputs' gradients against a column of the inputs. -/
def wgAt (Z : S8192x2816.Idx → EReal) (N : S8192x1024.Idx → EReal) (i : Fin 2816) (j : Fin 1024) : EReal :=
  ∑ r : Fin 8192, Z (ix2 r i) * N (ix2 r j)

theorem acc_apply (Y : S1408x1024.Idx → EReal) (Z : S2048x1408.Idx → EReal) (N : S2048x1024.Idx → EReal) (y : S1408x1024.Idx) :
    k0_pay2 (F := Ideal) Y Z N y = Y y + ∑ r : Fin 2048, Z (ix2 r (y 0)) * N (ix2 r (y 1)) := by
  idx_vars y
  unfold_payloads
  pointwise

theorem cast_apply (Y : S1408x1024.Idx → EReal) (y : S1408x1024.Idx) : k0_pay3 (F := Ideal) Y y = Y y := by
  idx_vars y
  pointwise [k0_pay3]

variable (m : (ℓ : Loc nD τ sig) → Buf (Elt Ideal) ℓ)

theorem idx : ∀ t : Fin grid0.N, win0_0.index t = ![t.val % 4, t.val / 4] ∧ win0_1.index t = ![t.val % 4, 0]
    ∧ win0_2.index t = ![t.val / 4, 0] := by
  decide +kernel

/-- Row `r` of point `t`'s blocks, and the weight's row its column `a` stands for. -/
def row (t : Fin cfg0.N) (r : Fin 2048) : Fin 8192 := ⟨t.val % 4 * 2048 + r.val, by omega⟩
def col (t : Fin cfg0.N) (a : Fin 1408) : Fin 2816 := ⟨t.val / 4 * 1408 + a.val, by have : t.val < 8 := t.isLt; omega⟩

/-- What point `t` adds. -/
def part (Z : S8192x2816.Idx → EReal) (N : S8192x1024.Idx → EReal) (t : Fin cfg0.N) (y : S1408x1024.Idx) : EReal :=
  ∑ r : Fin 2048, Z (ix2 (row t r) (col t (y 0))) * N (ix2 (row t r) (y 1))

section Arrays
variable {Z : S8192x2816.Idx → EReal} {N : S8192x1024.Idx → EReal} {c : Dev nD}
  (hz : m ((c : Thread nD τ).loc main_arg0) = Z) (hn : m ((c : Thread nD τ).loc main_arg1) = N)

include hz in
theorem blk0 (t : Fin cfg0.N) : iblk m c 0 t = fun y => Z (ix2 (row t (y 0)) (col t (y 1))) := by
  rw [← hz]
  funext y
  blk_ext [iblk, V, idx t, row, col]

include hn in
theorem blk1 (t : Fin cfg0.N) : iblk m c 1 t = fun y => N (ix2 (row t (y 0)) (y 1)) := by
  rw [← hn]
  funext y
  blk_ext [iblk, V, idx t, row]

include hz hn

theorem acc_blk (t : Fin cfg0.N) (Y : S1408x1024.Idx → EReal) (y : S1408x1024.Idx) :
    k0_pay2 (F := Ideal) Y (iblk m c 0 t) (iblk m c 1 t) y = Y y + part Z N t y := by
  rw [blk0 m hz t, blk1 m hn t]
  exact acc_apply _ _ _ y

theorem arr2 : (dats m 0 c).arrAt 2 cfg0.N = fun i : S2816x1024.Idx => wgAt Z N (i 0) (i 1) := by
  refine (dats m 0 c).arrAt_eq_of_covers 2 _ (by decide +kernel) fun t hf y => ?_
  blk_simp
  rw [after0_2]
  have hi : ∀ y : S1408x1024.Idx, (((View.whole main_v0).slice (win0_2.rect t)).emb y) = ix2 (col t (y 0)) (y 1) := by
    intro y
    blk_ext [idx t, col]
  have hr : t.val % 4 = 3 := (flush0_2 t).mp hf
  have hl : (outsAt0 m c t.val t.isLt).1 y = (outsAt0 m c t.val t.isLt).2 y := by
    rw [outsAt0_C m c t (by omega) hr]
    frame_out
    exact cast_apply _ _
  rw [hi]
  refine hl.trans ((Pipeline.eq_sum_fin_of_reset_step_apply_of_flush (fun n h => (outsAt0 m c n h).2) 4 (fun _ => (0 : EReal))
    (part Z N) (fun t h0 y => ?_) (fun t h0 y => ?_) t hr y).trans ?_)
  · rw [outsAt0_A m c t h0 (by omega)]
    frame_out
    refine (acc_blk m hz hn t _ y).trans ?_
    congr 1
    pointwise [k0_pay1]
  · by_cases h1 : t.val % 4 = 3
    · rw [outsAt0_C m c t h0 h1]
      frame_out
      refine (acc_blk m hz hn t _ y).trans ?_
      rw [read_unread_whole]
    · rw [outsAt0_B m c t h0 h1]
      frame_out
      refine (acc_blk m hz hn t _ y).trans ?_
      rw [read_unread_whole]
  · rw [zero_add]
    refine Fin.sum_mul_add_congr (fun s k hl => ?_)
    have hs : s.val < 4 := s.isLt
    exact congrArg₂ (fun (r : Fin 8192) (i : Fin 2816) => Z (ix2 r i) * N (ix2 r (y 1)))
      (Fin.ext (by show (4 * (t.val / 4) + s.val) % 4 * 2048 + k.val = s.val * 2048 + k.val; omega))
      (Fin.ext (by show (4 * (t.val / 4) + s.val) / 4 * 1408 + (y 0).val = t.val / 4 * 1408 + (y 0).val; omega))

end Arrays

end Cert.WeightGradIdeal.Read

namespace Cert.WeightGradRefIdeal.Tie

open Cert.WeightGradRefIdeal Cert.WeightGradRefIdeal.Gen Cert.WeightGradRefIdeal.Read Idealize.ShloMosaic Idealize.ShloMosaic.TcCoe Idealize.SL.Sem Cert.Lift
open Cert.WeightGradIdeal.Read

theorem v4 (Z : S8192x2816.Idx → EReal) (N : S8192x1024.Idx → EReal) :
    val_main_v4 (F := Ideal) Z N = fun i => wgAt Z N (i 0) (i 1) := by
  funext i
  idx_vars i
  pointwise [val_main_v4, val_main_v3, val_main_v2, val_main_v1, val_main_v0]
  rfl

end Cert.WeightGradRefIdeal.Tie
end
-- ==== Proof.WeightGradClaim.lean ====
/- One weight gradient: both programs leave the same array. -/
module

public import proofs.«01_k».proof.Defs
public import proofs.«01_k».proof.Proof.WeightGradRead
public import proofs.«01_k».proof.Proof.Gen.WeightGrad.Frame
public import proofs.«01_k».proof.Proof.Gen.WeightGradIdeal.Frame
public import Idealize.ShloMosaic.Adequacy
public import Idealize.ShloMosaic.Init

@[expose] public section

set_option maxRecDepth 16384

noncomputable section

namespace Cert.WeightGradClaim

open Idealize.ShloMosaic Idealize.ShloMosaic.TcCoe Idealize.SL.Sem

theorem weightGrad_value : algebraic_WeightGradIdeal_WeightGradRefIdeal := by
  intro m g m' g' hpre hag
  refine ⟨_, WeightGradIdeal.Value.run_blocks m g, (θ_run _ _ _).mono (fun r h c => ?_) (WeightGradRefIdeal.Value.run m' g')⟩
  obtain ⟨e0, e1⟩ := hag c
  obtain ⟨r0, hk⟩ := h c
  refine ⟨r0.trans ?_, hk⟩
  · rw [e0, e1]
    exact (WeightGradRefIdeal.Read.val_main_v4_eq _ _).trans ((WeightGradRefIdeal.Tie.v4 _ _).trans (WeightGradIdeal.Read.arr2 m rfl rfl).symm)

theorem ref_frame : quiescent_WeightGradRefIdeal := fun m ρ _ =>
  (θ_run WeightGradRefIdeal.defs _ _).mono (fun r h => ⟨fun c => (h c).2, sem_eq_zero_of_no_sems (by decide) r.2⟩)
    (WeightGradRefIdeal.Value.run m ρ)

end Cert.WeightGradClaim
end
-- ==== Proof.SumDevicesRead.lean ====
/- The sum of the eight devices' parts: the array the kernel leaves, and the reference's. -/
module

public import proofs.«01_k».proof.Proof.Gen.SumDevicesIdeal.Value
public import proofs.«01_k».proof.Proof.Gen.SumDevicesRefIdeal.Run
public import proofs.«01_k».proof.Proof.Gen.SumDevicesRefIdeal.Read
public import proofs.«01_k».proof.Proof.Lift
public import Idealize.ShloMosaic.PureOps.Ideal.Laws
public import Idealize.ShloMosaic.Lib.Pipeline.ValueKit
public import Idealize.ShloMosaic.Lib.Pointwise

@[expose] public section

set_option maxRecDepth 16384

noncomputable section

namespace Cert.SumDevicesIdeal.Read

open Cert.SumDevicesIdeal Cert.SumDevicesIdeal.Gen Idealize.ShloMosaic Idealize.ShloMosaic.TcCoe Idealize.ShloMosaic.StableHlo Idealize.SL.Sem Cert.Lift
open Idealize.ShloMosaic.Pipeline (Dat)

theorem out_apply (X : S8x112x1024.Idx → EReal) (y : S112x1024.Idx) :
    out0_1 (F := Ideal) X y = ∑ d : Fin 8, X (ix3 d (y 0) (y 1)) := by
  canon_tiles x h using cover0_1 ..
  obtain rfl : y = x := (eq_ix2 y).trans ((congrArg₂ ix2 (Fin.ext h0) (Fin.ext h1)).trans (eq_ix2 x).symm)
  idx_vars y
  unfold_payloads
  pointwise
  rw [Fin.sum_univ_eight]

variable (m : (ℓ : Loc nD τ sig) → Buf (Elt Ideal) ℓ)

theorem idx : ∀ t : Fin grid0.N, win0_0.index t = ![0, 0, 0] ∧ win0_1.index t = ![0, 0] := by
  decide +kernel

theorem arr1 (c : Dev nD) (X : S8x112x1024.Idx → EReal) (hx : m ((c : Thread nD τ).loc main_arg0) = X) :
    (dats m 0 c).arrAt 1 cfg0.N = fun i : S112x1024.Idx => ∑ d : Fin 8, X (ix3 d (i 0) (i 1)) := by
  refine (dats m 0 c).arrAt_eq_of_covers 1 _ (by decide +kernel) fun t hf y => ?_
  blk_simp
  have b0 : iblk m c 0 t = fun y => m ((c : Thread nD τ).loc main_arg0) y := by
    funext y
    blk_ext [iblk, V, idx t]
  have hi : ∀ y : S112x1024.Idx, (((View.whole main_v0).slice (win0_1.rect t)).emb y) = y := by
    intro y
    blk_ext [idx t]
  rw [after0_1, b0, hx, hi]
  exact out_apply _ y

end Cert.SumDevicesIdeal.Read

namespace Cert.SumDevicesRefIdeal.Tie

open Cert.SumDevicesRefIdeal Cert.SumDevicesRefIdeal.Gen Cert.SumDevicesRefIdeal.Read Idealize.ShloMosaic Idealize.ShloMosaic.TcCoe Idealize.SL.Sem Cert.Lift
open Cert.SumDevicesIdeal.Read

theorem v0 (X : S8x112x1024.Idx → EReal) : val_main_v0 (F := Ideal) X = fun i => ∑ d : Fin 8, X (ix3 d (i 0) (i 1)) := by
  funext i
  idx_vars i
  pointwise [val_main_v0, val_main_cst]

end Cert.SumDevicesRefIdeal.Tie
end
-- ==== Proof.SumDevicesClaim.lean ====
/- A sum over one axis: both programs leave the same array. -/
module

public import proofs.«01_k».proof.Defs
public import proofs.«01_k».proof.Proof.SumDevicesRead
public import proofs.«01_k».proof.Proof.Gen.SumDevices.Frame
public import proofs.«01_k».proof.Proof.Gen.SumDevicesIdeal.Frame
public import Idealize.ShloMosaic.Adequacy
public import Idealize.ShloMosaic.Init

@[expose] public section

set_option maxRecDepth 16384

noncomputable section

namespace Cert.SumDevicesClaim

open Idealize.ShloMosaic Idealize.ShloMosaic.TcCoe Idealize.SL.Sem

theorem sumDevices_value : algebraic_SumDevicesIdeal_SumDevicesRefIdeal := by
  intro m g m' g' hpre hag
  refine ⟨_, SumDevicesIdeal.Value.run_blocks m g, (θ_run _ _ _).mono (fun r h c => ?_) (SumDevicesRefIdeal.Value.run m' g')⟩
  have e0 := hag c
  obtain ⟨r0, hk⟩ := h c
  refine ⟨r0.trans ?_, hk⟩
  · rw [e0]
    exact (SumDevicesRefIdeal.Read.val_main_v0_eq _).trans ((SumDevicesRefIdeal.Tie.v0 _).trans (SumDevicesIdeal.Read.arr1 m c _ rfl).symm)

theorem ref_frame : quiescent_SumDevicesRefIdeal := fun m ρ _ =>
  (θ_run SumDevicesRefIdeal.defs _ _).mono (fun r h => ⟨fun c => (h c).2, sem_eq_zero_of_no_sems (by decide) r.2⟩)
    (SumDevicesRefIdeal.Value.run m ρ)

end Cert.SumDevicesClaim
end
-- ==== Proof.SumSlotsRead.lean ====
/- The sum of the four slots: the array the kernel leaves, and the reference's. -/
module

public import proofs.«01_k».proof.Proof.Gen.SumSlotsIdeal.Value
public import proofs.«01_k».proof.Proof.Gen.SumSlotsRefIdeal.Run
public import proofs.«01_k».proof.Proof.Gen.SumSlotsRefIdeal.Read
public import proofs.«01_k».proof.Proof.Lift
public import Idealize.ShloMosaic.PureOps.Ideal.Laws
public import Idealize.ShloMosaic.Lib.Pipeline.ValueKit
public import Idealize.ShloMosaic.Lib.Pointwise

@[expose] public section

set_option maxRecDepth 16384

noncomputable section

namespace Cert.SumSlotsIdeal.Read

open Cert.SumSlotsIdeal Cert.SumSlotsIdeal.Gen Idealize.ShloMosaic Idealize.ShloMosaic.TcCoe Idealize.ShloMosaic.StableHlo Idealize.SL.Sem Cert.Lift
open Idealize.ShloMosaic.Pipeline (Dat)

theorem out_apply (X : S4x256x1024.Idx → EReal) (y : S256x1024.Idx) :
    out0_1 (F := Ideal) X y = ∑ d : Fin 4, X (ix3 d (y 0) (y 1)) := by
  canon_tiles x h using cover0_1 ..
  obtain rfl : y = x := (eq_ix2 y).trans ((congrArg₂ ix2 (Fin.ext h0) (Fin.ext h1)).trans (eq_ix2 x).symm)
  idx_vars y
  unfold_payloads
  pointwise
  rw [Fin.sum_univ_four]

variable (m : (ℓ : Loc nD τ sig) → Buf (Elt Ideal) ℓ)

theorem idx : ∀ t : Fin grid0.N, win0_0.index t = ![0, 0, 0] ∧ win0_1.index t = ![0, 0] := by
  decide +kernel

theorem arr1 (c : Dev nD) (X : S4x256x1024.Idx → EReal) (hx : m ((c : Thread nD τ).loc main_arg0) = X) :
    (dats m 0 c).arrAt 1 cfg0.N = fun i : S256x1024.Idx => ∑ d : Fin 4, X (ix3 d (i 0) (i 1)) := by
  refine (dats m 0 c).arrAt_eq_of_covers 1 _ (by decide +kernel) fun t hf y => ?_
  blk_simp
  have b0 : iblk m c 0 t = fun y => m ((c : Thread nD τ).loc main_arg0) y := by
    funext y
    blk_ext [iblk, V, idx t]
  have hi : ∀ y : S256x1024.Idx, (((View.whole main_v0).slice (win0_1.rect t)).emb y) = y := by
    intro y
    blk_ext [idx t]
  rw [after0_1, b0, hx, hi]
  exact out_apply _ y

end Cert.SumSlotsIdeal.Read

namespace Cert.SumSlotsRefIdeal.Tie

open Cert.SumSlotsRefIdeal Cert.SumSlotsRefIdeal.Gen Cert.SumSlotsRefIdeal.Read Idealize.ShloMosaic Idealize.ShloMosaic.TcCoe Idealize.SL.Sem Cert.Lift
open Cert.SumSlotsIdeal.Read

theorem v2 (X : S4x256x1024.Idx → EReal) : val_main_v2 (F := Ideal) X = fun i => ∑ d : Fin 4, X (ix3 d (i 0) (i 1)) := by
  funext i
  idx_vars i
  pointwise [val_main_v2, val_main_v1, val_main_cst, val_main_v0]

end Cert.SumSlotsRefIdeal.Tie
end
-- ==== Proof.SumSlotsClaim.lean ====
/- A sum over one axis: both programs leave the same array. -/
module

public import proofs.«01_k».proof.Defs
public import proofs.«01_k».proof.Proof.SumSlotsRead
public import proofs.«01_k».proof.Proof.Gen.SumSlots.Frame
public import proofs.«01_k».proof.Proof.Gen.SumSlotsIdeal.Frame
public import Idealize.ShloMosaic.Adequacy
public import Idealize.ShloMosaic.Init

@[expose] public section

set_option maxRecDepth 16384

noncomputable section

namespace Cert.SumSlotsClaim

open Idealize.ShloMosaic Idealize.ShloMosaic.TcCoe Idealize.SL.Sem

theorem sumSlots_value : algebraic_SumSlotsIdeal_SumSlotsRefIdeal := by
  intro m g m' g' hpre hag
  refine ⟨_, SumSlotsIdeal.Value.run_blocks m g, (θ_run _ _ _).mono (fun r h c => ?_) (SumSlotsRefIdeal.Value.run m' g')⟩
  have e0 := hag c
  obtain ⟨r0, hk⟩ := h c
  refine ⟨r0.trans ?_, hk⟩
  · rw [e0]
    exact (SumSlotsRefIdeal.Read.val_main_v2_eq _).trans ((SumSlotsRefIdeal.Tie.v2 _).trans (SumSlotsIdeal.Read.arr1 m c _ rfl).symm)

theorem ref_frame : quiescent_SumSlotsRefIdeal := fun m ρ _ =>
  (θ_run SumSlotsRefIdeal.defs _ _).mono (fun r h => ⟨fun c => (h c).2, sem_eq_zero_of_no_sems (by decide) r.2⟩)
    (SumSlotsRefIdeal.Value.run m ρ)

end Cert.SumSlotsClaim
end
-- ==== Proof.AdamwRead.lean ====
/- One shard's step of the optimiser: the arrays the kernel leaves, and the reference's. -/
module

public import proofs.«01_k».proof.Proof.Gen.AdamwIdeal.Value
public import proofs.«01_k».proof.Proof.Gen.AdamwRefIdeal.Run
public import proofs.«01_k».proof.Proof.Gen.AdamwRefIdeal.Read
public import proofs.«01_k».proof.Proof.Lift
public import Idealize.ShloMosaic.PureOps.Ideal.Laws
public import Idealize.ShloMosaic.Lib.Pipeline.ValueKit
public import Idealize.ShloMosaic.Lib.Pointwise

@[expose] public section

set_option maxRecDepth 16384

noncomputable section

namespace Cert.AdamwIdeal.Read

open Cert.AdamwIdeal Cert.AdamwIdeal.Gen Idealize.ShloMosaic Idealize.ShloMosaic.TcCoe Idealize.ShloMosaic.StableHlo Idealize.SL.Sem Cert.Lift
open Idealize.ShloMosaic.Pipeline (Dat)

/-- The summed gradient. -/
def gNew (a b : EReal) : EReal := a + b

/-- The new first moment, and the new second moment. -/
def mNew (m a b : EReal) : EReal := Ideal.ofBits .f32 0x3F666666#32 * m + Ideal.ofBits .f32 0x3DCCCCCD#32 * gNew a b
def vNew (v a b : EReal) : EReal := Ideal.ofBits .f32 0x3F7FBE77#32 * v + Ideal.ofBits .f32 0x3A83126F#32 * (gNew a b * gNew a b)

/-- What the step adds to a weight. -/
def dNew (w m v a b : EReal) : EReal :=
  Ideal.ofBits .f32 0xBA83126F#32 *
    (Ideal.div (Ideal.div (mNew m a b) (Ideal.ofBits .f32 0x3F26BD02#32))
      (Ideal.sqrt (Ideal.div (vNew v a b) (Ideal.ofBits .f32 0x3C231ACC#32)) + Ideal.ofBits .f32 0x322BCC77#32)
      + Ideal.ofBits .f32 0x3C23D70A#32 * w)

theorem out5_apply (W M R A B : S256x1024.Idx → EReal) (y : S256x1024.Idx) :
    out0_5 (F := Ideal) W M R A B y = gNew (A y) (B y) := by
  canon_tiles x h using cover0_5 ..
  obtain rfl : y = x := (eq_ix2 y).trans ((congrArg₂ ix2 (Fin.ext h0) (Fin.ext h1)).trans (eq_ix2 x).symm)
  idx_vars y
  unfold_payloads
  pointwise
  rfl

theorem out6_apply (W M R A B : S256x1024.Idx → EReal) (y : S256x1024.Idx) :
    out0_6 (F := Ideal) W M R A B y = dNew (W y) (M y) (R y) (A y) (B y) := by
  canon_tiles x h using cover0_6 ..
  obtain rfl : y = x := (eq_ix2 y).trans ((congrArg₂ ix2 (Fin.ext h0) (Fin.ext h1)).trans (eq_ix2 x).symm)
  idx_vars y
  unfold_payloads
  pointwise
  rfl

theorem out7_apply (W M R A B : S256x1024.Idx → EReal) (y : S256x1024.Idx) :
    out0_7 (F := Ideal) W M R A B y = mNew (M y) (A y) (B y) := by
  canon_tiles x h using cover0_7 ..
  obtain rfl : y = x := (eq_ix2 y).trans ((congrArg₂ ix2 (Fin.ext h0) (Fin.ext h1)).trans (eq_ix2 x).symm)
  idx_vars y
  unfold_payloads
  pointwise
  rfl

theorem out8_apply (W M R A B : S256x1024.Idx → EReal) (y : S256x1024.Idx) :
    out0_8 (F := Ideal) W M R A B y = vNew (R y) (A y) (B y) := by
  canon_tiles x h using cover0_8 ..
  obtain rfl : y = x := (eq_ix2 y).trans ((congrArg₂ ix2 (Fin.ext h0) (Fin.ext h1)).trans (eq_ix2 x).symm)
  idx_vars y
  unfold_payloads
  pointwise
  rfl

variable (m : (ℓ : Loc nD τ sig) → Buf (Elt Ideal) ℓ)

theorem idx : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] := by
  decide +kernel

section Arrays
variable {W M R A B : S256x1024.Idx → EReal} {c : Dev nD}
  (hw : m ((c : Thread nD τ).loc main_arg0) = W) (hm : m ((c : Thread nD τ).loc main_arg1) = M)
  (hr : m ((c : Thread nD τ).loc main_arg2) = R) (ha : m ((c : Thread nD τ).loc main_arg3) = A)
  (hb : m ((c : Thread nD τ).loc main_arg4) = B)

include hw in
theorem blk0 (t : Fin cfg0.N) : iblk m c 0 t = W := by
  rw [← hw]
  funext y
  blk_ext [iblk, V, idx t]

include hm in
theorem blk1 (t : Fin cfg0.N) : iblk m c 1 t = M := by
  rw [← hm]
  funext y
  blk_ext [iblk, V, idx t]

include hr in
theorem blk2 (t : Fin cfg0.N) : iblk m c 2 t = R := by
  rw [← hr]
  funext y
  blk_ext [iblk, V, idx t]

include ha in
theorem blk3 (t : Fin cfg0.N) : iblk m c 3 t = A := by
  rw [← ha]
  funext y
  blk_ext [iblk, V, idx t]

include hb in
theorem blk4 (t : Fin cfg0.N) : iblk m c 4 t = B := by
  rw [← hb]
  funext y
  blk_ext [iblk, V, idx t]

include hw hm hr ha hb

theorem arr5 : (dats m 0 c).arrAt 5 cfg0.N = fun y : S256x1024.Idx => gNew (A y) (B y) := by
  refine (dats m 0 c).arrAt_eq_of_covers 5 _ (by decide +kernel) fun t hf y => ?_
  blk_simp
  have hi : ∀ y : S256x1024.Idx, (((View.whole main_v0_0).slice (win0_5.rect t)).emb y) = y := by
    intro y
    blk_ext [idx t]
  rw [after0_5, blk0 m hw t, blk1 m hm t, blk2 m hr t, blk3 m ha t, blk4 m hb t, hi]
  exact out5_apply _ _ _ _ _ y

theorem arr6 : (dats m 0 c).arrAt 6 cfg0.N = fun y : S256x1024.Idx => dNew (W y) (M y) (R y) (A y) (B y) := by
  refine (dats m 0 c).arrAt_eq_of_covers 6 _ (by decide +kernel) fun t hf y => ?_
  blk_simp
  have hi : ∀ y : S256x1024.Idx, (((View.whole main_v0_1).slice (win0_6.rect t)).emb y) = y := by
    intro y
    blk_ext [idx t]
  rw [after0_6, blk0 m hw t, blk1 m hm t, blk2 m hr t, blk3 m ha t, blk4 m hb t, hi]
  exact out6_apply _ _ _ _ _ y

theorem arr7 : (dats m 0 c).arrAt 7 cfg0.N = fun y : S256x1024.Idx => mNew (M y) (A y) (B y) := by
  refine (dats m 0 c).arrAt_eq_of_covers 7 _ (by decide +kernel) fun t hf y => ?_
  blk_simp
  have hi : ∀ y : S256x1024.Idx, (((View.whole main_v0_2).slice (win0_7.rect t)).emb y) = y := by
    intro y
    blk_ext [idx t]
  rw [after0_7, blk0 m hw t, blk1 m hm t, blk2 m hr t, blk3 m ha t, blk4 m hb t, hi]
  exact out7_apply _ _ _ _ _ y

theorem arr8 : (dats m 0 c).arrAt 8 cfg0.N = fun y : S256x1024.Idx => vNew (R y) (A y) (B y) := by
  refine (dats m 0 c).arrAt_eq_of_covers 8 _ (by decide +kernel) fun t hf y => ?_
  blk_simp
  have hi : ∀ y : S256x1024.Idx, (((View.whole main_v0_3).slice (win0_8.rect t)).emb y) = y := by
    intro y
    blk_ext [idx t]
  rw [after0_8, blk0 m hw t, blk1 m hm t, blk2 m hr t, blk3 m ha t, blk4 m hb t, hi]
  exact out8_apply _ _ _ _ _ y

end Arrays

end Cert.AdamwIdeal.Read

namespace Cert.AdamwRefIdeal.Tie

open Cert.AdamwRefIdeal Cert.AdamwRefIdeal.Gen Cert.AdamwRefIdeal.Read Idealize.ShloMosaic Idealize.ShloMosaic.TcCoe Idealize.SL.Sem Cert.Lift
open Cert.AdamwIdeal.Read

theorem v2 (A B : S256x1024.Idx → EReal) : val_main_v2 (F := Ideal) A B = fun y => gNew (A y) (B y) := by
  funext y
  idx_vars y
  pointwise [val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
  rfl

theorem v26 (W M R A B : S256x1024.Idx → EReal) : val_main_v26 (F := Ideal) W M R A B = fun y => dNew (W y) (M y) (R y) (A y) (B y) := by
  funext y
  idx_vars y
  pointwise [val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
  rfl

theorem v7 (M A B : S256x1024.Idx → EReal) : val_main_v7 (F := Ideal) M A B = fun y => mNew (M y) (A y) (B y) := by
  funext y
  idx_vars y
  pointwise [val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
  rfl

theorem v13 (R A B : S256x1024.Idx → EReal) : val_main_v13 (F := Ideal) R A B = fun y => vNew (R y) (A y) (B y) := by
  funext y
  idx_vars y
  pointwise [val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
  rfl

end Cert.AdamwRefIdeal.Tie
end
-- ==== Proof.AdamwClaim.lean ====
/- One shard's step of the optimiser: both programs leave the same four arrays. -/
module

public import proofs.«01_k».proof.Defs
public import proofs.«01_k».proof.Proof.AdamwRead
public import proofs.«01_k».proof.Proof.Gen.Adamw.Frame
public import proofs.«01_k».proof.Proof.Gen.AdamwIdeal.Frame
public import Idealize.ShloMosaic.Adequacy
public import Idealize.ShloMosaic.Init

@[expose] public section

set_option maxRecDepth 16384

noncomputable section

namespace Cert.AdamwClaim

open Idealize.ShloMosaic Idealize.ShloMosaic.TcCoe Idealize.SL.Sem

theorem adamw_value : algebraic_AdamwIdeal_AdamwRefIdeal := by
  intro m g m' g' hpre hag
  refine ⟨_, _, _, _, AdamwIdeal.Value.run_blocks m g, (θ_run _ _ _).mono (fun r h c => ?_) (AdamwRefIdeal.Value.run m' g')⟩
  obtain ⟨e0, e1, e2, e3, e4⟩ := hag c
  obtain ⟨r0, r1, r2, r3, hk⟩ := h c
  refine ⟨r0.trans ?_, r1.trans ?_, r2.trans ?_, r3.trans ?_, hk⟩
  · rw [e3, e4]
    exact (AdamwRefIdeal.Read.val_main_v2_eq _ _ ).trans ((AdamwRefIdeal.Tie.v2 _ _ ).trans (AdamwIdeal.Read.arr5 m rfl rfl rfl rfl rfl).symm)
  · rw [e0, e1, e2, e3, e4]
    exact (AdamwRefIdeal.Read.val_main_v26_eq _ _ _ _ _ ).trans ((AdamwRefIdeal.Tie.v26 _ _ _ _ _ ).trans (AdamwIdeal.Read.arr6 m rfl rfl rfl rfl rfl).symm)
  · rw [e1, e3, e4]
    exact (AdamwRefIdeal.Read.val_main_v7_eq _ _ _ ).trans ((AdamwRefIdeal.Tie.v7 _ _ _ ).trans (AdamwIdeal.Read.arr7 m rfl rfl rfl rfl rfl).symm)
  · rw [e2, e3, e4]
    exact (AdamwRefIdeal.Read.val_main_v13_eq _ _ _ ).trans ((AdamwRefIdeal.Tie.v13 _ _ _ ).trans (AdamwIdeal.Read.arr8 m rfl rfl rfl rfl rfl).symm)

theorem ref_frame : quiescent_AdamwRefIdeal := fun m ρ _ =>
  (θ_run AdamwRefIdeal.defs _ _).mono (fun r h => ⟨fun c => (h c).2.2.2.2, sem_eq_zero_of_no_sems (by decide) r.2⟩)
    (AdamwRefIdeal.Value.run m ρ)

end Cert.AdamwClaim
end
-- ==== Proof.FlashBits.lean ====
/-
  The compiled attention gradient runs the same program, so it keeps the same frame.
-/
module

public import proofs.«01_k».proof.Proof.FlashFrame
public import proofs.«01_k».proof.Proof.Gen.Flash.Frame
public import proofs.«01_k».proof.Defs

@[expose] public section

set_option maxRecDepth 16384

noncomputable section

namespace Cert.FlashRun

open Idealize.ShloMosaic Idealize.ShloMosaic.TcCoe Idealize.ShloMosaic.Tactic
open Idealize.SL.Sem

theorem frame_ideal : quiescent_FlashIdeal := fun m g _ => Cert.FlashRun.frame m g

/-- The frame of the same program at the machine's numbers. -/
def FrameBits : Prop :=
  ∀ (m : (ℓ : Loc Cert.FlashIdeal.nD Cert.FlashIdeal.τ Cert.FlashIdeal.sig) → Buf (Elt Bits) ℓ) (g : Dev Cert.FlashIdeal.nD → PrngReg), True →
    θ_run (Cert.FlashIdeal.defs (F := Bits)) (onTc (τ := Cert.FlashIdeal.τ) (Cert.FlashIdeal.main (F := Bits))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

theorem frame_bits : quiescent_Flash := by
  have e : quiescent_Flash = FrameBits := by sl_kernel_rfl
  rw [e]
  exact fun m g _ => Cert.FlashRun.frame (F := Bits) m g

end Cert.FlashRun

end
-- ==== Proof.FlashFwdBits.lean ====
/-
  The compiled attention forward runs the same program, so it keeps the same frame.
-/
module

public import proofs.«01_k».proof.Proof.FlashFwdFrame
public import proofs.«01_k».proof.Proof.Gen.FlashFwd.Frame
public import proofs.«01_k».proof.Defs

@[expose] public section

set_option maxRecDepth 16384

noncomputable section

namespace Cert.FwdRun

open Idealize.ShloMosaic Idealize.ShloMosaic.TcCoe Idealize.ShloMosaic.Tactic
open Idealize.SL.Sem

theorem frame_ideal : quiescent_FlashFwdIdeal := fun m g _ => Cert.FwdRun.frame m g

/-- At the machine's numbers a named constant is its own bits. -/
abbrev ownBits : Named Bits where
  named _ _ {φ} b := Scalar.ofBits (F := Bits) φ b

/-- The frame of the same program at the machine's numbers. -/
def FrameBits : Prop :=
  ∀ (m : (ℓ : Loc Cert.FlashFwdIdeal.nD Cert.FlashFwdIdeal.τ Cert.FlashFwdIdeal.sig) → Buf (Elt Bits) ℓ) (g : Dev Cert.FlashFwdIdeal.nD → PrngReg), True →
    θ_run (@Cert.FlashFwdIdeal.defs Bits _ ownBits _) (onTc (τ := Cert.FlashFwdIdeal.τ) (Cert.FlashFwdIdeal.main (F := Bits))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ r.2.sem = fun _ => 0)

theorem frame_bits : quiescent_FlashFwd := by
  have e : quiescent_FlashFwd = FrameBits := by sl_kernel_rfl
  rw [e]
  exact fun m g _ => @Cert.FwdRun.frame Bits _ ownBits m g

end Cert.FwdRun

end
-- ==== Proof.lean ====
module

public import proofs.«01_k».proof.Defs
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.Flash
public import proofs.«01_k».proof.Proof.Gen.Flash.Skeleton
public import proofs.«01_k».proof.Proof.Gen.Flash.Loops
public import proofs.«01_k».proof.Proof.Gen.Flash.Launch
public import proofs.«01_k».proof.Proof.Gen.Flash.Points
public import proofs.«01_k».proof.Proof.Gen.Flash.Frame
public import proofs.«01_k».proof.Proof.Gen.FlashIdeal
public import proofs.«01_k».proof.Proof.Gen.FlashIdeal.Skeleton
public import proofs.«01_k».proof.Proof.Gen.FlashIdeal.Loops
public import proofs.«01_k».proof.Proof.Gen.FlashIdeal.Launch
public import proofs.«01_k».proof.Proof.Gen.FlashIdeal.Points
public import proofs.«01_k».proof.Proof.Gen.FlashIdeal.Frame
public import proofs.«01_k».proof.Proof.Gen.FlashRefIdeal
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Pointwise
public import proofs.«01_k».proof.Proof.Gen.Pointwise.Skeleton
public import proofs.«01_k».proof.Proof.Gen.Pointwise.Launch
public import proofs.«01_k».proof.Proof.Gen.Pointwise.Points
public import proofs.«01_k».proof.Proof.Gen.Pointwise.Frame
public import proofs.«01_k».proof.Proof.Gen.PointwiseIdeal
public import proofs.«01_k».proof.Proof.Gen.PointwiseIdeal.Skeleton
public import proofs.«01_k».proof.Proof.Gen.PointwiseIdeal.Launch
public import proofs.«01_k».proof.Proof.Gen.PointwiseIdeal.Points
public import proofs.«01_k».proof.Proof.Gen.PointwiseIdeal.Frame
public import proofs.«01_k».proof.Proof.Gen.PointwiseRefIdeal
public import proofs.«01_k».proof.Proof.Gen.ConvNorm
public import proofs.«01_k».proof.Proof.Gen.ConvNorm.Skeleton
public import proofs.«01_k».proof.Proof.Gen.ConvNorm.Launch
public import proofs.«01_k».proof.Proof.Gen.ConvNorm.Points
public import proofs.«01_k».proof.Proof.Gen.ConvNorm.Frame
public import proofs.«01_k».proof.Proof.Gen.ConvNormIdeal
public import proofs.«01_k».proof.Proof.Gen.ConvNormIdeal.Skeleton
public import proofs.«01_k».proof.Proof.Gen.ConvNormIdeal.Launch
public import proofs.«01_k».proof.Proof.Gen.ConvNormIdeal.Points
public import proofs.«01_k».proof.Proof.Gen.ConvNormIdeal.Frame
public import proofs.«01_k».proof.Proof.Gen.ConvNormRefIdeal
public import proofs.«01_k».proof.Proof.Gen.ConvDw
public import proofs.«01_k».proof.Proof.Gen.ConvDw.Skeleton
public import proofs.«01_k».proof.Proof.Gen.ConvDw.Launch
public import proofs.«01_k».proof.Proof.Gen.ConvDw.Points
public import proofs.«01_k».proof.Proof.Gen.ConvDw.Frame
public import proofs.«01_k».proof.Proof.Gen.ConvDwIdeal
public import proofs.«01_k».proof.Proof.Gen.ConvDwIdeal.Skeleton
public import proofs.«01_k».proof.Proof.Gen.ConvDwIdeal.Launch
public import proofs.«01_k».proof.Proof.Gen.ConvDwIdeal.Points
public import proofs.«01_k».proof.Proof.Gen.ConvDwIdeal.Frame
public import proofs.«01_k».proof.Proof.Gen.ConvDwRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.Delta
public import proofs.«01_k».proof.Proof.Gen.Delta.Skeleton
public import proofs.«01_k».proof.Proof.Gen.Delta.Launch
public import proofs.«01_k».proof.Proof.Gen.Delta.Points
public import proofs.«01_k».proof.Proof.Gen.Delta.Frame
public import proofs.«01_k».proof.Proof.Gen.DeltaIdeal
public import proofs.«01_k».proof.Proof.Gen.DeltaIdeal.Skeleton
public import proofs.«01_k».proof.Proof.Gen.DeltaIdeal.Launch
public import proofs.«01_k».proof.Proof.Gen.DeltaIdeal.Points
public import proofs.«01_k».proof.Proof.Gen.DeltaIdeal.Frame
public import proofs.«01_k».proof.Proof.Gen.DeltaRefIdeal
public import proofs.«01_k».proof.Proof.Gen.FlashFwd
public import proofs.«01_k».proof.Proof.Gen.FlashFwd.Skeleton
public import proofs.«01_k».proof.Proof.Gen.FlashFwd.Loops
public import proofs.«01_k».proof.Proof.Gen.FlashFwd.Launch
public import proofs.«01_k».proof.Proof.Gen.FlashFwd.Points
public import proofs.«01_k».proof.Proof.Gen.FlashFwd.Frame
public import proofs.«01_k».proof.Proof.Gen.FlashFwdIdeal
public import proofs.«01_k».proof.Proof.Gen.FlashFwdIdeal.Skeleton
public import proofs.«01_k».proof.Proof.Gen.FlashFwdIdeal.Loops
public import proofs.«01_k».proof.Proof.Gen.FlashFwdIdeal.Launch
public import proofs.«01_k».proof.Proof.Gen.FlashFwdIdeal.Points
public import proofs.«01_k».proof.Proof.Gen.FlashFwdIdeal.Frame
public import proofs.«01_k».proof.Proof.Gen.FlashFwdRefIdeal
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormFwdRefIdeal
public import proofs.«01_k».proof.Proof.Gen.GluFwd
public import proofs.«01_k».proof.Proof.Gen.GluFwd.Skeleton
public import proofs.«01_k».proof.Proof.Gen.GluFwd.Launch
public import proofs.«01_k».proof.Proof.Gen.GluFwd.Points
public import proofs.«01_k».proof.Proof.Gen.GluFwd.Frame
public import proofs.«01_k».proof.Proof.Gen.GluFwdIdeal
public import proofs.«01_k».proof.Proof.Gen.GluFwdIdeal.Skeleton
public import proofs.«01_k».proof.Proof.Gen.GluFwdIdeal.Launch
public import proofs.«01_k».proof.Proof.Gen.GluFwdIdeal.Points
public import proofs.«01_k».proof.Proof.Gen.GluFwdIdeal.Frame
public import proofs.«01_k».proof.Proof.Gen.GluFwdRefIdeal
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdRefIdeal
public import proofs.«01_k».proof.Proof.Gen.PrepFwd
public import proofs.«01_k».proof.Proof.Gen.PrepFwd.Skeleton
public import proofs.«01_k».proof.Proof.Gen.PrepFwd.Launch
public import proofs.«01_k».proof.Proof.Gen.PrepFwd.Points
public import proofs.«01_k».proof.Proof.Gen.PrepFwd.Frame
public import proofs.«01_k».proof.Proof.Gen.PrepFwdIdeal
public import proofs.«01_k».proof.Proof.Gen.PrepFwdIdeal.Skeleton
public import proofs.«01_k».proof.Proof.Gen.PrepFwdIdeal.Launch
public import proofs.«01_k».proof.Proof.Gen.PrepFwdIdeal.Points
public import proofs.«01_k».proof.Proof.Gen.PrepFwdIdeal.Frame
public import proofs.«01_k».proof.Proof.Gen.PrepFwdRefIdeal
public import proofs.«01_k».proof.Proof.Gen.QkvFwd
public import proofs.«01_k».proof.Proof.Gen.QkvFwd.Skeleton
public import proofs.«01_k».proof.Proof.Gen.QkvFwd.Launch
public import proofs.«01_k».proof.Proof.Gen.QkvFwd.Points
public import proofs.«01_k».proof.Proof.Gen.QkvFwd.Frame
public import proofs.«01_k».proof.Proof.Gen.QkvFwdIdeal
public import proofs.«01_k».proof.Proof.Gen.QkvFwdIdeal.Skeleton
public import proofs.«01_k».proof.Proof.Gen.QkvFwdIdeal.Launch
public import proofs.«01_k».proof.Proof.Gen.QkvFwdIdeal.Points
public import proofs.«01_k».proof.Proof.Gen.QkvFwdIdeal.Frame
public import proofs.«01_k».proof.Proof.Gen.QkvFwdRefIdeal
public import proofs.«01_k».proof.Proof.Gen.Product
public import proofs.«01_k».proof.Proof.Gen.Product.Skeleton
public import proofs.«01_k».proof.Proof.Gen.Product.Launch
public import proofs.«01_k».proof.Proof.Gen.Product.Points
public import proofs.«01_k».proof.Proof.Gen.Product.Frame
public import proofs.«01_k».proof.Proof.Gen.ProductIdeal
public import proofs.«01_k».proof.Proof.Gen.ProductIdeal.Skeleton
public import proofs.«01_k».proof.Proof.Gen.ProductIdeal.Launch
public import proofs.«01_k».proof.Proof.Gen.ProductIdeal.Points
public import proofs.«01_k».proof.Proof.Gen.ProductIdeal.Frame
public import proofs.«01_k».proof.Proof.Gen.ProductRefIdeal
public import proofs.«01_k».proof.Proof.Gen.WeightGrad
public import proofs.«01_k».proof.Proof.Gen.WeightGrad.Skeleton
public import proofs.«01_k».proof.Proof.Gen.WeightGrad.Launch
public import proofs.«01_k».proof.Proof.Gen.WeightGrad.Points
public import proofs.«01_k».proof.Proof.Gen.WeightGrad.Frame
public import proofs.«01_k».proof.Proof.Gen.WeightGradIdeal
public import proofs.«01_k».proof.Proof.Gen.WeightGradIdeal.Skeleton
public import proofs.«01_k».proof.Proof.Gen.WeightGradIdeal.Launch
public import proofs.«01_k».proof.Proof.Gen.WeightGradIdeal.Points
public import proofs.«01_k».proof.Proof.Gen.WeightGradIdeal.Frame
public import proofs.«01_k».proof.Proof.Gen.WeightGradRefIdeal
public import proofs.«01_k».proof.Proof.Gen.SumDevices
public import proofs.«01_k».proof.Proof.Gen.SumDevices.Skeleton
public import proofs.«01_k».proof.Proof.Gen.SumDevices.Launch
public import proofs.«01_k».proof.Proof.Gen.SumDevices.Points
public import proofs.«01_k».proof.Proof.Gen.SumDevices.Frame
public import proofs.«01_k».proof.Proof.Gen.SumDevicesIdeal
public import proofs.«01_k».proof.Proof.Gen.SumDevicesIdeal.Skeleton
public import proofs.«01_k».proof.Proof.Gen.SumDevicesIdeal.Launch
public import proofs.«01_k».proof.Proof.Gen.SumDevicesIdeal.Points
public import proofs.«01_k».proof.Proof.Gen.SumDevicesIdeal.Frame
public import proofs.«01_k».proof.Proof.Gen.SumDevicesRefIdeal
public import proofs.«01_k».proof.Proof.Gen.SumSlots
public import proofs.«01_k».proof.Proof.Gen.SumSlots.Skeleton
public import proofs.«01_k».proof.Proof.Gen.SumSlots.Launch
public import proofs.«01_k».proof.Proof.Gen.SumSlots.Points
public import proofs.«01_k».proof.Proof.Gen.SumSlots.Frame
public import proofs.«01_k».proof.Proof.Gen.SumSlotsIdeal
public import proofs.«01_k».proof.Proof.Gen.SumSlotsIdeal.Skeleton
public import proofs.«01_k».proof.Proof.Gen.SumSlotsIdeal.Launch
public import proofs.«01_k».proof.Proof.Gen.SumSlotsIdeal.Points
public import proofs.«01_k».proof.Proof.Gen.SumSlotsIdeal.Frame
public import proofs.«01_k».proof.Proof.Gen.SumSlotsRefIdeal
public import proofs.«01_k».proof.Proof.Gen.Adamw
public import proofs.«01_k».proof.Proof.Gen.Adamw.Skeleton
public import proofs.«01_k».proof.Proof.Gen.Adamw.Launch
public import proofs.«01_k».proof.Proof.Gen.Adamw.Points
public import proofs.«01_k».proof.Proof.Gen.Adamw.Frame
public import proofs.«01_k».proof.Proof.Gen.AdamwIdeal
public import proofs.«01_k».proof.Proof.Gen.AdamwIdeal.Skeleton
public import proofs.«01_k».proof.Proof.Gen.AdamwIdeal.Launch
public import proofs.«01_k».proof.Proof.Gen.AdamwIdeal.Points
public import proofs.«01_k».proof.Proof.Gen.AdamwIdeal.Frame
public import proofs.«01_k».proof.Proof.Gen.AdamwRefIdeal
public import proofs.«01_k».proof.Proof.Gen.Pre_loss_finite
public import proofs.«01_k».proof.Proof.Gen.Pre_flash_finite
public import proofs.«01_k».proof.Proof.Gen.Pre_prep_finite
public import proofs.«01_k».proof.Proof.Gen.Pre_down_finite
public import proofs.«01_k».proof.Proof.Gen.Pre_pointwise_finite
public import proofs.«01_k».proof.Proof.Gen.Pre_convnorm_finite
public import proofs.«01_k».proof.Proof.Gen.Pre_flashfwd_finite
public import proofs.«01_k».proof.Proof.LossClaim
public import proofs.«01_k».proof.Proof.FlashClaim
public import proofs.«01_k».proof.Proof.PrepClaim
public import proofs.«01_k».proof.Proof.DownClaim
public import proofs.«01_k».proof.Proof.PointwiseClaim
public import proofs.«01_k».proof.Proof.ConvNormClaim
public import proofs.«01_k».proof.Proof.ConvDwClaim
public import proofs.«01_k».proof.Proof.FfnClaim
public import proofs.«01_k».proof.Proof.QkvClaim
public import proofs.«01_k».proof.Proof.DeltaClaim
public import proofs.«01_k».proof.Proof.FlashFwdClaim
public import proofs.«01_k».proof.Proof.NormFwdClaim
public import proofs.«01_k».proof.Proof.GluFwdClaim
public import proofs.«01_k».proof.Proof.FfnFwdClaim
public import proofs.«01_k».proof.Proof.PrepFwdClaim
public import proofs.«01_k».proof.Proof.QkvFwdClaim
public import proofs.«01_k».proof.Proof.ProductClaim
public import proofs.«01_k».proof.Proof.WeightGradClaim
public import proofs.«01_k».proof.Proof.SumDevicesClaim
public import proofs.«01_k».proof.Proof.SumSlotsClaim
public import proofs.«01_k».proof.Proof.AdamwClaim
public import proofs.«01_k».proof.Proof.FlashBits
public import proofs.«01_k».proof.Proof.FlashFwdBits
public import Idealize.ShloMosaic.Adequacy
public import Idealize.ShloMosaic.Init

@[expose] public section

noncomputable section

namespace Cert.Proof

open Idealize.ShloMosaic Idealize.SL.Sem Cert.Loss

theorem claim : Cert.Claim := ⟨Cert.Loss.Gen.facts, Cert.LossIdeal.Gen.facts, Cert.LossRefIdeal.Gen.facts, Cert.Flash.Gen.facts, Cert.FlashIdeal.Gen.facts, Cert.FlashRefIdeal.Gen.facts, Cert.Prep.Gen.facts, Cert.PrepIdeal.Gen.facts, Cert.PrepRefIdeal.Gen.facts, Cert.Down.Gen.facts, Cert.DownIdeal.Gen.facts, Cert.DownRefIdeal.Gen.facts, Cert.Pointwise.Gen.facts, Cert.PointwiseIdeal.Gen.facts, Cert.PointwiseRefIdeal.Gen.facts, Cert.ConvNorm.Gen.facts, Cert.ConvNormIdeal.Gen.facts, Cert.ConvNormRefIdeal.Gen.facts, Cert.ConvDw.Gen.facts, Cert.ConvDwIdeal.Gen.facts, Cert.ConvDwRefIdeal.Gen.facts, Cert.Ffn.Gen.facts, Cert.FfnIdeal.Gen.facts, Cert.FfnRefIdeal.Gen.facts, Cert.Qkv.Gen.facts, Cert.QkvIdeal.Gen.facts, Cert.QkvRefIdeal.Gen.facts, Cert.Delta.Gen.facts, Cert.DeltaIdeal.Gen.facts, Cert.DeltaRefIdeal.Gen.facts, Cert.FlashFwd.Gen.facts, Cert.FlashFwdIdeal.Gen.facts, Cert.FlashFwdRefIdeal.Gen.facts, Cert.NormFwd.Gen.facts, Cert.NormFwdIdeal.Gen.facts, Cert.NormFwdRefIdeal.Gen.facts, Cert.GluFwd.Gen.facts, Cert.GluFwdIdeal.Gen.facts, Cert.GluFwdRefIdeal.Gen.facts, Cert.FfnFwd.Gen.facts, Cert.FfnFwdIdeal.Gen.facts, Cert.FfnFwdRefIdeal.Gen.facts, Cert.PrepFwd.Gen.facts, Cert.PrepFwdIdeal.Gen.facts, Cert.PrepFwdRefIdeal.Gen.facts, Cert.QkvFwd.Gen.facts, Cert.QkvFwdIdeal.Gen.facts, Cert.QkvFwdRefIdeal.Gen.facts, Cert.Product.Gen.facts, Cert.ProductIdeal.Gen.facts, Cert.ProductRefIdeal.Gen.facts, Cert.WeightGrad.Gen.facts, Cert.WeightGradIdeal.Gen.facts, Cert.WeightGradRefIdeal.Gen.facts, Cert.SumDevices.Gen.facts, Cert.SumDevicesIdeal.Gen.facts, Cert.SumDevicesRefIdeal.Gen.facts, Cert.SumSlots.Gen.facts, Cert.SumSlotsIdeal.Gen.facts, Cert.SumSlotsRefIdeal.Gen.facts, Cert.Adamw.Gen.facts, Cert.AdamwIdeal.Gen.facts, Cert.AdamwRefIdeal.Gen.facts, Cert.Pre_loss_finite.Gen.facts, Cert.Pre_flash_finite.Gen.facts, Cert.Pre_prep_finite.Gen.facts, Cert.Pre_down_finite.Gen.facts, Cert.Pre_pointwise_finite.Gen.facts, Cert.Pre_convnorm_finite.Gen.facts, Cert.Pre_flashfwd_finite.Gen.facts,
  fun m g _ => Cert.Loss.Gen.frame m g, fun m g _ => Cert.LossIdeal.Gen.frame m g,
  fun m g _ => Cert.LossIdeal.Gen.frame m g, Cert.LossClaim.ref_frame,
  fun m g _ => Cert.LossClaim.ref_frame m g trivial, Cert.FlashRun.frame_bits, Cert.FlashRun.frame_ideal,
  fun m g _ => Cert.FlashRun.frame_ideal m g trivial, Cert.FlashClaim.ref_frame,
  fun m g _ => Cert.FlashClaim.ref_frame m g trivial, fun m g _ => Cert.Prep.Gen.frame m g,
  fun m g _ => Cert.PrepIdeal.Gen.frame m g, fun m g _ => Cert.PrepIdeal.Gen.frame m g, Cert.PrepClaim.ref_frame,
  fun m g _ => Cert.PrepClaim.ref_frame m g trivial, fun m g _ => Cert.Down.Gen.frame m g,
  fun m g _ => Cert.DownIdeal.Gen.frame m g, fun m g _ => Cert.DownIdeal.Gen.frame m g, Cert.DownClaim.ref_frame,
  fun m g _ => Cert.DownClaim.ref_frame m g trivial, fun m g _ => Cert.Pointwise.Gen.frame m g,
  fun m g _ => Cert.PointwiseIdeal.Gen.frame m g, fun m g _ => Cert.PointwiseIdeal.Gen.frame m g,
  Cert.PointwiseClaim.ref_frame, fun m g _ => Cert.PointwiseClaim.ref_frame m g trivial,
  fun m g _ => Cert.ConvNorm.Gen.frame m g, fun m g _ => Cert.ConvNormIdeal.Gen.frame m g,
  fun m g _ => Cert.ConvNormIdeal.Gen.frame m g, Cert.ConvNormClaim.ref_frame,
  fun m g _ => Cert.ConvNormClaim.ref_frame m g trivial, fun m g _ => Cert.ConvDw.Gen.frame m g,
  fun m g _ => Cert.ConvDwIdeal.Gen.frame m g, Cert.ConvDwClaim.ref_frame, fun m g _ => Cert.Ffn.Gen.frame m g,
  fun m g _ => Cert.FfnIdeal.Gen.frame m g, Cert.FfnClaim.ref_frame, fun m g _ => Cert.Qkv.Gen.frame m g,
  fun m g _ => Cert.QkvIdeal.Gen.frame m g, Cert.QkvClaim.ref_frame, fun m g _ => Cert.Delta.Gen.frame m g,
  fun m g _ => Cert.DeltaIdeal.Gen.frame m g, Cert.DeltaClaim.ref_frame, Cert.FwdRun.frame_bits,
  Cert.FwdRun.frame_ideal, fun m g _ => Cert.FwdRun.frame_ideal m g trivial, Cert.FlashFwdClaim.ref_frame,
  fun m g _ => Cert.FlashFwdClaim.ref_frame m g trivial, fun m g _ => Cert.NormFwd.Gen.frame m g,
  fun m g _ => Cert.NormFwdIdeal.Gen.frame m g, Cert.NormFwdClaim.ref_frame,
  fun m g _ => Cert.GluFwd.Gen.frame m g, fun m g _ => Cert.GluFwdIdeal.Gen.frame m g,
  Cert.GluFwdClaim.ref_frame, fun m g _ => Cert.FfnFwd.Gen.frame m g,
  fun m g _ => Cert.FfnFwdIdeal.Gen.frame m g, Cert.FfnFwdClaim.ref_frame,
  fun m g _ => Cert.PrepFwd.Gen.frame m g, fun m g _ => Cert.PrepFwdIdeal.Gen.frame m g,
  Cert.PrepFwdClaim.ref_frame, fun m g _ => Cert.QkvFwd.Gen.frame m g,
  fun m g _ => Cert.QkvFwdIdeal.Gen.frame m g, Cert.QkvFwdClaim.ref_frame,
  fun m g _ => Cert.Product.Gen.frame m g, fun m g _ => Cert.ProductIdeal.Gen.frame m g,
  Cert.ProductClaim.ref_frame, fun m g _ => Cert.WeightGrad.Gen.frame m g,
  fun m g _ => Cert.WeightGradIdeal.Gen.frame m g, Cert.WeightGradClaim.ref_frame,
  fun m g _ => Cert.SumDevices.Gen.frame m g, fun m g _ => Cert.SumDevicesIdeal.Gen.frame m g,
  Cert.SumDevicesClaim.ref_frame, fun m g _ => Cert.SumSlots.Gen.frame m g,
  fun m g _ => Cert.SumSlotsIdeal.Gen.frame m g, Cert.SumSlotsClaim.ref_frame,
  fun m g _ => Cert.Adamw.Gen.frame m g, fun m g _ => Cert.AdamwIdeal.Gen.frame m g, Cert.AdamwClaim.ref_frame,
  trivial, Cert.LossClaim.loss_value, trivial, Cert.FlashClaim.flash_value, trivial, Cert.PrepClaim.prep_value,
  trivial, Cert.DownClaim.down_value, trivial, Cert.PointwiseClaim.pointwise_value, trivial,
  Cert.ConvNormClaim.convNorm_value, trivial, trivial, trivial, trivial, Cert.DeltaClaim.delta_value,
  IdealRules.named_const.statement Cert.FlashFwdIdeal.κ "mask" .f32 0xF149F2CA#32 ⊥ rfl,
  Cert.FlashFwdClaim.flashFwd_value, trivial, Cert.NormFwdClaim.normFwd_value, trivial,
  Cert.GluFwdClaim.gluFwd_value, trivial, Cert.FfnFwdClaim.ffnFwd_value, trivial,
  Cert.PrepFwdClaim.prepFwd_value, trivial, Cert.QkvFwdClaim.qkvFwd_value, trivial,
  Cert.ProductClaim.product_value, trivial, Cert.WeightGradClaim.weightGrad_value, trivial,
  Cert.SumDevicesClaim.sumDevices_value, trivial, Cert.SumSlotsClaim.sumSlots_value, trivial,
  Cert.AdamwClaim.adamw_value⟩

end Cert.Proof

end
